-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_WeightGrad (m : (ℓ : Loc Cert.WeightGrad.nD Cert.WeightGrad.τ Cert.WeightGrad.sig) → Buf (Elt Bits) ℓ) : Prop :=
  True

def Pre_WeightGradIdeal (m : (ℓ : Loc Cert.WeightGradIdeal.nD Cert.WeightGradIdeal.τ Cert.WeightGradIdeal.sig) → Buf (Elt Ideal) ℓ) : Prop :=
  True

def Pre_WeightGradReferenceIdeal (m : (ℓ : Loc Cert.WeightGradReferenceIdeal.nD Cert.WeightGradReferenceIdeal.τ Cert.WeightGradReferenceIdeal.sig) → Buf (Elt Ideal) ℓ) : Prop :=
  True

def Pre_InputGrad (m : (ℓ : Loc Cert.InputGrad.nD Cert.InputGrad.τ Cert.InputGrad.sig) → Buf (Elt Bits) ℓ) : Prop :=
  True

def Pre_InputGradIdeal (m : (ℓ : Loc Cert.InputGradIdeal.nD Cert.InputGradIdeal.τ Cert.InputGradIdeal.sig) → Buf (Elt Ideal) ℓ) : Prop :=
  True

def Pre_InputGradReferenceIdeal (m : (ℓ : Loc Cert.InputGradReferenceIdeal.nD Cert.InputGradReferenceIdeal.τ Cert.InputGradReferenceIdeal.sig) → Buf (Elt Ideal) ℓ) : Prop :=
  True

def Pre_ActGrad (m : (ℓ : Loc Cert.ActGrad.nD Cert.ActGrad.τ Cert.ActGrad.sig) → Buf (Elt Bits) ℓ) : Prop :=
  True

def Pre_ActGradIdeal (m : (ℓ : Loc Cert.ActGradIdeal.nD Cert.ActGradIdeal.τ Cert.ActGradIdeal.sig) → Buf (Elt Ideal) ℓ) : Prop :=
  True

def Pre_ActGradIdeal_dact_finite [hPre_dact_finite : Cert.Pre_dact_finite.Facts] (m : (ℓ : Loc Cert.ActGradIdeal.nD Cert.ActGradIdeal.τ Cert.ActGradIdeal.sig) → Buf (Elt Ideal) ℓ) : Prop :=
  ∀ c : Dev Cert.ActGradIdeal.nD,
    (Cert.Pre_dact_finite.fn (F := Ideal) (m ((c.tc : Thread Cert.ActGradIdeal.nD Cert.ActGradIdeal.τ).loc Cert.ActGradIdeal.main_arg0)) (m ((c.tc : Thread Cert.ActGradIdeal.nD Cert.ActGradIdeal.τ).loc Cert.ActGradIdeal.main_arg1)) (m ((c.tc : Thread Cert.ActGradIdeal.nD Cert.ActGradIdeal.τ).loc Cert.ActGradIdeal.main_arg2)) (m ((c.tc : Thread Cert.ActGradIdeal.nD Cert.ActGradIdeal.τ).loc Cert.ActGradIdeal.main_arg3))).1 = (fun _ => 1#1)
    ∧ (Cert.Pre_dact_finite.fn (F := Ideal) (m ((c.tc : Thread Cert.ActGradIdeal.nD Cert.ActGradIdeal.τ).loc Cert.ActGradIdeal.main_arg0)) (m ((c.tc : Thread Cert.ActGradIdeal.nD Cert.ActGradIdeal.τ).loc Cert.ActGradIdeal.main_arg1)) (m ((c.tc : Thread Cert.ActGradIdeal.nD Cert.ActGradIdeal.τ).loc Cert.ActGradIdeal.main_arg2)) (m ((c.tc : Thread Cert.ActGradIdeal.nD Cert.ActGradIdeal.τ).loc Cert.ActGradIdeal.main_arg3))).2.1 = (fun _ => 1#1)
    ∧ (Cert.Pre_dact_finite.fn (F := Ideal) (m ((c.tc : Thread Cert.ActGradIdeal.nD Cert.ActGradIdeal.τ).loc Cert.ActGradIdeal.main_arg0)) (m ((c.tc : Thread Cert.ActGradIdeal.nD Cert.ActGradIdeal.τ).loc Cert.ActGradIdeal.main_arg1)) (m ((c.tc : Thread Cert.ActGradIdeal.nD Cert.ActGradIdeal.τ).loc Cert.ActGradIdeal.main_arg2)) (m ((c.tc : Thread Cert.ActGradIdeal.nD Cert.ActGradIdeal.τ).loc Cert.ActGradIdeal.main_arg3))).2.2.1 = (fun _ => 1#1)
    ∧ (Cert.Pre_dact_finite.fn (F := Ideal) (m ((c.tc : Thread Cert.ActGradIdeal.nD Cert.ActGradIdeal.τ).loc Cert.ActGradIdeal.main_arg0)) (m ((c.tc : Thread Cert.ActGradIdeal.nD Cert.ActGradIdeal.τ).loc Cert.ActGradIdeal.main_arg1)) (m ((c.tc : Thread Cert.ActGradIdeal.nD Cert.ActGradIdeal.τ).loc Cert.ActGradIdeal.main_arg2)) (m ((c.tc : Thread Cert.ActGradIdeal.nD Cert.ActGradIdeal.τ).loc Cert.ActGradIdeal.main_arg3))).2.2.2 = (fun _ => 1#1)

def Pre_ActGradReferenceIdeal (m : (ℓ : Loc Cert.ActGradReferenceIdeal.nD Cert.ActGradReferenceIdeal.τ Cert.ActGradReferenceIdeal.sig) → Buf (Elt Ideal) ℓ) : Prop :=
  True

def Pre_ActGradReferenceIdeal_dact_finite [hPre_dact_finite : Cert.Pre_dact_finite.Facts] (m : (ℓ : Loc Cert.ActGradReferenceIdeal.nD Cert.ActGradReferenceIdeal.τ Cert.ActGradReferenceIdeal.sig) → Buf (Elt Ideal) ℓ) : Prop :=
  ∀ c : Dev Cert.ActGradReferenceIdeal.nD,
    (Cert.Pre_dact_finite.fn (F := Ideal) (m ((c.tc : Thread Cert.ActGradReferenceIdeal.nD Cert.ActGradReferenceIdeal.τ).loc Cert.ActGradReferenceIdeal.main_arg0)) (m ((c.tc : Thread Cert.ActGradReferenceIdeal.nD Cert.ActGradReferenceIdeal.τ).loc Cert.ActGradReferenceIdeal.main_arg1)) (m ((c.tc : Thread Cert.ActGradReferenceIdeal.nD Cert.ActGradReferenceIdeal.τ).loc Cert.ActGradReferenceIdeal.main_arg2)) (m ((c.tc : Thread Cert.ActGradReferenceIdeal.nD Cert.ActGradReferenceIdeal.τ).loc Cert.ActGradReferenceIdeal.main_arg3))).1 = (fun _ => 1#1)
    ∧ (Cert.Pre_dact_finite.fn (F := Ideal) (m ((c.tc : Thread Cert.ActGradReferenceIdeal.nD Cert.ActGradReferenceIdeal.τ).loc Cert.ActGradReferenceIdeal.main_arg0)) (m ((c.tc : Thread Cert.ActGradReferenceIdeal.nD Cert.ActGradReferenceIdeal.τ).loc Cert.ActGradReferenceIdeal.main_arg1)) (m ((c.tc : Thread Cert.ActGradReferenceIdeal.nD Cert.ActGradReferenceIdeal.τ).loc Cert.ActGradReferenceIdeal.main_arg2)) (m ((c.tc : Thread Cert.ActGradReferenceIdeal.nD Cert.ActGradReferenceIdeal.τ).loc Cert.ActGradReferenceIdeal.main_arg3))).2.1 = (fun _ => 1#1)
    ∧ (Cert.Pre_dact_finite.fn (F := Ideal) (m ((c.tc : Thread Cert.ActGradReferenceIdeal.nD Cert.ActGradReferenceIdeal.τ).loc Cert.ActGradReferenceIdeal.main_arg0)) (m ((c.tc : Thread Cert.ActGradReferenceIdeal.nD Cert.ActGradReferenceIdeal.τ).loc Cert.ActGradReferenceIdeal.main_arg1)) (m ((c.tc : Thread Cert.ActGradReferenceIdeal.nD Cert.ActGradReferenceIdeal.τ).loc Cert.ActGradReferenceIdeal.main_arg2)) (m ((c.tc : Thread Cert.ActGradReferenceIdeal.nD Cert.ActGradReferenceIdeal.τ).loc Cert.ActGradReferenceIdeal.main_arg3))).2.2.1 = (fun _ => 1#1)
    ∧ (Cert.Pre_dact_finite.fn (F := Ideal) (m ((c.tc : Thread Cert.ActGradReferenceIdeal.nD Cert.ActGradReferenceIdeal.τ).loc Cert.ActGradReferenceIdeal.main_arg0)) (m ((c.tc : Thread Cert.ActGradReferenceIdeal.nD Cert.ActGradReferenceIdeal.τ).loc Cert.ActGradReferenceIdeal.main_arg1)) (m ((c.tc : Thread Cert.ActGradReferenceIdeal.nD Cert.ActGradReferenceIdeal.τ).loc Cert.ActGradReferenceIdeal.main_arg2)) (m ((c.tc : Thread Cert.ActGradReferenceIdeal.nD Cert.ActGradReferenceIdeal.τ).loc Cert.ActGradReferenceIdeal.main_arg3))).2.2.2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_OutGrad1 (m : (ℓ : Loc Cert.OutGrad1.nD Cert.OutGrad1.τ Cert.OutGrad1.sig) → Buf (Elt Bits) ℓ) : Prop :=
  True

def Pre_OutGrad1Ideal (m : (ℓ : Loc Cert.OutGrad1Ideal.nD Cert.OutGrad1Ideal.τ Cert.OutGrad1Ideal.sig) → Buf (Elt Ideal) ℓ) : Prop :=
  True

def Pre_OutGrad1ReferenceIdeal (m : (ℓ : Loc Cert.OutGrad1ReferenceIdeal.nD Cert.OutGrad1ReferenceIdeal.τ Cert.OutGrad1ReferenceIdeal.sig) → Buf (Elt Ideal) ℓ) : Prop :=
  True

def Pre_OutWeight1 (m : (ℓ : Loc Cert.OutWeight1.nD Cert.OutWeight1.τ Cert.OutWeight1.sig) → Buf (Elt Bits) ℓ) : Prop :=
  True

def Pre_OutWeight1Ideal (m : (ℓ : Loc Cert.OutWeight1Ideal.nD Cert.OutWeight1Ideal.τ Cert.OutWeight1Ideal.sig) → Buf (Elt Ideal) ℓ) : Prop :=
  True

def Pre_OutWeight1ReferenceIdeal (m : (ℓ : Loc Cert.OutWeight1ReferenceIdeal.nD Cert.OutWeight1ReferenceIdeal.τ Cert.OutWeight1ReferenceIdeal.sig) → Buf (Elt Ideal) ℓ) : Prop :=
  True

def Pre_QkvGrad (m : (ℓ : Loc Cert.QkvGrad.nD Cert.QkvGrad.τ Cert.QkvGrad.sig) → Buf (Elt Bits) ℓ) : Prop :=
  True

def Pre_QkvGradIdeal (m : (ℓ : Loc Cert.QkvGradIdeal.nD Cert.QkvGradIdeal.τ Cert.QkvGradIdeal.sig) → Buf (Elt Ideal) ℓ) : Prop :=
  True

def Pre_QkvGradReferenceIdeal (m : (ℓ : Loc Cert.QkvGradReferenceIdeal.nD Cert.QkvGradReferenceIdeal.τ Cert.QkvGradReferenceIdeal.sig) → Buf (Elt Ideal) ℓ) : Prop :=
  True

def Pre_QkvWeight (m : (ℓ : Loc Cert.QkvWeight.nD Cert.QkvWeight.τ Cert.QkvWeight.sig) → Buf (Elt Bits) ℓ) : Prop :=
  True

def Pre_QkvWeightIdeal (m : (ℓ : Loc Cert.QkvWeightIdeal.nD Cert.QkvWeightIdeal.τ Cert.QkvWeightIdeal.sig) → Buf (Elt Ideal) ℓ) : Prop :=
  True

def Pre_QkvWeightReferenceIdeal (m : (ℓ : Loc Cert.QkvWeightReferenceIdeal.nD Cert.QkvWeightReferenceIdeal.τ Cert.QkvWeightReferenceIdeal.sig) → Buf (Elt Ideal) ℓ) : Prop :=
  True

def Pre_OutGrad0 (m : (ℓ : Loc Cert.OutGrad0.nD Cert.OutGrad0.τ Cert.OutGrad0.sig) → Buf (Elt Bits) ℓ) : Prop :=
  True

def Pre_OutGrad0Ideal (m : (ℓ : Loc Cert.OutGrad0Ideal.nD Cert.OutGrad0Ideal.τ Cert.OutGrad0Ideal.sig) → Buf (Elt Ideal) ℓ) : Prop :=
  True

def Pre_OutGrad0ReferenceIdeal (m : (ℓ : Loc Cert.OutGrad0ReferenceIdeal.nD Cert.OutGrad0ReferenceIdeal.τ Cert.OutGrad0ReferenceIdeal.sig) → Buf (Elt Ideal) ℓ) : Prop :=
  True

def Pre_OutWeight0 (m : (ℓ : Loc Cert.OutWeight0.nD Cert.OutWeight0.τ Cert.OutWeight0.sig) → Buf (Elt Bits) ℓ) : Prop :=
  True

def Pre_OutWeight0Ideal (m : (ℓ : Loc Cert.OutWeight0Ideal.nD Cert.OutWeight0Ideal.τ Cert.OutWeight0Ideal.sig) → Buf (Elt Ideal) ℓ) : Prop :=
  True

def Pre_OutWeight0ReferenceIdeal (m : (ℓ : Loc Cert.OutWeight0ReferenceIdeal.nD Cert.OutWeight0ReferenceIdeal.τ Cert.OutWeight0ReferenceIdeal.sig) → Buf (Elt Ideal) ℓ) : Prop :=
  True

def Pre_InGrad (m : (ℓ : Loc Cert.InGrad.nD Cert.InGrad.τ Cert.InGrad.sig) → Buf (Elt Bits) ℓ) : Prop :=
  True

def Pre_InGradIdeal (m : (ℓ : Loc Cert.InGradIdeal.nD Cert.InGradIdeal.τ Cert.InGradIdeal.sig) → Buf (Elt Ideal) ℓ) : Prop :=
  True

def Pre_InGradReferenceIdeal (m : (ℓ : Loc Cert.InGradReferenceIdeal.nD Cert.InGradReferenceIdeal.τ Cert.InGradReferenceIdeal.sig) → Buf (Elt Ideal) ℓ) : Prop :=
  True

def Pre_InWeight (m : (ℓ : Loc Cert.InWeight.nD Cert.InWeight.τ Cert.InWeight.sig) → Buf (Elt Bits) ℓ) : Prop :=
  True

def Pre_InWeightIdeal (m : (ℓ : Loc Cert.InWeightIdeal.nD Cert.InWeightIdeal.τ Cert.InWeightIdeal.sig) → Buf (Elt Ideal) ℓ) : Prop :=
  True

def Pre_InWeightReferenceIdeal (m : (ℓ : Loc Cert.InWeightReferenceIdeal.nD Cert.InWeightReferenceIdeal.τ Cert.InWeightReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_QkvProj (m : (ℓ : Loc Cert.QkvProj.nD Cert.QkvProj.τ Cert.QkvProj.sig) → Buf (Elt Bits) ℓ) : Prop :=
  True

def Pre_QkvProjIdeal (m : (ℓ : Loc Cert.QkvProjIdeal.nD Cert.QkvProjIdeal.τ Cert.QkvProjIdeal.sig) → Buf (Elt Ideal) ℓ) : Prop :=
  True

def Pre_QkvProjReferenceIdeal (m : (ℓ : Loc Cert.QkvProjReferenceIdeal.nD Cert.QkvProjReferenceIdeal.τ Cert.QkvProjReferenceIdeal.sig) → Buf (Elt Ideal) ℓ) : Prop :=
  True

def Pre_Down1 (m : (ℓ : Loc Cert.Down1.nD Cert.Down1.τ Cert.Down1.sig) → Buf (Elt Bits) ℓ) : Prop :=
  True

def Pre_Down1Ideal (m : (ℓ : Loc Cert.Down1Ideal.nD Cert.Down1Ideal.τ Cert.Down1Ideal.sig) → Buf (Elt Ideal) ℓ) : Prop :=
  True

def Pre_Down1ReferenceIdeal (m : (ℓ : Loc Cert.Down1ReferenceIdeal.nD Cert.Down1ReferenceIdeal.τ Cert.Down1ReferenceIdeal.sig) → Buf (Elt Ideal) ℓ) : Prop :=
  True

def Pre_Down0 (m : (ℓ : Loc Cert.Down0.nD Cert.Down0.τ Cert.Down0.sig) → Buf (Elt Bits) ℓ) : Prop :=
  True

def Pre_Down0Ideal (m : (ℓ : Loc Cert.Down0Ideal.nD Cert.Down0Ideal.τ Cert.Down0Ideal.sig) → Buf (Elt Ideal) ℓ) : Prop :=
  True

def Pre_Down0ReferenceIdeal (m : (ℓ : Loc Cert.Down0ReferenceIdeal.nD Cert.Down0ReferenceIdeal.τ Cert.Down0ReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_OProj (m : (ℓ : Loc Cert.OProj.nD Cert.OProj.τ Cert.OProj.sig) → Buf (Elt Bits) ℓ) : Prop :=
  True

def Pre_OProjIdeal (m : (ℓ : Loc Cert.OProjIdeal.nD Cert.OProjIdeal.τ Cert.OProjIdeal.sig) → Buf (Elt Ideal) ℓ) : Prop :=
  True

def Pre_OProjReferenceIdeal (m : (ℓ : Loc Cert.OProjReferenceIdeal.nD Cert.OProjReferenceIdeal.τ Cert.OProjReferenceIdeal.sig) → Buf (Elt Ideal) ℓ) : Prop :=
  True

def Pre_NormGrad (m : (ℓ : Loc Cert.NormGrad.nD Cert.NormGrad.τ Cert.NormGrad.sig) → Buf (Elt Bits) ℓ) : Prop :=
  True

def Pre_NormGradIdeal (m : (ℓ : Loc Cert.NormGradIdeal.nD Cert.NormGradIdeal.τ Cert.NormGradIdeal.sig) → Buf (Elt Ideal) ℓ) : Prop :=
  True

def Pre_NormGradReferenceIdeal (m : (ℓ : Loc Cert.NormGradReferenceIdeal.nD Cert.NormGradReferenceIdeal.τ Cert.NormGradReferenceIdeal.sig) → Buf (Elt Ideal) ℓ) : Prop :=
  True

def Pre_NormGate (m : (ℓ : Loc Cert.NormGate.nD Cert.NormGate.τ Cert.NormGate.sig) → Buf (Elt Bits) ℓ) : Prop :=
  True

def Pre_NormGateIdeal (m : (ℓ : Loc Cert.NormGateIdeal.nD Cert.NormGateIdeal.τ Cert.NormGateIdeal.sig) → Buf (Elt Ideal) ℓ) : Prop :=
  True

def Pre_NormGateReferenceIdeal (m : (ℓ : Loc Cert.NormGateReferenceIdeal.nD Cert.NormGateReferenceIdeal.τ Cert.NormGateReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_WeightGrad [hWeightGrad : Cert.WeightGrad.Facts] : Prop :=
  ∀ (m : (ℓ : Loc Cert.WeightGrad.nD Cert.WeightGrad.τ Cert.WeightGrad.sig) → Buf (Elt Bits) ℓ) (g : Dev Cert.WeightGrad.nD → PrngReg), Pre_WeightGrad m →
    θ_run (Cert.WeightGrad.defs (F := Bits)) (onTc (τ := Cert.WeightGrad.τ) (Cert.WeightGrad.main (F := Bits))) ⟨m, fun _ => 0, g⟩ (fun r => (∀ c : Dev Cert.WeightGrad.nD,
      r.2.mem ((c.tc : Thread Cert.WeightGrad.nD Cert.WeightGrad.τ).loc Cert.WeightGrad.main_arg0) = m ((c.tc : Thread Cert.WeightGrad.nD Cert.WeightGrad.τ).loc Cert.WeightGrad.main_arg0)
      ∧ r.2.mem ((c.tc : Thread Cert.WeightGrad.nD Cert.WeightGrad.τ).loc Cert.WeightGrad.main_arg1) = m ((c.tc : Thread Cert.WeightGrad.nD Cert.WeightGrad.τ).loc Cert.WeightGrad.main_arg1))
      ∧ r.2.sem = fun _ => 0)

def quiescent_WeightGradIdeal [hWeightGradIdeal : Cert.WeightGradIdeal.Facts] : Prop :=
  ∀ (m : (ℓ : Loc Cert.WeightGradIdeal.nD Cert.WeightGradIdeal.τ Cert.WeightGradIdeal.sig) → Buf (Elt Ideal) ℓ) (g : Dev Cert.WeightGradIdeal.nD → PrngReg), Pre_WeightGradIdeal m →
    θ_run (Cert.WeightGradIdeal.defs (F := Ideal)) (onTc (τ := Cert.WeightGradIdeal.τ) (Cert.WeightGradIdeal.main (F := Ideal))) ⟨m, fun _ => 0, g⟩ (fun r => (∀ c : Dev Cert.WeightGradIdeal.nD,
      r.2.mem ((c.tc : Thread Cert.WeightGradIdeal.nD Cert.WeightGradIdeal.τ).loc Cert.WeightGradIdeal.main_arg0) = m ((c.tc : Thread Cert.WeightGradIdeal.nD Cert.WeightGradIdeal.τ).loc Cert.WeightGradIdeal.main_arg0)
      ∧ r.2.mem ((c.tc : Thread Cert.WeightGradIdeal.nD Cert.WeightGradIdeal.τ).loc Cert.WeightGradIdeal.main_arg1) = m ((c.tc : Thread Cert.WeightGradIdeal.nD Cert.WeightGradIdeal.τ).loc Cert.WeightGradIdeal.main_arg1))
      ∧ r.2.sem = fun _ => 0)

def quiescent_WeightGradReferenceIdeal [hWeightGradReferenceIdeal : Cert.WeightGradReferenceIdeal.Facts] : Prop :=
  ∀ (m : (ℓ : Loc Cert.WeightGradReferenceIdeal.nD Cert.WeightGradReferenceIdeal.τ Cert.WeightGradReferenceIdeal.sig) → Buf (Elt Ideal) ℓ) (g : Dev Cert.WeightGradReferenceIdeal.nD → PrngReg), Pre_WeightGradReferenceIdeal m →
    θ_run (Cert.WeightGradReferenceIdeal.defs (F := Ideal)) (onTc (τ := Cert.WeightGradReferenceIdeal.τ) (Cert.WeightGradReferenceIdeal.main (F := Ideal))) ⟨m, fun _ => 0, g⟩ (fun r => (∀ c : Dev Cert.WeightGradReferenceIdeal.nD,
      r.2.mem ((c.tc : Thread Cert.WeightGradReferenceIdeal.nD Cert.WeightGradReferenceIdeal.τ).loc Cert.WeightGradReferenceIdeal.main_arg0) = m ((c.tc : Thread Cert.WeightGradReferenceIdeal.nD Cert.WeightGradReferenceIdeal.τ).loc Cert.WeightGradReferenceIdeal.main_arg0)
      ∧ r.2.mem ((c.tc : Thread Cert.WeightGradReferenceIdeal.nD Cert.WeightGradReferenceIdeal.τ).loc Cert.WeightGradReferenceIdeal.main_arg1) = m ((c.tc : Thread Cert.WeightGradReferenceIdeal.nD Cert.WeightGradReferenceIdeal.τ).loc Cert.WeightGradReferenceIdeal.main_arg1))
      ∧ r.2.sem = fun _ => 0)

def quiescent_InputGrad [hInputGrad : Cert.InputGrad.Facts] : Prop :=
  ∀ (m : (ℓ : Loc Cert.InputGrad.nD Cert.InputGrad.τ Cert.InputGrad.sig) → Buf (Elt Bits) ℓ) (g : Dev Cert.InputGrad.nD → PrngReg), Pre_InputGrad m →
    θ_run (Cert.InputGrad.defs (F := Bits)) (onTc (τ := Cert.InputGrad.τ) (Cert.InputGrad.main (F := Bits))) ⟨m, fun _ => 0, g⟩ (fun r => (∀ c : Dev Cert.InputGrad.nD,
      r.2.mem ((c.tc : Thread Cert.InputGrad.nD Cert.InputGrad.τ).loc Cert.InputGrad.main_arg0) = m ((c.tc : Thread Cert.InputGrad.nD Cert.InputGrad.τ).loc Cert.InputGrad.main_arg0)
      ∧ r.2.mem ((c.tc : Thread Cert.InputGrad.nD Cert.InputGrad.τ).loc Cert.InputGrad.main_arg1) = m ((c.tc : Thread Cert.InputGrad.nD Cert.InputGrad.τ).loc Cert.InputGrad.main_arg1)
      ∧ r.2.mem ((c.tc : Thread Cert.InputGrad.nD Cert.InputGrad.τ).loc Cert.InputGrad.main_arg2) = m ((c.tc : Thread Cert.InputGrad.nD Cert.InputGrad.τ).loc Cert.InputGrad.main_arg2)
      ∧ r.2.mem ((c.tc : Thread Cert.InputGrad.nD Cert.InputGrad.τ).loc Cert.InputGrad.main_arg3) = m ((c.tc : Thread Cert.InputGrad.nD Cert.InputGrad.τ).loc Cert.InputGrad.main_arg3))
      ∧ r.2.sem = fun _ => 0)

def quiescent_InputGradIdeal [hInputGradIdeal : Cert.InputGradIdeal.Facts] : Prop :=
  ∀ (m : (ℓ : Loc Cert.InputGradIdeal.nD Cert.InputGradIdeal.τ Cert.InputGradIdeal.sig) → Buf (Elt Ideal) ℓ) (g : Dev Cert.InputGradIdeal.nD → PrngReg), Pre_InputGradIdeal m →
    θ_run (Cert.InputGradIdeal.defs (F := Ideal)) (onTc (τ := Cert.InputGradIdeal.τ) (Cert.InputGradIdeal.main (F := Ideal))) ⟨m, fun _ => 0, g⟩ (fun r => (∀ c : Dev Cert.InputGradIdeal.nD,
      r.2.mem ((c.tc : Thread Cert.InputGradIdeal.nD Cert.InputGradIdeal.τ).loc Cert.InputGradIdeal.main_arg0) = m ((c.tc : Thread Cert.InputGradIdeal.nD Cert.InputGradIdeal.τ).loc Cert.InputGradIdeal.main_arg0)
      ∧ r.2.mem ((c.tc : Thread Cert.InputGradIdeal.nD Cert.InputGradIdeal.τ).loc Cert.InputGradIdeal.main_arg1) = m ((c.tc : Thread Cert.InputGradIdeal.nD Cert.InputGradIdeal.τ).loc Cert.InputGradIdeal.main_arg1)
      ∧ r.2.mem ((c.tc : Thread Cert.InputGradIdeal.nD Cert.InputGradIdeal.τ).loc Cert.InputGradIdeal.main_arg2) = m ((c.tc : Thread Cert.InputGradIdeal.nD Cert.InputGradIdeal.τ).loc Cert.InputGradIdeal.main_arg2)
      ∧ r.2.mem ((c.tc : Thread Cert.InputGradIdeal.nD Cert.InputGradIdeal.τ).loc Cert.InputGradIdeal.main_arg3) = m ((c.tc : Thread Cert.InputGradIdeal.nD Cert.InputGradIdeal.τ).loc Cert.InputGradIdeal.main_arg3))
      ∧ r.2.sem = fun _ => 0)

def quiescent_InputGradReferenceIdeal [hInputGradReferenceIdeal : Cert.InputGradReferenceIdeal.Facts] : Prop :=
  ∀ (m : (ℓ : Loc Cert.InputGradReferenceIdeal.nD Cert.InputGradReferenceIdeal.τ Cert.InputGradReferenceIdeal.sig) → Buf (Elt Ideal) ℓ) (g : Dev Cert.InputGradReferenceIdeal.nD → PrngReg), Pre_InputGradReferenceIdeal m →
    θ_run (Cert.InputGradReferenceIdeal.defs (F := Ideal)) (onTc (τ := Cert.InputGradReferenceIdeal.τ) (Cert.InputGradReferenceIdeal.main (F := Ideal))) ⟨m, fun _ => 0, g⟩ (fun r => (∀ c : Dev Cert.InputGradReferenceIdeal.nD,
      r.2.mem ((c.tc : Thread Cert.InputGradReferenceIdeal.nD Cert.InputGradReferenceIdeal.τ).loc Cert.InputGradReferenceIdeal.main_arg0) = m ((c.tc : Thread Cert.InputGradReferenceIdeal.nD Cert.InputGradReferenceIdeal.τ).loc Cert.InputGradReferenceIdeal.main_arg0)
      ∧ r.2.mem ((c.tc : Thread Cert.InputGradReferenceIdeal.nD Cert.InputGradReferenceIdeal.τ).loc Cert.InputGradReferenceIdeal.main_arg1) = m ((c.tc : Thread Cert.InputGradReferenceIdeal.nD Cert.InputGradReferenceIdeal.τ).loc Cert.InputGradReferenceIdeal.main_arg1)
      ∧ r.2.mem ((c.tc : Thread Cert.InputGradReferenceIdeal.nD Cert.InputGradReferenceIdeal.τ).loc Cert.InputGradReferenceIdeal.main_arg2) = m ((c.tc : Thread Cert.InputGradReferenceIdeal.nD Cert.InputGradReferenceIdeal.τ).loc Cert.InputGradReferenceIdeal.main_arg2)
      ∧ r.2.mem ((c.tc : Thread Cert.InputGradReferenceIdeal.nD Cert.InputGradReferenceIdeal.τ).loc Cert.InputGradReferenceIdeal.main_arg3) = m ((c.tc : Thread Cert.InputGradReferenceIdeal.nD Cert.InputGradReferenceIdeal.τ).loc Cert.InputGradReferenceIdeal.main_arg3))
      ∧ r.2.sem = fun _ => 0)

def quiescent_ActGrad [hActGrad : Cert.ActGrad.Facts] : Prop :=
  ∀ (m : (ℓ : Loc Cert.ActGrad.nD Cert.ActGrad.τ Cert.ActGrad.sig) → Buf (Elt Bits) ℓ) (g : Dev Cert.ActGrad.nD → PrngReg), Pre_ActGrad m →
    θ_run (Cert.ActGrad.defs (F := Bits)) (onTc (τ := Cert.ActGrad.τ) (Cert.ActGrad.main (F := Bits))) ⟨m, fun _ => 0, g⟩ (fun r => (∀ c : Dev Cert.ActGrad.nD,
      r.2.mem ((c.tc : Thread Cert.ActGrad.nD Cert.ActGrad.τ).loc Cert.ActGrad.main_arg0) = m ((c.tc : Thread Cert.ActGrad.nD Cert.ActGrad.τ).loc Cert.ActGrad.main_arg0)
      ∧ r.2.mem ((c.tc : Thread Cert.ActGrad.nD Cert.ActGrad.τ).loc Cert.ActGrad.main_arg1) = m ((c.tc : Thread Cert.ActGrad.nD Cert.ActGrad.τ).loc Cert.ActGrad.main_arg1)
      ∧ r.2.mem ((c.tc : Thread Cert.ActGrad.nD Cert.ActGrad.τ).loc Cert.ActGrad.main_arg2) = m ((c.tc : Thread Cert.ActGrad.nD Cert.ActGrad.τ).loc Cert.ActGrad.main_arg2)
      ∧ r.2.mem ((c.tc : Thread Cert.ActGrad.nD Cert.ActGrad.τ).loc Cert.ActGrad.main_arg3) = m ((c.tc : Thread Cert.ActGrad.nD Cert.ActGrad.τ).loc Cert.ActGrad.main_arg3))
      ∧ r.2.sem = fun _ => 0)

def quiescent_ActGradIdeal [hActGradIdeal : Cert.ActGradIdeal.Facts] : Prop :=
  ∀ (m : (ℓ : Loc Cert.ActGradIdeal.nD Cert.ActGradIdeal.τ Cert.ActGradIdeal.sig) → Buf (Elt Ideal) ℓ) (g : Dev Cert.ActGradIdeal.nD → PrngReg), Pre_ActGradIdeal m →
    θ_run (Cert.ActGradIdeal.defs (F := Ideal)) (onTc (τ := Cert.ActGradIdeal.τ) (Cert.ActGradIdeal.main (F := Ideal))) ⟨m, fun _ => 0, g⟩ (fun r => (∀ c : Dev Cert.ActGradIdeal.nD,
      r.2.mem ((c.tc : Thread Cert.ActGradIdeal.nD Cert.ActGradIdeal.τ).loc Cert.ActGradIdeal.main_arg0) = m ((c.tc : Thread Cert.ActGradIdeal.nD Cert.ActGradIdeal.τ).loc Cert.ActGradIdeal.main_arg0)
      ∧ r.2.mem ((c.tc : Thread Cert.ActGradIdeal.nD Cert.ActGradIdeal.τ).loc Cert.ActGradIdeal.main_arg1) = m ((c.tc : Thread Cert.ActGradIdeal.nD Cert.ActGradIdeal.τ).loc Cert.ActGradIdeal.main_arg1)
      ∧ r.2.mem ((c.tc : Thread Cert.ActGradIdeal.nD Cert.ActGradIdeal.τ).loc Cert.ActGradIdeal.main_arg2) = m ((c.tc : Thread Cert.ActGradIdeal.nD Cert.ActGradIdeal.τ).loc Cert.ActGradIdeal.main_arg2)
      ∧ r.2.mem ((c.tc : Thread Cert.ActGradIdeal.nD Cert.ActGradIdeal.τ).loc Cert.ActGradIdeal.main_arg3) = m ((c.tc : Thread Cert.ActGradIdeal.nD Cert.ActGradIdeal.τ).loc Cert.ActGradIdeal.main_arg3))
      ∧ r.2.sem = fun _ => 0)

def quiescent_ActGradIdeal_pre_dact_finite [hActGradIdeal : Cert.ActGradIdeal.Facts] [hPre_dact_finite : Cert.Pre_dact_finite.Facts] : Prop :=
  ∀ (m : (ℓ : Loc Cert.ActGradIdeal.nD Cert.ActGradIdeal.τ Cert.ActGradIdeal.sig) → Buf (Elt Ideal) ℓ) (g : Dev Cert.ActGradIdeal.nD → PrngReg), Pre_ActGradIdeal_dact_finite m →
    θ_run (Cert.ActGradIdeal.defs (F := Ideal)) (onTc (τ := Cert.ActGradIdeal.τ) (Cert.ActGradIdeal.main (F := Ideal))) ⟨m, fun _ => 0, g⟩ (fun r => (∀ c : Dev Cert.ActGradIdeal.nD,
      r.2.mem ((c.tc : Thread Cert.ActGradIdeal.nD Cert.ActGradIdeal.τ).loc Cert.ActGradIdeal.main_arg0) = m ((c.tc : Thread Cert.ActGradIdeal.nD Cert.ActGradIdeal.τ).loc Cert.ActGradIdeal.main_arg0)
      ∧ r.2.mem ((c.tc : Thread Cert.ActGradIdeal.nD Cert.ActGradIdeal.τ).loc Cert.ActGradIdeal.main_arg1) = m ((c.tc : Thread Cert.ActGradIdeal.nD Cert.ActGradIdeal.τ).loc Cert.ActGradIdeal.main_arg1)
      ∧ r.2.mem ((c.tc : Thread Cert.ActGradIdeal.nD Cert.ActGradIdeal.τ).loc Cert.ActGradIdeal.main_arg2) = m ((c.tc : Thread Cert.ActGradIdeal.nD Cert.ActGradIdeal.τ).loc Cert.ActGradIdeal.main_arg2)
      ∧ r.2.mem ((c.tc : Thread Cert.ActGradIdeal.nD Cert.ActGradIdeal.τ).loc Cert.ActGradIdeal.main_arg3) = m ((c.tc : Thread Cert.ActGradIdeal.nD Cert.ActGradIdeal.τ).loc Cert.ActGradIdeal.main_arg3))
      ∧ r.2.sem = fun _ => 0)

def quiescent_ActGradReferenceIdeal [hActGradReferenceIdeal : Cert.ActGradReferenceIdeal.Facts] : Prop :=
  ∀ (m : (ℓ : Loc Cert.ActGradReferenceIdeal.nD Cert.ActGradReferenceIdeal.τ Cert.ActGradReferenceIdeal.sig) → Buf (Elt Ideal) ℓ) (g : Dev Cert.ActGradReferenceIdeal.nD → PrngReg), Pre_ActGradReferenceIdeal m →
    θ_run (Cert.ActGradReferenceIdeal.defs (F := Ideal)) (onTc (τ := Cert.ActGradReferenceIdeal.τ) (Cert.ActGradReferenceIdeal.main (F := Ideal))) ⟨m, fun _ => 0, g⟩ (fun r => (∀ c : Dev Cert.ActGradReferenceIdeal.nD,
      r.2.mem ((c.tc : Thread Cert.ActGradReferenceIdeal.nD Cert.ActGradReferenceIdeal.τ).loc Cert.ActGradReferenceIdeal.main_arg0) = m ((c.tc : Thread Cert.ActGradReferenceIdeal.nD Cert.ActGradReferenceIdeal.τ).loc Cert.ActGradReferenceIdeal.main_arg0)
      ∧ r.2.mem ((c.tc : Thread Cert.ActGradReferenceIdeal.nD Cert.ActGradReferenceIdeal.τ).loc Cert.ActGradReferenceIdeal.main_arg1) = m ((c.tc : Thread Cert.ActGradReferenceIdeal.nD Cert.ActGradReferenceIdeal.τ).loc Cert.ActGradReferenceIdeal.main_arg1)
      ∧ r.2.mem ((c.tc : Thread Cert.ActGradReferenceIdeal.nD Cert.ActGradReferenceIdeal.τ).loc Cert.ActGradReferenceIdeal.main_arg2) = m ((c.tc : Thread Cert.ActGradReferenceIdeal.nD Cert.ActGradReferenceIdeal.τ).loc Cert.ActGradReferenceIdeal.main_arg2)
      ∧ r.2.mem ((c.tc : Thread Cert.ActGradReferenceIdeal.nD Cert.ActGradReferenceIdeal.τ).loc Cert.ActGradReferenceIdeal.main_arg3) = m ((c.tc : Thread Cert.ActGradReferenceIdeal.nD Cert.ActGradReferenceIdeal.τ).loc Cert.ActGradReferenceIdeal.main_arg3))
      ∧ r.2.sem = fun _ => 0)

def quiescent_ActGradReferenceIdeal_pre_dact_finite [hActGradReferenceIdeal : Cert.ActGradReferenceIdeal.Facts] [hPre_dact_finite : Cert.Pre_dact_finite.Facts] : Prop :=
  ∀ (m : (ℓ : Loc Cert.ActGradReferenceIdeal.nD Cert.ActGradReferenceIdeal.τ Cert.ActGradReferenceIdeal.sig) → Buf (Elt Ideal) ℓ) (g : Dev Cert.ActGradReferenceIdeal.nD → PrngReg), Pre_ActGradReferenceIdeal_dact_finite m →
    θ_run (Cert.ActGradReferenceIdeal.defs (F := Ideal)) (onTc (τ := Cert.ActGradReferenceIdeal.τ) (Cert.ActGradReferenceIdeal.main (F := Ideal))) ⟨m, fun _ => 0, g⟩ (fun r => (∀ c : Dev Cert.ActGradReferenceIdeal.nD,
      r.2.mem ((c.tc : Thread Cert.ActGradReferenceIdeal.nD Cert.ActGradReferenceIdeal.τ).loc Cert.ActGradReferenceIdeal.main_arg0) = m ((c.tc : Thread Cert.ActGradReferenceIdeal.nD Cert.ActGradReferenceIdeal.τ).loc Cert.ActGradReferenceIdeal.main_arg0)
      ∧ r.2.mem ((c.tc : Thread Cert.ActGradReferenceIdeal.nD Cert.ActGradReferenceIdeal.τ).loc Cert.ActGradReferenceIdeal.main_arg1) = m ((c.tc : Thread Cert.ActGradReferenceIdeal.nD Cert.ActGradReferenceIdeal.τ).loc Cert.ActGradReferenceIdeal.main_arg1)
      ∧ r.2.mem ((c.tc : Thread Cert.ActGradReferenceIdeal.nD Cert.ActGradReferenceIdeal.τ).loc Cert.ActGradReferenceIdeal.main_arg2) = m ((c.tc : Thread Cert.ActGradReferenceIdeal.nD Cert.ActGradReferenceIdeal.τ).loc Cert.ActGradReferenceIdeal.main_arg2)
      ∧ r.2.mem ((c.tc : Thread Cert.ActGradReferenceIdeal.nD Cert.ActGradReferenceIdeal.τ).loc Cert.ActGradReferenceIdeal.main_arg3) = m ((c.tc : Thread Cert.ActGradReferenceIdeal.nD Cert.ActGradReferenceIdeal.τ).loc Cert.ActGradReferenceIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2))
      ∧ r.2.sem = fun _ => 0)

def quiescent_OutGrad1 [hOutGrad1 : Cert.OutGrad1.Facts] : Prop :=
  ∀ (m : (ℓ : Loc Cert.OutGrad1.nD Cert.OutGrad1.τ Cert.OutGrad1.sig) → Buf (Elt Bits) ℓ) (g : Dev Cert.OutGrad1.nD → PrngReg), Pre_OutGrad1 m →
    θ_run (Cert.OutGrad1.defs (F := Bits)) (onTc (τ := Cert.OutGrad1.τ) (Cert.OutGrad1.main (F := Bits))) ⟨m, fun _ => 0, g⟩ (fun r => (∀ c : Dev Cert.OutGrad1.nD,
      r.2.mem ((c.tc : Thread Cert.OutGrad1.nD Cert.OutGrad1.τ).loc Cert.OutGrad1.main_arg0) = m ((c.tc : Thread Cert.OutGrad1.nD Cert.OutGrad1.τ).loc Cert.OutGrad1.main_arg0)
      ∧ r.2.mem ((c.tc : Thread Cert.OutGrad1.nD Cert.OutGrad1.τ).loc Cert.OutGrad1.main_arg1) = m ((c.tc : Thread Cert.OutGrad1.nD Cert.OutGrad1.τ).loc Cert.OutGrad1.main_arg1))
      ∧ r.2.sem = fun _ => 0)

def quiescent_OutGrad1Ideal [hOutGrad1Ideal : Cert.OutGrad1Ideal.Facts] : Prop :=
  ∀ (m : (ℓ : Loc Cert.OutGrad1Ideal.nD Cert.OutGrad1Ideal.τ Cert.OutGrad1Ideal.sig) → Buf (Elt Ideal) ℓ) (g : Dev Cert.OutGrad1Ideal.nD → PrngReg), Pre_OutGrad1Ideal m →
    θ_run (Cert.OutGrad1Ideal.defs (F := Ideal)) (onTc (τ := Cert.OutGrad1Ideal.τ) (Cert.OutGrad1Ideal.main (F := Ideal))) ⟨m, fun _ => 0, g⟩ (fun r => (∀ c : Dev Cert.OutGrad1Ideal.nD,
      r.2.mem ((c.tc : Thread Cert.OutGrad1Ideal.nD Cert.OutGrad1Ideal.τ).loc Cert.OutGrad1Ideal.main_arg0) = m ((c.tc : Thread Cert.OutGrad1Ideal.nD Cert.OutGrad1Ideal.τ).loc Cert.OutGrad1Ideal.main_arg0)
      ∧ r.2.mem ((c.tc : Thread Cert.OutGrad1Ideal.nD Cert.OutGrad1Ideal.τ).loc Cert.OutGrad1Ideal.main_arg1) = m ((c.tc : Thread Cert.OutGrad1Ideal.nD Cert.OutGrad1Ideal.τ).loc Cert.OutGrad1Ideal.main_arg1))
      ∧ r.2.sem = fun _ => 0)

def quiescent_OutGrad1ReferenceIdeal [hOutGrad1ReferenceIdeal : Cert.OutGrad1ReferenceIdeal.Facts] : Prop :=
  ∀ (m : (ℓ : Loc Cert.OutGrad1ReferenceIdeal.nD Cert.OutGrad1ReferenceIdeal.τ Cert.OutGrad1ReferenceIdeal.sig) → Buf (Elt Ideal) ℓ) (g : Dev Cert.OutGrad1ReferenceIdeal.nD → PrngReg), Pre_OutGrad1ReferenceIdeal m →
    θ_run (Cert.OutGrad1ReferenceIdeal.defs (F := Ideal)) (onTc (τ := Cert.OutGrad1ReferenceIdeal.τ) (Cert.OutGrad1ReferenceIdeal.main (F := Ideal))) ⟨m, fun _ => 0, g⟩ (fun r => (∀ c : Dev Cert.OutGrad1ReferenceIdeal.nD,
      r.2.mem ((c.tc : Thread Cert.OutGrad1ReferenceIdeal.nD Cert.OutGrad1ReferenceIdeal.τ).loc Cert.OutGrad1ReferenceIdeal.main_arg0) = m ((c.tc : Thread Cert.OutGrad1ReferenceIdeal.nD Cert.OutGrad1ReferenceIdeal.τ).loc Cert.OutGrad1ReferenceIdeal.main_arg0)
      ∧ r.2.mem ((c.tc : Thread Cert.OutGrad1ReferenceIdeal.nD Cert.OutGrad1ReferenceIdeal.τ).loc Cert.OutGrad1ReferenceIdeal.main_arg1) = m ((c.tc : Thread Cert.OutGrad1ReferenceIdeal.nD Cert.OutGrad1ReferenceIdeal.τ).loc Cert.OutGrad1ReferenceIdeal.main_arg1))
      ∧ r.2.sem = fun _ => 0)

def quiescent_OutWeight1 [hOutWeight1 : Cert.OutWeight1.Facts] : Prop :=
  ∀ (m : (ℓ : Loc Cert.OutWeight1.nD Cert.OutWeight1.τ Cert.OutWeight1.sig) → Buf (Elt Bits) ℓ) (g : Dev Cert.OutWeight1.nD → PrngReg), Pre_OutWeight1 m →
    θ_run (Cert.OutWeight1.defs (F := Bits)) (onTc (τ := Cert.OutWeight1.τ) (Cert.OutWeight1.main (F := Bits))) ⟨m, fun _ => 0, g⟩ (fun r => (∀ c : Dev Cert.OutWeight1.nD,
      r.2.mem ((c.tc : Thread Cert.OutWeight1.nD Cert.OutWeight1.τ).loc Cert.OutWeight1.main_arg0) = m ((c.tc : Thread Cert.OutWeight1.nD Cert.OutWeight1.τ).loc Cert.OutWeight1.main_arg0)
      ∧ r.2.mem ((c.tc : Thread Cert.OutWeight1.nD Cert.OutWeight1.τ).loc Cert.OutWeight1.main_arg1) = m ((c.tc : Thread Cert.OutWeight1.nD Cert.OutWeight1.τ).loc Cert.OutWeight1.main_arg1))
      ∧ r.2.sem = fun _ => 0)

def quiescent_OutWeight1Ideal [hOutWeight1Ideal : Cert.OutWeight1Ideal.Facts] : Prop :=
  ∀ (m : (ℓ : Loc Cert.OutWeight1Ideal.nD Cert.OutWeight1Ideal.τ Cert.OutWeight1Ideal.sig) → Buf (Elt Ideal) ℓ) (g : Dev Cert.OutWeight1Ideal.nD → PrngReg), Pre_OutWeight1Ideal m →
    θ_run (Cert.OutWeight1Ideal.defs (F := Ideal)) (onTc (τ := Cert.OutWeight1Ideal.τ) (Cert.OutWeight1Ideal.main (F := Ideal))) ⟨m, fun _ => 0, g⟩ (fun r => (∀ c : Dev Cert.OutWeight1Ideal.nD,
      r.2.mem ((c.tc : Thread Cert.OutWeight1Ideal.nD Cert.OutWeight1Ideal.τ).loc Cert.OutWeight1Ideal.main_arg0) = m ((c.tc : Thread Cert.OutWeight1Ideal.nD Cert.OutWeight1Ideal.τ).loc Cert.OutWeight1Ideal.main_arg0)
      ∧ r.2.mem ((c.tc : Thread Cert.OutWeight1Ideal.nD Cert.OutWeight1Ideal.τ).loc Cert.OutWeight1Ideal.main_arg1) = m ((c.tc : Thread Cert.OutWeight1Ideal.nD Cert.OutWeight1Ideal.τ).loc Cert.OutWeight1Ideal.main_arg1))
      ∧ r.2.sem = fun _ => 0)

def quiescent_OutWeight1ReferenceIdeal [hOutWeight1ReferenceIdeal : Cert.OutWeight1ReferenceIdeal.Facts] : Prop :=
  ∀ (m : (ℓ : Loc Cert.OutWeight1ReferenceIdeal.nD Cert.OutWeight1ReferenceIdeal.τ Cert.OutWeight1ReferenceIdeal.sig) → Buf (Elt Ideal) ℓ) (g : Dev Cert.OutWeight1ReferenceIdeal.nD → PrngReg), Pre_OutWeight1ReferenceIdeal m →
    θ_run (Cert.OutWeight1ReferenceIdeal.defs (F := Ideal)) (onTc (τ := Cert.OutWeight1ReferenceIdeal.τ) (Cert.OutWeight1ReferenceIdeal.main (F := Ideal))) ⟨m, fun _ => 0, g⟩ (fun r => (∀ c : Dev Cert.OutWeight1ReferenceIdeal.nD,
      r.2.mem ((c.tc : Thread Cert.OutWeight1ReferenceIdeal.nD Cert.OutWeight1ReferenceIdeal.τ).loc Cert.OutWeight1ReferenceIdeal.main_arg0) = m ((c.tc : Thread Cert.OutWeight1ReferenceIdeal.nD Cert.OutWeight1ReferenceIdeal.τ).loc Cert.OutWeight1ReferenceIdeal.main_arg0)
      ∧ r.2.mem ((c.tc : Thread Cert.OutWeight1ReferenceIdeal.nD Cert.OutWeight1ReferenceIdeal.τ).loc Cert.OutWeight1ReferenceIdeal.main_arg1) = m ((c.tc : Thread Cert.OutWeight1ReferenceIdeal.nD Cert.OutWeight1ReferenceIdeal.τ).loc Cert.OutWeight1ReferenceIdeal.main_arg1))
      ∧ r.2.sem = fun _ => 0)

def quiescent_QkvGrad [hQkvGrad : Cert.QkvGrad.Facts] : Prop :=
  ∀ (m : (ℓ : Loc Cert.QkvGrad.nD Cert.QkvGrad.τ Cert.QkvGrad.sig) → Buf (Elt Bits) ℓ) (g : Dev Cert.QkvGrad.nD → PrngReg), Pre_QkvGrad m →
    θ_run (Cert.QkvGrad.defs (F := Bits)) (onTc (τ := Cert.QkvGrad.τ) (Cert.QkvGrad.main (F := Bits))) ⟨m, fun _ => 0, g⟩ (fun r => (∀ c : Dev Cert.QkvGrad.nD,
      r.2.mem ((c.tc : Thread Cert.QkvGrad.nD Cert.QkvGrad.τ).loc Cert.QkvGrad.main_arg0) = m ((c.tc : Thread Cert.QkvGrad.nD Cert.QkvGrad.τ).loc Cert.QkvGrad.main_arg0)
      ∧ r.2.mem ((c.tc : Thread Cert.QkvGrad.nD Cert.QkvGrad.τ).loc Cert.QkvGrad.main_arg1) = m ((c.tc : Thread Cert.QkvGrad.nD Cert.QkvGrad.τ).loc Cert.QkvGrad.main_arg1)
      ∧ r.2.mem ((c.tc : Thread Cert.QkvGrad.nD Cert.QkvGrad.τ).loc Cert.QkvGrad.main_arg2) = m ((c.tc : Thread Cert.QkvGrad.nD Cert.QkvGrad.τ).loc Cert.QkvGrad.main_arg2))
      ∧ r.2.sem = fun _ => 0)

def quiescent_QkvGradIdeal [hQkvGradIdeal : Cert.QkvGradIdeal.Facts] : Prop :=
  ∀ (m : (ℓ : Loc Cert.QkvGradIdeal.nD Cert.QkvGradIdeal.τ Cert.QkvGradIdeal.sig) → Buf (Elt Ideal) ℓ) (g : Dev Cert.QkvGradIdeal.nD → PrngReg), Pre_QkvGradIdeal m →
    θ_run (Cert.QkvGradIdeal.defs (F := Ideal)) (onTc (τ := Cert.QkvGradIdeal.τ) (Cert.QkvGradIdeal.main (F := Ideal))) ⟨m, fun _ => 0, g⟩ (fun r => (∀ c : Dev Cert.QkvGradIdeal.nD,
      r.2.mem ((c.tc : Thread Cert.QkvGradIdeal.nD Cert.QkvGradIdeal.τ).loc Cert.QkvGradIdeal.main_arg0) = m ((c.tc : Thread Cert.QkvGradIdeal.nD Cert.QkvGradIdeal.τ).loc Cert.QkvGradIdeal.main_arg0)
      ∧ r.2.mem ((c.tc : Thread Cert.QkvGradIdeal.nD Cert.QkvGradIdeal.τ).loc Cert.QkvGradIdeal.main_arg1) = m ((c.tc : Thread Cert.QkvGradIdeal.nD Cert.QkvGradIdeal.τ).loc Cert.QkvGradIdeal.main_arg1)
      ∧ r.2.mem ((c.tc : Thread Cert.QkvGradIdeal.nD Cert.QkvGradIdeal.τ).loc Cert.QkvGradIdeal.main_arg2) = m ((c.tc : Thread Cert.QkvGradIdeal.nD Cert.QkvGradIdeal.τ).loc Cert.QkvGradIdeal.main_arg2))
      ∧ r.2.sem = fun _ => 0)

def quiescent_QkvGradReferenceIdeal [hQkvGradReferenceIdeal : Cert.QkvGradReferenceIdeal.Facts] : Prop :=
  ∀ (m : (ℓ : Loc Cert.QkvGradReferenceIdeal.nD Cert.QkvGradReferenceIdeal.τ Cert.QkvGradReferenceIdeal.sig) → Buf (Elt Ideal) ℓ) (g : Dev Cert.QkvGradReferenceIdeal.nD → PrngReg), Pre_QkvGradReferenceIdeal m →
    θ_run (Cert.QkvGradReferenceIdeal.defs (F := Ideal)) (onTc (τ := Cert.QkvGradReferenceIdeal.τ) (Cert.QkvGradReferenceIdeal.main (F := Ideal))) ⟨m, fun _ => 0, g⟩ (fun r => (∀ c : Dev Cert.QkvGradReferenceIdeal.nD,
      r.2.mem ((c.tc : Thread Cert.QkvGradReferenceIdeal.nD Cert.QkvGradReferenceIdeal.τ).loc Cert.QkvGradReferenceIdeal.main_arg0) = m ((c.tc : Thread Cert.QkvGradReferenceIdeal.nD Cert.QkvGradReferenceIdeal.τ).loc Cert.QkvGradReferenceIdeal.main_arg0)
      ∧ r.2.mem ((c.tc : Thread Cert.QkvGradReferenceIdeal.nD Cert.QkvGradReferenceIdeal.τ).loc Cert.QkvGradReferenceIdeal.main_arg1) = m ((c.tc : Thread Cert.QkvGradReferenceIdeal.nD Cert.QkvGradReferenceIdeal.τ).loc Cert.QkvGradReferenceIdeal.main_arg1)
      ∧ r.2.mem ((c.tc : Thread Cert.QkvGradReferenceIdeal.nD Cert.QkvGradReferenceIdeal.τ).loc Cert.QkvGradReferenceIdeal.main_arg2) = m ((c.tc : Thread Cert.QkvGradReferenceIdeal.nD Cert.QkvGradReferenceIdeal.τ).loc Cert.QkvGradReferenceIdeal.main_arg2))
      ∧ r.2.sem = fun _ => 0)

def quiescent_QkvWeight [hQkvWeight : Cert.QkvWeight.Facts] : Prop :=
  ∀ (m : (ℓ : Loc Cert.QkvWeight.nD Cert.QkvWeight.τ Cert.QkvWeight.sig) → Buf (Elt Bits) ℓ) (g : Dev Cert.QkvWeight.nD → PrngReg), Pre_QkvWeight m →
    θ_run (Cert.QkvWeight.defs (F := Bits)) (onTc (τ := Cert.QkvWeight.τ) (Cert.QkvWeight.main (F := Bits))) ⟨m, fun _ => 0, g⟩ (fun r => (∀ c : Dev Cert.QkvWeight.nD,
      r.2.mem ((c.tc : Thread Cert.QkvWeight.nD Cert.QkvWeight.τ).loc Cert.QkvWeight.main_arg0) = m ((c.tc : Thread Cert.QkvWeight.nD Cert.QkvWeight.τ).loc Cert.QkvWeight.main_arg0)
      ∧ r.2.mem ((c.tc : Thread Cert.QkvWeight.nD Cert.QkvWeight.τ).loc Cert.QkvWeight.main_arg1) = m ((c.tc : Thread Cert.QkvWeight.nD Cert.QkvWeight.τ).loc Cert.QkvWeight.main_arg1)
      ∧ r.2.mem ((c.tc : Thread Cert.QkvWeight.nD Cert.QkvWeight.τ).loc Cert.QkvWeight.main_arg2) = m ((c.tc : Thread Cert.QkvWeight.nD Cert.QkvWeight.τ).loc Cert.QkvWeight.main_arg2))
      ∧ r.2.sem = fun _ => 0)

def quiescent_QkvWeightIdeal [hQkvWeightIdeal : Cert.QkvWeightIdeal.Facts] : Prop :=
  ∀ (m : (ℓ : Loc Cert.QkvWeightIdeal.nD Cert.QkvWeightIdeal.τ Cert.QkvWeightIdeal.sig) → Buf (Elt Ideal) ℓ) (g : Dev Cert.QkvWeightIdeal.nD → PrngReg), Pre_QkvWeightIdeal m →
    θ_run (Cert.QkvWeightIdeal.defs (F := Ideal)) (onTc (τ := Cert.QkvWeightIdeal.τ) (Cert.QkvWeightIdeal.main (F := Ideal))) ⟨m, fun _ => 0, g⟩ (fun r => (∀ c : Dev Cert.QkvWeightIdeal.nD,
      r.2.mem ((c.tc : Thread Cert.QkvWeightIdeal.nD Cert.QkvWeightIdeal.τ).loc Cert.QkvWeightIdeal.main_arg0) = m ((c.tc : Thread Cert.QkvWeightIdeal.nD Cert.QkvWeightIdeal.τ).loc Cert.QkvWeightIdeal.main_arg0)
      ∧ r.2.mem ((c.tc : Thread Cert.QkvWeightIdeal.nD Cert.QkvWeightIdeal.τ).loc Cert.QkvWeightIdeal.main_arg1) = m ((c.tc : Thread Cert.QkvWeightIdeal.nD Cert.QkvWeightIdeal.τ).loc Cert.QkvWeightIdeal.main_arg1)
      ∧ r.2.mem ((c.tc : Thread Cert.QkvWeightIdeal.nD Cert.QkvWeightIdeal.τ).loc Cert.QkvWeightIdeal.main_arg2) = m ((c.tc : Thread Cert.QkvWeightIdeal.nD Cert.QkvWeightIdeal.τ).loc Cert.QkvWeightIdeal.main_arg2))
      ∧ r.2.sem = fun _ => 0)

def quiescent_QkvWeightReferenceIdeal [hQkvWeightReferenceIdeal : Cert.QkvWeightReferenceIdeal.Facts] : Prop :=
  ∀ (m : (ℓ : Loc Cert.QkvWeightReferenceIdeal.nD Cert.QkvWeightReferenceIdeal.τ Cert.QkvWeightReferenceIdeal.sig) → Buf (Elt Ideal) ℓ) (g : Dev Cert.QkvWeightReferenceIdeal.nD → PrngReg), Pre_QkvWeightReferenceIdeal m →
    θ_run (Cert.QkvWeightReferenceIdeal.defs (F := Ideal)) (onTc (τ := Cert.QkvWeightReferenceIdeal.τ) (Cert.QkvWeightReferenceIdeal.main (F := Ideal))) ⟨m, fun _ => 0, g⟩ (fun r => (∀ c : Dev Cert.QkvWeightReferenceIdeal.nD,
      r.2.mem ((c.tc : Thread Cert.QkvWeightReferenceIdeal.nD Cert.QkvWeightReferenceIdeal.τ).loc Cert.QkvWeightReferenceIdeal.main_arg0) = m ((c.tc : Thread Cert.QkvWeightReferenceIdeal.nD Cert.QkvWeightReferenceIdeal.τ).loc Cert.QkvWeightReferenceIdeal.main_arg0)
      ∧ r.2.mem ((c.tc : Thread Cert.QkvWeightReferenceIdeal.nD Cert.QkvWeightReferenceIdeal.τ).loc Cert.QkvWeightReferenceIdeal.main_arg1) = m ((c.tc : Thread Cert.QkvWeightReferenceIdeal.nD Cert.QkvWeightReferenceIdeal.τ).loc Cert.QkvWeightReferenceIdeal.main_arg1)
      ∧ r.2.mem ((c.tc : Thread Cert.QkvWeightReferenceIdeal.nD Cert.QkvWeightReferenceIdeal.τ).loc Cert.QkvWeightReferenceIdeal.main_arg2) = m ((c.tc : Thread Cert.QkvWeightReferenceIdeal.nD Cert.QkvWeightReferenceIdeal.τ).loc Cert.QkvWeightReferenceIdeal.main_arg2))
      ∧ r.2.sem = fun _ => 0)

def quiescent_OutGrad0 [hOutGrad0 : Cert.OutGrad0.Facts] : Prop :=
  ∀ (m : (ℓ : Loc Cert.OutGrad0.nD Cert.OutGrad0.τ Cert.OutGrad0.sig) → Buf (Elt Bits) ℓ) (g : Dev Cert.OutGrad0.nD → PrngReg), Pre_OutGrad0 m →
    θ_run (Cert.OutGrad0.defs (F := Bits)) (onTc (τ := Cert.OutGrad0.τ) (Cert.OutGrad0.main (F := Bits))) ⟨m, fun _ => 0, g⟩ (fun r => (∀ c : Dev Cert.OutGrad0.nD,
      r.2.mem ((c.tc : Thread Cert.OutGrad0.nD Cert.OutGrad0.τ).loc Cert.OutGrad0.main_arg0) = m ((c.tc : Thread Cert.OutGrad0.nD Cert.OutGrad0.τ).loc Cert.OutGrad0.main_arg0)
      ∧ r.2.mem ((c.tc : Thread Cert.OutGrad0.nD Cert.OutGrad0.τ).loc Cert.OutGrad0.main_arg1) = m ((c.tc : Thread Cert.OutGrad0.nD Cert.OutGrad0.τ).loc Cert.OutGrad0.main_arg1))
      ∧ r.2.sem = fun _ => 0)

def quiescent_OutGrad0Ideal [hOutGrad0Ideal : Cert.OutGrad0Ideal.Facts] : Prop :=
  ∀ (m : (ℓ : Loc Cert.OutGrad0Ideal.nD Cert.OutGrad0Ideal.τ Cert.OutGrad0Ideal.sig) → Buf (Elt Ideal) ℓ) (g : Dev Cert.OutGrad0Ideal.nD → PrngReg), Pre_OutGrad0Ideal m →
    θ_run (Cert.OutGrad0Ideal.defs (F := Ideal)) (onTc (τ := Cert.OutGrad0Ideal.τ) (Cert.OutGrad0Ideal.main (F := Ideal))) ⟨m, fun _ => 0, g⟩ (fun r => (∀ c : Dev Cert.OutGrad0Ideal.nD,
      r.2.mem ((c.tc : Thread Cert.OutGrad0Ideal.nD Cert.OutGrad0Ideal.τ).loc Cert.OutGrad0Ideal.main_arg0) = m ((c.tc : Thread Cert.OutGrad0Ideal.nD Cert.OutGrad0Ideal.τ).loc Cert.OutGrad0Ideal.main_arg0)
      ∧ r.2.mem ((c.tc : Thread Cert.OutGrad0Ideal.nD Cert.OutGrad0Ideal.τ).loc Cert.OutGrad0Ideal.main_arg1) = m ((c.tc : Thread Cert.OutGrad0Ideal.nD Cert.OutGrad0Ideal.τ).loc Cert.OutGrad0Ideal.main_arg1))
      ∧ r.2.sem = fun _ => 0)

def quiescent_OutGrad0ReferenceIdeal [hOutGrad0ReferenceIdeal : Cert.OutGrad0ReferenceIdeal.Facts] : Prop :=
  ∀ (m : (ℓ : Loc Cert.OutGrad0ReferenceIdeal.nD Cert.OutGrad0ReferenceIdeal.τ Cert.OutGrad0ReferenceIdeal.sig) → Buf (Elt Ideal) ℓ) (g : Dev Cert.OutGrad0ReferenceIdeal.nD → PrngReg), Pre_OutGrad0ReferenceIdeal m →
    θ_run (Cert.OutGrad0ReferenceIdeal.defs (F := Ideal)) (onTc (τ := Cert.OutGrad0ReferenceIdeal.τ) (Cert.OutGrad0ReferenceIdeal.main (F := Ideal))) ⟨m, fun _ => 0, g⟩ (fun r => (∀ c : Dev Cert.OutGrad0ReferenceIdeal.nD,
      r.2.mem ((c.tc : Thread Cert.OutGrad0ReferenceIdeal.nD Cert.OutGrad0ReferenceIdeal.τ).loc Cert.OutGrad0ReferenceIdeal.main_arg0) = m ((c.tc : Thread Cert.OutGrad0ReferenceIdeal.nD Cert.OutGrad0ReferenceIdeal.τ).loc Cert.OutGrad0ReferenceIdeal.main_arg0)
      ∧ r.2.mem ((c.tc : Thread Cert.OutGrad0ReferenceIdeal.nD Cert.OutGrad0ReferenceIdeal.τ).loc Cert.OutGrad0ReferenceIdeal.main_arg1) = m ((c.tc : Thread Cert.OutGrad0ReferenceIdeal.nD Cert.OutGrad0ReferenceIdeal.τ).loc Cert.OutGrad0ReferenceIdeal.main_arg1))
      ∧ r.2.sem = fun _ => 0)

def quiescent_OutWeight0 [hOutWeight0 : Cert.OutWeight0.Facts] : Prop :=
  ∀ (m : (ℓ : Loc Cert.OutWeight0.nD Cert.OutWeight0.τ Cert.OutWeight0.sig) → Buf (Elt Bits) ℓ) (g : Dev Cert.OutWeight0.nD → PrngReg), Pre_OutWeight0 m →
    θ_run (Cert.OutWeight0.defs (F := Bits)) (onTc (τ := Cert.OutWeight0.τ) (Cert.OutWeight0.main (F := Bits))) ⟨m, fun _ => 0, g⟩ (fun r => (∀ c : Dev Cert.OutWeight0.nD,
      r.2.mem ((c.tc : Thread Cert.OutWeight0.nD Cert.OutWeight0.τ).loc Cert.OutWeight0.main_arg0) = m ((c.tc : Thread Cert.OutWeight0.nD Cert.OutWeight0.τ).loc Cert.OutWeight0.main_arg0)
      ∧ r.2.mem ((c.tc : Thread Cert.OutWeight0.nD Cert.OutWeight0.τ).loc Cert.OutWeight0.main_arg1) = m ((c.tc : Thread Cert.OutWeight0.nD Cert.OutWeight0.τ).loc Cert.OutWeight0.main_arg1)
      ∧ r.2.mem ((c.tc : Thread Cert.OutWeight0.nD Cert.OutWeight0.τ).loc Cert.OutWeight0.main_arg2) = m ((c.tc : Thread Cert.OutWeight0.nD Cert.OutWeight0.τ).loc Cert.OutWeight0.main_arg2))
      ∧ r.2.sem = fun _ => 0)

def quiescent_OutWeight0Ideal [hOutWeight0Ideal : Cert.OutWeight0Ideal.Facts] : Prop :=
  ∀ (m : (ℓ : Loc Cert.OutWeight0Ideal.nD Cert.OutWeight0Ideal.τ Cert.OutWeight0Ideal.sig) → Buf (Elt Ideal) ℓ) (g : Dev Cert.OutWeight0Ideal.nD → PrngReg), Pre_OutWeight0Ideal m →
    θ_run (Cert.OutWeight0Ideal.defs (F := Ideal)) (onTc (τ := Cert.OutWeight0Ideal.τ) (Cert.OutWeight0Ideal.main (F := Ideal))) ⟨m, fun _ => 0, g⟩ (fun r => (∀ c : Dev Cert.OutWeight0Ideal.nD,
      r.2.mem ((c.tc : Thread Cert.OutWeight0Ideal.nD Cert.OutWeight0Ideal.τ).loc Cert.OutWeight0Ideal.main_arg0) = m ((c.tc : Thread Cert.OutWeight0Ideal.nD Cert.OutWeight0Ideal.τ).loc Cert.OutWeight0Ideal.main_arg0)
      ∧ r.2.mem ((c.tc : Thread Cert.OutWeight0Ideal.nD Cert.OutWeight0Ideal.τ).loc Cert.OutWeight0Ideal.main_arg1) = m ((c.tc : Thread Cert.OutWeight0Ideal.nD Cert.OutWeight0Ideal.τ).loc Cert.OutWeight0Ideal.main_arg1)
      ∧ r.2.mem ((c.tc : Thread Cert.OutWeight0Ideal.nD Cert.OutWeight0Ideal.τ).loc Cert.OutWeight0Ideal.main_arg2) = m ((c.tc : Thread Cert.OutWeight0Ideal.nD Cert.OutWeight0Ideal.τ).loc Cert.OutWeight0Ideal.main_arg2))
      ∧ r.2.sem = fun _ => 0)

def quiescent_OutWeight0ReferenceIdeal [hOutWeight0ReferenceIdeal : Cert.OutWeight0ReferenceIdeal.Facts] : Prop :=
  ∀ (m : (ℓ : Loc Cert.OutWeight0ReferenceIdeal.nD Cert.OutWeight0ReferenceIdeal.τ Cert.OutWeight0ReferenceIdeal.sig) → Buf (Elt Ideal) ℓ) (g : Dev Cert.OutWeight0ReferenceIdeal.nD → PrngReg), Pre_OutWeight0ReferenceIdeal m →
    θ_run (Cert.OutWeight0ReferenceIdeal.defs (F := Ideal)) (onTc (τ := Cert.OutWeight0ReferenceIdeal.τ) (Cert.OutWeight0ReferenceIdeal.main (F := Ideal))) ⟨m, fun _ => 0, g⟩ (fun r => (∀ c : Dev Cert.OutWeight0ReferenceIdeal.nD,
      r.2.mem ((c.tc : Thread Cert.OutWeight0ReferenceIdeal.nD Cert.OutWeight0ReferenceIdeal.τ).loc Cert.OutWeight0ReferenceIdeal.main_arg0) = m ((c.tc : Thread Cert.OutWeight0ReferenceIdeal.nD Cert.OutWeight0ReferenceIdeal.τ).loc Cert.OutWeight0ReferenceIdeal.main_arg0)
      ∧ r.2.mem ((c.tc : Thread Cert.OutWeight0ReferenceIdeal.nD Cert.OutWeight0ReferenceIdeal.τ).loc Cert.OutWeight0ReferenceIdeal.main_arg1) = m ((c.tc : Thread Cert.OutWeight0ReferenceIdeal.nD Cert.OutWeight0ReferenceIdeal.τ).loc Cert.OutWeight0ReferenceIdeal.main_arg1)
      ∧ r.2.mem ((c.tc : Thread Cert.OutWeight0ReferenceIdeal.nD Cert.OutWeight0ReferenceIdeal.τ).loc Cert.OutWeight0ReferenceIdeal.main_arg2) = m ((c.tc : Thread Cert.OutWeight0ReferenceIdeal.nD Cert.OutWeight0ReferenceIdeal.τ).loc Cert.OutWeight0ReferenceIdeal.main_arg2))
      ∧ r.2.sem = fun _ => 0)

def quiescent_InGrad [hInGrad : Cert.InGrad.Facts] : Prop :=
  ∀ (m : (ℓ : Loc Cert.InGrad.nD Cert.InGrad.τ Cert.InGrad.sig) → Buf (Elt Bits) ℓ) (g : Dev Cert.InGrad.nD → PrngReg), Pre_InGrad m →
    θ_run (Cert.InGrad.defs (F := Bits)) (onTc (τ := Cert.InGrad.τ) (Cert.InGrad.main (F := Bits))) ⟨m, fun _ => 0, g⟩ (fun r => (∀ c : Dev Cert.InGrad.nD,
      r.2.mem ((c.tc : Thread Cert.InGrad.nD Cert.InGrad.τ).loc Cert.InGrad.main_arg0) = m ((c.tc : Thread Cert.InGrad.nD Cert.InGrad.τ).loc Cert.InGrad.main_arg0)
      ∧ r.2.mem ((c.tc : Thread Cert.InGrad.nD Cert.InGrad.τ).loc Cert.InGrad.main_arg1) = m ((c.tc : Thread Cert.InGrad.nD Cert.InGrad.τ).loc Cert.InGrad.main_arg1)
      ∧ r.2.mem ((c.tc : Thread Cert.InGrad.nD Cert.InGrad.τ).loc Cert.InGrad.main_arg2) = m ((c.tc : Thread Cert.InGrad.nD Cert.InGrad.τ).loc Cert.InGrad.main_arg2)
      ∧ r.2.mem ((c.tc : Thread Cert.InGrad.nD Cert.InGrad.τ).loc Cert.InGrad.main_arg3) = m ((c.tc : Thread Cert.InGrad.nD Cert.InGrad.τ).loc Cert.InGrad.main_arg3)
      ∧ r.2.mem ((c.tc : Thread Cert.InGrad.nD Cert.InGrad.τ).loc Cert.InGrad.main_arg4) = m ((c.tc : Thread Cert.InGrad.nD Cert.InGrad.τ).loc Cert.InGrad.main_arg4)
      ∧ r.2.mem ((c.tc : Thread Cert.InGrad.nD Cert.InGrad.τ).loc Cert.InGrad.main_arg5) = m ((c.tc : Thread Cert.InGrad.nD Cert.InGrad.τ).loc Cert.InGrad.main_arg5))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
      ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2)
      ∧ r.2.mem ((c.tc : Thread Cert.InGradIdeal.nD Cert.InGradIdeal.τ).loc Cert.InGradIdeal.main_arg3) = m ((c.tc : Thread Cert.InGradIdeal.nD Cert.InGradIdeal.τ).loc Cert.InGradIdeal.main_arg3)
      ∧ r.2.mem ((c.tc : Thread Cert.InGradIdeal.nD Cert.InGradIdeal.τ).loc Cert.InGradIdeal.main_arg4) = m ((c.tc : Thread Cert.InGradIdeal.nD Cert.InGradIdeal.τ).loc Cert.InGradIdeal.main_arg4)
      ∧ r.2.mem ((c.tc : Thread Cert.InGradIdeal.nD Cert.InGradIdeal.τ).loc Cert.InGradIdeal.main_arg5) = m ((c.tc : Thread Cert.InGradIdeal.nD Cert.InGradIdeal.τ).loc Cert.InGradIdeal.main_arg5))
      ∧ r.2.sem = fun _ => 0)

def quiescent_InGradReferenceIdeal [hInGradReferenceIdeal : Cert.InGradReferenceIdeal.Facts] : Prop :=
  ∀ (m : (ℓ : Loc Cert.InGradReferenceIdeal.nD Cert.InGradReferenceIdeal.τ Cert.InGradReferenceIdeal.sig) → Buf (Elt Ideal) ℓ) (g : Dev Cert.InGradReferenceIdeal.nD → PrngReg), Pre_InGradReferenceIdeal m →
    θ_run (Cert.InGradReferenceIdeal.defs (F := Ideal)) (onTc (τ := Cert.InGradReferenceIdeal.τ) (Cert.InGradReferenceIdeal.main (F := Ideal))) ⟨m, fun _ => 0, g⟩ (fun r => (∀ c : Dev Cert.InGradReferenceIdeal.nD,
      r.2.mem ((c.tc : Thread Cert.InGradReferenceIdeal.nD Cert.InGradReferenceIdeal.τ).loc Cert.InGradReferenceIdeal.main_arg0) = m ((c.tc : Thread Cert.InGradReferenceIdeal.nD Cert.InGradReferenceIdeal.τ).loc Cert.InGradReferenceIdeal.main_arg0)
      ∧ r.2.mem ((c.tc : Thread Cert.InGradReferenceIdeal.nD Cert.InGradReferenceIdeal.τ).loc Cert.InGradReferenceIdeal.main_arg1) = m ((c.tc : Thread Cert.InGradReferenceIdeal.nD Cert.InGradReferenceIdeal.τ).loc Cert.InGradReferenceIdeal.main_arg1)
      ∧ r.2.mem ((c.tc : Thread Cert.InGradReferenceIdeal.nD Cert.InGradReferenceIdeal.τ).loc Cert.InGradReferenceIdeal.main_arg2) = m ((c.tc : Thread Cert.InGradReferenceIdeal.nD Cert.InGradReferenceIdeal.τ).loc Cert.InGradReferenceIdeal.main_arg2)
      ∧ r.2.mem ((c.tc : Thread Cert.InGradReferenceIdeal.nD Cert.InGradReferenceIdeal.τ).loc Cert.InGradReferenceIdeal.main_arg3) = m ((c.tc : Thread Cert.InGradReferenceIdeal.nD Cert.InGradReferenceIdeal.τ).loc Cert.InGradReferenceIdeal.main_arg3)
      ∧ r.2.mem ((c.tc : Thread Cert.InGradReferenceIdeal.nD Cert.InGradReferenceIdeal.τ).loc Cert.InGradReferenceIdeal.main_arg4) = m ((c.tc : Thread Cert.InGradReferenceIdeal.nD Cert.InGradReferenceIdeal.τ).loc Cert.InGradReferenceIdeal.main_arg4)
      ∧ r.2.mem ((c.tc : Thread Cert.InGradReferenceIdeal.nD Cert.InGradReferenceIdeal.τ).loc Cert.InGradReferenceIdeal.main_arg5) = m ((c.tc : Thread Cert.InGradReferenceIdeal.nD Cert.InGradReferenceIdeal.τ).loc Cert.InGradReferenceIdeal.main_arg5))
      ∧ r.2.sem = fun _ => 0)

def quiescent_InWeight [hInWeight : Cert.InWeight.Facts] : Prop :=
  ∀ (m : (ℓ : Loc Cert.InWeight.nD Cert.InWeight.τ Cert.InWeight.sig) → Buf (Elt Bits) ℓ) (g : Dev Cert.InWeight.nD → PrngReg), Pre_InWeight m →
    θ_run (Cert.InWeight.defs (F := Bits)) (onTc (τ := Cert.InWeight.τ) (Cert.InWeight.main (F := Bits))) ⟨m, fun _ => 0, g⟩ (fun r => (∀ c : Dev Cert.InWeight.nD,
      r.2.mem ((c.tc : Thread Cert.InWeight.nD Cert.InWeight.τ).loc Cert.InWeight.main_arg0) = m ((c.tc : Thread Cert.InWeight.nD Cert.InWeight.τ).loc Cert.InWeight.main_arg0)
      ∧ r.2.mem ((c.tc : Thread Cert.InWeight.nD Cert.InWeight.τ).loc Cert.InWeight.main_arg1) = m ((c.tc : Thread Cert.InWeight.nD Cert.InWeight.τ).loc Cert.InWeight.main_arg1)
      ∧ r.2.mem ((c.tc : Thread Cert.InWeight.nD Cert.InWeight.τ).loc Cert.InWeight.main_arg2) = m ((c.tc : Thread Cert.InWeight.nD Cert.InWeight.τ).loc Cert.InWeight.main_arg2)
      ∧ r.2.mem ((c.tc : Thread Cert.InWeight.nD Cert.InWeight.τ).loc Cert.InWeight.main_arg3) = m ((c.tc : Thread Cert.InWeight.nD Cert.InWeight.τ).loc Cert.InWeight.main_arg3)
      ∧ r.2.mem ((c.tc : Thread Cert.InWeight.nD Cert.InWeight.τ).loc Cert.InWeight.main_arg4) = m ((c.tc : Thread Cert.InWeight.nD Cert.InWeight.τ).loc Cert.InWeight.main_arg4)
      ∧ r.2.mem ((c.tc : Thread Cert.InWeight.nD Cert.InWeight.τ).loc Cert.InWeight.main_arg5) = m ((c.tc : Thread Cert.InWeight.nD Cert.InWeight.τ).loc Cert.InWeight.main_arg5))
      ∧ r.2.sem = fun _ => 0)

def quiescent_InWeightIdeal [hInWeightIdeal : Cert.InWeightIdeal.Facts] : Prop :=
  ∀ (m : (ℓ : Loc Cert.InWeightIdeal.nD Cert.InWeightIdeal.τ Cert.InWeightIdeal.sig) → Buf (Elt Ideal) ℓ) (g : Dev Cert.InWeightIdeal.nD → PrngReg), Pre_InWeightIdeal m →
    θ_run (Cert.InWeightIdeal.defs (F := Ideal)) (onTc (τ := Cert.InWeightIdeal.τ) (Cert.InWeightIdeal.main (F := Ideal))) ⟨m, fun _ => 0, g⟩ (fun r => (∀ c : Dev Cert.InWeightIdeal.nD,
      r.2.mem ((c.tc : Thread Cert.InWeightIdeal.nD Cert.InWeightIdeal.τ).loc Cert.InWeightIdeal.main_arg0) = m ((c.tc : Thread Cert.InWeightIdeal.nD Cert.InWeightIdeal.τ).loc Cert.InWeightIdeal.main_arg0)
      ∧ r.2.mem ((c.tc : Thread Cert.InWeightIdeal.nD Cert.InWeightIdeal.τ).loc Cert.InWeightIdeal.main_arg1) = m ((c.tc : Thread Cert.InWeightIdeal.nD Cert.InWeightIdeal.τ).loc Cert.InWeightIdeal.main_arg1)
      ∧ r.2.mem ((c.tc : Thread Cert.InWeightIdeal.nD Cert.InWeightIdeal.τ).loc Cert.InWeightIdeal.main_arg2) = m ((c.tc : Thread Cert.InWeightIdeal.nD Cert.InWeightIdeal.τ).loc Cert.InWeightIdeal.main_arg2)
      ∧ r.2.mem ((c.tc : Thread Cert.InWeightIdeal.nD Cert.InWeightIdeal.τ).loc Cert.InWeightIdeal.main_arg3) = m ((c.tc : Thread Cert.InWeightIdeal.nD Cert.InWeightIdeal.τ).loc Cert.InWeightIdeal.main_arg3)
      ∧ r.2.mem ((c.tc : Thread Cert.InWeightIdeal.nD Cert.InWeightIdeal.τ).loc Cert.InWeightIdeal.main_arg4) = m ((c.tc : Thread Cert.InWeightIdeal.nD Cert.InWeightIdeal.τ).loc Cert.InWeightIdeal.main_arg4)
      ∧ r.2.mem ((c.tc : Thread Cert.InWeightIdeal.nD Cert.InWeightIdeal.τ).loc Cert.InWeightIdeal.main_arg5) = m ((c.tc : Thread Cert.InWeightIdeal.nD Cert.InWeightIdeal.τ).loc Cert.InWeightIdeal.main_arg5))
      ∧ r.2.sem = fun _ => 0)

def quiescent_InWeightReferenceIdeal [hInWeightReferenceIdeal : Cert.InWeightReferenceIdeal.Facts] : Prop :=
  ∀ (m : (ℓ : Loc Cert.InWeightReferenceIdeal.nD Cert.InWeightReferenceIdeal.τ Cert.InWeightReferenceIdeal.sig) → Buf (Elt Ideal) ℓ) (g : Dev Cert.InWeightReferenceIdeal.nD → PrngReg), Pre_InWeightReferenceIdeal m →
    θ_run (Cert.InWeightReferenceIdeal.defs (F := Ideal)) (onTc (τ := Cert.InWeightReferenceIdeal.τ) (Cert.InWeightReferenceIdeal.main (F := Ideal))) ⟨m, fun _ => 0, g⟩ (fun r => (∀ c : Dev Cert.InWeightReferenceIdeal.nD,
      r.2.mem ((c.tc : Thread Cert.InWeightReferenceIdeal.nD Cert.InWeightReferenceIdeal.τ).loc Cert.InWeightReferenceIdeal.main_arg0) = m ((c.tc : Thread Cert.InWeightReferenceIdeal.nD Cert.InWeightReferenceIdeal.τ).loc Cert.InWeightReferenceIdeal.main_arg0)
      ∧ r.2.mem ((c.tc : Thread Cert.InWeightReferenceIdeal.nD Cert.InWeightReferenceIdeal.τ).loc Cert.InWeightReferenceIdeal.main_arg1) = m ((c.tc : Thread Cert.InWeightReferenceIdeal.nD Cert.InWeightReferenceIdeal.τ).loc Cert.InWeightReferenceIdeal.main_arg1)
      ∧ r.2.mem ((c.tc : Thread Cert.InWeightReferenceIdeal.nD Cert.InWeightReferenceIdeal.τ).loc Cert.InWeightReferenceIdeal.main_arg2) = m ((c.tc : Thread Cert.InWeightReferenceIdeal.nD Cert.InWeightReferenceIdeal.τ).loc Cert.InWeightReferenceIdeal.main_arg2)
      ∧ r.2.mem ((c.tc : Thread Cert.InWeightReferenceIdeal.nD Cert.InWeightReferenceIdeal.τ).loc Cert.InWeightReferenceIdeal.main_arg3) = m ((c.tc : Thread Cert.InWeightReferenceIdeal.nD Cert.InWeightReferenceIdeal.τ).loc Cert.InWeightReferenceIdeal.main_arg3)
      ∧ r.2.mem ((c.tc : Thread Cert.InWeightReferenceIdeal.nD Cert.InWeightReferenceIdeal.τ).loc Cert.InWeightReferenceIdeal.main_arg4) = m ((c.tc : Thread Cert.InWeightReferenceIdeal.nD Cert.InWeightReferenceIdeal.τ).loc Cert.InWeightReferenceIdeal.main_arg4)
      ∧ r.2.mem ((c.tc : Thread Cert.InWeightReferenceIdeal.nD Cert.InWeightReferenceIdeal.τ).loc Cert.InWeightReferenceIdeal.main_arg5) = m ((c.tc : Thread Cert.InWeightReferenceIdeal.nD Cert.InWeightReferenceIdeal.τ).loc Cert.InWeightReferenceIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_QkvProj [hQkvProj : Cert.QkvProj.Facts] : Prop :=
  ∀ (m : (ℓ : Loc Cert.QkvProj.nD Cert.QkvProj.τ Cert.QkvProj.sig) → Buf (Elt Bits) ℓ) (g : Dev Cert.QkvProj.nD → PrngReg), Pre_QkvProj m →
    θ_run (Cert.QkvProj.defs (F := Bits)) (onTc (τ := Cert.QkvProj.τ) (Cert.QkvProj.main (F := Bits))) ⟨m, fun _ => 0, g⟩ (fun r => (∀ c : Dev Cert.QkvProj.nD,
      r.2.mem ((c.tc : Thread Cert.QkvProj.nD Cert.QkvProj.τ).loc Cert.QkvProj.main_arg0) = m ((c.tc : Thread Cert.QkvProj.nD Cert.QkvProj.τ).loc Cert.QkvProj.main_arg0)
      ∧ r.2.mem ((c.tc : Thread Cert.QkvProj.nD Cert.QkvProj.τ).loc Cert.QkvProj.main_arg1) = m ((c.tc : Thread Cert.QkvProj.nD Cert.QkvProj.τ).loc Cert.QkvProj.main_arg1)
      ∧ r.2.mem ((c.tc : Thread Cert.QkvProj.nD Cert.QkvProj.τ).loc Cert.QkvProj.main_arg2) = m ((c.tc : Thread Cert.QkvProj.nD Cert.QkvProj.τ).loc Cert.QkvProj.main_arg2))
      ∧ r.2.sem = fun _ => 0)

def quiescent_QkvProjIdeal [hQkvProjIdeal : Cert.QkvProjIdeal.Facts] : Prop :=
  ∀ (m : (ℓ : Loc Cert.QkvProjIdeal.nD Cert.QkvProjIdeal.τ Cert.QkvProjIdeal.sig) → Buf (Elt Ideal) ℓ) (g : Dev Cert.QkvProjIdeal.nD → PrngReg), Pre_QkvProjIdeal m →
    θ_run (Cert.QkvProjIdeal.defs (F := Ideal)) (onTc (τ := Cert.QkvProjIdeal.τ) (Cert.QkvProjIdeal.main (F := Ideal))) ⟨m, fun _ => 0, g⟩ (fun r => (∀ c : Dev Cert.QkvProjIdeal.nD,
      r.2.mem ((c.tc : Thread Cert.QkvProjIdeal.nD Cert.QkvProjIdeal.τ).loc Cert.QkvProjIdeal.main_arg0) = m ((c.tc : Thread Cert.QkvProjIdeal.nD Cert.QkvProjIdeal.τ).loc Cert.QkvProjIdeal.main_arg0)
      ∧ r.2.mem ((c.tc : Thread Cert.QkvProjIdeal.nD Cert.QkvProjIdeal.τ).loc Cert.QkvProjIdeal.main_arg1) = m ((c.tc : Thread Cert.QkvProjIdeal.nD Cert.QkvProjIdeal.τ).loc Cert.QkvProjIdeal.main_arg1)
      ∧ r.2.mem ((c.tc : Thread Cert.QkvProjIdeal.nD Cert.QkvProjIdeal.τ).loc Cert.QkvProjIdeal.main_arg2) = m ((c.tc : Thread Cert.QkvProjIdeal.nD Cert.QkvProjIdeal.τ).loc Cert.QkvProjIdeal.main_arg2))
      ∧ r.2.sem = fun _ => 0)

def quiescent_QkvProjReferenceIdeal [hQkvProjReferenceIdeal : Cert.QkvProjReferenceIdeal.Facts] : Prop :=
  ∀ (m : (ℓ : Loc Cert.QkvProjReferenceIdeal.nD Cert.QkvProjReferenceIdeal.τ Cert.QkvProjReferenceIdeal.sig) → Buf (Elt Ideal) ℓ) (g : Dev Cert.QkvProjReferenceIdeal.nD → PrngReg), Pre_QkvProjReferenceIdeal m →
    θ_run (Cert.QkvProjReferenceIdeal.defs (F := Ideal)) (onTc (τ := Cert.QkvProjReferenceIdeal.τ) (Cert.QkvProjReferenceIdeal.main (F := Ideal))) ⟨m, fun _ => 0, g⟩ (fun r => (∀ c : Dev Cert.QkvProjReferenceIdeal.nD,
      r.2.mem ((c.tc : Thread Cert.QkvProjReferenceIdeal.nD Cert.QkvProjReferenceIdeal.τ).loc Cert.QkvProjReferenceIdeal.main_arg0) = m ((c.tc : Thread Cert.QkvProjReferenceIdeal.nD Cert.QkvProjReferenceIdeal.τ).loc Cert.QkvProjReferenceIdeal.main_arg0)
      ∧ r.2.mem ((c.tc : Thread Cert.QkvProjReferenceIdeal.nD Cert.QkvProjReferenceIdeal.τ).loc Cert.QkvProjReferenceIdeal.main_arg1) = m ((c.tc : Thread Cert.QkvProjReferenceIdeal.nD Cert.QkvProjReferenceIdeal.τ).loc Cert.QkvProjReferenceIdeal.main_arg1)
      ∧ r.2.mem ((c.tc : Thread Cert.QkvProjReferenceIdeal.nD Cert.QkvProjReferenceIdeal.τ).loc Cert.QkvProjReferenceIdeal.main_arg2) = m ((c.tc : Thread Cert.QkvProjReferenceIdeal.nD Cert.QkvProjReferenceIdeal.τ).loc Cert.QkvProjReferenceIdeal.main_arg2))
      ∧ r.2.sem = fun _ => 0)

def quiescent_Down1 [hDown1 : Cert.Down1.Facts] : Prop :=
  ∀ (m : (ℓ : Loc Cert.Down1.nD Cert.Down1.τ Cert.Down1.sig) → Buf (Elt Bits) ℓ) (g : Dev Cert.Down1.nD → PrngReg), Pre_Down1 m →
    θ_run (Cert.Down1.defs (F := Bits)) (onTc (τ := Cert.Down1.τ) (Cert.Down1.main (F := Bits))) ⟨m, fun _ => 0, g⟩ (fun r => (∀ c : Dev Cert.Down1.nD,
      r.2.mem ((c.tc : Thread Cert.Down1.nD Cert.Down1.τ).loc Cert.Down1.main_arg0) = m ((c.tc : Thread Cert.Down1.nD Cert.Down1.τ).loc Cert.Down1.main_arg0)
      ∧ r.2.mem ((c.tc : Thread Cert.Down1.nD Cert.Down1.τ).loc Cert.Down1.main_arg1) = m ((c.tc : Thread Cert.Down1.nD Cert.Down1.τ).loc Cert.Down1.main_arg1)
      ∧ r.2.mem ((c.tc : Thread Cert.Down1.nD Cert.Down1.τ).loc Cert.Down1.main_arg2) = m ((c.tc : Thread Cert.Down1.nD Cert.Down1.τ).loc Cert.Down1.main_arg2)
      ∧ r.2.mem ((c.tc : Thread Cert.Down1.nD Cert.Down1.τ).loc Cert.Down1.main_arg3) = m ((c.tc : Thread Cert.Down1.nD Cert.Down1.τ).loc Cert.Down1.main_arg3))
      ∧ r.2.sem = fun _ => 0)

def quiescent_Down1Ideal [hDown1Ideal : Cert.Down1Ideal.Facts] : Prop :=
  ∀ (m : (ℓ : Loc Cert.Down1Ideal.nD Cert.Down1Ideal.τ Cert.Down1Ideal.sig) → Buf (Elt Ideal) ℓ) (g : Dev Cert.Down1Ideal.nD → PrngReg), Pre_Down1Ideal m →
    θ_run (Cert.Down1Ideal.defs (F := Ideal)) (onTc (τ := Cert.Down1Ideal.τ) (Cert.Down1Ideal.main (F := Ideal))) ⟨m, fun _ => 0, g⟩ (fun r => (∀ c : Dev Cert.Down1Ideal.nD,
      r.2.mem ((c.tc : Thread Cert.Down1Ideal.nD Cert.Down1Ideal.τ).loc Cert.Down1Ideal.main_arg0) = m ((c.tc : Thread Cert.Down1Ideal.nD Cert.Down1Ideal.τ).loc Cert.Down1Ideal.main_arg0)
      ∧ r.2.mem ((c.tc : Thread Cert.Down1Ideal.nD Cert.Down1Ideal.τ).loc Cert.Down1Ideal.main_arg1) = m ((c.tc : Thread Cert.Down1Ideal.nD Cert.Down1Ideal.τ).loc Cert.Down1Ideal.main_arg1)
      ∧ r.2.mem ((c.tc : Thread Cert.Down1Ideal.nD Cert.Down1Ideal.τ).loc Cert.Down1Ideal.main_arg2) = m ((c.tc : Thread Cert.Down1Ideal.nD Cert.Down1Ideal.τ).loc Cert.Down1Ideal.main_arg2)
      ∧ r.2.mem ((c.tc : Thread Cert.Down1Ideal.nD Cert.Down1Ideal.τ).loc Cert.Down1Ideal.main_arg3) = m ((c.tc : Thread Cert.Down1Ideal.nD Cert.Down1Ideal.τ).loc Cert.Down1Ideal.main_arg3))
      ∧ r.2.sem = fun _ => 0)

def quiescent_Down1ReferenceIdeal [hDown1ReferenceIdeal : Cert.Down1ReferenceIdeal.Facts] : Prop :=
  ∀ (m : (ℓ : Loc Cert.Down1ReferenceIdeal.nD Cert.Down1ReferenceIdeal.τ Cert.Down1ReferenceIdeal.sig) → Buf (Elt Ideal) ℓ) (g : Dev Cert.Down1ReferenceIdeal.nD → PrngReg), Pre_Down1ReferenceIdeal m →
    θ_run (Cert.Down1ReferenceIdeal.defs (F := Ideal)) (onTc (τ := Cert.Down1ReferenceIdeal.τ) (Cert.Down1ReferenceIdeal.main (F := Ideal))) ⟨m, fun _ => 0, g⟩ (fun r => (∀ c : Dev Cert.Down1ReferenceIdeal.nD,
      r.2.mem ((c.tc : Thread Cert.Down1ReferenceIdeal.nD Cert.Down1ReferenceIdeal.τ).loc Cert.Down1ReferenceIdeal.main_arg0) = m ((c.tc : Thread Cert.Down1ReferenceIdeal.nD Cert.Down1ReferenceIdeal.τ).loc Cert.Down1ReferenceIdeal.main_arg0)
      ∧ r.2.mem ((c.tc : Thread Cert.Down1ReferenceIdeal.nD Cert.Down1ReferenceIdeal.τ).loc Cert.Down1ReferenceIdeal.main_arg1) = m ((c.tc : Thread Cert.Down1ReferenceIdeal.nD Cert.Down1ReferenceIdeal.τ).loc Cert.Down1ReferenceIdeal.main_arg1)
      ∧ r.2.mem ((c.tc : Thread Cert.Down1ReferenceIdeal.nD Cert.Down1ReferenceIdeal.τ).loc Cert.Down1ReferenceIdeal.main_arg2) = m ((c.tc : Thread Cert.Down1ReferenceIdeal.nD Cert.Down1ReferenceIdeal.τ).loc Cert.Down1ReferenceIdeal.main_arg2)
      ∧ r.2.mem ((c.tc : Thread Cert.Down1ReferenceIdeal.nD Cert.Down1ReferenceIdeal.τ).loc Cert.Down1ReferenceIdeal.main_arg3) = m ((c.tc : Thread Cert.Down1ReferenceIdeal.nD Cert.Down1ReferenceIdeal.τ).loc Cert.Down1ReferenceIdeal.main_arg3))
      ∧ r.2.sem = fun _ => 0)

def quiescent_Down0 [hDown0 : Cert.Down0.Facts] : Prop :=
  ∀ (m : (ℓ : Loc Cert.Down0.nD Cert.Down0.τ Cert.Down0.sig) → Buf (Elt Bits) ℓ) (g : Dev Cert.Down0.nD → PrngReg), Pre_Down0 m →
    θ_run (Cert.Down0.defs (F := Bits)) (onTc (τ := Cert.Down0.τ) (Cert.Down0.main (F := Bits))) ⟨m, fun _ => 0, g⟩ (fun r => (∀ c : Dev Cert.Down0.nD,
      r.2.mem ((c.tc : Thread Cert.Down0.nD Cert.Down0.τ).loc Cert.Down0.main_arg0) = m ((c.tc : Thread Cert.Down0.nD Cert.Down0.τ).loc Cert.Down0.main_arg0)
      ∧ r.2.mem ((c.tc : Thread Cert.Down0.nD Cert.Down0.τ).loc Cert.Down0.main_arg1) = m ((c.tc : Thread Cert.Down0.nD Cert.Down0.τ).loc Cert.Down0.main_arg1)
      ∧ r.2.mem ((c.tc : Thread Cert.Down0.nD Cert.Down0.τ).loc Cert.Down0.main_arg2) = m ((c.tc : Thread Cert.Down0.nD Cert.Down0.τ).loc Cert.Down0.main_arg2)
      ∧ r.2.mem ((c.tc : Thread Cert.Down0.nD Cert.Down0.τ).loc Cert.Down0.main_arg3) = m ((c.tc : Thread Cert.Down0.nD Cert.Down0.τ).loc Cert.Down0.main_arg3)
      ∧ r.2.mem ((c.tc : Thread Cert.Down0.nD Cert.Down0.τ).loc Cert.Down0.main_arg4) = m ((c.tc : Thread Cert.Down0.nD Cert.Down0.τ).loc Cert.Down0.main_arg4)
      ∧ r.2.mem ((c.tc : Thread Cert.Down0.nD Cert.Down0.τ).loc Cert.Down0.main_arg5) = m ((c.tc : Thread Cert.Down0.nD Cert.Down0.τ).loc Cert.Down0.main_arg5)
      ∧ r.2.mem ((c.tc : Thread Cert.Down0.nD Cert.Down0.τ).loc Cert.Down0.main_arg6) = m ((c.tc : Thread Cert.Down0.nD Cert.Down0.τ).loc Cert.Down0.main_arg6))
      ∧ r.2.sem = fun _ => 0)

def quiescent_Down0Ideal [hDown0Ideal : Cert.Down0Ideal.Facts] : Prop :=
  ∀ (m : (ℓ : Loc Cert.Down0Ideal.nD Cert.Down0Ideal.τ Cert.Down0Ideal.sig) → Buf (Elt Ideal) ℓ) (g : Dev Cert.Down0Ideal.nD → PrngReg), Pre_Down0Ideal m →
    θ_run (Cert.Down0Ideal.defs (F := Ideal)) (onTc (τ := Cert.Down0Ideal.τ) (Cert.Down0Ideal.main (F := Ideal))) ⟨m, fun _ => 0, g⟩ (fun r => (∀ c : Dev Cert.Down0Ideal.nD,
      r.2.mem ((c.tc : Thread Cert.Down0Ideal.nD Cert.Down0Ideal.τ).loc Cert.Down0Ideal.main_arg0) = m ((c.tc : Thread Cert.Down0Ideal.nD Cert.Down0Ideal.τ).loc Cert.Down0Ideal.main_arg0)
      ∧ r.2.mem ((c.tc : Thread Cert.Down0Ideal.nD Cert.Down0Ideal.τ).loc Cert.Down0Ideal.main_arg1) = m ((c.tc : Thread Cert.Down0Ideal.nD Cert.Down0Ideal.τ).loc Cert.Down0Ideal.main_arg1)
      ∧ r.2.mem ((c.tc : Thread Cert.Down0Ideal.nD Cert.Down0Ideal.τ).loc Cert.Down0Ideal.main_arg2) = m ((c.tc : Thread Cert.Down0Ideal.nD Cert.Down0Ideal.τ).loc Cert.Down0Ideal.main_arg2)
      ∧ r.2.mem ((c.tc : Thread Cert.Down0Ideal.nD Cert.Down0Ideal.τ).loc Cert.Down0Ideal.main_arg3) = m ((c.tc : Thread Cert.Down0Ideal.nD Cert.Down0Ideal.τ).loc Cert.Down0Ideal.main_arg3)
      ∧ r.2.mem ((c.tc : Thread Cert.Down0Ideal.nD Cert.Down0Ideal.τ).loc Cert.Down0Ideal.main_arg4) = m ((c.tc : Thread Cert.Down0Ideal.nD Cert.Down0Ideal.τ).loc Cert.Down0Ideal.main_arg4)
      ∧ r.2.mem ((c.tc : Thread Cert.Down0Ideal.nD Cert.Down0Ideal.τ).loc Cert.Down0Ideal.main_arg5) = m ((c.tc : Thread Cert.Down0Ideal.nD Cert.Down0Ideal.τ).loc Cert.Down0Ideal.main_arg5)
      ∧ r.2.mem ((c.tc : Thread Cert.Down0Ideal.nD Cert.Down0Ideal.τ).loc Cert.Down0Ideal.main_arg6) = m ((c.tc : Thread Cert.Down0Ideal.nD Cert.Down0Ideal.τ).loc Cert.Down0Ideal.main_arg6))
      ∧ r.2.sem = fun _ => 0)

def quiescent_Down0ReferenceIdeal [hDown0ReferenceIdeal : Cert.Down0ReferenceIdeal.Facts] : Prop :=
  ∀ (m : (ℓ : Loc Cert.Down0ReferenceIdeal.nD Cert.Down0ReferenceIdeal.τ Cert.Down0ReferenceIdeal.sig) → Buf (Elt Ideal) ℓ) (g : Dev Cert.Down0ReferenceIdeal.nD → PrngReg), Pre_Down0ReferenceIdeal m →
    θ_run (Cert.Down0ReferenceIdeal.defs (F := Ideal)) (onTc (τ := Cert.Down0ReferenceIdeal.τ) (Cert.Down0ReferenceIdeal.main (F := Ideal))) ⟨m, fun _ => 0, g⟩ (fun r => (∀ c : Dev Cert.Down0ReferenceIdeal.nD,
      r.2.mem ((c.tc : Thread Cert.Down0ReferenceIdeal.nD Cert.Down0ReferenceIdeal.τ).loc Cert.Down0ReferenceIdeal.main_arg0) = m ((c.tc : Thread Cert.Down0ReferenceIdeal.nD Cert.Down0ReferenceIdeal.τ).loc Cert.Down0ReferenceIdeal.main_arg0)
      ∧ r.2.mem ((c.tc : Thread Cert.Down0ReferenceIdeal.nD Cert.Down0ReferenceIdeal.τ).loc Cert.Down0ReferenceIdeal.main_arg1) = m ((c.tc : Thread Cert.Down0ReferenceIdeal.nD Cert.Down0ReferenceIdeal.τ).loc Cert.Down0ReferenceIdeal.main_arg1)
      ∧ r.2.mem ((c.tc : Thread Cert.Down0ReferenceIdeal.nD Cert.Down0ReferenceIdeal.τ).loc Cert.Down0ReferenceIdeal.main_arg2) = m ((c.tc : Thread Cert.Down0ReferenceIdeal.nD Cert.Down0ReferenceIdeal.τ).loc Cert.Down0ReferenceIdeal.main_arg2)
      ∧ r.2.mem ((c.tc : Thread Cert.Down0ReferenceIdeal.nD Cert.Down0ReferenceIdeal.τ).loc Cert.Down0ReferenceIdeal.main_arg3) = m ((c.tc : Thread Cert.Down0ReferenceIdeal.nD Cert.Down0ReferenceIdeal.τ).loc Cert.Down0ReferenceIdeal.main_arg3)
      ∧ r.2.mem ((c.tc : Thread Cert.Down0ReferenceIdeal.nD Cert.Down0ReferenceIdeal.τ).loc Cert.Down0ReferenceIdeal.main_arg4) = m ((c.tc : Thread Cert.Down0ReferenceIdeal.nD Cert.Down0ReferenceIdeal.τ).loc Cert.Down0ReferenceIdeal.main_arg4)
      ∧ r.2.mem ((c.tc : Thread Cert.Down0ReferenceIdeal.nD Cert.Down0ReferenceIdeal.τ).loc Cert.Down0ReferenceIdeal.main_arg5) = m ((c.tc : Thread Cert.Down0ReferenceIdeal.nD Cert.Down0ReferenceIdeal.τ).loc Cert.Down0ReferenceIdeal.main_arg5)
      ∧ r.2.mem ((c.tc : Thread Cert.Down0ReferenceIdeal.nD Cert.Down0ReferenceIdeal.τ).loc Cert.Down0ReferenceIdeal.main_arg6) = m ((c.tc : Thread Cert.Down0ReferenceIdeal.nD Cert.Down0ReferenceIdeal.τ).loc Cert.Down0ReferenceIdeal.main_arg6))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4)
      ∧ r.2.mem ((c.tc : Thread Cert.OutProjReferenceIdeal.nD Cert.OutProjReferenceIdeal.τ).loc Cert.OutProjReferenceIdeal.main_arg5) = m ((c.tc : Thread Cert.OutProjReferenceIdeal.nD Cert.OutProjReferenceIdeal.τ).loc Cert.OutProjReferenceIdeal.main_arg5)
      ∧ r.2.mem ((c.tc : Thread Cert.OutProjReferenceIdeal.nD Cert.OutProjReferenceIdeal.τ).loc Cert.OutProjReferenceIdeal.main_arg6) = m ((c.tc : Thread Cert.OutProjReferenceIdeal.nD Cert.OutProjReferenceIdeal.τ).loc Cert.OutProjReferenceIdeal.main_arg6)
      ∧ r.2.mem ((c.tc : Thread Cert.OutProjReferenceIdeal.nD Cert.OutProjReferenceIdeal.τ).loc Cert.OutProjReferenceIdeal.main_arg7) = m ((c.tc : Thread Cert.OutProjReferenceIdeal.nD Cert.OutProjReferenceIdeal.τ).loc Cert.OutProjReferenceIdeal.main_arg7))
      ∧ r.2.sem = fun _ => 0)

def quiescent_OProj [hOProj : Cert.OProj.Facts] : Prop :=
  ∀ (m : (ℓ : Loc Cert.OProj.nD Cert.OProj.τ Cert.OProj.sig) → Buf (Elt Bits) ℓ) (g : Dev Cert.OProj.nD → PrngReg), Pre_OProj m →
    θ_run (Cert.OProj.defs (F := Bits)) (onTc (τ := Cert.OProj.τ) (Cert.OProj.main (F := Bits))) ⟨m, fun _ => 0, g⟩ (fun r => (∀ c : Dev Cert.OProj.nD,
      r.2.mem ((c.tc : Thread Cert.OProj.nD Cert.OProj.τ).loc Cert.OProj.main_arg0) = m ((c.tc : Thread Cert.OProj.nD Cert.OProj.τ).loc Cert.OProj.main_arg0)
      ∧ r.2.mem ((c.tc : Thread Cert.OProj.nD Cert.OProj.τ).loc Cert.OProj.main_arg1) = m ((c.tc : Thread Cert.OProj.nD Cert.OProj.τ).loc Cert.OProj.main_arg1)
      ∧ r.2.mem ((c.tc : Thread Cert.OProj.nD Cert.OProj.τ).loc Cert.OProj.main_arg2) = m ((c.tc : Thread Cert.OProj.nD Cert.OProj.τ).loc Cert.OProj.main_arg2)
      ∧ r.2.mem ((c.tc : Thread Cert.OProj.nD Cert.OProj.τ).loc Cert.OProj.main_arg3) = m ((c.tc : Thread Cert.OProj.nD Cert.OProj.τ).loc Cert.OProj.main_arg3)
      ∧ r.2.mem ((c.tc : Thread Cert.OProj.nD Cert.OProj.τ).loc Cert.OProj.main_arg4) = m ((c.tc : Thread Cert.OProj.nD Cert.OProj.τ).loc Cert.OProj.main_arg4)
      ∧ r.2.mem ((c.tc : Thread Cert.OProj.nD Cert.OProj.τ).loc Cert.OProj.main_arg5) = m ((c.tc : Thread Cert.OProj.nD Cert.OProj.τ).loc Cert.OProj.main_arg5)
      ∧ r.2.mem ((c.tc : Thread Cert.OProj.nD Cert.OProj.τ).loc Cert.OProj.main_arg6) = m ((c.tc : Thread Cert.OProj.nD Cert.OProj.τ).loc Cert.OProj.main_arg6)
      ∧ r.2.mem ((c.tc : Thread Cert.OProj.nD Cert.OProj.τ).loc Cert.OProj.main_arg7) = m ((c.tc : Thread Cert.OProj.nD Cert.OProj.τ).loc Cert.OProj.main_arg7))
      ∧ r.2.sem = fun _ => 0)

def quiescent_OProjIdeal [hOProjIdeal : Cert.OProjIdeal.Facts] : Prop :=
  ∀ (m : (ℓ : Loc Cert.OProjIdeal.nD Cert.OProjIdeal.τ Cert.OProjIdeal.sig) → Buf (Elt Ideal) ℓ) (g : Dev Cert.OProjIdeal.nD → PrngReg), Pre_OProjIdeal m →
    θ_run (Cert.OProjIdeal.defs (F := Ideal)) (onTc (τ := Cert.OProjIdeal.τ) (Cert.OProjIdeal.main (F := Ideal))) ⟨m, fun _ => 0, g⟩ (fun r => (∀ c : Dev Cert.OProjIdeal.nD,
      r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
      ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
      ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
      ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
      ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4)
      ∧ r.2.mem ((c.tc : Thread Cert.OProjIdeal.nD Cert.OProjIdeal.τ).loc Cert.OProjIdeal.main_arg5) = m ((c.tc : Thread Cert.OProjIdeal.nD Cert.OProjIdeal.τ).loc Cert.OProjIdeal.main_arg5)
      ∧ r.2.mem ((c.tc : Thread Cert.OProjIdeal.nD Cert.OProjIdeal.τ).loc Cert.OProjIdeal.main_arg6) = m ((c.tc : Thread Cert.OProjIdeal.nD Cert.OProjIdeal.τ).loc Cert.OProjIdeal.main_arg6)
      ∧ r.2.mem ((c.tc : Thread Cert.OProjIdeal.nD Cert.OProjIdeal.τ).loc Cert.OProjIdeal.main_arg7) = m ((c.tc : Thread Cert.OProjIdeal.nD Cert.OProjIdeal.τ).loc Cert.OProjIdeal.main_arg7))
      ∧ r.2.sem = fun _ => 0)

def quiescent_OProjReferenceIdeal [hOProjReferenceIdeal : Cert.OProjReferenceIdeal.Facts] : Prop :=
  ∀ (m : (ℓ : Loc Cert.OProjReferenceIdeal.nD Cert.OProjReferenceIdeal.τ Cert.OProjReferenceIdeal.sig) → Buf (Elt Ideal) ℓ) (g : Dev Cert.OProjReferenceIdeal.nD → PrngReg), Pre_OProjReferenceIdeal m →
    θ_run (Cert.OProjReferenceIdeal.defs (F := Ideal)) (onTc (τ := Cert.OProjReferenceIdeal.τ) (Cert.OProjReferenceIdeal.main (F := Ideal))) ⟨m, fun _ => 0, g⟩ (fun r => (∀ c : Dev Cert.OProjReferenceIdeal.nD,
      r.2.mem ((c.tc : Thread Cert.OProjReferenceIdeal.nD Cert.OProjReferenceIdeal.τ).loc Cert.OProjReferenceIdeal.main_arg0) = m ((c.tc : Thread Cert.OProjReferenceIdeal.nD Cert.OProjReferenceIdeal.τ).loc Cert.OProjReferenceIdeal.main_arg0)
      ∧ r.2.mem ((c.tc : Thread Cert.OProjReferenceIdeal.nD Cert.OProjReferenceIdeal.τ).loc Cert.OProjReferenceIdeal.main_arg1) = m ((c.tc : Thread Cert.OProjReferenceIdeal.nD Cert.OProjReferenceIdeal.τ).loc Cert.OProjReferenceIdeal.main_arg1)
      ∧ r.2.mem ((c.tc : Thread Cert.OProjReferenceIdeal.nD Cert.OProjReferenceIdeal.τ).loc Cert.OProjReferenceIdeal.main_arg2) = m ((c.tc : Thread Cert.OProjReferenceIdeal.nD Cert.OProjReferenceIdeal.τ).loc Cert.OProjReferenceIdeal.main_arg2)
      ∧ r.2.mem ((c.tc : Thread Cert.OProjReferenceIdeal.nD Cert.OProjReferenceIdeal.τ).loc Cert.OProjReferenceIdeal.main_arg3) = m ((c.tc : Thread Cert.OProjReferenceIdeal.nD Cert.OProjReferenceIdeal.τ).loc Cert.OProjReferenceIdeal.main_arg3)
      ∧ r.2.mem ((c.tc : Thread Cert.OProjReferenceIdeal.nD Cert.OProjReferenceIdeal.τ).loc Cert.OProjReferenceIdeal.main_arg4) = m ((c.tc : Thread Cert.OProjReferenceIdeal.nD Cert.OProjReferenceIdeal.τ).loc Cert.OProjReferenceIdeal.main_arg4)
      ∧ r.2.mem ((c.tc : Thread Cert.OProjReferenceIdeal.nD Cert.OProjReferenceIdeal.τ).loc Cert.OProjReferenceIdeal.main_arg5) = m ((c.tc : Thread Cert.OProjReferenceIdeal.nD Cert.OProjReferenceIdeal.τ).loc Cert.OProjReferenceIdeal.main_arg5)
      ∧ r.2.mem ((c.tc : Thread Cert.OProjReferenceIdeal.nD Cert.OProjReferenceIdeal.τ).loc Cert.OProjReferenceIdeal.main_arg6) = m ((c.tc : Thread Cert.OProjReferenceIdeal.nD Cert.OProjReferenceIdeal.τ).loc Cert.OProjReferenceIdeal.main_arg6)
      ∧ r.2.mem ((c.tc : Thread Cert.OProjReferenceIdeal.nD Cert.OProjReferenceIdeal.τ).loc Cert.OProjReferenceIdeal.main_arg7) = m ((c.tc : Thread Cert.OProjReferenceIdeal.nD Cert.OProjReferenceIdeal.τ).loc Cert.OProjReferenceIdeal.main_arg7))
      ∧ r.2.sem = fun _ => 0)

def quiescent_NormGrad [hNormGrad : Cert.NormGrad.Facts] : Prop :=
  ∀ (m : (ℓ : Loc Cert.NormGrad.nD Cert.NormGrad.τ Cert.NormGrad.sig) → Buf (Elt Bits) ℓ) (g : Dev Cert.NormGrad.nD → PrngReg), Pre_NormGrad m →
    θ_run (Cert.NormGrad.defs (F := Bits)) (onTc (τ := Cert.NormGrad.τ) (Cert.NormGrad.main (F := Bits))) ⟨m, fun _ => 0, g⟩ (fun r => (∀ c : Dev Cert.NormGrad.nD,
      r.2.mem ((c.tc : Thread Cert.NormGrad.nD Cert.NormGrad.τ).loc Cert.NormGrad.main_arg0) = m ((c.tc : Thread Cert.NormGrad.nD Cert.NormGrad.τ).loc Cert.NormGrad.main_arg0)
      ∧ r.2.mem ((c.tc : Thread Cert.NormGrad.nD Cert.NormGrad.τ).loc Cert.NormGrad.main_arg1) = m ((c.tc : Thread Cert.NormGrad.nD Cert.NormGrad.τ).loc Cert.NormGrad.main_arg1)
      ∧ r.2.mem ((c.tc : Thread Cert.NormGrad.nD Cert.NormGrad.τ).loc Cert.NormGrad.main_arg2) = m ((c.tc : Thread Cert.NormGrad.nD Cert.NormGrad.τ).loc Cert.NormGrad.main_arg2)
      ∧ r.2.mem ((c.tc : Thread Cert.NormGrad.nD Cert.NormGrad.τ).loc Cert.NormGrad.main_arg3) = m ((c.tc : Thread Cert.NormGrad.nD Cert.NormGrad.τ).loc Cert.NormGrad.main_arg3)
      ∧ r.2.mem ((c.tc : Thread Cert.NormGrad.nD Cert.NormGrad.τ).loc Cert.NormGrad.main_arg4) = m ((c.tc : Thread Cert.NormGrad.nD Cert.NormGrad.τ).loc Cert.NormGrad.main_arg4)
      ∧ r.2.mem ((c.tc : Thread Cert.NormGrad.nD Cert.NormGrad.τ).loc Cert.NormGrad.main_arg5) = m ((c.tc : Thread Cert.NormGrad.nD Cert.NormGrad.τ).loc Cert.NormGrad.main_arg5))
      ∧ r.2.sem = fun _ => 0)

def quiescent_NormGradIdeal [hNormGradIdeal : Cert.NormGradIdeal.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
      ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4)
      ∧ r.2.mem ((c.tc : Thread Cert.NormGradIdeal.nD Cert.NormGradIdeal.τ).loc Cert.NormGradIdeal.main_arg5) = m ((c.tc : Thread Cert.NormGradIdeal.nD Cert.NormGradIdeal.τ).loc Cert.NormGradIdeal.main_arg5))
      ∧ r.2.sem = fun _ => 0)

def quiescent_NormGradReferenceIdeal [hNormGradReferenceIdeal : Cert.NormGradReferenceIdeal.Facts] : Prop :=
  ∀ (m : (ℓ : Loc Cert.NormGradReferenceIdeal.nD Cert.NormGradReferenceIdeal.τ Cert.NormGradReferenceIdeal.sig) → Buf (Elt Ideal) ℓ) (g : Dev Cert.NormGradReferenceIdeal.nD → PrngReg), Pre_NormGradReferenceIdeal m →
    θ_run (Cert.NormGradReferenceIdeal.defs (F := Ideal)) (onTc (τ := Cert.NormGradReferenceIdeal.τ) (Cert.NormGradReferenceIdeal.main (F := Ideal))) ⟨m, fun _ => 0, g⟩ (fun r => (∀ c : Dev Cert.NormGradReferenceIdeal.nD,
      r.2.mem ((c.tc : Thread Cert.NormGradReferenceIdeal.nD Cert.NormGradReferenceIdeal.τ).loc Cert.NormGradReferenceIdeal.main_arg0) = m ((c.tc : Thread Cert.NormGradReferenceIdeal.nD Cert.NormGradReferenceIdeal.τ).loc Cert.NormGradReferenceIdeal.main_arg0)
      ∧ r.2.mem ((c.tc : Thread Cert.NormGradReferenceIdeal.nD Cert.NormGradReferenceIdeal.τ).loc Cert.NormGradReferenceIdeal.main_arg1) = m ((c.tc : Thread Cert.NormGradReferenceIdeal.nD Cert.NormGradReferenceIdeal.τ).loc Cert.NormGradReferenceIdeal.main_arg1)
      ∧ r.2.mem ((c.tc : Thread Cert.NormGradReferenceIdeal.nD Cert.NormGradReferenceIdeal.τ).loc Cert.NormGradReferenceIdeal.main_arg2) = m ((c.tc : Thread Cert.NormGradReferenceIdeal.nD Cert.NormGradReferenceIdeal.τ).loc Cert.NormGradReferenceIdeal.main_arg2)
      ∧ r.2.mem ((c.tc : Thread Cert.NormGradReferenceIdeal.nD Cert.NormGradReferenceIdeal.τ).loc Cert.NormGradReferenceIdeal.main_arg3) = m ((c.tc : Thread Cert.NormGradReferenceIdeal.nD Cert.NormGradReferenceIdeal.τ).loc Cert.NormGradReferenceIdeal.main_arg3)
      ∧ r.2.mem ((c.tc : Thread Cert.NormGradReferenceIdeal.nD Cert.NormGradReferenceIdeal.τ).loc Cert.NormGradReferenceIdeal.main_arg4) = m ((c.tc : Thread Cert.NormGradReferenceIdeal.nD Cert.NormGradReferenceIdeal.τ).loc Cert.NormGradReferenceIdeal.main_arg4)
      ∧ r.2.mem ((c.tc : Thread Cert.NormGradReferenceIdeal.nD Cert.NormGradReferenceIdeal.τ).loc Cert.NormGradReferenceIdeal.main_arg5) = m ((c.tc : Thread Cert.NormGradReferenceIdeal.nD Cert.NormGradReferenceIdeal.τ).loc Cert.NormGradReferenceIdeal.main_arg5))
      ∧ r.2.sem = fun _ => 0)

def quiescent_NormGate [hNormGate : Cert.NormGate.Facts] : Prop :=
  ∀ (m : (ℓ : Loc Cert.NormGate.nD Cert.NormGate.τ Cert.NormGate.sig) → Buf (Elt Bits) ℓ) (g : Dev Cert.NormGate.nD → PrngReg), Pre_NormGate m →
    θ_run (Cert.NormGate.defs (F := Bits)) (onTc (τ := Cert.NormGate.τ) (Cert.NormGate.main (F := Bits))) ⟨m, fun _ => 0, g⟩ (fun r => (∀ c : Dev Cert.NormGate.nD,
      r.2.mem ((c.tc : Thread Cert.NormGate.nD Cert.NormGate.τ).loc Cert.NormGate.main_arg0) = m ((c.tc : Thread Cert.NormGate.nD Cert.NormGate.τ).loc Cert.NormGate.main_arg0)
      ∧ r.2.mem ((c.tc : Thread Cert.NormGate.nD Cert.NormGate.τ).loc Cert.NormGate.main_arg1) = m ((c.tc : Thread Cert.NormGate.nD Cert.NormGate.τ).loc Cert.NormGate.main_arg1)
      ∧ r.2.mem ((c.tc : Thread Cert.NormGate.nD Cert.NormGate.τ).loc Cert.NormGate.main_arg2) = m ((c.tc : Thread Cert.NormGate.nD Cert.NormGate.τ).loc Cert.NormGate.main_arg2)
      ∧ r.2.mem ((c.tc : Thread Cert.NormGate.nD Cert.NormGate.τ).loc Cert.NormGate.main_arg3) = m ((c.tc : Thread Cert.NormGate.nD Cert.NormGate.τ).loc Cert.NormGate.main_arg3)
      ∧ r.2.mem ((c.tc : Thread Cert.NormGate.nD Cert.NormGate.τ).loc Cert.NormGate.main_arg4) = m ((c.tc : Thread Cert.NormGate.nD Cert.NormGate.τ).loc Cert.NormGate.main_arg4)
      ∧ r.2.mem ((c.tc : Thread Cert.NormGate.nD Cert.NormGate.τ).loc Cert.NormGate.main_arg5) = m ((c.tc : Thread Cert.NormGate.nD Cert.NormGate.τ).loc Cert.NormGate.main_arg5)
      ∧ r.2.mem ((c.tc : Thread Cert.NormGate.nD Cert.NormGate.τ).loc Cert.NormGate.main_arg6) = m ((c.tc : Thread Cert.NormGate.nD Cert.NormGate.τ).loc Cert.NormGate.main_arg6)
      ∧ r.2.mem ((c.tc : Thread Cert.NormGate.nD Cert.NormGate.τ).loc Cert.NormGate.main_arg7) = m ((c.tc : Thread Cert.NormGate.nD Cert.NormGate.τ).loc Cert.NormGate.main_arg7)
      ∧ r.2.mem ((c.tc : Thread Cert.NormGate.nD Cert.NormGate.τ).loc Cert.NormGate.main_arg8) = m ((c.tc : Thread Cert.NormGate.nD Cert.NormGate.τ).loc Cert.NormGate.main_arg8))
      ∧ r.2.sem = fun _ => 0)

def quiescent_NormGateIdeal [hNormGateIdeal : Cert.NormGateIdeal.Facts] : Prop :=
  ∀ (m : (ℓ : Loc Cert.NormGateIdeal.nD Cert.NormGateIdeal.τ Cert.NormGateIdeal.sig) → Buf (Elt Ideal) ℓ) (g : Dev Cert.NormGateIdeal.nD → PrngReg), Pre_NormGateIdeal m →
    θ_run (Cert.NormGateIdeal.defs (F := Ideal)) (onTc (τ := Cert.NormGateIdeal.τ) (Cert.NormGateIdeal.main (F := Ideal))) ⟨m, fun _ => 0, g⟩ (fun r => (∀ c : Dev Cert.NormGateIdeal.nD,
      r.2.mem ((c.tc : Thread Cert.NormGateIdeal.nD Cert.NormGateIdeal.τ).loc Cert.NormGateIdeal.main_arg0) = m ((c.tc : Thread Cert.NormGateIdeal.nD Cert.NormGateIdeal.τ).loc Cert.NormGateIdeal.main_arg0)
      ∧ r.2.mem ((c.tc : Thread Cert.NormGateIdeal.nD Cert.NormGateIdeal.τ).loc Cert.NormGateIdeal.main_arg1) = m ((c.tc : Thread Cert.NormGateIdeal.nD Cert.NormGateIdeal.τ).loc Cert.NormGateIdeal.main_arg1)
      ∧ r.2.mem ((c.tc : Thread Cert.NormGateIdeal.nD Cert.NormGateIdeal.τ).loc Cert.NormGateIdeal.main_arg2) = m ((c.tc : Thread Cert.NormGateIdeal.nD Cert.NormGateIdeal.τ).loc Cert.NormGateIdeal.main_arg2)
      ∧ r.2.mem ((c.tc : Thread Cert.NormGateIdeal.nD Cert.NormGateIdeal.τ).loc Cert.NormGateIdeal.main_arg3) = m ((c.tc : Thread Cert.NormGateIdeal.nD Cert.NormGateIdeal.τ).loc Cert.NormGateIdeal.main_arg3)
      ∧ r.2.mem ((c.tc : Thread Cert.NormGateIdeal.nD Cert.NormGateIdeal.τ).loc Cert.NormGateIdeal.main_arg4) = m ((c.tc : Thread Cert.NormGateIdeal.nD Cert.NormGateIdeal.τ).loc Cert.NormGateIdeal.main_arg4)
      ∧ r.2.mem ((c.tc : Thread Cert.NormGateIdeal.nD Cert.NormGateIdeal.τ).loc Cert.NormGateIdeal.main_arg5) = m ((c.tc : Thread Cert.NormGateIdeal.nD Cert.NormGateIdeal.τ).loc Cert.NormGateIdeal.main_arg5)
      ∧ r.2.mem ((c.tc : Thread Cert.NormGateIdeal.nD Cert.NormGateIdeal.τ).loc Cert.NormGateIdeal.main_arg6) = m ((c.tc : Thread Cert.NormGateIdeal.nD Cert.NormGateIdeal.τ).loc Cert.NormGateIdeal.main_arg6)
      ∧ r.2.mem ((c.tc : Thread Cert.NormGateIdeal.nD Cert.NormGateIdeal.τ).loc Cert.NormGateIdeal.main_arg7) = m ((c.tc : Thread Cert.NormGateIdeal.nD Cert.NormGateIdeal.τ).loc Cert.NormGateIdeal.main_arg7)
      ∧ r.2.mem ((c.tc : Thread Cert.NormGateIdeal.nD Cert.NormGateIdeal.τ).loc Cert.NormGateIdeal.main_arg8) = m ((c.tc : Thread Cert.NormGateIdeal.nD Cert.NormGateIdeal.τ).loc Cert.NormGateIdeal.main_arg8))
      ∧ r.2.sem = fun _ => 0)

def quiescent_NormGateReferenceIdeal [hNormGateReferenceIdeal : Cert.NormGateReferenceIdeal.Facts] : Prop :=
  ∀ (m : (ℓ : Loc Cert.NormGateReferenceIdeal.nD Cert.NormGateReferenceIdeal.τ Cert.NormGateReferenceIdeal.sig) → Buf (Elt Ideal) ℓ) (g : Dev Cert.NormGateReferenceIdeal.nD → PrngReg), Pre_NormGateReferenceIdeal m →
    θ_run (Cert.NormGateReferenceIdeal.defs (F := Ideal)) (onTc (τ := Cert.NormGateReferenceIdeal.τ) (Cert.NormGateReferenceIdeal.main (F := Ideal))) ⟨m, fun _ => 0, g⟩ (fun r => (∀ c : Dev Cert.NormGateReferenceIdeal.nD,
      r.2.mem ((c.tc : Thread Cert.NormGateReferenceIdeal.nD Cert.NormGateReferenceIdeal.τ).loc Cert.NormGateReferenceIdeal.main_arg0) = m ((c.tc : Thread Cert.NormGateReferenceIdeal.nD Cert.NormGateReferenceIdeal.τ).loc Cert.NormGateReferenceIdeal.main_arg0)
      ∧ r.2.mem ((c.tc : Thread Cert.NormGateReferenceIdeal.nD Cert.NormGateReferenceIdeal.τ).loc Cert.NormGateReferenceIdeal.main_arg1) = m ((c.tc : Thread Cert.NormGateReferenceIdeal.nD Cert.NormGateReferenceIdeal.τ).loc Cert.NormGateReferenceIdeal.main_arg1)
      ∧ r.2.mem ((c.tc : Thread Cert.NormGateReferenceIdeal.nD Cert.NormGateReferenceIdeal.τ).loc Cert.NormGateReferenceIdeal.main_arg2) = m ((c.tc : Thread Cert.NormGateReferenceIdeal.nD Cert.NormGateReferenceIdeal.τ).loc Cert.NormGateReferenceIdeal.main_arg2)
      ∧ r.2.mem ((c.tc : Thread Cert.NormGateReferenceIdeal.nD Cert.NormGateReferenceIdeal.τ).loc Cert.NormGateReferenceIdeal.main_arg3) = m ((c.tc : Thread Cert.NormGateReferenceIdeal.nD Cert.NormGateReferenceIdeal.τ).loc Cert.NormGateReferenceIdeal.main_arg3)
      ∧ r.2.mem ((c.tc : Thread Cert.NormGateReferenceIdeal.nD Cert.NormGateReferenceIdeal.τ).loc Cert.NormGateReferenceIdeal.main_arg4) = m ((c.tc : Thread Cert.NormGateReferenceIdeal.nD Cert.NormGateReferenceIdeal.τ).loc Cert.NormGateReferenceIdeal.main_arg4)
      ∧ r.2.mem ((c.tc : Thread Cert.NormGateReferenceIdeal.nD Cert.NormGateReferenceIdeal.τ).loc Cert.NormGateReferenceIdeal.main_arg5) = m ((c.tc : Thread Cert.NormGateReferenceIdeal.nD Cert.NormGateReferenceIdeal.τ).loc Cert.NormGateReferenceIdeal.main_arg5)
      ∧ r.2.mem ((c.tc : Thread Cert.NormGateReferenceIdeal.nD Cert.NormGateReferenceIdeal.τ).loc Cert.NormGateReferenceIdeal.main_arg6) = m ((c.tc : Thread Cert.NormGateReferenceIdeal.nD Cert.NormGateReferenceIdeal.τ).loc Cert.NormGateReferenceIdeal.main_arg6)
      ∧ r.2.mem ((c.tc : Thread Cert.NormGateReferenceIdeal.nD Cert.NormGateReferenceIdeal.τ).loc Cert.NormGateReferenceIdeal.main_arg7) = m ((c.tc : Thread Cert.NormGateReferenceIdeal.nD Cert.NormGateReferenceIdeal.τ).loc Cert.NormGateReferenceIdeal.main_arg7)
      ∧ r.2.mem ((c.tc : Thread Cert.NormGateReferenceIdeal.nD Cert.NormGateReferenceIdeal.τ).loc Cert.NormGateReferenceIdeal.main_arg8) = m ((c.tc : Thread Cert.NormGateReferenceIdeal.nD Cert.NormGateReferenceIdeal.τ).loc Cert.NormGateReferenceIdeal.main_arg8))
      ∧ r.2.sem = fun _ => 0)

def preserves_Kernel_KernelIdeal : Prop :=
  IdealRules.named_const.Statement Cert.KernelIdeal.κ "rsqrt_2" .f32 0x3F3504F3#32 (((Real.sqrt 2)⁻¹ : ℝ) : EReal)
  ∧ IdealRules.named_const.Statement Cert.KernelIdeal.κ "rsqrt_2pi" .f32 0x3ECC422A#32 (((Real.sqrt (2 * Real.pi))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_v2_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_v155) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_v89) = v3 c
          ∧ r.2.mem ((c.tc : Thread Cert.ReferenceIdeal.nD Cert.ReferenceIdeal.τ).loc Cert.ReferenceIdeal.main_v151) = v4 c
          ∧ r.2.mem ((c.tc : Thread Cert.ReferenceIdeal.nD Cert.ReferenceIdeal.τ).loc Cert.ReferenceIdeal.main_v150) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_WeightGrad_WeightGradIdeal : Prop :=
  True

def algebraic_WeightGradIdeal_WeightGradReferenceIdeal [hWeightGradIdeal : Cert.WeightGradIdeal.Facts] [hWeightGradReferenceIdeal : Cert.WeightGradReferenceIdeal.Facts] : Prop :=
  ∀ (m : (ℓ : Loc Cert.WeightGradIdeal.nD Cert.WeightGradIdeal.τ Cert.WeightGradIdeal.sig) → Buf (Elt Ideal) ℓ) (g : Dev Cert.WeightGradIdeal.nD → PrngReg)
    (m' : (ℓ : Loc Cert.WeightGradReferenceIdeal.nD Cert.WeightGradReferenceIdeal.τ Cert.WeightGradReferenceIdeal.sig) → Buf (Elt Ideal) ℓ) (g' : Dev Cert.WeightGradReferenceIdeal.nD → PrngReg), Pre_WeightGradIdeal m →
    (∀ c : Dev Cert.WeightGradIdeal.nD,
      m' ((c.tc : Thread Cert.WeightGradReferenceIdeal.nD Cert.WeightGradReferenceIdeal.τ).loc Cert.WeightGradReferenceIdeal.main_arg0) = m ((c.tc : Thread Cert.WeightGradIdeal.nD Cert.WeightGradIdeal.τ).loc Cert.WeightGradIdeal.main_arg0)
      ∧ m' ((c.tc : Thread Cert.WeightGradReferenceIdeal.nD Cert.WeightGradReferenceIdeal.τ).loc Cert.WeightGradReferenceIdeal.main_arg1) = m ((c.tc : Thread Cert.WeightGradIdeal.nD Cert.WeightGradIdeal.τ).loc Cert.WeightGradIdeal.main_arg1)) →
    ∃ (v0 : (c : Dev Cert.WeightGradIdeal.nD) → Buf (Elt Ideal) ((c.tc : Thread Cert.WeightGradIdeal.nD Cert.WeightGradIdeal.τ).loc Cert.WeightGradIdeal.main_v0)),
      θ_run (Cert.WeightGradIdeal.defs (F := Ideal)) (onTc (τ := Cert.WeightGradIdeal.τ) (Cert.WeightGradIdeal.main (F := Ideal))) ⟨m, fun _ => 0, g⟩ (fun r => ∀ c : Dev Cert.WeightGradIdeal.nD,
          r.2.mem ((c.tc : Thread Cert.WeightGradIdeal.nD Cert.WeightGradIdeal.τ).loc Cert.WeightGradIdeal.main_v0) = v0 c
          ∧ r.2.mem ((c.tc : Thread Cert.WeightGradIdeal.nD Cert.WeightGradIdeal.τ).loc Cert.WeightGradIdeal.main_arg0) = m ((c.tc : Thread Cert.WeightGradIdeal.nD Cert.WeightGradIdeal.τ).loc Cert.WeightGradIdeal.main_arg0)
          ∧ r.2.mem ((c.tc : Thread Cert.WeightGradIdeal.nD Cert.WeightGradIdeal.τ).loc Cert.WeightGradIdeal.main_arg1) = m ((c.tc : Thread Cert.WeightGradIdeal.nD Cert.WeightGradIdeal.τ).loc Cert.WeightGradIdeal.main_arg1))
      ∧ θ_run (Cert.WeightGradReferenceIdeal.defs (F := Ideal)) (onTc (τ := Cert.WeightGradReferenceIdeal.τ) (Cert.WeightGradReferenceIdeal.main (F := Ideal))) ⟨m', fun _ => 0, g'⟩ (fun r => ∀ c : Dev Cert.WeightGradReferenceIdeal.nD,
          r.2.mem ((c.tc : Thread Cert.WeightGradReferenceIdeal.nD Cert.WeightGradReferenceIdeal.τ).loc Cert.WeightGradReferenceIdeal.main_v8) = v0 c
          ∧ r.2.mem ((c.tc : Thread Cert.WeightGradReferenceIdeal.nD Cert.WeightGradReferenceIdeal.τ).loc Cert.WeightGradReferenceIdeal.main_arg0) = m' ((c.tc : Thread Cert.WeightGradReferenceIdeal.nD Cert.WeightGradReferenceIdeal.τ).loc Cert.WeightGradReferenceIdeal.main_arg0)
          ∧ r.2.mem ((c.tc : Thread Cert.WeightGradReferenceIdeal.nD Cert.WeightGradReferenceIdeal.τ).loc Cert.WeightGradReferenceIdeal.main_arg1) = m' ((c.tc : Thread Cert.WeightGradReferenceIdeal.nD Cert.WeightGradReferenceIdeal.τ).loc Cert.WeightGradReferenceIdeal.main_arg1))

def preserves_InputGrad_InputGradIdeal : Prop :=
  True

def algebraic_InputGradIdeal_InputGradReferenceIdeal [hInputGradIdeal : Cert.InputGradIdeal.Facts] [hInputGradReferenceIdeal : Cert.InputGradReferenceIdeal.Facts] : Prop :=
  ∀ (m : (ℓ : Loc Cert.InputGradIdeal.nD Cert.InputGradIdeal.τ Cert.InputGradIdeal.sig) → Buf (Elt Ideal) ℓ) (g : Dev Cert.InputGradIdeal.nD → PrngReg)
    (m' : (ℓ : Loc Cert.InputGradReferenceIdeal.nD Cert.InputGradReferenceIdeal.τ Cert.InputGradReferenceIdeal.sig) → Buf (Elt Ideal) ℓ) (g' : Dev Cert.InputGradReferenceIdeal.nD → PrngReg), Pre_InputGradIdeal m →
    (∀ c : Dev Cert.InputGradIdeal.nD,
      m' ((c.tc : Thread Cert.InputGradReferenceIdeal.nD Cert.InputGradReferenceIdeal.τ).loc Cert.InputGradReferenceIdeal.main_arg0) = m ((c.tc : Thread Cert.InputGradIdeal.nD Cert.InputGradIdeal.τ).loc Cert.InputGradIdeal.main_arg0)
      ∧ m' ((c.tc : Thread Cert.InputGradReferenceIdeal.nD Cert.InputGradReferenceIdeal.τ).loc Cert.InputGradReferenceIdeal.main_arg1) = m ((c.tc : Thread Cert.InputGradIdeal.nD Cert.InputGradIdeal.τ).loc Cert.InputGradIdeal.main_arg1)
      ∧ m' ((c.tc : Thread Cert.InputGradReferenceIdeal.nD Cert.InputGradReferenceIdeal.τ).loc Cert.InputGradReferenceIdeal.main_arg2) = m ((c.tc : Thread Cert.InputGradIdeal.nD Cert.InputGradIdeal.τ).loc Cert.InputGradIdeal.main_arg2)
      ∧ m' ((c.tc : Thread Cert.InputGradReferenceIdeal.nD Cert.InputGradReferenceIdeal.τ).loc Cert.InputGradReferenceIdeal.main_arg3) = m ((c.tc : Thread Cert.InputGradIdeal.nD Cert.InputGradIdeal.τ).loc Cert.InputGradIdeal.main_arg3)) →
    ∃ (v0 : (c : Dev Cert.InputGradIdeal.nD) → Buf (Elt Ideal) ((c.tc : Thread Cert.InputGradIdeal.nD Cert.InputGradIdeal.τ).loc Cert.InputGradIdeal.main_v0)),
      θ_run (Cert.InputGradIdeal.defs (F := Ideal)) (onTc (τ := Cert.InputGradIdeal.τ) (Cert.InputGradIdeal.main (F := Ideal))) ⟨m, fun _ => 0, g⟩ (fun r => ∀ c : Dev Cert.InputGradIdeal.nD,
          r.2.mem ((c.tc : Thread Cert.InputGradIdeal.nD Cert.InputGradIdeal.τ).loc Cert.InputGradIdeal.main_v0) = v0 c
          ∧ r.2.mem ((c.tc : Thread Cert.InputGradIdeal.nD Cert.InputGradIdeal.τ).loc Cert.InputGradIdeal.main_arg0) = m ((c.tc : Thread Cert.InputGradIdeal.nD Cert.InputGradIdeal.τ).loc Cert.InputGradIdeal.main_arg0)
          ∧ r.2.mem ((c.tc : Thread Cert.InputGradIdeal.nD Cert.InputGradIdeal.τ).loc Cert.InputGradIdeal.main_arg1) = m ((c.tc : Thread Cert.InputGradIdeal.nD Cert.InputGradIdeal.τ).loc Cert.InputGradIdeal.main_arg1)
          ∧ r.2.mem ((c.tc : Thread Cert.InputGradIdeal.nD Cert.InputGradIdeal.τ).loc Cert.InputGradIdeal.main_arg2) = m ((c.tc : Thread Cert.InputGradIdeal.nD Cert.InputGradIdeal.τ).loc Cert.InputGradIdeal.main_arg2)
          ∧ r.2.mem ((c.tc : Thread Cert.InputGradIdeal.nD Cert.InputGradIdeal.τ).loc Cert.InputGradIdeal.main_arg3) = m ((c.tc : Thread Cert.InputGradIdeal.nD Cert.InputGradIdeal.τ).loc Cert.InputGradIdeal.main_arg3))
      ∧ θ_run (Cert.InputGradReferenceIdeal.defs (F := Ideal)) (onTc (τ := Cert.InputGradReferenceIdeal.τ) (Cert.InputGradReferenceIdeal.main (F := Ideal))) ⟨m', fun _ => 0, g'⟩ (fun r => ∀ c : Dev Cert.InputGradReferenceIdeal.nD,
          r.2.mem ((c.tc : Thread Cert.InputGradReferenceIdeal.nD Cert.InputGradReferenceIdeal.τ).loc Cert.InputGradReferenceIdeal.main_v11) = v0 c
          ∧ r.2.mem ((c.tc : Thread Cert.InputGradReferenceIdeal.nD Cert.InputGradReferenceIdeal.τ).loc Cert.InputGradReferenceIdeal.main_arg0) = m' ((c.tc : Thread Cert.InputGradReferenceIdeal.nD Cert.InputGradReferenceIdeal.τ).loc Cert.InputGradReferenceIdeal.main_arg0)
          ∧ r.2.mem ((c.tc : Thread Cert.InputGradReferenceIdeal.nD Cert.InputGradReferenceIdeal.τ).loc Cert.InputGradReferenceIdeal.main_arg1) = m' ((c.tc : Thread Cert.InputGradReferenceIdeal.nD Cert.InputGradReferenceIdeal.τ).loc Cert.InputGradReferenceIdeal.main_arg1)
          ∧ r.2.mem ((c.tc : Thread Cert.InputGradReferenceIdeal.nD Cert.InputGradReferenceIdeal.τ).loc Cert.InputGradReferenceIdeal.main_arg2) = m' ((c.tc : Thread Cert.InputGradReferenceIdeal.nD Cert.InputGradReferenceIdeal.τ).loc Cert.InputGradReferenceIdeal.main_arg2)
          ∧ r.2.mem ((c.tc : Thread Cert.InputGradReferenceIdeal.nD Cert.InputGradReferenceIdeal.τ).loc Cert.InputGradReferenceIdeal.main_arg3) = m' ((c.tc : Thread Cert.InputGradReferenceIdeal.nD Cert.InputGradReferenceIdeal.τ).loc Cert.InputGradReferenceIdeal.main_arg3))

def preserves_ActGrad_ActGradIdeal : Prop :=
  True

def algebraic_ActGradIdeal_ActGradReferenceIdeal_pre_dact_finite [hActGradIdeal : Cert.ActGradIdeal.Facts] [hActGradReferenceIdeal : Cert.ActGradReferenceIdeal.Facts] [hPre_dact_finite : Cert.Pre_dact_finite.Facts] : Prop :=
  ∀ (m : (ℓ : Loc Cert.ActGradIdeal.nD Cert.ActGradIdeal.τ Cert.ActGradIdeal.sig) → Buf (Elt Ideal) ℓ) (g : Dev Cert.ActGradIdeal.nD → PrngReg)
    (m' : (ℓ : Loc Cert.ActGradReferenceIdeal.nD Cert.ActGradReferenceIdeal.τ Cert.ActGradReferenceIdeal.sig) → Buf (Elt Ideal) ℓ) (g' : Dev Cert.ActGradReferenceIdeal.nD → PrngReg), Pre_ActGradIdeal_dact_finite m →
    (∀ c : Dev Cert.ActGradIdeal.nD,
      m' ((c.tc : Thread Cert.ActGradReferenceIdeal.nD Cert.ActGradReferenceIdeal.τ).loc Cert.ActGradReferenceIdeal.main_arg0) = m ((c.tc : Thread Cert.ActGradIdeal.nD Cert.ActGradIdeal.τ).loc Cert.ActGradIdeal.main_arg0)
      ∧ m' ((c.tc : Thread Cert.ActGradReferenceIdeal.nD Cert.ActGradReferenceIdeal.τ).loc Cert.ActGradReferenceIdeal.main_arg1) = m ((c.tc : Thread Cert.ActGradIdeal.nD Cert.ActGradIdeal.τ).loc Cert.ActGradIdeal.main_arg1)
      ∧ m' ((c.tc : Thread Cert.ActGradReferenceIdeal.nD Cert.ActGradReferenceIdeal.τ).loc Cert.ActGradReferenceIdeal.main_arg2) = m ((c.tc : Thread Cert.ActGradIdeal.nD Cert.ActGradIdeal.τ).loc Cert.ActGradIdeal.main_arg2)
      ∧ m' ((c.tc : Thread Cert.ActGradReferenceIdeal.nD Cert.ActGradReferenceIdeal.τ).loc Cert.ActGradReferenceIdeal.main_arg3) = m ((c.tc : Thread Cert.ActGradIdeal.nD Cert.ActGradIdeal.τ).loc Cert.ActGradIdeal.main_arg3)) →
    ∃ (v0 : (c : Dev Cert.ActGradIdeal.nD) → Buf (Elt Ideal) ((c.tc : Thread Cert.ActGradIdeal.nD Cert.ActGradIdeal.τ).loc Cert.ActGradIdeal.main_v0_0)) (v1 : (c : Dev Cert.ActGradIdeal.nD) → Buf (Elt Ideal) ((c.tc : Thread Cert.ActGradIdeal.nD Cert.ActGradIdeal.τ).loc Cert.ActGradIdeal.main_v0_1)),
      θ_run (Cert.ActGradIdeal.defs (F := Ideal)) (onTc (τ := Cert.ActGradIdeal.τ) (Cert.ActGradIdeal.main (F := Ideal))) ⟨m, fun _ => 0, g⟩ (fun r => ∀ c : Dev Cert.ActGradIdeal.nD,
          r.2.mem ((c.tc : Thread Cert.ActGradIdeal.nD Cert.ActGradIdeal.τ).loc Cert.ActGradIdeal.main_v0_0) = v0 c
          ∧ r.2.mem ((c.tc : Thread Cert.ActGradIdeal.nD Cert.ActGradIdeal.τ).loc Cert.ActGradIdeal.main_v0_1) = v1 c
          ∧ r.2.mem ((c.tc : Thread Cert.ActGradIdeal.nD Cert.ActGradIdeal.τ).loc Cert.ActGradIdeal.main_arg0) = m ((c.tc : Thread Cert.ActGradIdeal.nD Cert.ActGradIdeal.τ).loc Cert.ActGradIdeal.main_arg0)
          ∧ r.2.mem ((c.tc : Thread Cert.ActGradIdeal.nD Cert.ActGradIdeal.τ).loc Cert.ActGradIdeal.main_arg1) = m ((c.tc : Thread Cert.ActGradIdeal.nD Cert.ActGradIdeal.τ).loc Cert.ActGradIdeal.main_arg1)
          ∧ r.2.mem ((c.tc : Thread Cert.ActGradIdeal.nD Cert.ActGradIdeal.τ).loc Cert.ActGradIdeal.main_arg2) = m ((c.tc : Thread Cert.ActGradIdeal.nD Cert.ActGradIdeal.τ).loc Cert.ActGradIdeal.main_arg2)
          ∧ r.2.mem ((c.tc : Thread Cert.ActGradIdeal.nD Cert.ActGradIdeal.τ).loc Cert.ActGradIdeal.main_arg3) = m ((c.tc : Thread Cert.ActGradIdeal.nD Cert.ActGradIdeal.τ).loc Cert.ActGradIdeal.main_arg3))
      ∧ θ_run (Cert.ActGradReferenceIdeal.defs (F := Ideal)) (onTc (τ := Cert.ActGradReferenceIdeal.τ) (Cert.ActGradReferenceIdeal.main (F := Ideal))) ⟨m', fun _ => 0, g'⟩ (fun r => ∀ c : Dev Cert.ActGradReferenceIdeal.nD,
          r.2.mem ((c.tc : Thread Cert.ActGradReferenceIdeal.nD Cert.ActGradReferenceIdeal.τ).loc Cert.ActGradReferenceIdeal.main_v11) = v0 c
          ∧ r.2.mem ((c.tc : Thread Cert.ActGradReferenceIdeal.nD Cert.ActGradReferenceIdeal.τ).loc Cert.ActGradReferenceIdeal.main_v12) = v1 c
          ∧ r.2.mem ((c.tc : Thread Cert.ActGradReferenceIdeal.nD Cert.ActGradReferenceIdeal.τ).loc Cert.ActGradReferenceIdeal.main_arg0) = m' ((c.tc : Thread Cert.ActGradReferenceIdeal.nD Cert.ActGradReferenceIdeal.τ).loc Cert.ActGradReferenceIdeal.main_arg0)
          ∧ r.2.mem ((c.tc : Thread Cert.ActGradReferenceIdeal.nD Cert.ActGradReferenceIdeal.τ).loc Cert.ActGradReferenceIdeal.main_arg1) = m' ((c.tc : Thread Cert.ActGradReferenceIdeal.nD Cert.ActGradReferenceIdeal.τ).loc Cert.ActGradReferenceIdeal.main_arg1)
          ∧ r.2.mem ((c.tc : Thread Cert.ActGradReferenceIdeal.nD Cert.ActGradReferenceIdeal.τ).loc Cert.ActGradReferenceIdeal.main_arg2) = m' ((c.tc : Thread Cert.ActGradReferenceIdeal.nD Cert.ActGradReferenceIdeal.τ).loc Cert.ActGradReferenceIdeal.main_arg2)
          ∧ r.2.mem ((c.tc : Thread Cert.ActGradReferenceIdeal.nD Cert.ActGradReferenceIdeal.τ).loc Cert.ActGradReferenceIdeal.main_arg3) = m' ((c.tc : Thread Cert.ActGradReferenceIdeal.nD Cert.ActGradReferenceIdeal.τ).loc Cert.ActGradReferenceIdeal.main_arg3))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)) (v2 : (c : Dev Cert.UpIdeal.nD) → Buf (Elt Ideal) ((c.tc : Thread Cert.UpIdeal.nD Cert.UpIdeal.τ).loc Cert.UpIdeal.main_v0_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_v0_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v7) = v0 c
          ∧ r.2.mem ((c.tc : Thread Cert.UpReferenceIdeal.nD Cert.UpReferenceIdeal.τ).loc Cert.UpReferenceIdeal.main_v8) = v1 c
          ∧ r.2.mem ((c.tc : Thread Cert.UpReferenceIdeal.nD Cert.UpReferenceIdeal.τ).loc Cert.UpReferenceIdeal.main_v11) = v2 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2))

def preserves_OutGrad1_OutGrad1Ideal : Prop :=
  True

def algebraic_OutGrad1Ideal_OutGrad1ReferenceIdeal [hOutGrad1Ideal : Cert.OutGrad1Ideal.Facts] [hOutGrad1ReferenceIdeal : Cert.OutGrad1ReferenceIdeal.Facts] : Prop :=
  ∀ (m : (ℓ : Loc Cert.OutGrad1Ideal.nD Cert.OutGrad1Ideal.τ Cert.OutGrad1Ideal.sig) → Buf (Elt Ideal) ℓ) (g : Dev Cert.OutGrad1Ideal.nD → PrngReg)
    (m' : (ℓ : Loc Cert.OutGrad1ReferenceIdeal.nD Cert.OutGrad1ReferenceIdeal.τ Cert.OutGrad1ReferenceIdeal.sig) → Buf (Elt Ideal) ℓ) (g' : Dev Cert.OutGrad1ReferenceIdeal.nD → PrngReg), Pre_OutGrad1Ideal m →
    (∀ c : Dev Cert.OutGrad1Ideal.nD,
      m' ((c.tc : Thread Cert.OutGrad1ReferenceIdeal.nD Cert.OutGrad1ReferenceIdeal.τ).loc Cert.OutGrad1ReferenceIdeal.main_arg0) = m ((c.tc : Thread Cert.OutGrad1Ideal.nD Cert.OutGrad1Ideal.τ).loc Cert.OutGrad1Ideal.main_arg0)
      ∧ m' ((c.tc : Thread Cert.OutGrad1ReferenceIdeal.nD Cert.OutGrad1ReferenceIdeal.τ).loc Cert.OutGrad1ReferenceIdeal.main_arg1) = m ((c.tc : Thread Cert.OutGrad1Ideal.nD Cert.OutGrad1Ideal.τ).loc Cert.OutGrad1Ideal.main_arg1)) →
    ∃ (v0 : (c : Dev Cert.OutGrad1Ideal.nD) → Buf (Elt Ideal) ((c.tc : Thread Cert.OutGrad1Ideal.nD Cert.OutGrad1Ideal.τ).loc Cert.OutGrad1Ideal.main_v0)),
      θ_run (Cert.OutGrad1Ideal.defs (F := Ideal)) (onTc (τ := Cert.OutGrad1Ideal.τ) (Cert.OutGrad1Ideal.main (F := Ideal))) ⟨m, fun _ => 0, g⟩ (fun r => ∀ c : Dev Cert.OutGrad1Ideal.nD,
          r.2.mem ((c.tc : Thread Cert.OutGrad1Ideal.nD Cert.OutGrad1Ideal.τ).loc Cert.OutGrad1Ideal.main_v0) = v0 c
          ∧ r.2.mem ((c.tc : Thread Cert.OutGrad1Ideal.nD Cert.OutGrad1Ideal.τ).loc Cert.OutGrad1Ideal.main_arg0) = m ((c.tc : Thread Cert.OutGrad1Ideal.nD Cert.OutGrad1Ideal.τ).loc Cert.OutGrad1Ideal.main_arg0)
          ∧ r.2.mem ((c.tc : Thread Cert.OutGrad1Ideal.nD Cert.OutGrad1Ideal.τ).loc Cert.OutGrad1Ideal.main_arg1) = m ((c.tc : Thread Cert.OutGrad1Ideal.nD Cert.OutGrad1Ideal.τ).loc Cert.OutGrad1Ideal.main_arg1))
      ∧ θ_run (Cert.OutGrad1ReferenceIdeal.defs (F := Ideal)) (onTc (τ := Cert.OutGrad1ReferenceIdeal.τ) (Cert.OutGrad1ReferenceIdeal.main (F := Ideal))) ⟨m', fun _ => 0, g'⟩ (fun r => ∀ c : Dev Cert.OutGrad1ReferenceIdeal.nD,
          r.2.mem ((c.tc : Thread Cert.OutGrad1ReferenceIdeal.nD Cert.OutGrad1ReferenceIdeal.τ).loc Cert.OutGrad1ReferenceIdeal.main_v4) = v0 c
          ∧ r.2.mem ((c.tc : Thread Cert.OutGrad1ReferenceIdeal.nD Cert.OutGrad1ReferenceIdeal.τ).loc Cert.OutGrad1ReferenceIdeal.main_arg0) = m' ((c.tc : Thread Cert.OutGrad1ReferenceIdeal.nD Cert.OutGrad1ReferenceIdeal.τ).loc Cert.OutGrad1ReferenceIdeal.main_arg0)
          ∧ r.2.mem ((c.tc : Thread Cert.OutGrad1ReferenceIdeal.nD Cert.OutGrad1ReferenceIdeal.τ).loc Cert.OutGrad1ReferenceIdeal.main_arg1) = m' ((c.tc : Thread Cert.OutGrad1ReferenceIdeal.nD Cert.OutGrad1ReferenceIdeal.τ).loc Cert.OutGrad1ReferenceIdeal.main_arg1))

def preserves_OutWeight1_OutWeight1Ideal : Prop :=
  True

def algebraic_OutWeight1Ideal_OutWeight1ReferenceIdeal [hOutWeight1Ideal : Cert.OutWeight1Ideal.Facts] [hOutWeight1ReferenceIdeal : Cert.OutWeight1ReferenceIdeal.Facts] : Prop :=
  ∀ (m : (ℓ : Loc Cert.OutWeight1Ideal.nD Cert.OutWeight1Ideal.τ Cert.OutWeight1Ideal.sig) → Buf (Elt Ideal) ℓ) (g : Dev Cert.OutWeight1Ideal.nD → PrngReg)
    (m' : (ℓ : Loc Cert.OutWeight1ReferenceIdeal.nD Cert.OutWeight1ReferenceIdeal.τ Cert.OutWeight1ReferenceIdeal.sig) → Buf (Elt Ideal) ℓ) (g' : Dev Cert.OutWeight1ReferenceIdeal.nD → PrngReg), Pre_OutWeight1Ideal m →
    (∀ c : Dev Cert.OutWeight1Ideal.nD,
      m' ((c.tc : Thread Cert.OutWeight1ReferenceIdeal.nD Cert.OutWeight1ReferenceIdeal.τ).loc Cert.OutWeight1ReferenceIdeal.main_arg0) = m ((c.tc : Thread Cert.OutWeight1Ideal.nD Cert.OutWeight1Ideal.τ).loc Cert.OutWeight1Ideal.main_arg0)
      ∧ m' ((c.tc : Thread Cert.OutWeight1ReferenceIdeal.nD Cert.OutWeight1ReferenceIdeal.τ).loc Cert.OutWeight1ReferenceIdeal.main_arg1) = m ((c.tc : Thread Cert.OutWeight1Ideal.nD Cert.OutWeight1Ideal.τ).loc Cert.OutWeight1Ideal.main_arg1)) →
    ∃ (v0 : (c : Dev Cert.OutWeight1Ideal.nD) → Buf (Elt Ideal) ((c.tc : Thread Cert.OutWeight1Ideal.nD Cert.OutWeight1Ideal.τ).loc Cert.OutWeight1Ideal.main_v0)),
      θ_run (Cert.OutWeight1Ideal.defs (F := Ideal)) (onTc (τ := Cert.OutWeight1Ideal.τ) (Cert.OutWeight1Ideal.main (F := Ideal))) ⟨m, fun _ => 0, g⟩ (fun r => ∀ c : Dev Cert.OutWeight1Ideal.nD,
          r.2.mem ((c.tc : Thread Cert.OutWeight1Ideal.nD Cert.OutWeight1Ideal.τ).loc Cert.OutWeight1Ideal.main_v0) = v0 c
          ∧ r.2.mem ((c.tc : Thread Cert.OutWeight1Ideal.nD Cert.OutWeight1Ideal.τ).loc Cert.OutWeight1Ideal.main_arg0) = m ((c.tc : Thread Cert.OutWeight1Ideal.nD Cert.OutWeight1Ideal.τ).loc Cert.OutWeight1Ideal.main_arg0)
          ∧ r.2.mem ((c.tc : Thread Cert.OutWeight1Ideal.nD Cert.OutWeight1Ideal.τ).loc Cert.OutWeight1Ideal.main_arg1) = m ((c.tc : Thread Cert.OutWeight1Ideal.nD Cert.OutWeight1Ideal.τ).loc Cert.OutWeight1Ideal.main_arg1))
      ∧ θ_run (Cert.OutWeight1ReferenceIdeal.defs (F := Ideal)) (onTc (τ := Cert.OutWeight1ReferenceIdeal.τ) (Cert.OutWeight1ReferenceIdeal.main (F := Ideal))) ⟨m', fun _ => 0, g'⟩ (fun r => ∀ c : Dev Cert.OutWeight1ReferenceIdeal.nD,
          r.2.mem ((c.tc : Thread Cert.OutWeight1ReferenceIdeal.nD Cert.OutWeight1ReferenceIdeal.τ).loc Cert.OutWeight1ReferenceIdeal.main_v6) = v0 c
          ∧ r.2.mem ((c.tc : Thread Cert.OutWeight1ReferenceIdeal.nD Cert.OutWeight1ReferenceIdeal.τ).loc Cert.OutWeight1ReferenceIdeal.main_arg0) = m' ((c.tc : Thread Cert.OutWeight1ReferenceIdeal.nD Cert.OutWeight1ReferenceIdeal.τ).loc Cert.OutWeight1ReferenceIdeal.main_arg0)
          ∧ r.2.mem ((c.tc : Thread Cert.OutWeight1ReferenceIdeal.nD Cert.OutWeight1ReferenceIdeal.τ).loc Cert.OutWeight1ReferenceIdeal.main_arg1) = m' ((c.tc : Thread Cert.OutWeight1ReferenceIdeal.nD Cert.OutWeight1ReferenceIdeal.τ).loc Cert.OutWeight1ReferenceIdeal.main_arg1))

def preserves_QkvGrad_QkvGradIdeal : Prop :=
  True

def algebraic_QkvGradIdeal_QkvGradReferenceIdeal [hQkvGradIdeal : Cert.QkvGradIdeal.Facts] [hQkvGradReferenceIdeal : Cert.QkvGradReferenceIdeal.Facts] : Prop :=
  ∀ (m : (ℓ : Loc Cert.QkvGradIdeal.nD Cert.QkvGradIdeal.τ Cert.QkvGradIdeal.sig) → Buf (Elt Ideal) ℓ) (g : Dev Cert.QkvGradIdeal.nD → PrngReg)
    (m' : (ℓ : Loc Cert.QkvGradReferenceIdeal.nD Cert.QkvGradReferenceIdeal.τ Cert.QkvGradReferenceIdeal.sig) → Buf (Elt Ideal) ℓ) (g' : Dev Cert.QkvGradReferenceIdeal.nD → PrngReg), Pre_QkvGradIdeal m →
    (∀ c : Dev Cert.QkvGradIdeal.nD,
      m' ((c.tc : Thread Cert.QkvGradReferenceIdeal.nD Cert.QkvGradReferenceIdeal.τ).loc Cert.QkvGradReferenceIdeal.main_arg0) = m ((c.tc : Thread Cert.QkvGradIdeal.nD Cert.QkvGradIdeal.τ).loc Cert.QkvGradIdeal.main_arg0)
      ∧ m' ((c.tc : Thread Cert.QkvGradReferenceIdeal.nD Cert.QkvGradReferenceIdeal.τ).loc Cert.QkvGradReferenceIdeal.main_arg1) = m ((c.tc : Thread Cert.QkvGradIdeal.nD Cert.QkvGradIdeal.τ).loc Cert.QkvGradIdeal.main_arg1)
      ∧ m' ((c.tc : Thread Cert.QkvGradReferenceIdeal.nD Cert.QkvGradReferenceIdeal.τ).loc Cert.QkvGradReferenceIdeal.main_arg2) = m ((c.tc : Thread Cert.QkvGradIdeal.nD Cert.QkvGradIdeal.τ).loc Cert.QkvGradIdeal.main_arg2)) →
    ∃ (v0 : (c : Dev Cert.QkvGradIdeal.nD) → Buf (Elt Ideal) ((c.tc : Thread Cert.QkvGradIdeal.nD Cert.QkvGradIdeal.τ).loc Cert.QkvGradIdeal.main_v2)),
      θ_run (Cert.QkvGradIdeal.defs (F := Ideal)) (onTc (τ := Cert.QkvGradIdeal.τ) (Cert.QkvGradIdeal.main (F := Ideal))) ⟨m, fun _ => 0, g⟩ (fun r => ∀ c : Dev Cert.QkvGradIdeal.nD,
          r.2.mem ((c.tc : Thread Cert.QkvGradIdeal.nD Cert.QkvGradIdeal.τ).loc Cert.QkvGradIdeal.main_v2) = v0 c
          ∧ r.2.mem ((c.tc : Thread Cert.QkvGradIdeal.nD Cert.QkvGradIdeal.τ).loc Cert.QkvGradIdeal.main_arg0) = m ((c.tc : Thread Cert.QkvGradIdeal.nD Cert.QkvGradIdeal.τ).loc Cert.QkvGradIdeal.main_arg0)
          ∧ r.2.mem ((c.tc : Thread Cert.QkvGradIdeal.nD Cert.QkvGradIdeal.τ).loc Cert.QkvGradIdeal.main_arg1) = m ((c.tc : Thread Cert.QkvGradIdeal.nD Cert.QkvGradIdeal.τ).loc Cert.QkvGradIdeal.main_arg1)
          ∧ r.2.mem ((c.tc : Thread Cert.QkvGradIdeal.nD Cert.QkvGradIdeal.τ).loc Cert.QkvGradIdeal.main_arg2) = m ((c.tc : Thread Cert.QkvGradIdeal.nD Cert.QkvGradIdeal.τ).loc Cert.QkvGradIdeal.main_arg2))
      ∧ θ_run (Cert.QkvGradReferenceIdeal.defs (F := Ideal)) (onTc (τ := Cert.QkvGradReferenceIdeal.τ) (Cert.QkvGradReferenceIdeal.main (F := Ideal))) ⟨m', fun _ => 0, g'⟩ (fun r => ∀ c : Dev Cert.QkvGradReferenceIdeal.nD,
          r.2.mem ((c.tc : Thread Cert.QkvGradReferenceIdeal.nD Cert.QkvGradReferenceIdeal.τ).loc Cert.QkvGradReferenceIdeal.main_v11) = v0 c
          ∧ r.2.mem ((c.tc : Thread Cert.QkvGradReferenceIdeal.nD Cert.QkvGradReferenceIdeal.τ).loc Cert.QkvGradReferenceIdeal.main_arg0) = m' ((c.tc : Thread Cert.QkvGradReferenceIdeal.nD Cert.QkvGradReferenceIdeal.τ).loc Cert.QkvGradReferenceIdeal.main_arg0)
          ∧ r.2.mem ((c.tc : Thread Cert.QkvGradReferenceIdeal.nD Cert.QkvGradReferenceIdeal.τ).loc Cert.QkvGradReferenceIdeal.main_arg1) = m' ((c.tc : Thread Cert.QkvGradReferenceIdeal.nD Cert.QkvGradReferenceIdeal.τ).loc Cert.QkvGradReferenceIdeal.main_arg1)
          ∧ r.2.mem ((c.tc : Thread Cert.QkvGradReferenceIdeal.nD Cert.QkvGradReferenceIdeal.τ).loc Cert.QkvGradReferenceIdeal.main_arg2) = m' ((c.tc : Thread Cert.QkvGradReferenceIdeal.nD Cert.QkvGradReferenceIdeal.τ).loc Cert.QkvGradReferenceIdeal.main_arg2))

def preserves_QkvWeight_QkvWeightIdeal : Prop :=
  True

def algebraic_QkvWeightIdeal_QkvWeightReferenceIdeal [hQkvWeightIdeal : Cert.QkvWeightIdeal.Facts] [hQkvWeightReferenceIdeal : Cert.QkvWeightReferenceIdeal.Facts] : Prop :=
  ∀ (m : (ℓ : Loc Cert.QkvWeightIdeal.nD Cert.QkvWeightIdeal.τ Cert.QkvWeightIdeal.sig) → Buf (Elt Ideal) ℓ) (g : Dev Cert.QkvWeightIdeal.nD → PrngReg)
    (m' : (ℓ : Loc Cert.QkvWeightReferenceIdeal.nD Cert.QkvWeightReferenceIdeal.τ Cert.QkvWeightReferenceIdeal.sig) → Buf (Elt Ideal) ℓ) (g' : Dev Cert.QkvWeightReferenceIdeal.nD → PrngReg), Pre_QkvWeightIdeal m →
    (∀ c : Dev Cert.QkvWeightIdeal.nD,
      m' ((c.tc : Thread Cert.QkvWeightReferenceIdeal.nD Cert.QkvWeightReferenceIdeal.τ).loc Cert.QkvWeightReferenceIdeal.main_arg0) = m ((c.tc : Thread Cert.QkvWeightIdeal.nD Cert.QkvWeightIdeal.τ).loc Cert.QkvWeightIdeal.main_arg0)
      ∧ m' ((c.tc : Thread Cert.QkvWeightReferenceIdeal.nD Cert.QkvWeightReferenceIdeal.τ).loc Cert.QkvWeightReferenceIdeal.main_arg1) = m ((c.tc : Thread Cert.QkvWeightIdeal.nD Cert.QkvWeightIdeal.τ).loc Cert.QkvWeightIdeal.main_arg1)
      ∧ m' ((c.tc : Thread Cert.QkvWeightReferenceIdeal.nD Cert.QkvWeightReferenceIdeal.τ).loc Cert.QkvWeightReferenceIdeal.main_arg2) = m ((c.tc : Thread Cert.QkvWeightIdeal.nD Cert.QkvWeightIdeal.τ).loc Cert.QkvWeightIdeal.main_arg2)) →
    ∃ (v0 : (c : Dev Cert.QkvWeightIdeal.nD) → Buf (Elt Ideal) ((c.tc : Thread Cert.QkvWeightIdeal.nD Cert.QkvWeightIdeal.τ).loc Cert.QkvWeightIdeal.main_v0_0)) (v1 : (c : Dev Cert.QkvWeightIdeal.nD) → Buf (Elt Ideal) ((c.tc : Thread Cert.QkvWeightIdeal.nD Cert.QkvWeightIdeal.τ).loc Cert.QkvWeightIdeal.main_v0_1)),
      θ_run (Cert.QkvWeightIdeal.defs (F := Ideal)) (onTc (τ := Cert.QkvWeightIdeal.τ) (Cert.QkvWeightIdeal.main (F := Ideal))) ⟨m, fun _ => 0, g⟩ (fun r => ∀ c : Dev Cert.QkvWeightIdeal.nD,
          r.2.mem ((c.tc : Thread Cert.QkvWeightIdeal.nD Cert.QkvWeightIdeal.τ).loc Cert.QkvWeightIdeal.main_v0_0) = v0 c
          ∧ r.2.mem ((c.tc : Thread Cert.QkvWeightIdeal.nD Cert.QkvWeightIdeal.τ).loc Cert.QkvWeightIdeal.main_v0_1) = v1 c
          ∧ r.2.mem ((c.tc : Thread Cert.QkvWeightIdeal.nD Cert.QkvWeightIdeal.τ).loc Cert.QkvWeightIdeal.main_arg0) = m ((c.tc : Thread Cert.QkvWeightIdeal.nD Cert.QkvWeightIdeal.τ).loc Cert.QkvWeightIdeal.main_arg0)
          ∧ r.2.mem ((c.tc : Thread Cert.QkvWeightIdeal.nD Cert.QkvWeightIdeal.τ).loc Cert.QkvWeightIdeal.main_arg1) = m ((c.tc : Thread Cert.QkvWeightIdeal.nD Cert.QkvWeightIdeal.τ).loc Cert.QkvWeightIdeal.main_arg1)
          ∧ r.2.mem ((c.tc : Thread Cert.QkvWeightIdeal.nD Cert.QkvWeightIdeal.τ).loc Cert.QkvWeightIdeal.main_arg2) = m ((c.tc : Thread Cert.QkvWeightIdeal.nD Cert.QkvWeightIdeal.τ).loc Cert.QkvWeightIdeal.main_arg2))
      ∧ θ_run (Cert.QkvWeightReferenceIdeal.defs (F := Ideal)) (onTc (τ := Cert.QkvWeightReferenceIdeal.τ) (Cert.QkvWeightReferenceIdeal.main (F := Ideal))) ⟨m', fun _ => 0, g'⟩ (fun r => ∀ c : Dev Cert.QkvWeightReferenceIdeal.nD,
          r.2.mem ((c.tc : Thread Cert.QkvWeightReferenceIdeal.nD Cert.QkvWeightReferenceIdeal.τ).loc Cert.QkvWeightReferenceIdeal.main_v15) = v0 c
          ∧ r.2.mem ((c.tc : Thread Cert.QkvWeightReferenceIdeal.nD Cert.QkvWeightReferenceIdeal.τ).loc Cert.QkvWeightReferenceIdeal.main_v16) = v1 c
          ∧ r.2.mem ((c.tc : Thread Cert.QkvWeightReferenceIdeal.nD Cert.QkvWeightReferenceIdeal.τ).loc Cert.QkvWeightReferenceIdeal.main_arg0) = m' ((c.tc : Thread Cert.QkvWeightReferenceIdeal.nD Cert.QkvWeightReferenceIdeal.τ).loc Cert.QkvWeightReferenceIdeal.main_arg0)
          ∧ r.2.mem ((c.tc : Thread Cert.QkvWeightReferenceIdeal.nD Cert.QkvWeightReferenceIdeal.τ).loc Cert.QkvWeightReferenceIdeal.main_arg1) = m' ((c.tc : Thread Cert.QkvWeightReferenceIdeal.nD Cert.QkvWeightReferenceIdeal.τ).loc Cert.QkvWeightReferenceIdeal.main_arg1)
          ∧ r.2.mem ((c.tc : Thread Cert.QkvWeightReferenceIdeal.nD Cert.QkvWeightReferenceIdeal.τ).loc Cert.QkvWeightReferenceIdeal.main_arg2) = m' ((c.tc : Thread Cert.QkvWeightReferenceIdeal.nD Cert.QkvWeightReferenceIdeal.τ).loc Cert.QkvWeightReferenceIdeal.main_arg2))

def preserves_OutGrad0_OutGrad0Ideal : Prop :=
  True

def algebraic_OutGrad0Ideal_OutGrad0ReferenceIdeal [hOutGrad0Ideal : Cert.OutGrad0Ideal.Facts] [hOutGrad0ReferenceIdeal : Cert.OutGrad0ReferenceIdeal.Facts] : Prop :=
  ∀ (m : (ℓ : Loc Cert.OutGrad0Ideal.nD Cert.OutGrad0Ideal.τ Cert.OutGrad0Ideal.sig) → Buf (Elt Ideal) ℓ) (g : Dev Cert.OutGrad0Ideal.nD → PrngReg)
    (m' : (ℓ : Loc Cert.OutGrad0ReferenceIdeal.nD Cert.OutGrad0ReferenceIdeal.τ Cert.OutGrad0ReferenceIdeal.sig) → Buf (Elt Ideal) ℓ) (g' : Dev Cert.OutGrad0ReferenceIdeal.nD → PrngReg), Pre_OutGrad0Ideal m →
    (∀ c : Dev Cert.OutGrad0Ideal.nD,
      m' ((c.tc : Thread Cert.OutGrad0ReferenceIdeal.nD Cert.OutGrad0ReferenceIdeal.τ).loc Cert.OutGrad0ReferenceIdeal.main_arg0) = m ((c.tc : Thread Cert.OutGrad0Ideal.nD Cert.OutGrad0Ideal.τ).loc Cert.OutGrad0Ideal.main_arg0)
      ∧ m' ((c.tc : Thread Cert.OutGrad0ReferenceIdeal.nD Cert.OutGrad0ReferenceIdeal.τ).loc Cert.OutGrad0ReferenceIdeal.main_arg1) = m ((c.tc : Thread Cert.OutGrad0Ideal.nD Cert.OutGrad0Ideal.τ).loc Cert.OutGrad0Ideal.main_arg1)) →
    ∃ (v0 : (c : Dev Cert.OutGrad0Ideal.nD) → Buf (Elt Ideal) ((c.tc : Thread Cert.OutGrad0Ideal.nD Cert.OutGrad0Ideal.τ).loc Cert.OutGrad0Ideal.main_v2_0)) (v1 : (c : Dev Cert.OutGrad0Ideal.nD) → Buf (Elt Ideal) ((c.tc : Thread Cert.OutGrad0Ideal.nD Cert.OutGrad0Ideal.τ).loc Cert.OutGrad0Ideal.main_v2_1)),
      θ_run (Cert.OutGrad0Ideal.defs (F := Ideal)) (onTc (τ := Cert.OutGrad0Ideal.τ) (Cert.OutGrad0Ideal.main (F := Ideal))) ⟨m, fun _ => 0, g⟩ (fun r => ∀ c : Dev Cert.OutGrad0Ideal.nD,
          r.2.mem ((c.tc : Thread Cert.OutGrad0Ideal.nD Cert.OutGrad0Ideal.τ).loc Cert.OutGrad0Ideal.main_v2_0) = v0 c
          ∧ r.2.mem ((c.tc : Thread Cert.OutGrad0Ideal.nD Cert.OutGrad0Ideal.τ).loc Cert.OutGrad0Ideal.main_v2_1) = v1 c
          ∧ r.2.mem ((c.tc : Thread Cert.OutGrad0Ideal.nD Cert.OutGrad0Ideal.τ).loc Cert.OutGrad0Ideal.main_arg0) = m ((c.tc : Thread Cert.OutGrad0Ideal.nD Cert.OutGrad0Ideal.τ).loc Cert.OutGrad0Ideal.main_arg0)
          ∧ r.2.mem ((c.tc : Thread Cert.OutGrad0Ideal.nD Cert.OutGrad0Ideal.τ).loc Cert.OutGrad0Ideal.main_arg1) = m ((c.tc : Thread Cert.OutGrad0Ideal.nD Cert.OutGrad0Ideal.τ).loc Cert.OutGrad0Ideal.main_arg1))
      ∧ θ_run (Cert.OutGrad0ReferenceIdeal.defs (F := Ideal)) (onTc (τ := Cert.OutGrad0ReferenceIdeal.τ) (Cert.OutGrad0ReferenceIdeal.main (F := Ideal))) ⟨m', fun _ => 0, g'⟩ (fun r => ∀ c : Dev Cert.OutGrad0ReferenceIdeal.nD,
          r.2.mem ((c.tc : Thread Cert.OutGrad0ReferenceIdeal.nD Cert.OutGrad0ReferenceIdeal.τ).loc Cert.OutGrad0ReferenceIdeal.main_v7) = v0 c
          ∧ r.2.mem ((c.tc : Thread Cert.OutGrad0ReferenceIdeal.nD Cert.OutGrad0ReferenceIdeal.τ).loc Cert.OutGrad0ReferenceIdeal.main_v8) = v1 c
          ∧ r.2.mem ((c.tc : Thread Cert.OutGrad0ReferenceIdeal.nD Cert.OutGrad0ReferenceIdeal.τ).loc Cert.OutGrad0ReferenceIdeal.main_arg0) = m' ((c.tc : Thread Cert.OutGrad0ReferenceIdeal.nD Cert.OutGrad0ReferenceIdeal.τ).loc Cert.OutGrad0ReferenceIdeal.main_arg0)
          ∧ r.2.mem ((c.tc : Thread Cert.OutGrad0ReferenceIdeal.nD Cert.OutGrad0ReferenceIdeal.τ).loc Cert.OutGrad0ReferenceIdeal.main_arg1) = m' ((c.tc : Thread Cert.OutGrad0ReferenceIdeal.nD Cert.OutGrad0ReferenceIdeal.τ).loc Cert.OutGrad0ReferenceIdeal.main_arg1))

def preserves_OutWeight0_OutWeight0Ideal : Prop :=
  True

def algebraic_OutWeight0Ideal_OutWeight0ReferenceIdeal [hOutWeight0Ideal : Cert.OutWeight0Ideal.Facts] [hOutWeight0ReferenceIdeal : Cert.OutWeight0ReferenceIdeal.Facts] : Prop :=
  ∀ (m : (ℓ : Loc Cert.OutWeight0Ideal.nD Cert.OutWeight0Ideal.τ Cert.OutWeight0Ideal.sig) → Buf (Elt Ideal) ℓ) (g : Dev Cert.OutWeight0Ideal.nD → PrngReg)
    (m' : (ℓ : Loc Cert.OutWeight0ReferenceIdeal.nD Cert.OutWeight0ReferenceIdeal.τ Cert.OutWeight0ReferenceIdeal.sig) → Buf (Elt Ideal) ℓ) (g' : Dev Cert.OutWeight0ReferenceIdeal.nD → PrngReg), Pre_OutWeight0Ideal m →
    (∀ c : Dev Cert.OutWeight0Ideal.nD,
      m' ((c.tc : Thread Cert.OutWeight0ReferenceIdeal.nD Cert.OutWeight0ReferenceIdeal.τ).loc Cert.OutWeight0ReferenceIdeal.main_arg0) = m ((c.tc : Thread Cert.OutWeight0Ideal.nD Cert.OutWeight0Ideal.τ).loc Cert.OutWeight0Ideal.main_arg0)
      ∧ m' ((c.tc : Thread Cert.OutWeight0ReferenceIdeal.nD Cert.OutWeight0ReferenceIdeal.τ).loc Cert.OutWeight0ReferenceIdeal.main_arg1) = m ((c.tc : Thread Cert.OutWeight0Ideal.nD Cert.OutWeight0Ideal.τ).loc Cert.OutWeight0Ideal.main_arg1)
      ∧ m' ((c.tc : Thread Cert.OutWeight0ReferenceIdeal.nD Cert.OutWeight0ReferenceIdeal.τ).loc Cert.OutWeight0ReferenceIdeal.main_arg2) = m ((c.tc : Thread Cert.OutWeight0Ideal.nD Cert.OutWeight0Ideal.τ).loc Cert.OutWeight0Ideal.main_arg2)) →
    ∃ (v0 : (c : Dev Cert.OutWeight0Ideal.nD) → Buf (Elt Ideal) ((c.tc : Thread Cert.OutWeight0Ideal.nD Cert.OutWeight0Ideal.τ).loc Cert.OutWeight0Ideal.main_v0_0)) (v1 : (c : Dev Cert.OutWeight0Ideal.nD) → Buf (Elt Ideal) ((c.tc : Thread Cert.OutWeight0Ideal.nD Cert.OutWeight0Ideal.τ).loc Cert.OutWeight0Ideal.main_v0_1)),
      θ_run (Cert.OutWeight0Ideal.defs (F := Ideal)) (onTc (τ := Cert.OutWeight0Ideal.τ) (Cert.OutWeight0Ideal.main (F := Ideal))) ⟨m, fun _ => 0, g⟩ (fun r => ∀ c : Dev Cert.OutWeight0Ideal.nD,
          r.2.mem ((c.tc : Thread Cert.OutWeight0Ideal.nD Cert.OutWeight0Ideal.τ).loc Cert.OutWeight0Ideal.main_v0_0) = v0 c
          ∧ r.2.mem ((c.tc : Thread Cert.OutWeight0Ideal.nD Cert.OutWeight0Ideal.τ).loc Cert.OutWeight0Ideal.main_v0_1) = v1 c
          ∧ r.2.mem ((c.tc : Thread Cert.OutWeight0Ideal.nD Cert.OutWeight0Ideal.τ).loc Cert.OutWeight0Ideal.main_arg0) = m ((c.tc : Thread Cert.OutWeight0Ideal.nD Cert.OutWeight0Ideal.τ).loc Cert.OutWeight0Ideal.main_arg0)
          ∧ r.2.mem ((c.tc : Thread Cert.OutWeight0Ideal.nD Cert.OutWeight0Ideal.τ).loc Cert.OutWeight0Ideal.main_arg1) = m ((c.tc : Thread Cert.OutWeight0Ideal.nD Cert.OutWeight0Ideal.τ).loc Cert.OutWeight0Ideal.main_arg1)
          ∧ r.2.mem ((c.tc : Thread Cert.OutWeight0Ideal.nD Cert.OutWeight0Ideal.τ).loc Cert.OutWeight0Ideal.main_arg2) = m ((c.tc : Thread Cert.OutWeight0Ideal.nD Cert.OutWeight0Ideal.τ).loc Cert.OutWeight0Ideal.main_arg2))
      ∧ θ_run (Cert.OutWeight0ReferenceIdeal.defs (F := Ideal)) (onTc (τ := Cert.OutWeight0ReferenceIdeal.τ) (Cert.OutWeight0ReferenceIdeal.main (F := Ideal))) ⟨m', fun _ => 0, g'⟩ (fun r => ∀ c : Dev Cert.OutWeight0ReferenceIdeal.nD,
          r.2.mem ((c.tc : Thread Cert.OutWeight0ReferenceIdeal.nD Cert.OutWeight0ReferenceIdeal.τ).loc Cert.OutWeight0ReferenceIdeal.main_v12) = v0 c
          ∧ r.2.mem ((c.tc : Thread Cert.OutWeight0ReferenceIdeal.nD Cert.OutWeight0ReferenceIdeal.τ).loc Cert.OutWeight0ReferenceIdeal.main_v13) = v1 c
          ∧ r.2.mem ((c.tc : Thread Cert.OutWeight0ReferenceIdeal.nD Cert.OutWeight0ReferenceIdeal.τ).loc Cert.OutWeight0ReferenceIdeal.main_arg0) = m' ((c.tc : Thread Cert.OutWeight0ReferenceIdeal.nD Cert.OutWeight0ReferenceIdeal.τ).loc Cert.OutWeight0ReferenceIdeal.main_arg0)
          ∧ r.2.mem ((c.tc : Thread Cert.OutWeight0ReferenceIdeal.nD Cert.OutWeight0ReferenceIdeal.τ).loc Cert.OutWeight0ReferenceIdeal.main_arg1) = m' ((c.tc : Thread Cert.OutWeight0ReferenceIdeal.nD Cert.OutWeight0ReferenceIdeal.τ).loc Cert.OutWeight0ReferenceIdeal.main_arg1)
          ∧ r.2.mem ((c.tc : Thread Cert.OutWeight0ReferenceIdeal.nD Cert.OutWeight0ReferenceIdeal.τ).loc Cert.OutWeight0ReferenceIdeal.main_arg2) = m' ((c.tc : Thread Cert.OutWeight0ReferenceIdeal.nD Cert.OutWeight0ReferenceIdeal.τ).loc Cert.OutWeight0ReferenceIdeal.main_arg2))

def preserves_InGrad_InGradIdeal : Prop :=
  True

def algebraic_InGradIdeal_InGradReferenceIdeal [hInGradIdeal : Cert.InGradIdeal.Facts] [hInGradReferenceIdeal : Cert.InGradReferenceIdeal.Facts] : Prop :=
  ∀ (m : (ℓ : Loc Cert.InGradIdeal.nD Cert.InGradIdeal.τ Cert.InGradIdeal.sig) → Buf (Elt Ideal) ℓ) (g : Dev Cert.InGradIdeal.nD → PrngReg)
    (m' : (ℓ : Loc Cert.InGradReferenceIdeal.nD Cert.InGradReferenceIdeal.τ Cert.InGradReferenceIdeal.sig) → Buf (Elt Ideal) ℓ) (g' : Dev Cert.InGradReferenceIdeal.nD → PrngReg), Pre_InGradIdeal m →
    (∀ c : Dev Cert.InGradIdeal.nD,
      m' ((c.tc : Thread Cert.InGradReferenceIdeal.nD Cert.InGradReferenceIdeal.τ).loc Cert.InGradReferenceIdeal.main_arg0) = m ((c.tc : Thread Cert.InGradIdeal.nD Cert.InGradIdeal.τ).loc Cert.InGradIdeal.main_arg0)
      ∧ m' ((c.tc : Thread Cert.InGradReferenceIdeal.nD Cert.InGradReferenceIdeal.τ).loc Cert.InGradReferenceIdeal.main_arg1) = m ((c.tc : Thread Cert.InGradIdeal.nD Cert.InGradIdeal.τ).loc Cert.InGradIdeal.main_arg1)
      ∧ m' ((c.tc : Thread Cert.InGradReferenceIdeal.nD Cert.InGradReferenceIdeal.τ).loc Cert.InGradReferenceIdeal.main_arg2) = m ((c.tc : Thread Cert.InGradIdeal.nD Cert.InGradIdeal.τ).loc Cert.InGradIdeal.main_arg2)
      ∧ m' ((c.tc : Thread Cert.InGradReferenceIdeal.nD Cert.InGradReferenceIdeal.τ).loc Cert.InGradReferenceIdeal.main_arg3) = m ((c.tc : Thread Cert.InGradIdeal.nD Cert.InGradIdeal.τ).loc Cert.InGradIdeal.main_arg3)
      ∧ m' ((c.tc : Thread Cert.InGradReferenceIdeal.nD Cert.InGradReferenceIdeal.τ).loc Cert.InGradReferenceIdeal.main_arg4) = m ((c.tc : Thread Cert.InGradIdeal.nD Cert.InGradIdeal.τ).loc Cert.InGradIdeal.main_arg4)
      ∧ m' ((c.tc : Thread Cert.InGradReferenceIdeal.nD Cert.InGradReferenceIdeal.τ).loc Cert.InGradReferenceIdeal.main_arg5) = m ((c.tc : Thread Cert.InGradIdeal.nD Cert.InGradIdeal.τ).loc Cert.InGradIdeal.main_arg5)) →
    ∃ (v0 : (c : Dev Cert.InGradIdeal.nD) → Buf (Elt Ideal) ((c.tc : Thread Cert.InGradIdeal.nD Cert.InGradIdeal.τ).loc Cert.InGradIdeal.main_v6)),
      θ_run (Cert.InGradIdeal.defs (F := Ideal)) (onTc (τ := Cert.InGradIdeal.τ) (Cert.InGradIdeal.main (F := Ideal))) ⟨m, fun _ => 0, g⟩ (fun r => ∀ c : Dev Cert.InGradIdeal.nD,
          r.2.mem ((c.tc : Thread Cert.InGradIdeal.nD Cert.InGradIdeal.τ).loc Cert.InGradIdeal.main_v6) = v0 c
          ∧ r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
          ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2)
          ∧ r.2.mem ((c.tc : Thread Cert.InGradIdeal.nD Cert.InGradIdeal.τ).loc Cert.InGradIdeal.main_arg3) = m ((c.tc : Thread Cert.InGradIdeal.nD Cert.InGradIdeal.τ).loc Cert.InGradIdeal.main_arg3)
          ∧ r.2.mem ((c.tc : Thread Cert.InGradIdeal.nD Cert.InGradIdeal.τ).loc Cert.InGradIdeal.main_arg4) = m ((c.tc : Thread Cert.InGradIdeal.nD Cert.InGradIdeal.τ).loc Cert.InGradIdeal.main_arg4)
          ∧ r.2.mem ((c.tc : Thread Cert.InGradIdeal.nD Cert.InGradIdeal.τ).loc Cert.InGradIdeal.main_arg5) = m ((c.tc : Thread Cert.InGradIdeal.nD Cert.InGradIdeal.τ).loc Cert.InGradIdeal.main_arg5))
      ∧ θ_run (Cert.InGradReferenceIdeal.defs (F := Ideal)) (onTc (τ := Cert.InGradReferenceIdeal.τ) (Cert.InGradReferenceIdeal.main (F := Ideal))) ⟨m', fun _ => 0, g'⟩ (fun r => ∀ c : Dev Cert.InGradReferenceIdeal.nD,
          r.2.mem ((c.tc : Thread Cert.InGradReferenceIdeal.nD Cert.InGradReferenceIdeal.τ).loc Cert.InGradReferenceIdeal.main_v24) = v0 c
          ∧ r.2.mem ((c.tc : Thread Cert.InGradReferenceIdeal.nD Cert.InGradReferenceIdeal.τ).loc Cert.InGradReferenceIdeal.main_arg0) = m' ((c.tc : Thread Cert.InGradReferenceIdeal.nD Cert.InGradReferenceIdeal.τ).loc Cert.InGradReferenceIdeal.main_arg0)
          ∧ r.2.mem ((c.tc : Thread Cert.InGradReferenceIdeal.nD Cert.InGradReferenceIdeal.τ).loc Cert.InGradReferenceIdeal.main_arg1) = m' ((c.tc : Thread Cert.InGradReferenceIdeal.nD Cert.InGradReferenceIdeal.τ).loc Cert.InGradReferenceIdeal.main_arg1)
          ∧ r.2.mem ((c.tc : Thread Cert.InGradReferenceIdeal.nD Cert.InGradReferenceIdeal.τ).loc Cert.InGradReferenceIdeal.main_arg2) = m' ((c.tc : Thread Cert.InGradReferenceIdeal.nD Cert.InGradReferenceIdeal.τ).loc Cert.InGradReferenceIdeal.main_arg2)
          ∧ r.2.mem ((c.tc : Thread Cert.InGradReferenceIdeal.nD Cert.InGradReferenceIdeal.τ).loc Cert.InGradReferenceIdeal.main_arg3) = m' ((c.tc : Thread Cert.InGradReferenceIdeal.nD Cert.InGradReferenceIdeal.τ).loc Cert.InGradReferenceIdeal.main_arg3)
          ∧ r.2.mem ((c.tc : Thread Cert.InGradReferenceIdeal.nD Cert.InGradReferenceIdeal.τ).loc Cert.InGradReferenceIdeal.main_arg4) = m' ((c.tc : Thread Cert.InGradReferenceIdeal.nD Cert.InGradReferenceIdeal.τ).loc Cert.InGradReferenceIdeal.main_arg4)
          ∧ r.2.mem ((c.tc : Thread Cert.InGradReferenceIdeal.nD Cert.InGradReferenceIdeal.τ).loc Cert.InGradReferenceIdeal.main_arg5) = m' ((c.tc : Thread Cert.InGradReferenceIdeal.nD Cert.InGradReferenceIdeal.τ).loc Cert.InGradReferenceIdeal.main_arg5))

def preserves_InWeight_InWeightIdeal : Prop :=
  True

def algebraic_InWeightIdeal_InWeightReferenceIdeal [hInWeightIdeal : Cert.InWeightIdeal.Facts] [hInWeightReferenceIdeal : Cert.InWeightReferenceIdeal.Facts] : Prop :=
  ∀ (m : (ℓ : Loc Cert.InWeightIdeal.nD Cert.InWeightIdeal.τ Cert.InWeightIdeal.sig) → Buf (Elt Ideal) ℓ) (g : Dev Cert.InWeightIdeal.nD → PrngReg)
    (m' : (ℓ : Loc Cert.InWeightReferenceIdeal.nD Cert.InWeightReferenceIdeal.τ Cert.InWeightReferenceIdeal.sig) → Buf (Elt Ideal) ℓ) (g' : Dev Cert.InWeightReferenceIdeal.nD → PrngReg), Pre_InWeightIdeal m →
    (∀ c : Dev Cert.InWeightIdeal.nD,
      m' ((c.tc : Thread Cert.InWeightReferenceIdeal.nD Cert.InWeightReferenceIdeal.τ).loc Cert.InWeightReferenceIdeal.main_arg0) = m ((c.tc : Thread Cert.InWeightIdeal.nD Cert.InWeightIdeal.τ).loc Cert.InWeightIdeal.main_arg0)
      ∧ m' ((c.tc : Thread Cert.InWeightReferenceIdeal.nD Cert.InWeightReferenceIdeal.τ).loc Cert.InWeightReferenceIdeal.main_arg1) = m ((c.tc : Thread Cert.InWeightIdeal.nD Cert.InWeightIdeal.τ).loc Cert.InWeightIdeal.main_arg1)
      ∧ m' ((c.tc : Thread Cert.InWeightReferenceIdeal.nD Cert.InWeightReferenceIdeal.τ).loc Cert.InWeightReferenceIdeal.main_arg2) = m ((c.tc : Thread Cert.InWeightIdeal.nD Cert.InWeightIdeal.τ).loc Cert.InWeightIdeal.main_arg2)
      ∧ m' ((c.tc : Thread Cert.InWeightReferenceIdeal.nD Cert.InWeightReferenceIdeal.τ).loc Cert.InWeightReferenceIdeal.main_arg3) = m ((c.tc : Thread Cert.InWeightIdeal.nD Cert.InWeightIdeal.τ).loc Cert.InWeightIdeal.main_arg3)
      ∧ m' ((c.tc : Thread Cert.InWeightReferenceIdeal.nD Cert.InWeightReferenceIdeal.τ).loc Cert.InWeightReferenceIdeal.main_arg4) = m ((c.tc : Thread Cert.InWeightIdeal.nD Cert.InWeightIdeal.τ).loc Cert.InWeightIdeal.main_arg4)
      ∧ m' ((c.tc : Thread Cert.InWeightReferenceIdeal.nD Cert.InWeightReferenceIdeal.τ).loc Cert.InWeightReferenceIdeal.main_arg5) = m ((c.tc : Thread Cert.InWeightIdeal.nD Cert.InWeightIdeal.τ).loc Cert.InWeightIdeal.main_arg5)) →
    ∃ (v0 : (c : Dev Cert.InWeightIdeal.nD) → Buf (Elt Ideal) ((c.tc : Thread Cert.InWeightIdeal.nD Cert.InWeightIdeal.τ).loc Cert.InWeightIdeal.main_v0_0)) (v1 : (c : Dev Cert.InWeightIdeal.nD) → Buf (Elt Ideal) ((c.tc : Thread Cert.InWeightIdeal.nD Cert.InWeightIdeal.τ).loc Cert.InWeightIdeal.main_v0_1)) (v2 : (c : Dev Cert.InWeightIdeal.nD) → Buf (Elt Ideal) ((c.tc : Thread Cert.InWeightIdeal.nD Cert.InWeightIdeal.τ).loc Cert.InWeightIdeal.main_v0_2)) (v3 : (c : Dev Cert.InWeightIdeal.nD) → Buf (Elt Ideal) ((c.tc : Thread Cert.InWeightIdeal.nD Cert.InWeightIdeal.τ).loc Cert.InWeightIdeal.main_v0_3)) (v4 : (c : Dev Cert.InWeightIdeal.nD) → Buf (Elt Ideal) ((c.tc : Thread Cert.InWeightIdeal.nD Cert.InWeightIdeal.τ).loc Cert.InWeightIdeal.main_v0_4)),
      θ_run (Cert.InWeightIdeal.defs (F := Ideal)) (onTc (τ := Cert.InWeightIdeal.τ) (Cert.InWeightIdeal.main (F := Ideal))) ⟨m, fun _ => 0, g⟩ (fun r => ∀ c : Dev Cert.InWeightIdeal.nD,
          r.2.mem ((c.tc : Thread Cert.InWeightIdeal.nD Cert.InWeightIdeal.τ).loc Cert.InWeightIdeal.main_v0_0) = v0 c
          ∧ r.2.mem ((c.tc : Thread Cert.InWeightIdeal.nD Cert.InWeightIdeal.τ).loc Cert.InWeightIdeal.main_v0_1) = v1 c
          ∧ r.2.mem ((c.tc : Thread Cert.InWeightIdeal.nD Cert.InWeightIdeal.τ).loc Cert.InWeightIdeal.main_v0_2) = v2 c
          ∧ r.2.mem ((c.tc : Thread Cert.InWeightIdeal.nD Cert.InWeightIdeal.τ).loc Cert.InWeightIdeal.main_v0_3) = v3 c
          ∧ r.2.mem ((c.tc : Thread Cert.InWeightIdeal.nD Cert.InWeightIdeal.τ).loc Cert.InWeightIdeal.main_v0_4) = v4 c
          ∧ r.2.mem ((c.tc : Thread Cert.InWeightIdeal.nD Cert.InWeightIdeal.τ).loc Cert.InWeightIdeal.main_arg0) = m ((c.tc : Thread Cert.InWeightIdeal.nD Cert.InWeightIdeal.τ).loc Cert.InWeightIdeal.main_arg0)
          ∧ r.2.mem ((c.tc : Thread Cert.InWeightIdeal.nD Cert.InWeightIdeal.τ).loc Cert.InWeightIdeal.main_arg1) = m ((c.tc : Thread Cert.InWeightIdeal.nD Cert.InWeightIdeal.τ).loc Cert.InWeightIdeal.main_arg1)
          ∧ r.2.mem ((c.tc : Thread Cert.InWeightIdeal.nD Cert.InWeightIdeal.τ).loc Cert.InWeightIdeal.main_arg2) = m ((c.tc : Thread Cert.InWeightIdeal.nD Cert.InWeightIdeal.τ).loc Cert.InWeightIdeal.main_arg2)
          ∧ r.2.mem ((c.tc : Thread Cert.InWeightIdeal.nD Cert.InWeightIdeal.τ).loc Cert.InWeightIdeal.main_arg3) = m ((c.tc : Thread Cert.InWeightIdeal.nD Cert.InWeightIdeal.τ).loc Cert.InWeightIdeal.main_arg3)
          ∧ r.2.mem ((c.tc : Thread Cert.InWeightIdeal.nD Cert.InWeightIdeal.τ).loc Cert.InWeightIdeal.main_arg4) = m ((c.tc : Thread Cert.InWeightIdeal.nD Cert.InWeightIdeal.τ).loc Cert.InWeightIdeal.main_arg4)
          ∧ r.2.mem ((c.tc : Thread Cert.InWeightIdeal.nD Cert.InWeightIdeal.τ).loc Cert.InWeightIdeal.main_arg5) = m ((c.tc : Thread Cert.InWeightIdeal.nD Cert.InWeightIdeal.τ).loc Cert.InWeightIdeal.main_arg5))
      ∧ θ_run (Cert.InWeightReferenceIdeal.defs (F := Ideal)) (onTc (τ := Cert.InWeightReferenceIdeal.τ) (Cert.InWeightReferenceIdeal.main (F := Ideal))) ⟨m', fun _ => 0, g'⟩ (fun r => ∀ c : Dev Cert.InWeightReferenceIdeal.nD,
          r.2.mem ((c.tc : Thread Cert.InWeightReferenceIdeal.nD Cert.InWeightReferenceIdeal.τ).loc Cert.InWeightReferenceIdeal.main_v36) = v0 c
          ∧ r.2.mem ((c.tc : Thread Cert.InWeightReferenceIdeal.nD Cert.InWeightReferenceIdeal.τ).loc Cert.InWeightReferenceIdeal.main_v37) = v1 c
          ∧ r.2.mem ((c.tc : Thread Cert.InWeightReferenceIdeal.nD Cert.InWeightReferenceIdeal.τ).loc Cert.InWeightReferenceIdeal.main_v38) = v2 c
          ∧ r.2.mem ((c.tc : Thread Cert.InWeightReferenceIdeal.nD Cert.InWeightReferenceIdeal.τ).loc Cert.InWeightReferenceIdeal.main_v39) = v3 c
          ∧ r.2.mem ((c.tc : Thread Cert.InWeightReferenceIdeal.nD Cert.InWeightReferenceIdeal.τ).loc Cert.InWeightReferenceIdeal.main_v40) = v4 c
          ∧ r.2.mem ((c.tc : Thread Cert.InWeightReferenceIdeal.nD Cert.InWeightReferenceIdeal.τ).loc Cert.InWeightReferenceIdeal.main_arg0) = m' ((c.tc : Thread Cert.InWeightReferenceIdeal.nD Cert.InWeightReferenceIdeal.τ).loc Cert.InWeightReferenceIdeal.main_arg0)
          ∧ r.2.mem ((c.tc : Thread Cert.InWeightReferenceIdeal.nD Cert.InWeightReferenceIdeal.τ).loc Cert.InWeightReferenceIdeal.main_arg1) = m' ((c.tc : Thread Cert.InWeightReferenceIdeal.nD Cert.InWeightReferenceIdeal.τ).loc Cert.InWeightReferenceIdeal.main_arg1)
          ∧ r.2.mem ((c.tc : Thread Cert.InWeightReferenceIdeal.nD Cert.InWeightReferenceIdeal.τ).loc Cert.InWeightReferenceIdeal.main_arg2) = m' ((c.tc : Thread Cert.InWeightReferenceIdeal.nD Cert.InWeightReferenceIdeal.τ).loc Cert.InWeightReferenceIdeal.main_arg2)
          ∧ r.2.mem ((c.tc : Thread Cert.InWeightReferenceIdeal.nD Cert.InWeightReferenceIdeal.τ).loc Cert.InWeightReferenceIdeal.main_arg3) = m' ((c.tc : Thread Cert.InWeightReferenceIdeal.nD Cert.InWeightReferenceIdeal.τ).loc Cert.InWeightReferenceIdeal.main_arg3)
          ∧ r.2.mem ((c.tc : Thread Cert.InWeightReferenceIdeal.nD Cert.InWeightReferenceIdeal.τ).loc Cert.InWeightReferenceIdeal.main_arg4) = m' ((c.tc : Thread Cert.InWeightReferenceIdeal.nD Cert.InWeightReferenceIdeal.τ).loc Cert.InWeightReferenceIdeal.main_arg4)
          ∧ r.2.mem ((c.tc : Thread Cert.InWeightReferenceIdeal.nD Cert.InWeightReferenceIdeal.τ).loc Cert.InWeightReferenceIdeal.main_arg5) = m' ((c.tc : Thread Cert.InWeightReferenceIdeal.nD Cert.InWeightReferenceIdeal.τ).loc Cert.InWeightReferenceIdeal.main_arg5))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v6_0)) (v1 : (c : Dev Cert.InProjIdeal.nD) → Buf (Elt Ideal) ((c.tc : Thread Cert.InProjIdeal.nD Cert.InProjIdeal.τ).loc Cert.InProjIdeal.main_v6_1)) (v2 : (c : Dev Cert.InProjIdeal.nD) → Buf (Elt Ideal) ((c.tc : Thread Cert.InProjIdeal.nD Cert.InProjIdeal.τ).loc Cert.InProjIdeal.main_v6_2)) (v3 : (c : Dev Cert.InProjIdeal.nD) → Buf (Elt Ideal) ((c.tc : Thread Cert.InProjIdeal.nD Cert.InProjIdeal.τ).loc Cert.InProjIdeal.main_v6_3)) (v4 : (c : Dev Cert.InProjIdeal.nD) → Buf (Elt Ideal) ((c.tc : Thread Cert.InProjIdeal.nD Cert.InProjIdeal.τ).loc Cert.InProjIdeal.main_v6_4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v6_0) = v0 c
          ∧ r.2.mem ((c.tc : Thread Cert.InProjIdeal.nD Cert.InProjIdeal.τ).loc Cert.InProjIdeal.main_v6_1) = v1 c
          ∧ r.2.mem ((c.tc : Thread Cert.InProjIdeal.nD Cert.InProjIdeal.τ).loc Cert.InProjIdeal.main_v6_2) = v2 c
          ∧ r.2.mem ((c.tc : Thread Cert.InProjIdeal.nD Cert.InProjIdeal.τ).loc Cert.InProjIdeal.main_v6_3) = v3 c
          ∧ r.2.mem ((c.tc : Thread Cert.InProjIdeal.nD Cert.InProjIdeal.τ).loc Cert.InProjIdeal.main_v6_4) = v4 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v6) = v0 c
          ∧ r.2.mem ((c.tc : Thread Cert.InProjReferenceIdeal.nD Cert.InProjReferenceIdeal.τ).loc Cert.InProjReferenceIdeal.main_v7) = v1 c
          ∧ r.2.mem ((c.tc : Thread Cert.InProjReferenceIdeal.nD Cert.InProjReferenceIdeal.τ).loc Cert.InProjReferenceIdeal.main_v5) = v2 c
          ∧ r.2.mem ((c.tc : Thread Cert.InProjReferenceIdeal.nD Cert.InProjReferenceIdeal.τ).loc Cert.InProjReferenceIdeal.main_v8) = v3 c
          ∧ r.2.mem ((c.tc : Thread Cert.InProjReferenceIdeal.nD Cert.InProjReferenceIdeal.τ).loc Cert.InProjReferenceIdeal.main_v9) = v4 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_QkvProj_QkvProjIdeal : Prop :=
  True

def algebraic_QkvProjIdeal_QkvProjReferenceIdeal [hQkvProjIdeal : Cert.QkvProjIdeal.Facts] [hQkvProjReferenceIdeal : Cert.QkvProjReferenceIdeal.Facts] : Prop :=
  ∀ (m : (ℓ : Loc Cert.QkvProjIdeal.nD Cert.QkvProjIdeal.τ Cert.QkvProjIdeal.sig) → Buf (Elt Ideal) ℓ) (g : Dev Cert.QkvProjIdeal.nD → PrngReg)
    (m' : (ℓ : Loc Cert.QkvProjReferenceIdeal.nD Cert.QkvProjReferenceIdeal.τ Cert.QkvProjReferenceIdeal.sig) → Buf (Elt Ideal) ℓ) (g' : Dev Cert.QkvProjReferenceIdeal.nD → PrngReg), Pre_QkvProjIdeal m →
    (∀ c : Dev Cert.QkvProjIdeal.nD,
      m' ((c.tc : Thread Cert.QkvProjReferenceIdeal.nD Cert.QkvProjReferenceIdeal.τ).loc Cert.QkvProjReferenceIdeal.main_arg0) = m ((c.tc : Thread Cert.QkvProjIdeal.nD Cert.QkvProjIdeal.τ).loc Cert.QkvProjIdeal.main_arg0)
      ∧ m' ((c.tc : Thread Cert.QkvProjReferenceIdeal.nD Cert.QkvProjReferenceIdeal.τ).loc Cert.QkvProjReferenceIdeal.main_arg1) = m ((c.tc : Thread Cert.QkvProjIdeal.nD Cert.QkvProjIdeal.τ).loc Cert.QkvProjIdeal.main_arg1)
      ∧ m' ((c.tc : Thread Cert.QkvProjReferenceIdeal.nD Cert.QkvProjReferenceIdeal.τ).loc Cert.QkvProjReferenceIdeal.main_arg2) = m ((c.tc : Thread Cert.QkvProjIdeal.nD Cert.QkvProjIdeal.τ).loc Cert.QkvProjIdeal.main_arg2)) →
    ∃ (v0 : (c : Dev Cert.QkvProjIdeal.nD) → Buf (Elt Ideal) ((c.tc : Thread Cert.QkvProjIdeal.nD Cert.QkvProjIdeal.τ).loc Cert.QkvProjIdeal.main_v0)),
      θ_run (Cert.QkvProjIdeal.defs (F := Ideal)) (onTc (τ := Cert.QkvProjIdeal.τ) (Cert.QkvProjIdeal.main (F := Ideal))) ⟨m, fun _ => 0, g⟩ (fun r => ∀ c : Dev Cert.QkvProjIdeal.nD,
          r.2.mem ((c.tc : Thread Cert.QkvProjIdeal.nD Cert.QkvProjIdeal.τ).loc Cert.QkvProjIdeal.main_v0) = v0 c
          ∧ r.2.mem ((c.tc : Thread Cert.QkvProjIdeal.nD Cert.QkvProjIdeal.τ).loc Cert.QkvProjIdeal.main_arg0) = m ((c.tc : Thread Cert.QkvProjIdeal.nD Cert.QkvProjIdeal.τ).loc Cert.QkvProjIdeal.main_arg0)
          ∧ r.2.mem ((c.tc : Thread Cert.QkvProjIdeal.nD Cert.QkvProjIdeal.τ).loc Cert.QkvProjIdeal.main_arg1) = m ((c.tc : Thread Cert.QkvProjIdeal.nD Cert.QkvProjIdeal.τ).loc Cert.QkvProjIdeal.main_arg1)
          ∧ r.2.mem ((c.tc : Thread Cert.QkvProjIdeal.nD Cert.QkvProjIdeal.τ).loc Cert.QkvProjIdeal.main_arg2) = m ((c.tc : Thread Cert.QkvProjIdeal.nD Cert.QkvProjIdeal.τ).loc Cert.QkvProjIdeal.main_arg2))
      ∧ θ_run (Cert.QkvProjReferenceIdeal.defs (F := Ideal)) (onTc (τ := Cert.QkvProjReferenceIdeal.τ) (Cert.QkvProjReferenceIdeal.main (F := Ideal))) ⟨m', fun _ => 0, g'⟩ (fun r => ∀ c : Dev Cert.QkvProjReferenceIdeal.nD,
          r.2.mem ((c.tc : Thread Cert.QkvProjReferenceIdeal.nD Cert.QkvProjReferenceIdeal.τ).loc Cert.QkvProjReferenceIdeal.main_v5) = v0 c
          ∧ r.2.mem ((c.tc : Thread Cert.QkvProjReferenceIdeal.nD Cert.QkvProjReferenceIdeal.τ).loc Cert.QkvProjReferenceIdeal.main_arg0) = m' ((c.tc : Thread Cert.QkvProjReferenceIdeal.nD Cert.QkvProjReferenceIdeal.τ).loc Cert.QkvProjReferenceIdeal.main_arg0)
          ∧ r.2.mem ((c.tc : Thread Cert.QkvProjReferenceIdeal.nD Cert.QkvProjReferenceIdeal.τ).loc Cert.QkvProjReferenceIdeal.main_arg1) = m' ((c.tc : Thread Cert.QkvProjReferenceIdeal.nD Cert.QkvProjReferenceIdeal.τ).loc Cert.QkvProjReferenceIdeal.main_arg1)
          ∧ r.2.mem ((c.tc : Thread Cert.QkvProjReferenceIdeal.nD Cert.QkvProjReferenceIdeal.τ).loc Cert.QkvProjReferenceIdeal.main_arg2) = m' ((c.tc : Thread Cert.QkvProjReferenceIdeal.nD Cert.QkvProjReferenceIdeal.τ).loc Cert.QkvProjReferenceIdeal.main_arg2))

def preserves_Down1_Down1Ideal : Prop :=
  True

def algebraic_Down1Ideal_Down1ReferenceIdeal [hDown1Ideal : Cert.Down1Ideal.Facts] [hDown1ReferenceIdeal : Cert.Down1ReferenceIdeal.Facts] : Prop :=
  ∀ (m : (ℓ : Loc Cert.Down1Ideal.nD Cert.Down1Ideal.τ Cert.Down1Ideal.sig) → Buf (Elt Ideal) ℓ) (g : Dev Cert.Down1Ideal.nD → PrngReg)
    (m' : (ℓ : Loc Cert.Down1ReferenceIdeal.nD Cert.Down1ReferenceIdeal.τ Cert.Down1ReferenceIdeal.sig) → Buf (Elt Ideal) ℓ) (g' : Dev Cert.Down1ReferenceIdeal.nD → PrngReg), Pre_Down1Ideal m →
    (∀ c : Dev Cert.Down1Ideal.nD,
      m' ((c.tc : Thread Cert.Down1ReferenceIdeal.nD Cert.Down1ReferenceIdeal.τ).loc Cert.Down1ReferenceIdeal.main_arg0) = m ((c.tc : Thread Cert.Down1Ideal.nD Cert.Down1Ideal.τ).loc Cert.Down1Ideal.main_arg0)
      ∧ m' ((c.tc : Thread Cert.Down1ReferenceIdeal.nD Cert.Down1ReferenceIdeal.τ).loc Cert.Down1ReferenceIdeal.main_arg1) = m ((c.tc : Thread Cert.Down1Ideal.nD Cert.Down1Ideal.τ).loc Cert.Down1Ideal.main_arg1)
      ∧ m' ((c.tc : Thread Cert.Down1ReferenceIdeal.nD Cert.Down1ReferenceIdeal.τ).loc Cert.Down1ReferenceIdeal.main_arg2) = m ((c.tc : Thread Cert.Down1Ideal.nD Cert.Down1Ideal.τ).loc Cert.Down1Ideal.main_arg2)
      ∧ m' ((c.tc : Thread Cert.Down1ReferenceIdeal.nD Cert.Down1ReferenceIdeal.τ).loc Cert.Down1ReferenceIdeal.main_arg3) = m ((c.tc : Thread Cert.Down1Ideal.nD Cert.Down1Ideal.τ).loc Cert.Down1Ideal.main_arg3)) →
    ∃ (v0 : (c : Dev Cert.Down1Ideal.nD) → Buf (Elt Ideal) ((c.tc : Thread Cert.Down1Ideal.nD Cert.Down1Ideal.τ).loc Cert.Down1Ideal.main_v0_0)) (v1 : (c : Dev Cert.Down1Ideal.nD) → Buf (Elt Ideal) ((c.tc : Thread Cert.Down1Ideal.nD Cert.Down1Ideal.τ).loc Cert.Down1Ideal.main_v0_1)),
      θ_run (Cert.Down1Ideal.defs (F := Ideal)) (onTc (τ := Cert.Down1Ideal.τ) (Cert.Down1Ideal.main (F := Ideal))) ⟨m, fun _ => 0, g⟩ (fun r => ∀ c : Dev Cert.Down1Ideal.nD,
          r.2.mem ((c.tc : Thread Cert.Down1Ideal.nD Cert.Down1Ideal.τ).loc Cert.Down1Ideal.main_v0_0) = v0 c
          ∧ r.2.mem ((c.tc : Thread Cert.Down1Ideal.nD Cert.Down1Ideal.τ).loc Cert.Down1Ideal.main_v0_1) = v1 c
          ∧ r.2.mem ((c.tc : Thread Cert.Down1Ideal.nD Cert.Down1Ideal.τ).loc Cert.Down1Ideal.main_arg0) = m ((c.tc : Thread Cert.Down1Ideal.nD Cert.Down1Ideal.τ).loc Cert.Down1Ideal.main_arg0)
          ∧ r.2.mem ((c.tc : Thread Cert.Down1Ideal.nD Cert.Down1Ideal.τ).loc Cert.Down1Ideal.main_arg1) = m ((c.tc : Thread Cert.Down1Ideal.nD Cert.Down1Ideal.τ).loc Cert.Down1Ideal.main_arg1)
          ∧ r.2.mem ((c.tc : Thread Cert.Down1Ideal.nD Cert.Down1Ideal.τ).loc Cert.Down1Ideal.main_arg2) = m ((c.tc : Thread Cert.Down1Ideal.nD Cert.Down1Ideal.τ).loc Cert.Down1Ideal.main_arg2)
          ∧ r.2.mem ((c.tc : Thread Cert.Down1Ideal.nD Cert.Down1Ideal.τ).loc Cert.Down1Ideal.main_arg3) = m ((c.tc : Thread Cert.Down1Ideal.nD Cert.Down1Ideal.τ).loc Cert.Down1Ideal.main_arg3))
      ∧ θ_run (Cert.Down1ReferenceIdeal.defs (F := Ideal)) (onTc (τ := Cert.Down1ReferenceIdeal.τ) (Cert.Down1ReferenceIdeal.main (F := Ideal))) ⟨m', fun _ => 0, g'⟩ (fun r => ∀ c : Dev Cert.Down1ReferenceIdeal.nD,
          r.2.mem ((c.tc : Thread Cert.Down1ReferenceIdeal.nD Cert.Down1ReferenceIdeal.τ).loc Cert.Down1ReferenceIdeal.main_v2) = v0 c
          ∧ r.2.mem ((c.tc : Thread Cert.Down1ReferenceIdeal.nD Cert.Down1ReferenceIdeal.τ).loc Cert.Down1ReferenceIdeal.main_v5) = v1 c
          ∧ r.2.mem ((c.tc : Thread Cert.Down1ReferenceIdeal.nD Cert.Down1ReferenceIdeal.τ).loc Cert.Down1ReferenceIdeal.main_arg0) = m' ((c.tc : Thread Cert.Down1ReferenceIdeal.nD Cert.Down1ReferenceIdeal.τ).loc Cert.Down1ReferenceIdeal.main_arg0)
          ∧ r.2.mem ((c.tc : Thread Cert.Down1ReferenceIdeal.nD Cert.Down1ReferenceIdeal.τ).loc Cert.Down1ReferenceIdeal.main_arg1) = m' ((c.tc : Thread Cert.Down1ReferenceIdeal.nD Cert.Down1ReferenceIdeal.τ).loc Cert.Down1ReferenceIdeal.main_arg1)
          ∧ r.2.mem ((c.tc : Thread Cert.Down1ReferenceIdeal.nD Cert.Down1ReferenceIdeal.τ).loc Cert.Down1ReferenceIdeal.main_arg2) = m' ((c.tc : Thread Cert.Down1ReferenceIdeal.nD Cert.Down1ReferenceIdeal.τ).loc Cert.Down1ReferenceIdeal.main_arg2)
          ∧ r.2.mem ((c.tc : Thread Cert.Down1ReferenceIdeal.nD Cert.Down1ReferenceIdeal.τ).loc Cert.Down1ReferenceIdeal.main_arg3) = m' ((c.tc : Thread Cert.Down1ReferenceIdeal.nD Cert.Down1ReferenceIdeal.τ).loc Cert.Down1ReferenceIdeal.main_arg3))

def preserves_Down0_Down0Ideal : Prop :=
  True

def algebraic_Down0Ideal_Down0ReferenceIdeal [hDown0Ideal : Cert.Down0Ideal.Facts] [hDown0ReferenceIdeal : Cert.Down0ReferenceIdeal.Facts] : Prop :=
  ∀ (m : (ℓ : Loc Cert.Down0Ideal.nD Cert.Down0Ideal.τ Cert.Down0Ideal.sig) → Buf (Elt Ideal) ℓ) (g : Dev Cert.Down0Ideal.nD → PrngReg)
    (m' : (ℓ : Loc Cert.Down0ReferenceIdeal.nD Cert.Down0ReferenceIdeal.τ Cert.Down0ReferenceIdeal.sig) → Buf (Elt Ideal) ℓ) (g' : Dev Cert.Down0ReferenceIdeal.nD → PrngReg), Pre_Down0Ideal m →
    (∀ c : Dev Cert.Down0Ideal.nD,
      m' ((c.tc : Thread Cert.Down0ReferenceIdeal.nD Cert.Down0ReferenceIdeal.τ).loc Cert.Down0ReferenceIdeal.main_arg0) = m ((c.tc : Thread Cert.Down0Ideal.nD Cert.Down0Ideal.τ).loc Cert.Down0Ideal.main_arg0)
      ∧ m' ((c.tc : Thread Cert.Down0ReferenceIdeal.nD Cert.Down0ReferenceIdeal.τ).loc Cert.Down0ReferenceIdeal.main_arg1) = m ((c.tc : Thread Cert.Down0Ideal.nD Cert.Down0Ideal.τ).loc Cert.Down0Ideal.main_arg1)
      ∧ m' ((c.tc : Thread Cert.Down0ReferenceIdeal.nD Cert.Down0ReferenceIdeal.τ).loc Cert.Down0ReferenceIdeal.main_arg2) = m ((c.tc : Thread Cert.Down0Ideal.nD Cert.Down0Ideal.τ).loc Cert.Down0Ideal.main_arg2)
      ∧ m' ((c.tc : Thread Cert.Down0ReferenceIdeal.nD Cert.Down0ReferenceIdeal.τ).loc Cert.Down0ReferenceIdeal.main_arg3) = m ((c.tc : Thread Cert.Down0Ideal.nD Cert.Down0Ideal.τ).loc Cert.Down0Ideal.main_arg3)
      ∧ m' ((c.tc : Thread Cert.Down0ReferenceIdeal.nD Cert.Down0ReferenceIdeal.τ).loc Cert.Down0ReferenceIdeal.main_arg4) = m ((c.tc : Thread Cert.Down0Ideal.nD Cert.Down0Ideal.τ).loc Cert.Down0Ideal.main_arg4)
      ∧ m' ((c.tc : Thread Cert.Down0ReferenceIdeal.nD Cert.Down0ReferenceIdeal.τ).loc Cert.Down0ReferenceIdeal.main_arg5) = m ((c.tc : Thread Cert.Down0Ideal.nD Cert.Down0Ideal.τ).loc Cert.Down0Ideal.main_arg5)
      ∧ m' ((c.tc : Thread Cert.Down0ReferenceIdeal.nD Cert.Down0ReferenceIdeal.τ).loc Cert.Down0ReferenceIdeal.main_arg6) = m ((c.tc : Thread Cert.Down0Ideal.nD Cert.Down0Ideal.τ).loc Cert.Down0Ideal.main_arg6)) →
    ∃ (v0 : (c : Dev Cert.Down0Ideal.nD) → Buf (Elt Ideal) ((c.tc : Thread Cert.Down0Ideal.nD Cert.Down0Ideal.τ).loc Cert.Down0Ideal.main_v0_0)) (v1 : (c : Dev Cert.Down0Ideal.nD) → Buf (Elt Ideal) ((c.tc : Thread Cert.Down0Ideal.nD Cert.Down0Ideal.τ).loc Cert.Down0Ideal.main_v0_1)) (v2 : (c : Dev Cert.Down0Ideal.nD) → Buf (Elt Ideal) ((c.tc : Thread Cert.Down0Ideal.nD Cert.Down0Ideal.τ).loc Cert.Down0Ideal.main_v0_2)),
      θ_run (Cert.Down0Ideal.defs (F := Ideal)) (onTc (τ := Cert.Down0Ideal.τ) (Cert.Down0Ideal.main (F := Ideal))) ⟨m, fun _ => 0, g⟩ (fun r => ∀ c : Dev Cert.Down0Ideal.nD,
          r.2.mem ((c.tc : Thread Cert.Down0Ideal.nD Cert.Down0Ideal.τ).loc Cert.Down0Ideal.main_v0_0) = v0 c
          ∧ r.2.mem ((c.tc : Thread Cert.Down0Ideal.nD Cert.Down0Ideal.τ).loc Cert.Down0Ideal.main_v0_1) = v1 c
          ∧ r.2.mem ((c.tc : Thread Cert.Down0Ideal.nD Cert.Down0Ideal.τ).loc Cert.Down0Ideal.main_v0_2) = v2 c
          ∧ r.2.mem ((c.tc : Thread Cert.Down0Ideal.nD Cert.Down0Ideal.τ).loc Cert.Down0Ideal.main_arg0) = m ((c.tc : Thread Cert.Down0Ideal.nD Cert.Down0Ideal.τ).loc Cert.Down0Ideal.main_arg0)
          ∧ r.2.mem ((c.tc : Thread Cert.Down0Ideal.nD Cert.Down0Ideal.τ).loc Cert.Down0Ideal.main_arg1) = m ((c.tc : Thread Cert.Down0Ideal.nD Cert.Down0Ideal.τ).loc Cert.Down0Ideal.main_arg1)
          ∧ r.2.mem ((c.tc : Thread Cert.Down0Ideal.nD Cert.Down0Ideal.τ).loc Cert.Down0Ideal.main_arg2) = m ((c.tc : Thread Cert.Down0Ideal.nD Cert.Down0Ideal.τ).loc Cert.Down0Ideal.main_arg2)
          ∧ r.2.mem ((c.tc : Thread Cert.Down0Ideal.nD Cert.Down0Ideal.τ).loc Cert.Down0Ideal.main_arg3) = m ((c.tc : Thread Cert.Down0Ideal.nD Cert.Down0Ideal.τ).loc Cert.Down0Ideal.main_arg3)
          ∧ r.2.mem ((c.tc : Thread Cert.Down0Ideal.nD Cert.Down0Ideal.τ).loc Cert.Down0Ideal.main_arg4) = m ((c.tc : Thread Cert.Down0Ideal.nD Cert.Down0Ideal.τ).loc Cert.Down0Ideal.main_arg4)
          ∧ r.2.mem ((c.tc : Thread Cert.Down0Ideal.nD Cert.Down0Ideal.τ).loc Cert.Down0Ideal.main_arg5) = m ((c.tc : Thread Cert.Down0Ideal.nD Cert.Down0Ideal.τ).loc Cert.Down0Ideal.main_arg5)
          ∧ r.2.mem ((c.tc : Thread Cert.Down0Ideal.nD Cert.Down0Ideal.τ).loc Cert.Down0Ideal.main_arg6) = m ((c.tc : Thread Cert.Down0Ideal.nD Cert.Down0Ideal.τ).loc Cert.Down0Ideal.main_arg6))
      ∧ θ_run (Cert.Down0ReferenceIdeal.defs (F := Ideal)) (onTc (τ := Cert.Down0ReferenceIdeal.τ) (Cert.Down0ReferenceIdeal.main (F := Ideal))) ⟨m', fun _ => 0, g'⟩ (fun r => ∀ c : Dev Cert.Down0ReferenceIdeal.nD,
          r.2.mem ((c.tc : Thread Cert.Down0ReferenceIdeal.nD Cert.Down0ReferenceIdeal.τ).loc Cert.Down0ReferenceIdeal.main_v2) = v0 c
          ∧ r.2.mem ((c.tc : Thread Cert.Down0ReferenceIdeal.nD Cert.Down0ReferenceIdeal.τ).loc Cert.Down0ReferenceIdeal.main_v5) = v1 c
          ∧ r.2.mem ((c.tc : Thread Cert.Down0ReferenceIdeal.nD Cert.Down0ReferenceIdeal.τ).loc Cert.Down0ReferenceIdeal.main_v24) = v2 c
          ∧ r.2.mem ((c.tc : Thread Cert.Down0ReferenceIdeal.nD Cert.Down0ReferenceIdeal.τ).loc Cert.Down0ReferenceIdeal.main_arg0) = m' ((c.tc : Thread Cert.Down0ReferenceIdeal.nD Cert.Down0ReferenceIdeal.τ).loc Cert.Down0ReferenceIdeal.main_arg0)
          ∧ r.2.mem ((c.tc : Thread Cert.Down0ReferenceIdeal.nD Cert.Down0ReferenceIdeal.τ).loc Cert.Down0ReferenceIdeal.main_arg1) = m' ((c.tc : Thread Cert.Down0ReferenceIdeal.nD Cert.Down0ReferenceIdeal.τ).loc Cert.Down0ReferenceIdeal.main_arg1)
          ∧ r.2.mem ((c.tc : Thread Cert.Down0ReferenceIdeal.nD Cert.Down0ReferenceIdeal.τ).loc Cert.Down0ReferenceIdeal.main_arg2) = m' ((c.tc : Thread Cert.Down0ReferenceIdeal.nD Cert.Down0ReferenceIdeal.τ).loc Cert.Down0ReferenceIdeal.main_arg2)
          ∧ r.2.mem ((c.tc : Thread Cert.Down0ReferenceIdeal.nD Cert.Down0ReferenceIdeal.τ).loc Cert.Down0ReferenceIdeal.main_arg3) = m' ((c.tc : Thread Cert.Down0ReferenceIdeal.nD Cert.Down0ReferenceIdeal.τ).loc Cert.Down0ReferenceIdeal.main_arg3)
          ∧ r.2.mem ((c.tc : Thread Cert.Down0ReferenceIdeal.nD Cert.Down0ReferenceIdeal.τ).loc Cert.Down0ReferenceIdeal.main_arg4) = m' ((c.tc : Thread Cert.Down0ReferenceIdeal.nD Cert.Down0ReferenceIdeal.τ).loc Cert.Down0ReferenceIdeal.main_arg4)
          ∧ r.2.mem ((c.tc : Thread Cert.Down0ReferenceIdeal.nD Cert.Down0ReferenceIdeal.τ).loc Cert.Down0ReferenceIdeal.main_arg5) = m' ((c.tc : Thread Cert.Down0ReferenceIdeal.nD Cert.Down0ReferenceIdeal.τ).loc Cert.Down0ReferenceIdeal.main_arg5)
          ∧ r.2.mem ((c.tc : Thread Cert.Down0ReferenceIdeal.nD Cert.Down0ReferenceIdeal.τ).loc Cert.Down0ReferenceIdeal.main_arg6) = m' ((c.tc : Thread Cert.Down0ReferenceIdeal.nD Cert.Down0ReferenceIdeal.τ).loc Cert.Down0ReferenceIdeal.main_arg6))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)
      ∧ m' ((c.tc : Thread Cert.OutProjReferenceIdeal.nD Cert.OutProjReferenceIdeal.τ).loc Cert.OutProjReferenceIdeal.main_arg5) = m ((c.tc : Thread Cert.OutProjIdeal.nD Cert.OutProjIdeal.τ).loc Cert.OutProjIdeal.main_arg5)
      ∧ m' ((c.tc : Thread Cert.OutProjReferenceIdeal.nD Cert.OutProjReferenceIdeal.τ).loc Cert.OutProjReferenceIdeal.main_arg6) = m ((c.tc : Thread Cert.OutProjIdeal.nD Cert.OutProjIdeal.τ).loc Cert.OutProjIdeal.main_arg6)
      ∧ m' ((c.tc : Thread Cert.OutProjReferenceIdeal.nD Cert.OutProjReferenceIdeal.τ).loc Cert.OutProjReferenceIdeal.main_arg7) = m ((c.tc : Thread Cert.OutProjIdeal.nD Cert.OutProjIdeal.τ).loc Cert.OutProjIdeal.main_arg7)) →
    ∃ (v0 : (c : Dev Cert.OutProjIdeal.nD) → Buf (Elt Ideal) ((c.tc : Thread Cert.OutProjIdeal.nD Cert.OutProjIdeal.τ).loc Cert.OutProjIdeal.main_v2_0)) (v1 : (c : Dev Cert.OutProjIdeal.nD) → Buf (Elt Ideal) ((c.tc : Thread Cert.OutProjIdeal.nD Cert.OutProjIdeal.τ).loc Cert.OutProjIdeal.main_v2_1)) (v2 : (c : Dev Cert.OutProjIdeal.nD) → Buf (Elt Ideal) ((c.tc : Thread Cert.OutProjIdeal.nD Cert.OutProjIdeal.τ).loc Cert.OutProjIdeal.main_v2_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2_0) = v0 c
          ∧ r.2.mem ((c.tc : Thread Cert.OutProjIdeal.nD Cert.OutProjIdeal.τ).loc Cert.OutProjIdeal.main_v2_1) = v1 c
          ∧ r.2.mem ((c.tc : Thread Cert.OutProjIdeal.nD Cert.OutProjIdeal.τ).loc Cert.OutProjIdeal.main_v2_2) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v4) = v0 c
          ∧ r.2.mem ((c.tc : Thread Cert.OutProjReferenceIdeal.nD Cert.OutProjReferenceIdeal.τ).loc Cert.OutProjReferenceIdeal.main_v7) = v1 c
          ∧ r.2.mem ((c.tc : Thread Cert.OutProjReferenceIdeal.nD Cert.OutProjReferenceIdeal.τ).loc Cert.OutProjReferenceIdeal.main_v26) = v2 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4)
          ∧ r.2.mem ((c.tc : Thread Cert.OutProjReferenceIdeal.nD Cert.OutProjReferenceIdeal.τ).loc Cert.OutProjReferenceIdeal.main_arg5) = m' ((c.tc : Thread Cert.OutProjReferenceIdeal.nD Cert.OutProjReferenceIdeal.τ).loc Cert.OutProjReferenceIdeal.main_arg5)
          ∧ r.2.mem ((c.tc : Thread Cert.OutProjReferenceIdeal.nD Cert.OutProjReferenceIdeal.τ).loc Cert.OutProjReferenceIdeal.main_arg6) = m' ((c.tc : Thread Cert.OutProjReferenceIdeal.nD Cert.OutProjReferenceIdeal.τ).loc Cert.OutProjReferenceIdeal.main_arg6)
          ∧ r.2.mem ((c.tc : Thread Cert.OutProjReferenceIdeal.nD Cert.OutProjReferenceIdeal.τ).loc Cert.OutProjReferenceIdeal.main_arg7) = m' ((c.tc : Thread Cert.OutProjReferenceIdeal.nD Cert.OutProjReferenceIdeal.τ).loc Cert.OutProjReferenceIdeal.main_arg7))

def preserves_OProj_OProjIdeal : Prop :=
  True

def algebraic_OProjIdeal_OProjReferenceIdeal [hOProjIdeal : Cert.OProjIdeal.Facts] [hOProjReferenceIdeal : Cert.OProjReferenceIdeal.Facts] : Prop :=
  ∀ (m : (ℓ : Loc Cert.OProjIdeal.nD Cert.OProjIdeal.τ Cert.OProjIdeal.sig) → Buf (Elt Ideal) ℓ) (g : Dev Cert.OProjIdeal.nD → PrngReg)
    (m' : (ℓ : Loc Cert.OProjReferenceIdeal.nD Cert.OProjReferenceIdeal.τ Cert.OProjReferenceIdeal.sig) → Buf (Elt Ideal) ℓ) (g' : Dev Cert.OProjReferenceIdeal.nD → PrngReg), Pre_OProjIdeal m →
    (∀ c : Dev Cert.OProjIdeal.nD,
      m' ((c.tc : Thread Cert.OProjReferenceIdeal.nD Cert.OProjReferenceIdeal.τ).loc Cert.OProjReferenceIdeal.main_arg0) = m ((c.tc : Thread Cert.OProjIdeal.nD Cert.OProjIdeal.τ).loc Cert.OProjIdeal.main_arg0)
      ∧ m' ((c.tc : Thread Cert.OProjReferenceIdeal.nD Cert.OProjReferenceIdeal.τ).loc Cert.OProjReferenceIdeal.main_arg1) = m ((c.tc : Thread Cert.OProjIdeal.nD Cert.OProjIdeal.τ).loc Cert.OProjIdeal.main_arg1)
      ∧ m' ((c.tc : Thread Cert.OProjReferenceIdeal.nD Cert.OProjReferenceIdeal.τ).loc Cert.OProjReferenceIdeal.main_arg2) = m ((c.tc : Thread Cert.OProjIdeal.nD Cert.OProjIdeal.τ).loc Cert.OProjIdeal.main_arg2)
      ∧ m' ((c.tc : Thread Cert.OProjReferenceIdeal.nD Cert.OProjReferenceIdeal.τ).loc Cert.OProjReferenceIdeal.main_arg3) = m ((c.tc : Thread Cert.OProjIdeal.nD Cert.OProjIdeal.τ).loc Cert.OProjIdeal.main_arg3)
      ∧ m' ((c.tc : Thread Cert.OProjReferenceIdeal.nD Cert.OProjReferenceIdeal.τ).loc Cert.OProjReferenceIdeal.main_arg4) = m ((c.tc : Thread Cert.OProjIdeal.nD Cert.OProjIdeal.τ).loc Cert.OProjIdeal.main_arg4)
      ∧ m' ((c.tc : Thread Cert.OProjReferenceIdeal.nD Cert.OProjReferenceIdeal.τ).loc Cert.OProjReferenceIdeal.main_arg5) = m ((c.tc : Thread Cert.OProjIdeal.nD Cert.OProjIdeal.τ).loc Cert.OProjIdeal.main_arg5)
      ∧ m' ((c.tc : Thread Cert.OProjReferenceIdeal.nD Cert.OProjReferenceIdeal.τ).loc Cert.OProjReferenceIdeal.main_arg6) = m ((c.tc : Thread Cert.OProjIdeal.nD Cert.OProjIdeal.τ).loc Cert.OProjIdeal.main_arg6)
      ∧ m' ((c.tc : Thread Cert.OProjReferenceIdeal.nD Cert.OProjReferenceIdeal.τ).loc Cert.OProjReferenceIdeal.main_arg7) = m ((c.tc : Thread Cert.OProjIdeal.nD Cert.OProjIdeal.τ).loc Cert.OProjIdeal.main_arg7)) →
    ∃ (v0 : (c : Dev Cert.OProjIdeal.nD) → Buf (Elt Ideal) ((c.tc : Thread Cert.OProjIdeal.nD Cert.OProjIdeal.τ).loc Cert.OProjIdeal.main_v0_0)) (v1 : (c : Dev Cert.OProjIdeal.nD) → Buf (Elt Ideal) ((c.tc : Thread Cert.OProjIdeal.nD Cert.OProjIdeal.τ).loc Cert.OProjIdeal.main_v0_1)) (v2 : (c : Dev Cert.OProjIdeal.nD) → Buf (Elt Ideal) ((c.tc : Thread Cert.OProjIdeal.nD Cert.OProjIdeal.τ).loc Cert.OProjIdeal.main_v0_2)),
      θ_run (Cert.OProjIdeal.defs (F := Ideal)) (onTc (τ := Cert.OProjIdeal.τ) (Cert.OProjIdeal.main (F := Ideal))) ⟨m, fun _ => 0, g⟩ (fun r => ∀ c : Dev Cert.OProjIdeal.nD,
          r.2.mem ((c.tc : Thread Cert.OProjIdeal.nD Cert.OProjIdeal.τ).loc Cert.OProjIdeal.main_v0_0) = v0 c
          ∧ r.2.mem ((c.tc : Thread Cert.OProjIdeal.nD Cert.OProjIdeal.τ).loc Cert.OProjIdeal.main_v0_1) = v1 c
          ∧ r.2.mem ((c.tc : Thread Cert.OProjIdeal.nD Cert.OProjIdeal.τ).loc Cert.OProjIdeal.main_v0_2) = v2 c
          ∧ r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
          ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
          ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
          ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
          ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4)
          ∧ r.2.mem ((c.tc : Thread Cert.OProjIdeal.nD Cert.OProjIdeal.τ).loc Cert.OProjIdeal.main_arg5) = m ((c.tc : Thread Cert.OProjIdeal.nD Cert.OProjIdeal.τ).loc Cert.OProjIdeal.main_arg5)
          ∧ r.2.mem ((c.tc : Thread Cert.OProjIdeal.nD Cert.OProjIdeal.τ).loc Cert.OProjIdeal.main_arg6) = m ((c.tc : Thread Cert.OProjIdeal.nD Cert.OProjIdeal.τ).loc Cert.OProjIdeal.main_arg6)
          ∧ r.2.mem ((c.tc : Thread Cert.OProjIdeal.nD Cert.OProjIdeal.τ).loc Cert.OProjIdeal.main_arg7) = m ((c.tc : Thread Cert.OProjIdeal.nD Cert.OProjIdeal.τ).loc Cert.OProjIdeal.main_arg7))
      ∧ θ_run (Cert.OProjReferenceIdeal.defs (F := Ideal)) (onTc (τ := Cert.OProjReferenceIdeal.τ) (Cert.OProjReferenceIdeal.main (F := Ideal))) ⟨m', fun _ => 0, g'⟩ (fun r => ∀ c : Dev Cert.OProjReferenceIdeal.nD,
          r.2.mem ((c.tc : Thread Cert.OProjReferenceIdeal.nD Cert.OProjReferenceIdeal.τ).loc Cert.OProjReferenceIdeal.main_v4) = v0 c
          ∧ r.2.mem ((c.tc : Thread Cert.OProjReferenceIdeal.nD Cert.OProjReferenceIdeal.τ).loc Cert.OProjReferenceIdeal.main_v7) = v1 c
          ∧ r.2.mem ((c.tc : Thread Cert.OProjReferenceIdeal.nD Cert.OProjReferenceIdeal.τ).loc Cert.OProjReferenceIdeal.main_v26) = v2 c
          ∧ r.2.mem ((c.tc : Thread Cert.OProjReferenceIdeal.nD Cert.OProjReferenceIdeal.τ).loc Cert.OProjReferenceIdeal.main_arg0) = m' ((c.tc : Thread Cert.OProjReferenceIdeal.nD Cert.OProjReferenceIdeal.τ).loc Cert.OProjReferenceIdeal.main_arg0)
          ∧ r.2.mem ((c.tc : Thread Cert.OProjReferenceIdeal.nD Cert.OProjReferenceIdeal.τ).loc Cert.OProjReferenceIdeal.main_arg1) = m' ((c.tc : Thread Cert.OProjReferenceIdeal.nD Cert.OProjReferenceIdeal.τ).loc Cert.OProjReferenceIdeal.main_arg1)
          ∧ r.2.mem ((c.tc : Thread Cert.OProjReferenceIdeal.nD Cert.OProjReferenceIdeal.τ).loc Cert.OProjReferenceIdeal.main_arg2) = m' ((c.tc : Thread Cert.OProjReferenceIdeal.nD Cert.OProjReferenceIdeal.τ).loc Cert.OProjReferenceIdeal.main_arg2)
          ∧ r.2.mem ((c.tc : Thread Cert.OProjReferenceIdeal.nD Cert.OProjReferenceIdeal.τ).loc Cert.OProjReferenceIdeal.main_arg3) = m' ((c.tc : Thread Cert.OProjReferenceIdeal.nD Cert.OProjReferenceIdeal.τ).loc Cert.OProjReferenceIdeal.main_arg3)
          ∧ r.2.mem ((c.tc : Thread Cert.OProjReferenceIdeal.nD Cert.OProjReferenceIdeal.τ).loc Cert.OProjReferenceIdeal.main_arg4) = m' ((c.tc : Thread Cert.OProjReferenceIdeal.nD Cert.OProjReferenceIdeal.τ).loc Cert.OProjReferenceIdeal.main_arg4)
          ∧ r.2.mem ((c.tc : Thread Cert.OProjReferenceIdeal.nD Cert.OProjReferenceIdeal.τ).loc Cert.OProjReferenceIdeal.main_arg5) = m' ((c.tc : Thread Cert.OProjReferenceIdeal.nD Cert.OProjReferenceIdeal.τ).loc Cert.OProjReferenceIdeal.main_arg5)
          ∧ r.2.mem ((c.tc : Thread Cert.OProjReferenceIdeal.nD Cert.OProjReferenceIdeal.τ).loc Cert.OProjReferenceIdeal.main_arg6) = m' ((c.tc : Thread Cert.OProjReferenceIdeal.nD Cert.OProjReferenceIdeal.τ).loc Cert.OProjReferenceIdeal.main_arg6)
          ∧ r.2.mem ((c.tc : Thread Cert.OProjReferenceIdeal.nD Cert.OProjReferenceIdeal.τ).loc Cert.OProjReferenceIdeal.main_arg7) = m' ((c.tc : Thread Cert.OProjReferenceIdeal.nD Cert.OProjReferenceIdeal.τ).loc Cert.OProjReferenceIdeal.main_arg7))

def preserves_NormGrad_NormGradIdeal : Prop :=
  True

def algebraic_NormGradIdeal_NormGradReferenceIdeal [hNormGradIdeal : Cert.NormGradIdeal.Facts] [hNormGradReferenceIdeal : Cert.NormGradReferenceIdeal.Facts] : Prop :=
  ∀ (m : (ℓ : Loc Cert.NormGradIdeal.nD Cert.NormGradIdeal.τ Cert.NormGradIdeal.sig) → Buf (Elt Ideal) ℓ) (g : Dev Cert.NormGradIdeal.nD → PrngReg)
    (m' : (ℓ : Loc Cert.NormGradReferenceIdeal.nD Cert.NormGradReferenceIdeal.τ Cert.NormGradReferenceIdeal.sig) → Buf (Elt Ideal) ℓ) (g' : Dev Cert.NormGradReferenceIdeal.nD → PrngReg), Pre_NormGradIdeal m →
    (∀ c : Dev Cert.NormGradIdeal.nD,
      m' ((c.tc : Thread Cert.NormGradReferenceIdeal.nD Cert.NormGradReferenceIdeal.τ).loc Cert.NormGradReferenceIdeal.main_arg0) = m ((c.tc : Thread Cert.NormGradIdeal.nD Cert.NormGradIdeal.τ).loc Cert.NormGradIdeal.main_arg0)
      ∧ m' ((c.tc : Thread Cert.NormGradReferenceIdeal.nD Cert.NormGradReferenceIdeal.τ).loc Cert.NormGradReferenceIdeal.main_arg1) = m ((c.tc : Thread Cert.NormGradIdeal.nD Cert.NormGradIdeal.τ).loc Cert.NormGradIdeal.main_arg1)
      ∧ m' ((c.tc : Thread Cert.NormGradReferenceIdeal.nD Cert.NormGradReferenceIdeal.τ).loc Cert.NormGradReferenceIdeal.main_arg2) = m ((c.tc : Thread Cert.NormGradIdeal.nD Cert.NormGradIdeal.τ).loc Cert.NormGradIdeal.main_arg2)
      ∧ m' ((c.tc : Thread Cert.NormGradReferenceIdeal.nD Cert.NormGradReferenceIdeal.τ).loc Cert.NormGradReferenceIdeal.main_arg3) = m ((c.tc : Thread Cert.NormGradIdeal.nD Cert.NormGradIdeal.τ).loc Cert.NormGradIdeal.main_arg3)
      ∧ m' ((c.tc : Thread Cert.NormGradReferenceIdeal.nD Cert.NormGradReferenceIdeal.τ).loc Cert.NormGradReferenceIdeal.main_arg4) = m ((c.tc : Thread Cert.NormGradIdeal.nD Cert.NormGradIdeal.τ).loc Cert.NormGradIdeal.main_arg4)
      ∧ m' ((c.tc : Thread Cert.NormGradReferenceIdeal.nD Cert.NormGradReferenceIdeal.τ).loc Cert.NormGradReferenceIdeal.main_arg5) = m ((c.tc : Thread Cert.NormGradIdeal.nD Cert.NormGradIdeal.τ).loc Cert.NormGradIdeal.main_arg5)) →
    ∃ (v0 : (c : Dev Cert.NormGradIdeal.nD) → Buf (Elt Ideal) ((c.tc : Thread Cert.NormGradIdeal.nD Cert.NormGradIdeal.τ).loc Cert.NormGradIdeal.main_v0_0)) (v1 : (c : Dev Cert.NormGradIdeal.nD) → Buf (Elt Ideal) ((c.tc : Thread Cert.NormGradIdeal.nD Cert.NormGradIdeal.τ).loc Cert.NormGradIdeal.main_v0_1)) (v2 : (c : Dev Cert.NormGradIdeal.nD) → Buf (Elt Ideal) ((c.tc : Thread Cert.NormGradIdeal.nD Cert.NormGradIdeal.τ).loc Cert.NormGradIdeal.main_v0_2)) (v3 : (c : Dev Cert.NormGradIdeal.nD) → Buf (Elt Ideal) ((c.tc : Thread Cert.NormGradIdeal.nD Cert.NormGradIdeal.τ).loc Cert.NormGradIdeal.main_v0_3)),
      θ_run (Cert.NormGradIdeal.defs (F := Ideal)) (onTc (τ := Cert.NormGradIdeal.τ) (Cert.NormGradIdeal.main (F := Ideal))) ⟨m, fun _ => 0, g⟩ (fun r => ∀ c : Dev Cert.NormGradIdeal.nD,
          r.2.mem ((c.tc : Thread Cert.NormGradIdeal.nD Cert.NormGradIdeal.τ).loc Cert.NormGradIdeal.main_v0_0) = v0 c
          ∧ r.2.mem ((c.tc : Thread Cert.NormGradIdeal.nD Cert.NormGradIdeal.τ).loc Cert.NormGradIdeal.main_v0_1) = v1 c
          ∧ r.2.mem ((c.tc : Thread Cert.NormGradIdeal.nD Cert.NormGradIdeal.τ).loc Cert.NormGradIdeal.main_v0_2) = v2 c
          ∧ r.2.mem ((c.tc : Thread Cert.NormGradIdeal.nD Cert.NormGradIdeal.τ).loc Cert.NormGradIdeal.main_v0_3) = v3 c
          ∧ r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
          ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
          ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
          ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
          ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4)
          ∧ r.2.mem ((c.tc : Thread Cert.NormGradIdeal.nD Cert.NormGradIdeal.τ).loc Cert.NormGradIdeal.main_arg5) = m ((c.tc : Thread Cert.NormGradIdeal.nD Cert.NormGradIdeal.τ).loc Cert.NormGradIdeal.main_arg5))
      ∧ θ_run (Cert.NormGradReferenceIdeal.defs (F := Ideal)) (onTc (τ := Cert.NormGradReferenceIdeal.τ) (Cert.NormGradReferenceIdeal.main (F := Ideal))) ⟨m', fun _ => 0, g'⟩ (fun r => ∀ c : Dev Cert.NormGradReferenceIdeal.nD,
          r.2.mem ((c.tc : Thread Cert.NormGradReferenceIdeal.nD Cert.NormGradReferenceIdeal.τ).loc Cert.NormGradReferenceIdeal.main_v48) = v0 c
          ∧ r.2.mem ((c.tc : Thread Cert.NormGradReferenceIdeal.nD Cert.NormGradReferenceIdeal.τ).loc Cert.NormGradReferenceIdeal.main_v23) = v1 c
          ∧ r.2.mem ((c.tc : Thread Cert.NormGradReferenceIdeal.nD Cert.NormGradReferenceIdeal.τ).loc Cert.NormGradReferenceIdeal.main_v26) = v2 c
          ∧ r.2.mem ((c.tc : Thread Cert.NormGradReferenceIdeal.nD Cert.NormGradReferenceIdeal.τ).loc Cert.NormGradReferenceIdeal.main_v31) = v3 c
          ∧ r.2.mem ((c.tc : Thread Cert.NormGradReferenceIdeal.nD Cert.NormGradReferenceIdeal.τ).loc Cert.NormGradReferenceIdeal.main_arg0) = m' ((c.tc : Thread Cert.NormGradReferenceIdeal.nD Cert.NormGradReferenceIdeal.τ).loc Cert.NormGradReferenceIdeal.main_arg0)
          ∧ r.2.mem ((c.tc : Thread Cert.NormGradReferenceIdeal.nD Cert.NormGradReferenceIdeal.τ).loc Cert.NormGradReferenceIdeal.main_arg1) = m' ((c.tc : Thread Cert.NormGradReferenceIdeal.nD Cert.NormGradReferenceIdeal.τ).loc Cert.NormGradReferenceIdeal.main_arg1)
          ∧ r.2.mem ((c.tc : Thread Cert.NormGradReferenceIdeal.nD Cert.NormGradReferenceIdeal.τ).loc Cert.NormGradReferenceIdeal.main_arg2) = m' ((c.tc : Thread Cert.NormGradReferenceIdeal.nD Cert.NormGradReferenceIdeal.τ).loc Cert.NormGradReferenceIdeal.main_arg2)
          ∧ r.2.mem ((c.tc : Thread Cert.NormGradReferenceIdeal.nD Cert.NormGradReferenceIdeal.τ).loc Cert.NormGradReferenceIdeal.main_arg3) = m' ((c.tc : Thread Cert.NormGradReferenceIdeal.nD Cert.NormGradReferenceIdeal.τ).loc Cert.NormGradReferenceIdeal.main_arg3)
          ∧ r.2.mem ((c.tc : Thread Cert.NormGradReferenceIdeal.nD Cert.NormGradReferenceIdeal.τ).loc Cert.NormGradReferenceIdeal.main_arg4) = m' ((c.tc : Thread Cert.NormGradReferenceIdeal.nD Cert.NormGradReferenceIdeal.τ).loc Cert.NormGradReferenceIdeal.main_arg4)
          ∧ r.2.mem ((c.tc : Thread Cert.NormGradReferenceIdeal.nD Cert.NormGradReferenceIdeal.τ).loc Cert.NormGradReferenceIdeal.main_arg5) = m' ((c.tc : Thread Cert.NormGradReferenceIdeal.nD Cert.NormGradReferenceIdeal.τ).loc Cert.NormGradReferenceIdeal.main_arg5))

def preserves_NormGate_NormGateIdeal : Prop :=
  True

def algebraic_NormGateIdeal_NormGateReferenceIdeal [hNormGateIdeal : Cert.NormGateIdeal.Facts] [hNormGateReferenceIdeal : Cert.NormGateReferenceIdeal.Facts] : Prop :=
  ∀ (m : (ℓ : Loc Cert.NormGateIdeal.nD Cert.NormGateIdeal.τ Cert.NormGateIdeal.sig) → Buf (Elt Ideal) ℓ) (g : Dev Cert.NormGateIdeal.nD → PrngReg)
    (m' : (ℓ : Loc Cert.NormGateReferenceIdeal.nD Cert.NormGateReferenceIdeal.τ Cert.NormGateReferenceIdeal.sig) → Buf (Elt Ideal) ℓ) (g' : Dev Cert.NormGateReferenceIdeal.nD → PrngReg), Pre_NormGateIdeal m →
    (∀ c : Dev Cert.NormGateIdeal.nD,
      m' ((c.tc : Thread Cert.NormGateReferenceIdeal.nD Cert.NormGateReferenceIdeal.τ).loc Cert.NormGateReferenceIdeal.main_arg0) = m ((c.tc : Thread Cert.NormGateIdeal.nD Cert.NormGateIdeal.τ).loc Cert.NormGateIdeal.main_arg0)
      ∧ m' ((c.tc : Thread Cert.NormGateReferenceIdeal.nD Cert.NormGateReferenceIdeal.τ).loc Cert.NormGateReferenceIdeal.main_arg1) = m ((c.tc : Thread Cert.NormGateIdeal.nD Cert.NormGateIdeal.τ).loc Cert.NormGateIdeal.main_arg1)
      ∧ m' ((c.tc : Thread Cert.NormGateReferenceIdeal.nD Cert.NormGateReferenceIdeal.τ).loc Cert.NormGateReferenceIdeal.main_arg2) = m ((c.tc : Thread Cert.NormGateIdeal.nD Cert.NormGateIdeal.τ).loc Cert.NormGateIdeal.main_arg2)
      ∧ m' ((c.tc : Thread Cert.NormGateReferenceIdeal.nD Cert.NormGateReferenceIdeal.τ).loc Cert.NormGateReferenceIdeal.main_arg3) = m ((c.tc : Thread Cert.NormGateIdeal.nD Cert.NormGateIdeal.τ).loc Cert.NormGateIdeal.main_arg3)
      ∧ m' ((c.tc : Thread Cert.NormGateReferenceIdeal.nD Cert.NormGateReferenceIdeal.τ).loc Cert.NormGateReferenceIdeal.main_arg4) = m ((c.tc : Thread Cert.NormGateIdeal.nD Cert.NormGateIdeal.τ).loc Cert.NormGateIdeal.main_arg4)
      ∧ m' ((c.tc : Thread Cert.NormGateReferenceIdeal.nD Cert.NormGateReferenceIdeal.τ).loc Cert.NormGateReferenceIdeal.main_arg5) = m ((c.tc : Thread Cert.NormGateIdeal.nD Cert.NormGateIdeal.τ).loc Cert.NormGateIdeal.main_arg5)
      ∧ m' ((c.tc : Thread Cert.NormGateReferenceIdeal.nD Cert.NormGateReferenceIdeal.τ).loc Cert.NormGateReferenceIdeal.main_arg6) = m ((c.tc : Thread Cert.NormGateIdeal.nD Cert.NormGateIdeal.τ).loc Cert.NormGateIdeal.main_arg6)
      ∧ m' ((c.tc : Thread Cert.NormGateReferenceIdeal.nD Cert.NormGateReferenceIdeal.τ).loc Cert.NormGateReferenceIdeal.main_arg7) = m ((c.tc : Thread Cert.NormGateIdeal.nD Cert.NormGateIdeal.τ).loc Cert.NormGateIdeal.main_arg7)
      ∧ m' ((c.tc : Thread Cert.NormGateReferenceIdeal.nD Cert.NormGateReferenceIdeal.τ).loc Cert.NormGateReferenceIdeal.main_arg8) = m ((c.tc : Thread Cert.NormGateIdeal.nD Cert.NormGateIdeal.τ).loc Cert.NormGateIdeal.main_arg8)) →
    ∃ (v0 : (c : Dev Cert.NormGateIdeal.nD) → Buf (Elt Ideal) ((c.tc : Thread Cert.NormGateIdeal.nD Cert.NormGateIdeal.τ).loc Cert.NormGateIdeal.main_v5_0)) (v1 : (c : Dev Cert.NormGateIdeal.nD) → Buf (Elt Ideal) ((c.tc : Thread Cert.NormGateIdeal.nD Cert.NormGateIdeal.τ).loc Cert.NormGateIdeal.main_v5_1)) (v2 : (c : Dev Cert.NormGateIdeal.nD) → Buf (Elt Ideal) ((c.tc : Thread Cert.NormGateIdeal.nD Cert.NormGateIdeal.τ).loc Cert.NormGateIdeal.main_v5_2)) (v3 : (c : Dev Cert.NormGateIdeal.nD) → Buf (Elt Ideal) ((c.tc : Thread Cert.NormGateIdeal.nD Cert.NormGateIdeal.τ).loc Cert.NormGateIdeal.main_v5_3)) (v4 : (c : Dev Cert.NormGateIdeal.nD) → Buf (Elt Ideal) ((c.tc : Thread Cert.NormGateIdeal.nD Cert.NormGateIdeal.τ).loc Cert.NormGateIdeal.main_v5_4)) (v5 : (c : Dev Cert.NormGateIdeal.nD) → Buf (Elt Ideal) ((c.tc : Thread Cert.NormGateIdeal.nD Cert.NormGateIdeal.τ).loc Cert.NormGateIdeal.main_v5_5)) (v6 : (c : Dev Cert.NormGateIdeal.nD) → Buf (Elt Ideal) ((c.tc : Thread Cert.NormGateIdeal.nD Cert.NormGateIdeal.τ).loc Cert.NormGateIdeal.main_v5_6)),
      θ_run (Cert.NormGateIdeal.defs (F := Ideal)) (onTc (τ := Cert.NormGateIdeal.τ) (Cert.NormGateIdeal.main (F := Ideal))) ⟨m, fun _ => 0, g⟩ (fun r => ∀ c : Dev Cert.NormGateIdeal.nD,
          r.2.mem ((c.tc : Thread Cert.NormGateIdeal.nD Cert.NormGateIdeal.τ).loc Cert.NormGateIdeal.main_v5_0) = v0 c
          ∧ r.2.mem ((c.tc : Thread Cert.NormGateIdeal.nD Cert.NormGateIdeal.τ).loc Cert.NormGateIdeal.main_v5_1) = v1 c
          ∧ r.2.mem ((c.tc : Thread Cert.NormGateIdeal.nD Cert.NormGateIdeal.τ).loc Cert.NormGateIdeal.main_v5_2) = v2 c
          ∧ r.2.mem ((c.tc : Thread Cert.NormGateIdeal.nD Cert.NormGateIdeal.τ).loc Cert.NormGateIdeal.main_v5_3) = v3 c
          ∧ r.2.mem ((c.tc : Thread Cert.NormGateIdeal.nD Cert.NormGateIdeal.τ).loc Cert.NormGateIdeal.main_v5_4) = v4 c
          ∧ r.2.mem ((c.tc : Thread Cert.NormGateIdeal.nD Cert.NormGateIdeal.τ).loc Cert.NormGateIdeal.main_v5_5) = v5 c
          ∧ r.2.mem ((c.tc : Thread Cert.NormGateIdeal.nD Cert.NormGateIdeal.τ).loc Cert.NormGateIdeal.main_v5_6) = v6 c
          ∧ r.2.mem ((c.tc : Thread Cert.NormGateIdeal.nD Cert.NormGateIdeal.τ).loc Cert.NormGateIdeal.main_arg0) = m ((c.tc : Thread Cert.NormGateIdeal.nD Cert.NormGateIdeal.τ).loc Cert.NormGateIdeal.main_arg0)
          ∧ r.2.mem ((c.tc : Thread Cert.NormGateIdeal.nD Cert.NormGateIdeal.τ).loc Cert.NormGateIdeal.main_arg1) = m ((c.tc : Thread Cert.NormGateIdeal.nD Cert.NormGateIdeal.τ).loc Cert.NormGateIdeal.main_arg1)
          ∧ r.2.mem ((c.tc : Thread Cert.NormGateIdeal.nD Cert.NormGateIdeal.τ).loc Cert.NormGateIdeal.main_arg2) = m ((c.tc : Thread Cert.NormGateIdeal.nD Cert.NormGateIdeal.τ).loc Cert.NormGateIdeal.main_arg2)
          ∧ r.2.mem ((c.tc : Thread Cert.NormGateIdeal.nD Cert.NormGateIdeal.τ).loc Cert.NormGateIdeal.main_arg3) = m ((c.tc : Thread Cert.NormGateIdeal.nD Cert.NormGateIdeal.τ).loc Cert.NormGateIdeal.main_arg3)
          ∧ r.2.mem ((c.tc : Thread Cert.NormGateIdeal.nD Cert.NormGateIdeal.τ).loc Cert.NormGateIdeal.main_arg4) = m ((c.tc : Thread Cert.NormGateIdeal.nD Cert.NormGateIdeal.τ).loc Cert.NormGateIdeal.main_arg4)
          ∧ r.2.mem ((c.tc : Thread Cert.NormGateIdeal.nD Cert.NormGateIdeal.τ).loc Cert.NormGateIdeal.main_arg5) = m ((c.tc : Thread Cert.NormGateIdeal.nD Cert.NormGateIdeal.τ).loc Cert.NormGateIdeal.main_arg5)
          ∧ r.2.mem ((c.tc : Thread Cert.NormGateIdeal.nD Cert.NormGateIdeal.τ).loc Cert.NormGateIdeal.main_arg6) = m ((c.tc : Thread Cert.NormGateIdeal.nD Cert.NormGateIdeal.τ).loc Cert.NormGateIdeal.main_arg6)
          ∧ r.2.mem ((c.tc : Thread Cert.NormGateIdeal.nD Cert.NormGateIdeal.τ).loc Cert.NormGateIdeal.main_arg7) = m ((c.tc : Thread Cert.NormGateIdeal.nD Cert.NormGateIdeal.τ).loc Cert.NormGateIdeal.main_arg7)
          ∧ r.2.mem ((c.tc : Thread Cert.NormGateIdeal.nD Cert.NormGateIdeal.τ).loc Cert.NormGateIdeal.main_arg8) = m ((c.tc : Thread Cert.NormGateIdeal.nD Cert.NormGateIdeal.τ).loc Cert.NormGateIdeal.main_arg8))
      ∧ θ_run (Cert.NormGateReferenceIdeal.defs (F := Ideal)) (onTc (τ := Cert.NormGateReferenceIdeal.τ) (Cert.NormGateReferenceIdeal.main (F := Ideal))) ⟨m', fun _ => 0, g'⟩ (fun r => ∀ c : Dev Cert.NormGateReferenceIdeal.nD,
          r.2.mem ((c.tc : Thread Cert.NormGateReferenceIdeal.nD Cert.NormGateReferenceIdeal.τ).loc Cert.NormGateReferenceIdeal.main_v53) = v0 c
          ∧ r.2.mem ((c.tc : Thread Cert.NormGateReferenceIdeal.nD Cert.NormGateReferenceIdeal.τ).loc Cert.NormGateReferenceIdeal.main_v62) = v1 c
          ∧ r.2.mem ((c.tc : Thread Cert.NormGateReferenceIdeal.nD Cert.NormGateReferenceIdeal.τ).loc Cert.NormGateReferenceIdeal.main_v28) = v2 c
          ∧ r.2.mem ((c.tc : Thread Cert.NormGateReferenceIdeal.nD Cert.NormGateReferenceIdeal.τ).loc Cert.NormGateReferenceIdeal.main_v31) = v3 c
          ∧ r.2.mem ((c.tc : Thread Cert.NormGateReferenceIdeal.nD Cert.NormGateReferenceIdeal.τ).loc Cert.NormGateReferenceIdeal.main_v36) = v4 c
          ∧ r.2.mem ((c.tc : Thread Cert.NormGateReferenceIdeal.nD Cert.NormGateReferenceIdeal.τ).loc Cert.NormGateReferenceIdeal.main_v59) = v5 c
          ∧ r.2.mem ((c.tc : Thread Cert.NormGateReferenceIdeal.nD Cert.NormGateReferenceIdeal.τ).loc Cert.NormGateReferenceIdeal.main_v61) = v6 c
          ∧ r.2.mem ((c.tc : Thread Cert.NormGateReferenceIdeal.nD Cert.NormGateReferenceIdeal.τ).loc Cert.NormGateReferenceIdeal.main_arg0) = m' ((c.tc : Thread Cert.NormGateReferenceIdeal.nD Cert.NormGateReferenceIdeal.τ).loc Cert.NormGateReferenceIdeal.main_arg0)
          ∧ r.2.mem ((c.tc : Thread Cert.NormGateReferenceIdeal.nD Cert.NormGateReferenceIdeal.τ).loc Cert.NormGateReferenceIdeal.main_arg1) = m' ((c.tc : Thread Cert.NormGateReferenceIdeal.nD Cert.NormGateReferenceIdeal.τ).loc Cert.NormGateReferenceIdeal.main_arg1)
          ∧ r.2.mem ((c.tc : Thread Cert.NormGateReferenceIdeal.nD Cert.NormGateReferenceIdeal.τ).loc Cert.NormGateReferenceIdeal.main_arg2) = m' ((c.tc : Thread Cert.NormGateReferenceIdeal.nD Cert.NormGateReferenceIdeal.τ).loc Cert.NormGateReferenceIdeal.main_arg2)
          ∧ r.2.mem ((c.tc : Thread Cert.NormGateReferenceIdeal.nD Cert.NormGateReferenceIdeal.τ).loc Cert.NormGateReferenceIdeal.main_arg3) = m' ((c.tc : Thread Cert.NormGateReferenceIdeal.nD Cert.NormGateReferenceIdeal.τ).loc Cert.NormGateReferenceIdeal.main_arg3)
          ∧ r.2.mem ((c.tc : Thread Cert.NormGateReferenceIdeal.nD Cert.NormGateReferenceIdeal.τ).loc Cert.NormGateReferenceIdeal.main_arg4) = m' ((c.tc : Thread Cert.NormGateReferenceIdeal.nD Cert.NormGateReferenceIdeal.τ).loc Cert.NormGateReferenceIdeal.main_arg4)
          ∧ r.2.mem ((c.tc : Thread Cert.NormGateReferenceIdeal.nD Cert.NormGateReferenceIdeal.τ).loc Cert.NormGateReferenceIdeal.main_arg5) = m' ((c.tc : Thread Cert.NormGateReferenceIdeal.nD Cert.NormGateReferenceIdeal.τ).loc Cert.NormGateReferenceIdeal.main_arg5)
          ∧ r.2.mem ((c.tc : Thread Cert.NormGateReferenceIdeal.nD Cert.NormGateReferenceIdeal.τ).loc Cert.NormGateReferenceIdeal.main_arg6) = m' ((c.tc : Thread Cert.NormGateReferenceIdeal.nD Cert.NormGateReferenceIdeal.τ).loc Cert.NormGateReferenceIdeal.main_arg6)
          ∧ r.2.mem ((c.tc : Thread Cert.NormGateReferenceIdeal.nD Cert.NormGateReferenceIdeal.τ).loc Cert.NormGateReferenceIdeal.main_arg7) = m' ((c.tc : Thread Cert.NormGateReferenceIdeal.nD Cert.NormGateReferenceIdeal.τ).loc Cert.NormGateReferenceIdeal.main_arg7)
          ∧ r.2.mem ((c.tc : Thread Cert.NormGateReferenceIdeal.nD Cert.NormGateReferenceIdeal.τ).loc Cert.NormGateReferenceIdeal.main_arg8) = m' ((c.tc : Thread Cert.NormGateReferenceIdeal.nD Cert.NormGateReferenceIdeal.τ).loc Cert.NormGateReferenceIdeal.main_arg8))

def Claim : Prop :=
  ∃ (hKernel : Cert.Kernel.Facts) (hKernelIdeal : Cert.KernelIdeal.Facts) (hReferenceIdeal : Cert.ReferenceIdeal.Facts) (hWeightGrad : Cert.WeightGrad.Facts) (hWeightGradIdeal : Cert.WeightGradIdeal.Facts) (hWeightGradReferenceIdeal : Cert.WeightGradReferenceIdeal.Facts) (hInputGrad : Cert.InputGrad.Facts) (hInputGradIdeal : Cert.InputGradIdeal.Facts) (hInputGradReferenceIdeal : Cert.InputGradReferenceIdeal.Facts) (hActGrad : Cert.ActGrad.Facts) (hActGradIdeal : Cert.ActGradIdeal.Facts) (hActGradReferenceIdeal : Cert.ActGradReferenceIdeal.Facts) (hUp : Cert.Up.Facts) (hUpIdeal : Cert.UpIdeal.Facts) (hUpReferenceIdeal : Cert.UpReferenceIdeal.Facts) (hOutGrad1 : Cert.OutGrad1.Facts) (hOutGrad1Ideal : Cert.OutGrad1Ideal.Facts) (hOutGrad1ReferenceIdeal : Cert.OutGrad1ReferenceIdeal.Facts) (hOutWeight1 : Cert.OutWeight1.Facts) (hOutWeight1Ideal : Cert.OutWeight1Ideal.Facts) (hOutWeight1ReferenceIdeal : Cert.OutWeight1ReferenceIdeal.Facts) (hQkvGrad : Cert.QkvGrad.Facts) (hQkvGradIdeal : Cert.QkvGradIdeal.Facts) (hQkvGradReferenceIdeal : Cert.QkvGradReferenceIdeal.Facts) (hQkvWeight : Cert.QkvWeight.Facts) (hQkvWeightIdeal : Cert.QkvWeightIdeal.Facts) (hQkvWeightReferenceIdeal : Cert.QkvWeightReferenceIdeal.Facts) (hOutGrad0 : Cert.OutGrad0.Facts) (hOutGrad0Ideal : Cert.OutGrad0Ideal.Facts) (hOutGrad0ReferenceIdeal : Cert.OutGrad0ReferenceIdeal.Facts) (hOutWeight0 : Cert.OutWeight0.Facts) (hOutWeight0Ideal : Cert.OutWeight0Ideal.Facts) (hOutWeight0ReferenceIdeal : Cert.OutWeight0ReferenceIdeal.Facts) (hInGrad : Cert.InGrad.Facts) (hInGradIdeal : Cert.InGradIdeal.Facts) (hInGradReferenceIdeal : Cert.InGradReferenceIdeal.Facts) (hInWeight : Cert.InWeight.Facts) (hInWeightIdeal : Cert.InWeightIdeal.Facts) (hInWeightReferenceIdeal : Cert.InWeightReferenceIdeal.Facts) (hInProj : Cert.InProj.Facts) (hInProjIdeal : Cert.InProjIdeal.Facts) (hInProjReferenceIdeal : Cert.InProjReferenceIdeal.Facts) (hQkvProj : Cert.QkvProj.Facts) (hQkvProjIdeal : Cert.QkvProjIdeal.Facts) (hQkvProjReferenceIdeal : Cert.QkvProjReferenceIdeal.Facts) (hDown1 : Cert.Down1.Facts) (hDown1Ideal : Cert.Down1Ideal.Facts) (hDown1ReferenceIdeal : Cert.Down1ReferenceIdeal.Facts) (hDown0 : Cert.Down0.Facts) (hDown0Ideal : Cert.Down0Ideal.Facts) (hDown0ReferenceIdeal : Cert.Down0ReferenceIdeal.Facts) (hOutProj : Cert.OutProj.Facts) (hOutProjIdeal : Cert.OutProjIdeal.Facts) (hOutProjReferenceIdeal : Cert.OutProjReferenceIdeal.Facts) (hOProj : Cert.OProj.Facts) (hOProjIdeal : Cert.OProjIdeal.Facts) (hOProjReferenceIdeal : Cert.OProjReferenceIdeal.Facts) (hNormGrad : Cert.NormGrad.Facts) (hNormGradIdeal : Cert.NormGradIdeal.Facts) (hNormGradReferenceIdeal : Cert.NormGradReferenceIdeal.Facts) (hNormGate : Cert.NormGate.Facts) (hNormGateIdeal : Cert.NormGateIdeal.Facts) (hNormGateReferenceIdeal : Cert.NormGateReferenceIdeal.Facts) (hPre_finite : Cert.Pre_finite.Facts) (hPre_dact_finite : Cert.Pre_dact_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_WeightGrad (hWeightGrad := hWeightGrad)
    ∧ quiescent_WeightGradIdeal (hWeightGradIdeal := hWeightGradIdeal)
    ∧ quiescent_WeightGradReferenceIdeal (hWeightGradReferenceIdeal := hWeightGradReferenceIdeal)
    ∧ quiescent_InputGrad (hInputGrad := hInputGrad)
    ∧ quiescent_InputGradIdeal (hInputGradIdeal := hInputGradIdeal)
    ∧ quiescent_InputGradReferenceIdeal (hInputGradReferenceIdeal := hInputGradReferenceIdeal)
    ∧ quiescent_ActGrad (hActGrad := hActGrad)
    ∧ quiescent_ActGradIdeal (hActGradIdeal := hActGradIdeal)
    ∧ quiescent_ActGradIdeal_pre_dact_finite (hActGradIdeal := hActGradIdeal) (hPre_dact_finite := hPre_dact_finite)
    ∧ quiescent_ActGradReferenceIdeal (hActGradReferenceIdeal := hActGradReferenceIdeal)
    ∧ quiescent_ActGradReferenceIdeal_pre_dact_finite (hActGradReferenceIdeal := hActGradReferenceIdeal) (hPre_dact_finite := hPre_dact_finite)
    ∧ quiescent_Up (hUp := hUp)
    ∧ quiescent_UpIdeal (hUpIdeal := hUpIdeal)
    ∧ quiescent_UpReferenceIdeal (hUpReferenceIdeal := hUpReferenceIdeal)
    ∧ quiescent_OutGrad1 (hOutGrad1 := hOutGrad1)
    ∧ quiescent_OutGrad1Ideal (hOutGrad1Ideal := hOutGrad1Ideal)
    ∧ quiescent_OutGrad1ReferenceIdeal (hOutGrad1ReferenceIdeal := hOutGrad1ReferenceIdeal)
    ∧ quiescent_OutWeight1 (hOutWeight1 := hOutWeight1)
    ∧ quiescent_OutWeight1Ideal (hOutWeight1Ideal := hOutWeight1Ideal)
    ∧ quiescent_OutWeight1ReferenceIdeal (hOutWeight1ReferenceIdeal := hOutWeight1ReferenceIdeal)
    ∧ quiescent_QkvGrad (hQkvGrad := hQkvGrad)
    ∧ quiescent_QkvGradIdeal (hQkvGradIdeal := hQkvGradIdeal)
    ∧ quiescent_QkvGradReferenceIdeal (hQkvGradReferenceIdeal := hQkvGradReferenceIdeal)
    ∧ quiescent_QkvWeight (hQkvWeight := hQkvWeight)
    ∧ quiescent_QkvWeightIdeal (hQkvWeightIdeal := hQkvWeightIdeal)
    ∧ quiescent_QkvWeightReferenceIdeal (hQkvWeightReferenceIdeal := hQkvWeightReferenceIdeal)
    ∧ quiescent_OutGrad0 (hOutGrad0 := hOutGrad0)
    ∧ quiescent_OutGrad0Ideal (hOutGrad0Ideal := hOutGrad0Ideal)
    ∧ quiescent_OutGrad0ReferenceIdeal (hOutGrad0ReferenceIdeal := hOutGrad0ReferenceIdeal)
    ∧ quiescent_OutWeight0 (hOutWeight0 := hOutWeight0)
    ∧ quiescent_OutWeight0Ideal (hOutWeight0Ideal := hOutWeight0Ideal)
    ∧ quiescent_OutWeight0ReferenceIdeal (hOutWeight0ReferenceIdeal := hOutWeight0ReferenceIdeal)
    ∧ quiescent_InGrad (hInGrad := hInGrad)
    ∧ quiescent_InGradIdeal (hInGradIdeal := hInGradIdeal)
    ∧ quiescent_InGradReferenceIdeal (hInGradReferenceIdeal := hInGradReferenceIdeal)
    ∧ quiescent_InWeight (hInWeight := hInWeight)
    ∧ quiescent_InWeightIdeal (hInWeightIdeal := hInWeightIdeal)
    ∧ quiescent_InWeightReferenceIdeal (hInWeightReferenceIdeal := hInWeightReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_QkvProj (hQkvProj := hQkvProj)
    ∧ quiescent_QkvProjIdeal (hQkvProjIdeal := hQkvProjIdeal)
    ∧ quiescent_QkvProjReferenceIdeal (hQkvProjReferenceIdeal := hQkvProjReferenceIdeal)
    ∧ quiescent_Down1 (hDown1 := hDown1)
    ∧ quiescent_Down1Ideal (hDown1Ideal := hDown1Ideal)
    ∧ quiescent_Down1ReferenceIdeal (hDown1ReferenceIdeal := hDown1ReferenceIdeal)
    ∧ quiescent_Down0 (hDown0 := hDown0)
    ∧ quiescent_Down0Ideal (hDown0Ideal := hDown0Ideal)
    ∧ quiescent_Down0ReferenceIdeal (hDown0ReferenceIdeal := hDown0ReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_OProj (hOProj := hOProj)
    ∧ quiescent_OProjIdeal (hOProjIdeal := hOProjIdeal)
    ∧ quiescent_OProjReferenceIdeal (hOProjReferenceIdeal := hOProjReferenceIdeal)
    ∧ quiescent_NormGrad (hNormGrad := hNormGrad)
    ∧ quiescent_NormGradIdeal (hNormGradIdeal := hNormGradIdeal)
    ∧ quiescent_NormGradReferenceIdeal (hNormGradReferenceIdeal := hNormGradReferenceIdeal)
    ∧ quiescent_NormGate (hNormGate := hNormGate)
    ∧ quiescent_NormGateIdeal (hNormGateIdeal := hNormGateIdeal)
    ∧ quiescent_NormGateReferenceIdeal (hNormGateReferenceIdeal := hNormGateReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_WeightGrad_WeightGradIdeal
    ∧ algebraic_WeightGradIdeal_WeightGradReferenceIdeal (hWeightGradIdeal := hWeightGradIdeal) (hWeightGradReferenceIdeal := hWeightGradReferenceIdeal)
    ∧ preserves_InputGrad_InputGradIdeal
    ∧ algebraic_InputGradIdeal_InputGradReferenceIdeal (hInputGradIdeal := hInputGradIdeal) (hInputGradReferenceIdeal := hInputGradReferenceIdeal)
    ∧ preserves_ActGrad_ActGradIdeal
    ∧ algebraic_ActGradIdeal_ActGradReferenceIdeal_pre_dact_finite (hActGradIdeal := hActGradIdeal) (hActGradReferenceIdeal := hActGradReferenceIdeal) (hPre_dact_finite := hPre_dact_finite)
    ∧ preserves_Up_UpIdeal
    ∧ algebraic_UpIdeal_UpReferenceIdeal (hUpIdeal := hUpIdeal) (hUpReferenceIdeal := hUpReferenceIdeal)
    ∧ preserves_OutGrad1_OutGrad1Ideal
    ∧ algebraic_OutGrad1Ideal_OutGrad1ReferenceIdeal (hOutGrad1Ideal := hOutGrad1Ideal) (hOutGrad1ReferenceIdeal := hOutGrad1ReferenceIdeal)
    ∧ preserves_OutWeight1_OutWeight1Ideal
    ∧ algebraic_OutWeight1Ideal_OutWeight1ReferenceIdeal (hOutWeight1Ideal := hOutWeight1Ideal) (hOutWeight1ReferenceIdeal := hOutWeight1ReferenceIdeal)
    ∧ preserves_QkvGrad_QkvGradIdeal
    ∧ algebraic_QkvGradIdeal_QkvGradReferenceIdeal (hQkvGradIdeal := hQkvGradIdeal) (hQkvGradReferenceIdeal := hQkvGradReferenceIdeal)
    ∧ preserves_QkvWeight_QkvWeightIdeal
    ∧ algebraic_QkvWeightIdeal_QkvWeightReferenceIdeal (hQkvWeightIdeal := hQkvWeightIdeal) (hQkvWeightReferenceIdeal := hQkvWeightReferenceIdeal)
    ∧ preserves_OutGrad0_OutGrad0Ideal
    ∧ algebraic_OutGrad0Ideal_OutGrad0ReferenceIdeal (hOutGrad0Ideal := hOutGrad0Ideal) (hOutGrad0ReferenceIdeal := hOutGrad0ReferenceIdeal)
    ∧ preserves_OutWeight0_OutWeight0Ideal
    ∧ algebraic_OutWeight0Ideal_OutWeight0ReferenceIdeal (hOutWeight0Ideal := hOutWeight0Ideal) (hOutWeight0ReferenceIdeal := hOutWeight0ReferenceIdeal)
    ∧ preserves_InGrad_InGradIdeal
    ∧ algebraic_InGradIdeal_InGradReferenceIdeal (hInGradIdeal := hInGradIdeal) (hInGradReferenceIdeal := hInGradReferenceIdeal)
    ∧ preserves_InWeight_InWeightIdeal
    ∧ algebraic_InWeightIdeal_InWeightReferenceIdeal (hInWeightIdeal := hInWeightIdeal) (hInWeightReferenceIdeal := hInWeightReferenceIdeal)
    ∧ preserves_InProj_InProjIdeal
    ∧ algebraic_InProjIdeal_InProjReferenceIdeal (hInProjIdeal := hInProjIdeal) (hInProjReferenceIdeal := hInProjReferenceIdeal)
    ∧ preserves_QkvProj_QkvProjIdeal
    ∧ algebraic_QkvProjIdeal_QkvProjReferenceIdeal (hQkvProjIdeal := hQkvProjIdeal) (hQkvProjReferenceIdeal := hQkvProjReferenceIdeal)
    ∧ preserves_Down1_Down1Ideal
    ∧ algebraic_Down1Ideal_Down1ReferenceIdeal (hDown1Ideal := hDown1Ideal) (hDown1ReferenceIdeal := hDown1ReferenceIdeal)
    ∧ preserves_Down0_Down0Ideal
    ∧ algebraic_Down0Ideal_Down0ReferenceIdeal (hDown0Ideal := hDown0Ideal) (hDown0ReferenceIdeal := hDown0ReferenceIdeal)
    ∧ preserves_OutProj_OutProjIdeal
    ∧ algebraic_OutProjIdeal_OutProjReferenceIdeal (hOutProjIdeal := hOutProjIdeal) (hOutProjReferenceIdeal := hOutProjReferenceIdeal)
    ∧ preserves_OProj_OProjIdeal
    ∧ algebraic_OProjIdeal_OProjReferenceIdeal (hOProjIdeal := hOProjIdeal) (hOProjReferenceIdeal := hOProjReferenceIdeal)
    ∧ preserves_NormGrad_NormGradIdeal
    ∧ algebraic_NormGradIdeal_NormGradReferenceIdeal (hNormGradIdeal := hNormGradIdeal) (hNormGradReferenceIdeal := hNormGradReferenceIdeal)
    ∧ preserves_NormGate_NormGateIdeal
    ∧ algebraic_NormGateIdeal_NormGateReferenceIdeal (hNormGateIdeal := hNormGateIdeal) (hNormGateReferenceIdeal := hNormGateReferenceIdeal)
-- ==== Pre_dact_finite.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S2816x1024 : S_.BroadcastsInDim S2816x1024 (![] : Fin 0 → Fin S2816x1024.rank)
  bcast_S_S8192x2816 : S_.BroadcastsInDim S8192x2816 (![] : Fin 0 → Fin S8192x2816.rank)

variable [Facts]

def fn {F : FTy → Type} [FloatOps F] (main_arg0 : FVec F S8192x1024 .bf16) (main_arg1 : FVec F S2816x1024 .bf16) (main_arg2 : FVec F S8192x2816 .bf16) (main_arg3 : FVec F S8192x2816 .bf16) : IVec S8192x1024 1 × IVec S2816x1024 1 × IVec S8192x2816 1 × IVec S8192x2816 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_v8 : FVec F S8192x2816 .f32 := (extf .f32 · bitsLt_bf16_f32) main_arg2
  let main_v9 : FVec F S8192x2816 .f32 := Host.absf main_v8
  let main_cst_1 : FVec F S_ .f32 := constant S_ .f32 0x7F800000#32
  let main_v10 : FVec F S8192x2816 .f32 := broadcastInDim S8192x2816 ![] bcast_S_S8192x2816 main_cst_1
  let main_v11 : IVec S8192x2816 1 := cmpf .olt main_v9 main_v10
  let main_v12 : FVec F S8192x2816 .f32 := (extf .f32 · bitsLt_bf16_f32) main_arg3
  let main_v13 : FVec F S8192x2816 .f32 := Host.absf main_v12
  let main_cst_2 : FVec F S_ .f32 := constant S_ .f32 0x7F800000#32
  let main_v14 : FVec F S8192x2816 .f32 := broadcastInDim S8192x2816 ![] bcast_S_S8192x2816 main_cst_2
  let main_v15 : IVec S8192x2816 1 := cmpf .olt main_v13 main_v14
  (main_v3, main_v7, main_v11, main_v15)
-- ==== Pre_finite.lean ====
abbrev S8192x1024 : Shape := ⟨2, ![8192, 1024]⟩
abbrev S1x1024 : Shape := ⟨2, ![1, 1024]⟩
abbrev S8x128x128 : Shape := ⟨3, ![8, 128, 128]⟩
abbrev S8x128 : Shape := ⟨2, ![8, 128]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S8x128x128 : S_.BroadcastsInDim S8x128x128 (![] : Fin 0 → Fin S8x128x128.rank)
  bcast_S_S8x128 : S_.BroadcastsInDim S8x128 (![] : Fin 0 → Fin S8x128.rank)

variable [Facts]

def fn_part1 {F : FTy → Type} [FloatOps F] (main_arg6 : FVec F S8x128 .f32) (main_v2 : IVec S8192x1024 1) (main_v5 : IVec S8192x1024 1) (main_v8 : IVec S8192x1024 1) (main_v11 : IVec S1x1024 1) (main_v14 : IVec S1x1024 1) (main_v17 : IVec S8x128x128 1) : IVec S8192x1024 1 × IVec S8192x1024 1 × IVec S8192x1024 1 × IVec S1x1024 1 × IVec S1x1024 1 × IVec S8x128x128 1 × IVec S8x128 1 :=
  let main_v18 : FVec F S8x128 .f32 := Host.absf main_arg6
  let main_cst_5 : FVec F S_ .f32 := constant S_ .f32 0x7F800000#32
  let main_v19 : FVec F S8x128 .f32 := broadcastInDim S8x128 ![] bcast_S_S8x128 main_cst_5
  let main_v20 : IVec S8x128 1 := cmpf .olt main_v18 main_v19
  (main_v2, main_v5, main_v8, main_v11, main_v14, main_v17, main_v20)

def fn {F : FTy → Type} [FloatOps F] (main_arg0 : FVec F S8192x1024 .f32) (main_arg1 : FVec F S8192x1024 .f32) (main_arg2 : FVec F S8192x1024 .f32) (main_arg3 : FVec F S1x1024 .f32) (main_arg4 : FVec F S1x1024 .f32) (main_arg5 : FVec F S8x128x128 .f32) (main_arg6 : FVec F S8x128 .f32) : IVec S8192x1024 1 × IVec S8192x1024 1 × IVec S8192x1024 1 × IVec S1x1024 1 × IVec S1x1024 1 × IVec S8x128x128 1 × IVec S8x128 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S8x128x128 .f32 := Host.absf main_arg5
  let main_cst_4 : FVec F S_ .f32 := constant S_ .f32 0x7F800000#32
  let main_v16 : FVec F S8x128x128 .f32 := broadcastInDim S8x128x128 ![] bcast_S_S8x128x128 main_cst_4
  let main_v17 : IVec S8x128x128 1 := cmpf .olt main_v15 main_v16
  fn_part1 (F := F) main_arg6 main_v2 main_v5 main_v8 main_v11 main_v14 main_v17
-- ==== Kernel.lean ====
abbrev S8192x1024 : Shape := ⟨2, ![8192, 1024]⟩
abbrev S1x1024 : Shape := ⟨2, ![1, 1024]⟩
abbrev S8x128x128 : Shape := ⟨3, ![8, 128, 128]⟩
abbrev S8x128 : Shape := ⟨2, ![8, 128]⟩
abbrev S8x128x1 : Shape := ⟨3, ![8, 128, 1]⟩
abbrev S512x1024 : Shape := ⟨2, ![512, 1024]⟩
abbrev S128x128 : Shape := ⟨2, ![128, 128]⟩
abbrev S512 : Shape := ⟨1, ![512]⟩
abbrev S512x1 : Shape := ⟨2, ![512, 1]⟩
abbrev S1x128x128 : Shape := ⟨3, ![1, 128, 128]⟩
abbrev S1024 : Shape := ⟨1, ![1024]⟩

abbrev nBuf : Space → Nat
  | .hbm => 15
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8x128x128, .f32⟩
  | .hbm, ⟨6, _⟩ => ⟨S8x128, .f32⟩
  | .hbm, ⟨7, _⟩ => ⟨S8x128x1, .f32⟩
  | .hbm, ⟨8, _⟩ => ⟨S8x128x128, .f32⟩
  | .hbm, ⟨9, _⟩ => ⟨S8192x1024, .bf16⟩
  | .hbm, ⟨10, _⟩ => ⟨S8192x1024, .bf16⟩
  | .hbm, ⟨11, _⟩ => ⟨S8x128x128, .f32⟩
  | .hbm, ⟨12, _⟩ => ⟨S8x128x128, .f32⟩
  | .hbm, ⟨13, _⟩ => ⟨S1x1024, .f32⟩
  | .hbm, ⟨14, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S8x128x128, .f32⟩
  | .local _ .vmem, ⟨9, _⟩ => ⟨S8x128x128, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S8x128x128, .f32⟩
  | .local _ .vmem, ⟨15, _⟩ => ⟨S8x128x128, .f32⟩
  | .local _ .vmem, ⟨16, _⟩ => ⟨S1x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev main_v2_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== KernelIdeal.lean ====
variable {F : FTy → Type} [FloatOps F] [Named F]
def κ : String → Option EReal := fun
  | "rsqrt_2" => some (((Real.sqrt 2)⁻¹ : ℝ) : EReal)
  | "rsqrt_2pi" => some (((Real.sqrt (2 * Real.pi))⁻¹ : ℝ) : EReal)
  | _ => none
-- ==== ReferenceIdeal.lean ====
abbrev S8192x1024 : Shape := ⟨2, ![8192, 1024]⟩
abbrev S1x1024 : Shape := ⟨2, ![1, 1024]⟩
abbrev S8x128x128 : Shape := ⟨3, ![8, 128, 128]⟩
abbrev S8x128 : Shape := ⟨2, ![8, 128]⟩
abbrev S8x128x1 : Shape := ⟨3, ![8, 128, 1]⟩
abbrev S1x8192x1024 : Shape := ⟨3, ![1, 8192, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x64x128x8x128 : Shape := ⟨5, ![1, 64, 128, 8, 128]⟩
abbrev S128x128 : Shape := ⟨2, ![128, 128]⟩
abbrev S1x128x128 : Shape := ⟨3, ![1, 128, 128]⟩
abbrev S8x1x64x128x128 : Shape := ⟨5, ![8, 1, 64, 128, 128]⟩
abbrev S128x8x128 : Shape := ⟨3, ![128, 8, 128]⟩
abbrev S1x1x128x8x128 : Shape := ⟨5, ![1, 1, 128, 8, 128]⟩
abbrev S1x128x8x128 : Shape := ⟨4, ![1, 128, 8, 128]⟩
abbrev S8192 : Shape := ⟨1, ![8192]⟩

abbrev nBuf : Space → Nat
  | .hbm => 204
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S1x1024, .f32⟩
  | 4 => ⟨S1x1024, .f32⟩
  | 5 => ⟨S8x128x128, .f32⟩
  | 6 => ⟨S8x128, .f32⟩
  | 7 => ⟨S8x128x1, .f32⟩
  | 8 => ⟨S8x128x128, .f32⟩
  | 9 => ⟨S1x8192x1024, .f32⟩
  | 10 => ⟨S1x8192x1024, .f32⟩
  | 11 => ⟨S1024, .f32⟩
  | 12 => ⟨S1024, .f32⟩
  | 13 => ⟨S_, .f32⟩
  | 14 => ⟨S1x8192x1024, .f32⟩
  | 15 => ⟨S1x8192x1024, .f32⟩
  | 16 => ⟨S1x8192x1024, .f32⟩
  | 17 => ⟨S_, .f32⟩
  | 18 => ⟨S_, .f32⟩
  | 19 => ⟨S1x8192x1024, .f32⟩
  | 20 => ⟨S1x8192x1024, .f32⟩
  | 21 => ⟨S1x8192x1024, .f32⟩
  | 22 => ⟨S_, .f32⟩
  | 23 => ⟨S_, .f32⟩
  | 24 => ⟨S_, .f32⟩
  | 25 => ⟨S_, .f32⟩
  | 26 => ⟨S_, .f32⟩
  | 27 => ⟨S1x8192x1024, .f32⟩
  | 28 => ⟨S1x8192x1024, .f32⟩
  | 29 => ⟨S1x8192x1024, .f32⟩
  | 30 => ⟨S1x8192x1024, .f32⟩
  | 31 => ⟨S1x8192x1024, .f32⟩
  | 32 => ⟨S1x8192x1024, .f32⟩
  | 33 => ⟨S_, .f32⟩
  | 34 => ⟨S1x8192x1024, .f32⟩
  | 35 => ⟨S1x8192x1024, .f32⟩
  | 36 => ⟨S1x8192x1024, .f32⟩
  | 37 => ⟨S_, .f32⟩
  | 38 => ⟨S_, .f32⟩
  | 39 => ⟨S1x8192x1024, .f32⟩
  | 40 => ⟨S1x8192x1024, .f32⟩
  | 41 => ⟨S1x8192x1024, .f32⟩
  | 42 => ⟨S_, .f32⟩
  | 43 => ⟨S_, .f32⟩
  | 44 => ⟨S_, .f32⟩
  | 45 => ⟨S_, .f32⟩
  | 46 => ⟨S_, .f32⟩
  | 47 => ⟨S1x8192x1024, .f32⟩
  | 48 => ⟨S1x8192x1024, .f32⟩
  | 49 => ⟨S1x8192x1024, .f32⟩
  | 50 => ⟨S1x8192x1024, .f32⟩
  | 51 => ⟨S1x8192x1024, .f32⟩
  | 52 => ⟨S1x8192x1024, .f32⟩
  | 53 => ⟨S_, .f32⟩
  | 54 => ⟨S1x8192, .f32⟩
  | 55 => ⟨S1x8192x1, .f32⟩
  | 56 => ⟨S_, .f32⟩
  | 57 => ⟨S1x8192x1, .f32⟩
  | 58 => ⟨S1x8192x1, .f32⟩
  | 59 => ⟨S1x8192x1024, .f32⟩
  | 60 => ⟨S1x8192x1024, .f32⟩
  | 61 => ⟨S1x8192x1024, .f32⟩
  | 62 => ⟨S_, .f32⟩
  | 63 => ⟨S1x8192x1024, .f32⟩
  | 64 => ⟨S1x8192x1024, .f32⟩
  | 65 => ⟨S_, .f32⟩
  | 66 => ⟨S1x8192, .f32⟩
  | 67 => ⟨S1x8192x1, .f32⟩
  | 68 => ⟨S_, .f32⟩
  | 69 => ⟨S1x8192x1, .f32⟩
  | 70 => ⟨S1x8192x1, .f32⟩
  | 71 => ⟨S1x8192x1024, .f32⟩
  | 72 => ⟨S1x8192x1024, .f32⟩
  | 73 => ⟨S_, .f32⟩
  | 74 => ⟨S1x8192x1, .f32⟩
  | 75 => ⟨S1x8192x1, .f32⟩
  | 76 => ⟨S1x8192x1, .f32⟩
  | 77 => ⟨S1x8192x1, .f32⟩
  | 78 => ⟨S_, .f32⟩
  | 79 => ⟨S1x8192x1, .f32⟩
  | 80 => ⟨S1x8192x1, .f32⟩
  | 81 => ⟨S1x8192x1024, .f32⟩
  | 82 => ⟨S1x8192x1024, .f32⟩
  | 83 => ⟨S1x1x1024, .f32⟩
  | 84 => ⟨S1x8192x1024, .f32⟩
  | 85 => ⟨S1x8192x1024, .f32⟩
  | 86 => ⟨S1x1x1024, .f32⟩
  | 87 => ⟨S1x8192x1024, .f32⟩
  | 88 => ⟨S1x8192x1024, .f32⟩
  | 89 => ⟨S1x64x128x8x128, .f32⟩
  | 90 => ⟨S_, .f32⟩
  | 91 => ⟨S128x128, .f32⟩
  | 92 => ⟨S128x128, .i32⟩
  | 93 => ⟨S_, .i32⟩
  | 94 => ⟨S128x128, .i32⟩
  | 95 => ⟨S128x128, .i32⟩
  | 96 => ⟨S128x128, .i32⟩
  | 97 => ⟨S128x128, .i1⟩
  | 98 => ⟨S_, .f32⟩
  | 99 => ⟨S128x128, .f32⟩
  | 100 => ⟨S128x128, .f32⟩
  | 101 => ⟨S1x128x128, .f32⟩
  | 102 => ⟨S8x128x128, .f32⟩
  | 103 => ⟨S8x128x128, .f32⟩
  | 104 => ⟨S8x1x64x128x128, .f32⟩
  | 105 => ⟨S1x64x128x8x128, .f32⟩
  | 106 => ⟨S128x8x128, .f32⟩
  | 107 => ⟨S1x1x128x8x128, .f32⟩
  | 108 => ⟨S1x64x128x8x128, .f32⟩
  | 109 => ⟨S1x64x128x8x128, .f32⟩
  | 110 => ⟨S1x8192x1024, .f32⟩
  | 111 => ⟨S1x8192x1024, .f32⟩
  | 112 => ⟨S8192x1024, .f32⟩
  | 113 => ⟨S1x8192x1024, .f32⟩
  | 114 => ⟨S1x8192x1024, .f32⟩
  | 115 => ⟨S1x8192x1024, .f32⟩
  | 116 => ⟨S1x64x128x8x128, .f32⟩
  | 117 => ⟨S_, .f32⟩
  | 118 => ⟨S1x128x8x128, .f32⟩
  | 119 => ⟨S1x1x128x8x128, .f32⟩
  | 120 => ⟨S_, .f32⟩
  | 121 => ⟨S128x8x128, .f32⟩
  | 122 => ⟨S8x128x128, .f32⟩
  | 123 => ⟨S8x1x64x128x128, .f32⟩
  | 124 => ⟨S8x128x128, .f32⟩
  | 125 => ⟨S8x1x64x128x128, .f32⟩
  | 126 => ⟨S1x64x128x8x128, .f32⟩
  | 127 => ⟨S8x128x128, .f32⟩
  | _ => ⟨S8192x1024, .f32⟩

abbrev hbmTy0_1 (i : Nat) : BufTy := match i % 128 with
  | 0 => ⟨S8x128x128, .f32⟩
  | 1 => ⟨S1x8192x1024, .f32⟩
  | 2 => ⟨S_, .f32⟩
  | 3 => ⟨S1x1024, .f32⟩
  | 4 => ⟨S1x1x1024, .f32⟩
  | 5 => ⟨S_, .f32⟩
  | 6 => ⟨S1024, .f32⟩
  | 7 => ⟨S1x8192x1024, .f32⟩
  | 8 => ⟨S_, .f32⟩
  | 9 => ⟨S1x1024, .f32⟩
  | 10 => ⟨S1x1x1024, .f32⟩
  | 11 => ⟨S1x8192x1024, .f32⟩
  | 12 => ⟨S1x8192x1024, .f32⟩
  | 13 => ⟨S_, .f32⟩
  | 14 => ⟨S1024, .f32⟩
  | 15 => ⟨S1x8192x1024, .f32⟩
  | 16 => ⟨S_, .f32⟩
  | 17 => ⟨S1x8192, .f32⟩
  | 18 => ⟨S1x8192x1, .f32⟩
  | 19 => ⟨S1x8192x1024, .f32⟩
  | 20 => ⟨S1x8192x1024, .f32⟩
  | 21 => ⟨S1x8192x1, .f32⟩
  | 22 => ⟨S1x8192x1024, .f32⟩
  | 23 => ⟨S_, .f32⟩
  | 24 => ⟨S1x8192, .f32⟩
  | 25 => ⟨S1x8192x1, .f32⟩
  | 26 => ⟨S_, .f32⟩
  | 27 => ⟨S1x8192x1, .f32⟩
  | 28 => ⟨S1x8192x1, .f32⟩
  | 29 => ⟨S_, .f32⟩
  | 30 => ⟨S8192, .f32⟩
  | 31 => ⟨S1x8192, .f32⟩
  | 32 => ⟨S1x8192x1024, .f32⟩
  | 33 => ⟨S1x8192x1024, .f32⟩
  | 34 => ⟨S1x8192x1024, .f32⟩
  | 35 => ⟨S_, .f32⟩
  | 36 => ⟨S1x8192, .f32⟩
  | 37 => ⟨S1x8192x1, .f32⟩
  | 38 => ⟨S1x8192x1024, .f32⟩
  | 39 => ⟨S1x8192x1, .f32⟩
  | 40 => ⟨S_, .f32⟩
  | 41 => ⟨S1x8192x1, .f32⟩
  | 42 => ⟨S1x8192x1, .f32⟩
  | 43 => ⟨S_, .f32⟩
  | 44 => ⟨S8192, .f32⟩
  | 45 => ⟨S1x8192, .f32⟩
  | 46 => ⟨S1x8192x1024, .f32⟩
  | 47 => ⟨S1x8192x1024, .f32⟩
  | 48 => ⟨S1x8192x1024, .f32⟩
  | 49 => ⟨S1x8192x1024, .f32⟩
  | 50 => ⟨S1x8192x1024, .f32⟩
  | 51 => ⟨S1x8192x1024, .f32⟩
  | 52 => ⟨S1x8192x1024, .f32⟩
  | 53 => ⟨S1x8192x1024, .f32⟩
  | 54 => ⟨S_, .f32⟩
  | 55 => ⟨S1x8192x1024, .f32⟩
  | 56 => ⟨S1x8192x1024, .f32⟩
  | 57 => ⟨S1x8192x1024, .f32⟩
  | 58 => ⟨S1x8192x1024, .f32⟩
  | 59 => ⟨S1x8192x1024, .f32⟩
  | 60 => ⟨S1x8192x1024, .f32⟩
  | 61 => ⟨S1x8192x1024, .f32⟩
  | 62 => ⟨S1x8192x1024, .f32⟩
  | 63 => ⟨S1x8192x1024, .f32⟩
  | 64 => ⟨S_, .f32⟩
  | 65 => ⟨S1x8192x1024, .f32⟩
  | 66 => ⟨S1x8192x1024, .f32⟩
  | 67 => ⟨S1x8192x1024, .f32⟩
  | 68 => ⟨S1x1024, .f32⟩
  | 69 => ⟨S1x1024, .f32⟩
  | 70 => ⟨S_, .f32⟩
  | 71 => ⟨S8192x1024, .f32⟩
  | 72 => ⟨S_, .f32⟩
  | 73 => ⟨S8192x1024, .f32⟩
  | 74 => ⟨S8192x1024, .bf16⟩
  | 75 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_cst_11 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_12 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_13 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_14 : Ref sig .tc := ⟨.hbm, 90, rfl⟩
abbrev main_v68 : Ref sig .tc := ⟨.hbm, 91, rfl⟩
abbrev main_call0_v0 : Ref sig .tc := ⟨.hbm, 92, rfl⟩
abbrev main_call0_c : Ref sig .tc := ⟨.hbm, 93, rfl⟩
abbrev main_call0_v1 : Ref sig .tc := ⟨.hbm, 94, rfl⟩
abbrev main_call0_v2 : Ref sig .tc := ⟨.hbm, 95, rfl⟩
abbrev main_call0_v3 : Ref sig .tc := ⟨.hbm, 96, rfl⟩
abbrev main_call0_v4 : Ref sig .tc := ⟨.hbm, 97, rfl⟩
abbrev main_call0_cst : Ref sig .tc := ⟨.hbm, 98, rfl⟩
abbrev main_call0_v5 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_15 : Ref sig .tc := ⟨.hbm, 117, rfl⟩
abbrev main_v86 : Ref sig .tc := ⟨.hbm, 118, rfl⟩
abbrev main_v87 : Ref sig .tc := ⟨.hbm, 119, rfl⟩
abbrev main_cst_16 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_cst_17 : Ref sig .tc := ⟨.hbm, 130, rfl⟩
abbrev main_v97 : Ref sig .tc := ⟨.hbm, 131, rfl⟩
abbrev main_v98 : Ref sig .tc := ⟨.hbm, 132, rfl⟩
abbrev main_cst_18 : Ref sig .tc := ⟨.hbm, 133, rfl⟩
abbrev main_v99 : Ref sig .tc := ⟨.hbm, 134, rfl⟩
abbrev main_v100 : Ref sig .tc := ⟨.hbm, 135, rfl⟩
abbrev main_cst_19 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_cst_20 : Ref sig .tc := ⟨.hbm, 141, rfl⟩
abbrev main_v105 : Ref sig .tc := ⟨.hbm, 142, rfl⟩
abbrev main_v106 : Ref sig .tc := ⟨.hbm, 143, rfl⟩
abbrev main_cst_21 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_cst_22 : Ref sig .tc := ⟨.hbm, 151, rfl⟩
abbrev main_v113 : Ref sig .tc := ⟨.hbm, 152, rfl⟩
abbrev main_v114 : Ref sig .tc := ⟨.hbm, 153, rfl⟩
abbrev main_cst_23 : Ref sig .tc := ⟨.hbm, 154, rfl⟩
abbrev main_v115 : Ref sig .tc := ⟨.hbm, 155, rfl⟩
abbrev main_v116 : Ref sig .tc := ⟨.hbm, 156, rfl⟩
abbrev main_cst_24 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_cst_25 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_cst_26 : Ref sig .tc := ⟨.hbm, 168, rfl⟩
abbrev main_v126 : Ref sig .tc := ⟨.hbm, 169, rfl⟩
abbrev main_v127 : Ref sig .tc := ⟨.hbm, 170, rfl⟩
abbrev main_cst_27 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_cst_28 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_cst_29 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_cst_30 : Ref sig .tc := ⟨.hbm, 198, rfl⟩
abbrev main_v152 : Ref sig .tc := ⟨.hbm, 199, rfl⟩
abbrev main_cst_31 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩

abbrev nD : Nat := 1
abbrev τ : Topo := Topo.v7x

variable {F : FTy → Type} [FloatOps F]
-- ==== WeightGrad.lean ====
abbrev S8192x2816 : Shape := ⟨2, ![8192, 2816]⟩
abbrev S8192x1024 : Shape := ⟨2, ![8192, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .bf16⟩
  | .local _ .vmem, ⟨5, _⟩ => ⟨S2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== WeightGradReferenceIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 12
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S_, .f32⟩
  | .hbm, ⟨5, _⟩ => ⟨S2816x1024, .f32⟩
  | .hbm, ⟨6, _⟩ => ⟨S1024x2816, .f32⟩
  | .hbm, ⟨7, _⟩ => ⟨S8192x2816, .f32⟩
  | .hbm, ⟨8, _⟩ => ⟨S2816x1024, .f32⟩
  | .hbm, ⟨9, _⟩ => ⟨S1024x2816, .f32⟩
  | .hbm, ⟨10, _⟩ => ⟨S2816x1024, .f32⟩
  | .hbm, ⟨11, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InputGrad.lean ====
abbrev S8192x2816 : Shape := ⟨2, ![8192, 2816]⟩
abbrev S2816x1024 : Shape := ⟨2, ![2816, 1024]⟩
abbrev S8192x1024 : Shape := ⟨2, ![8192, 1024]⟩
abbrev S512x2816 : Shape := ⟨2, ![512, 2816]⟩
abbrev S512x1024 : Shape := ⟨2, ![512, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S2816x1024, .bf16⟩
  | .hbm, ⟨3, _⟩ => ⟨S2816x1024, .bf16⟩
  | .hbm, ⟨4, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InputGradReferenceIdeal.lean ====
abbrev S8192x2816 : Shape := ⟨2, ![8192, 2816]⟩
abbrev S2816x1024 : Shape := ⟨2, ![2816, 1024]⟩
abbrev S_ : Shape := ⟨0, ![]⟩
abbrev S8192x1024 : Shape := ⟨2, ![8192, 1024]⟩
abbrev S1024x2816 : Shape := ⟨2, ![1024, 2816]⟩

abbrev nBuf : Space → Nat
  | .hbm => 17
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S2816x1024, .bf16⟩
  | .hbm, ⟨3, _⟩ => ⟨S2816x1024, .bf16⟩
  | .hbm, ⟨4, _⟩ => ⟨S8192x2816, .f32⟩
  | .hbm, ⟨5, _⟩ => ⟨S8192x2816, .f32⟩
  | .hbm, ⟨6, _⟩ => ⟨S2816x1024, .f32⟩
  | .hbm, ⟨7, _⟩ => ⟨S2816x1024, .f32⟩
  | .hbm, ⟨8, _⟩ => ⟨S_, .f32⟩
  | .hbm, ⟨9, _⟩ => ⟨S8192x1024, .f32⟩
  | .hbm, ⟨10, _⟩ => ⟨S1024x2816, .f32⟩
  | .hbm, ⟨11, _⟩ => ⟨S8192x2816, .f32⟩
  | .hbm, ⟨12, _⟩ => ⟨S1024x2816, .f32⟩
  | .hbm, ⟨13, _⟩ => ⟨S8192x2816, .f32⟩
  | .hbm, ⟨14, _⟩ => ⟨S8192x1024, .f32⟩
  | .hbm, ⟨15, _⟩ => ⟨S8192x1024, .f32⟩
  | .hbm, ⟨16, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== ActGrad.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S512x2816 : Shape := ⟨2, ![512, 2816]⟩
abbrev S256x1024 : Shape := ⟨2, ![256, 1024]⟩
abbrev S512x256 : Shape := ⟨2, ![512, 256]⟩

abbrev nBuf : Space → Nat
  | .hbm => 6
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ActGradReferenceIdeal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x1024, .f32⟩
  | .hbm, ⟨5, _⟩ => ⟨S2816x1024, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x1024, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .bf16⟩
  | .hbm, ⟨31, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Up.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S512x2816 : Shape := ⟨2, ![512, 2816]⟩
abbrev S256x1024 : Shape := ⟨2, ![256, 1024]⟩
abbrev S512x256 : Shape := ⟨2, ![512, 256]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2816x1024, .bf16⟩
  | .local _ .vmem, ⟨5, _⟩ => ⟨S2816x1024, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== UpReferenceIdeal.lean ====
abbrev S8192x1024 : Shape := ⟨2, ![8192, 1024]⟩
abbrev S2816x1024 : Shape := ⟨2, ![2816, 1024]⟩
abbrev S1024x2816 : Shape := ⟨2, ![1024, 2816]⟩
abbrev S8192x2816 : Shape := ⟨2, ![8192, 2816]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S8192x1024, .f32⟩
  | .hbm, ⟨4, _⟩ => ⟨S2816x1024, .f32⟩
  | .hbm, ⟨5, _⟩ => ⟨S2816x1024, .f32⟩
  | .hbm, ⟨6, _⟩ => ⟨S1024x2816, .f32⟩
  | .hbm, ⟨7, _⟩ => ⟨S8192x2816, .f32⟩
  | .hbm, ⟨8, _⟩ => ⟨S1024x2816, .f32⟩
  | .hbm, ⟨9, _⟩ => ⟨S8192x2816, .f32⟩
  | .hbm, ⟨10, _⟩ => ⟨S8192x2816, .bf16⟩
  | .hbm, ⟨11, _⟩ => ⟨S8192x2816, .bf16⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== OutGrad1.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutGrad1ReferenceIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutWeight1.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== OutWeight1ReferenceIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== QkvGrad.lean ====
abbrev S8192x1024 : Shape := ⟨2, ![8192, 1024]⟩
abbrev S8192x256 : Shape := ⟨2, ![8192, 256]⟩
abbrev S1280x1024 : Shape := ⟨2, ![1280, 1024]⟩
abbrev S1024x1024 : Shape := ⟨2, ![1024, 1024]⟩
abbrev S256x1024 : Shape := ⟨2, ![256, 1024]⟩
abbrev S512x1024 : Shape := ⟨2, ![512, 1024]⟩
abbrev S512x256 : Shape := ⟨2, ![512, 256]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S1280x1024, .bf16⟩
  | .hbm, ⟨3, _⟩ => ⟨S1024x1024, .bf16⟩
  | .hbm, ⟨4, _⟩ => ⟨S256x1024, .bf16⟩
  | .hbm, ⟨5, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S512x256, .bf16⟩
  | .local _ .vmem, ⟨3, _⟩ => ⟨S512x256, .bf16⟩
  | .local _ .vmem, ⟨4, _⟩ => ⟨S1024x1024, .bf16⟩
  | .local _ .vmem, ⟨5, _⟩ => ⟨S256x1024, .bf16⟩
  | .local _ .vmem, ⟨6, _⟩ => ⟨S512x1024, .f32⟩
  | .local _ .vmem, ⟨7, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QkvGradReferenceIdeal.lean ====
abbrev S8192x1024 : Shape := ⟨2, ![8192, 1024]⟩
abbrev S8192x256 : Shape := ⟨2, ![8192, 256]⟩
abbrev S1280x1024 : Shape := ⟨2, ![1280, 1024]⟩
abbrev S_ : Shape := ⟨0, ![]⟩
abbrev S1024x1280 : Shape := ⟨2, ![1024, 1280]⟩
abbrev S8192x1280 : Shape := ⟨2, ![8192, 1280]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S1280x1024, .bf16⟩
  | .hbm, ⟨3, _⟩ => ⟨S8192x1024, .f32⟩
  | .hbm, ⟨4, _⟩ => ⟨S8192x256, .f32⟩
  | .hbm, ⟨5, _⟩ => ⟨S1280x1024, .f32⟩
  | .hbm, ⟨6, _⟩ => ⟨S_, .f32⟩
  | .hbm, ⟨7, _⟩ => ⟨S8192x1024, .f32⟩
  | .hbm, ⟨8, _⟩ => ⟨S1024x1280, .f32⟩
  | .hbm, ⟨9, _⟩ => ⟨S8192x1280, .f32⟩
  | .hbm, ⟨10, _⟩ => ⟨S8192x1024, .f32⟩
  | .hbm, ⟨11, _⟩ => ⟨S8192x256, .f32⟩
  | .hbm, ⟨12, _⟩ => ⟨S_, .f32⟩
  | .hbm, ⟨13, _⟩ => ⟨S8192x1280, .f32⟩
  | .hbm, ⟨14, _⟩ => ⟨S_, .f32⟩
  | .hbm, ⟨15, _⟩ => ⟨S8192x1280, .f32⟩
  | .hbm, ⟨16, _⟩ => ⟨S8192x1280, .f32⟩
  | .hbm, ⟨17, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== QkvWeight.lean ====
abbrev S8192x1024 : Shape := ⟨2, ![8192, 1024]⟩
abbrev S8192x256 : Shape := ⟨2, ![8192, 256]⟩
abbrev S1024x1024 : Shape := ⟨2, ![1024, 1024]⟩
abbrev S256x1024 : Shape := ⟨2, ![256, 1024]⟩
abbrev S256x256 : Shape := ⟨2, ![256, 256]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S8192x1024, .bf16⟩
  | .hbm, ⟨3, _⟩ => ⟨S1024x1024, .bf16⟩
  | .hbm, ⟨4, _⟩ => ⟨S256x1024, .bf16⟩
  | .local _ .vmem, ⟨0, _⟩ => ⟨S256x1024, .bf16⟩
  | .local _ .vmem, ⟨1, _⟩ => ⟨S256x1024, .bf16⟩
  | .local _ .vmem, ⟨2, _⟩ => ⟨S256x256, .bf16⟩
  | .local _ .vmem, ⟨3, _⟩ => ⟨S256x256, .bf16⟩
  | .local _ .vmem, ⟨4, _⟩ => ⟨S256x1024, .bf16⟩
  | .local _ .vmem, ⟨5, _⟩ => ⟨S256x1024, .bf16⟩
  | .local _ .vmem, ⟨6, _⟩ => ⟨S1024x1024, .bf16⟩
  | .local _ .vmem, ⟨7, _⟩ => ⟨S256x1024, .bf16⟩
  | .local _ .vmem, ⟨8, _⟩ => ⟨S1024x1024, .f32⟩
  | .local _ .vmem, ⟨9, _⟩ => ⟨S256x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v18 : BitVec 1 := Scalar.cmpi .eq arg0 c31_i32
  let v19 : BitVec 32 := Scalar.extui v18
  let c0_i32_15 : BitVec 32 := 0#32
  let v20 : BitVec 1 := Scalar.cmpi .ne v19 c0_i32_15
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== QkvWeightReferenceIdeal.lean ====
abbrev S8192x1024 : Shape := ⟨2, ![8192, 1024]⟩
abbrev S8192x256 : Shape := ⟨2, ![8192, 256]⟩
abbrev S_ : Shape := ⟨0, ![]⟩
abbrev S1024x1024 : Shape := ⟨2, ![1024, 1024]⟩
abbrev S256x1024 : Shape := ⟨2, ![256, 1024]⟩
abbrev S1024x256 : Shape := ⟨2, ![1024, 256]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S8192x1024, .bf16⟩
  | .hbm, ⟨3, _⟩ => ⟨S8192x1024, .f32⟩
  | .hbm, ⟨4, _⟩ => ⟨S8192x256, .f32⟩
  | .hbm, ⟨5, _⟩ => ⟨S8192x1024, .f32⟩
  | .hbm, ⟨6, _⟩ => ⟨S_, .f32⟩
  | .hbm, ⟨7, _⟩ => ⟨S1024x1024, .f32⟩
  | .hbm, ⟨8, _⟩ => ⟨S_, .f32⟩
  | .hbm, ⟨9, _⟩ => ⟨S256x1024, .f32⟩
  | .hbm, ⟨10, _⟩ => ⟨S1024x1024, .f32⟩
  | .hbm, ⟨11, _⟩ => ⟨S8192x1024, .f32⟩
  | .hbm, ⟨12, _⟩ => ⟨S1024x256, .f32⟩
  | .hbm, ⟨13, _⟩ => ⟨S8192x256, .f32⟩
  | .hbm, ⟨14, _⟩ => ⟨S256x1024, .f32⟩
  | .hbm, ⟨15, _⟩ => ⟨S1024x256, .f32⟩
  | .hbm, ⟨16, _⟩ => ⟨S256x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x1024, .bf16⟩
  | .hbm, ⟨21, _⟩ => ⟨S256x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== OutGrad0.lean ====
abbrev S8192x1024 : Shape := ⟨2, ![8192, 1024]⟩
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S1024x1024, .bf16⟩
  | .hbm, ⟨3, _⟩ => ⟨S1024x1024, .bf16⟩
  | .hbm, ⟨4, _⟩ => ⟨S8192x1024, .f32⟩
  | .hbm, ⟨5, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutGrad0ReferenceIdeal.lean ====
abbrev S8192x1024 : Shape := ⟨2, ![8192, 1024]⟩
abbrev S2048x1024 : Shape := ⟨2, ![2048, 1024]⟩
abbrev S_ : Shape := ⟨0, ![]⟩
abbrev S8192x2048 : Shape := ⟨2, ![8192, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x1024, .f32⟩
  | .hbm, ⟨3, _⟩ => ⟨S2048x1024, .f32⟩
  | .hbm, ⟨4, _⟩ => ⟨S_, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x2048, .f32⟩
  | .hbm, ⟨9, _⟩ => ⟨S8192x1024, .f32⟩
  | .hbm, ⟨10, _⟩ => ⟨S8192x2048, .f32⟩
  | .hbm, ⟨11, _⟩ => ⟨S8192x1024, .f32⟩
  | .hbm, ⟨12, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== OutWeight0.lean ====
abbrev S8192x1024 : Shape := ⟨2, ![8192, 1024]⟩
abbrev S1024x1024 : Shape := ⟨2, ![1024, 1024]⟩
abbrev S256x1024 : Shape := ⟨2, ![256, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S1024x1024, .bf16⟩
  | .hbm, ⟨4, _⟩ => ⟨S1024x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v18 : BitVec 1 := Scalar.cmpi .eq arg0 c31_i32
  let v19 : BitVec 32 := Scalar.extui v18
  let c0_i32_15 : BitVec 32 := 0#32
  let v20 : BitVec 1 := Scalar.cmpi .ne v19 c0_i32_15
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== OutWeight0ReferenceIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .bf16⟩
  | .hbm, ⟨18, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== InGrad.lean ====
abbrev S8192x1024 : Shape := ⟨2, ![8192, 1024]⟩
abbrev S8192x1536 : Shape := ⟨2, ![8192, 1536]⟩
abbrev S8192x128 : Shape := ⟨2, ![8192, 128]⟩
abbrev S4624x1024 : Shape := ⟨2, ![4624, 1024]⟩
abbrev S1024x1024 : Shape := ⟨2, ![1024, 1024]⟩
abbrev S1536x1024 : Shape := ⟨2, ![1536, 1024]⟩
abbrev S16x1024 : Shape := ⟨2, ![16, 1024]⟩
abbrev S_ : Shape := ⟨0, ![]⟩
abbrev S128x1024 : Shape := ⟨2, ![128, 1024]⟩
abbrev S512x1024 : Shape := ⟨2, ![512, 1024]⟩
abbrev S512x1536 : Shape := ⟨2, ![512, 1536]⟩
abbrev S512x128 : Shape := ⟨2, ![512, 128]⟩

abbrev nBuf : Space → Nat
  | .hbm => 15
  | .vmem => 17
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S8192x128, .bf16⟩
  | .hbm, ⟨3, _⟩ => ⟨S8192x1024, .bf16⟩
  | .hbm, ⟨4, _⟩ => ⟨S8192x1024, .bf16⟩
  | .hbm, ⟨5, _⟩ => ⟨S4624x1024, .bf16⟩
  | .hbm, ⟨6, _⟩ => ⟨S1024x1024, .bf16⟩
  | .hbm, ⟨7, _⟩ => ⟨S1536x1024, .bf16⟩
  | .hbm, ⟨8, _⟩ => ⟨S16x1024, .bf16⟩
  | .hbm, ⟨9, _⟩ => ⟨S_, .i32⟩
  | .hbm, ⟨10, _⟩ => ⟨S_, .bf16⟩
  | .hbm, ⟨11, _⟩ => ⟨S128x1024, .bf16⟩
  | .hbm, ⟨12, _⟩ => ⟨S1024x1024, .bf16⟩
  | .hbm, ⟨13, _⟩ => ⟨S1024x1024, .bf16⟩
  | .hbm, ⟨14, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S512x1536, .bf16⟩
  | .local _ .vmem, ⟨3, _⟩ => ⟨S512x1536, .bf16⟩
  | .local _ .vmem, ⟨4, _⟩ => ⟨S512x128, .bf16⟩
  | .local _ .vmem, ⟨5, _⟩ => ⟨S512x128, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1536x1024, .bf16⟩
  | .local _ .vmem, ⟨12, _⟩ => ⟨S128x1024, .bf16⟩
  | .local _ .vmem, ⟨13, _⟩ => ⟨S1024x1024, .bf16⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S1536x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== InGradReferenceIdeal.lean ====
abbrev S8192x1024 : Shape := ⟨2, ![8192, 1024]⟩
abbrev S8192x1536 : Shape := ⟨2, ![8192, 1536]⟩
abbrev S8192x128 : Shape := ⟨2, ![8192, 128]⟩
abbrev S4624x1024 : Shape := ⟨2, ![4624, 1024]⟩
abbrev S8192x16 : Shape := ⟨2, ![8192, 16]⟩
abbrev S_ : Shape := ⟨0, ![]⟩
abbrev S1024x4624 : Shape := ⟨2, ![1024, 4624]⟩
abbrev S8192x4624 : Shape := ⟨2, ![8192, 4624]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S8192x128, .bf16⟩
  | .hbm, ⟨3, _⟩ => ⟨S8192x1024, .bf16⟩
  | .hbm, ⟨4, _⟩ => ⟨S8192x1024, .bf16⟩
  | .hbm, ⟨5, _⟩ => ⟨S4624x1024, .bf16⟩
  | .hbm, ⟨6, _⟩ => ⟨S8192x16, .bf16⟩
  | .hbm, ⟨7, _⟩ => ⟨S4624x1024, .f32⟩
  | .hbm, ⟨8, _⟩ => ⟨S_, .f32⟩
  | .hbm, ⟨9, _⟩ => ⟨S8192x1024, .f32⟩
  | .hbm, ⟨10, _⟩ => ⟨S1024x4624, .f32⟩
  | .hbm, ⟨11, _⟩ => ⟨S8192x4624, .f32⟩
  | .hbm, ⟨12, _⟩ => ⟨S8192x1024, .f32⟩
  | .hbm, ⟨13, _⟩ => ⟨S8192x1536, .f32⟩
  | .hbm, ⟨14, _⟩ => ⟨S8192x16, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1536, .f32⟩
  | .hbm, ⟨19, _⟩ => ⟨S8192x16, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x4624, .f32⟩
  | .hbm, ⟨24, _⟩ => ⟨S_, .f32⟩
  | .hbm, ⟨25, _⟩ => ⟨S8192x4624, .f32⟩
  | .hbm, ⟨26, _⟩ => ⟨S8192x4624, .f32⟩
  | .hbm, ⟨27, _⟩ => ⟨S_, .f32⟩
  | .hbm, ⟨28, _⟩ => ⟨S8192x4624, .f32⟩
  | .hbm, ⟨29, _⟩ => ⟨S8192x4624, .f32⟩
  | .hbm, ⟨30, _⟩ => ⟨S_, .f32⟩
  | .hbm, ⟨31, _⟩ => ⟨S8192x4624, .f32⟩
  | .hbm, ⟨32, _⟩ => ⟨S8192x4624, .f32⟩
  | .hbm, ⟨33, _⟩ => ⟨S_, .f32⟩
  | .hbm, ⟨34, _⟩ => ⟨S8192x4624, .f32⟩
  | .hbm, ⟨35, _⟩ => ⟨S8192x4624, .f32⟩
  | .hbm, ⟨36, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== InWeight.lean ====
abbrev S8192x1024 : Shape := ⟨2, ![8192, 1024]⟩
abbrev S8192x1536 : Shape := ⟨2, ![8192, 1536]⟩
abbrev S8192x128 : Shape := ⟨2, ![8192, 128]⟩
abbrev S1024x1024 : Shape := ⟨2, ![1024, 1024]⟩
abbrev S1536x1024 : Shape := ⟨2, ![1536, 1024]⟩
abbrev S128x1024 : Shape := ⟨2, ![128, 1024]⟩
abbrev S256x1024 : Shape := ⟨2, ![256, 1024]⟩
abbrev S256x1536 : Shape := ⟨2, ![256, 1536]⟩
abbrev S256x128 : Shape := ⟨2, ![256, 128]⟩

abbrev nBuf : Space → Nat
  | .hbm => 11
  | .vmem => 22
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S8192x128, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S1024x1024, .bf16⟩
  | .hbm, ⟨7, _⟩ => ⟨S1536x1024, .bf16⟩
  | .hbm, ⟨8, _⟩ => ⟨S128x1024, .bf16⟩
  | .hbm, ⟨9, _⟩ => ⟨S1024x1024, .bf16⟩
  | .hbm, ⟨10, _⟩ => ⟨S1024x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1536, .bf16⟩
  | .local _ .vmem, ⟨3, _⟩ => ⟨S256x1536, .bf16⟩
  | .local _ .vmem, ⟨4, _⟩ => ⟨S256x128, .bf16⟩
  | .local _ .vmem, ⟨5, _⟩ => ⟨S256x128, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S1024x1024, .bf16⟩
  | .local _ .vmem, ⟨13, _⟩ => ⟨S1536x1024, .bf16⟩
  | .local _ .vmem, ⟨14, _⟩ => ⟨S128x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .f32⟩
  | .local _ .vmem, ⟨18, _⟩ => ⟨S1536x1024, .f32⟩
  | .local _ .vmem, ⟨19, _⟩ => ⟨S128x1024, .f32⟩
  | .local _ .vmem, ⟨20, _⟩ => ⟨S1024x1024, .f32⟩
  | .local _ .vmem, ⟨21, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v39 : BitVec 1 := Scalar.cmpi .eq arg0 c31_i32
  let v40 : BitVec 32 := Scalar.extui v39
  let c0_i32_36 : BitVec 32 := 0#32
  let v41 : BitVec 1 := Scalar.cmpi .ne v40 c0_i32_36
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1536x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== InWeightReferenceIdeal.lean ====
abbrev S8192x1024 : Shape := ⟨2, ![8192, 1024]⟩
abbrev S8192x1536 : Shape := ⟨2, ![8192, 1536]⟩
abbrev S8192x128 : Shape := ⟨2, ![8192, 128]⟩
abbrev S_ : Shape := ⟨0, ![]⟩
abbrev S1024x1024 : Shape := ⟨2, ![1024, 1024]⟩
abbrev S1536x1024 : Shape := ⟨2, ![1536, 1024]⟩
abbrev S128x1024 : Shape := ⟨2, ![128, 1024]⟩
abbrev S1024x1536 : Shape := ⟨2, ![1024, 1536]⟩
abbrev S1024x128 : Shape := ⟨2, ![1024, 128]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S8192x128, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x1024, .f32⟩
  | .hbm, ⟨7, _⟩ => ⟨S8192x1536, .f32⟩
  | .hbm, ⟨8, _⟩ => ⟨S8192x128, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S1024x1024, .f32⟩
  | .hbm, ⟨14, _⟩ => ⟨S_, .f32⟩
  | .hbm, ⟨15, _⟩ => ⟨S1536x1024, .f32⟩
  | .hbm, ⟨16, _⟩ => ⟨S_, .f32⟩
  | .hbm, ⟨17, _⟩ => ⟨S128x1024, .f32⟩
  | .hbm, ⟨18, _⟩ => ⟨S_, .f32⟩
  | .hbm, ⟨19, _⟩ => ⟨S1024x1024, .f32⟩
  | .hbm, ⟨20, _⟩ => ⟨S_, .f32⟩
  | .hbm, ⟨21, _⟩ => ⟨S1024x1024, .f32⟩
  | .hbm, ⟨22, _⟩ => ⟨S1024x1024, .f32⟩
  | .hbm, ⟨23, _⟩ => ⟨S8192x1024, .f32⟩
  | .hbm, ⟨24, _⟩ => ⟨S1024x1536, .f32⟩
  | .hbm, ⟨25, _⟩ => ⟨S8192x1536, .f32⟩
  | .hbm, ⟨26, _⟩ => ⟨S1024x128, .f32⟩
  | .hbm, ⟨27, _⟩ => ⟨S8192x128, .f32⟩
  | .hbm, ⟨28, _⟩ => ⟨S1024x1024, .f32⟩
  | .hbm, ⟨29, _⟩ => ⟨S8192x1024, .f32⟩
  | .hbm, ⟨30, _⟩ => ⟨S1024x1024, .f32⟩
  | .hbm, ⟨31, _⟩ => ⟨S8192x1024, .f32⟩
  | .hbm, ⟨32, _⟩ => ⟨S1024x1024, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S1024x1024, .f32⟩
  | .hbm, ⟨38, _⟩ => ⟨S128x1024, .f32⟩
  | .hbm, ⟨39, _⟩ => ⟨S1024x128, .f32⟩
  | .hbm, ⟨40, _⟩ => ⟨S128x1024, .f32⟩
  | .hbm, ⟨41, _⟩ => ⟨S1536x1024, .f32⟩
  | .hbm, ⟨42, _⟩ => ⟨S1024x1536, .f32⟩
  | .hbm, ⟨43, _⟩ => ⟨S1536x1024, .f32⟩
  | .hbm, ⟨44, _⟩ => ⟨S1024x1024, .f32⟩
  | .hbm, ⟨45, _⟩ => ⟨S1024x1024, .f32⟩
  | .hbm, ⟨46, _⟩ => ⟨S1024x1024, .f32⟩
  | .hbm, ⟨47, _⟩ => ⟨S1024x1024, .bf16⟩
  | .hbm, ⟨48, _⟩ => ⟨S1536x1024, .bf16⟩
  | .hbm, ⟨49, _⟩ => ⟨S128x1024, .bf16⟩
  | .hbm, ⟨50, _⟩ => ⟨S1024x1024, .bf16⟩
  | .hbm, ⟨51, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== InProj.lean ====
abbrev S8192x1024 : Shape := ⟨2, ![8192, 1024]⟩
abbrev S4624x1024 : Shape := ⟨2, ![4624, 1024]⟩
abbrev S1024x1024 : Shape := ⟨2, ![1024, 1024]⟩
abbrev S1536x1024 : Shape := ⟨2, ![1536, 1024]⟩
abbrev S16x1024 : Shape := ⟨2, ![16, 1024]⟩
abbrev S_ : Shape := ⟨0, ![]⟩
abbrev S128x1024 : Shape := ⟨2, ![128, 1024]⟩
abbrev S8192x1536 : Shape := ⟨2, ![8192, 1536]⟩
abbrev S8192x128 : Shape := ⟨2, ![8192, 128]⟩
abbrev S512x1024 : Shape := ⟨2, ![512, 1024]⟩
abbrev S512x1536 : Shape := ⟨2, ![512, 1536]⟩
abbrev S512x128 : Shape := ⟨2, ![512, 128]⟩

abbrev nBuf : Space → Nat
  | .hbm => 15
  | .vmem => 17
  | .smem => 0
  | _ => 0

abbrev bufTy : (tb : Table) → Fin (tcTables nBuf tb) → BufTy
  | .hbm, ⟨0, _⟩ => ⟨S8192x1024, .bf16⟩
  | .hbm, ⟨1, _⟩ => ⟨S4624x1024, .bf16⟩
  | .hbm, ⟨2, _⟩ => ⟨S1024x1024, .bf16⟩
  | .hbm, ⟨3, _⟩ => ⟨S1536x1024, .bf16⟩
  | .hbm, ⟨4, _⟩ => ⟨S16x1024, .bf16⟩
  | .hbm, ⟨5, _⟩ => ⟨S_, .i32⟩
  | .hbm, ⟨6, _⟩ => ⟨S_, .bf16⟩
  | .hbm, ⟨7, _⟩ => ⟨S128x1024, .bf16⟩
  | .hbm, ⟨8, _⟩ => ⟨S1024x1024, .bf16⟩
  | .hbm, ⟨9, _⟩ => ⟨S1024x1024, .bf16⟩
  | .hbm, ⟨10, _⟩ => ⟨S8192x1024, .f32⟩
  | .hbm, ⟨11, _⟩ => ⟨S8192x1536, .f32⟩
  | .hbm, ⟨12, _⟩ => ⟨S8192x128, .f32⟩
  | .hbm, ⟨13, _⟩ => ⟨S8192x1024, .f32⟩
  | .hbm, ⟨14, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1536x1024, .bf16⟩
  | .local _ .vmem, ⟨4, _⟩ => ⟨S128x1024, .bf16⟩
  | .local _ .vmem, ⟨5, _⟩ => ⟨S1024x1024, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S512x1536, .f32⟩
  | .local _ .vmem, ⟨10, _⟩ => ⟨S512x1536, .f32⟩
  | .local _ .vmem, ⟨11, _⟩ => ⟨S512x128, .f32⟩
  | .local _ .vmem, ⟨12, _⟩ => ⟨S512x128, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev main_v6_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InProjReferenceIdeal.lean ====
abbrev S8192x1024 : Shape := ⟨2, ![8192, 1024]⟩
abbrev S4624x1024 : Shape := ⟨2, ![4624, 1024]⟩
abbrev S1024x4624 : Shape := ⟨2, ![1024, 4624]⟩
abbrev S8192x4624 : Shape := ⟨2, ![8192, 4624]⟩
abbrev S8192x16 : Shape := ⟨2, ![8192, 16]⟩
abbrev S_ : Shape := ⟨0, ![]⟩
abbrev S8192x128 : Shape := ⟨2, ![8192, 128]⟩
abbrev S8192x1536 : Shape := ⟨2, ![8192, 1536]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4624x1024, .bf16⟩
  | .hbm, ⟨2, _⟩ => ⟨S8192x1024, .f32⟩
  | .hbm, ⟨3, _⟩ => ⟨S4624x1024, .f32⟩
  | .hbm, ⟨4, _⟩ => ⟨S1024x4624, .f32⟩
  | .hbm, ⟨5, _⟩ => ⟨S8192x4624, .f32⟩
  | .hbm, ⟨6, _⟩ => ⟨S8192x16, .f32⟩
  | .hbm, ⟨7, _⟩ => ⟨S_, .i32⟩
  | .hbm, ⟨8, _⟩ => ⟨S_, .f32⟩
  | .hbm, ⟨9, _⟩ => ⟨S8192x128, .f32⟩
  | .hbm, ⟨10, _⟩ => ⟨S8192x1024, .f32⟩
  | .hbm, ⟨11, _⟩ => ⟨S8192x1536, .f32⟩
  | .hbm, ⟨12, _⟩ => ⟨S8192x1024, .f32⟩
  | .hbm, ⟨13, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== QkvProj.lean ====
abbrev S8192x1024 : Shape := ⟨2, ![8192, 1024]⟩
abbrev S1280x1024 : Shape := ⟨2, ![1280, 1024]⟩
abbrev S1x1280 : Shape := ⟨2, ![1, 1280]⟩
abbrev S8192x1280 : Shape := ⟨2, ![8192, 1280]⟩
abbrev S512x1024 : Shape := ⟨2, ![512, 1024]⟩
abbrev S512x1280 : Shape := ⟨2, ![512, 1280]⟩
abbrev S256x1024 : Shape := ⟨2, ![256, 1024]⟩
abbrev S512x256 : Shape := ⟨2, ![512, 256]⟩
abbrev S1x256 : Shape := ⟨2, ![1, 256]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1280x1024, .bf16⟩
  | .hbm, ⟨2, _⟩ => ⟨S1x1280, .f32⟩
  | .hbm, ⟨3, _⟩ => ⟨S8192x1280, .f32⟩
  | .local _ .vmem, ⟨0, _⟩ => ⟨S512x1024, .bf16⟩
  | .local _ .vmem, ⟨1, _⟩ => ⟨S512x1024, .bf16⟩
  | .local _ .vmem, ⟨2, _⟩ => ⟨S1280x1024, .bf16⟩
  | .local _ .vmem, ⟨3, _⟩ => ⟨S1x1280, .f32⟩
  | .local _ .vmem, ⟨4, _⟩ => ⟨S512x1280, .f32⟩
  | .local _ .vmem, ⟨5, _⟩ => ⟨S512x1280, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QkvProjReferenceIdeal.lean ====
abbrev S8192x1024 : Shape := ⟨2, ![8192, 1024]⟩
abbrev S1280x1024 : Shape := ⟨2, ![1280, 1024]⟩
abbrev S1x1280 : Shape := ⟨2, ![1, 1280]⟩
abbrev S1024x1280 : Shape := ⟨2, ![1024, 1280]⟩
abbrev S8192x1280 : Shape := ⟨2, ![8192, 1280]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1280x1024, .bf16⟩
  | .hbm, ⟨2, _⟩ => ⟨S1x1280, .f32⟩
  | .hbm, ⟨3, _⟩ => ⟨S8192x1024, .f32⟩
  | .hbm, ⟨4, _⟩ => ⟨S1280x1024, .f32⟩
  | .hbm, ⟨5, _⟩ => ⟨S1024x1280, .f32⟩
  | .hbm, ⟨6, _⟩ => ⟨S8192x1280, .f32⟩
  | .hbm, ⟨7, _⟩ => ⟨S8192x1280, .f32⟩
  | .hbm, ⟨8, _⟩ => ⟨S8192x1280, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Down1.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S512x2816 : Shape := ⟨2, ![512, 2816]⟩
abbrev S512x1024 : Shape := ⟨2, ![512, 1024]⟩
abbrev S2816x256 : Shape := ⟨2, ![2816, 256]⟩
abbrev S512x256 : Shape := ⟨2, ![512, 256]⟩
abbrev S1x256 : Shape := ⟨2, ![1, 256]⟩

abbrev nBuf : Space → Nat
  | .hbm => 6
  | .vmem => 10
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Down1ReferenceIdeal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x2816, .f32⟩
  | .hbm, ⟨5, _⟩ => ⟨S2816x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Down0.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 15
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Down0ReferenceIdeal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 36
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8192x2816, .f32⟩
  | .hbm, ⟨8, _⟩ => ⟨S2816x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== OutProj.lean ====
abbrev S8192x1024 : Shape := ⟨2, ![8192, 1024]⟩
abbrev S2048x1024 : Shape := ⟨2, ![2048, 1024]⟩
abbrev S1x1024 : Shape := ⟨2, ![1, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x1024, .bf16⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1024x1024, .bf16⟩
  | .hbm, ⟨9, _⟩ => ⟨S1024x1024, .bf16⟩
  | .hbm, ⟨10, _⟩ => ⟨S8192x1024, .f32⟩
  | .hbm, ⟨11, _⟩ => ⟨S8192x1024, .f32⟩
  | .hbm, ⟨12, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== OutProjReferenceIdeal.lean ====
abbrev S8192x1024 : Shape := ⟨2, ![8192, 1024]⟩
abbrev S2048x1024 : Shape := ⟨2, ![2048, 1024]⟩
abbrev S1x1024 : Shape := ⟨2, ![1, 1024]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x1024, .bf16⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x2048, .f32⟩
  | .hbm, ⟨11, _⟩ => ⟨S2048x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== OProj.lean ====
abbrev S8192x1024 : Shape := ⟨2, ![8192, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== OProjReferenceIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S1024x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== NormGrad.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S1x1024, .f32⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== NormGradReferenceIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 66
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== NormGate.lean ====
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 21
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .bf16⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev main_v5_5 : Ref sig .tc := ⟨.hbm, 19, rfl⟩
abbrev main_v5_6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== NormGateReferenceIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 85
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S_, .f32⟩
  | .hbm, ⟨68, _⟩ => ⟨S8192, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]
-- ==== Proof.Block.lean ====
/- What one grid point of the gradient kernel stores, in terms of the blocks it loads: 512 rows in four chunks
   of 128, 1024 lanes in eight groups of 128. -/
module

public import proofs.«01_k».proof.Proof.Gen.KernelIdeal.Frame.RunA
public import proofs.«01_k».proof.Proof.Gen.KernelIdeal.Frame.RunB
public import Idealize.ShloMosaic.Lib.Pipeline.Value
public import Idealize.ShloMosaic.Lib.Pipeline.ReadBack

@[expose] public section

noncomputable section

open Idealize.ShloMosaic Idealize.ShloMosaic.TcCoe Idealize.SL.Sem
open Cert.KernelIdeal Cert.KernelIdeal.Gen

namespace Gating.Block

variable {F : FTy → Type} [FloatOps F] [Named F]

/-- Chunk `ch` of the rows at group `g` of the lanes. -/
abbrev R2 (ch : Fin 4) (g : Fin 8) : Rect S512x1024 :=
  Rect.unit ![128 * ch.val, 128 * g.val] ![128, 128] (by
    intro a; match a with
    | ⟨0, _⟩ => show 128 * ch.val + 128 ≤ 512; omega
    | ⟨1, _⟩ => show 128 * g.val + 128 ≤ 1024; omega)

/-- Group `g` of an array with one 128 by 128 square per group. -/
abbrev R3 (g : Fin 8) : Rect S8x128x128 :=
  Rect.unit ![g.val, 0, 0] ![1, 128, 128] (by
    intro a; match a with
    | ⟨0, _⟩ => show g.val + 1 ≤ 8; omega
    | ⟨1, _⟩ => show 0 + 128 ≤ 128; omega
    | ⟨2, _⟩ => show 0 + 128 ≤ 128; omega)

theorem ld_rows {e : EltTy} (x : Vec F S512x1024 e) (h) : View.ld x (Rect.unit ![0, 0] ![512, 1024] h : Rect S512x1024) = x :=
  View.ld_unit_zero (S := S512x1024) (funext fun a => by match a with | ⟨0, _⟩ => rfl | ⟨1, _⟩ => rfl) _ _

theorem ld_row {e : EltTy} (x : Vec F S1x1024 e) (h) : View.ld x (Rect.unit ![0, 0] ![1, 1024] h : Rect S1x1024) = x :=
  View.ld_unit_zero (S := S1x1024) (funext fun a => by match a with | ⟨0, _⟩ => rfl | ⟨1, _⟩ => rfl) _ _

/-- What is loaded of rows stored whole. -/
theorem readCov_rows (v : View sig .tc .vmem S512x1024 .f32) (h) (Z : Vec F S512x1024 .f32) (r : Rect S512x1024) :
    v.readCov [(⟨Rect.unit ![0, 0] ![512, 1024] h, Z⟩ : View.Piece (Elt F) S512x1024 .f32)] r.toLoadRect = View.ld Z r :=
  View.readCov_fill v h Z [] r fun a => by match a with | ⟨0, _⟩ => rfl | ⟨1, _⟩ => rfl

/-- What is loaded of one row stored whole. -/
theorem readCov_row (v : View sig .tc .vmem S1x1024 .f32) (h) (Z : Vec F S1x1024 .f32) (r : Rect S1x1024) :
    v.readCov [(⟨Rect.unit ![0, 0] ![1, 1024] h, Z⟩ : View.Piece (Elt F) S1x1024 .f32)] r.toLoadRect = View.ld Z r :=
  View.readCov_fill v h Z [] r fun a => by match a with | ⟨0, _⟩ => rfl | ⟨1, _⟩ => rfl

/-- What is loaded of the squares stored whole. -/
theorem readCov_squares (v : View sig .tc .vmem S8x128x128 .f32) (h) (Z : Vec F S8x128x128 .f32) (r : Rect S8x128x128) :
    v.readCov [(⟨Rect.unit ![0, 0, 0] ![8, 128, 128] h, Z⟩ : View.Piece (Elt F) S8x128x128 .f32)] r.toLoadRect = View.ld Z r :=
  View.readCov_fill v h Z [] r fun a => by match a with | ⟨0, _⟩ => rfl | ⟨1, _⟩ => rfl | ⟨2, _⟩ => rfl

/-- A load of one square passes over a store into another. -/
theorem readCov_other (v : View sig .tc .vmem S8x128x128 .f32) (a b : ℕ) (h h') (w : Vec F S1x128x128 .f32)
    (L : List (View.Piece (Elt F) S8x128x128 .f32)) (hab : a ≠ b) :
    v.readCov ((⟨Rect.unit ![a, 0, 0] ![1, 128, 128] h, w⟩ : View.Piece (Elt F) S8x128x128 .f32) :: L)
        (Rect.unit ![b, 0, 0] ![1, 128, 128] h' : Rect S8x128x128).toLoadRect =
      v.readCov L (Rect.unit ![b, 0, 0] ![1, 128, 128] h' : Rect S8x128x128).toLoadRect := by
  rw [View.readCov_eq_canon', View.readCov_eq_canon']
  funext j
  refine View.canon_cons_of_not_mem _ L fun hm => hab ?_
  obtain ⟨x, hx⟩ := (Rect.unit ![a, 0, 0] ![1, 128, 128] h : Rect S8x128x128).exists_idx_of_mem hm
  have h0 := congrArg (fun i : S8x128x128.Idx => (i 0 : ℕ)) hx
  have h1 : a + 1 * (x 0 : ℕ) = b + 1 * (j 0 : ℕ) := h0
  have h2 : (x 0 : ℕ) < 1 := (x 0).isLt
  have h3 : (j 0 : ℕ) < 1 := (j 0).isLt
  omega

/-- The whole of the rows loaded from what some stores left. -/
theorem readCov_all (v : View sig .tc .vmem S512x1024 .f32) (h) (L : List (View.Piece (Elt F) S512x1024 .f32)) :
    v.readCov L (Rect.unit ![0, 0] ![512, 1024] h : Rect S512x1024).toLoadRect = View.canon L := by
  rw [View.readCov_eq_canon']; exact ld_rows (F := F) (View.canon L) h

/-- The pairs of a group and a chunk, the last first. -/
def pairs : List (Fin 8 × Fin 4) :=
  ([7, 6, 5, 4, 3, 2, 1, 0] : List (Fin 8)).flatMap fun g => ([3, 2, 1, 0] : List (Fin 4)).map fun ch => (g, ch)

variable (x0 x1 x2 : Vec F S512x1024 .f32) (x3 x4 : Vec F S1x1024 .f32) (x5 x6 : Vec F S8x128x128 .f32)

/-- The scaled normalised rows of the block. -/
def vn : Vec F S512x1024 .f32 := k0_pay10 x2 x3 x4

/-- A chunk of `u`'s gradient. -/
def du (g : Fin 8) (ch : Fin 4) : Vec F S128x128 .bf16 :=
  k0_pay15 k0_pay6 (View.ld x5 (R3 g)) (View.ld (vn x2 x3 x4) (R2 ch g)) (View.ld x6 (R3 g)) (View.ld x1 (R2 ch g)) (View.ld x0 (R2 ch g))

/-- A chunk of the cotangent of the scaled normalised rows. -/
def dvnChunk (g : Fin 8) (ch : Fin 4) : Vec F S128x128 .f32 :=
  k0_pay19 (k0_pay12 k0_pay6 (View.ld x5 (R3 g))) (View.ld x1 (R2 ch g)) (View.ld x0 (R2 ch g))

/-- The pieces of `u`'s gradient. -/
def du_pieces : List (View.Piece (Elt F) S512x1024 .bf16) :=
  pairs.map fun p => ⟨R2 p.2 p.1, du x0 x1 x2 x3 x4 x5 x6 p.1 p.2⟩

/-- The pieces of the cotangent of the scaled normalised rows. -/
def dvn_pieces : List (View.Piece (Elt F) S512x1024 .f32) :=
  pairs.map fun p => ⟨R2 p.2 p.1, dvnChunk x0 x1 x5 p.1 p.2⟩

/-- The cotangent of the scaled normalised rows. -/
def dvn : Vec F S512x1024 .f32 := View.canon (dvn_pieces x0 x1 x5)

/-- The gradient of `v`. -/
def dv : Vec F S512x1024 .bf16 :=
  k0_pay1 x2 (k0_pay274 (k0_pay8 x2) (k0_pay9 x2) (dvn x0 x1 x5) x3) (k0_pay276 x2 k0_pay275) (k0_pay277 x2)

/-- The mixing weights' products over the chunks from the first to `ch`. -/
def dwTo (g : Fin 8) (w : Vec F S128x128 .f32) (ch : Fin 4) : Vec F S128x128 .f32 :=
  k0_pay17 w (View.ld (vn x2 x3 x4) (R2 ch g)) (View.ld x1 (R2 ch g)) (View.ld x0 (R2 ch g))

/-- The mixing weights' products over the block. -/
def dw (g : Fin 8) : Vec F S128x128 .f32 :=
  dwTo x0 x1 x2 x3 x4 g (dwTo x0 x1 x2 x3 x4 g (dwTo x0 x1 x2 x3 x4 g (dwTo x0 x1 x2 x3 x4 g k0_pay13 0) 1) 2) 3

/-- The bias's sum over the chunks from the first to `ch`. -/
def dbTo (g : Fin 8) (b : Vec F S128x128 .f32) (ch : Fin 4) : Vec F S128x128 .f32 :=
  k0_pay18 b (View.ld x1 (R2 ch g)) (View.ld x0 (R2 ch g))

/-- The bias's sum over the block. -/
def db (g : Fin 8) : Vec F S128x128 .f32 :=
  dbTo x0 x1 g (dbTo x0 x1 g (dbTo x0 x1 g (dbTo x0 x1 g k0_pay14 0) 1) 2) 3

/-- The mixing weights' gradient at group `g`, from what was there. -/
def dwOn (y : Vec F S1x128x128 .f32) (g : Fin 8) : Vec F S1x128x128 .f32 :=
  shapeCast S1x128x128 (addf (shapeCast S128x128 y shapeCasts_S1x128x128_S128x128)
    (select k0_pay6 (dw x0 x1 x2 x3 x4 g) (broadcast S128x128 (Scalar.ofBits .f32 0x00000000#32)))) shapeCasts_S128x128_S1x128x128

/-- The bias's gradient at group `g`, from what was there. -/
def dbOn (y : Vec F S1x128x128 .f32) (g : Fin 8) : Vec F S1x128x128 .f32 :=
  shapeCast S1x128x128 (addf (shapeCast S128x128 y shapeCasts_S1x128x128_S128x128) (db x0 x1 g)) shapeCasts_S128x128_S1x128x128

/-- The scale's gradient from what was there. -/
def dlw (y : Vec F S1x1024 .f32) : Vec F S1x1024 .f32 := k0_pay272 (k0_pay9 x2) (dvn x0 x1 x5) y

/-- The shift's gradient from what was there. -/
def dlb (y : Vec F S1x1024 .f32) : Vec F S1x1024 .f32 := k0_pay273 (dvn x0 x1 x5) y

/-- The groups, the last first. -/
def groups : List (Fin 8) := [7, 6, 5, 4, 3, 2, 1, 0]

/-- The pieces of the mixing weights' gradient over the array `y`. -/
def dw_pieces (y : Vec F S8x128x128 .f32) : List (View.Piece (Elt F) S8x128x128 .f32) :=
  groups.map fun g => ⟨R3 g, dwOn x0 x1 x2 x3 x4 (View.ld y (R3 g)) g⟩

/-- The pieces of the bias's gradient over the array `y`. -/
def db_pieces (y : Vec F S8x128x128 .f32) : List (View.Piece (Elt F) S8x128x128 .f32) :=
  groups.map fun g => ⟨R3 g, dbOn x0 x1 (View.ld y (R3 g)) g⟩

end Gating.Block

end
-- ==== Proof.Spec.lean ====
/- The spatial gating branch and its gradient as functions of real arrays: what both programs are
   shown to compute. Rows are the 8192 positions (64 chunks of 128), columns the 1024 lanes
   (8 groups of 128). -/
module

public import Idealize.ShloMosaic.PureOps.Ideal.Laws

@[expose] public section

noncomputable section

namespace Gating

/-- The error function. -/
def erfR (r : ℝ) : ℝ := 2 / Real.sqrt Real.pi * ∫ t in (0 : ℝ)..r, Real.exp (-(t ^ 2))

/-- `x · Φ(x)`. -/
def gelu (x : ℝ) : ℝ := 1 / 2 * x * (1 + erfR (x * (Real.sqrt 2)⁻¹))

/-- The derivative `Φ(x) + x · φ(x)` of `gelu`. -/
def geluD (x : ℝ) : ℝ :=
  1 / 2 * (1 + erfR (x * (Real.sqrt 2)⁻¹)) + x * Real.exp (-(1 / 2) * x * x) * (Real.sqrt (2 * Real.pi))⁻¹

/-- The normalisation's small constant: the single-precision number next to `10⁻⁶`. -/
def eps : ℝ := 8796093 / 2 ^ 43

/-- The mean of a row. -/
def mean (f : Fin 1024 → ℝ) : ℝ := (∑ c, f c) / 1024

/-- A row less its mean. -/
def cen (f : Fin 1024 → ℝ) (c : Fin 1024) : ℝ := f c - mean f

/-- A row's variance. -/
def var (f : Fin 1024 → ℝ) : ℝ := mean fun c => cen f c * cen f c

/-- The reciprocal of a row's standard deviation. -/
def rstd (f : Fin 1024 → ℝ) : ℝ := (Real.sqrt (var f + eps))⁻¹

/-- A row normalised. -/
def nrm (f : Fin 1024 → ℝ) (c : Fin 1024) : ℝ := cen f c * rstd f

/-- The gradient of the normalisation at the row `f`, on the cotangent `g` of `nrm f`. -/
def lnBack (f g : Fin 1024 → ℝ) (c : Fin 1024) : ℝ :=
  rstd f * (g c - mean g - nrm f c * mean fun e => g e * nrm f e)

/-- Row `128 k + t`. -/
def rowAt (k : Fin 64) (t : Fin 128) : Fin 8192 := ⟨k.val * 128 + t.val, by omega⟩
/-- Lane `128 g + d`. -/
def colAt (g : Fin 8) (d : Fin 128) : Fin 1024 := ⟨g.val * 128 + d.val, by omega⟩
/-- The chunk of a row. -/
def rk (r : Fin 8192) : Fin 64 := ⟨r.val / 128, by omega⟩
/-- The place of a row in its chunk. -/
def rt (r : Fin 8192) : Fin 128 := ⟨r.val % 128, by omega⟩
/-- The group of a lane. -/
def cg (c : Fin 1024) : Fin 8 := ⟨c.val / 128, by omega⟩

theorem rk_rowAt (k : Fin 64) (t : Fin 128) : rk (rowAt k t) = k := Fin.ext (by simp only [rk, rowAt]; omega)
theorem rt_rowAt (k : Fin 64) (t : Fin 128) : rt (rowAt k t) = t := Fin.ext (by simp only [rt, rowAt]; omega)
theorem cg_colAt (g : Fin 8) (d : Fin 128) : cg (colAt g d) = g := Fin.ext (by simp only [cg, colAt]; omega)
theorem rowAt_rk_rt (r : Fin 8192) : rowAt (rk r) (rt r) = r := Fin.ext (by simp only [rowAt, rk, rt]; omega)

/-- The arguments, as real arrays. -/
structure Args where
  /-- The cotangent. -/
  D : Fin 8192 → Fin 1024 → ℝ
  U : Fin 8192 → Fin 1024 → ℝ
  V : Fin 8192 → Fin 1024 → ℝ
  lw : Fin 1024 → ℝ
  lb : Fin 1024 → ℝ
  W : Fin 8 → Fin 128 → Fin 128 → ℝ
  B : Fin 8 → Fin 128 → ℝ

variable (A : Args)

namespace Args

/-- The row `r` of `gelu v`. -/
def vg (r : Fin 8192) (c : Fin 1024) : ℝ := gelu (A.V r c)
/-- `gelu v`, normalised and scaled. -/
def vn (r : Fin 8192) (c : Fin 1024) : ℝ := nrm (A.vg r) c * A.lw c + A.lb c
/-- The causal mixing weights. -/
def wm (g : Fin 8) (t s : Fin 128) : ℝ := if s ≤ t then A.W g t s else 0
/-- The mixed rows with their bias: the gate. -/
def sv (r : Fin 8192) (c : Fin 1024) : ℝ :=
  (∑ s, A.wm (cg c) (rt r) s * A.vn (rowAt (rk r) s) c) + A.B (cg c) (rt r)
/-- The cotangent of the gate. -/
def dsv (r : Fin 8192) (c : Fin 1024) : ℝ := A.D r c * gelu (A.U r c)
/-- The gradient of `u`. -/
def du (r : Fin 8192) (c : Fin 1024) : ℝ := A.D r c * A.sv r c * geluD (A.U r c)
/-- The cotangent of the scaled normalised rows. -/
def dvn (r : Fin 8192) (c : Fin 1024) : ℝ := ∑ t, A.wm (cg c) t (rt r) * A.dsv (rowAt (rk r) t) c
/-- The gradient of the mixing weights. -/
def dws (g : Fin 8) (t s : Fin 128) : ℝ :=
  if s ≤ t then ∑ k, ∑ d, A.dsv (rowAt k t) (colAt g d) * A.vn (rowAt k s) (colAt g d) else 0
/-- The gradient of the bias, per lane. -/
def dbs (g : Fin 8) (t d : Fin 128) : ℝ := ∑ k, A.dsv (rowAt k t) (colAt g d)
/-- The gradient of the scale. -/
def dlw (c : Fin 1024) : ℝ := ∑ r, A.dvn r c * nrm (A.vg r) c
/-- The gradient of the shift. -/
def dlb (c : Fin 1024) : ℝ := ∑ r, A.dvn r c
/-- The cotangent of the normalised row. -/
def dxh (r : Fin 8192) (c : Fin 1024) : ℝ := A.dvn r c * A.lw c
/-- The gradient of `v`. -/
def dv (r : Fin 8192) (c : Fin 1024) : ℝ := lnBack (A.vg r) (A.dxh r) c * geluD (A.V r c)

end Args

/-! ## The gradients as the product and chain rules leave them -/

theorem eps_pos : 0 < eps := by unfold eps; positivity

theorem var_nonneg (f : Fin 1024 → ℝ) : 0 ≤ var f := by
  unfold var mean; exact div_nonneg (Finset.sum_nonneg fun c _ => mul_self_nonneg _) (by norm_num)

theorem var_eps_pos (f : Fin 1024 → ℝ) : 0 < var f + eps := add_pos_of_nonneg_of_pos (var_nonneg f) eps_pos

/-- A row less its mean sums to zero. -/
theorem sum_cen (f : Fin 1024 → ℝ) : ∑ c, cen f c = 0 := by
  simp only [cen, mean, Finset.sum_sub_distrib, Finset.sum_const, Finset.card_univ, Fintype.card_fin, nsmul_eq_mul]
  push_cast; ring

theorem rstd_sq (f : Fin 1024 → ℝ) : rstd f * rstd f = (var f + eps)⁻¹ := by
  unfold rstd; rw [← mul_inv, Real.mul_self_sqrt (var_eps_pos f).le]

/-- The cotangent of the centred row through the variance, as the chain rule leaves it: `a` is the sum of
    the row's products with the cotangent. -/
def throughVar (f g : Fin 1024 → ℝ) (c : Fin 1024) : ℝ :=
  (∑ e, cen f e * g e) * (-(1 / 2) * (rstd f / (var f + eps))) / 1024 * (2 * cen f c)

/-- The chain rule through mean, variance and reciprocal root, collected: `lnBack`. -/
theorem lnBack_eq (f g : Fin 1024 → ℝ) (c : Fin 1024) :
    (g c * rstd f + throughVar f g c)
      + ((∑ e, -(g e * rstd f)) + ∑ e, -throughVar f g e) / 1024 = lnBack f g c := by
  have hz : ∑ e, throughVar f g e = 0 := by
    simp only [throughVar]
    rw [← Finset.mul_sum, ← Finset.mul_sum, sum_cen]; ring
  have hs : ∑ e, g e * nrm f e = (∑ e, cen f e * g e) * rstd f := by
    rw [Finset.sum_mul]; exact Finset.sum_congr rfl fun e _ => by unfold nrm; ring
  have hr : rstd f / (var f + eps) = rstd f * (rstd f * rstd f) := by rw [rstd_sq]; rfl
  rw [Finset.sum_neg_distrib, Finset.sum_neg_distrib, hz, ← Finset.sum_mul]
  unfold lnBack throughVar
  simp only [mean]
  rw [hs, hr]; unfold nrm; ring

/-- The derivative of `gelu` as the product rule leaves it, scaled by a cotangent `a`: `y = −x·√½`. -/
theorem geluD_eq (x a : ℝ) :
    -(-2 / Real.sqrt Real.pi * Real.exp (-(-x * Real.sqrt (1 / 2) * (-x * Real.sqrt (1 / 2)))) * (1 / 2 * x * a) * Real.sqrt (1 / 2))
      + 1 / 2 * (a * (1 + erfR (x * Real.sqrt (1 / 2)))) = a * geluD x := by
  have h2 : Real.sqrt (1 / 2) = (Real.sqrt 2)⁻¹ := by rw [one_div, Real.sqrt_inv]
  have hm : -x * Real.sqrt (1 / 2) * (-x * Real.sqrt (1 / 2)) = 1 / 2 * x * x := by
    have := Real.mul_self_sqrt (show (0 : ℝ) ≤ 1 / 2 by norm_num)
    linear_combination (x * x) * this
  rw [hm, h2]; unfold geluD
  rw [Real.sqrt_mul (by norm_num), mul_inv, show -(1 / 2 * x * x) = -(1 / 2) * x * x by ring]
  ring

theorem gelu_eq (x : ℝ) : 1 / 2 * x * (1 + erfR (x * Real.sqrt (1 / 2))) = gelu x := by
  unfold gelu; rw [one_div, Real.sqrt_inv]

/-- A sum over the rows is a sum over the chunks of sums over a chunk's rows. -/
theorem sum_rows (f : Fin 8192 → ℝ) : ∑ r, f r = ∑ k, ∑ t, f (rowAt k t) := by
  rw [← Finset.sum_product']
  refine (Finset.sum_bij' (fun p _ => rowAt p.1 p.2) (fun r _ => (rk r, rt r)) ?_ ?_ ?_ ?_ ?_).symm <;>
    intros <;> simp [rk_rowAt, rt_rowAt, rowAt_rk_rt]

end Gating

end
-- ==== Proof.Consts.lean ====
/- The literals of both programs as real numbers, and the scalar functions on finite numbers. -/
module

public import proofs.«01_k».proof.Proof.Spec
public import proofs.«01_k».proof.Proof.Gen.KernelIdeal.Skeleton
public import Idealize.ShloMosaic.Lib.ValueIdx

@[expose] public section

noncomputable section

open Idealize.ShloMosaic

namespace Gating

/-! ## Literals -/

theorem half_lit : Ideal.ofBits .f32 0x3F000000#32 = ((1 / 2 : ℝ) : EReal) := by simp [Ideal.ofBits, Ideal.ieee, -EReal.coe_mul]; norm_num
theorem one_lit : Ideal.ofBits .f32 0x3F800000#32 = ((1 : ℝ) : EReal) := by simp [Ideal.ofBits, Ideal.ieee, -EReal.coe_mul]; norm_num
theorem two_lit : Ideal.ofBits .f32 0x40000000#32 = ((2 : ℝ) : EReal) := by simp [Ideal.ofBits, Ideal.ieee, -EReal.coe_mul]; norm_num
theorem negHalf_lit : Ideal.ofBits .f32 0xBF000000#32 = ((-(1 / 2) : ℝ) : EReal) := by simp [Ideal.ofBits, Ideal.ieee, -EReal.coe_mul]; norm_num
theorem negOne_lit : Ideal.ofBits .f32 0xBF800000#32 = ((-1 : ℝ) : EReal) := by simp [Ideal.ofBits, Ideal.ieee, -EReal.coe_mul]; norm_num
theorem negTwo_lit : Ideal.ofBits .f32 0xC0000000#32 = ((-2 : ℝ) : EReal) := by simp [Ideal.ofBits, Ideal.ieee, -EReal.coe_mul]; norm_num
theorem lanes_lit : Ideal.ofBits .f32 0x44800000#32 = ((1024 : ℝ) : EReal) := by simp [Ideal.ofBits, Ideal.ieee, -EReal.coe_mul]; norm_num
theorem zero_lit : Ideal.ofBits .f32 0x00000000#32 = ((0 : ℝ) : EReal) := by simp [Ideal.ofBits, Ideal.ieee]
theorem eps_lit : Ideal.ofBits .f32 0x358637BD#32 = (eps : EReal) := by
  unfold eps; simp [Ideal.ofBits, Ideal.ieee, -EReal.coe_mul]; norm_num

theorem rsqrt_2_val : (Named.named Cert.KernelIdeal.κ "rsqrt_2" (φ := .f32) 0x3F3504F3#32 : Ideal .f32) = (((Real.sqrt 2)⁻¹ : ℝ) : EReal) :=
  IdealRules.named_const.ideal_named_scalar _ _ _ _ rfl
theorem rsqrt_2pi_val : (Named.named Cert.KernelIdeal.κ "rsqrt_2pi" (φ := .f32) 0x3ECC422A#32 : Ideal .f32) =
    (((Real.sqrt (2 * Real.pi))⁻¹ : ℝ) : EReal) :=
  IdealRules.named_const.ideal_named_scalar _ _ _ _ rfl

/-! ## Scalar functions on finite numbers -/

theorem erf_fin (r : ℝ) : Ideal.erf (r : EReal) = (erfR r : EReal) := Ideal.erf_coe r

theorem div_fin (r : ℝ) {y : ℝ} (h : y ≠ 0) : Ideal.div (r : EReal) (y : EReal) = ((r / y : ℝ) : EReal) := by
  rw [Ideal.div_coe h, ← EReal.coe_mul, mul_one_div]

theorem rsqrt_fin {r : ℝ} (h : 0 < r) : Ideal.rsqrt (r : EReal) = (((Real.sqrt r)⁻¹ : ℝ) : EReal) := by
  rw [Ideal.rsqrt_coe, if_neg h.le.not_gt, if_neg h.ne']

theorem sqrt_fin {r : ℝ} (h : 0 ≤ r) : Ideal.sqrt (r : EReal) = ((Real.sqrt r : ℝ) : EReal) := by
  rw [Ideal.sqrt_coe, if_neg h.not_gt]

theorem sum_fin {ι : Type*} (s : Finset ι) (f : ι → ℝ) : ∑ k ∈ s, (f k : EReal) = ((∑ k ∈ s, f k : ℝ) : EReal) :=
  (map_sum (⟨⟨Real.toEReal, EReal.coe_zero⟩, EReal.coe_add⟩ : ℝ →+ EReal) f s).symm

/-- `gelu` as the kernel writes it. -/
theorem gelu_fin (r : ℝ) : ((1 / 2 : ℝ) : EReal) * (r : EReal) * (((1 : ℝ) : EReal) + Ideal.erf ((r : EReal) * (((Real.sqrt 2)⁻¹ : ℝ) : EReal))) =
    (gelu r : EReal) := by
  rw [← EReal.coe_mul, ← EReal.coe_mul, erf_fin, ← EReal.coe_add, ← EReal.coe_mul]; rfl

/-- Its derivative as the kernel writes it. -/
theorem geluD_fin (r : ℝ) :
    ((1 / 2 : ℝ) : EReal) * (((1 : ℝ) : EReal) + Ideal.erf ((r : EReal) * (((Real.sqrt 2)⁻¹ : ℝ) : EReal)))
      + (r : EReal) * Ideal.exp (((-(1 / 2) : ℝ) : EReal) * (r : EReal) * (r : EReal)) * (((Real.sqrt (2 * Real.pi))⁻¹ : ℝ) : EReal) =
    (geluD r : EReal) := by
  rw [← EReal.coe_mul, erf_fin, ← EReal.coe_add, ← EReal.coe_mul, ← EReal.coe_mul, ← EReal.coe_mul, Ideal.exp_coe, ← EReal.coe_mul,
    ← EReal.coe_mul, ← EReal.coe_add]; rfl

end Gating

end
-- ==== Proof.Rows.lean ====
/- The rows of one block at the ideal values: `gelu v` normalised, and the gradient through the normalisation. -/
module

public import proofs.«01_k».proof.Proof.Block
public import proofs.«01_k».proof.Proof.Consts

@[expose] public section

noncomputable section

open Idealize.ShloMosaic Idealize.ShloMosaic.TcCoe Idealize.ShloMosaic.ValueIdx Idealize.SL.Sem
open Cert.KernelIdeal Cert.KernelIdeal.Gen

namespace Gating.Rows

/-- A block of rows of finite numbers. -/
abbrev up (f : Fin 512 → Fin 1024 → ℝ) : FVec Ideal S512x1024 .f32 := fun i => ((f (i 0) (i 1) : ℝ) : EReal)
/-- A row of finite numbers. -/
abbrev upRow (f : Fin 1024 → ℝ) : FVec Ideal S1x1024 .f32 := fun i => ((f (i 1) : ℝ) : EReal)
/-- A column of finite numbers. -/
abbrev upCol (f : Fin 512 → ℝ) : FVec Ideal S512x1 .f32 := fun i => ((f (i 0) : ℝ) : EReal)

/-- The mean along the lanes, kept as a column, as the kernel writes it. -/
def laneMean (v : FVec Ideal S512x1024 .f32) : FVec Ideal S512x1 .f32 :=
  divf (shapeCast S512x1 (multiReduction .add [1] S512 v 0x00000000#32 reduces_S512x1024_S512 (.inl rfl) rfl) shapeCasts_S512_S512x1)
    (broadcast S512x1 (Scalar.ofBits .f32 0x44800000#32))

theorem laneMean_val (f : Fin 512 → Fin 1024 → ℝ) : laneMean (up f) = upCol fun b => mean (f b) := by
  funext j
  have h1 : (j 1 : ℕ) < 1 := (j 1).isLt
  have hs : shapeCast S512x1 (multiReduction .add [1] S512 (up f) 0x00000000#32 reduces_S512x1024_S512 (.inl rfl) rfl) shapeCasts_S512_S512x1 j =
      ((∑ c, f (j 0) c : ℝ) : EReal) := by
    refine (shapeCast_apply _ _ j (ix1 (j 0)) ?_).trans ?_
    · rw [Shape.rowMajor_val_one, Shape.rowMajor_val_two]
      show (j 0 : ℕ) = (j 0 : ℕ) * 1 + (j 1 : ℕ)
      omega
    · refine (Ideal.multiReduction_add_single _ _ _ _ _ _).trans ?_
      rw [← sum_fin]
      rfl
  refine (congrArg (fun x => Ideal.div x (Ideal.ofBits .f32 0x44800000#32)) hs).trans ?_
  rw [lanes_lit, div_fin _ (by norm_num)]
  rfl

/-- `gelu` along the rows, as the kernel writes it. -/
def geluRows (v : FVec Ideal S512x1024 .f32) : FVec Ideal S512x1024 .f32 :=
  mulf (mulf (broadcast S512x1024 (Scalar.ofBits .f32 0x3F000000#32)) v)
    (addf (broadcast S512x1024 (Scalar.ofBits .f32 0x3F800000#32))
      (erf (mulf v (broadcast S512x1024 (Named.named κ "rsqrt_2" (φ := .f32) 0x3F3504F3#32)))))

/-- A column along the lanes. -/
theorem col_apply (x : FVec Ideal S512x1 .f32) (h) (i : S512x1024.Idx) : broadcastTo S512x1024 x h i = x (ix2 (i 0) 0) :=
  broadcastTo_apply x h i _ fun a => by match a with | ⟨0, _⟩ => rfl | ⟨1, _⟩ => rfl

/-- A row down the rows. -/
theorem row_apply (x : FVec Ideal S1x1024 .f32) (h) (i : S512x1024.Idx) : broadcastTo S512x1024 x h i = x (ix2 0 (i 1)) :=
  broadcastTo_apply x h i _ fun a => by match a with | ⟨0, _⟩ => rfl | ⟨1, _⟩ => rfl

variable (V : Fin 512 → Fin 1024 → ℝ)

/-- The row `b` of `gelu v`. -/
abbrev vg (b : Fin 512) (c : Fin 1024) : ℝ := gelu (V b c)

theorem geluRows_val : geluRows (up V) = up (vg V) := by
  funext i
  refine Eq.trans ?_ (gelu_fin (V (i 0) (i 1)))
  rw [← half_lit, ← one_lit, ← rsqrt_2_val]; rfl

theorem pay7_val : (k0_pay7 (up V) : FVec Ideal S512x1024 .f32) = up fun b => cen (vg V b) := by
  refine (show k0_pay7 (F := Ideal) (up V) = subf (geluRows (up V)) (broadcastTo S512x1024 (laneMean (geluRows (up V))) broadcasts_S512x1_S512x1024) from rfl).trans ?_
  rw [geluRows_val, laneMean_val]
  funext i
  rw [subf_apply, col_apply]
  exact (EReal.coe_sub _ _).symm

theorem pay8_val : (k0_pay8 (up V) : FVec Ideal S512x1 .f32) = upCol fun b => rstd (vg V b) := by
  refine (show k0_pay8 (F := Ideal) (up V) = rsqrt (addf (laneMean (mulf (k0_pay7 (F := Ideal) (up V)) (k0_pay7 (F := Ideal) (up V)))) (broadcast S512x1 (Scalar.ofBits .f32 0x358637BD#32))) from rfl).trans ?_
  rw [pay7_val, show mulf (up fun b => cen (vg V b)) (up fun b => cen (vg V b)) = up (fun b c => cen (vg V b) c * cen (vg V b) c) from
    funext fun i => (EReal.coe_mul _ _).symm, laneMean_val]
  funext j
  refine Eq.trans ?_ (rsqrt_fin (var_eps_pos (vg V (j 0))))
  rw [EReal.coe_add, ← eps_lit]; rfl

theorem pay9_val : (k0_pay9 (up V) : FVec Ideal S512x1024 .f32) = up fun b => nrm (vg V b) := by
  refine (show k0_pay9 (F := Ideal) (up V) = mulf (k0_pay7 (F := Ideal) (up V)) (broadcastTo S512x1024 (k0_pay8 (F := Ideal) (up V)) broadcasts_S512x1_S512x1024) from rfl).trans ?_
  rw [pay7_val, pay8_val]
  funext i
  rw [mulf_apply, col_apply]
  exact (EReal.coe_mul _ _).symm

theorem vn_val (lw lb : Fin 1024 → ℝ) : (Block.vn (F := Ideal) (up V) (upRow lw) (upRow lb)) =
    up fun b c => nrm (vg V b) c * lw c + lb c := by
  refine (show Block.vn (F := Ideal) (up V) (upRow lw) (upRow lb) = shapeCast S512x1024 (addf (mulf (k0_pay9 (F := Ideal) (up V))
    (broadcastTo S512x1024 (upRow lw) broadcasts_S1x1024_S512x1024)) (broadcastTo S512x1024 (upRow lb) broadcasts_S1x1024_S512x1024))
    shapeCasts_S512x1024_S512x1024 from rfl).trans ?_
  rw [shapeCast_self, pay9_val]
  funext i
  rw [addf_apply, mulf_apply, row_apply, row_apply]
  exact ((EReal.coe_add _ _).trans (congrArg (· + _) (EReal.coe_mul _ _))).symm

/-- The derivative of `gelu` along the rows, in the three pieces the kernel computes it in. -/
theorem pay1_val (g : Fin 512 → Fin 1024 → ℝ) : (k0_pay1 (up V) (up g) (k0_pay276 (up V) k0_pay275) (k0_pay277 (up V)) : FVec Ideal S512x1024 .bf16) =
    fun i => ((g (i 0) (i 1) * geluD (V (i 0) (i 1)) : ℝ) : EReal) := by
  funext i
  refine Eq.trans ?_ (EReal.coe_mul _ _).symm
  rw [← geluD_fin, ← half_lit, ← one_lit, ← negHalf_lit, ← rsqrt_2_val, ← rsqrt_2pi_val]; rfl

/-- The gradient through the normalisation. -/
theorem pay274_val (g : Fin 512 → Fin 1024 → ℝ) (lw : Fin 1024 → ℝ) :
    (k0_pay274 (upCol fun b => rstd (vg V b)) (up fun b => nrm (vg V b)) (up g) (upRow lw) : FVec Ideal S512x1024 .f32) =
      up fun b => lnBack (vg V b) fun c => g b c * lw c := by
  refine (show k0_pay274 (F := Ideal) (upCol fun b => rstd (vg V b)) (up fun b => nrm (vg V b)) (up g) (upRow lw) =
    mulf (broadcastTo S512x1024 (upCol fun b => rstd (vg V b)) broadcasts_S512x1_S512x1024)
      (subf (subf (mulf (up g) (broadcastTo S512x1024 (upRow lw) broadcasts_S1x1024_S512x1024))
          (broadcastTo S512x1024 (laneMean (mulf (up g) (broadcastTo S512x1024 (upRow lw) broadcasts_S1x1024_S512x1024))) broadcasts_S512x1_S512x1024))
        (mulf (up fun b => nrm (vg V b)) (broadcastTo S512x1024
          (laneMean (mulf (mulf (up g) (broadcastTo S512x1024 (upRow lw) broadcasts_S1x1024_S512x1024)) (up fun b => nrm (vg V b))))
          broadcasts_S512x1_S512x1024))) from rfl).trans ?_
  rw [show mulf (up g) (broadcastTo S512x1024 (upRow lw) broadcasts_S1x1024_S512x1024) = up (fun b c => g b c * lw c) from
    funext fun i => by rw [mulf_apply, row_apply]; exact (EReal.coe_mul _ _).symm]
  rw [show mulf (up fun b c => g b c * lw c) (up fun b => nrm (vg V b)) = up (fun b c => g b c * lw c * nrm (vg V b) c) from
    funext fun i => (EReal.coe_mul _ _).symm, laneMean_val, laneMean_val]
  funext i
  simp only [mulf_apply, subf_apply, col_apply]
  rw [← EReal.coe_mul, ← EReal.coe_sub, ← EReal.coe_sub, ← EReal.coe_mul]; rfl

end Gating.Rows

end
-- ==== Proof.Squares.lean ====
/- The kernel's operations on one chunk of 128 rows and 128 lanes, as real numbers. -/
module

public import proofs.«01_k».proof.Proof.Rows
public import Idealize.ShloMosaic.Lib.MatmulPlain
public import Idealize.ShloMosaic.Lib.WordCmp

@[expose] public section

noncomputable section

open Idealize.ShloMosaic Idealize.ShloMosaic.TcCoe Idealize.ShloMosaic.ValueIdx Idealize.SL.Sem
open Cert.KernelIdeal Cert.KernelIdeal.Gen Gating.Block Gating.Rows

namespace Gating.Squares

/-- A square of finite numbers. -/
abbrev sqr (f : Fin 128 → Fin 128 → ℝ) : FVec Ideal S128x128 .f32 := fun i => ((f (i 0) (i 1) : ℝ) : EReal)
/-- The same in the products' format. -/
abbrev sqb (f : Fin 128 → Fin 128 → ℝ) : FVec Ideal S128x128 .bf16 := fun i => ((f (i 0) (i 1) : ℝ) : EReal)
/-- The same with a leading unit axis. -/
abbrev sq1 (f : Fin 128 → Fin 128 → ℝ) : FVec Ideal S1x128x128 .f32 := fun i => ((f (i 1) (i 2) : ℝ) : EReal)
/-- A square per group. -/
abbrev cube (f : Fin 8 → Fin 128 → Fin 128 → ℝ) : FVec Ideal S8x128x128 .f32 := fun i => ((f (i 0) (i 1) (i 2) : ℝ) : EReal)

/-- The lower triangle of a square. -/
def low (f : Fin 128 → Fin 128 → ℝ) (t s : Fin 128) : ℝ := if s ≤ t then f t s else 0

theorem trunc_sq (f : Fin 128 → Fin 128 → ℝ) (h) : truncf .bf16 (sqr f) h = sqb f := rfl

theorem drop_sq (f : Fin 128 → Fin 128 → ℝ) (h) : shapeCast S128x128 (sq1 f) h = (sqr f) :=
  funext fun j => shapeCast_dropUnit_apply (n := 2) ![128, 128] (sq1 f) h j

theorem add_sq (f : Fin 128 → Fin 128 → ℝ) (h) : shapeCast S1x128x128 (sqr f) h = sq1 f :=
  funext fun j => shapeCast_addUnit_apply (n := 2) ![128, 128] (sqr f) h j

theorem mask_val (a b : FVec Ideal S128x128 .f32) (i : S128x128.Idx) :
    select k0_pay6 a b i = if (i 1 : Fin 128) ≤ (i 0 : Fin 128) then a i else b i := by
  have h0 : (i 0 : ℕ) < 128 := (i 0).isLt
  have h1 : (i 1 : ℕ) < 128 := (i 1).isLt
  show Scalar.select (IntOp.cmpi .sge (iota .tc S128x128 32 [0] iota_S128x128_d0_w32 i) (iota .tc S128x128 32 [1] iota_S128x128_d1_w32 i)) _ _ = _
  rw [iota_single_apply, iota_single_apply, WordCmp.cmpi_sge_ofNat (by omega) (by omega), WordCmp.select_decide]
  rfl

theorem select_low (f : Fin 128 → Fin 128 → ℝ) :
    select k0_pay6 (sqr f) (broadcast S128x128 (Scalar.ofBits .f32 0x00000000#32)) = sqr (low f) := by
  funext i
  rw [mask_val]
  show _ = ((if (i 1 : Fin 128) ≤ (i 0 : Fin 128) then f (i 0) (i 1) else 0 : ℝ) : EReal)
  by_cases h : (i 1 : Fin 128) ≤ (i 0 : Fin 128)
  · rw [if_pos h, if_pos h]
  · rw [if_neg h, if_neg h]; exact zero_lit

theorem weights (f : Fin 128 → Fin 128 → ℝ) : (k0_pay11 k0_pay6 (sq1 f) : FVec Ideal S128x128 .f32) = sqr (low f) := by
  refine (show k0_pay11 (F := Ideal) k0_pay6 (sq1 f) = select k0_pay6 (shapeCast S128x128 (sq1 f) shapeCasts_S1x128x128_S128x128)
    (broadcast S128x128 (Scalar.ofBits .f32 0x00000000#32)) from rfl).trans ?_
  rw [drop_sq, select_low]

theorem weights_t (f : Fin 128 → Fin 128 → ℝ) : (k0_pay12 k0_pay6 (sq1 f) : FVec Ideal S128x128 .f32) = sqr (fun s t => low f t s) := by
  refine (show k0_pay12 (F := Ideal) k0_pay6 (sq1 f) = transpose S128x128 [1, 0] (k0_pay11 (F := Ideal) k0_pay6 (sq1 f)) transposes_S128x128_p1_0_S128x128 from rfl).trans ?_
  rw [weights]
  funext i
  exact transpose_apply [1, 0] _ transposes_S128x128_p1_0_S128x128 i (ix2 (i 1) (i 0)) fun b => by match b with | ⟨0, _⟩ => rfl | ⟨1, _⟩ => rfl

theorem matmul_val (a b : Fin 128 → Fin 128 → ℝ) :
    matmul dot_S128x128_S128x128_S128x128_1_0_0_1_n_n none (sqb a) (sqb b)
      (constant S128x128 .f32 0x00000000#32) = sqr fun t c => ∑ s, a t s * b s c := by
  funext i
  rw [eq_ix2 i]
  refine (Ideal.matmul_plain_apply (M := 128) (K := 128) (N := 128) none _ _ _ (i 0) (i 1)).trans ?_
  rw [constant_apply, zero_lit, EReal.coe_zero, zero_add]
  simp only [← sum_fin, EReal.coe_mul]

theorem matmul_t_val (a b : Fin 128 → Fin 128 → ℝ) :
    matmul dot_S128x128_S128x128_S128x128_1_1_0_0_n_n none (sqb a) (sqb b)
      (constant S128x128 .f32 0x00000000#32) = sqr fun t c => ∑ s, a t s * b c s := by
  funext i
  rw [eq_ix2 i]
  refine (Ideal.matmul_transposedRhs_apply (M := 128) (K := 128) (N := 128) none _ _ _ (i 0) (i 1)).trans ?_
  rw [constant_apply, zero_lit, EReal.coe_zero, zero_add]
  simp only [← sum_fin, EReal.coe_mul]

/-- The cotangent of the gate on one chunk. -/
theorem pay16_val (u d : Fin 128 → Fin 128 → ℝ) : (k0_pay16 (sqr u) (sqr d) : FVec Ideal S128x128 .f32) = sqr fun t c => d t c * gelu (u t c) := by
  funext i
  refine Eq.trans ?_ (EReal.coe_mul _ _).symm
  rw [← gelu_fin, ← half_lit, ← one_lit, ← rsqrt_2_val]; rfl

theorem pay15_val (w n b u d : Fin 128 → Fin 128 → ℝ) :
    (k0_pay15 k0_pay6 (sq1 w) (sqr n) (sq1 b) (sqr u) (sqr d) : FVec Ideal S128x128 .bf16) =
      sqb fun t c => d t c * ((∑ s, low w t s * n s c) + b t c) * geluD (u t c) := by
  have h : addf (matmul dot_S128x128_S128x128_S128x128_1_0_0_1_n_n none (truncf .bf16 (k0_pay11 (F := Ideal) k0_pay6 (sq1 w)) bitsLt_bf16_f32)
      (truncf .bf16 (sqr n) bitsLt_bf16_f32) (constant S128x128 .f32 0x00000000#32))
      (shapeCast S128x128 (sq1 b) shapeCasts_S1x128x128_S128x128) = sqr fun t c => (∑ s, low w t s * n s c) + b t c := by
    rw [weights, drop_sq, trunc_sq, trunc_sq, matmul_val]
    funext i; exact (EReal.coe_add _ _).symm
  funext i
  refine Eq.trans ?_ (EReal.coe_mul _ _).symm
  refine Eq.trans ?_ (congrArg (· * _) (EReal.coe_mul _ _).symm)
  rw [← geluD_fin, ← half_lit, ← one_lit, ← negHalf_lit, ← rsqrt_2_val, ← rsqrt_2pi_val]
  exact congrArg (fun x : EReal => ((d (i 0) (i 1) : ℝ) : EReal) * x * _) (congrFun h i)

theorem pay19_val (w u d : Fin 128 → Fin 128 → ℝ) :
    (k0_pay19 (k0_pay12 k0_pay6 (sq1 w)) (sqr u) (sqr d) : FVec Ideal S128x128 .f32) =
      sqr fun s c => ∑ t, low w t s * (d t c * gelu (u t c)) := by
  refine (show k0_pay19 (F := Ideal) (k0_pay12 k0_pay6 (sq1 w)) (sqr u) (sqr d) = shapeCast S128x128 (matmul dot_S128x128_S128x128_S128x128_1_0_0_1_n_n none
    (truncf .bf16 (k0_pay12 (F := Ideal) k0_pay6 (sq1 w)) bitsLt_bf16_f32) (truncf .bf16 (k0_pay16 (F := Ideal) (sqr u) (sqr d)) bitsLt_bf16_f32)
    (constant S128x128 .f32 0x00000000#32)) shapeCasts_S128x128_S128x128 from rfl).trans ?_
  rw [shapeCast_self, weights_t, pay16_val, trunc_sq, trunc_sq, matmul_val]

theorem pay17_val (z n u d : Fin 128 → Fin 128 → ℝ) :
    (k0_pay17 (sqr z) (sqr n) (sqr u) (sqr d) : FVec Ideal S128x128 .f32) =
      sqr fun t s => z t s + ∑ c, d t c * gelu (u t c) * n s c := by
  refine (show k0_pay17 (F := Ideal) (sqr z) (sqr n) (sqr u) (sqr d) = addf (sqr z) (matmul dot_S128x128_S128x128_S128x128_1_1_0_0_n_n none
    (truncf .bf16 (k0_pay16 (F := Ideal) (sqr u) (sqr d)) bitsLt_bf16_f32) (truncf .bf16 (sqr n) bitsLt_bf16_f32)
    (constant S128x128 .f32 0x00000000#32)) from rfl).trans ?_
  rw [pay16_val, trunc_sq, trunc_sq, matmul_t_val]
  funext i; exact (EReal.coe_add _ _).symm

theorem pay18_val (z u d : Fin 128 → Fin 128 → ℝ) :
    (k0_pay18 (sqr z) (sqr u) (sqr d) : FVec Ideal S128x128 .f32) = sqr fun t c => z t c + d t c * gelu (u t c) := by
  refine (show k0_pay18 (F := Ideal) (sqr z) (sqr u) (sqr d) = addf (sqr z) (k0_pay16 (F := Ideal) (sqr u) (sqr d)) from rfl).trans ?_
  rw [pay16_val]
  funext i; exact (EReal.coe_add _ _).symm

theorem zero_sq : (broadcast S128x128 (Scalar.ofBits .f32 0x00000000#32) : FVec Ideal S128x128 .f32) = sqr fun _ _ => 0 := funext fun _ => zero_lit

end Gating.Squares

end
-- ==== Proof.Chunk.lean ====
/- What one block of 512 rows stores, as real numbers: the chunks' products, the gradients of `u` and `v`, and
   the block's addition to the sums over all rows. -/
module

public import proofs.«01_k».proof.Proof.Squares

@[expose] public section

noncomputable section

open Idealize.ShloMosaic Idealize.ShloMosaic.TcCoe Idealize.ShloMosaic.ValueIdx Idealize.SL.Sem
open Cert.KernelIdeal Cert.KernelIdeal.Gen Gating.Block Gating.Rows Gating.Squares

namespace Gating.Chunk

/-! ## One block of rows of the whole array -/

/-- Row `b` of block `T`. -/
def inRow (T : Fin 16) (b : Fin 512) : Fin 8192 := ⟨512 * T.val + b.val, by omega⟩
/-- Chunk `ch` of block `T`. -/
def chunk (T : Fin 16) (ch : Fin 4) : Fin 64 := ⟨4 * T.val + ch.val, by omega⟩

variable (A : Args) (T : Fin 16)

/-- Block `T` of an array of rows. -/
abbrev rows (f : Fin 8192 → Fin 1024 → ℝ) : FVec Ideal S512x1024 .f32 := up fun b => f (inRow T b)

/-- The indices of chunk `ch` at group `g`. -/
theorem chunk_idx (ch : Fin 4) (g : Fin 8) (x : (R2 ch g).shape.Idx) :
    inRow T ((R2 ch g).idx x 0) = rowAt (chunk T ch) (x 0) ∧ ((R2 ch g).idx x 1 : Fin 1024) = colAt g (x 1) := by
  constructor <;> apply Fin.ext
  · show 512 * T.val + (128 * ch.val + 1 * (x 0 : ℕ)) = (4 * T.val + ch.val) * 128 + (x 0 : ℕ); omega
  · show 128 * g.val + 1 * (x 1 : ℕ) = g.val * 128 + (x 1 : ℕ); omega

theorem ld_chunk (f : Fin 8192 → Fin 1024 → ℝ) (ch : Fin 4) (g : Fin 8) :
    View.ld (Val := Elt Ideal) (e' := .f32) (rows T f) (R2 ch g) = (sqr fun t d => f (rowAt (chunk T ch) t) (colAt g d) : FVec Ideal S128x128 .f32) := by
  funext x
  have h := chunk_idx T ch g x
  show ((f (inRow T ((R2 ch g).idx x 0)) ((R2 ch g).idx x 1) : ℝ) : EReal) = _
  rw [h.1, h.2]

theorem group_idx (g : Fin 8) (x : (R3 g).shape.Idx) :
    ((R3 g).idx x 0 : Fin 8) = g ∧ ((R3 g).idx x 1 : Fin 128) = (x 1 : Fin 128) ∧ ((R3 g).idx x 2 : Fin 128) = (x 2 : Fin 128) := by
  have h : (x 0 : ℕ) < 1 := (x 0).isLt
  refine ⟨Fin.ext ?_, Fin.ext ?_, Fin.ext ?_⟩
  · show g.val + 1 * (x 0 : ℕ) = g.val; omega
  · show 0 + 1 * (x 1 : ℕ) = (x 1 : ℕ); omega
  · show 0 + 1 * (x 2 : ℕ) = (x 2 : ℕ); omega

theorem ld_group (f : Fin 8 → Fin 128 → Fin 128 → ℝ) (g : Fin 8) : View.ld (Val := Elt Ideal) (e' := .f32) (cube f) (R3 g) = sq1 (f g) := by
  funext x
  have h := group_idx g x
  show ((f ((R3 g).idx x 0) ((R3 g).idx x 1) ((R3 g).idx x 2) : ℝ) : EReal) = _
  rw [h.1, h.2.1, h.2.2]

/-- The bias along the lanes. -/
abbrev lanes (B : Fin 8 → Fin 128 → ℝ) : Fin 8 → Fin 128 → Fin 128 → ℝ := fun g t _ => B g t

theorem vn_rows : Block.vn (F := Ideal) (rows T A.V) (upRow A.lw) (upRow A.lb) = rows T A.vn := vn_val _ _ _

theorem du_chunk (g : Fin 8) (ch : Fin 4) :
    Block.du (F := Ideal) (rows T A.D) (rows T A.U) (rows T A.V) (upRow A.lw) (upRow A.lb) (cube A.W) (cube (lanes A.B)) g ch =
      sqb fun t d => A.du (rowAt (chunk T ch) t) (colAt g d) := by
  unfold Block.du
  rw [vn_rows, ld_group, ld_group, ld_chunk, ld_chunk, ld_chunk, pay15_val]
  funext i
  simp only [sqr, Args.du, Args.sv, Args.wm, low, rk_rowAt, rt_rowAt, cg_colAt]

theorem dvn_at (k : Fin 64) (s : Fin 128) (g : Fin 8) (d : Fin 128) :
    A.dvn (rowAt k s) (colAt g d) = ∑ t, A.wm g t s * A.dsv (rowAt k t) (colAt g d) := by
  unfold Args.dvn
  rw [rk_rowAt, rt_rowAt, cg_colAt]

theorem dvn_chunk (g : Fin 8) (ch : Fin 4) :
    Block.dvnChunk (F := Ideal) (rows T A.D) (rows T A.U) (cube A.W) g ch =
      (sqr fun t d => A.dvn (rowAt (chunk T ch) t) (colAt g d) : FVec Ideal S128x128 .f32) := by
  unfold Block.dvnChunk
  rw [ld_group, ld_chunk, ld_chunk, pay19_val]
  funext i
  exact congrArg ((↑) : ℝ → EReal) (dvn_at A (chunk T ch) (i 0) g (i 1)).symm

theorem dw_val (g : Fin 8) :
    Block.dw (F := Ideal) (rows T A.D) (rows T A.U) (rows T A.V) (upRow A.lw) (upRow A.lb) g =
      (sqr fun t s => ∑ ch, ∑ d, A.dsv (rowAt (chunk T ch) t) (colAt g d) * A.vn (rowAt (chunk T ch) s) (colAt g d) : FVec Ideal S128x128 .f32) := by
  unfold Block.dw Block.dwTo k0_pay13
  simp only [vn_rows, ld_chunk, zero_sq, pay17_val]
  funext i
  simp only [sqr, Args.dsv, Fin.sum_univ_four, zero_add]

theorem db_val (g : Fin 8) :
    Block.db (F := Ideal) (rows T A.D) (rows T A.U) g =
      (sqr fun t d => ∑ ch, A.dsv (rowAt (chunk T ch) t) (colAt g d) : FVec Ideal S128x128 .f32) := by
  unfold Block.db Block.dbTo k0_pay14
  simp only [ld_chunk, zero_sq, pay18_val]
  funext i
  simp only [sqr, Args.dsv, Fin.sum_univ_four, zero_add]

/-! ## The chunks cover the block -/

theorem mem_pairs (g : Fin 8) (ch : Fin 4) : (g, ch) ∈ pairs := by revert g ch; decide

/-- Every place of the block lies in a chunk. -/
theorem mem_chunk (y : S512x1024.Idx) : ∃ p ∈ pairs, y ∈ (R2 p.2 p.1).set := by
  have h0 : (y 0 : ℕ) < 512 := (y 0).isLt
  have h1 : (y 1 : ℕ) < 1024 := (y 1).isLt
  refine ⟨(⟨(y 1 : ℕ) / 128, by omega⟩, ⟨(y 0 : ℕ) / 128, by omega⟩), mem_pairs _ _, ?_⟩
  refine Rect.mem_set_unit.mpr fun a => ?_
  match a with
  | ⟨0, _⟩ => show 128 * ((y 0 : ℕ) / 128) ≤ (y 0 : ℕ) ∧ (y 0 : ℕ) < 128 * ((y 0 : ℕ) / 128) + 128; omega
  | ⟨1, _⟩ => show 128 * ((y 1 : ℕ) / 128) ≤ (y 1 : ℕ) ∧ (y 1 : ℕ) < 128 * ((y 1 : ℕ) / 128) + 128; omega

/-- Chunks that hold an array's entries leave its block. -/
theorem canon_chunks {e : EltTy} (G : S512x1024.Idx → Elt Ideal e) (Z : Fin 8 → Fin 4 → Vec Ideal S128x128 e)
    (h : ∀ g ch x, Z g ch x = G ((R2 ch g).idx x)) :
    View.canon (pairs.map fun p => (⟨R2 p.2 p.1, Z p.1 p.2⟩ : View.Piece (Elt Ideal) S512x1024 e)) = G := by
  funext y
  refine View.canon_apply_of_pieces (Val := Elt Ideal) G _ ?_ y ?_
  · intro p hp x
    obtain ⟨q, _, rfl⟩ := List.mem_map.mp hp
    exact h q.1 q.2 x
  · obtain ⟨p, hp, hy⟩ := mem_chunk y
    exact ⟨_, List.mem_map.mpr ⟨p, hp, rfl⟩, hy⟩

theorem du_canon :
    View.canon (Block.du_pieces (F := Ideal) (rows T A.D) (rows T A.U) (rows T A.V) (upRow A.lw) (upRow A.lb) (cube A.W) (cube (lanes A.B))) =
      (fun i => ((A.du (inRow T (i 0)) (i 1) : ℝ) : EReal) : FVec Ideal S512x1024 .bf16) := by
  refine canon_chunks (e := .bf16) (fun i : S512x1024.Idx => ((A.du (inRow T (i 0)) (i 1) : ℝ) : EReal)) _ fun g ch x => ?_
  have hx := chunk_idx T ch g x
  rw [du_chunk, hx.1, hx.2]

theorem dvn_canon : Block.dvn (F := Ideal) (rows T A.D) (rows T A.U) (cube A.W) = rows T A.dvn := by
  refine canon_chunks (e := .f32) (rows T A.dvn) _ fun g ch x => ?_
  have hx := chunk_idx T ch g x
  show _ = ((A.dvn (inRow T ((R2 ch g).idx x 0)) ((R2 ch g).idx x 1) : ℝ) : EReal)
  rw [dvn_chunk, hx.1, hx.2]

theorem dv_canon :
    Block.dv (F := Ideal) (rows T A.D) (rows T A.U) (rows T A.V) (upRow A.lw) (cube A.W) =
      fun i => ((A.dv (inRow T (i 0)) (i 1) : ℝ) : EReal) := by
  unfold Block.dv
  rw [dvn_canon, pay8_val, pay9_val, pay274_val]
  exact pay1_val _ _

/-! ## The block's addition to the sums over all rows -/

theorem mem_groups (g : Fin 8) : g ∈ groups := by revert g; decide

theorem mem_group (y : S8x128x128.Idx) : ∃ g ∈ groups, y ∈ (R3 g).set := by
  have h1 : (y 1 : ℕ) < 128 := (y 1).isLt
  have h2 : (y 2 : ℕ) < 128 := (y 2).isLt
  refine ⟨(y 0 : Fin 8), mem_groups _, Rect.mem_set_unit.mpr fun a => ?_⟩
  match a with
  | ⟨0, _⟩ => show (y 0 : ℕ) ≤ (y 0 : ℕ) ∧ (y 0 : ℕ) < (y 0 : ℕ) + 1; omega
  | ⟨1, _⟩ => show 0 ≤ (y 1 : ℕ) ∧ (y 1 : ℕ) < 0 + 128; omega
  | ⟨2, _⟩ => show 0 ≤ (y 2 : ℕ) ∧ (y 2 : ℕ) < 0 + 128; omega

/-- Groups that hold an array's squares leave it, over whatever was stored before. -/
theorem canon_groups (f : Fin 8 → Fin 128 → Fin 128 → ℝ) (Z : Fin 8 → FVec Ideal S1x128x128 .f32) (h : ∀ g, Z g = sq1 (f g))
    (L : List (View.Piece (Elt Ideal) S8x128x128 .f32)) :
    View.canon ((groups.map fun g => (⟨R3 g, Z g⟩ : View.Piece (Elt Ideal) S8x128x128 .f32)) ++ L) = cube f := by
  funext y
  refine View.canon_append_of_pieces (Val := Elt Ideal) (cube f) L _ ?_ y ?_
  · intro p hp x
    obtain ⟨g, _, rfl⟩ := List.mem_map.mp hp
    have hx := group_idx g x
    show Z g x = ((f ((R3 g).idx x 0) ((R3 g).idx x 1) ((R3 g).idx x 2) : ℝ) : EReal)
    rw [hx.1, hx.2.1, hx.2.2, h]
  · obtain ⟨g, hg, hy⟩ := mem_group y
    exact ⟨_, List.mem_map.mpr ⟨g, hg, rfl⟩, hy⟩

/-- What block `T` adds to the mixing weights' gradient. -/
def dwAdd (g : Fin 8) (t s : Fin 128) : ℝ :=
  low (fun t s => ∑ ch, ∑ d, A.dsv (rowAt (chunk T ch) t) (colAt g d) * A.vn (rowAt (chunk T ch) s) (colAt g d)) t s
/-- What block `T` adds to the bias's gradient. -/
def dbAdd (g : Fin 8) (t d : Fin 128) : ℝ := ∑ ch, A.dsv (rowAt (chunk T ch) t) (colAt g d)
/-- What block `T` adds to the scale's gradient. -/
def dlwAdd (c : Fin 1024) : ℝ := ∑ b, A.dvn (inRow T b) c * nrm (A.vg (inRow T b)) c
/-- What block `T` adds to the shift's gradient. -/
def dlbAdd (c : Fin 1024) : ℝ := ∑ b, A.dvn (inRow T b) c

theorem dw_canon (p : Fin 8 → Fin 128 → Fin 128 → ℝ) (L : List (View.Piece (Elt Ideal) S8x128x128 .f32)) :
    View.canon (Block.dw_pieces (F := Ideal) (rows T A.D) (rows T A.U) (rows T A.V) (upRow A.lw) (upRow A.lb) (cube p) ++ L) =
      cube fun g t s => p g t s + dwAdd A T g t s := by
  refine canon_groups _ _ (fun g => ?_) L
  unfold Block.dwOn
  rw [ld_group, drop_sq, dw_val, select_low]
  refine Eq.trans ?_ (add_sq _ shapeCasts_S128x128_S1x128x128)
  congr 1

theorem db_canon (p : Fin 8 → Fin 128 → Fin 128 → ℝ) (L : List (View.Piece (Elt Ideal) S8x128x128 .f32)) :
    View.canon (Block.db_pieces (F := Ideal) (rows T A.D) (rows T A.U) (cube p) ++ L) = cube fun g t d => p g t d + dbAdd A T g t d := by
  refine canon_groups _ _ (fun g => ?_) L
  unfold Block.dbOn
  rw [ld_group, drop_sq, db_val]
  refine Eq.trans ?_ (add_sq _ shapeCasts_S128x128_S1x128x128)
  congr 1

/-- A sum down the rows, onto a row. -/
theorem rowSum_val (f : Fin 512 → Fin 1024 → ℝ) (p : Fin 1024 → ℝ) : (k0_pay273 (up f) (upRow p) : FVec Ideal S1x1024 .f32) =
    upRow fun c => p c + ∑ b, f b c := by
  funext j
  have h0 : (j 0 : ℕ) < 1 := (j 0).isLt
  have hs : shapeCast S1x1024 (multiReduction .add [0] S1024 (up f) 0x00000000#32 reduces_S512x1024_S1024 (.inl rfl) rfl) shapeCasts_S1024_S1x1024 j =
      ((∑ b, f b (j 1) : ℝ) : EReal) := by
    refine (shapeCast_apply _ _ j (ix1 (j 1)) ?_).trans ?_
    · rw [Shape.rowMajor_val_one, Shape.rowMajor_val_two]
      show (j 1 : ℕ) = (j 0 : ℕ) * 1024 + (j 1 : ℕ)
      omega
    · refine (Ideal.multiReduction_add_single _ _ _ _ _ _).trans ?_
      rw [← sum_fin]
      rfl
  refine (show k0_pay273 (F := Ideal) (up f) (upRow p) j = shapeCast S1x1024 (upRow p) shapeCasts_S1x1024_S1x1024 j + _ from rfl).trans ?_
  rw [hs, shapeCast_self]
  exact (EReal.coe_add _ _).symm

theorem dlb_val (p : Fin 1024 → ℝ) : Block.dlb (F := Ideal) (rows T A.D) (rows T A.U) (cube A.W) (upRow p) =
    upRow fun c => p c + dlbAdd A T c := by
  unfold Block.dlb
  rw [dvn_canon, rowSum_val]; rfl

theorem dlw_val (p : Fin 1024 → ℝ) : Block.dlw (F := Ideal) (rows T A.D) (rows T A.U) (rows T A.V) (cube A.W) (upRow p) =
    upRow fun c => p c + dlwAdd A T c := by
  unfold Block.dlw
  rw [dvn_canon, pay9_val]
  refine Eq.trans ?_ (rowSum_val (fun b c => A.dvn (inRow T b) c * nrm (A.vg (inRow T b)) c) p)
  refine (show k0_pay272 (F := Ideal) (up fun b => nrm (A.vg (inRow T b))) (rows T A.dvn) (upRow p) =
    k0_pay273 (mulf (rows T A.dvn) (up fun b => nrm (A.vg (inRow T b)))) (upRow p) from rfl).trans ?_
  congr 1

end Gating.Chunk

end
-- ==== Proof.PiecesA.lean ====
/- The stores of the first grid point, which zeroes the accumulated results before it adds to them, are the pieces of Block.lean. -/
module

public import proofs.«01_k».proof.Proof.Block

@[expose] public section

set_option maxRecDepth 16384

noncomputable section

open Idealize.ShloMosaic Idealize.ShloMosaic.TcCoe Idealize.SL.Sem
open Cert.KernelIdeal Cert.KernelIdeal.Gen

namespace Gating.Block

variable {F : FTy → Type} [FloatOps F] [Named F]
variable (c : Dev nD) (i : grid0.Coords)
  (arg1 : Memref sig .tc .vmem S512x1024 .f32) (harg1 : arg1.IsWhole)
  (arg2 : Memref sig .tc .vmem S512x1024 .f32) (harg2 : arg2.IsWhole)
  (arg3 : Memref sig .tc .vmem S512x1024 .f32) (harg3 : arg3.IsWhole)
  (arg4 : Memref sig .tc .vmem S1x1024 .f32) (harg4 : arg4.IsWhole)
  (arg5 : Memref sig .tc .vmem S1x1024 .f32) (harg5 : arg5.IsWhole)
  (arg6 : Memref sig .tc .vmem S8x128x128 .f32) (harg6 : arg6.IsWhole)
  (arg7 : Memref sig .tc .vmem S8x128x128 .f32) (harg7 : arg7.IsWhole)
  (arg8 : Memref sig .tc .vmem S512x1024 .bf16) (harg8 : arg8.IsWhole)
  (arg9 : Memref sig .tc .vmem S512x1024 .bf16) (harg9 : arg9.IsWhole)
  (arg10 : Memref sig .tc .vmem S8x128x128 .f32) (harg10 : arg10.IsWhole)
  (arg11 : Memref sig .tc .vmem S8x128x128 .f32) (harg11 : arg11.IsWhole)
  (arg12 : Memref sig .tc .vmem S1x1024 .f32) (harg12 : arg12.IsWhole)
  (arg13 : Memref sig .tc .vmem S1x1024 .f32) (harg13 : arg13.IsWhole)
  (arg14 : Memref sig .tc .vmem S512x1024 .f32) (harg14 : arg14.IsWhole)
  (arg15 : Memref sig .tc .vmem S512x1024 .f32) (harg15 : arg15.IsWhole)
  (x0 x1 x2 : Vec F S512x1024 .f32) (x3 x4 : Vec F S1x1024 .f32) (x5 x6 : Vec F S8x128x128 .f32)

set_option maxHeartbeats 0 in
/-- The stores into `u`'s gradient. -/
theorem du_list_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).1 =
      du_pieces x0 x1 x2 x3 x4 x5 x6 := by
  unfold kernelRun0_A; dsimp only; sl_unfold_words
  simp only [View.readAt_eq_ld, Memref.IsWhole.read_unread, readCov_all, readCov_rows, readCov_row, readCov_squares, ld_rows, ld_row]
  rfl

set_option maxHeartbeats 0 in
/-- The one store into `v`'s gradient. -/
theorem dv_list_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.1 =
      [⟨Rect.unit ![0, 0] S512x1024.size inb_S512x1024_S512x1024_0_0, dv x0 x1 x2 x3 x5⟩] := by
  unfold kernelRun0_A; dsimp only; sl_unfold_words
  simp only [View.readAt_eq_ld, Memref.IsWhole.read_unread, readCov_all, readCov_rows, readCov_row, readCov_squares, ld_rows, ld_row]
  rfl

set_option maxHeartbeats 0 in
/-- The stores into the mixing weights' gradient. -/
theorem dw_list_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.2.1 =
      dw_pieces x0 x1 x2 x3 x4 k0_pay2 ++ [⟨Rect.unit ![0, 0, 0] S8x128x128.size inb_S8x128x128_S8x128x128_0_0_0, k0_pay2⟩] := by
  unfold kernelRun0_A; dsimp only; sl_unfold_words
  simp (disch := decide) only [View.readAt_eq_ld, Memref.IsWhole.read_unread, readCov_all, readCov_rows, readCov_row, readCov_squares, ld_rows, ld_row, readCov_other]
  rfl

set_option maxHeartbeats 0 in
/-- The stores into the bias's gradient. -/
theorem db_list_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.2.2.1 =
      db_pieces x0 x1 k0_pay3 ++ [⟨Rect.unit ![0, 0, 0] S8x128x128.size inb_S8x128x128_S8x128x128_0_0_0, k0_pay3⟩] := by
  unfold kernelRun0_A; dsimp only; sl_unfold_words
  simp (disch := decide) only [View.readAt_eq_ld, Memref.IsWhole.read_unread, readCov_all, readCov_rows, readCov_row, readCov_squares, ld_rows, ld_row, readCov_other]
  rfl

set_option maxHeartbeats 0 in
/-- The stores into the scale's gradient. -/
theorem dlw_list_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.2.2.2.1 =
      [⟨Rect.unit ![0, 0] S1x1024.size inb_S1x1024_S1x1024_0_0, dlw x0 x1 x2 x5 k0_pay4⟩, ⟨Rect.unit ![0, 0] S1x1024.size inb_S1x1024_S1x1024_0_0, k0_pay4⟩] := by
  unfold kernelRun0_A; dsimp only; sl_unfold_words
  simp only [View.readAt_eq_ld, Memref.IsWhole.read_unread, readCov_all, readCov_rows, readCov_row, readCov_squares, ld_rows, ld_row]
  rfl

set_option maxHeartbeats 0 in
/-- The stores into the shift's gradient. -/
theorem dlb_list_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.2.2.2.2.1 =
      [⟨Rect.unit ![0, 0] S1x1024.size inb_S1x1024_S1x1024_0_0, dlb x0 x1 x5 k0_pay5⟩, ⟨Rect.unit ![0, 0] S1x1024.size inb_S1x1024_S1x1024_0_0, k0_pay5⟩] := by
  unfold kernelRun0_A; dsimp only; sl_unfold_words
  simp only [View.readAt_eq_ld, Memref.IsWhole.read_unread, readCov_all, readCov_rows, readCov_row, readCov_squares, ld_rows, ld_row]
  rfl

end Gating.Block

end
-- ==== Proof.PiecesB.lean ====
/- The stores of a later grid point, which adds to what the point before left, are the pieces of Block.lean. -/
module

public import proofs.«01_k».proof.Proof.Block

@[expose] public section

set_option maxRecDepth 16384

noncomputable section

open Idealize.ShloMosaic Idealize.ShloMosaic.TcCoe Idealize.SL.Sem
open Cert.KernelIdeal Cert.KernelIdeal.Gen

namespace Gating.Block

variable {F : FTy → Type} [FloatOps F] [Named F]
variable (c : Dev nD) (i : grid0.Coords)
  (arg1 : Memref sig .tc .vmem S512x1024 .f32) (harg1 : arg1.IsWhole)
  (arg2 : Memref sig .tc .vmem S512x1024 .f32) (harg2 : arg2.IsWhole)
  (arg3 : Memref sig .tc .vmem S512x1024 .f32) (harg3 : arg3.IsWhole)
  (arg4 : Memref sig .tc .vmem S1x1024 .f32) (harg4 : arg4.IsWhole)
  (arg5 : Memref sig .tc .vmem S1x1024 .f32) (harg5 : arg5.IsWhole)
  (arg6 : Memref sig .tc .vmem S8x128x128 .f32) (harg6 : arg6.IsWhole)
  (arg7 : Memref sig .tc .vmem S8x128x128 .f32) (harg7 : arg7.IsWhole)
  (arg8 : Memref sig .tc .vmem S512x1024 .bf16) (harg8 : arg8.IsWhole)
  (arg9 : Memref sig .tc .vmem S512x1024 .bf16) (harg9 : arg9.IsWhole)
  (arg10 : Memref sig .tc .vmem S8x128x128 .f32) (harg10 : arg10.IsWhole)
  (arg11 : Memref sig .tc .vmem S8x128x128 .f32) (harg11 : arg11.IsWhole)
  (arg12 : Memref sig .tc .vmem S1x1024 .f32) (harg12 : arg12.IsWhole)
  (arg13 : Memref sig .tc .vmem S1x1024 .f32) (harg13 : arg13.IsWhole)
  (arg14 : Memref sig .tc .vmem S512x1024 .f32) (harg14 : arg14.IsWhole)
  (arg15 : Memref sig .tc .vmem S512x1024 .f32) (harg15 : arg15.IsWhole)
  (x0 x1 x2 : Vec F S512x1024 .f32) (x3 x4 : Vec F S1x1024 .f32) (x5 x6 : Vec F S8x128x128 .f32)

set_option maxHeartbeats 0 in
/-- The stores into `u`'s gradient. -/
theorem du_list_B (hc0 : ¬cond0_0 i) (xo9 xo10 : Vec F S8x128x128 .f32) (xo11 xo12 : Vec F S1x1024 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xo9 xo10 xo11 xo12).1 =
      du_pieces x0 x1 x2 x3 x4 x5 x6 := by
  unfold kernelRun0_B; dsimp only; sl_unfold_words
  simp only [View.readAt_eq_ld, Memref.IsWhole.read_unread, readCov_all, readCov_rows, readCov_row, readCov_squares, ld_rows, ld_row]
  rfl

set_option maxHeartbeats 0 in
/-- The one store into `v`'s gradient. -/
theorem dv_list_B (hc0 : ¬cond0_0 i) (xo9 xo10 : Vec F S8x128x128 .f32) (xo11 xo12 : Vec F S1x1024 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xo9 xo10 xo11 xo12).2.1 =
      [⟨Rect.unit ![0, 0] S512x1024.size inb_S512x1024_S512x1024_0_0, dv x0 x1 x2 x3 x5⟩] := by
  unfold kernelRun0_B; dsimp only; sl_unfold_words
  simp only [View.readAt_eq_ld, Memref.IsWhole.read_unread, readCov_all, readCov_rows, readCov_row, readCov_squares, ld_rows, ld_row]
  rfl

set_option maxHeartbeats 0 in
/-- The stores into the mixing weights' gradient. -/
theorem dw_list_B (hc0 : ¬cond0_0 i) (xo9 xo10 : Vec F S8x128x128 .f32) (xo11 xo12 : Vec F S1x1024 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xo9 xo10 xo11 xo12).2.2.1 =
      dw_pieces x0 x1 x2 x3 x4 xo9 := by
  unfold kernelRun0_B; dsimp only; sl_unfold_words
  simp only [View.readAt_eq_ld, Memref.IsWhole.read_unread, readCov_all, readCov_rows, readCov_row, readCov_squares, ld_rows, ld_row]
  rfl

set_option maxHeartbeats 0 in
/-- The stores into the bias's gradient. -/
theorem db_list_B (hc0 : ¬cond0_0 i) (xo9 xo10 : Vec F S8x128x128 .f32) (xo11 xo12 : Vec F S1x1024 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xo9 xo10 xo11 xo12).2.2.2.1 =
      db_pieces x0 x1 xo10 := by
  unfold kernelRun0_B; dsimp only; sl_unfold_words
  simp only [View.readAt_eq_ld, Memref.IsWhole.read_unread, readCov_all, readCov_rows, readCov_row, readCov_squares, ld_rows, ld_row]
  rfl

set_option maxHeartbeats 0 in
/-- The stores into the scale's gradient. -/
theorem dlw_list_B (hc0 : ¬cond0_0 i) (xo9 xo10 : Vec F S8x128x128 .f32) (xo11 xo12 : Vec F S1x1024 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xo9 xo10 xo11 xo12).2.2.2.2.1 =
      [⟨Rect.unit ![0, 0] S1x1024.size inb_S1x1024_S1x1024_0_0, dlw x0 x1 x2 x5 xo11⟩] := by
  unfold kernelRun0_B; dsimp only; sl_unfold_words
  simp only [View.readAt_eq_ld, Memref.IsWhole.read_unread, readCov_all, readCov_rows, readCov_row, readCov_squares, ld_rows, ld_row]
  rfl

set_option maxHeartbeats 0 in
/-- The stores into the shift's gradient. -/
theorem dlb_list_B (hc0 : ¬cond0_0 i) (xo9 xo10 : Vec F S8x128x128 .f32) (xo11 xo12 : Vec F S1x1024 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xo9 xo10 xo11 xo12).2.2.2.2.2.1 =
      [⟨Rect.unit ![0, 0] S1x1024.size inb_S1x1024_S1x1024_0_0, dlb x0 x1 x5 xo12⟩] := by
  unfold kernelRun0_B; dsimp only; sl_unfold_words
  simp only [View.readAt_eq_ld, Memref.IsWhole.read_unread, readCov_all, readCov_rows, readCov_row, readCov_squares, ld_rows, ld_row]
  rfl

end Gating.Block

end
-- ==== Proof.Outs.lean ====
/- What the call's buffers hold after each grid point, as real numbers: block `T`'s rows of the gradients of `u` and
   `v`, and the sums over the blocks up to `T`. -/
module

public import proofs.«01_k».proof.Proof.Chunk
public import proofs.«01_k».proof.Proof.Gen.KernelIdeal.Value
public import proofs.«01_k».proof.Proof.PiecesA
public import proofs.«01_k».proof.Proof.PiecesB
public import Idealize.ShloMosaic.Lib.Pipeline.Value

@[expose] public section

noncomputable section

open Idealize.ShloMosaic Idealize.ShloMosaic.TcCoe Idealize.ShloMosaic.ValueIdx Idealize.SL.Sem
open Cert.KernelIdeal Cert.KernelIdeal.Gen Gating.Block Gating.Rows Gating.Squares Gating.Chunk

namespace Gating.Outs

variable (m : (ℓ : Loc nD τ sig) → Buf (Elt Ideal) ℓ) (c : Dev nD) (A : Args)

/-- The six result buffers. -/
abbrev Bufs : Type := Vec Ideal S512x1024 .bf16 × Vec Ideal S512x1024 .bf16 × Vec Ideal S8x128x128 .f32 × Vec Ideal S8x128x128 .f32 ×
  Vec Ideal S1x1024 .f32 × Vec Ideal S1x1024 .f32

/-- The buffers at the end of block `T`, with sums `w`, `b`, `lw`, `lb`. -/
def after (T : Fin 16) (w b : Fin 8 → Fin 128 → Fin 128 → ℝ) (lw lb : Fin 1024 → ℝ) : Bufs :=
  (fun i => ((A.du (inRow T (i 0)) (i 1) : ℝ) : EReal), fun i => ((A.dv (inRow T (i 0)) (i 1) : ℝ) : EReal), cube w, cube b, upRow lw, upRow lb)

/-- The call's input blocks at point `t` hold block `T` of the arguments. -/
structure Reads (t : Fin cfg0.N) (T : Fin 16) : Prop where
  D : (iblk m c 0 t : FVec Ideal S512x1024 .f32) = rows T A.D
  U : (iblk m c 1 t : FVec Ideal S512x1024 .f32) = rows T A.U
  V : (iblk m c 2 t : FVec Ideal S512x1024 .f32) = rows T A.V
  lw : (iblk m c 3 t : FVec Ideal S1x1024 .f32) = upRow A.lw
  lb : (iblk m c 4 t : FVec Ideal S1x1024 .f32) = upRow A.lb
  W : (iblk m c 5 t : FVec Ideal S8x128x128 .f32) = cube A.W
  B : (iblk m c 6 t : FVec Ideal S8x128x128 .f32) = cube (lanes A.B)

theorem zero2 : (![0, 0] : Fin 2 → ℕ) = fun _ => 0 := funext fun a => by fin_cases a <;> rfl

theorem zero_cube : (k0_pay2 (F := Ideal) : FVec Ideal S8x128x128 .f32) = cube fun _ _ _ => 0 := funext fun _ => zero_lit
theorem zero_cube' : (k0_pay3 (F := Ideal) : FVec Ideal S8x128x128 .f32) = cube fun _ _ _ => 0 := funext fun _ => zero_lit
theorem zero_row : (k0_pay4 (F := Ideal) : FVec Ideal S1x1024 .f32) = upRow fun _ => 0 := funext fun _ => zero_lit
theorem zero_row' : (k0_pay5 (F := Ideal) : FVec Ideal S1x1024 .f32) = upRow fun _ => 0 := funext fun _ => zero_lit

theorem six {α β γ δ ε ζ : Type} {a a' : α} {b b' : β} {c c' : γ} {d d' : δ} {e e' : ε} {f f' : ζ}
    (ha : a = a') (hb : b = b') (hc : c = c') (hd : d = d') (he : e = e') (hf : f = f') :
    (a, b, c, d, e, f) = (a', b', c', d', e', f') := by rw [ha, hb, hc, hd, he, hf]

/-- The first point: the sums start from zero. -/
theorem after_first (t : Fin cfg0.N) (T : Fin 16) (h : Reads m c A t T) (h0 : t.val % 16 = 0) :
    outsAt0 m c t.val t.isLt = after A T (fun g t s => 0 + dwAdd A T g t s) (fun g t d => 0 + dbAdd A T g t d)
      (fun k => 0 + dlwAdd A T k) (fun k => 0 + dlbAdd A T k) := by
  refine (outsAt0_A m c t h0).trans ?_
  rw [h.D, h.U, h.V, h.lw, h.lb, h.W, h.B]
  refine six ?_ ?_ ?_ ?_ ?_ ?_
  · unfold out0_A_7; rw [View.read_writes_junk_eq_canon, du_list_A]; exact du_canon A T
  · unfold out0_A_8; rw [View.read_writes_junk_eq_canon, dv_list_A, View.canon_unit_zero (S := S512x1024) zero2]; exact dv_canon A T
  · unfold out0_A_9; rw [View.read_writes_junk_eq_canon, dw_list_A, zero_cube]; exact dw_canon A T _ _
  · unfold out0_A_10; rw [View.read_writes_junk_eq_canon, db_list_A, zero_cube']; exact db_canon A T _ _
  · unfold out0_A_11; rw [View.read_writes_junk_eq_canon, dlw_list_A, View.canon_cons_unit_zero (S := S1x1024) zero2, zero_row]; exact dlw_val A T _
  · unfold out0_A_12; rw [View.read_writes_junk_eq_canon, dlb_list_A, View.canon_cons_unit_zero (S := S1x1024) zero2, zero_row']; exact dlb_val A T _

/-- A later point: the sums go on from what the point before left. -/
theorem after_next (t : Fin cfg0.N) (T T' : Fin 16) (h : Reads m c A t T) (h0 : ¬t.val % 16 = 0)
    (w b : Fin 8 → Fin 128 → Fin 128 → ℝ) (lw lb : Fin 1024 → ℝ)
    (hp : outsAt0 m c (t.val - 1) (Nat.lt_of_le_of_lt (Nat.sub_le _ _) t.isLt) = after A T' w b lw lb) :
    outsAt0 m c t.val t.isLt = after A T (fun g t s => w g t s + dwAdd A T g t s) (fun g t d => b g t d + dbAdd A T g t d)
      (fun k => lw k + dlwAdd A T k) (fun k => lb k + dlbAdd A T k) := by
  refine (outsAt0_B m c t h0).trans ?_
  rw [hp, h.D, h.U, h.V, h.lw, h.lb, h.W, h.B]
  simp only [after]
  refine six ?_ ?_ ?_ ?_ ?_ ?_
  · unfold out0_B_7; rw [View.read_writes_junk_eq_canon, du_list_B]; exact du_canon A T
  · unfold out0_B_8; rw [View.read_writes_junk_eq_canon, dv_list_B, View.canon_unit_zero (S := S512x1024) zero2]; exact dv_canon A T
  · unfold out0_B_9; rw [View.read_writes_junk_eq_canon, dw_list_B, ← dw_canon A T w [], List.append_nil]
  · unfold out0_B_10; rw [View.read_writes_junk_eq_canon, db_list_B, ← db_canon A T b [], List.append_nil]
  · unfold out0_B_11; rw [View.read_writes_junk_eq_canon, dlw_list_B, View.canon_unit_zero (S := S1x1024) zero2]; exact dlw_val A T _
  · unfold out0_B_12; rw [View.read_writes_junk_eq_canon, dlb_list_B, View.canon_unit_zero (S := S1x1024) zero2]; exact dlb_val A T _

/-! ## The sums over the blocks -/

/-- The sum of the blocks up to `n`. -/
def upTo (f : Fin 16 → ℝ) (n : ℕ) : ℝ := ∑ k ∈ Finset.range (n + 1), if h : k < 16 then f ⟨k, h⟩ else 0

theorem upTo_zero (f : Fin 16 → ℝ) : upTo f 0 = 0 + f 0 := by simp [upTo]

theorem upTo_succ (f : Fin 16 → ℝ) (n : ℕ) (h : n + 1 < 16) : upTo f (n + 1) = upTo f n + f ⟨n + 1, h⟩ := by
  unfold upTo; rw [Finset.sum_range_succ, dif_pos h]

theorem upTo_last (f : Fin 16 → ℝ) : upTo f 15 = ∑ T, f T := (Finset.sum_fin_eq_sum_range f).symm

/-- The buffers after point `n`. -/
def held (n : ℕ) (h : n < 16) : Bufs :=
  after A ⟨n, h⟩ (fun g t s => upTo (fun T => dwAdd A T g t s) n) (fun g t d => upTo (fun T => dbAdd A T g t d) n)
    (fun k => upTo (fun T => dlwAdd A T k) n) (fun k => upTo (fun T => dlbAdd A T k) n)

theorem outs_eq (hr : ∀ (n : ℕ) (hn : n < cfg0.N) (h : n < 16), Reads m c A ⟨n, hn⟩ ⟨n, h⟩) :
    ∀ (n : ℕ) (hn : n < cfg0.N) (h : n < 16), outsAt0 m c n hn = held A n h
  | 0, hn, h => by
    refine (after_first m c A ⟨0, hn⟩ ⟨0, h⟩ (hr 0 hn h) rfl).trans ?_
    simp only [held, upTo_zero]; rfl
  | n + 1, hn, h => by
    have hB : ¬(⟨n + 1, hn⟩ : Fin cfg0.N).val % 16 = 0 := by dsimp only; omega
    refine (after_next m c A ⟨n + 1, hn⟩ ⟨n + 1, h⟩ ⟨n, by omega⟩ (hr (n + 1) hn h) hB _ _ _ _
      (outs_eq hr n (Nat.lt_of_succ_lt hn) (by omega))).trans ?_
    simp only [held, upTo_succ _ n h]

end Gating.Outs

end
-- ==== Proof.Arrays.lean ====
/- The call's result arrays as functions of its arguments: each block of rows where it is written back, and the sums
   over all blocks. -/
module

public import proofs.«01_k».proof.Proof.Outs
public import Idealize.ShloMosaic.Lib.Claim

@[expose] public section

noncomputable section

open Idealize.ShloMosaic Idealize.ShloMosaic.TcCoe Idealize.ShloMosaic.ValueIdx Idealize.SL.Sem
open Cert.KernelIdeal Cert.KernelIdeal.Gen Gating.Block Gating.Rows Gating.Squares Gating.Chunk Gating.Outs

namespace Gating.Arrays

variable (m : (ℓ : Loc nD τ sig) → Buf (Elt Ideal) ℓ) (c : Dev nD) (A : Args)

/-- An array of 8192 rows. -/
abbrev whole (f : Fin 8192 → Fin 1024 → ℝ) : S8192x1024.Idx → EReal := fun i => ((f (i 0) (i 1) : ℝ) : EReal)

/-- The call's arguments at launch. -/
structure Holds : Prop where
  D : m ((c : Thread nD τ).loc main_arg0) = whole A.D
  U : m ((c : Thread nD τ).loc main_arg1) = whole A.U
  V : m ((c : Thread nD τ).loc main_arg2) = whole A.V
  lw : m ((c : Thread nD τ).loc main_arg3) = upRow A.lw
  lb : m ((c : Thread nD τ).loc main_arg4) = upRow A.lb
  W : m ((c : Thread nD τ).loc main_arg5) = cube A.W
  B : m ((c : Thread nD τ).loc main_arg6) = fun i : S8x128.Idx => ((A.B (i 0) (i 1) : ℝ) : EReal)

/-- The bias along the lanes, as the host hands it to the call. -/
theorem entry_bias : (V m c main_v1 : FVec Ideal S8x128x128 .f32) = broadcastInDim S8x128x128 ![0, 1, 2] bcast_S8x128x1_S8x128x128_0_1_2
    (broadcastInDim S8x128x1 ![0, 1] bcast_S8x128_S8x128x1_0_1 (m ((c : Thread nD τ).loc main_arg6))) := by
  entry_read
  rfl

theorem bias_eq (h : Holds m c A) : (V m c main_v1 : FVec Ideal S8x128x128 .f32) = cube (lanes A.B) := by
  rw [entry_bias, h.B]; rfl

/-! ## The blocks the call reads -/

theorem at0 : ∀ t : Fin cfg0.N, win0_0.index t 0 = t.val ∧ win0_0.index t 1 = 0 :=
  (by decide +kernel : ∀ t : Fin grid0.N, win0_0.index t 0 = t.val ∧ win0_0.index t 1 = 0)
theorem at1 : ∀ t : Fin cfg0.N, win0_1.index t 0 = t.val ∧ win0_1.index t 1 = 0 :=
  (by decide +kernel : ∀ t : Fin grid0.N, win0_1.index t 0 = t.val ∧ win0_1.index t 1 = 0)
theorem at2 : ∀ t : Fin cfg0.N, win0_2.index t 0 = t.val ∧ win0_2.index t 1 = 0 :=
  (by decide +kernel : ∀ t : Fin grid0.N, win0_2.index t 0 = t.val ∧ win0_2.index t 1 = 0)

/-- A block of 512 rows from row `512 T`, read out of the array. -/
theorem rows_of (T : Fin 16) (f : Fin 8192 → Fin 1024 → ℝ) (j : S512x1024.Idx) (i : S8192x1024.Idx)
    (h0 : (i 0).val = T.val * 512 + 1 * (j 0).val) (h1 : (i 1).val = 0 * 1024 + 1 * (j 1).val) : whole f i = rows T f j := by
  show ((f (i 0) (i 1) : ℝ) : EReal) = ((f (inRow T (j 0)) (j 1) : ℝ) : EReal)
  rw [show (i 0 : Fin 8192) = inRow T (j 0) from Fin.ext (by show (i 0).val = 512 * T.val + (j 0).val; omega),
    show (i 1 : Fin 1024) = (j 1 : Fin 1024) from Fin.ext (by omega)]

theorem reads (h : Holds m c A) (n : ℕ) (hn : n < cfg0.N) (h16 : n < 16) : Reads m c A ⟨n, hn⟩ ⟨n, h16⟩ where
  D := by
    funext j
    unfold iblk
    rw [View.read_apply]
    show V m c main_arg0 _ = _
    rw [V_main_arg0, h.D]
    refine rows_of ⟨n, h16⟩ A.D j _ ?_ ?_
    · show win0_0.index ⟨n, hn⟩ 0 * 512 + 1 * (j 0).val = n * 512 + 1 * (j 0).val; rw [(at0 _).1]
    · show win0_0.index ⟨n, hn⟩ 1 * 1024 + 1 * (j 1).val = 0 * 1024 + 1 * (j 1).val; rw [(at0 _).2]
  U := by
    funext j
    unfold iblk
    rw [View.read_apply]
    show V m c main_arg1 _ = _
    rw [V_main_arg1, h.U]
    refine rows_of ⟨n, h16⟩ A.U j _ ?_ ?_
    · show win0_1.index ⟨n, hn⟩ 0 * 512 + 1 * (j 0).val = n * 512 + 1 * (j 0).val; rw [(at1 _).1]
    · show win0_1.index ⟨n, hn⟩ 1 * 1024 + 1 * (j 1).val = 0 * 1024 + 1 * (j 1).val; rw [(at1 _).2]
  V := by
    funext j
    unfold iblk
    rw [View.read_apply]
    show V m c main_arg2 _ = _
    rw [V_main_arg2, h.V]
    refine rows_of ⟨n, h16⟩ A.V j _ ?_ ?_
    · show win0_2.index ⟨n, hn⟩ 0 * 512 + 1 * (j 0).val = n * 512 + 1 * (j 0).val; rw [(at2 _).1]
    · show win0_2.index ⟨n, hn⟩ 1 * 1024 + 1 * (j 1).val = 0 * 1024 + 1 * (j 1).val; rw [(at2 _).2]
  lw := by
    have hz : (fun a => win0_3.index ⟨n, hn⟩ a * main_arg3.ty.shape.size a) = fun _ => 0 := funext fun a => by
      match a with
      | ⟨0, _⟩ => rfl
      | ⟨1, _⟩ => rfl
    exact (Memref.read_access_unit_zero (Elt Ideal) main_arg3 hz (fun a => by rw [congrFun hz a]; simp) (V m c main_arg3)).trans
      ((V_main_arg3 m c).trans h.lw)
  lb := by
    have hz : (fun a => win0_4.index ⟨n, hn⟩ a * main_arg4.ty.shape.size a) = fun _ => 0 := funext fun a => by
      match a with
      | ⟨0, _⟩ => rfl
      | ⟨1, _⟩ => rfl
    exact (Memref.read_access_unit_zero (Elt Ideal) main_arg4 hz (fun a => by rw [congrFun hz a]; simp) (V m c main_arg4)).trans
      ((V_main_arg4 m c).trans h.lb)
  W := by
    have hz : (fun a => win0_5.index ⟨n, hn⟩ a * main_arg5.ty.shape.size a) = fun _ => 0 := funext fun a => by
      match a with
      | ⟨0, _⟩ => rfl
      | ⟨1, _⟩ => rfl
      | ⟨2, _⟩ => rfl
    exact (Memref.read_access_unit_zero (Elt Ideal) main_arg5 hz (fun a => by rw [congrFun hz a]; simp) (V m c main_arg5)).trans
      ((V_main_arg5 m c).trans h.W)
  B := by
    have hz : (fun a => win0_6.index ⟨n, hn⟩ a * main_v1.ty.shape.size a) = fun _ => 0 := funext fun a => by
      match a with
      | ⟨0, _⟩ => rfl
      | ⟨1, _⟩ => rfl
      | ⟨2, _⟩ => rfl
    exact (Memref.read_access_unit_zero (Elt Ideal) main_v1 hz (fun a => by rw [congrFun hz a]; simp) (V m c main_v1)).trans
      (bias_eq m c A h)

/-- The buffers after point `t`. -/
theorem after_eq (h : Holds m c A) (t : Fin cfg0.N) (h16 : t.val < 16) : outsAt0 m c t.val t.isLt = held A t.val h16 :=
  outs_eq m c A (fun n hn hk => reads m c A h n hn hk) t.val t.isLt h16

theorem lt16 (t : Fin cfg0.N) : t.val < 16 := Nat.lt_of_lt_of_eq t.isLt N_0

/-! ## The sums over the blocks are the sums over the rows -/

theorem inRow_sum (f : Fin 8192 → ℝ) : ∑ T : Fin 16, ∑ b : Fin 512, f (inRow T b) = ∑ r, f r := by
  rw [← Fintype.sum_prod_type' (fun T b => f (inRow T b))]
  refine Fintype.sum_equiv ((Equiv.prodComm _ _).trans ((Equiv.prodComm _ _).trans finProdFinEquiv)) _ _ fun p => congrArg f (Fin.ext ?_)
  show 512 * p.1.val + p.2.val = p.2.val + 512 * p.1.val
  omega

theorem chunk_sum (f : Fin 64 → ℝ) : ∑ T : Fin 16, ∑ ch : Fin 4, f (chunk T ch) = ∑ k, f k := by
  rw [← Fintype.sum_prod_type' (fun T b => f (chunk T b))]
  refine Fintype.sum_equiv ((Equiv.prodComm _ _).trans ((Equiv.prodComm _ _).trans finProdFinEquiv)) _ _ fun p => congrArg f (Fin.ext ?_)
  show 4 * p.1.val + p.2.val = p.2.val + 4 * p.1.val
  omega

theorem dw_total (g : Fin 8) (t s : Fin 128) : ∑ T, dwAdd A T g t s = A.dws g t s := by
  by_cases h : s ≤ t
  · refine (Finset.sum_congr rfl fun T _ => if_pos h).trans ((chunk_sum fun k => ∑ d, A.dsv (rowAt k t) (colAt g d) * A.vn (rowAt k s) (colAt g d)).trans ?_)
    exact (if_pos h).symm
  · refine (Finset.sum_congr rfl fun T _ => if_neg h).trans (Finset.sum_const_zero.trans ?_)
    exact (if_neg h).symm

theorem db_total (g : Fin 8) (t d : Fin 128) : ∑ T, dbAdd A T g t d = A.dbs g t d := chunk_sum fun k => A.dsv (rowAt k t) (colAt g d)

theorem dlw_total (k : Fin 1024) : ∑ T, dlwAdd A T k = A.dlw k := inRow_sum fun r => A.dvn r k * nrm (A.vg r) k

theorem dlb_total (k : Fin 1024) : ∑ T, dlbAdd A T k = A.dlb k := inRow_sum fun r => A.dvn r k

/-- After the last block every sum is over all rows. -/
theorem held_last : held A 15 (by omega) = after A 15 A.dws A.dbs A.dlw A.dlb := by
  simp only [held, upTo_last, dw_total, db_total, dlw_total, dlb_total]; rfl

end Gating.Arrays

end
-- ==== Proof.Finals.lean ====
/- The call's six result arrays after the run. -/
module

public import proofs.«01_k».proof.Proof.Arrays

@[expose] public section

noncomputable section

open Idealize.ShloMosaic Idealize.ShloMosaic.TcCoe Idealize.ShloMosaic.ValueIdx Idealize.SL.Sem
open Cert.KernelIdeal Cert.KernelIdeal.Gen Gating.Block Gating.Rows Gating.Squares Gating.Chunk Gating.Outs

namespace Gating.Arrays

variable (m : (ℓ : Loc nD τ sig) → Buf (Elt Ideal) ℓ) (c : Dev nD) (A : Args)

theorem at7 : ∀ t : Fin cfg0.N, win0_7.index t 0 = t.val ∧ win0_7.index t 1 = 0 :=
  (by decide +kernel : ∀ t : Fin grid0.N, win0_7.index t 0 = t.val ∧ win0_7.index t 1 = 0)
theorem at8 : ∀ t : Fin cfg0.N, win0_8.index t 0 = t.val ∧ win0_8.index t 1 = 0 :=
  (by decide +kernel : ∀ t : Fin grid0.N, win0_8.index t 0 = t.val ∧ win0_8.index t 1 = 0)

theorem full7 : ∀ t : Fin cfg0.N, win0_7.xsize (grid0.coords t) 0 = 512 ∧ win0_7.xsize (grid0.coords t) 1 = 1024 :=
  (by decide +kernel : ∀ t : Fin grid0.N, win0_7.xsize (grid0.coords t) 0 = 512 ∧ win0_7.xsize (grid0.coords t) 1 = 1024)
theorem full8 : ∀ t : Fin cfg0.N, win0_8.xsize (grid0.coords t) 0 = 512 ∧ win0_8.xsize (grid0.coords t) 1 = 1024 :=
  (by decide +kernel : ∀ t : Fin grid0.N, win0_8.xsize (grid0.coords t) 0 = 512 ∧ win0_8.xsize (grid0.coords t) 1 = 1024)

/-- The last grid point. -/
def tEnd : Fin cfg0.N := ⟨15, by rw [show cfg0.N = 16 from N_0]; decide⟩

/-- The point whose block holds row `i`. -/
def ptOf (i : S8192x1024.Idx) : Fin cfg0.N := ⟨(i 0).val / 512, by
  have h : (i 0).val < 8192 := (i 0).isLt
  rw [show cfg0.N = 16 from N_0]; omega⟩

theorem final7 (h : Holds m c A) : (dats m 0 c).arrAt 7 cfg0.N = whole A.du := by
  refine (dats m 0 c).arrAt_eq_of_cover 7 (whole A.du) (fun t _ => ?_) fun i => ⟨ptOf i, flush0_7 _, ?_⟩
  · rw [Value.flushed7, after_eq m c A h t (lt16 t)]
    funext j
    rw [View.read_apply]
    refine (rows_of ⟨t.val, lt16 t⟩ A.du j _ ?_ ?_).symm
    · show win0_7.index t 0 * 512 + 1 * (j 0).val = t.val * 512 + 1 * (j 0).val; rw [(at7 t).1]
    · show win0_7.index t 1 * 1024 + 1 * (j 1).val = 0 * 1024 + 1 * (j 1).val; rw [(at7 t).2]
  · show i ∈ ((View.whole main_v2_0).slice (win0_7.rect (ptOf i))).set
    rw [View.set_slice_whole, Rect.mem_set_unit]
    intro a
    have h0 : (i 0 : ℕ) < 8192 := (i 0).isLt
    have h1 : (i 1 : ℕ) < 1024 := (i 1).isLt
    match a with
    | ⟨0, _⟩ =>
      show win0_7.index (ptOf i) 0 * 512 ≤ (i 0 : ℕ) ∧ (i 0 : ℕ) < win0_7.index (ptOf i) 0 * 512 + win0_7.xsize (grid0.coords (ptOf i)) 0
      rw [(at7 _).1, (full7 _).1]
      show (i 0 : ℕ) / 512 * 512 ≤ (i 0 : ℕ) ∧ (i 0 : ℕ) < (i 0 : ℕ) / 512 * 512 + 512
      omega
    | ⟨1, _⟩ =>
      show win0_7.index (ptOf i) 1 * 1024 ≤ (i 1 : ℕ) ∧ (i 1 : ℕ) < win0_7.index (ptOf i) 1 * 1024 + win0_7.xsize (grid0.coords (ptOf i)) 1
      rw [(at7 _).2, (full7 _).2]; omega

theorem final8 (h : Holds m c A) : (dats m 0 c).arrAt 8 cfg0.N = whole A.dv := by
  refine (dats m 0 c).arrAt_eq_of_cover 8 (whole A.dv) (fun t _ => ?_) fun i => ⟨ptOf i, flush0_8 _, ?_⟩
  · rw [Value.flushed8, after_eq m c A h t (lt16 t)]
    funext j
    rw [View.read_apply]
    refine (rows_of ⟨t.val, lt16 t⟩ A.dv j _ ?_ ?_).symm
    · show win0_8.index t 0 * 512 + 1 * (j 0).val = t.val * 512 + 1 * (j 0).val; rw [(at8 t).1]
    · show win0_8.index t 1 * 1024 + 1 * (j 1).val = 0 * 1024 + 1 * (j 1).val; rw [(at8 t).2]
  · show i ∈ ((View.whole main_v2_1).slice (win0_8.rect (ptOf i))).set
    rw [View.set_slice_whole, Rect.mem_set_unit]
    intro a
    have h0 : (i 0 : ℕ) < 8192 := (i 0).isLt
    have h1 : (i 1 : ℕ) < 1024 := (i 1).isLt
    match a with
    | ⟨0, _⟩ =>
      show win0_8.index (ptOf i) 0 * 512 ≤ (i 0 : ℕ) ∧ (i 0 : ℕ) < win0_8.index (ptOf i) 0 * 512 + win0_8.xsize (grid0.coords (ptOf i)) 0
      rw [(at8 _).1, (full8 _).1]
      show (i 0 : ℕ) / 512 * 512 ≤ (i 0 : ℕ) ∧ (i 0 : ℕ) < (i 0 : ℕ) / 512 * 512 + 512
      omega
    | ⟨1, _⟩ =>
      show win0_8.index (ptOf i) 1 * 1024 ≤ (i 1 : ℕ) ∧ (i 1 : ℕ) < win0_8.index (ptOf i) 1 * 1024 + win0_8.xsize (grid0.coords (ptOf i)) 1
      rw [(at8 _).2, (full8 _).2]; omega

/-- The buffers at the last point. -/
theorem after_end (h : Holds m c A) (t : Fin cfg0.N) (ht : t.val % 16 = 15) :
    outsAt0 m c t.val t.isLt = after A 15 A.dws A.dbs A.dlw A.dlb := by
  have hlt := lt16 t
  have e : t.val = 15 := by omega
  obtain ⟨n, hn⟩ := t
  obtain rfl : n = 15 := e
  exact (after_eq m c A h ⟨15, hn⟩ hlt).trans (held_last A)

theorem zero9 (t : Fin cfg0.N) : (fun a => win0_9.index t a * main_v2_2.ty.shape.size a) = fun _ => 0 := funext fun a => by
  match a with
  | ⟨0, _⟩ => rfl
  | ⟨1, _⟩ => rfl
  | ⟨2, _⟩ => rfl

theorem final9 (h : Holds m c A) : (dats m 0 c).arrAt 9 cfg0.N = cube A.dws := by
  refine (dats m 0 c).arrAt_eq_of_cover 9 (cube A.dws) (fun t hf => ?_) fun i => ⟨tEnd, (flush0_9 _).mpr rfl, ?_⟩
  · rw [Value.flushed9, after_end m c A h t ((flush0_9 t).mp hf)]
    exact (Memref.read_access_unit_zero (Elt Ideal) main_v2_2 (zero9 t) (fun a => by rw [congrFun (zero9 t) a]; simp) (cube A.dws)).symm
  · show i ∈ ((View.whole main_v2_2).slice (win0_9.rect tEnd)).set
    rw [View.set_slice_whole, Rect.mem_set_unit]
    intro a
    have h0 : (i 0 : ℕ) < 8 := (i 0).isLt
    have h1 : (i 1 : ℕ) < 128 := (i 1).isLt
    have h2 : (i 2 : ℕ) < 128 := (i 2).isLt
    match a with
    | ⟨0, _⟩ => exact ⟨Nat.zero_le _, (Nat.zero_add 8).symm ▸ h0⟩
    | ⟨1, _⟩ => exact ⟨Nat.zero_le _, (Nat.zero_add 128).symm ▸ h1⟩
    | ⟨2, _⟩ => exact ⟨Nat.zero_le _, (Nat.zero_add 128).symm ▸ h2⟩

theorem zero10 (t : Fin cfg0.N) : (fun a => win0_10.index t a * main_v2_3.ty.shape.size a) = fun _ => 0 := funext fun a => by
  match a with
  | ⟨0, _⟩ => rfl
  | ⟨1, _⟩ => rfl
  | ⟨2, _⟩ => rfl

theorem final10 (h : Holds m c A) : (dats m 0 c).arrAt 10 cfg0.N = cube A.dbs := by
  refine (dats m 0 c).arrAt_eq_of_cover 10 (cube A.dbs) (fun t hf => ?_) fun i => ⟨tEnd, (flush0_10 _).mpr rfl, ?_⟩
  · rw [Value.flushed10, after_end m c A h t ((flush0_10 t).mp hf)]
    exact (Memref.read_access_unit_zero (Elt Ideal) main_v2_3 (zero10 t) (fun a => by rw [congrFun (zero10 t) a]; simp) (cube A.dbs)).symm
  · show i ∈ ((View.whole main_v2_3).slice (win0_10.rect tEnd)).set
    rw [View.set_slice_whole, Rect.mem_set_unit]
    intro a
    have h0 : (i 0 : ℕ) < 8 := (i 0).isLt
    have h1 : (i 1 : ℕ) < 128 := (i 1).isLt
    have h2 : (i 2 : ℕ) < 128 := (i 2).isLt
    match a with
    | ⟨0, _⟩ => exact ⟨Nat.zero_le _, (Nat.zero_add 8).symm ▸ h0⟩
    | ⟨1, _⟩ => exact ⟨Nat.zero_le _, (Nat.zero_add 128).symm ▸ h1⟩
    | ⟨2, _⟩ => exact ⟨Nat.zero_le _, (Nat.zero_add 128).symm ▸ h2⟩

theorem zero11 (t : Fin cfg0.N) : (fun a => win0_11.index t a * main_v2_4.ty.shape.size a) = fun _ => 0 := funext fun a => by
  match a with
  | ⟨0, _⟩ => rfl
  | ⟨1, _⟩ => rfl

theorem final11 (h : Holds m c A) : (dats m 0 c).arrAt 11 cfg0.N = upRow A.dlw := by
  refine (dats m 0 c).arrAt_eq_of_cover 11 (upRow A.dlw) (fun t hf => ?_) fun i => ⟨tEnd, (flush0_11 _).mpr rfl, ?_⟩
  · rw [Value.flushed11, after_end m c A h t ((flush0_11 t).mp hf)]
    exact (Memref.read_access_unit_zero (Elt Ideal) main_v2_4 (zero11 t) (fun a => by rw [congrFun (zero11 t) a]; simp) (upRow A.dlw)).symm
  · show i ∈ ((View.whole main_v2_4).slice (win0_11.rect tEnd)).set
    rw [View.set_slice_whole, Rect.mem_set_unit]
    intro a
    have h0 : (i 0 : ℕ) < 1 := (i 0).isLt
    have h1 : (i 1 : ℕ) < 1024 := (i 1).isLt
    match a with
    | ⟨0, _⟩ => exact ⟨Nat.zero_le _, (Nat.zero_add 1).symm ▸ h0⟩
    | ⟨1, _⟩ => exact ⟨Nat.zero_le _, (Nat.zero_add 1024).symm ▸ h1⟩

theorem zero12 (t : Fin cfg0.N) : (fun a => win0_12.index t a * main_v2_5.ty.shape.size a) = fun _ => 0 := funext fun a => by
  match a with
  | ⟨0, _⟩ => rfl
  | ⟨1, _⟩ => rfl

theorem final12 (h : Holds m c A) : (dats m 0 c).arrAt 12 cfg0.N = upRow A.dlb := by
  refine (dats m 0 c).arrAt_eq_of_cover 12 (upRow A.dlb) (fun t hf => ?_) fun i => ⟨tEnd, (flush0_12 _).mpr rfl, ?_⟩
  · rw [Value.flushed12, after_end m c A h t ((flush0_12 t).mp hf)]
    exact (Memref.read_access_unit_zero (Elt Ideal) main_v2_5 (zero12 t) (fun a => by rw [congrFun (zero12 t) a]; simp) (upRow A.dlb)).symm
  · show i ∈ ((View.whole main_v2_5).slice (win0_12.rect tEnd)).set
    rw [View.set_slice_whole, Rect.mem_set_unit]
    intro a
    have h0 : (i 0 : ℕ) < 1 := (i 0).isLt
    have h1 : (i 1 : ℕ) < 1024 := (i 1).isLt
    match a with
    | ⟨0, _⟩ => exact ⟨Nat.zero_le _, (Nat.zero_add 1).symm ▸ h0⟩
    | ⟨1, _⟩ => exact ⟨Nat.zero_le _, (Nat.zero_add 1024).symm ▸ h1⟩

end Gating.Arrays

end
-- ==== Proof.RefGelu.lean ====
/- The reference's activation and its derivative, on arrays of real numbers. -/
module

public import proofs.«01_k».proof.Proof.Consts
public import proofs.«01_k».proof.Proof.Gen.ReferenceIdeal.Read

@[expose] public section

noncomputable section

open Idealize.ShloMosaic Idealize.ShloMosaic.TcCoe Idealize.ShloMosaic.ValueIdx Idealize.SL.Sem
open Cert.ReferenceIdeal Cert.ReferenceIdeal.Gen Cert.ReferenceIdeal.Read

namespace Gating.Ref

/-- An array of rows. -/
abbrev arr2 (f : Fin 8192 → Fin 1024 → ℝ) : (⟨S8192x1024, .f32⟩ : BufTy).Contents (Elt Ideal) := fun i => ((f (i 0) (i 1) : ℝ) : EReal)
/-- The same with a unit axis in front. -/
abbrev arr3 (f : Fin 8192 → Fin 1024 → ℝ) : (⟨S1x8192x1024, .f32⟩ : BufTy).Contents (Elt Ideal) := fun i => ((f (i 1) (i 2) : ℝ) : EReal)

theorem v2_val (f : Fin 8192 → Fin 1024 → ℝ) : val_main_v2 (F := Ideal) (arr2 f) = arr3 f := by
  funext i; rw [val_main_v2_apply]; rfl

theorem v82_val (f : Fin 8192 → Fin 1024 → ℝ) : val_main_v82 (F := Ideal) (arr2 f) = arr3 f := v2_val f

theorem v6_val : val_main_v6 (F := Ideal) = arr3 fun _ _ => 1 / 2 := by
  funext i; rw [val_main_v6_apply, val_main_cst_apply]; exact half_lit

theorem v7_val (f : Fin 8192 → Fin 1024 → ℝ) : val_main_v7 (F := Ideal) (arr2 f) = arr3 fun r c => 1 / 2 * f r c := by
  funext i; rw [val_main_v7_apply, v6_val, v2_val]; exact (EReal.coe_mul _ _).symm

theorem root_val (i : S_.Idx) : val_main_v9 (F := Ideal) i = ((Real.sqrt (1 / 2) : ℝ) : EReal) := by
  rw [val_main_v9_apply, val_main_cst_0_apply]
  exact (congrArg Ideal.sqrt half_lit).trans (sqrt_fin (by norm_num))

theorem v10_val : val_main_v10 (F := Ideal) = arr3 fun _ _ => Real.sqrt (1 / 2) := by
  funext i; rw [val_main_v10_apply, root_val]

theorem v11_val (f : Fin 8192 → Fin 1024 → ℝ) :
    val_main_v11 (F := Ideal) (arr2 f) = arr3 fun r c => -f r c * Real.sqrt (1 / 2) := by
  funext i; rw [val_main_v11_apply, val_main_v8_apply, v2_val, v10_val]
  refine (congrArg (· * _) (EReal.coe_neg _).symm).trans (EReal.coe_mul _ _).symm

theorem v12_val (f : Fin 8192 → Fin 1024 → ℝ) :
    val_main_v12 (F := Ideal) (arr2 f) = arr3 fun r c => 1 + erfR (f r c * Real.sqrt (1 / 2)) := by
  funext i; rw [val_main_v12_apply, v11_val]
  refine (show _ = Ideal.erfc ((-f (i 1) (i 2) * Real.sqrt (1 / 2) : ℝ) : EReal) from rfl).trans ?_
  rw [neg_mul, EReal.coe_neg, Ideal.erfc_neg, erf_fin]
  exact (EReal.coe_add _ _).symm

theorem v15_val (i : S_.Idx) : val_main_v15 (F := Ideal) i = ((-2 / Real.sqrt Real.pi : ℝ) : EReal) := by
  rw [val_main_v15_apply, val_main_v14_apply, val_main_v13_apply, val_main_cst_1_apply, val_main_cst_2_apply]
  refine (show _ = Ideal.div (Ideal.ofBits .f32 0xC0000000#32) (Ideal.sqrt (Ideal.acos (Ideal.ofBits .f32 0xBF800000#32))) from rfl).trans ?_
  rw [negTwo_lit, negOne_lit, Ideal.acos_coe, if_pos (by norm_num), Real.arccos_neg_one, sqrt_fin Real.pi_pos.le,
    div_fin _ (Real.sqrt_pos.mpr Real.pi_pos).ne']

theorem v20_val (f : Fin 8192 → Fin 1024 → ℝ) :
    val_main_v20 (F := Ideal) (arr2 f) = arr3 fun r c =>
      -2 / Real.sqrt Real.pi * Real.exp (-(-f r c * Real.sqrt (1 / 2) * (-f r c * Real.sqrt (1 / 2)))) := by
  funext i
  rw [val_main_v20_apply, val_main_v19_apply, v15_val, val_main_v18_apply, val_main_v17_apply, val_main_v16_apply, v11_val]
  refine (congrArg (((-2 / Real.sqrt Real.pi : ℝ) : EReal) * ·) (a₂ := ((Real.exp (-(-f (i 1) (i 2) * Real.sqrt (1 / 2) * (-f (i 1) (i 2) * Real.sqrt (1 / 2)))) : ℝ) : EReal)) ?_).trans
    (EReal.coe_mul _ _).symm
  refine (show _ = Ideal.exp (-(((-f (i 1) (i 2) * Real.sqrt (1 / 2) : ℝ) : EReal) * ((-f (i 1) (i 2) * Real.sqrt (1 / 2) : ℝ) : EReal))) from rfl).trans ?_
  rw [← EReal.coe_mul, ← EReal.coe_neg]; exact Ideal.exp_coe _

/-- The activation. -/
theorem v21_val (f : Fin 8192 → Fin 1024 → ℝ) : val_main_v21 (F := Ideal) (arr2 f) = arr3 fun r c => gelu (f r c) := by
  funext i; rw [val_main_v21_apply, v7_val, v12_val]
  exact (EReal.coe_mul _ _).symm.trans (congrArg ((↑) : ℝ → EReal) (gelu_eq (f (i 1) (i 2))))

theorem v37_val (f : Fin 8192 → Fin 1024 → ℝ) : val_main_v37 (F := Ideal) (arr2 f) = arr3 fun r c => gelu (f r c) := v21_val f

/-- The activation's pullback of the cotangent `a`, as the reference writes it. -/
def pull (x : (⟨S8192x1024, .f32⟩ : BufTy).Contents (Elt Ideal)) (a : (⟨S1x8192x1024, .f32⟩ : BufTy).Contents (Elt Ideal)) :
    (⟨S1x8192x1024, .f32⟩ : BufTy).Contents (Elt Ideal) := fun i =>
  -(val_main_v20 (F := Ideal) x i * (val_main_v7 (F := Ideal) x i * a i) * val_main_v9 (F := Ideal) (idx_main_v144 i))
    + val_main_cst_29 (F := Ideal) (idx_main_v147 i) * (a i * val_main_v12 (F := Ideal) x i)

theorem pull_val (f a : Fin 8192 → Fin 1024 → ℝ) : pull (arr2 f) (arr3 a) = arr3 fun r c => a r c * geluD (f r c) := by
  funext i
  unfold pull
  rw [v20_val, v7_val, v12_val, root_val, val_main_cst_29_apply]
  refine (congrArg (_ + · * _) half_lit).trans ?_
  simp only [arr3, ← EReal.coe_mul, ← EReal.coe_neg, ← EReal.coe_add]
  exact congrArg ((↑) : ℝ → EReal) (geluD_eq (f (i 1) (i 2)) (a (i 1) (i 2)))

end Gating.Ref

end
-- ==== Proof.RefNorm.lean ====
/- The reference's normalisation of the rows of `gelu v`, on arrays of real numbers. -/
module

public import proofs.«01_k».proof.Proof.RefGelu

@[expose] public section

noncomputable section

open Idealize.ShloMosaic Idealize.ShloMosaic.TcCoe Idealize.ShloMosaic.ValueIdx Idealize.SL.Sem
open Cert.ReferenceIdeal Cert.ReferenceIdeal.Gen Cert.ReferenceIdeal.Read

namespace Gating.Ref

/-- A number per row. -/
abbrev arr1 (f : Fin 8192 → ℝ) : (⟨S1x8192, .f32⟩ : BufTy).Contents (Elt Ideal) := fun i => ((f (i 1) : ℝ) : EReal)
/-- A number per row, as a column. -/
abbrev col (f : Fin 8192 → ℝ) : (⟨S1x8192x1, .f32⟩ : BufTy).Contents (Elt Ideal) := fun i => ((f (i 1) : ℝ) : EReal)
/-- A number per lane, as a row. -/
abbrev row (f : Fin 1024 → ℝ) : (⟨S1x1024, .f32⟩ : BufTy).Contents (Elt Ideal) := fun i => ((f (i 1) : ℝ) : EReal)

/-- A host sum of finite numbers from the literal zero. -/
theorem zero_add_sum {ι : Type} [Fintype ι] (f : ι → ℝ) :
    (FloatOps.ofBits .f32 0x00000000#32 : Ideal .f32) + ∑ k, ((f k : ℝ) : EReal) = ((∑ k, f k : ℝ) : EReal) := by
  rw [sum_fin]
  refine (congrArg (· + _) zero_lit).trans ?_
  rw [EReal.coe_zero, zero_add]

variable (A : Args)

theorem v38_val : val_main_v38 (F := Ideal) (arr2 A.V) = arr1 fun r => ∑ c, A.vg r c := by
  funext i
  rw [val_main_v38_apply, val_main_cst_7_apply, v37_val]
  exact zero_add_sum fun k => A.vg (i 1) k

theorem v41_val : val_main_v41 (F := Ideal) (arr2 A.V) = col fun r => mean (A.vg r) := by
  funext i
  rw [val_main_v41_apply, val_main_v39_apply, val_main_v40_apply, val_main_cst_8_apply, v38_val]
  exact (congrArg (Ideal.div _) lanes_lit).trans (div_fin _ (by norm_num))

theorem v43_val : val_main_v43 (F := Ideal) (arr2 A.V) = arr3 fun r => cen (A.vg r) := by
  funext i
  rw [val_main_v43_apply, val_main_v42_apply, v41_val, v37_val]
  exact (EReal.coe_sub _ _).symm

theorem v52_val : val_main_v52 (F := Ideal) (arr2 A.V) = arr3 fun r => cen (A.vg r) := by
  funext i
  rw [val_main_v52_apply, val_main_v51_apply, v41_val, v37_val]
  exact (EReal.coe_sub _ _).symm

theorem v46_val : val_main_v46 (F := Ideal) (arr2 A.V) = arr3 fun r c => 2 * cen (A.vg r) c := by
  funext i
  rw [val_main_v46_apply, val_main_v45_apply, val_main_cst_9_apply, v43_val]
  exact (congrArg (· * _) two_lit).trans (EReal.coe_mul _ _).symm

theorem v44_val : val_main_v44 (F := Ideal) (arr2 A.V) = arr3 fun r c => cen (A.vg r) c * cen (A.vg r) c := by
  funext i
  rw [val_main_v44_apply, v43_val]
  exact (EReal.coe_mul _ _).symm

theorem v47_val : val_main_v47 (F := Ideal) (arr2 A.V) = arr1 fun r => ∑ c, cen (A.vg r) c * cen (A.vg r) c := by
  funext i
  rw [val_main_v47_apply, val_main_cst_10_apply, v44_val]
  exact zero_add_sum fun k => cen (A.vg (i 1)) k * cen (A.vg (i 1)) k

theorem v50_val : val_main_v50 (F := Ideal) (arr2 A.V) = col fun r => var (A.vg r) := by
  funext i
  rw [val_main_v50_apply, val_main_v48_apply, val_main_v49_apply, val_main_cst_11_apply, v47_val]
  exact (congrArg (Ideal.div _) lanes_lit).trans (div_fin _ (by norm_num))

theorem v54_val : val_main_v54 (F := Ideal) (arr2 A.V) = col fun r => var (A.vg r) + eps := by
  funext i
  rw [val_main_v54_apply, val_main_v53_apply, val_main_cst_12_apply, v50_val]
  exact (congrArg (_ + ·) eps_lit).trans (EReal.coe_add _ _).symm

theorem v55_val : val_main_v55 (F := Ideal) (arr2 A.V) = col fun r => rstd (A.vg r) := by
  funext i
  rw [val_main_v55_apply, v54_val]
  exact rsqrt_fin (var_eps_pos _)

theorem v58_val : val_main_v58 (F := Ideal) (arr2 A.V) = col fun r => -(1 / 2) * (rstd (A.vg r) / (var (A.vg r) + eps)) := by
  funext i
  rw [val_main_v58_apply, val_main_v57_apply, val_main_cst_13_apply, val_main_v56_apply, v55_val, v54_val]
  refine (congrArg (· * _) negHalf_lit).trans ?_
  refine (congrArg (_ * ·) (div_fin (rstd (A.vg (i 1))) (var_eps_pos (A.vg (i 1))).ne')).trans ?_
  exact (EReal.coe_mul _ _).symm

theorem v60_val : val_main_v60 (F := Ideal) (arr2 A.V) = arr3 fun r => nrm (A.vg r) := by
  funext i
  rw [val_main_v60_apply, val_main_v59_apply, v55_val, v52_val]
  exact (EReal.coe_mul _ _).symm

theorem v61_val (f : Fin 1024 → ℝ) (i : S1x1x1024.Idx) : val_main_v61 (F := Ideal) (row f) i = ((f (i 2) : ℝ) : EReal) := by
  rw [val_main_v61_apply, val_main_v4_apply]
  exact congrArg (fun k => ((f k : ℝ) : EReal)) (Fin.ext (Nat.mod_eq_of_lt (i 2).isLt))

theorem v64_val (f : Fin 1024 → ℝ) (i : S1x1x1024.Idx) : val_main_v64 (F := Ideal) (row f) i = ((f (i 2) : ℝ) : EReal) := v61_val f i

/-- The normalised rows, scaled and shifted. -/
theorem v66_val : val_main_v66 (F := Ideal) (arr2 A.V) (row A.lw) (row A.lb) = arr3 A.vn := by
  funext i
  rw [val_main_v66_apply, val_main_v63_apply, val_main_v62_apply, val_main_v65_apply, v61_val, v64_val, v60_val]
  exact (congrArg (· + _) (EReal.coe_mul _ _).symm).trans (EReal.coe_add _ _).symm

end Gating.Ref

end
-- ==== Proof.RefMix.lean ====
/- The reference's mixing of the rows of a chunk, forwards and backwards, on arrays of real numbers. -/
module

public import proofs.«01_k».proof.Proof.RefNorm
public import Idealize.ShloMosaic.Lib.WordCmp

@[expose] public section

noncomputable section

open Idealize.ShloMosaic Idealize.ShloMosaic.TcCoe Idealize.ShloMosaic.ValueIdx Idealize.SL.Sem
open Cert.ReferenceIdeal Cert.ReferenceIdeal.Gen Cert.ReferenceIdeal.Read

namespace Gating.Ref

/-- The place of a lane in its group. -/
def cd (c : Fin 1024) : Fin 128 := ⟨c.val % 128, by omega⟩

theorem colAt_cg_cd (c : Fin 1024) : colAt (cg c) (cd c) = c := Fin.ext (by simp only [colAt, cg, cd]; omega)

/-- An array cut into chunks of rows and groups of lanes. -/
abbrev chk (h : Fin 64 → Fin 128 → Fin 8 → Fin 128 → ℝ) : (⟨S1x64x128x8x128, .f32⟩ : BufTy).Contents (Elt Ideal) :=
  fun i => ((h (i 1) (i 2) (i 3) (i 4) : ℝ) : EReal)
/-- A square per group. -/
abbrev cub (f : Fin 8 → Fin 128 → Fin 128 → ℝ) : (⟨S8x128x128, .f32⟩ : BufTy).Contents (Elt Ideal) := fun i => ((f (i 0) (i 1) (i 2) : ℝ) : EReal)
/-- A row per group. -/
abbrev bia (f : Fin 8 → Fin 128 → ℝ) : (⟨S8x128, .f32⟩ : BufTy).Contents (Elt Ideal) := fun i => ((f (i 0) (i 1) : ℝ) : EReal)

/-- Cutting an array. -/
theorem cut_val (f : Fin 8192 → Fin 1024 → ℝ) (i : S1x64x128x8x128.Idx) :
    arr3 f (idx_main_v67 i) = ((f (rowAt (i 1) (i 2)) (colAt (i 3) (i 4)) : ℝ) : EReal) := by
  have h0 : (i 0).val < 1 := (i 0).isLt
  have h1 : (i 1).val < 64 := (i 1).isLt
  have h2 : (i 2).val < 128 := (i 2).isLt
  have h3 : (i 3).val < 8 := (i 3).isLt
  have h4 : (i 4).val < 128 := (i 4).isLt
  have hr : (idx_main_v67 i 1 : Fin 8192) = rowAt (i 1) (i 2) := Fin.ext (by
    show (((((i 0).val * 64 + (i 1).val) * 128 + (i 2).val) * 8 + (i 3).val) * 128 + (i 4).val) / 1024 % 8192 = (i 1).val * 128 + (i 2).val
    omega)
  have hc : (idx_main_v67 i 2 : Fin 1024) = colAt (i 3) (i 4) := Fin.ext (by
    show (((((i 0).val * 64 + (i 1).val) * 128 + (i 2).val) * 8 + (i 3).val) * 128 + (i 4).val) % 1024 = (i 3).val * 128 + (i 4).val
    omega)
  exact congrArg₂ (fun a b => ((f a b : ℝ) : EReal)) hr hc

/-- Joining a cut array. -/
theorem join_val (h : Fin 64 → Fin 128 → Fin 8 → Fin 128 → ℝ) (i : S1x8192x1024.Idx) :
    chk h (idx_main_v79 i) = ((h (rk (i 1)) (rt (i 1)) (cg (i 2)) (cd (i 2)) : ℝ) : EReal) := by
  have h0 : (i 0).val < 1 := (i 0).isLt
  have h1 : (i 1).val < 8192 := (i 1).isLt
  have h2 : (i 2).val < 1024 := (i 2).isLt
  have e1 : (idx_main_v79 i 1 : Fin 64) = rk (i 1) := Fin.ext (by
    show (((i 0).val * 8192 + (i 1).val) * 1024 + (i 2).val) / 131072 % 64 = (i 1).val / 128
    omega)
  have e2 : (idx_main_v79 i 2 : Fin 128) = rt (i 1) := Fin.ext (by
    show (((i 0).val * 8192 + (i 1).val) * 1024 + (i 2).val) / 1024 % 128 = (i 1).val % 128
    omega)
  have e3 : (idx_main_v79 i 3 : Fin 8) = cg (i 2) := Fin.ext (by
    show (((i 0).val * 8192 + (i 1).val) * 1024 + (i 2).val) / 128 % 8 = (i 2).val / 128
    omega)
  have e4 : (idx_main_v79 i 4 : Fin 128) = cd (i 2) := Fin.ext (by
    show (((i 0).val * 8192 + (i 1).val) * 1024 + (i 2).val) % 128 = (i 2).val % 128
    omega)
  show ((h (idx_main_v79 i 1 : Fin 64) (idx_main_v79 i 2 : Fin 128) (idx_main_v79 i 3 : Fin 8) (idx_main_v79 i 4 : Fin 128) : ℝ) : EReal) = _
  rw [e1, e2, e3, e4]

variable (A : Args)

theorem v67_val : val_main_v67 (F := Ideal) (arr2 A.V) (row A.lw) (row A.lb) = chk fun k t g d => A.vn (rowAt k t) (colAt g d) := by
  funext i; rw [val_main_v67_apply, v66_val]; exact cut_val _ i

/-! ## The causal weights -/

/-- The mask: one at and under the diagonal. -/
theorem v69_val (i : S128x128.Idx) : val_main_v69 (F := Ideal) i = ((if (i 1 : Fin 128) ≤ (i 0 : Fin 128) then 1 else 0 : ℝ) : EReal) := by
  have h0 : (i 0 : ℕ) < 128 := (i 0).isLt
  have h1 : (i 1 : ℕ) < 128 := (i 1).isLt
  rw [val_main_v69_apply, val_main_call0_v4_apply, val_main_call0_v2_apply, val_main_call0_v1_apply, val_main_call0_c_apply,
    val_main_call0_v0_apply, val_main_call0_v3_apply, val_main_v68_apply, val_main_call0_v5_apply, val_main_cst_14_apply,
    val_main_call0_cst_apply]
  rw [show IntOp.addi (BitVec.ofNat 32 (i 0).val) 0#32 = BitVec.ofNat 32 (i 0).val from BitVec.add_zero _,
    WordCmp.cmpi_sge_ofNat (by omega) (by omega), WordCmp.select_decide]
  by_cases h : (i 1 : Fin 128) ≤ (i 0 : Fin 128)
  · rw [if_pos h, if_pos (show (i 1 : ℕ) ≤ (i 0 : ℕ) from h)]; exact one_lit
  · rw [if_neg h, if_neg (show ¬(i 1 : ℕ) ≤ (i 0 : ℕ) from h)]; exact zero_lit

theorem masked (a : ℝ) (p : Prop) [Decidable p] : a * (if p then 1 else 0) = if p then a else 0 := by split <;> simp

theorem v72_val : val_main_v72 (F := Ideal) (cub A.W) = cub A.wm := by
  funext i
  rw [val_main_v72_apply, val_main_v71_apply, val_main_v70_apply, v69_val]
  exact (EReal.coe_mul _ _).symm.trans (congrArg ((↑) : ℝ → EReal) (masked _ _))

/-! ## The gate -/

theorem v73_val (i : S8x1x64x128x128.Idx) :
    val_main_v73 (F := Ideal) (arr2 A.V) (row A.lw) (row A.lb) (cub A.W) i =
      ((∑ s, A.wm (i 0) (i 4) s * A.vn (rowAt (i 2) s) (colAt (i 0) (i 3)) : ℝ) : EReal) := by
  rw [val_main_v73_apply, v67_val, v72_val, ← sum_fin]
  refine Finset.sum_congr rfl fun s _ => ?_
  rw [mul_comm]
  exact (EReal.coe_mul _ _).symm

theorem v78_val :
    val_main_v78 (F := Ideal) (arr2 A.V) (row A.lw) (row A.lb) (cub A.W) (bia A.B) =
      chk fun k t g d => (∑ s, A.wm g t s * A.vn (rowAt k s) (colAt g d)) + A.B g t := by
  funext i
  rw [val_main_v78_apply, val_main_v74_apply, v73_val, val_main_v77_apply, val_main_v76_apply, val_main_v75_apply, val_main_v1_apply,
    val_main_v0_apply]
  exact (EReal.coe_add _ _).symm

theorem sv_at (r : Fin 8192) (c : Fin 1024) :
    A.sv r c = (∑ s, A.wm (cg c) (rt r) s * A.vn (rowAt (rk r) s) (colAt (cg c) (cd c))) + A.B (cg c) (rt r) := by
  rw [colAt_cg_cd]; rfl

theorem v79_val :
    val_main_v79 (F := Ideal) (arr2 A.V) (row A.lw) (row A.lb) (cub A.W) (bia A.B) = arr3 A.sv := by
  funext i
  rw [val_main_v79_apply, v78_val]
  exact (join_val _ i).trans (congrArg ((↑) : ℝ → EReal) (sv_at A (i 1) (i 2)).symm)

/-! ## The cotangent of the gate, and the gradient of `u` -/

theorem v83_val : val_main_v83 (F := Ideal) (arr2 A.D) (arr2 A.U) = arr3 A.dsv := by
  funext i
  rw [val_main_v83_apply, v21_val, v82_val]
  exact (mul_comm _ _).trans (EReal.coe_mul _ _).symm

theorem v84_val : val_main_v84 (F := Ideal) (arr2 A.D) (arr2 A.V) (row A.lw) (row A.lb) (cub A.W) (bia A.B) =
    arr3 fun r c => A.D r c * A.sv r c := by
  funext i
  rw [val_main_v84_apply, v82_val, v79_val]
  exact (EReal.coe_mul _ _).symm

theorem v149_val : val_main_v149 (F := Ideal) (arr2 A.D) (arr2 A.U) (arr2 A.V) (row A.lw) (row A.lb) (cub A.W) (bia A.B) = arr3 A.du := by
  refine Eq.trans ?_ (pull_val A.U fun r c => A.D r c * A.sv r c)
  rw [← v84_val]
  funext i
  rw [val_main_v149_apply, val_main_v146_apply, val_main_v145_apply, val_main_v143_apply, val_main_v141_apply, val_main_v148_apply,
    val_main_v142_apply, val_main_v144_apply, val_main_v147_apply]
  rfl

/-- The gradient of `u`. -/
theorem du_val : val_main_v154 (F := Ideal) (arr2 A.D) (arr2 A.U) (arr2 A.V) (row A.lw) (row A.lb) (cub A.W) (bia A.B) =
    fun i => ((A.du (i 0) (i 1) : ℝ) : EReal) := by
  funext i
  rw [val_main_v154_apply, val_main_v153_apply, val_main_cst_31_apply, v149_val]
  refine (zero_add_sum fun k : Fin 1 => A.du (i 0) (i 1)).trans ?_
  rw [Fin.sum_univ_one]

/-! ## The gradient of the normalised rows -/

theorem v85_val : val_main_v85 (F := Ideal) (arr2 A.D) (arr2 A.U) = chk fun k t g d => A.dsv (rowAt k t) (colAt g d) := by
  funext i; rw [val_main_v85_apply, v83_val]; exact cut_val _ i

theorem v92_val (i : S8x1x64x128x128.Idx) : val_main_v92 (F := Ideal) (arr2 A.D) (arr2 A.U) (cub A.W) i =
    ((∑ t, A.wm (i 0) t (i 4) * A.dsv (rowAt (i 2) t) (colAt (i 0) (i 3)) : ℝ) : EReal) := by
  rw [val_main_v92_apply, v72_val, ← sum_fin]
  refine Finset.sum_congr rfl fun t _ => ?_
  rw [val_main_v90_apply, v85_val, mul_comm]
  exact (EReal.coe_mul _ _).symm

theorem dvn_at (r : Fin 8192) (c : Fin 1024) :
    A.dvn r c = ∑ t, A.wm (cg c) t (rt r) * A.dsv (rowAt (rk r) t) (colAt (cg c) (cd c)) := by
  rw [colAt_cg_cd]; rfl

theorem v96_val : val_main_v96 (F := Ideal) (arr2 A.D) (arr2 A.U) (cub A.W) = arr3 A.dvn := by
  have h : val_main_v93 (F := Ideal) (arr2 A.D) (arr2 A.U) (cub A.W) =
      chk fun k s g d => ∑ t, A.wm g t s * A.dsv (rowAt k t) (colAt g d) := by
    funext i; rw [val_main_v93_apply, v92_val]; rfl
  funext i
  rw [val_main_v96_apply, h]
  exact (join_val _ i).trans (congrArg ((↑) : ℝ → EReal) (dvn_at A (i 1) (i 2)).symm)

end Gating.Ref

end
-- ==== Proof.RefSums.lean ====
/- The reference's sums over all rows: the gradients of the mixing weights, of the bias, and of the normalisation's
   scale and shift, on arrays of real numbers. -/
module

public import proofs.«01_k».proof.Proof.RefMix

@[expose] public section

noncomputable section

open Idealize.ShloMosaic Idealize.ShloMosaic.TcCoe Idealize.ShloMosaic.ValueIdx Idealize.SL.Sem
open Cert.ReferenceIdeal Cert.ReferenceIdeal.Gen Cert.ReferenceIdeal.Read

namespace Gating.Ref

variable (A : Args)

/-- A host sum each of whose results takes one entry. -/
theorem one_term {s t z : Shape} {axes : List (Fin s.rank)} (h : s.ReducesTo axes t) (hz : 0 < z.numel)
    (x : FVec Ideal s .f32) (init : FVec Ideal z .f32) (j : t.Idx) (k : s.Idx) (hd : h.drop k = j) (hk : ∀ i, h.drop i = j → i = k) (r : ℝ)
    (hi : init (Shape.Idx.first hz) = FloatOps.ofBits .f32 0x00000000#32) (hx : x k = (r : EReal)) :
    Host.reduceAdd x init h hz j = (r : EReal) := by
  refine (show Host.reduceAdd x init h hz j = init (Shape.Idx.first hz) + ∑ i ∈ Finset.univ.filter (fun i => h.drop i = j), x i from rfl).trans ?_
  rw [Finset.filter_congr (fun i _ => ⟨hk i, fun e => e ▸ hd⟩), Finset.filter_eq' Finset.univ k, if_pos (Finset.mem_univ _), Finset.sum_singleton, hi, hx]
  refine (congrArg (· + _) zero_lit).trans ?_
  rw [EReal.coe_zero, zero_add]

/-- A row's sum over its unit axes is the row. -/
theorem lanes_val (f : Fin 1024 → ℝ) (x : FVec Ideal S1x1x1024 .f32) (init : FVec Ideal S_ .f32)
    (hi : init (Shape.Idx.first h_S_) = FloatOps.ofBits .f32 0x00000000#32) (hx : ∀ i, x i = ((f (i 2) : ℝ) : EReal)) (j : S1024.Idx) :
    Host.reduceAdd x init reducesTo_S1x1x1024_S1024_d0_1 h_S_ j = ((f (j 0) : ℝ) : EReal) := by
  refine one_term _ h_S_ x init j (ix3 0 0 (j 0)) (funext fun a => ?_) (fun i h => ?_) _ hi (hx _)
  · match a with
    | ⟨0, _⟩ => exact Fin.ext (Shape.ReducesTo.drop_apply_val_of_eq reducesTo_S1x1x1024_S1024_d0_1 _ 0 2)
  · have h2 := Shape.ReducesTo.drop_apply_val_of_eq reducesTo_S1x1x1024_S1024_d0_1 i 0 2
    rw [h] at h2
    have b0 : (i 0 : ℕ) < 1 := (i 0).isLt
    have b1 : (i 1 : ℕ) < 1 := (i 1).isLt
    refine funext fun a => Fin.ext ?_
    match a with
    | ⟨0, _⟩ => show (i 0 : ℕ) = 0; omega
    | ⟨1, _⟩ => show (i 1 : ℕ) = 0; omega
    | ⟨2, _⟩ => exact h2.symm

/-- A column's sum over its unit axes is the column. -/
theorem rows_val (f : Fin 8192 → ℝ) (x : FVec Ideal S1x8192x1 .f32) (init : FVec Ideal S_ .f32)
    (hi : init (Shape.Idx.first h_S_) = FloatOps.ofBits .f32 0x00000000#32) (hx : x = col f) (j : S8192.Idx) :
    Host.reduceAdd x init reducesTo_S1x8192x1_S8192_d0_2 h_S_ j = ((f (j 0) : ℝ) : EReal) := by
  refine one_term _ h_S_ x init j (ix3 0 (j 0) 0) (funext fun a => ?_) (fun i h => ?_) _ hi (by rw [hx])
  · match a with
    | ⟨0, _⟩ => exact Fin.ext (Shape.ReducesTo.drop_apply_val_of_eq reducesTo_S1x8192x1_S8192_d0_2 _ 0 1)
  · have h2 := Shape.ReducesTo.drop_apply_val_of_eq reducesTo_S1x8192x1_S8192_d0_2 i 0 1
    rw [h] at h2
    have b0 : (i 0 : ℕ) < 1 := (i 0).isLt
    have b1 : (i 2 : ℕ) < 1 := (i 2).isLt
    refine funext fun a => Fin.ext ?_
    match a with
    | ⟨0, _⟩ => show (i 0 : ℕ) = 0; omega
    | ⟨1, _⟩ => exact h2.symm
    | ⟨2, _⟩ => show (i 2 : ℕ) = 0; omega

/-! ## The gradients of the scale and the shift -/

theorem v97_val (i : S1x1024.Idx) : val_main_v97 (F := Ideal) (arr2 A.D) (arr2 A.U) (cub A.W) i = ((A.dlb (i 1) : ℝ) : EReal) := by
  rw [val_main_v97_apply, val_main_cst_17_apply, v96_val]
  exact zero_add_sum fun k => A.dvn k (i 1)

/-- The shift's gradient. -/
theorem dlb_val : val_main_v150 (F := Ideal) (arr2 A.D) (arr2 A.U) (cub A.W) = fun i => ((A.dlb (i 1) : ℝ) : EReal) := by
  funext i
  rw [val_main_v150_apply]
  refine lanes_val A.dlb _ _ rfl (fun i => ?_) _
  rw [val_main_v98_apply, v97_val]
  have b0 : (i 0 : ℕ) < 1 := (i 0).isLt
  have b1 : (i 1 : ℕ) < 1 := (i 1).isLt
  have b2 : (i 2 : ℕ) < 1024 := (i 2).isLt
  refine congrArg (fun k => ((A.dlb k : ℝ) : EReal)) (Fin.ext ?_)
  show (((i 0).val * 1 + (i 1).val) * 1024 + (i 2).val) % 1024 = (i 2).val
  omega

theorem v101_val (i : S1x1024.Idx) : val_main_v101 (F := Ideal) (arr2 A.D) (arr2 A.U) (arr2 A.V) (cub A.W) i = ((A.dlw (i 1) : ℝ) : EReal) := by
  have h : val_main_v100 (F := Ideal) (arr2 A.D) (arr2 A.U) (arr2 A.V) (cub A.W) = arr3 fun r c => A.dvn r c * nrm (A.vg r) c := by
    funext i
    rw [val_main_v100_apply, v60_val, v96_val]
    exact (mul_comm _ _).trans (EReal.coe_mul _ _).symm
  rw [val_main_v101_apply, val_main_cst_19_apply, h]
  exact zero_add_sum fun k => A.dvn k (i 1) * nrm (A.vg k) (i 1)

/-- The scale's gradient. -/
theorem dlw_val : val_main_v151 (F := Ideal) (arr2 A.D) (arr2 A.U) (arr2 A.V) (cub A.W) = fun i => ((A.dlw (i 1) : ℝ) : EReal) := by
  funext i
  rw [val_main_v151_apply]
  refine lanes_val A.dlw _ _ rfl (fun i => ?_) _
  rw [val_main_v102_apply, v101_val]
  have b0 : (i 0 : ℕ) < 1 := (i 0).isLt
  have b1 : (i 1 : ℕ) < 1 := (i 1).isLt
  have b2 : (i 2 : ℕ) < 1024 := (i 2).isLt
  refine congrArg (fun k => ((A.dlw k : ℝ) : EReal)) (Fin.ext ?_)
  show (((i 0).val * 1 + (i 1).val) * 1024 + (i 2).val) % 1024 = (i 2).val
  omega

/-! ## The gradient of the bias -/

theorem v86_val (i : S1x128x8x128.Idx) : val_main_v86 (F := Ideal) (arr2 A.D) (arr2 A.U) i = ((A.dbs (i 2) (i 1) (i 3) : ℝ) : EReal) := by
  rw [val_main_v86_apply, val_main_cst_15_apply, v85_val]
  exact zero_add_sum fun k => A.dsv (rowAt k (i 1)) (colAt (i 2) (i 3))

/-- The entry of the array with two unit axes behind `j`. -/
def at88 (j : S128x8x128.Idx) : S1x1x128x8x128.Idx := ix5 0 0 (j 0) (j 1) (j 2)

theorem v88_val (j : S128x8x128.Idx) : val_main_v88 (F := Ideal) (arr2 A.D) (arr2 A.U) j = ((A.dbs (j 1) (j 0) (j 2) : ℝ) : EReal) := by
  refine one_term _ h_S_ _ _ j (at88 j) (funext fun a => ?_) (fun i h => ?_) _ rfl ?_
  · match a with
    | ⟨0, _⟩ => exact Fin.ext (Shape.ReducesTo.drop_apply_val_of_eq reducesTo_S1x1x128x8x128_S128x8x128_d0_1 _ 0 2)
    | ⟨1, _⟩ => exact Fin.ext (Shape.ReducesTo.drop_apply_val_of_eq reducesTo_S1x1x128x8x128_S128x8x128_d0_1 _ 1 3)
    | ⟨2, _⟩ => exact Fin.ext (Shape.ReducesTo.drop_apply_val_of_eq reducesTo_S1x1x128x8x128_S128x8x128_d0_1 _ 2 4)
  · have h2 := Shape.ReducesTo.drop_apply_val_of_eq reducesTo_S1x1x128x8x128_S128x8x128_d0_1 i 0 2
    have h3 := Shape.ReducesTo.drop_apply_val_of_eq reducesTo_S1x1x128x8x128_S128x8x128_d0_1 i 1 3
    have h4 := Shape.ReducesTo.drop_apply_val_of_eq reducesTo_S1x1x128x8x128_S128x8x128_d0_1 i 2 4
    rw [h] at h2 h3 h4
    have b0 : (i 0 : ℕ) < 1 := (i 0).isLt
    have b1 : (i 1 : ℕ) < 1 := (i 1).isLt
    refine funext fun a => Fin.ext ?_
    match a with
    | ⟨0, _⟩ => show (i 0 : ℕ) = 0; omega
    | ⟨1, _⟩ => show (i 1 : ℕ) = 0; omega
    | ⟨2, _⟩ => exact h2.symm
    | ⟨3, _⟩ => exact h3.symm
    | ⟨4, _⟩ => exact h4.symm
  · rw [val_main_v87_apply, v86_val]
    have b0 : (j 0 : ℕ) < 128 := (j 0).isLt
    have b1 : (j 1 : ℕ) < 8 := (j 1).isLt
    have b2 : (j 2 : ℕ) < 128 := (j 2).isLt
    have e1 : (idx_main_v87 (at88 j) 1 : Fin 128) = j 0 := Fin.ext (by
      show (((((0 : ℕ) * 1 + 0) * 128 + (j 0).val) * 8 + (j 1).val) * 128 + (j 2).val) / 1024 % 128 = (j 0).val
      omega)
    have e2 : (idx_main_v87 (at88 j) 2 : Fin 8) = j 1 := Fin.ext (by
      show (((((0 : ℕ) * 1 + 0) * 128 + (j 0).val) * 8 + (j 1).val) * 128 + (j 2).val) / 128 % 8 = (j 1).val
      omega)
    have e3 : (idx_main_v87 (at88 j) 3 : Fin 128) = j 2 := Fin.ext (by
      show (((((0 : ℕ) * 1 + 0) * 128 + (j 0).val) * 8 + (j 1).val) * 128 + (j 2).val) % 128 = (j 2).val
      omega)
    show ((A.dbs (idx_main_v87 (at88 j) 2 : Fin 8) (idx_main_v87 (at88 j) 1 : Fin 128)
      (idx_main_v87 (at88 j) 3 : Fin 128) : ℝ) : EReal) = _
    rw [e1, e2, e3]

/-- The bias's gradient, per lane. -/
theorem dbs_val : val_main_v89 (F := Ideal) (arr2 A.D) (arr2 A.U) = cub A.dbs := by
  funext i; rw [val_main_v89_apply, v88_val]; rfl

/-! ## The gradient of the mixing weights -/

/-- The product over the chunks and a group's lanes. -/
abbrev mixDims := dot_S8x1x64x128x128_S1x64x128x8x128_S8x128x128_123_014_4_2_0_3

theorem size91 : ∀ a : Fin 3, mixDims.contr.size a = ![1, 64, 128] a := fun a => by
  match a with
  | ⟨0, _⟩ => rfl
  | ⟨1, _⟩ => rfl
  | ⟨2, _⟩ => rfl

/-- The contraction's indices are the chunks and the lanes of a group. -/
def idx91 : mixDims.contr.Idx ≃ Fin 64 × Fin 128 where
  toFun q := ((q (1 : Fin 3)).cast (size91 1), (q (2 : Fin 3)).cast (size91 2))
  invFun p := fun a => ⟨if a.val = 1 then p.1.val else if a.val = 2 then p.2.val else 0, by
    have h1 := p.1.isLt
    have h2 := p.2.isLt
    match a with
    | ⟨0, _⟩ => exact Nat.lt_of_lt_of_eq Nat.zero_lt_one (size91 0).symm
    | ⟨1, _⟩ => exact Nat.lt_of_lt_of_eq h1 (size91 1).symm
    | ⟨2, _⟩ => exact Nat.lt_of_lt_of_eq h2 (size91 2).symm⟩
  left_inv q := funext fun a => Fin.ext (by
    match a with
    | ⟨0, h⟩ =>
      have h0 := Nat.lt_of_lt_of_eq (q ⟨0, h⟩).isLt (size91 0)
      exact (Nat.lt_one_iff.mp h0).symm
    | ⟨1, _⟩ => rfl
    | ⟨2, _⟩ => rfl)
  right_inv p := rfl

/-- The left factor's entry: group, chunk, lane and row. -/
def left91 (g : Fin 8) (k : Fin 64) (d t : Fin 128) : S8x1x64x128x128.Idx := ix5 g 0 k d t

/-- The right factor's entry: chunk, row, group and lane. -/
def right91 (k : Fin 64) (s : Fin 128) (g : Fin 8) (d : Fin 128) : S1x64x128x8x128.Idx := ix5 0 k s g d

theorem lhs91 (i : S8x128x128.Idx) (p : Fin 64 × Fin 128) : mixDims.lhsIdx i (idx91.symm p) = left91 (i 0) p.1 p.2 (i 1) := funext fun a => Fin.ext (by
  match a with
  | ⟨0, _⟩ => rfl
  | ⟨1, _⟩ => rfl
  | ⟨2, _⟩ => rfl
  | ⟨3, _⟩ => rfl
  | ⟨4, _⟩ => rfl)

theorem rhs91 (i : S8x128x128.Idx) (p : Fin 64 × Fin 128) : mixDims.rhsIdx i (idx91.symm p) = right91 p.1 (i 2) (i 0) p.2 := funext fun a => Fin.ext (by
  match a with
  | ⟨0, _⟩ => rfl
  | ⟨1, _⟩ => rfl
  | ⟨2, _⟩ => rfl
  | ⟨3, _⟩ => rfl
  | ⟨4, _⟩ => rfl)

theorem v91_val (i : S8x128x128.Idx) : val_main_v91 (F := Ideal) (arr2 A.D) (arr2 A.U) (arr2 A.V) (row A.lw) (row A.lb) i =
    ((∑ k, ∑ d, A.dsv (rowAt k (i 1)) (colAt (i 0) d) * A.vn (rowAt k (i 2)) (colAt (i 0) d) : ℝ) : EReal) := by
  unfold val_main_v91
  simp only [Host.dotGeneral]
  rw [Ideal.dotGeneral_apply, ← Equiv.sum_comp idx91.symm, ← Fintype.sum_prod_type', ← sum_fin]
  refine Finset.sum_congr rfl fun p _ => ?_
  rw [lhs91, rhs91, val_main_v90_apply, v85_val, v67_val]
  exact (EReal.coe_mul _ _).symm

/-- The mixing weights' gradient. -/
theorem dws_val : val_main_v95 (F := Ideal) (arr2 A.D) (arr2 A.U) (arr2 A.V) (row A.lw) (row A.lb) = cub A.dws := by
  funext i
  rw [val_main_v95_apply, val_main_v94_apply, val_main_v70_apply, v69_val, v91_val]
  exact (EReal.coe_mul _ _).symm.trans (congrArg ((↑) : ℝ → EReal) (masked _ _))

end Gating.Ref

end
-- ==== Proof.RefBack.lean ====
/- The reference's gradient of `v`: back through the scale, the normalisation and the activation, on arrays of real
   numbers. -/
module

public import proofs.«01_k».proof.Proof.RefSums

@[expose] public section

noncomputable section

open Idealize.ShloMosaic Idealize.ShloMosaic.TcCoe Idealize.ShloMosaic.ValueIdx Idealize.SL.Sem
open Cert.ReferenceIdeal Cert.ReferenceIdeal.Gen Cert.ReferenceIdeal.Read

namespace Gating.Ref

variable (A : Args)

theorem v104_val : val_main_v104 (F := Ideal) (arr2 A.D) (arr2 A.U) (row A.lw) (cub A.W) = arr3 A.dxh := by
  funext i
  rw [val_main_v104_apply, val_main_v103_apply, v61_val, v96_val]
  exact (EReal.coe_mul _ _).symm

theorem v110_val : val_main_v110 (F := Ideal) (arr2 A.D) (arr2 A.U) (arr2 A.V) (row A.lw) (cub A.W) =
    arr3 fun r c => A.dxh r c * rstd (A.vg r) := by
  funext i
  rw [val_main_v110_apply, val_main_v109_apply, v55_val, v104_val]
  exact (EReal.coe_mul _ _).symm

theorem v107_val : val_main_v107 (F := Ideal) (arr2 A.D) (arr2 A.U) (arr2 A.V) (row A.lw) (cub A.W) =
    arr1 fun r => ∑ c, cen (A.vg r) c * A.dxh r c := by
  have h : val_main_v106 (F := Ideal) (arr2 A.D) (arr2 A.U) (arr2 A.V) (row A.lw) (cub A.W) = arr3 fun r c => cen (A.vg r) c * A.dxh r c := by
    funext i
    rw [val_main_v106_apply, v52_val, v104_val]
    exact (EReal.coe_mul _ _).symm
  funext i
  rw [val_main_v107_apply, val_main_cst_21_apply, h]
  exact zero_add_sum fun k => cen (A.vg (i 1)) k * A.dxh (i 1) k

/-- An array of one number per row, given the unit axis. -/
theorem asCol (f : Fin 8192 → ℝ) (i : S1x8192x1.Idx) : arr1 f (idx_main_v108 i) = ((f (i 1) : ℝ) : EReal) := by
  have b0 : (i 0 : ℕ) < 1 := (i 0).isLt
  have b1 : (i 1 : ℕ) < 8192 := (i 1).isLt
  have b2 : (i 2 : ℕ) < 1 := (i 2).isLt
  refine congrArg (fun k => ((f k : ℝ) : EReal)) (Fin.ext ?_)
  show (((i 0).val * 8192 + (i 1).val) * 1 + (i 2).val) % 8192 = (i 1).val
  omega

/-- The variance's cotangent, over the number of lanes. -/
theorem v116_val : val_main_v116 (F := Ideal) (arr2 A.D) (arr2 A.U) (arr2 A.V) (row A.lw) (cub A.W) =
    col fun r => (∑ c, cen (A.vg r) c * A.dxh r c) * (-(1 / 2) * (rstd (A.vg r) / (var (A.vg r) + eps))) / 1024 := by
  funext i
  rw [val_main_v116_apply, val_main_v111_apply, val_main_v108_apply, v107_val, v58_val, val_main_v115_apply, val_main_cst_23_apply]
  rw [asCol]
  refine (congrArg (Ideal.div _) lanes_lit).trans ?_
  exact (congrArg (Ideal.div · _) (EReal.coe_mul _ _).symm).trans (div_fin _ (by norm_num))

theorem v117_val (j : S8192.Idx) : val_main_v117 (F := Ideal) (arr2 A.D) (arr2 A.U) (arr2 A.V) (row A.lw) (cub A.W) j =
    (((∑ c, cen (A.vg (j 0)) c * A.dxh (j 0) c) * (-(1 / 2) * (rstd (A.vg (j 0)) / (var (A.vg (j 0)) + eps))) / 1024 : ℝ) : EReal) :=
  rows_val (fun r => (∑ c, cen (A.vg r) c * A.dxh r c) * (-(1 / 2) * (rstd (A.vg r) / (var (A.vg r) + eps))) / 1024) _
    (val_main_cst_24 (F := Ideal)) rfl (v116_val A) j

theorem v120_val : val_main_v120 (F := Ideal) (arr2 A.D) (arr2 A.U) (arr2 A.V) (row A.lw) (cub A.W) =
    arr3 fun r c => throughVar (A.vg r) (A.dxh r) c := by
  funext i
  rw [val_main_v120_apply, val_main_v119_apply, val_main_v118_apply, v117_val, v46_val]
  exact (EReal.coe_mul _ _).symm

theorem v113_val : val_main_v113 (F := Ideal) (arr2 A.D) (arr2 A.U) (arr2 A.V) (row A.lw) (cub A.W) =
    arr1 fun r => ∑ c, -(A.dxh r c * rstd (A.vg r)) := by
  have h : val_main_v112 (F := Ideal) (arr2 A.D) (arr2 A.U) (arr2 A.V) (row A.lw) (cub A.W) = arr3 fun r c => -(A.dxh r c * rstd (A.vg r)) := by
    funext i
    rw [val_main_v112_apply, v110_val]
    exact (EReal.coe_neg _).symm
  funext i
  rw [val_main_v113_apply, val_main_cst_22_apply, h]
  exact zero_add_sum fun k => -(A.dxh (i 1) k * rstd (A.vg (i 1)))

theorem v122_val : val_main_v122 (F := Ideal) (arr2 A.D) (arr2 A.U) (arr2 A.V) (row A.lw) (cub A.W) =
    arr1 fun r => ∑ c, -throughVar (A.vg r) (A.dxh r) c := by
  have h : val_main_v121 (F := Ideal) (arr2 A.D) (arr2 A.U) (arr2 A.V) (row A.lw) (cub A.W) = arr3 fun r c => -throughVar (A.vg r) (A.dxh r) c := by
    funext i
    rw [val_main_v121_apply, v120_val]
    exact (EReal.coe_neg _).symm
  funext i
  rw [val_main_v122_apply, val_main_cst_25_apply, h]
  exact zero_add_sum fun k => -throughVar (A.vg (i 1)) (A.dxh (i 1)) k

/-- The mean's cotangent, over the number of lanes. -/
theorem v127_val : val_main_v127 (F := Ideal) (arr2 A.D) (arr2 A.U) (arr2 A.V) (row A.lw) (cub A.W) =
    col fun r => ((∑ c, -(A.dxh r c * rstd (A.vg r))) + ∑ c, -throughVar (A.vg r) (A.dxh r) c) / 1024 := by
  funext i
  rw [val_main_v127_apply, val_main_v125_apply, val_main_v114_apply, val_main_v123_apply, v113_val, v122_val, val_main_v126_apply,
    val_main_cst_26_apply]
  refine (congrArg (Ideal.div _) lanes_lit).trans ?_
  refine (congrArg (Ideal.div · _) (congrArg₂ (· + ·) (asCol _ i) (asCol _ i))).trans ?_
  exact (congrArg (Ideal.div · _) (EReal.coe_add _ _).symm).trans (div_fin _ (by norm_num))

theorem v128_val (j : S8192.Idx) : val_main_v128 (F := Ideal) (arr2 A.D) (arr2 A.U) (arr2 A.V) (row A.lw) (cub A.W) j =
    ((((∑ c, -(A.dxh (j 0) c * rstd (A.vg (j 0)))) + ∑ c, -throughVar (A.vg (j 0)) (A.dxh (j 0)) c) / 1024 : ℝ) : EReal) :=
  rows_val (fun r => ((∑ c, -(A.dxh r c * rstd (A.vg r))) + ∑ c, -throughVar (A.vg r) (A.dxh r) c) / 1024) _
    (val_main_cst_27 (F := Ideal)) rfl (v127_val A) j

/-- The gradient of the row before its normalisation. -/
theorem v131_val : val_main_v131 (F := Ideal) (arr2 A.D) (arr2 A.U) (arr2 A.V) (row A.lw) (cub A.W) =
    arr3 fun r => lnBack (A.vg r) (A.dxh r) := by
  funext i
  rw [val_main_v131_apply, val_main_v124_apply, v110_val, v120_val, val_main_v130_apply, val_main_v129_apply,
    v128_val]
  refine (congrArg (· + _) (EReal.coe_add _ _).symm).trans ((EReal.coe_add _ _).symm.trans ?_)
  exact congrArg ((↑) : ℝ → EReal) (lnBack_eq (A.vg (i 1)) (A.dxh (i 1)) (i 2))

theorem v140_val : val_main_v140 (F := Ideal) (arr2 A.D) (arr2 A.U) (arr2 A.V) (row A.lw) (cub A.W) = arr3 A.dv := by
  refine Eq.trans ?_ (pull_val A.V fun r => lnBack (A.vg r) (A.dxh r))
  rw [← v131_val]
  funext i
  rw [val_main_v140_apply, val_main_v137_apply, val_main_v136_apply, val_main_v134_apply, val_main_v132_apply, val_main_v139_apply,
    val_main_v133_apply, val_main_v135_apply, val_main_v138_apply]
  rfl

/-- The gradient of `v`. -/
theorem dv_val : val_main_v155 (F := Ideal) (arr2 A.D) (arr2 A.U) (arr2 A.V) (row A.lw) (cub A.W) =
    fun i => ((A.dv (i 0) (i 1) : ℝ) : EReal) := by
  funext i
  rw [val_main_v155_apply, val_main_v152_apply, val_main_cst_30_apply, v140_val]
  refine (zero_add_sum fun k : Fin 1 => A.dv (i 0) (i 1)).trans ?_
  rw [Fin.sum_univ_one]

end Gating.Ref

end
-- ==== Proof.Claims.lean ====
/- The claims about the backward pass of the spatial gating: the frames, the two named constants, and the equality of
   the call's six results with the gradients of the reference. -/
module

public import proofs.«01_k».proof.Defs
public import proofs.«01_k».proof.Proof.Finals
public import proofs.«01_k».proof.Proof.RefBack
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import Idealize.ShloMosaic.Lib.Quiescent

@[expose] public section

noncomputable section

open Idealize.ShloMosaic Idealize.ShloMosaic.TcCoe Idealize.ShloMosaic.ValueIdx Idealize.SL.Sem

namespace Gating.Claims

/-! ## Finite arguments are real numbers -/

instance preFacts : Cert.Pre_finite.Facts where
  bcast_S_S8192x1024 := by decide
  bcast_S_S1x1024 := by decide
  bcast_S_S8x128x128 := by decide
  bcast_S_S8x128 := by decide

/-- A value whose magnitude compares below infinity is a real number. -/
theorem real_of_mask (x : EReal) (h : Ideal.cmp .olt (max x (-x)) (Ideal.ofBits .f32 0x7F800000#32) = 1#1) :
    x = ((EReal.toReal x : ℝ) : EReal) := by
  have htop : Ideal.ofBits .f32 0x7F800000#32 = ⊤ := by simp [Ideal.ofBits, Ideal.ieee]
  rw [htop] at h
  have hm : max x (-x) < ⊤ := by
    by_contra hn
    rw [show Ideal.cmp .olt (max x (-x)) ⊤ = BitVec.ofBool (decide (max x (-x) < ⊤)) from rfl, decide_eq_false hn] at h
    exact absurd h (by decide)
  have hlt := max_lt_iff.mp hm
  refine (EReal.coe_toReal hlt.1.ne fun hb => ?_).symm
  rw [hb] at hlt
  exact absurd hlt.2 (by simp)

variable (m : (ℓ : Loc Cert.KernelIdeal.nD Cert.KernelIdeal.τ Cert.KernelIdeal.sig) → Buf (Elt Ideal) ℓ) (c : Dev Cert.KernelIdeal.nD)

open Cert.KernelIdeal in
/-- The arguments at launch, as real numbers. -/
def argsOf : Args where
  D r k := EReal.toReal (m ((c : Thread nD τ).loc main_arg0) (ix2 r k))
  U r k := EReal.toReal (m ((c : Thread nD τ).loc main_arg1) (ix2 r k))
  V r k := EReal.toReal (m ((c : Thread nD τ).loc main_arg2) (ix2 r k))
  lw k := EReal.toReal (m ((c : Thread nD τ).loc main_arg3) (ix2 0 k))
  lb k := EReal.toReal (m ((c : Thread nD τ).loc main_arg4) (ix2 0 k))
  W g t s := EReal.toReal (m ((c : Thread nD τ).loc main_arg5) (ix3 g t s))
  B g t := EReal.toReal (m ((c : Thread nD τ).loc main_arg6) (ix2 g t))

theorem two {a b : ℕ} (x : Shape.Idx ⟨2, ![a, b]⟩) : x = ix2 (x 0) (x 1) := funext fun k => by
  match k with
  | ⟨0, _⟩ => rfl
  | ⟨1, _⟩ => rfl

theorem three {a b d : ℕ} (x : Shape.Idx ⟨3, ![a, b, d]⟩) : x = ix3 (x 0) (x 1) (x 2) := funext fun k => by
  match k with
  | ⟨0, _⟩ => rfl
  | ⟨1, _⟩ => rfl
  | ⟨2, _⟩ => rfl

theorem one_row {b : ℕ} (x : Shape.Idx ⟨2, ![1, b]⟩) : x = ix2 0 (x 1) := funext fun k => by
  match k with
  | ⟨0, _⟩ =>
    have h : (x 0 : ℕ) < 1 := (x 0).isLt
    exact Fin.ext (by show (x 0 : ℕ) = 0; omega)
  | ⟨1, _⟩ => rfl

/-- An entry of a finite array, read at the index written out. -/
theorem asReal {S : Shape} (X : S.Idx → EReal) (i : S.Idx) {j : S.Idx}
    (h : Ideal.cmp .olt (max (X i) (-(X i))) (Ideal.ofBits .f32 0x7F800000#32) = 1#1) (e : i = j) :
    X i = ((EReal.toReal (X j) : ℝ) : EReal) := e ▸ real_of_mask _ h

theorem holds (h : Cert.Pre_KernelIdeal_finite m) : Arrays.Holds m c (argsOf m c) where
  D := funext fun i => asReal _ i (congrFun (h c).1 i) (two i)
  U := funext fun i => asReal _ i (congrFun (h c).2.1 i) (two i)
  V := funext fun i => asReal _ i (congrFun (h c).2.2.1 i) (two i)
  lw := funext fun i => asReal _ i (congrFun (h c).2.2.2.1 i) (one_row i)
  lb := funext fun i => asReal _ i (congrFun (h c).2.2.2.2.1 i) (one_row i)
  W := funext fun i => asReal _ i (congrFun (h c).2.2.2.2.2.1 i) (three i)
  B := funext fun i => asReal _ i (congrFun (h c).2.2.2.2.2.2 i) (two i)

/-! ## The claims -/

theorem frame_p : Cert.quiescent_Kernel := fun m ρ _ => Cert.Kernel.Gen.frame m ρ
theorem frame_pi : Cert.quiescent_KernelIdeal := fun m ρ _ => Cert.KernelIdeal.Gen.frame m ρ
theorem frame_pi_pre : Cert.quiescent_KernelIdeal_pre_finite := fun m ρ _ => Cert.KernelIdeal.Gen.frame m ρ
theorem frame_ri : Cert.quiescent_ReferenceIdeal := fun m ρ _ =>
  (θ_run Cert.ReferenceIdeal.defs _ _).mono (fun r h => ⟨fun c => (h c).2.2.2.2.2.2, sem_eq_zero_of_no_sems (by decide) r.2⟩)
    (Cert.ReferenceIdeal.Value.run (F := Ideal) m ρ)
theorem frame_ri_pre : Cert.quiescent_ReferenceIdeal_pre_finite := fun m ρ _ => frame_ri m ρ trivial

theorem preserves : Cert.preserves_Kernel_KernelIdeal :=
  ⟨IdealRules.named_const.statement Cert.KernelIdeal.κ "rsqrt_2" .f32 0x3F3504F3#32 (((Real.sqrt 2)⁻¹ : ℝ) : EReal) rfl,
    IdealRules.named_const.statement Cert.KernelIdeal.κ "rsqrt_2pi" .f32 0x3ECC422A#32 (((Real.sqrt (2 * Real.pi))⁻¹ : ℝ) : EReal) rfl⟩

section
open Cert.ReferenceIdeal Cert.ReferenceIdeal.Read Gating.Ref
variable (m' : (ℓ : Loc nD τ sig) → Buf (Elt Ideal) ℓ) (d : Dev nD) (A : Args)

/-- The reference's arguments at launch. -/
structure Agree : Prop where
  D : m' ((d : Thread nD τ).loc main_arg0) = arr2 A.D
  U : m' ((d : Thread nD τ).loc main_arg1) = arr2 A.U
  V : m' ((d : Thread nD τ).loc main_arg2) = arr2 A.V
  lw : m' ((d : Thread nD τ).loc main_arg3) = row A.lw
  lb : m' ((d : Thread nD τ).loc main_arg4) = row A.lb
  W : m' ((d : Thread nD τ).loc main_arg5) = cub A.W
  B : m' ((d : Thread nD τ).loc main_arg6) = bia A.B

/-- What the reference leaves in its six results. -/
theorem ref_run (hA : ∀ d, Agree m' d A) (g' : Dev nD → PrngReg) :
    θ_run defs (onTc (τ := τ) (main (F := Ideal))) ⟨m', fun _ => 0, g'⟩ fun r => ∀ d : Dev nD,
      r.2.mem ((d.tc : Thread nD τ).loc main_v154) = arr2 A.du
      ∧ r.2.mem ((d.tc : Thread nD τ).loc main_v155) = arr2 A.dv
      ∧ r.2.mem ((d.tc : Thread nD τ).loc main_v95) = cub A.dws
      ∧ r.2.mem ((d.tc : Thread nD τ).loc main_v89) = cub A.dbs
      ∧ r.2.mem ((d.tc : Thread nD τ).loc main_v151) = row A.dlw
      ∧ r.2.mem ((d.tc : Thread nD τ).loc main_v150) = row A.dlb
      ∧ r.2.mem ((d.tc : Thread nD τ).loc main_arg0) = m' ((d.tc : Thread nD τ).loc main_arg0)
      ∧ r.2.mem ((d.tc : Thread nD τ).loc main_arg1) = m' ((d.tc : Thread nD τ).loc main_arg1)
      ∧ r.2.mem ((d.tc : Thread nD τ).loc main_arg2) = m' ((d.tc : Thread nD τ).loc main_arg2)
      ∧ r.2.mem ((d.tc : Thread nD τ).loc main_arg3) = m' ((d.tc : Thread nD τ).loc main_arg3)
      ∧ r.2.mem ((d.tc : Thread nD τ).loc main_arg4) = m' ((d.tc : Thread nD τ).loc main_arg4)
      ∧ r.2.mem ((d.tc : Thread nD τ).loc main_arg5) = m' ((d.tc : Thread nD τ).loc main_arg5)
      ∧ r.2.mem ((d.tc : Thread nD τ).loc main_arg6) = m' ((d.tc : Thread nD τ).loc main_arg6) := by
  refine (θ_run defs _ _).mono (fun r h d => ?_) (Cert.ReferenceIdeal.Value.run (F := Ideal) m' g')
  obtain ⟨h0, h1, h2, h3, h4, h5, hk⟩ := h d
  have e0 : StableHlo.launchContents m' d (Proc.devRef .tc main_arg0) = arr2 A.D := (hA d).D
  have e1 : StableHlo.launchContents m' d (Proc.devRef .tc main_arg1) = arr2 A.U := (hA d).U
  have e2 : StableHlo.launchContents m' d (Proc.devRef .tc main_arg2) = arr2 A.V := (hA d).V
  have e3 : StableHlo.launchContents m' d (Proc.devRef .tc main_arg3) = row A.lw := (hA d).lw
  have e4 : StableHlo.launchContents m' d (Proc.devRef .tc main_arg4) = row A.lb := (hA d).lb
  have e5 : StableHlo.launchContents m' d (Proc.devRef .tc main_arg5) = cub A.W := (hA d).W
  have e6 : StableHlo.launchContents m' d (Proc.devRef .tc main_arg6) = bia A.B := (hA d).B
  refine ⟨h0.trans ((val_main_v154_eq _).trans ?_), h1.trans ((val_main_v155_eq _).trans ?_), h2.trans ((val_main_v95_eq _).trans ?_),
    h3.trans ((val_main_v89_eq _).trans ?_), h4.trans ((val_main_v151_eq _).trans ?_), h5.trans ((val_main_v150_eq _).trans ?_), hk⟩
  · rw [e0, e1, e2, e3, e4, e5, e6]; exact du_val A
  · rw [e0, e1, e2, e3, e5]; exact dv_val A
  · rw [e0, e1, e2, e3, e4]; exact dws_val A
  · rw [e0, e1]; exact dbs_val A
  · rw [e0, e1, e2, e5]; exact dlw_val A
  · rw [e0, e1, e5]; exact dlb_val A

end

/-- The call's six results are the reference's gradients. -/
theorem algebraic : Cert.algebraic_KernelIdeal_ReferenceIdeal_pre_finite := by
  intro m g m' g' hpre hagree
  have hH : ∀ c, Arrays.Holds m c (argsOf m c) := fun c => holds m c hpre
  have h1 : ∀ c : Dev Cert.KernelIdeal.nD, c = 0 := fun c => Subsingleton.elim _ _
  have hk := Cert.KernelIdeal.Value.run_blocks (F := Ideal) m g
  refine ⟨fun _ => Arrays.whole (argsOf m 0).du, fun _ => Arrays.whole (argsOf m 0).dv, fun _ => Squares.cube (argsOf m 0).dws,
    fun _ => Squares.cube (argsOf m 0).dbs, fun _ => Rows.upRow (argsOf m 0).dlw, fun _ => Rows.upRow (argsOf m 0).dlb, ?_, ?_⟩
  · refine (θ_run Cert.KernelIdeal.defs _ _).mono (fun r h c => ?_) hk
    obtain rfl := h1 c
    obtain ⟨a0, a1, a2, a3, a4, a5, ha⟩ := h 0
    exact ⟨a0.trans (Arrays.final7 m 0 _ (hH 0)), a1.trans (Arrays.final8 m 0 _ (hH 0)), a2.trans (Arrays.final9 m 0 _ (hH 0)),
      a3.trans (Arrays.final10 m 0 _ (hH 0)), a4.trans (Arrays.final11 m 0 _ (hH 0)), a5.trans (Arrays.final12 m 0 _ (hH 0)), ha⟩
  · refine ref_run m' (argsOf m 0) (fun d => ?_) g'
    obtain rfl : d = 0 := Subsingleton.elim _ _
    obtain ⟨b0, b1, b2, b3, b4, b5, b6⟩ := hagree 0
    exact ⟨b0.trans (hH 0).D, b1.trans (hH 0).U, b2.trans (hH 0).V, b3.trans (hH 0).lw, b4.trans (hH 0).lb, b5.trans (hH 0).W,
      b6.trans (hH 0).B⟩

end Gating.Claims

end
-- ==== Proof.Dense.lean ====
/- Products of matrices, read at an entry as a sum over the one contracted axis. -/
module

public import Idealize.ShloMosaic.Lib.ValueIdx
public import Idealize.ShloMosaic.PureOps.Ideal.Laws

@[expose] public section

noncomputable section

open Idealize.ShloMosaic Idealize.ShloMosaic.ValueIdx

namespace Dense

/-- A sum of products over a contraction of one axis is a sum over that axis, the factors read at its coordinate. -/
theorem sum_axis {sl sr so : Shape} (d : DotDims sl sr so) (n : ℕ) (hr : d.contr.rank = 1) (hs : d.contr.size ⟨0, by omega⟩ = n)
    (x : sl.Idx → EReal) (y : sr.Idx → EReal) (i : so.Idx) (l : Fin n → sl.Idx) (r : Fin n → sr.Idx)
    (hl : ∀ k, d.lhsIdx i ((contrEquiv1 d n hr hs).symm k) = l k) (hr' : ∀ k, d.rhsIdx i ((contrEquiv1 d n hr hs).symm k) = r k) :
    ∑ q, x (d.lhsIdx i q) * y (d.rhsIdx i q) = ∑ k, x (l k) * y (r k) := by
  rw [← Equiv.sum_comp (contrEquiv1 d n hr hs).symm]
  exact Finset.sum_congr rfl fun k _ => by rw [hl k, hr' k]

/-- A product read at an entry, over its one contracted axis. -/
theorem matmul_axis {sl sr so : Shape} {φ₁ φ₂ : FTy} (d : DotDims sl sr so) (n : ℕ) (hr : d.contr.rank = 1) (hs : d.contr.size ⟨0, by omega⟩ = n)
    (x : FVec Ideal sl φ₁) (y : FVec Ideal sr φ₂) (i : so.Idx) (l : Fin n → sl.Idx) (r : Fin n → sr.Idx)
    (hl : ∀ k, d.lhsIdx i ((contrEquiv1 d n hr hs).symm k) = l k) (hr' : ∀ k, d.rhsIdx i ((contrEquiv1 d n hr hs).symm k) = r k) :
    matmul d none x y (constant so .f32 0x00000000#32) i = ∑ k, (x (l k) : EReal) * (y (r k) : EReal) :=
  (Ideal.matmul_constant_zero_apply d none x y i).trans (sum_axis d n hr hs x y i l r hl hr')

/-- The same of the host's product. -/
theorem dot_axis {sl sr so : Shape} {φ₁ φ₂ : FTy} (d : DotDims sl sr so) (n : ℕ) (hr : d.contr.rank = 1) (hs : d.contr.size ⟨0, by omega⟩ = n)
    (x : FVec Ideal sl φ₁) (y : FVec Ideal sr φ₂) (i : so.Idx) (l : Fin n → sl.Idx) (r : Fin n → sr.Idx)
    (hl : ∀ k, d.lhsIdx i ((contrEquiv1 d n hr hs).symm k) = l k) (hr' : ∀ k, d.rhsIdx i ((contrEquiv1 d n hr hs).symm k) = r k) :
    Host.dotGeneral d none x y i = ∑ k, (x (l k) : EReal) * (y (r k) : EReal) := by
  simp only [Host.dotGeneral]
  exact (Ideal.dotGeneral_apply d none _ x y i).trans (sum_axis d n hr hs x y i l r hl hr')

/-- Row `k` of block `T` of 512 rows. -/
def row (T : ℕ) (k : Fin 512) : Fin 8192 := ⟨(512 * T + k.val) % 8192, Nat.mod_lt _ (by decide)⟩

theorem zero2 : (![0, 0] : Fin 2 → ℕ) = fun _ => 0 := funext fun a => by fin_cases a <;> rfl

/-- Every place of an array of 8192 rows lies in the block of 512 rows that its row names. -/
theorem in_rows {N : ℕ} (i : Shape.Idx ⟨2, ![8192, N]⟩) (off size : Fin 2 → ℕ) (h0 : off 0 = (i 0).val / 512 * 512) (s0 : size 0 = 512)
    (h1 : off 1 = 0) (s1 : size 1 = N) (a : Fin 2) : off a ≤ (i a).val ∧ (i a).val < off a + size a := by
  match a with
  | ⟨0, _⟩ => show off 0 ≤ (i 0).val ∧ (i 0).val < off 0 + size 0; rw [h0, s0]; omega
  | ⟨1, _⟩ =>
    have h : (i 1).val < N := (i 1).isLt
    show off 1 ≤ (i 1).val ∧ (i 1).val < off 1 + size 1; rw [h1, s1]; omega

/-- The logistic function as both programs write it. -/
def sg (a : EReal) : EReal := Ideal.div (Ideal.ofBits .f32 0x3F800000#32) (Ideal.ofBits .f32 0x3F800000#32 + Ideal.exp (-a))

/-- With the sign taken by a subtraction from zero. -/
theorem sg_sub (a : EReal) : Ideal.div (Ideal.ofBits .f32 0x3F800000#32) (Ideal.ofBits .f32 0x3F800000#32 + Ideal.exp (Ideal.ofBits .f32 0x00000000#32 - a)) = sg a := by
  rw [Ideal.ofBits_zero_f32, zero_sub]; rfl

end Dense

end
-- ==== Proof.WeightGrad.lean ====
/- The gradient of a product by its weights, `ctᵀ x`: the call adds one product of 1024 rows per grid point into a
   scratch array and writes it back at the last point. -/
module

public import proofs.«01_k».proof.Defs
public import proofs.«01_k».proof.Proof.Gen.WeightGrad.Frame
public import proofs.«01_k».proof.Proof.Gen.WeightGradIdeal.Value
public import proofs.«01_k».proof.Proof.Gen.WeightGradReferenceIdeal.Run
public import Idealize.ShloMosaic.Lib.Pipeline.ReadBack
public import Idealize.ShloMosaic.Lib.Quiescent
public import Idealize.ShloMosaic.Lib.ValueIdx
public import proofs.«01_k».proof.Proof.Dense
public import Idealize.ShloMosaic.Lib.Claim

@[expose] public section

set_option maxRecDepth 16384

noncomputable section

open Idealize.ShloMosaic Idealize.ShloMosaic.TcCoe Idealize.ShloMosaic.ValueIdx Idealize.SL.Sem

namespace WeightGrad

/-- Row `k` of block `T` of 1024 rows. -/
def row (T : ℕ) (k : Fin 1024) : Fin 8192 := ⟨(1024 * T + k.val) % 8192, Nat.mod_lt _ (by decide)⟩

/-- The sum over eight blocks of rows is the sum over the rows. -/
theorem row_sum (f : Fin 8192 → EReal) : ∑ T ∈ Finset.range 8, ∑ k, f (row T k) = ∑ r, f r := by
  rw [Finset.sum_range, ← Fintype.sum_prod_type' (fun (T : Fin 8) k => f (row T.val k))]
  refine Fintype.sum_equiv finProdFinEquiv _ (fun r : Fin (8 * 1024) => f r) fun p => congrArg f (Fin.ext ?_)
  have h1 := p.1.isLt
  have h2 := p.2.isLt
  show (1024 * p.1.val + p.2.val) % 8192 = p.2.val + 1024 * p.1.val
  omega

section
open Cert.WeightGradIdeal Cert.WeightGradIdeal.Gen

theorem zero2 : (![0, 0] : Fin 2 → ℕ) = fun _ => 0 := funext fun a => by fin_cases a <;> rfl

/-- One block's product added to what was there. -/
theorem pay2_val (acc : Vec Ideal S2816x1024 .f32) (x : Vec Ideal S1024x2816 .bf16) (y : Vec Ideal S1024x1024 .bf16) (i : S2816x1024.Idx) :
    k0_pay2 (F := Ideal) acc x y i = acc i + ∑ k : Fin 1024, (x (ix2 k (i 0)) : EReal) * (y (ix2 k (i 1)) : EReal) := by
  refine (show k0_pay2 (F := Ideal) acc x y = shapeCast S2816x1024 (addf acc (matmul dot_S1024x2816_S1024x1024_S2816x1024_0_0_1_1_n_n none x y
    (constant S2816x1024 .f32 0x00000000#32))) shapeCasts_S2816x1024_S2816x1024 from rfl) ▸ ?_
  rw [shapeCast_self]
  refine congrArg (acc i + ·) ?_
  refine Dense.matmul_axis dot_S1024x2816_S1024x1024_S2816x1024_0_0_1_1_n_n 1024 rfl rfl x y i (fun k => ix2 k (i 0)) (fun k => ix2 k (i 1))
    (fun k => funext fun a => Fin.ext ?_) fun k => funext fun a => Fin.ext ?_
  · match a with
    | ⟨0, _⟩ => rfl
    | ⟨1, _⟩ => rfl
  · match a with
    | ⟨0, _⟩ => rfl
    | ⟨1, _⟩ => rfl

theorem pay1_val (i : S2816x1024.Idx) : k0_pay1 (F := Ideal) i = (0 : EReal) := by
  refine (show k0_pay1 (F := Ideal) = shapeCast S2816x1024 (broadcast S2816x1024 (Scalar.ofBits (F := Ideal) .f32 0x00000000#32)) shapeCasts_S2816x1024_S2816x1024 from rfl) ▸ ?_
  rw [shapeCast_self]
  exact Ideal.ofBits_zero_f32

section
variable (c : Dev nD) (i : grid0.Coords) (a2 : Memref sig .tc .vmem S1024x2816 .bf16) (h2 : a2.IsWhole)
  (a3 : Memref sig .tc .vmem S1024x1024 .bf16) (h3 : a3.IsWhole) (a4 : Memref sig .tc .vmem S2816x1024 .bf16) (h4 : a4.IsWhole)
  (a5 : Memref sig .tc .vmem S2816x1024 .f32) (h5 : a5.IsWhole)
  (x : Vec Ideal S1024x2816 .bf16) (y : Vec Ideal S1024x1024 .bf16) (z : Vec Ideal S2816x1024 .f32)

theorem ld_x (h) : View.ld x (Rect.unit ![0, 0] ![1024, 2816] h : Rect S1024x2816) = x := View.ld_unit_zero (S := S1024x2816) zero2 _ _
theorem ld_y (h) : View.ld y (Rect.unit ![0, 0] ![1024, 1024] h : Rect S1024x1024) = y := View.ld_unit_zero (S := S1024x1024) zero2 _ _
theorem ld_z (h) : View.ld z (Rect.unit ![0, 0] ![2816, 1024] h : Rect S2816x1024) = z := View.ld_unit_zero (S := S2816x1024) zero2 _ _
theorem readCov_z (v : View sig .tc .vmem S2816x1024 .f32) (h) (L) (r : Rect S2816x1024) :
    v.readCov ((⟨Rect.unit ![0, 0] ![2816, 1024] h, z⟩ : View.Piece (Elt Ideal) S2816x1024 .f32) :: L) r.toLoadRect = View.ld z r :=
  View.readCov_fill v h z L r fun a => by match a with | ⟨0, _⟩ => rfl | ⟨1, _⟩ => rfl

/-- The first point leaves its product, added to zero. -/
theorem scratch_A (c0 : cond0_0 i) (c1 : ¬cond0_1 i) :
    sout0_A_0 c i a2 h2 a3 h3 a4 h4 a5 h5 c0 c1 x y = k0_pay2 (F := Ideal) (k0_pay1 (F := Ideal)) x y := by
  unfold sout0_A_0
  rw [View.read_writes_junk_eq_canon]
  unfold kernelRun0_A; dsimp only; sl_unfold_words
  simp only [View.readAt_eq_ld, Memref.IsWhole.read_unread, readCov_z, ld_x, ld_y, ld_z]
  exact View.canon_cons_unit_zero (S := S2816x1024) zero2 _ _ _

/-- A point in between adds its product. -/
theorem scratch_B (c0 : ¬cond0_0 i) (c1 : ¬cond0_1 i) :
    sout0_B_0 c i a2 h2 a3 h3 a4 h4 a5 h5 c0 c1 x y z = k0_pay2 (F := Ideal) z x y := by
  unfold sout0_B_0
  rw [View.read_writes_junk_eq_canon]
  unfold kernelRun0_B; dsimp only; sl_unfold_words
  simp only [View.readAt_eq_ld, Memref.IsWhole.read_unread, readCov_z, ld_x, ld_y, ld_z]
  exact View.canon_cons_unit_zero (S := S2816x1024) zero2 _ _ _

/-- The last point adds its product and hands the sum out. -/
theorem out_C (c0 : ¬cond0_0 i) (c1 : cond0_1 i) :
    out0_C_2 c i a2 h2 a3 h3 a4 h4 a5 h5 c0 c1 x y z = k0_pay3 (F := Ideal) (k0_pay2 (F := Ideal) z x y) := by
  unfold out0_C_2
  rw [View.read_writes_junk_eq_canon]
  unfold kernelRun0_C; dsimp only; sl_unfold_words
  simp only [View.readAt_eq_ld, Memref.IsWhole.read_unread, readCov_z, ld_x, ld_y, ld_z]
  exact View.canon_cons_unit_zero (S := S2816x1024) zero2 _ _ _

end

variable (m : (ℓ : Loc nD τ sig) → Buf (Elt Ideal) ℓ) (c : Dev nD)

/-- The product's arguments at launch. -/
abbrev ct : S8192x2816.Idx → EReal := m ((c : Thread nD τ).loc main_arg0)
abbrev arg : S8192x1024.Idx → EReal := m ((c : Thread nD τ).loc main_arg1)

theorem at0 : ∀ t : Fin cfg0.N, win0_0.index t 0 = t.val ∧ win0_0.index t 1 = 0 :=
  (by decide +kernel : ∀ t : Fin grid0.N, win0_0.index t 0 = t.val ∧ win0_0.index t 1 = 0)
theorem at1 : ∀ t : Fin cfg0.N, win0_1.index t 0 = t.val ∧ win0_1.index t 1 = 0 :=
  (by decide +kernel : ∀ t : Fin grid0.N, win0_1.index t 0 = t.val ∧ win0_1.index t 1 = 0)

theorem lt8 (t : Fin cfg0.N) : t.val < 8 := Nat.lt_of_lt_of_eq t.isLt N_0

theorem block_ct (t : Fin cfg0.N) (k : Fin 1024) (j : Fin 2816) :
    (iblk m c 0 t : Vec Ideal S1024x2816 .bf16) (ix2 k j) = ct m c (ix2 (row t.val k) j) := by
  have ht := lt8 t
  have hk := k.isLt
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1024 + 1 * k.val = (1024 * t.val + k.val) % 8192; rw [(at0 t).1]; omega
  | ⟨1, _⟩ => show win0_0.index t 1 * 2816 + 1 * j.val = j.val; rw [(at0 t).2]; omega

theorem block_arg (t : Fin cfg0.N) (k : Fin 1024) (j : Fin 1024) :
    (iblk m c 1 t : Vec Ideal S1024x1024 .bf16) (ix2 k j) = arg m c (ix2 (row t.val k) j) := by
  have ht := lt8 t
  have hk := k.isLt
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 1024 + 1 * k.val = (1024 * t.val + k.val) % 8192; rw [(at1 t).1]; omega
  | ⟨1, _⟩ => show win0_1.index t 1 * 1024 + 1 * j.val = j.val; rw [(at1 t).2]; omega

/-- The product over the first `n` blocks of rows. -/
def upTo (n : ℕ) : S2816x1024.Idx → EReal := fun i =>
  ∑ T ∈ Finset.range n, ∑ k : Fin 1024, ct m c (ix2 (row T k) (i 0)) * arg m c (ix2 (row T k) (i 1))

/-- A point's product on top of those before it. -/
theorem step_val (t : Fin cfg0.N) (z : Vec Ideal S2816x1024 .f32) (hz : z = upTo m c t.val) :
    k0_pay2 (F := Ideal) z (iblk m c 0 t) (iblk m c 1 t) = upTo m c (t.val + 1) := by
  funext i
  refine (pay2_val z _ _ i).trans ?_
  rw [hz]
  refine Eq.trans ?_ (Finset.sum_range_succ _ _).symm
  refine congrArg (upTo m c t.val i + ·) (Finset.sum_congr rfl fun k _ => ?_)
  exact congrArg₂ (fun a b : EReal => a * b) (block_ct m c t k _) (block_arg m c t k _)

theorem after_A (t : Fin cfg0.N) (h0 : t.val % 8 = 0) (h1 : ¬t.val % 8 = 7) :
    (outsAt0 m c t.val t.isLt).2 = k0_pay2 (F := Ideal) (k0_pay1 (F := Ideal)) (iblk m c 0 t) (iblk m c 1 t) := by
  rw [outsAt0_A m c t h0 h1]
  dsimp only
  have h := scratch_A c (grid0.coords t) (ms0_0 t) (hs0_0 t) (ms0_1 t) (hs0_1 t) (ms0_2 t) (hs0_2 t) scM0_0 (Memref.isWhole_whole _)
    (iblk m c 0 t) (iblk m c 1 t) ((hcond0_0 t).mpr h0) (fun h => h1 ((hcond0_1 t).mp h))
  exact h
theorem after_B (t : Fin cfg0.N) (h0 : ¬t.val % 8 = 0) (h1 : ¬t.val % 8 = 7) :
    (outsAt0 m c t.val t.isLt).2 = k0_pay2 (F := Ideal) (outsAt0 m c (t.val - 1) (Nat.lt_of_le_of_lt (Nat.sub_le _ _) t.isLt)).2 (iblk m c 0 t) (iblk m c 1 t) := by
  rw [outsAt0_B m c t h0 h1]
  dsimp only
  have h := scratch_B c (grid0.coords t) (ms0_0 t) (hs0_0 t) (ms0_1 t) (hs0_1 t) (ms0_2 t) (hs0_2 t) scM0_0 (Memref.isWhole_whole _)
    (iblk m c 0 t) (iblk m c 1 t) (outsAt0 m c (t.val - 1) (Nat.lt_of_le_of_lt (Nat.sub_le _ _) t.isLt)).2
    (fun h => h0 ((hcond0_0 t).mp h)) (fun h => h1 ((hcond0_1 t).mp h))
  exact h
theorem after_C (t : Fin cfg0.N) (h0 : ¬t.val % 8 = 0) (h1 : t.val % 8 = 7) :
    (outsAt0 m c t.val t.isLt).1 = k0_pay3 (F := Ideal) (k0_pay2 (F := Ideal) (outsAt0 m c (t.val - 1) (Nat.lt_of_le_of_lt (Nat.sub_le _ _) t.isLt)).2 (iblk m c 0 t) (iblk m c 1 t)) := by
  rw [outsAt0_C m c t h0 h1]
  dsimp only
  have h := out_C c (grid0.coords t) (ms0_0 t) (hs0_0 t) (ms0_1 t) (hs0_1 t) (ms0_2 t) (hs0_2 t) scM0_0 (Memref.isWhole_whole _)
    (iblk m c 0 t) (iblk m c 1 t) (outsAt0 m c (t.val - 1) (Nat.lt_of_le_of_lt (Nat.sub_le _ _) t.isLt)).2
    (fun h => h0 ((hcond0_0 t).mp h)) ((hcond0_1 t).mpr h1)
  exact h

/-- The scratch after point `n`, before the last. -/
theorem scratch_eq : ∀ (n : ℕ) (hn : n < cfg0.N), n < 7 → (outsAt0 m c n hn).2 = upTo m c (n + 1)
  | 0, hn, _ => by
    refine (after_A m c ⟨0, hn⟩ rfl (by show ¬ 0 % 8 = 7; decide)).trans (step_val m c ⟨0, hn⟩ _ ?_)
    funext i
    exact (pay1_val i).trans (Finset.sum_range_zero _).symm
  | n + 1, hn, h7 => by
    exact (after_B m c ⟨n + 1, hn⟩ (by show ¬ (n + 1) % 8 = 0; omega) (by show ¬ (n + 1) % 8 = 7; omega)).trans (step_val m c ⟨n + 1, hn⟩ _ (scratch_eq n (Nat.lt_of_succ_lt hn) (by omega)))

/-- The product of the whole arrays. -/
def product (X : S8192x2816.Idx → EReal) (Y : S8192x1024.Idx → EReal) : S2816x1024.Idx → EReal := fun i =>
  ∑ r : Fin 8192, X (ix2 r (i 0)) * Y (ix2 r (i 1))

/-- What the last point writes back. -/
theorem last (hn : 7 < cfg0.N) : (outsAt0 m c 7 hn).1 = product (ct m c) (arg m c) := by
  refine (after_C m c ⟨7, hn⟩ (by show ¬ 7 % 8 = 0; decide) rfl).trans ?_
  refine (show k0_pay3 (F := Ideal) _ = _ from rfl).trans ((step_val m c ⟨7, hn⟩ _ (scratch_eq m c 6 _ (by decide))).trans ?_)
  funext i
  exact row_sum fun r => ct m c (ix2 r (i 0)) * arg m c (ix2 r (i 1))

theorem final : Value.G2 m c = product (ct m c) (arg m c) := by
  have hn : 7 < cfg0.N := lt_of_lt_of_eq (by decide) N_0.symm
  refine (Value.G2_last m c).trans ?_
  rw [← Value.outsAt0_sweep m c 7 hn]
  exact last m c hn

end

/-! ## The claims -/

section
open Cert.WeightGradReferenceIdeal Cert.WeightGradReferenceIdeal.Facts₀

/-- Turning a matrix over twice gives it back. -/
theorem over_twice (P : FVec Ideal S2816x1024 .f32) : truncf .bf16 (transpose S2816x1024 [1, 0] (transpose S1024x2816 [1, 0] P
    transposes_S2816x1024_S1024x2816_1_0) transposes_S1024x2816_S2816x1024_1_0) bitsLt_bf16_f32 = P := by
  funext i
  show transpose S2816x1024 [1, 0] (transpose S1024x2816 [1, 0] P transposes_S2816x1024_S1024x2816_1_0) transposes_S1024x2816_S2816x1024_1_0 i = P i
  refine (transpose_apply [1, 0] _ transposes_S1024x2816_S2816x1024_1_0 i (ix2 (i 1) (i 0)) fun b => by match b with | ⟨0, _⟩ => rfl | ⟨1, _⟩ => rfl).trans ?_
  exact transpose_apply [1, 0] P transposes_S2816x1024_S1024x2816_1_0 (ix2 (i 1) (i 0)) i fun b => by match b with | ⟨0, _⟩ => rfl | ⟨1, _⟩ => rfl

/-- The reference's product. -/
theorem ref_val (X : FVec Ideal S8192x2816 .bf16) (Y : FVec Ideal S8192x1024 .bf16) :
    truncf .bf16 (transpose S2816x1024 [1, 0] (transpose S1024x2816 [1, 0] (Host.dotGeneral dot_S8192x2816_S8192x1024_S2816x1024_0_0_1_1_n_n none
      (extf .f32 X bitsLt_bf16_f32) (extf .f32 Y bitsLt_bf16_f32))
        transposes_S2816x1024_S1024x2816_1_0) transposes_S1024x2816_S2816x1024_1_0) bitsLt_bf16_f32 = product X Y := by
  refine (over_twice _).trans (funext fun i => ?_)
  refine Dense.dot_axis dot_S8192x2816_S8192x1024_S2816x1024_0_0_1_1_n_n 8192 rfl rfl (extf .f32 X bitsLt_bf16_f32)
    (extf .f32 Y bitsLt_bf16_f32) i (fun k => ix2 k (i 0)) (fun k => ix2 k (i 1)) (fun k => funext fun a => Fin.ext ?_) fun k => funext fun a => Fin.ext ?_
  · match a with
    | ⟨0, _⟩ => rfl
    | ⟨1, _⟩ => rfl
  · match a with
    | ⟨0, _⟩ => rfl
    | ⟨1, _⟩ => rfl

end

theorem frame_p : Cert.quiescent_WeightGrad := fun m ρ _ => Cert.WeightGrad.Gen.frame m ρ
theorem frame_pi : Cert.quiescent_WeightGradIdeal := fun m ρ _ => Cert.WeightGradIdeal.Gen.frame m ρ
theorem frame_ri : Cert.quiescent_WeightGradReferenceIdeal := fun m ρ _ =>
  (θ_run Cert.WeightGradReferenceIdeal.defs _ _).mono (fun r h => ⟨fun c => (h c).2, sem_eq_zero_of_no_sems (by decide) r.2⟩)
    (Cert.WeightGradReferenceIdeal.Value.run (F := Ideal) m ρ)
theorem preserves : Cert.preserves_WeightGrad_WeightGradIdeal := trivial

/-- The call's result is the reference's gradient. -/
theorem algebraic : Cert.algebraic_WeightGradIdeal_WeightGradReferenceIdeal := by
  intro m g m' g' _ hagree
  refine ⟨fun c => product (ct m c) (arg m c), ?_, ?_⟩
  · exact (θ_run Cert.WeightGradIdeal.defs _ _).mono (fun r h c => ⟨(h c).1.trans (final m c), (h c).2⟩) (Cert.WeightGradIdeal.Value.run (F := Ideal) m g)
  · refine (θ_run Cert.WeightGradReferenceIdeal.defs _ _).mono (fun r h c => ⟨(h c).1.trans ?_, (h c).2⟩)
      (Cert.WeightGradReferenceIdeal.Value.run (F := Ideal) m' g')
    rw [(hagree c).1, (hagree c).2]
    exact ref_val _ _

end WeightGrad

end
-- ==== Proof.InputGrad.lean ====
/- The gradient by the input of two products with one input: `da wg + db wu`, 512 rows per grid point. -/
module

public import proofs.«01_k».proof.Defs
public import proofs.«01_k».proof.Proof.Dense
public import proofs.«01_k».proof.Proof.Gen.InputGrad.Frame
public import proofs.«01_k».proof.Proof.Gen.InputGradIdeal.Value
public import proofs.«01_k».proof.Proof.Gen.InputGradReferenceIdeal.Run
public import Idealize.ShloMosaic.Lib.Pipeline.ReadBack
public import Idealize.ShloMosaic.Lib.Quiescent
public import Idealize.ShloMosaic.Lib.Claim

@[expose] public section

set_option maxRecDepth 16384

noncomputable section

open Idealize.ShloMosaic Idealize.ShloMosaic.TcCoe Idealize.ShloMosaic.ValueIdx Idealize.SL.Sem

namespace InputGrad

section
open Cert.InputGradIdeal Cert.InputGradIdeal.Gen

/-- The gradient, entry by entry. -/
def total (X Y : S8192x2816.Idx → EReal) (U W : S2816x1024.Idx → EReal) : S8192x1024.Idx → EReal := fun i =>
  (∑ k : Fin 2816, X (ix2 (i 0) k) * U (ix2 k (i 1))) + ∑ k : Fin 2816, Y (ix2 (i 0) k) * W (ix2 k (i 1))

/-- A block's product at an entry. -/
theorem mm_val (x : FVec Ideal S512x2816 .bf16) (u : FVec Ideal S2816x1024 .bf16) (i : S512x1024.Idx) :
    matmul dot_S512x2816_S2816x1024_S512x1024_1_0_0_1_n_n none x u (constant S512x1024 .f32 0x00000000#32) i =
      ∑ k : Fin 2816, (x (ix2 (i 0) k) : EReal) * (u (ix2 k (i 1)) : EReal) := by
  refine Dense.matmul_axis dot_S512x2816_S2816x1024_S512x1024_1_0_0_1_n_n 2816 rfl rfl x u i (fun k => ix2 (i 0) k) (fun k => ix2 k (i 1))
    (fun k => funext fun a => Fin.ext ?_) fun k => funext fun a => Fin.ext ?_
  · match a with
    | ⟨0, _⟩ => rfl
    | ⟨1, _⟩ => rfl
  · match a with
    | ⟨0, _⟩ => rfl
    | ⟨1, _⟩ => rfl

/-- What a point leaves: both products of its blocks, added. -/
theorem out_val (x y : Vec Ideal S512x2816 .bf16) (u w : Vec Ideal S2816x1024 .bf16) (i : S512x1024.Idx) :
    out0_4 (F := Ideal) x y u w i = ((∑ k : Fin 2816, (x (ix2 (i 0) k) : EReal) * (u (ix2 k (i 1)) : EReal)) +
      ∑ k : Fin 2816, (y (ix2 (i 0) k) : EReal) * (w (ix2 k (i 1)) : EReal) : EReal) := by
  unfold out0_4
  rw [View.canon_unit_zero (S := S512x1024) Dense.zero2, View.ld_unit_zero (S := S2816x1024) Dense.zero2, View.ld_unit_zero (S := S512x2816) Dense.zero2,
    View.ld_unit_zero (S := S2816x1024) Dense.zero2, View.ld_unit_zero (S := S512x2816) Dense.zero2]
  exact congrArg₂ (fun a b : EReal => a + b) (mm_val x u i) (mm_val y w i)

variable (m : (ℓ : Loc nD τ sig) → Buf (Elt Ideal) ℓ) (c : Dev nD)

/-- The call's arguments at launch. -/
abbrev da : S8192x2816.Idx → EReal := m ((c : Thread nD τ).loc main_arg0)
abbrev db : S8192x2816.Idx → EReal := m ((c : Thread nD τ).loc main_arg1)
abbrev wg : S2816x1024.Idx → EReal := m ((c : Thread nD τ).loc main_arg2)
abbrev wu : S2816x1024.Idx → EReal := m ((c : Thread nD τ).loc main_arg3)

theorem at0 : ∀ t : Fin cfg0.N, win0_0.index t 0 = t.val ∧ win0_0.index t 1 = 0 :=
  (by decide +kernel : ∀ t : Fin grid0.N, win0_0.index t 0 = t.val ∧ win0_0.index t 1 = 0)
theorem at1 : ∀ t : Fin cfg0.N, win0_1.index t 0 = t.val ∧ win0_1.index t 1 = 0 :=
  (by decide +kernel : ∀ t : Fin grid0.N, win0_1.index t 0 = t.val ∧ win0_1.index t 1 = 0)
theorem at2 : ∀ t : Fin cfg0.N, win0_2.index t 0 = 0 ∧ win0_2.index t 1 = 0 :=
  (by decide +kernel : ∀ t : Fin grid0.N, win0_2.index t 0 = 0 ∧ win0_2.index t 1 = 0)
theorem at3 : ∀ t : Fin cfg0.N, win0_3.index t 0 = 0 ∧ win0_3.index t 1 = 0 :=
  (by decide +kernel : ∀ t : Fin grid0.N, win0_3.index t 0 = 0 ∧ win0_3.index t 1 = 0)
theorem at4 : ∀ t : Fin cfg0.N, win0_4.index t 0 = t.val ∧ win0_4.index t 1 = 0 :=
  (by decide +kernel : ∀ t : Fin grid0.N, win0_4.index t 0 = t.val ∧ win0_4.index t 1 = 0)
theorem full4 : ∀ t : Fin cfg0.N, win0_4.xsize (grid0.coords t) 0 = 512 ∧ win0_4.xsize (grid0.coords t) 1 = 1024 :=
  (by decide +kernel : ∀ t : Fin grid0.N, win0_4.xsize (grid0.coords t) 0 = 512 ∧ win0_4.xsize (grid0.coords t) 1 = 1024)

theorem lt16 (t : Fin cfg0.N) : t.val < 16 := Nat.lt_of_lt_of_eq t.isLt N_0

theorem block_da (t : Fin cfg0.N) (k : Fin 512) (j : Fin 2816) :
    (iblk m c 0 t : Vec Ideal S512x2816 .bf16) (ix2 k j) = da m c (ix2 (Dense.row t.val k) j) := by
  have ht := lt16 t
  have hk := k.isLt
  unfold iblk
  rw [View.read_apply]
  refine congrArg (m ((c : Thread nD τ).loc main_arg0)) (funext fun a => Fin.ext ?_)
  match a with
  | ⟨0, _⟩ => show win0_0.index t 0 * 512 + 1 * k.val = (512 * t.val + k.val) % 8192; rw [(at0 t).1]; omega
  | ⟨1, _⟩ => show win0_0.index t 1 * 2816 + 1 * j.val = j.val; rw [(at0 t).2]; omega

theorem block_db (t : Fin cfg0.N) (k : Fin 512) (j : Fin 2816) :
    (iblk m c 1 t : Vec Ideal S512x2816 .bf16) (ix2 k j) = db m c (ix2 (Dense.row t.val k) j) := by
  have ht := lt16 t
  have hk := k.isLt
  unfold iblk
  rw [View.read_apply]
  refine congrArg (m ((c : Thread nD τ).loc main_arg1)) (funext fun a => Fin.ext ?_)
  match a with
  | ⟨0, _⟩ => show win0_1.index t 0 * 512 + 1 * k.val = (512 * t.val + k.val) % 8192; rw [(at1 t).1]; omega
  | ⟨1, _⟩ => show win0_1.index t 1 * 2816 + 1 * j.val = j.val; rw [(at1 t).2]; omega

theorem block_wg (t : Fin cfg0.N) (k : Fin 2816) (j : Fin 1024) :
    (iblk m c 2 t : Vec Ideal S2816x1024 .bf16) (ix2 k j) = wg m c (ix2 k j) := by
  unfold iblk
  rw [View.read_apply]
  refine congrArg (m ((c : Thread nD τ).loc main_arg2)) (funext fun a => Fin.ext ?_)
  match a with
  | ⟨0, _⟩ => show win0_2.index t 0 * 2816 + 1 * k.val = k.val; rw [(at2 t).1]; omega
  | ⟨1, _⟩ => show win0_2.index t 1 * 1024 + 1 * j.val = j.val; rw [(at2 t).2]; omega

theorem block_wu (t : Fin cfg0.N) (k : Fin 2816) (j : Fin 1024) :
    (iblk m c 3 t : Vec Ideal S2816x1024 .bf16) (ix2 k j) = wu m c (ix2 k j) := by
  unfold iblk
  rw [View.read_apply]
  refine congrArg (m ((c : Thread nD τ).loc main_arg3)) (funext fun a => Fin.ext ?_)
  match a with
  | ⟨0, _⟩ => show win0_3.index t 0 * 2816 + 1 * k.val = k.val; rw [(at3 t).1]; omega
  | ⟨1, _⟩ => show win0_3.index t 1 * 1024 + 1 * j.val = j.val; rw [(at3 t).2]; omega

/-- A point's block of the result is the gradient's. -/
theorem point (t : Fin cfg0.N) (j : S512x1024.Idx) (q : S8192x1024.Idx) (h0 : q 0 = Dense.row t.val (j 0)) (h1 : q 1 = j 1) :
    out0_4 (F := Ideal) (iblk m c 0 t) (iblk m c 1 t) (iblk m c 2 t) (iblk m c 3 t) j = total (da m c) (db m c) (wg m c) (wu m c) q := by
  refine (out_val _ _ _ _ j).trans ?_
  unfold total
  rw [h0, h1]
  exact congrArg₂ (fun a b : EReal => a + b)
    (Finset.sum_congr rfl fun k _ => congrArg₂ (fun a b : EReal => a * b) (block_da m c t _ k) (block_wg m c t k _))
    (Finset.sum_congr rfl fun k _ => congrArg₂ (fun a b : EReal => a * b) (block_db m c t _ k) (block_wu m c t k _))

/-- The point whose block holds row `i`. -/
def ptOf (i : S8192x1024.Idx) : Fin cfg0.N := ⟨(i 0).val / 512, by
  have h : (i 0).val < 8192 := (i 0).isLt
  rw [show cfg0.N = 16 from N_0]; omega⟩

/-- The result array after the run. -/
theorem final : (dats m 0 c).arrAt 4 cfg0.N = total (da m c) (db m c) (wg m c) (wu m c) := by
  refine (dats m 0 c).arrAt_eq_of_cover 4 (total (da m c) (db m c) (wg m c) (wu m c)) (fun t _ => ?_) fun i => ⟨ptOf i, flush0_4 _, ?_⟩
  · rw [Value.flushed4]
    funext j
    rw [View.read_apply]
    have ht := lt16 t
    have hj : (j 0).val < 512 := (j 0).isLt
    refine point m c t j _ (Fin.ext ?_) (Fin.ext ?_)
    · show win0_4.index t 0 * 512 + 1 * (j 0).val = (512 * t.val + (j 0).val) % 8192; rw [(at4 t).1]; omega
    · show win0_4.index t 1 * 1024 + 1 * (j 1).val = (j 1).val; rw [(at4 t).2]; omega
  · show i ∈ ((View.whole main_v0).slice (win0_4.rect (ptOf i))).set
    rw [View.set_slice_whole, Rect.mem_set_unit]
    intro a
    have h0 : (i 0 : ℕ) < 8192 := (i 0).isLt
    have h1 : (i 1 : ℕ) < 1024 := (i 1).isLt
    match a with
    | ⟨0, _⟩ =>
      show win0_4.index (ptOf i) 0 * 512 ≤ (i 0 : ℕ) ∧ (i 0 : ℕ) < win0_4.index (ptOf i) 0 * 512 + win0_4.xsize (grid0.coords (ptOf i)) 0
      rw [(at4 _).1, (full4 _).1]
      show (i 0 : ℕ) / 512 * 512 ≤ (i 0 : ℕ) ∧ (i 0 : ℕ) < (i 0 : ℕ) / 512 * 512 + 512
      omega
    | ⟨1, _⟩ =>
      show win0_4.index (ptOf i) 1 * 1024 ≤ (i 1 : ℕ) ∧ (i 1 : ℕ) < win0_4.index (ptOf i) 1 * 1024 + win0_4.xsize (grid0.coords (ptOf i)) 1
      rw [(at4 _).2, (full4 _).2]; omega

end

/-! ## The claims -/

section
open Cert.InputGradReferenceIdeal Cert.InputGradReferenceIdeal.Facts₀

/-- The reference's product with a weight turned over. -/
theorem ref_mm (X : FVec Ideal S8192x2816 .bf16) (U : FVec Ideal S2816x1024 .bf16) (i : S8192x1024.Idx) :
    Host.dotGeneral dot_S8192x2816_S1024x2816_S8192x1024_1_1_0_0_n_n none (extf .f32 X bitsLt_bf16_f32)
      (transpose S1024x2816 [1, 0] (extf .f32 U bitsLt_bf16_f32) transposes_S2816x1024_S1024x2816_1_0) i =
      ∑ k : Fin 2816, (X (ix2 (i 0) k) : EReal) * (U (ix2 k (i 1)) : EReal) := by
  refine (Dense.dot_axis dot_S8192x2816_S1024x2816_S8192x1024_1_1_0_0_n_n 2816 rfl rfl (extf .f32 X bitsLt_bf16_f32)
    (transpose S1024x2816 [1, 0] (extf .f32 U bitsLt_bf16_f32) transposes_S2816x1024_S1024x2816_1_0) i (fun k => ix2 (i 0) k) (fun k => ix2 (i 1) k)
    (fun k => funext fun a => Fin.ext ?_) fun k => funext fun a => Fin.ext ?_).trans ?_
  · match a with
    | ⟨0, _⟩ => rfl
    | ⟨1, _⟩ => rfl
  · match a with
    | ⟨0, _⟩ => rfl
    | ⟨1, _⟩ => rfl
  · refine Finset.sum_congr rfl fun k _ => congrArg (fun b : EReal => (X (ix2 (i 0) k) : EReal) * b) ?_
    exact transpose_apply [1, 0] (extf .f32 U bitsLt_bf16_f32) transposes_S2816x1024_S1024x2816_1_0 (ix2 (i 1) k) (ix2 k (i 1)) fun b => by
      match b with
      | ⟨0, _⟩ => rfl
      | ⟨1, _⟩ => rfl

/-- The reference's sum, the other way round. -/
theorem ref_val (X Y : FVec Ideal S8192x2816 .bf16) (U W : FVec Ideal S2816x1024 .bf16) :
    addf (Host.dotGeneral dot_S8192x2816_S1024x2816_S8192x1024_1_1_0_0_n_n none (extf .f32 Y bitsLt_bf16_f32)
        (transpose S1024x2816 [1, 0] (extf .f32 W bitsLt_bf16_f32) transposes_S2816x1024_S1024x2816_1_0))
      (Host.dotGeneral dot_S8192x2816_S1024x2816_S8192x1024_1_1_0_0_n_n none (extf .f32 X bitsLt_bf16_f32)
        (transpose S1024x2816 [1, 0] (extf .f32 U bitsLt_bf16_f32) transposes_S2816x1024_S1024x2816_1_0)) = total X Y U W := by
  funext i
  refine (congrArg₂ (fun a b : EReal => a + b) (ref_mm Y W i) (ref_mm X U i)).trans ?_
  exact add_comm (G := EReal) _ _

end

theorem frame_p : Cert.quiescent_InputGrad := fun m ρ _ => Cert.InputGrad.Gen.frame m ρ
theorem frame_pi : Cert.quiescent_InputGradIdeal := fun m ρ _ => Cert.InputGradIdeal.Gen.frame m ρ
theorem frame_ri : Cert.quiescent_InputGradReferenceIdeal := fun m ρ _ =>
  (θ_run Cert.InputGradReferenceIdeal.defs _ _).mono (fun r h => ⟨fun c => (h c).2, sem_eq_zero_of_no_sems (by decide) r.2⟩)
    (Cert.InputGradReferenceIdeal.Value.run (F := Ideal) m ρ)
theorem preserves : Cert.preserves_InputGrad_InputGradIdeal := trivial

/-- The call's result is the reference's gradient. -/
theorem algebraic : Cert.algebraic_InputGradIdeal_InputGradReferenceIdeal := by
  intro m g m' g' _ hagree
  refine ⟨fun c => total (da m c) (db m c) (wg m c) (wu m c), ?_, ?_⟩
  · exact (θ_run Cert.InputGradIdeal.defs _ _).mono (fun r h c => ⟨(h c).1.trans (final m c), (h c).2⟩) (Cert.InputGradIdeal.Value.run_blocks (F := Ideal) m g)
  · refine (θ_run Cert.InputGradReferenceIdeal.defs _ _).mono (fun r h c => ⟨(h c).1.trans ?_, (h c).2⟩)
      (Cert.InputGradReferenceIdeal.Value.run (F := Ideal) m' g')
    rw [(hagree c).1, (hagree c).2.1, (hagree c).2.2.1, (hagree c).2.2.2]
    exact ref_val _ _ _ _

end InputGrad

end
-- ==== Proof.Up.lean ====
/- The two products going into the feed-forward network and their gating, `a = h wgᵀ`, `b = h wuᵀ`, `silu a · b`: 512 rows per
   grid point, the 2816 columns in eleven slabs of 256. -/
module

public import proofs.«01_k».proof.Defs
public import proofs.«01_k».proof.Proof.Dense
public import proofs.«01_k».proof.Proof.Gen.Up.Frame
public import proofs.«01_k».proof.Proof.Gen.UpIdeal.Value
public import proofs.«01_k».proof.Proof.Gen.UpReferenceIdeal.Run
public import Idealize.ShloMosaic.Lib.Pipeline.ReadBack
public import Idealize.ShloMosaic.Lib.Quiescent
public import Idealize.ShloMosaic.Lib.Claim

@[expose] public section

set_option maxRecDepth 16384

noncomputable section

open Idealize.ShloMosaic Idealize.ShloMosaic.TcCoe Idealize.ShloMosaic.ValueIdx Idealize.SL.Sem

namespace Up

section
open Cert.UpIdeal Cert.UpIdeal.Gen

/-- A product with a weight turned over, entry by entry. -/
def prod (X : S8192x1024.Idx → EReal) (U : S2816x1024.Idx → EReal) : S8192x2816.Idx → EReal := fun i =>
  ∑ k : Fin 1024, X (ix2 (i 0) k) * U (ix2 (i 1) k)

/-- The gated product. -/
def gated (a b : EReal) : EReal := a * Dense.sg a * b

/-! ## One point's blocks -/

/-- The product of one block of rows. -/
def bprod (x : S512x1024.Idx → EReal) (u : S2816x1024.Idx → EReal) : S512x2816.Idx → EReal := fun i =>
  ∑ k : Fin 1024, x (ix2 (i 0) k) * u (ix2 (i 1) k)

variable (o : ℕ) (ho : o + 256 ≤ 2816)

include ho in
theorem rows_in : ∀ a, (![o, 0] : Fin 2 → ℕ) a + S256x1024.size a ≤ S2816x1024.size a := fun a => by
  match a with
  | ⟨0, _⟩ => exact ho
  | ⟨1, _⟩ => exact Nat.le_refl 1024
include ho in
theorem cols_in : ∀ a, (![0, o] : Fin 2 → ℕ) a + S512x256.size a ≤ S512x2816.size a := fun a => by
  match a with
  | ⟨0, _⟩ => exact Nat.le_refl 512
  | ⟨1, _⟩ => exact ho

/-- The product of the block with the slab of 256 weight rows from row `o` on. -/
abbrev slab (x : Vec Ideal S512x1024 .bf16) (u : Vec Ideal S2816x1024 .bf16) : FVec Ideal S512x256 .f32 :=
  matmul (φ₁ := .bf16) (φ₂ := .bf16) dot_S512x1024_S256x1024_S512x256_1_1_0_0_n_n none (View.ld x r0_1)
    (View.ld u (Rect.unit (s := S2816x1024) ![o, 0] S256x1024.size (rows_in o ho))) (constant S512x256 .f32 0x00000000#32)

/-- It is the columns from `o` on of the block's product. -/
theorem slab_val (x : Vec Ideal S512x1024 .bf16) (u : Vec Ideal S2816x1024 .bf16) (y : S512x256.Idx) :
    slab o ho x u y = bprod x u ((Rect.unit (s := S512x2816) ![0, o] S512x256.size (cols_in o ho)).emb y) := by
  refine (Dense.matmul_axis (φ₁ := .bf16) (φ₂ := .bf16) dot_S512x1024_S256x1024_S512x256_1_1_0_0_n_n 1024 rfl rfl (View.ld x r0_1)
    (View.ld u (Rect.unit (s := S2816x1024) ![o, 0] S256x1024.size (rows_in o ho))) y (fun k => ix2 (y 0) k) (fun k => ix2 (y 1) k)
    (fun k => funext fun a => Fin.ext ?_) fun k => funext fun a => Fin.ext ?_).trans ?_
  · match a with
    | ⟨0, _⟩ => rfl
    | ⟨1, _⟩ => rfl
  · match a with
    | ⟨0, _⟩ => rfl
    | ⟨1, _⟩ => rfl
  · rw [View.ld_unit_zero (S := S512x1024) Dense.zero2]
    refine Finset.sum_congr rfl fun k _ => congrArg₂ (fun a b : EReal => a * b) (congrArg x (funext fun a => Fin.ext ?_)) (congrArg u (funext fun a => Fin.ext ?_))
    · match a with
      | ⟨0, _⟩ => show (y 0).val = 0 + 1 * (y 0).val; omega
      | ⟨1, _⟩ => rfl
    · match a with
      | ⟨0, _⟩ => rfl
      | ⟨1, _⟩ => show 0 + 1 * k.val = k.val; omega

theorem first_piece (x : Vec Ideal S512x1024 .bf16) (u : Vec Ideal S2816x1024 .bf16) (y : S512x256.Idx) :
    (truncf .bf16 (slab o ho x u) bitsLt_bf16_f32 : FVec Ideal S512x256 .bf16) y = bprod x u ((Rect.unit (s := S512x2816) ![0, o] S512x256.size (cols_in o ho)).emb y) :=
  slab_val o ho x u y

theorem gated_piece (x x' : Vec Ideal S512x1024 .bf16) (u w : Vec Ideal S2816x1024 .bf16) (y : S512x256.Idx) :
    (truncf .bf16 (mulf (mulf (slab o ho x u) (divf (broadcast S512x256 (Scalar.ofBits .f32 0x3F800000#32))
      (addf (broadcast S512x256 (Scalar.ofBits .f32 0x3F800000#32)) (exp (subf (broadcast S512x256 (Scalar.ofBits .f32 0x00000000#32)) (slab o ho x u))))))
        (slab o ho x' w)) bitsLt_bf16_f32 : FVec Ideal S512x256 .bf16) y =
      gated (bprod x u ((Rect.unit (s := S512x2816) ![0, o] S512x256.size (cols_in o ho)).emb y)) (bprod x' w ((Rect.unit (s := S512x2816) ![0, o] S512x256.size (cols_in o ho)).emb y)) := by
  refine (congrArg (fun s : EReal => slab o ho x u y * s * slab o ho x' w y) (Dense.sg_sub (slab o ho x u y))).trans ?_
  rw [slab_val o ho, slab_val o ho]; rfl

/-- The first result's block. -/
theorem out_a (x x' : Vec Ideal S512x1024 .bf16) (u w : Vec Ideal S2816x1024 .bf16) : out0_4 (F := Ideal) x x' u w = bprod x u := by
  funext y
  unfold out0_4
  refine View.canon_apply_of_pieces (Val := Elt Ideal) (bprod x u : Vec Ideal S512x2816 .bf16) _ (View.PiecesOf.mem ?_) y (cover0_4 (F := Ideal) _ _ _ _ _ _ _ _ _ _ _ y)
  exact ⟨first_piece 2560 (by decide) x u, first_piece 2304 (by decide) x u, first_piece 2048 (by decide) x u, first_piece 1792 (by decide) x u, first_piece 1536 (by decide) x u,
    first_piece 1280 (by decide) x u, first_piece 1024 (by decide) x u, first_piece 768 (by decide) x u, first_piece 512 (by decide) x u, first_piece 256 (by decide) x u, first_piece 0 (by decide) x u, trivial⟩

/-- The second result's block. -/
theorem out_b (x x' : Vec Ideal S512x1024 .bf16) (u w : Vec Ideal S2816x1024 .bf16) : out0_5 (F := Ideal) x x' u w = bprod x' w := by
  funext y
  unfold out0_5
  refine View.canon_apply_of_pieces (Val := Elt Ideal) (bprod x' w : Vec Ideal S512x2816 .bf16) _ (View.PiecesOf.mem ?_) y (cover0_5 (F := Ideal) _ _ _ _ _ _ _ _ _ _ _ y)
  exact ⟨first_piece 2560 (by decide) x' w, first_piece 2304 (by decide) x' w, first_piece 2048 (by decide) x' w, first_piece 1792 (by decide) x' w, first_piece 1536 (by decide) x' w,
    first_piece 1280 (by decide) x' w, first_piece 1024 (by decide) x' w, first_piece 768 (by decide) x' w, first_piece 512 (by decide) x' w, first_piece 256 (by decide) x' w, first_piece 0 (by decide) x' w, trivial⟩

/-- The third result's block. -/
theorem out_g (x x' : Vec Ideal S512x1024 .bf16) (u w : Vec Ideal S2816x1024 .bf16) :
    out0_6 (F := Ideal) x x' u w = fun i => gated (bprod x u i) (bprod x' w i) := by
  funext y
  unfold out0_6
  refine View.canon_apply_of_pieces (Val := Elt Ideal) ((fun i => gated (bprod x u i) (bprod x' w i)) : Vec Ideal S512x2816 .bf16) _ (View.PiecesOf.mem ?_) y
    (cover0_6 (F := Ideal) _ _ _ _ _ _ _ _ _ _ _ y)
  exact ⟨gated_piece 2560 (by decide) x x' u w, gated_piece 2304 (by decide) x x' u w, gated_piece 2048 (by decide) x x' u w, gated_piece 1792 (by decide) x x' u w, gated_piece 1536 (by decide) x x' u w,
    gated_piece 1280 (by decide) x x' u w, gated_piece 1024 (by decide) x x' u w, gated_piece 768 (by decide) x x' u w, gated_piece 512 (by decide) x x' u w, gated_piece 256 (by decide) x x' u w,
    gated_piece 0 (by decide) x x' u w, trivial⟩

end

/-! ## The arrays -/

section
open Cert.UpIdeal Cert.UpIdeal.Gen

variable (m : (ℓ : Loc nD τ sig) → Buf (Elt Ideal) ℓ) (c : Dev nD)

/-- The call's arguments at launch. -/
abbrev h : S8192x1024.Idx → EReal := m ((c : Thread nD τ).loc main_arg0)
abbrev wg : S2816x1024.Idx → EReal := m ((c : Thread nD τ).loc main_arg1)
abbrev wu : S2816x1024.Idx → EReal := m ((c : Thread nD τ).loc main_arg2)

theorem at0 : ∀ t : Fin cfg0.N, win0_0.index t 0 = t.val ∧ win0_0.index t 1 = 0 :=
  (by decide +kernel : ∀ t : Fin grid0.N, win0_0.index t 0 = t.val ∧ win0_0.index t 1 = 0)
theorem at1 : ∀ t : Fin cfg0.N, win0_1.index t 0 = t.val ∧ win0_1.index t 1 = 0 :=
  (by decide +kernel : ∀ t : Fin grid0.N, win0_1.index t 0 = t.val ∧ win0_1.index t 1 = 0)
theorem at2 : ∀ t : Fin cfg0.N, win0_2.index t 0 = 0 ∧ win0_2.index t 1 = 0 :=
  (by decide +kernel : ∀ t : Fin grid0.N, win0_2.index t 0 = 0 ∧ win0_2.index t 1 = 0)
theorem at3 : ∀ t : Fin cfg0.N, win0_3.index t 0 = 0 ∧ win0_3.index t 1 = 0 :=
  (by decide +kernel : ∀ t : Fin grid0.N, win0_3.index t 0 = 0 ∧ win0_3.index t 1 = 0)
theorem at4 : ∀ t : Fin cfg0.N, win0_4.index t 0 = t.val ∧ win0_4.index t 1 = 0 :=
  (by decide +kernel : ∀ t : Fin grid0.N, win0_4.index t 0 = t.val ∧ win0_4.index t 1 = 0)
theorem at5 : ∀ t : Fin cfg0.N, win0_5.index t 0 = t.val ∧ win0_5.index t 1 = 0 :=
  (by decide +kernel : ∀ t : Fin grid0.N, win0_5.index t 0 = t.val ∧ win0_5.index t 1 = 0)
theorem at6 : ∀ t : Fin cfg0.N, win0_6.index t 0 = t.val ∧ win0_6.index t 1 = 0 :=
  (by decide +kernel : ∀ t : Fin grid0.N, win0_6.index t 0 = t.val ∧ win0_6.index t 1 = 0)
theorem full4 : ∀ t : Fin cfg0.N, win0_4.xsize (grid0.coords t) 0 = 512 ∧ win0_4.xsize (grid0.coords t) 1 = 2816 :=
  (by decide +kernel : ∀ t : Fin grid0.N, win0_4.xsize (grid0.coords t) 0 = 512 ∧ win0_4.xsize (grid0.coords t) 1 = 2816)
theorem full5 : ∀ t : Fin cfg0.N, win0_5.xsize (grid0.coords t) 0 = 512 ∧ win0_5.xsize (grid0.coords t) 1 = 2816 :=
  (by decide +kernel : ∀ t : Fin grid0.N, win0_5.xsize (grid0.coords t) 0 = 512 ∧ win0_5.xsize (grid0.coords t) 1 = 2816)
theorem full6 : ∀ t : Fin cfg0.N, win0_6.xsize (grid0.coords t) 0 = 512 ∧ win0_6.xsize (grid0.coords t) 1 = 2816 :=
  (by decide +kernel : ∀ t : Fin grid0.N, win0_6.xsize (grid0.coords t) 0 = 512 ∧ win0_6.xsize (grid0.coords t) 1 = 2816)

theorem lt16 (t : Fin cfg0.N) : t.val < 16 := Nat.lt_of_lt_of_eq t.isLt N_0

theorem block_h (t : Fin cfg0.N) (k : Fin 512) (j : Fin 1024) :
    (iblk m c 0 t : Vec Ideal S512x1024 .bf16) (ix2 k j) = h m c (ix2 (Dense.row t.val k) j) := by
  have ht := lt16 t
  have hk := k.isLt
  unfold iblk
  rw [View.read_apply]
  refine congrArg (m ((c : Thread nD τ).loc main_arg0)) (funext fun a => Fin.ext ?_)
  match a with
  | ⟨0, _⟩ => show win0_0.index t 0 * 512 + 1 * k.val = (512 * t.val + k.val) % 8192; rw [(at0 t).1]; omega
  | ⟨1, _⟩ => show win0_0.index t 1 * 1024 + 1 * j.val = j.val; rw [(at0 t).2]; omega

theorem block_h' (t : Fin cfg0.N) (k : Fin 512) (j : Fin 1024) :
    (iblk m c 1 t : Vec Ideal S512x1024 .bf16) (ix2 k j) = h m c (ix2 (Dense.row t.val k) j) := by
  have ht := lt16 t
  have hk := k.isLt
  unfold iblk
  rw [View.read_apply]
  refine congrArg (m ((c : Thread nD τ).loc main_arg0)) (funext fun a => Fin.ext ?_)
  match a with
  | ⟨0, _⟩ => show win0_1.index t 0 * 512 + 1 * k.val = (512 * t.val + k.val) % 8192; rw [(at1 t).1]; omega
  | ⟨1, _⟩ => show win0_1.index t 1 * 1024 + 1 * j.val = j.val; rw [(at1 t).2]; omega

theorem block_wg (t : Fin cfg0.N) (k : Fin 2816) (j : Fin 1024) :
    (iblk m c 2 t : Vec Ideal S2816x1024 .bf16) (ix2 k j) = wg m c (ix2 k j) := by
  unfold iblk
  rw [View.read_apply]
  refine congrArg (m ((c : Thread nD τ).loc main_arg1)) (funext fun a => Fin.ext ?_)
  match a with
  | ⟨0, _⟩ => show win0_2.index t 0 * 2816 + 1 * k.val = k.val; rw [(at2 t).1]; omega
  | ⟨1, _⟩ => show win0_2.index t 1 * 1024 + 1 * j.val = j.val; rw [(at2 t).2]; omega

theorem block_wu (t : Fin cfg0.N) (k : Fin 2816) (j : Fin 1024) :
    (iblk m c 3 t : Vec Ideal S2816x1024 .bf16) (ix2 k j) = wu m c (ix2 k j) := by
  unfold iblk
  rw [View.read_apply]
  refine congrArg (m ((c : Thread nD τ).loc main_arg2)) (funext fun a => Fin.ext ?_)
  match a with
  | ⟨0, _⟩ => show win0_3.index t 0 * 2816 + 1 * k.val = k.val; rw [(at3 t).1]; omega
  | ⟨1, _⟩ => show win0_3.index t 1 * 1024 + 1 * j.val = j.val; rw [(at3 t).2]; omega

/-- A point's product is the whole product's rows. -/
theorem rows_a (t : Fin cfg0.N) (j : S512x2816.Idx) (q : S8192x2816.Idx) (h0 : (q 0).val = t.val * 512 + 1 * (j 0).val) (h1 : (q 1).val = 0 * 2816 + 1 * (j 1).val) :
    bprod (iblk m c 0 t : Vec Ideal S512x1024 .bf16) (iblk m c 2 t : Vec Ideal S2816x1024 .bf16) j = prod (h m c) (wg m c) q := by
  have ht := lt16 t
  have hj : (j 0).val < 512 := (j 0).isLt
  have e0 : q 0 = Dense.row t.val (j 0) := Fin.ext (by show (q 0).val = (512 * t.val + (j 0).val) % 8192; omega)
  have e1 : q 1 = j 1 := Fin.ext (by omega)
  unfold bprod prod
  rw [e0, e1]
  exact Finset.sum_congr rfl fun k _ => congrArg₂ (fun a b : EReal => a * b) (block_h m c t _ k) (block_wg m c t _ k)

theorem rows_b (t : Fin cfg0.N) (j : S512x2816.Idx) (q : S8192x2816.Idx) (h0 : (q 0).val = t.val * 512 + 1 * (j 0).val) (h1 : (q 1).val = 0 * 2816 + 1 * (j 1).val) :
    bprod (iblk m c 1 t : Vec Ideal S512x1024 .bf16) (iblk m c 3 t : Vec Ideal S2816x1024 .bf16) j = prod (h m c) (wu m c) q := by
  have ht := lt16 t
  have hj : (j 0).val < 512 := (j 0).isLt
  have e0 : q 0 = Dense.row t.val (j 0) := Fin.ext (by show (q 0).val = (512 * t.val + (j 0).val) % 8192; omega)
  have e1 : q 1 = j 1 := Fin.ext (by omega)
  unfold bprod prod
  rw [e0, e1]
  exact Finset.sum_congr rfl fun k _ => congrArg₂ (fun a b : EReal => a * b) (block_h' m c t _ k) (block_wu m c t _ k)

/-- The point whose block holds row `i`. -/
def ptOf (i : S8192x2816.Idx) : Fin cfg0.N := ⟨(i 0).val / 512, by
  have h : (i 0).val < 8192 := (i 0).isLt
  rw [show cfg0.N = 16 from N_0]; omega⟩

/-- The call's first result after the run. -/
theorem final_a : (dats m 0 c).arrAt 4 cfg0.N = (prod (h m c) (wg m c) : S8192x2816.Idx → EReal) := by
  refine (dats m 0 c).arrAt_eq_of_cover 4 (prod (h m c) (wg m c) : S8192x2816.Idx → EReal) (fun t _ => ?_) fun i => ⟨ptOf i, flush0_4 _, ?_⟩
  · rw [Value.flushed4, out_a]
    funext j
    rw [View.read_apply]
    exact rows_a m c t j _ (congrArg (· * 512 + 1 * (j 0).val) (at4 t).1) (congrArg (· * 2816 + 1 * (j 1).val) (at4 t).2)
  · show i ∈ ((View.whole main_v0_0).slice (win0_4.rect (ptOf i))).set
    rw [View.set_slice_whole, Rect.mem_set_unit]
    exact Dense.in_rows i _ _ (congrArg (· * 512) (at4 (ptOf i)).1) (full4 _).1 (congrArg (· * 2816) (at4 (ptOf i)).2) (full4 _).2

/-- The call's second result after the run. -/
theorem final_b : (dats m 0 c).arrAt 5 cfg0.N = (prod (h m c) (wu m c) : S8192x2816.Idx → EReal) := by
  refine (dats m 0 c).arrAt_eq_of_cover 5 (prod (h m c) (wu m c) : S8192x2816.Idx → EReal) (fun t _ => ?_) fun i => ⟨ptOf i, flush0_5 _, ?_⟩
  · rw [Value.flushed5, out_b]
    funext j
    rw [View.read_apply]
    exact rows_b m c t j _ (congrArg (· * 512 + 1 * (j 0).val) (at5 t).1) (congrArg (· * 2816 + 1 * (j 1).val) (at5 t).2)
  · show i ∈ ((View.whole main_v0_1).slice (win0_5.rect (ptOf i))).set
    rw [View.set_slice_whole, Rect.mem_set_unit]
    exact Dense.in_rows i _ _ (congrArg (· * 512) (at5 (ptOf i)).1) (full5 _).1 (congrArg (· * 2816) (at5 (ptOf i)).2) (full5 _).2

/-- The call's third result after the run. -/
theorem final_g : (dats m 0 c).arrAt 6 cfg0.N = (fun i => gated (prod (h m c) (wg m c) i) (prod (h m c) (wu m c) i) : S8192x2816.Idx → EReal) := by
  refine (dats m 0 c).arrAt_eq_of_cover 6 (fun i => gated (prod (h m c) (wg m c) i) (prod (h m c) (wu m c) i) : S8192x2816.Idx → EReal) (fun t _ => ?_) fun i => ⟨ptOf i, flush0_6 _, ?_⟩
  · rw [Value.flushed6, out_g]
    funext j
    rw [View.read_apply]
    exact congrArg₂ gated (rows_a m c t j _ (congrArg (· * 512 + 1 * (j 0).val) (at6 t).1) (congrArg (· * 2816 + 1 * (j 1).val) (at6 t).2))
      (rows_b m c t j _ (congrArg (· * 512 + 1 * (j 0).val) (at6 t).1) (congrArg (· * 2816 + 1 * (j 1).val) (at6 t).2))
  · show i ∈ ((View.whole main_v0_2).slice (win0_6.rect (ptOf i))).set
    rw [View.set_slice_whole, Rect.mem_set_unit]
    exact Dense.in_rows i _ _ (congrArg (· * 512) (at6 (ptOf i)).1) (full6 _).1 (congrArg (· * 2816) (at6 (ptOf i)).2) (full6 _).2

end

/-! ## The claims -/

section
open Cert.UpReferenceIdeal Cert.UpReferenceIdeal.Facts₀

/-- The reference's product with a weight turned over. -/
abbrev refMm (X : FVec Ideal S8192x1024 .bf16) (U : FVec Ideal S2816x1024 .bf16) : FVec Ideal S8192x2816 .f32 :=
  Host.dotGeneral dot_S8192x1024_S1024x2816_S8192x2816_1_0_0_1_n_n none (extf .f32 X bitsLt_bf16_f32)
      (transpose S1024x2816 [1, 0] (extf .f32 U bitsLt_bf16_f32) transposes_S2816x1024_S1024x2816_1_0)

theorem ref_mm (X : FVec Ideal S8192x1024 .bf16) (U : FVec Ideal S2816x1024 .bf16) : refMm X U = prod X U := by
  funext i
  refine (Dense.dot_axis dot_S8192x1024_S1024x2816_S8192x2816_1_0_0_1_n_n 1024 rfl rfl (extf .f32 X bitsLt_bf16_f32)
    (transpose S1024x2816 [1, 0] (extf .f32 U bitsLt_bf16_f32) transposes_S2816x1024_S1024x2816_1_0) i (fun k => ix2 (i 0) k) (fun k => ix2 k (i 1))
    (fun k => funext fun a => Fin.ext ?_) fun k => funext fun a => Fin.ext ?_).trans ?_
  · match a with
    | ⟨0, _⟩ => rfl
    | ⟨1, _⟩ => rfl
  · match a with
    | ⟨0, _⟩ => rfl
    | ⟨1, _⟩ => rfl
  · refine Finset.sum_congr rfl fun k _ => congrArg (fun b : EReal => (X (ix2 (i 0) k) : EReal) * b) ?_
    exact transpose_apply [1, 0] (extf .f32 U bitsLt_bf16_f32) transposes_S2816x1024_S1024x2816_1_0 (ix2 k (i 1)) (ix2 (i 1) k) fun b => by
      match b with
      | ⟨0, _⟩ => rfl
      | ⟨1, _⟩ => rfl

/-- The reference's gated product, from its two products. -/
theorem ref_gate (A B : FVec Ideal S8192x2816 .f32) :
    truncf .bf16 (mulf (mulf A (Host.divf (broadcastInDim S8192x2816 ![] bcast_S_S8192x2816 (constant S_ .f32 0x3F800000#32))
      (addf (broadcastInDim S8192x2816 ![] bcast_S_S8192x2816 (constant S_ .f32 0x3F800000#32)) (Host.exp (Host.negf A))))) B) bitsLt_bf16_f32 =
      fun i => gated (A i) (B i) := rfl

theorem ref_g (X : FVec Ideal S8192x1024 .bf16) (U W : FVec Ideal S2816x1024 .bf16) :
    truncf .bf16 (mulf (mulf (refMm X U) (Host.divf (broadcastInDim S8192x2816 ![] bcast_S_S8192x2816 (constant S_ .f32 0x3F800000#32))
      (addf (broadcastInDim S8192x2816 ![] bcast_S_S8192x2816 (constant S_ .f32 0x3F800000#32)) (Host.exp (Host.negf (refMm X U)))))) (refMm X W)) bitsLt_bf16_f32 =
      fun i => gated (prod X U i) (prod X W i) :=
  (ref_gate _ _).trans (by rw [ref_mm, ref_mm])

end

theorem frame_p : Cert.quiescent_Up := fun m ρ _ => Cert.Up.Gen.frame m ρ
theorem frame_pi : Cert.quiescent_UpIdeal := fun m ρ _ => Cert.UpIdeal.Gen.frame m ρ
theorem frame_ri : Cert.quiescent_UpReferenceIdeal := fun m ρ _ =>
  (θ_run Cert.UpReferenceIdeal.defs _ _).mono (fun r h => ⟨fun c => (h c).2.2.2, sem_eq_zero_of_no_sems (by decide) r.2⟩)
    (Cert.UpReferenceIdeal.Value.run (F := Ideal) m ρ)
theorem preserves : Cert.preserves_Up_UpIdeal := trivial

/-- The call's three results are the reference's. -/
theorem algebraic : Cert.algebraic_UpIdeal_UpReferenceIdeal := by
  intro m g m' g' _ hagree
  refine ⟨fun c => prod (h m c) (wg m c), fun c => prod (h m c) (wu m c), fun c i => gated (prod (h m c) (wg m c) i) (prod (h m c) (wu m c) i), ?_, ?_⟩
  · exact (θ_run Cert.UpIdeal.defs _ _).mono (fun r h c => ⟨(h c).1.trans (final_a m c), (h c).2.1.trans (final_b m c), (h c).2.2.1.trans (final_g m c), (h c).2.2.2⟩)
      (Cert.UpIdeal.Value.run_blocks (F := Ideal) m g)
  · refine (θ_run Cert.UpReferenceIdeal.defs _ _).mono (fun r h c => ⟨(h c).1.trans ?_, (h c).2.1.trans ?_, (h c).2.2.1.trans ?_, (h c).2.2.2⟩)
      (Cert.UpReferenceIdeal.Value.run (F := Ideal) m' g')
    · rw [(hagree c).1, (hagree c).2.1]
      exact ref_mm _ _
    · rw [(hagree c).1, (hagree c).2.2]
      exact ref_mm _ _
    · rw [(hagree c).1, (hagree c).2.1, (hagree c).2.2]
      exact ref_g _ _ _

end Up

end
-- ==== Proof.ActGrad.lean ====
/- The gradients going back through the gate `silu a · b`, from the gradient of the feed-forward network's result and the weight of its
   last product: 512 rows per grid point, the 2816 columns in eleven slabs of 256. -/
module

public import proofs.«01_k».proof.Defs
public import proofs.«01_k».proof.Proof.Consts
public import proofs.«01_k».proof.Proof.Claims
public import proofs.«01_k».proof.Proof.Up
public import proofs.«01_k».proof.Proof.Gen.ActGrad.Frame
public import proofs.«01_k».proof.Proof.Gen.ActGradIdeal.Value
public import proofs.«01_k».proof.Proof.Gen.ActGradReferenceIdeal.Run

@[expose] public section

set_option maxRecDepth 16384

noncomputable section

open Idealize.ShloMosaic Idealize.ShloMosaic.TcCoe Idealize.ShloMosaic.ValueIdx Idealize.SL.Sem

namespace ActGrad

/-! ## The two derivatives -/

/-- The gradient at the gate's input `a`, as the kernel writes it: `d` is the gradient at the gate's result. -/
def gradA (d a b : EReal) : EReal :=
  d * b * (Dense.sg a * (Ideal.ofBits .f32 0x3F800000#32 + a * (Ideal.ofBits .f32 0x3F800000#32 - Dense.sg a)))

/-- The gradient at the gate's other input `b`. -/
def gradB (d a : EReal) : EReal := d * (a * Dense.sg a)

/-- The logistic function of a real number is a real number. -/
theorem sg_fin (a : ℝ) : Dense.sg (a : EReal) = ((1 / (1 + Real.exp (-a)) : ℝ) : EReal) := by
  unfold Dense.sg
  rw [Gating.one_lit, ← EReal.coe_neg, Ideal.exp_coe, ← EReal.coe_add, Gating.div_fin 1 (by positivity)]

/-- On real numbers the derivative of `a · sg a`, taken apart by the product rule, is the kernel's closed form. -/
theorem product_rule (d a b : ℝ) :
    (d : EReal) * b * Dense.sg a + a * ((d : EReal) * b) * (Dense.sg a * (Ideal.ofBits .f32 0x3F800000#32 - Dense.sg a)) = gradA d a b := by
  unfold gradA
  rw [sg_fin, Gating.one_lit]
  simp only [← EReal.coe_mul, ← EReal.coe_sub, ← EReal.coe_add]
  exact congrArg Real.toEReal (by ring)

/-- The other gradient needs only the order of the factors. -/
theorem gradB_comm (d a : EReal) : a * Dense.sg a * d = gradB d a := mul_comm (G := EReal) _ _

/-- A product of arrays of real numbers is an array of real numbers. -/
theorem prod_real (X : Cert.UpIdeal.S8192x1024.Idx → EReal) (U : Cert.UpIdeal.S2816x1024.Idx → EReal) (hX : ∀ i, X i = ((EReal.toReal (X i) : ℝ) : EReal))
    (hU : ∀ i, U i = ((EReal.toReal (U i) : ℝ) : EReal)) (i : Cert.UpIdeal.S8192x2816.Idx) : ∃ r : ℝ, Up.prod X U i = (r : EReal) :=
  ⟨_, (Finset.sum_congr rfl fun k _ => by rw [hX, hU, ← EReal.coe_mul]).trans (Gating.sum_fin Finset.univ _)⟩

/-! ## One point's blocks -/

section
open Cert.ActGradIdeal Cert.ActGradIdeal.Gen

variable (o : ℕ) (ho : o + 256 ≤ 2816)

/-- The 256 columns from `o` on. -/
abbrev col (a : Vec Ideal S512x2816 .bf16) : Vec Ideal S512x256 .bf16 :=
  View.ld a (Rect.unit (s := S512x2816) ![0, o] S512x256.size (Up.cols_in o ho))

/-- A place of the slab, in the whole block. -/
abbrev spot (y : S512x256.Idx) : S512x2816.Idx := (Rect.unit (s := S512x2816) ![0, o] S512x256.size (Up.cols_in o ho)).emb y

theorem a_piece (x : Vec Ideal S512x1024 .bf16) (u : Vec Ideal S2816x1024 .bf16) (a b : Vec Ideal S512x2816 .bf16) (y : S512x256.Idx) :
    (truncf .bf16 (mulf (mulf (Up.slab o ho x u) (extf .f32 (col o ho b) bitsLt_bf16_f32)) (mulf (divf (broadcast S512x256 (Scalar.ofBits .f32 0x3F800000#32)) (addf (broadcast S512x256 (Scalar.ofBits .f32 0x3F800000#32))
    (exp (subf (broadcast S512x256 (Scalar.ofBits .f32 0x00000000#32)) (extf .f32 (col o ho a) bitsLt_bf16_f32)))))
      (addf (broadcast S512x256 (Scalar.ofBits .f32 0x3F800000#32)) (mulf (extf .f32 (col o ho a) bitsLt_bf16_f32)
        (subf (broadcast S512x256 (Scalar.ofBits .f32 0x3F800000#32)) (divf (broadcast S512x256 (Scalar.ofBits .f32 0x3F800000#32)) (addf (broadcast S512x256 (Scalar.ofBits .f32 0x3F800000#32))
    (exp (subf (broadcast S512x256 (Scalar.ofBits .f32 0x00000000#32)) (extf .f32 (col o ho a) bitsLt_bf16_f32)))))))))) bitsLt_bf16_f32 : FVec Ideal S512x256 .bf16) y =
      gradA (Up.bprod x u (spot o ho y)) (a (spot o ho y)) (b (spot o ho y)) := by
  refine (congrArg (fun s : EReal => Up.slab o ho x u y * b (spot o ho y) * (s * (Ideal.ofBits .f32 0x3F800000#32 + a (spot o ho y) * (Ideal.ofBits .f32 0x3F800000#32 - s))))
    (Dense.sg_sub (a (spot o ho y)))).trans ?_
  rw [Up.slab_val o ho]; rfl

theorem b_piece (x : Vec Ideal S512x1024 .bf16) (u : Vec Ideal S2816x1024 .bf16) (a : Vec Ideal S512x2816 .bf16) (y : S512x256.Idx) :
    (truncf .bf16 (mulf (Up.slab o ho x u) (mulf (extf .f32 (col o ho a) bitsLt_bf16_f32) (divf (broadcast S512x256 (Scalar.ofBits .f32 0x3F800000#32)) (addf (broadcast S512x256 (Scalar.ofBits .f32 0x3F800000#32))
    (exp (subf (broadcast S512x256 (Scalar.ofBits .f32 0x00000000#32)) (extf .f32 (col o ho a) bitsLt_bf16_f32))))))) bitsLt_bf16_f32 : FVec Ideal S512x256 .bf16) y =
      gradB (Up.bprod x u (spot o ho y)) (a (spot o ho y)) := by
  refine (congrArg (fun s : EReal => Up.slab o ho x u y * (a (spot o ho y) * s)) (Dense.sg_sub (a (spot o ho y)))).trans ?_
  rw [Up.slab_val o ho]; rfl

/-- The first result's block. -/
theorem out_a (x : Vec Ideal S512x1024 .bf16) (u : Vec Ideal S2816x1024 .bf16) (a b : Vec Ideal S512x2816 .bf16) :
    out0_4 (F := Ideal) x u a b = fun i => gradA (Up.bprod x u i) (a i) (b i) := by
  funext y
  unfold out0_4
  refine View.canon_apply_of_pieces (Val := Elt Ideal) ((fun i => gradA (Up.bprod x u i) (a i) (b i)) : Vec Ideal S512x2816 .bf16) _ (View.PiecesOf.mem ?_) y
    (cover0_4 (F := Ideal) _ _ _ _ _ _ _ _ _ _ _ y)
  exact ⟨a_piece 2560 (by decide) x u a b, a_piece 2304 (by decide) x u a b, a_piece 2048 (by decide) x u a b, a_piece 1792 (by decide) x u a b, a_piece 1536 (by decide) x u a b,
    a_piece 1280 (by decide) x u a b, a_piece 1024 (by decide) x u a b, a_piece 768 (by decide) x u a b, a_piece 512 (by decide) x u a b, a_piece 256 (by decide) x u a b,
    a_piece 0 (by decide) x u a b, trivial⟩

/-- The second result's block. -/
theorem out_b (x : Vec Ideal S512x1024 .bf16) (u : Vec Ideal S2816x1024 .bf16) (a b : Vec Ideal S512x2816 .bf16) :
    out0_5 (F := Ideal) x u a b = fun i => gradB (Up.bprod x u i) (a i) := by
  funext y
  unfold out0_5
  refine View.canon_apply_of_pieces (Val := Elt Ideal) ((fun i => gradB (Up.bprod x u i) (a i)) : Vec Ideal S512x2816 .bf16) _ (View.PiecesOf.mem ?_) y
    (cover0_5 (F := Ideal) _ _ _ _ _ _ _ _ _ _ _ y)
  exact ⟨b_piece 2560 (by decide) x u a, b_piece 2304 (by decide) x u a, b_piece 2048 (by decide) x u a, b_piece 1792 (by decide) x u a, b_piece 1536 (by decide) x u a,
    b_piece 1280 (by decide) x u a, b_piece 1024 (by decide) x u a, b_piece 768 (by decide) x u a, b_piece 512 (by decide) x u a, b_piece 256 (by decide) x u a,
    b_piece 0 (by decide) x u a, trivial⟩

end

/-! ## The arrays -/

section
open Cert.ActGradIdeal Cert.ActGradIdeal.Gen

variable (m : (ℓ : Loc nD τ sig) → Buf (Elt Ideal) ℓ) (c : Dev nD)

/-- The call's arguments at launch. -/
abbrev dy : S8192x1024.Idx → EReal := m ((c : Thread nD τ).loc main_arg0)
abbrev wd : S2816x1024.Idx → EReal := m ((c : Thread nD τ).loc main_arg1)
abbrev ga : S8192x2816.Idx → EReal := m ((c : Thread nD τ).loc main_arg2)
abbrev gb : S8192x2816.Idx → EReal := m ((c : Thread nD τ).loc main_arg3)

theorem at0 : ∀ t : Fin cfg0.N, win0_0.index t 0 = t.val ∧ win0_0.index t 1 = 0 :=
  (by decide +kernel : ∀ t : Fin grid0.N, win0_0.index t 0 = t.val ∧ win0_0.index t 1 = 0)
theorem at1 : ∀ t : Fin cfg0.N, win0_1.index t 0 = 0 ∧ win0_1.index t 1 = 0 :=
  (by decide +kernel : ∀ t : Fin grid0.N, win0_1.index t 0 = 0 ∧ win0_1.index t 1 = 0)
theorem at2 : ∀ t : Fin cfg0.N, win0_2.index t 0 = t.val ∧ win0_2.index t 1 = 0 :=
  (by decide +kernel : ∀ t : Fin grid0.N, win0_2.index t 0 = t.val ∧ win0_2.index t 1 = 0)
theorem at3 : ∀ t : Fin cfg0.N, win0_3.index t 0 = t.val ∧ win0_3.index t 1 = 0 :=
  (by decide +kernel : ∀ t : Fin grid0.N, win0_3.index t 0 = t.val ∧ win0_3.index t 1 = 0)
theorem at4 : ∀ t : Fin cfg0.N, win0_4.index t 0 = t.val ∧ win0_4.index t 1 = 0 :=
  (by decide +kernel : ∀ t : Fin grid0.N, win0_4.index t 0 = t.val ∧ win0_4.index t 1 = 0)
theorem at5 : ∀ t : Fin cfg0.N, win0_5.index t 0 = t.val ∧ win0_5.index t 1 = 0 :=
  (by decide +kernel : ∀ t : Fin grid0.N, win0_5.index t 0 = t.val ∧ win0_5.index t 1 = 0)
theorem full4 : ∀ t : Fin cfg0.N, win0_4.xsize (grid0.coords t) 0 = 512 ∧ win0_4.xsize (grid0.coords t) 1 = 2816 :=
  (by decide +kernel : ∀ t : Fin grid0.N, win0_4.xsize (grid0.coords t) 0 = 512 ∧ win0_4.xsize (grid0.coords t) 1 = 2816)
theorem full5 : ∀ t : Fin cfg0.N, win0_5.xsize (grid0.coords t) 0 = 512 ∧ win0_5.xsize (grid0.coords t) 1 = 2816 :=
  (by decide +kernel : ∀ t : Fin grid0.N, win0_5.xsize (grid0.coords t) 0 = 512 ∧ win0_5.xsize (grid0.coords t) 1 = 2816)

theorem lt16 (t : Fin cfg0.N) : t.val < 16 := Nat.lt_of_lt_of_eq t.isLt N_0

theorem block_dy (t : Fin cfg0.N) (k : Fin 512) (j : Fin 1024) :
    (iblk m c 0 t : Vec Ideal S512x1024 .bf16) (ix2 k j) = dy m c (ix2 (Dense.row t.val k) j) := by
  have ht := lt16 t
  have hk := k.isLt
  unfold iblk
  rw [View.read_apply]
  refine congrArg (m ((c : Thread nD τ).loc main_arg0)) (funext fun a => Fin.ext ?_)
  match a with
  | ⟨0, _⟩ => show win0_0.index t 0 * 512 + 1 * k.val = (512 * t.val + k.val) % 8192; rw [(at0 t).1]; omega
  | ⟨1, _⟩ => show win0_0.index t 1 * 1024 + 1 * j.val = j.val; rw [(at0 t).2]; omega

theorem block_ga (t : Fin cfg0.N) (k : Fin 512) (j : Fin 2816) :
    (iblk m c 2 t : Vec Ideal S512x2816 .bf16) (ix2 k j) = ga m c (ix2 (Dense.row t.val k) j) := by
  have ht := lt16 t
  have hk := k.isLt
  unfold iblk
  rw [View.read_apply]
  refine congrArg (m ((c : Thread nD τ).loc main_arg2)) (funext fun a => Fin.ext ?_)
  match a with
  | ⟨0, _⟩ => show win0_2.index t 0 * 512 + 1 * k.val = (512 * t.val + k.val) % 8192; rw [(at2 t).1]; omega
  | ⟨1, _⟩ => show win0_2.index t 1 * 2816 + 1 * j.val = j.val; rw [(at2 t).2]; omega

theorem block_gb (t : Fin cfg0.N) (k : Fin 512) (j : Fin 2816) :
    (iblk m c 3 t : Vec Ideal S512x2816 .bf16) (ix2 k j) = gb m c (ix2 (Dense.row t.val k) j) := by
  have ht := lt16 t
  have hk := k.isLt
  unfold iblk
  rw [View.read_apply]
  refine congrArg (m ((c : Thread nD τ).loc main_arg3)) (funext fun a => Fin.ext ?_)
  match a with
  | ⟨0, _⟩ => show win0_3.index t 0 * 512 + 1 * k.val = (512 * t.val + k.val) % 8192; rw [(at3 t).1]; omega
  | ⟨1, _⟩ => show win0_3.index t 1 * 2816 + 1 * j.val = j.val; rw [(at3 t).2]; omega

theorem block_wd (t : Fin cfg0.N) (k : Fin 2816) (j : Fin 1024) :
    (iblk m c 1 t : Vec Ideal S2816x1024 .bf16) (ix2 k j) = wd m c (ix2 k j) := by
  unfold iblk
  rw [View.read_apply]
  refine congrArg (m ((c : Thread nD τ).loc main_arg1)) (funext fun a => Fin.ext ?_)
  match a with
  | ⟨0, _⟩ => show win0_1.index t 0 * 2816 + 1 * k.val = k.val; rw [(at1 t).1]; omega
  | ⟨1, _⟩ => show win0_1.index t 1 * 1024 + 1 * j.val = j.val; rw [(at1 t).2]; omega

/-- The gradient at the gate's result, whole. -/
abbrev dg : S8192x2816.Idx → EReal := Up.prod (dy m c) (wd m c)

/-- A place of a point's block is the place of the whole array a block's start further down; each array is read there. -/
theorem place (t : Fin cfg0.N) (j : S512x2816.Idx) (q : S8192x2816.Idx) (h0 : (q 0).val = t.val * 512 + 1 * (j 0).val) (h1 : (q 1).val = 0 * 2816 + 1 * (j 1).val) :
    Up.bprod (iblk m c 0 t : Vec Ideal S512x1024 .bf16) (iblk m c 1 t : Vec Ideal S2816x1024 .bf16) j = dg m c q
      ∧ (iblk m c 2 t : Vec Ideal S512x2816 .bf16) j = ga m c q ∧ (iblk m c 3 t : Vec Ideal S512x2816 .bf16) j = gb m c q := by
  have ht := lt16 t
  have hj : (j 0).val < 512 := (j 0).isLt
  have e0 : q 0 = Dense.row t.val (j 0) := Fin.ext (by show (q 0).val = (512 * t.val + (j 0).val) % 8192; omega)
  have e1 : q 1 = j 1 := Fin.ext (by omega)
  have eq : q = ix2 (Dense.row t.val (j 0)) (j 1) := (Gating.Claims.two q).trans (congrArg₂ (fun (a : Fin 8192) (b : Fin 2816) => (ix2 a b : S8192x2816.Idx)) e0 e1)
  refine ⟨?_, ?_, ?_⟩
  · show Up.bprod _ _ j = Up.prod _ _ q
    unfold Up.bprod Up.prod
    rw [e0, e1]
    exact Finset.sum_congr rfl fun k _ => congrArg₂ (fun a b : EReal => a * b) (block_dy m c t _ k) (block_wd m c t _ k)
  · rw [eq]
    exact (congrArg (iblk m c 2 t : Vec Ideal S512x2816 .bf16) (Gating.Claims.two j)).trans (block_ga m c t (j 0) (j 1))
  · rw [eq]
    exact (congrArg (iblk m c 3 t : Vec Ideal S512x2816 .bf16) (Gating.Claims.two j)).trans (block_gb m c t (j 0) (j 1))

theorem point (f : EReal → EReal → EReal → EReal) (t : Fin cfg0.N) (j : S512x2816.Idx) (q : S8192x2816.Idx) (h0 : (q 0).val = t.val * 512 + 1 * (j 0).val)
    (h1 : (q 1).val = 0 * 2816 + 1 * (j 1).val) :
    f (Up.bprod (iblk m c 0 t : Vec Ideal S512x1024 .bf16) (iblk m c 1 t : Vec Ideal S2816x1024 .bf16) j) ((iblk m c 2 t : Vec Ideal S512x2816 .bf16) j)
      ((iblk m c 3 t : Vec Ideal S512x2816 .bf16) j) = f (dg m c q) (ga m c q) (gb m c q) := by
  obtain ⟨hd, ha, hb⟩ := place m c t j q h0 h1
  rw [hd, ha, hb]

/-- The point whose block holds row `i`. -/
def ptOf (i : S8192x2816.Idx) : Fin cfg0.N := ⟨(i 0).val / 512, by
  have h : (i 0).val < 8192 := (i 0).isLt
  rw [show cfg0.N = 16 from N_0]; omega⟩

/-- The call's first result after the run. -/
theorem final_a : (dats m 0 c).arrAt 4 cfg0.N = (fun i => gradA (dg m c i) (ga m c i) (gb m c i) : S8192x2816.Idx → EReal) := by
  refine (dats m 0 c).arrAt_eq_of_cover 4 (fun i => gradA (dg m c i) (ga m c i) (gb m c i) : S8192x2816.Idx → EReal) (fun t _ => ?_) fun i => ⟨ptOf i, flush0_4 _, ?_⟩
  · rw [Value.flushed4, out_a]
    funext j
    rw [View.read_apply]
    exact point m c (gradA) t j _ (congrArg (· * 512 + 1 * (j 0).val) (at4 t).1) (congrArg (· * 2816 + 1 * (j 1).val) (at4 t).2)
  · show i ∈ ((View.whole main_v0_0).slice (win0_4.rect (ptOf i))).set
    rw [View.set_slice_whole, Rect.mem_set_unit]
    exact Dense.in_rows i _ _ (congrArg (· * 512) (at4 (ptOf i)).1) (full4 _).1 (congrArg (· * 2816) (at4 (ptOf i)).2) (full4 _).2

/-- The call's second result after the run. -/
theorem final_b : (dats m 0 c).arrAt 5 cfg0.N = (fun i => gradB (dg m c i) (ga m c i) : S8192x2816.Idx → EReal) := by
  refine (dats m 0 c).arrAt_eq_of_cover 5 (fun i => gradB (dg m c i) (ga m c i) : S8192x2816.Idx → EReal) (fun t _ => ?_) fun i => ⟨ptOf i, flush0_5 _, ?_⟩
  · rw [Value.flushed5, out_b]
    funext j
    rw [View.read_apply]
    exact point m c (fun d a _ => gradB d a) t j _ (congrArg (· * 512 + 1 * (j 0).val) (at5 t).1) (congrArg (· * 2816 + 1 * (j 1).val) (at5 t).2)
  · show i ∈ ((View.whole main_v0_1).slice (win0_5.rect (ptOf i))).set
    rw [View.set_slice_whole, Rect.mem_set_unit]
    exact Dense.in_rows i _ _ (congrArg (· * 512) (at5 (ptOf i)).1) (full5 _).1 (congrArg (· * 2816) (at5 (ptOf i)).2) (full5 _).2

end

/-! ## The claims -/

section
open Cert.ActGradReferenceIdeal Cert.ActGradReferenceIdeal.Facts₀

/-- The reference's product. -/
abbrev refMm (X : FVec Ideal S8192x1024 .bf16) (U : FVec Ideal S2816x1024 .bf16) : FVec Ideal S8192x2816 .f32 :=
  Host.dotGeneral dot_S8192x1024_S2816x1024_S8192x2816_1_1_0_0_n_n none (extf .f32 X bitsLt_bf16_f32) (extf .f32 U bitsLt_bf16_f32)

theorem ref_mm (X : FVec Ideal S8192x1024 .bf16) (U : FVec Ideal S2816x1024 .bf16) : refMm X U = Up.prod X U := by
  funext i
  refine Dense.dot_axis dot_S8192x1024_S2816x1024_S8192x2816_1_1_0_0_n_n 1024 rfl rfl (extf .f32 X bitsLt_bf16_f32)
    (extf .f32 U bitsLt_bf16_f32) i (fun k => ix2 (i 0) k) (fun k => ix2 (i 1) k)
    (fun k => funext fun a => Fin.ext ?_) fun k => funext fun a => Fin.ext ?_
  · match a with
    | ⟨0, _⟩ => rfl
    | ⟨1, _⟩ => rfl
  · match a with
    | ⟨0, _⟩ => rfl
    | ⟨1, _⟩ => rfl

/-- The reference's logistic function. -/
abbrev refSg (A : FVec Ideal S8192x2816 .bf16) : FVec Ideal S8192x2816 .f32 :=
  Host.divf (broadcastInDim S8192x2816 ![] bcast_S_S8192x2816 (constant S_ .f32 0x3F800000#32)) (addf (broadcastInDim S8192x2816 ![] bcast_S_S8192x2816 (constant S_ .f32 0x3F800000#32)) (Host.exp (Host.negf (extf .f32 A bitsLt_bf16_f32))))

/-- The reference's first gradient, entry by entry. -/
theorem ref_a (D : FVec Ideal S8192x2816 .f32) (A B : FVec Ideal S8192x2816 .bf16) (i : S8192x2816.Idx) (d a b : ℝ) (hd : D i = (d : EReal)) (ha : A i = (a : EReal)) (hb : B i = (b : EReal)) :
    (truncf .bf16 (addf (mulf (mulf D (extf .f32 B bitsLt_bf16_f32)) (refSg A))
      (mulf (mulf (extf .f32 A bitsLt_bf16_f32) (mulf D (extf .f32 B bitsLt_bf16_f32)))
        (mulf (refSg A) (subf (broadcastInDim S8192x2816 ![] bcast_S_S8192x2816 (constant S_ .f32 0x3F800000#32)) (refSg A))))) bitsLt_bf16_f32 : FVec Ideal S8192x2816 .bf16) i =
      gradA (D i) (A i) (B i) := by
  show (D i : EReal) * (B i : EReal) * Dense.sg (A i) + (A i : EReal) * ((D i : EReal) * (B i : EReal)) * (Dense.sg (A i) * (Ideal.ofBits .f32 0x3F800000#32 - Dense.sg (A i))) = _
  rw [hd, ha, hb]
  exact product_rule d a b

theorem ref_da (X : FVec Ideal S8192x1024 .bf16) (U : FVec Ideal S2816x1024 .bf16) (A B : FVec Ideal S8192x2816 .bf16)
    (hX : ∀ i, (X i : EReal) = ((EReal.toReal (X i) : ℝ) : EReal)) (hU : ∀ i, (U i : EReal) = ((EReal.toReal (U i) : ℝ) : EReal))
    (hA : ∀ i, (A i : EReal) = ((EReal.toReal (A i) : ℝ) : EReal)) (hB : ∀ i, (B i : EReal) = ((EReal.toReal (B i) : ℝ) : EReal)) :
    truncf .bf16 (addf (mulf (mulf (refMm X U) (extf .f32 B bitsLt_bf16_f32)) (refSg A))
      (mulf (mulf (extf .f32 A bitsLt_bf16_f32) (mulf (refMm X U) (extf .f32 B bitsLt_bf16_f32)))
        (mulf (refSg A) (subf (broadcastInDim S8192x2816 ![] bcast_S_S8192x2816 (constant S_ .f32 0x3F800000#32)) (refSg A))))) bitsLt_bf16_f32 =
      fun i => gradA (Up.prod X U i) (A i) (B i) := by
  funext i
  obtain ⟨d, hd⟩ := prod_real X U hX hU i
  rw [ref_mm]
  exact ref_a (Up.prod X U) A B i d _ _ hd (hA i) (hB i)

/-- The reference's second gradient. -/
theorem ref_b (D : FVec Ideal S8192x2816 .f32) (A : FVec Ideal S8192x2816 .bf16) :
    truncf .bf16 (mulf (mulf (extf .f32 A bitsLt_bf16_f32) (refSg A)) D) bitsLt_bf16_f32 = fun i => gradB (D i) (A i) :=
  funext fun i => gradB_comm (D i) (A i)

end

instance preFacts : Cert.Pre_dact_finite.Facts where
  bitsLt_bf16_f32 := by decide
  bcast_S_S8192x1024 := by decide
  bcast_S_S2816x1024 := by decide
  bcast_S_S8192x2816 := by decide

theorem frame_p : Cert.quiescent_ActGrad := fun m ρ _ => Cert.ActGrad.Gen.frame m ρ
theorem frame_pi : Cert.quiescent_ActGradIdeal := fun m ρ _ => Cert.ActGradIdeal.Gen.frame m ρ
theorem frame_pi_pre : Cert.quiescent_ActGradIdeal_pre_dact_finite := fun m ρ _ => Cert.ActGradIdeal.Gen.frame m ρ
theorem frame_ri : Cert.quiescent_ActGradReferenceIdeal := fun m ρ _ =>
  (θ_run Cert.ActGradReferenceIdeal.defs _ _).mono (fun r h => ⟨fun c => (h c).2.2, sem_eq_zero_of_no_sems (by decide) r.2⟩)
    (Cert.ActGradReferenceIdeal.Value.run (F := Ideal) m ρ)
theorem frame_ri_pre : Cert.quiescent_ActGradReferenceIdeal_pre_dact_finite := fun m ρ _ => frame_ri m ρ trivial
theorem preserves : Cert.preserves_ActGrad_ActGradIdeal := trivial

/-- The call's two results are the reference's gradients. -/
theorem algebraic : Cert.algebraic_ActGradIdeal_ActGradReferenceIdeal_pre_dact_finite := by
  intro m g m' g' hpre hagree
  refine ⟨fun c i => gradA (dg m c i) (ga m c i) (gb m c i), fun c i => gradB (dg m c i) (ga m c i), ?_, ?_⟩
  · exact (θ_run Cert.ActGradIdeal.defs _ _).mono (fun r h c => ⟨(h c).1.trans (final_a m c), (h c).2.1.trans (final_b m c), (h c).2.2⟩)
      (Cert.ActGradIdeal.Value.run_blocks (F := Ideal) m g)
  · refine (θ_run Cert.ActGradReferenceIdeal.defs _ _).mono (fun r h c => ⟨(h c).1.trans ?_, (h c).2.1.trans ?_, (h c).2.2⟩)
      (Cert.ActGradReferenceIdeal.Value.run (F := Ideal) m' g')
    · rw [(hagree c).1, (hagree c).2.1, (hagree c).2.2.1, (hagree c).2.2.2]
      exact ref_da (dy m c) (wd m c) (ga m c) (gb m c) (fun i => Gating.Claims.real_of_mask _ (congrFun (hpre c).1 i))
        (fun i => Gating.Claims.real_of_mask _ (congrFun (hpre c).2.1 i)) (fun i => Gating.Claims.real_of_mask _ (congrFun (hpre c).2.2.1 i))
        (fun i => Gating.Claims.real_of_mask _ (congrFun (hpre c).2.2.2 i))
    · rw [(hagree c).1, (hagree c).2.1, (hagree c).2.2.1]
      refine (ref_b (refMm (dy m c) (wd m c)) (ga m c)).trans ?_
      rw [ref_mm]
      rfl

end ActGrad

end
-- ==== Proof.Products.lean ====
/- Plain products of two matrices of any sizes, read at an entry, and the gradients they leave. -/
module

public import proofs.«01_k».proof.Proof.Dense
public import Idealize.ShloMosaic.Lib.KernelVsHost
public import Idealize.ShloMosaic.Lib.Pipeline.Value

@[expose] public section

noncomputable section

open Idealize.ShloMosaic Idealize.ShloMosaic.ValueIdx

namespace Products

abbrev Mat (M N : ℕ) : Shape := ⟨2, ![M, N]⟩

variable {M K N : ℕ} {φ₁ φ₂ : FTy}

/-- An index of a matrix is its row and its column. -/
theorem at_eq (q : (Mat M N).Idx) (i : Fin M) (j : Fin N) (h0 : (q 0).val = i.val) (h1 : (q 1).val = j.val) : q = ix2 i j :=
  funext fun a => Fin.ext (by match a with | ⟨0, _⟩ => exact h0 | ⟨1, _⟩ => exact h1)

/-- A place of a block of 512 rows, in the array. -/
theorem rows_at {α : Type} (f : (Mat 8192 N).Idx → α) (q : (Mat 8192 N).Idx) (t : ℕ) (k : Fin 512) (j : Fin N) (ht : t < 16)
    (h0 : (q 0).val = t * 512 + 1 * k.val) (h1 : (q 1).val = 0 * N + 1 * j.val) : f q = f (ix2 (Dense.row t k) j) := by
  have hk := k.isLt
  refine congrArg f (at_eq q _ _ ?_ (by rw [h1]; omega))
  show (q 0).val = (512 * t + k.val) % 8192
  rw [h0]; omega

/-- A place of a block that is the whole array. -/
theorem whole_at {α : Type} (f : (Mat K N).Idx → α) (q : (Mat K N).Idx) (k : Fin K) (j : Fin N)
    (h0 : (q 0).val = 0 * K + 1 * k.val) (h1 : (q 1).val = 0 * N + 1 * j.val) : f q = f (ix2 k j) :=
  congrArg f (at_eq q _ _ (by rw [h0]; omega) (by rw [h1]; omega))

/-- A result's place of a block of 512 rows. -/
theorem result_at (q : (Mat 8192 N).Idx) (t : ℕ) (k : Fin 512) (j : Fin N) (ht : t < 16)
    (h0 : (q 0).val = t * 512 + 1 * k.val) (h1 : (q 1).val = 0 * N + 1 * j.val) : q 0 = Dense.row t k ∧ q 1 = j := by
  have hk := k.isLt
  refine ⟨Fin.ext ?_, Fin.ext (by rw [h1]; omega)⟩
  show (q 0).val = (512 * t + k.val) % 8192
  rw [h0]; omega

/-- The entry of `x y` at row `i` and column `j`. -/
def entry (X : (Mat M K).Idx → EReal) (Y : (Mat K N).Idx → EReal) (i : Fin M) (j : Fin N) : EReal := ∑ k : Fin K, X (ix2 i k) * Y (ix2 k j)

/-- The entry of `x yᵀ`. -/
def entryT (X : (Mat M K).Idx → EReal) (Y : (Mat N K).Idx → EReal) (i : Fin M) (j : Fin N) : EReal := ∑ k : Fin K, X (ix2 i k) * Y (ix2 j k)

/-- The entry of `xᵀ y`. -/
def entryL (X : (Mat K M).Idx → EReal) (Y : (Mat K N).Idx → EReal) (i : Fin M) (j : Fin N) : EReal := ∑ k : Fin K, X (ix2 k i) * Y (ix2 k j)

/-- Entries of products agree when the row and the column do. -/
theorem entry_eq {L : ℕ} (x : (Mat M K).Idx → EReal) (w : (Mat K N).Idx → EReal) (X : (Mat L K).Idx → EReal) (W : (Mat K N).Idx → EReal)
    (i : Fin M) (r : Fin L) (j : Fin N) (hx : ∀ k, x (ix2 i k) = X (ix2 r k)) (hw : ∀ k, w (ix2 k j) = W (ix2 k j)) : entry x w i j = entry X W r j :=
  Finset.sum_congr rfl fun k _ => congrArg₂ (fun a b : EReal => a * b) (hx k) (hw k)

/-! ## Parts of an array -/

/-- Rows `lo` to `lo + n` of an array. -/
def part {R : ℕ} (lo n : ℕ) (h : lo + n ≤ R) (W : (Mat R N).Idx → EReal) : (Mat n N).Idx → EReal := fun i =>
  W (ix2 ⟨lo + (i 0).val, lt_of_lt_of_le (Nat.add_lt_add_left (i 0).isLt lo) h⟩ (i 1))

theorem slice_rows {R : ℕ} (lo n : ℕ) (h : lo + n ≤ R) (W : (Mat R N).Idx → EReal) (hs : (Mat R N).Slices ![lo, 0] (Mat n N)) :
    extractStridedSlice (Mat n N) ![lo, 0] W hs = part lo n h W :=
  funext fun i => extractStridedSlice_apply _ W hs i _ fun a => by
    match a with
    | ⟨0, _⟩ => rfl
    | ⟨1, _⟩ => exact (Nat.zero_add _).symm

/-- Columns between zeros, read inside. -/
theorem pad_in {C : ℕ} {u : Shape} (lo hi : ℕ) (x : (Mat M N).Idx → EReal) (v : u.Idx → EReal) (h : (Mat M N).Pads ![0, lo] ![0, hi] ![0, 0] (Mat M C))
    (hu : 0 < u.numel) (i : Fin M) (c : Fin C) (k : Fin N) (hk : c.val = lo + k.val) :
    pad (Mat M C) ![0, lo] ![0, hi] ![0, 0] x v h hu (ix2 i c) = x (ix2 i k) :=
  pad_apply_of_inside _ _ _ x v h hu _ _ fun a => by
    match a with
    | ⟨0, _⟩ => show i.val = 0 + i.val * (0 + 1); omega
    | ⟨1, _⟩ => show c.val = lo + k.val * (0 + 1); omega

/-- Columns between zeros, read outside. -/
theorem pad_out {C : ℕ} {u : Shape} (lo hi : ℕ) (x : (Mat M N).Idx → EReal) (v : u.Idx → EReal) (h : (Mat M N).Pads ![0, lo] ![0, hi] ![0, 0] (Mat M C))
    (hu : 0 < u.numel) (i : Fin M) (c : Fin C) (hc : c.val < lo ∨ lo + N ≤ c.val) (hv : v (Shape.Idx.first hu) = 0) :
    pad (Mat M C) ![0, lo] ![0, hi] ![0, 0] x v h hu (ix2 i c) = 0 :=
  (pad_apply_of_not_inside _ _ _ x v h hu _ (1 : Fin 2) fun hh => by
    have h1 : lo ≤ c.val := hh.1
    have h2 : (c.val - lo) / (0 + 1) < N := hh.2.2
    rw [Nat.zero_add, Nat.div_one] at h2
    omega).trans hv

/-- Rows above zeros, read inside. -/
theorem below_in {R : ℕ} {u : Shape} (hi : ℕ) (x : (Mat M N).Idx → EReal) (v : u.Idx → EReal) (h : (Mat M N).Pads ![0, 0] ![hi, 0] ![0, 0] (Mat R N))
    (hu : 0 < u.numel) (r : Fin R) (j : Fin N) (k : Fin M) (hk : r.val = k.val) :
    pad (Mat R N) ![0, 0] ![hi, 0] ![0, 0] x v h hu (ix2 r j) = x (ix2 k j) :=
  pad_apply_of_inside _ _ _ x v h hu _ _ fun a => by
    match a with
    | ⟨0, _⟩ => show r.val = 0 + k.val * (0 + 1); omega
    | ⟨1, _⟩ => show j.val = 0 + j.val * (0 + 1); omega

/-- Rows above zeros, read in the zeros. -/
theorem below_out {R : ℕ} {u : Shape} (hi : ℕ) (x : (Mat M N).Idx → EReal) (v : u.Idx → EReal) (h : (Mat M N).Pads ![0, 0] ![hi, 0] ![0, 0] (Mat R N))
    (hu : 0 < u.numel) (r : Fin R) (j : Fin N) (hr : M ≤ r.val) (hv : v (Shape.Idx.first hu) = 0) :
    pad (Mat R N) ![0, 0] ![hi, 0] ![0, 0] x v h hu (ix2 r j) = 0 :=
  (pad_apply_of_not_inside _ _ _ x v h hu _ (0 : Fin 2) fun hh => by
    have h2 : (r.val - 0) / (0 + 1) < M := hh.2.2
    rw [Nat.zero_add, Nat.div_one] at h2
    omega).trans hv

/-- The padding value both programs use. -/
theorem zero_const {u : Shape} (hu : 0 < u.numel) : constant (F := Ideal) u .f32 0x00000000#32 (Shape.Idx.first hu) = (0 : EReal) :=
  Ideal.ofBits_zero_f32

/-- A matrix turned over. -/
theorem turned {α : Type} (P : (Mat N M).Idx → α) (h : (Mat N M).Transposes [1, 0] (Mat M N)) (i : (Mat M N).Idx) :
    transpose (Mat M N) [1, 0] P h i = P (ix2 (i 1) (i 0)) :=
  transpose_apply [1, 0] P h i (ix2 (i 1) (i 0)) fun b => by match b with | ⟨0, _⟩ => rfl | ⟨1, _⟩ => rfl

/-- Turned over twice. -/
theorem turned_twice {α : Type} (P : (Mat M N).Idx → α) (h : (Mat N M).Transposes [1, 0] (Mat M N)) (h' : (Mat M N).Transposes [1, 0] (Mat N M)) :
    transpose (Mat M N) [1, 0] (transpose (Mat N M) [1, 0] P h') h = P :=
  funext fun i => (turned _ h i).trans ((turned P h' _).trans (congrArg P (at_eq _ _ _ rfl rfl).symm))

/-! ## Products -/

/-- `x y`. -/
def nn (M K N : ℕ) (wf : DotDims.WF (Mat M K) (Mat K N) (Mat M N) [1] [0] [0] [1] [] []) : DotDims (Mat M K) (Mat K N) (Mat M N) where
  lhsContracting := [1]
  rhsContracting := [0]
  lhsNonContracting := [0]
  rhsNonContracting := [1]
  lhsBatch := []
  rhsBatch := []
  wf := wf

/-- `x yᵀ`. -/
def nt (M K N : ℕ) (wf : DotDims.WF (Mat M K) (Mat N K) (Mat M N) [1] [1] [0] [0] [] []) : DotDims (Mat M K) (Mat N K) (Mat M N) where
  lhsContracting := [1]
  rhsContracting := [1]
  lhsNonContracting := [0]
  rhsNonContracting := [0]
  lhsBatch := []
  rhsBatch := []
  wf := wf

/-- `xᵀ y`. -/
def tn (M K N : ℕ) (wf : DotDims.WF (Mat K M) (Mat K N) (Mat M N) [0] [0] [1] [1] [] []) : DotDims (Mat K M) (Mat K N) (Mat M N) where
  lhsContracting := [0]
  rhsContracting := [0]
  lhsNonContracting := [1]
  rhsNonContracting := [1]
  lhsBatch := []
  rhsBatch := []
  wf := wf

theorem nn_left (wf) (i : (Mat M N).Idx) (k : Fin K) : (nn M K N wf).lhsIdx i ((contrEquiv1 (nn M K N wf) K rfl rfl).symm k) = ix2 (i 0) k :=
  at_eq _ _ _ rfl rfl
theorem nn_right (wf) (i : (Mat M N).Idx) (k : Fin K) : (nn M K N wf).rhsIdx i ((contrEquiv1 (nn M K N wf) K rfl rfl).symm k) = ix2 k (i 1) :=
  at_eq _ _ _ rfl rfl
theorem nt_left (wf) (i : (Mat M N).Idx) (k : Fin K) : (nt M K N wf).lhsIdx i ((contrEquiv1 (nt M K N wf) K rfl rfl).symm k) = ix2 (i 0) k :=
  at_eq _ _ _ rfl rfl
theorem nt_right (wf) (i : (Mat M N).Idx) (k : Fin K) : (nt M K N wf).rhsIdx i ((contrEquiv1 (nt M K N wf) K rfl rfl).symm k) = ix2 (i 1) k :=
  at_eq _ _ _ rfl rfl
theorem tn_left (wf) (i : (Mat M N).Idx) (k : Fin K) : (tn M K N wf).lhsIdx i ((contrEquiv1 (tn M K N wf) K rfl rfl).symm k) = ix2 k (i 0) :=
  at_eq _ _ _ rfl rfl
theorem tn_right (wf) (i : (Mat M N).Idx) (k : Fin K) : (tn M K N wf).rhsIdx i ((contrEquiv1 (tn M K N wf) K rfl rfl).symm k) = ix2 k (i 1) :=
  at_eq _ _ _ rfl rfl

theorem mm_nn (wf) (x : FVec Ideal (Mat M K) φ₁) (y : FVec Ideal (Mat K N) φ₂) (i : (Mat M N).Idx) :
    matmul (nn M K N wf) none x y (constant (Mat M N) .f32 0x00000000#32) i = ∑ k : Fin K, (x (ix2 (i 0) k) : EReal) * (y (ix2 k (i 1)) : EReal) :=
  Dense.matmul_axis _ K rfl rfl x y i _ _ (nn_left wf i) (nn_right wf i)
theorem mm_nt (wf) (x : FVec Ideal (Mat M K) φ₁) (y : FVec Ideal (Mat N K) φ₂) (i : (Mat M N).Idx) :
    matmul (nt M K N wf) none x y (constant (Mat M N) .f32 0x00000000#32) i = ∑ k : Fin K, (x (ix2 (i 0) k) : EReal) * (y (ix2 (i 1) k) : EReal) :=
  Dense.matmul_axis _ K rfl rfl x y i _ _ (nt_left wf i) (nt_right wf i)
theorem mm_tn (wf) (x : FVec Ideal (Mat K M) φ₁) (y : FVec Ideal (Mat K N) φ₂) (i : (Mat M N).Idx) :
    matmul (tn M K N wf) none x y (constant (Mat M N) .f32 0x00000000#32) i = ∑ k : Fin K, (x (ix2 k (i 0)) : EReal) * (y (ix2 k (i 1)) : EReal) :=
  Dense.matmul_axis _ K rfl rfl x y i _ _ (tn_left wf i) (tn_right wf i)

theorem dot_nt (wf) (x : FVec Ideal (Mat M K) φ₁) (y : FVec Ideal (Mat N K) φ₂) (i : (Mat M N).Idx) :
    Host.dotGeneral (nt M K N wf) none x y i = ∑ k : Fin K, (x (ix2 (i 0) k) : EReal) * (y (ix2 (i 1) k) : EReal) :=
  Dense.dot_axis _ K rfl rfl x y i _ _ (nt_left wf i) (nt_right wf i)
theorem dot_nn (wf) (x : FVec Ideal (Mat M K) φ₁) (y : FVec Ideal (Mat K N) φ₂) (i : (Mat M N).Idx) :
    Host.dotGeneral (nn M K N wf) none x y i = ∑ k : Fin K, (x (ix2 (i 0) k) : EReal) * (y (ix2 k (i 1)) : EReal) :=
  Dense.dot_axis _ K rfl rfl x y i _ _ (nn_left wf i) (nn_right wf i)
theorem dot_tn (wf) (x : FVec Ideal (Mat K M) φ₁) (y : FVec Ideal (Mat K N) φ₂) (i : (Mat M N).Idx) :
    Host.dotGeneral (tn M K N wf) none x y i = ∑ k : Fin K, (x (ix2 k (i 0)) : EReal) * (y (ix2 k (i 1)) : EReal) :=
  Dense.dot_axis _ K rfl rfl x y i _ _ (tn_left wf i) (tn_right wf i)

/-! ## Sums over blocks of rows -/

/-- Row `k` of block `T` of `B` rows. -/
def blockRow (B T : ℕ) (k : Fin B) : Fin 8192 := ⟨(B * T + k.val) % 8192, Nat.mod_lt _ (by decide)⟩

/-- The sum over the blocks of rows is the sum over the rows. -/
theorem row_sum (B n : ℕ) (h : n * B = 8192) (f : Fin 8192 → EReal) : ∑ T ∈ Finset.range n, ∑ k, f (blockRow B T k) = ∑ r, f r := by
  rw [Finset.sum_range, ← Fintype.sum_prod_type' (fun (T : Fin n) k => f (blockRow B T.val k))]
  refine Fintype.sum_equiv (finProdFinEquiv.trans (finCongr h)) _ f fun p => congrArg f (Fin.ext ?_)
  show (B * p.1.val + p.2.val) % 8192 = p.2.val + B * p.1.val
  have h3 : p.2.val + B * p.1.val < 8192 := lt_of_lt_of_eq (finProdFinEquiv p).isLt h
  rw [Nat.mod_eq_of_lt (by omega)]; omega

/-- A place of a block of `B` rows, in the array. -/
theorem blocks_at {α : Type} {B : ℕ} (f : (Mat 8192 N).Idx → α) (q : (Mat 8192 N).Idx) (t : ℕ) (k : Fin B) (j : Fin N) (ht : t * B + B ≤ 8192)
    (h0 : (q 0).val = t * B + 1 * k.val) (h1 : (q 1).val = 0 * N + 1 * j.val) : f q = f (ix2 (blockRow B t k) j) := by
  have hk := k.isLt
  refine congrArg f (at_eq q _ _ ?_ (by rw [h1]; omega))
  show (q 0).val = (B * t + k.val) % 8192
  rw [h0, Nat.mul_comm B t, Nat.mod_eq_of_lt (by omega)]; omega

/-- `xᵀ y` over the first `n` blocks of `B` rows. -/
def upTo (B : ℕ) (X : (Mat 8192 M).Idx → EReal) (Y : (Mat 8192 N).Idx → EReal) (n : ℕ) : (Mat M N).Idx → EReal := fun i =>
  ∑ T ∈ Finset.range n, ∑ k : Fin B, X (ix2 (blockRow B T k) (i 0)) * Y (ix2 (blockRow B T k) (i 1))

/-- `xᵀ y`. -/
def product (X : (Mat K M).Idx → EReal) (Y : (Mat K N).Idx → EReal) : (Mat M N).Idx → EReal := fun i => entryL X Y (i 0) (i 1)

theorem upTo_none (B : ℕ) (X : (Mat 8192 M).Idx → EReal) (Y : (Mat 8192 N).Idx → EReal) : (fun _ => 0) = upTo B X Y 0 :=
  funext fun _ => (Finset.sum_range_zero _).symm

/-- One block more. -/
theorem upTo_step (B n : ℕ) (X : (Mat 8192 M).Idx → EReal) (Y : (Mat 8192 N).Idx → EReal) (z : (Mat M N).Idx → EReal) (x : (Mat B M).Idx → EReal)
    (y : (Mat B N).Idx → EReal) (hz : z = upTo B X Y n) (hx : ∀ k j, x (ix2 k j) = X (ix2 (blockRow B n k) j))
    (hy : ∀ k j, y (ix2 k j) = Y (ix2 (blockRow B n k) j)) : (fun i => z i + entryL x y (i 0) (i 1)) = upTo B X Y (n + 1) := by
  funext i
  rw [hz]
  refine Eq.trans ?_ (Finset.sum_range_succ _ _).symm
  exact congrArg (upTo B X Y n i + ·) (Finset.sum_congr rfl fun k _ => congrArg₂ (fun a b : EReal => a * b) (hx k _) (hy k _))

theorem upTo_all (B n : ℕ) (h : n * B = 8192) (X : (Mat 8192 M).Idx → EReal) (Y : (Mat 8192 N).Idx → EReal) : upTo B X Y n = product X Y :=
  funext fun i => row_sum B n h fun r => X (ix2 r (i 0)) * Y (ix2 r (i 1))

/-- The factors' order does not matter. -/
theorem product_turned (X : (Mat K M).Idx → EReal) (Y : (Mat K N).Idx → EReal) (i : (Mat M N).Idx) : product Y X (ix2 (i 1) (i 0)) = product X Y i := by
  show ∑ r : Fin K, Y (ix2 r (i 1)) * X (ix2 r (i 0)) = ∑ r : Fin K, X (ix2 r (i 0)) * Y (ix2 r (i 1))
  exact Finset.sum_congr rfl fun r _ => mul_comm (Y (ix2 r (i 1))) (X (ix2 r (i 0)))

end Products

end
-- ==== Proof.OutGrad1.lean ====
/- The gradient of the attention's output product by its input, `ct wᵀ`, 512 rows per grid point. -/
module

public import proofs.«01_k».proof.Defs
public import proofs.«01_k».proof.Proof.Products
public import proofs.«01_k».proof.Proof.Gen.OutGrad1.Frame
public import proofs.«01_k».proof.Proof.Gen.OutGrad1Ideal.Value
public import proofs.«01_k».proof.Proof.Gen.OutGrad1ReferenceIdeal.Run
public import Idealize.ShloMosaic.Lib.Pipeline.ReadBack
public import Idealize.ShloMosaic.Lib.Quiescent
public import Idealize.ShloMosaic.Lib.Claim

@[expose] public section

set_option maxRecDepth 16384

noncomputable section

open Idealize.ShloMosaic Idealize.ShloMosaic.TcCoe Idealize.ShloMosaic.ValueIdx Idealize.SL.Sem

namespace OutGrad1

section
open Cert.OutGrad1Ideal Cert.OutGrad1Ideal.Gen

/-- The gradient, entry by entry. -/
def total (X : S8192x1024.Idx → EReal) (W : S1024x1024.Idx → EReal) : S8192x1024.Idx → EReal := fun i => Products.entryT X W (i 0) (i 1)

/-- What a point leaves: the product of its blocks. -/
theorem out_val (x : Vec Ideal S512x1024 .bf16) (w : Vec Ideal S1024x1024 .bf16) (i : S512x1024.Idx) :
    out0_2 (F := Ideal) x w i = Products.entryT x w (i 0) (i 1) := by
  unfold out0_2
  rw [View.canon_unit_zero (S := S512x1024) Dense.zero2, View.ld_unit_zero (S := S1024x1024) Dense.zero2, View.ld_unit_zero (S := S512x1024) Dense.zero2]
  exact Products.mm_nt (M := 512) (K := 1024) (N := 1024) _ x w i

theorem at0 : ∀ t : Fin cfg0.N, win0_0.index t 0 = t.val ∧ win0_0.index t 1 = 0 :=
  (by decide +kernel : ∀ t : Fin grid0.N, win0_0.index t 0 = t.val ∧ win0_0.index t 1 = 0)
theorem at1 : ∀ t : Fin cfg0.N, win0_1.index t 0 = 0 ∧ win0_1.index t 1 = 0 :=
  (by decide +kernel : ∀ t : Fin grid0.N, win0_1.index t 0 = 0 ∧ win0_1.index t 1 = 0)
theorem at2 : ∀ t : Fin cfg0.N, win0_2.index t 0 = t.val ∧ win0_2.index t 1 = 0 :=
  (by decide +kernel : ∀ t : Fin grid0.N, win0_2.index t 0 = t.val ∧ win0_2.index t 1 = 0)
theorem full2 : ∀ t : Fin cfg0.N, win0_2.xsize (grid0.coords t) 0 = 512 ∧ win0_2.xsize (grid0.coords t) 1 = 1024 :=
  (by decide +kernel : ∀ t : Fin grid0.N, win0_2.xsize (grid0.coords t) 0 = 512 ∧ win0_2.xsize (grid0.coords t) 1 = 1024)

theorem lt16 (t : Fin cfg0.N) : t.val < 16 := Nat.lt_of_lt_of_eq t.isLt N_0

/-- The point whose block holds row `i`. -/
def ptOf (i : S8192x1024.Idx) : Fin cfg0.N := ⟨(i 0).val / 512, by
  have h : (i 0).val < 8192 := (i 0).isLt
  rw [show cfg0.N = 16 from N_0]; omega⟩

section
variable (m : (ℓ : Loc nD τ sig) → Buf (Elt Ideal) ℓ) (c : Dev nD)

/-- The call's arguments at launch. -/
abbrev ct : S8192x1024.Idx → EReal := m ((c : Thread nD τ).loc main_arg0)
abbrev wt : S1024x1024.Idx → EReal := m ((c : Thread nD τ).loc main_arg1)

theorem block_ct (t : Fin cfg0.N) (k : Fin 512) (j : Fin 1024) :
    (iblk m c 0 t : Vec Ideal S512x1024 .bf16) (ix2 k j) = ct m c (ix2 (Dense.row t.val k) j) := by
  unfold iblk
  rw [View.read_apply]
  exact Products.rows_at (ct m c) _ t.val k j (lt16 t) (congrArg (· * 512 + 1 * k.val) (at0 t).1) (congrArg (· * 1024 + 1 * j.val) (at0 t).2)

theorem block_wt (t : Fin cfg0.N) (k : Fin 1024) (j : Fin 1024) :
    (iblk m c 1 t : Vec Ideal S1024x1024 .bf16) (ix2 k j) = wt m c (ix2 k j) := by
  unfold iblk
  rw [View.read_apply]
  exact Products.whole_at (wt m c) _ k j (congrArg (· * 1024 + 1 * k.val) (at1 t).1) (congrArg (· * 1024 + 1 * j.val) (at1 t).2)

/-- A point's block of the result is the gradient's. -/
theorem point (t : Fin cfg0.N) (j : S512x1024.Idx) (q : S8192x1024.Idx) (h0 : (q 0).val = t.val * 512 + 1 * (j 0).val)
    (h1 : (q 1).val = 0 * 1024 + 1 * (j 1).val) :
    out0_2 (F := Ideal) (iblk m c 0 t) (iblk m c 1 t) j = total (ct m c) (wt m c) q := by
  have h := Products.result_at q t.val (j 0) (j 1) (lt16 t) h0 h1
  refine (out_val _ _ j).trans ?_
  unfold total
  rw [h.1, h.2]
  exact Finset.sum_congr rfl fun k _ => congrArg₂ (fun a b : EReal => a * b) (block_ct m c t _ k) (block_wt m c t _ k)

/-- The result array after the run. -/
theorem final : (dats m 0 c).arrAt 2 cfg0.N = total (ct m c) (wt m c) := by
  refine (dats m 0 c).arrAt_eq_of_cover 2 (total (ct m c) (wt m c)) (fun t _ => ?_) fun i => ⟨ptOf i, flush0_2 _, ?_⟩
  · rw [Value.flushed2]
    funext j
    rw [View.read_apply]
    exact point m c t j _ (congrArg (· * 512 + 1 * (j 0).val) (at2 t).1) (congrArg (· * 1024 + 1 * (j 1).val) (at2 t).2)
  · show i ∈ ((View.whole main_v0).slice (win0_2.rect (ptOf i))).set
    rw [View.set_slice_whole, Rect.mem_set_unit]
    exact Dense.in_rows i _ _ (congrArg (· * 512) (at2 _).1) (full2 _).1 (congrArg (· * 1024) (at2 _).2) (full2 _).2

end

end

/-! ## The claims -/

section
open Cert.OutGrad1ReferenceIdeal Cert.OutGrad1ReferenceIdeal.Facts₀

/-- The reference's product. -/
theorem ref_val (X : FVec Ideal S8192x1024 .bf16) (W : FVec Ideal S1024x1024 .bf16) :
    truncf .bf16 (Host.dotGeneral dot_S8192x1024_S1024x1024_S8192x1024_1_1_0_0_n_n none
      (extf .f32 X bitsLt_bf16_f32) (extf .f32 W bitsLt_bf16_f32)) bitsLt_bf16_f32 = total X W :=
  funext fun i => Products.dot_nt (M := 8192) (K := 1024) (N := 1024) _ (extf .f32 X bitsLt_bf16_f32) (extf .f32 W bitsLt_bf16_f32) i

end

theorem frame_p : Cert.quiescent_OutGrad1 := fun m ρ _ => Cert.OutGrad1.Gen.frame m ρ
theorem frame_pi : Cert.quiescent_OutGrad1Ideal := fun m ρ _ => Cert.OutGrad1Ideal.Gen.frame m ρ
theorem frame_ri : Cert.quiescent_OutGrad1ReferenceIdeal := fun m ρ _ =>
  (θ_run Cert.OutGrad1ReferenceIdeal.defs _ _).mono (fun r h => ⟨fun c => (h c).2, sem_eq_zero_of_no_sems (by decide) r.2⟩)
    (Cert.OutGrad1ReferenceIdeal.Value.run (F := Ideal) m ρ)
theorem preserves : Cert.preserves_OutGrad1_OutGrad1Ideal := trivial

/-- The call's result is the reference's gradient. -/
theorem algebraic : Cert.algebraic_OutGrad1Ideal_OutGrad1ReferenceIdeal := by
  intro m g m' g' _ hagree
  refine ⟨fun c => total (ct m c) (wt m c), ?_, ?_⟩
  · exact (θ_run Cert.OutGrad1Ideal.defs _ _).mono (fun r h c => ⟨(h c).1.trans (final m c), (h c).2⟩) (Cert.OutGrad1Ideal.Value.run_blocks (F := Ideal) m g)
  · refine (θ_run Cert.OutGrad1ReferenceIdeal.defs _ _).mono (fun r h c => ⟨(h c).1.trans ?_, (h c).2⟩)
      (Cert.OutGrad1ReferenceIdeal.Value.run (F := Ideal) m' g')
    rw [(hagree c).1, (hagree c).2]
    exact ref_val _ _

end OutGrad1

end
-- ==== Proof.OutWeight1.lean ====
/- The gradient of the attention's output product by its weights, `attᵀ ct`: one product of 1024 rows per grid point, added into a
   scratch array that is written back at the last point. -/
module

public import proofs.«01_k».proof.Defs
public import proofs.«01_k».proof.Proof.Products
public import proofs.«01_k».proof.Proof.Gen.OutWeight1.Frame
public import proofs.«01_k».proof.Proof.Gen.OutWeight1Ideal.Value
public import proofs.«01_k».proof.Proof.Gen.OutWeight1ReferenceIdeal.Run
public import Idealize.ShloMosaic.Lib.Pipeline.ReadBack
public import Idealize.ShloMosaic.Lib.Quiescent
public import Idealize.ShloMosaic.Lib.Claim

@[expose] public section

set_option maxRecDepth 16384

noncomputable section

open Idealize.ShloMosaic Idealize.ShloMosaic.TcCoe Idealize.ShloMosaic.ValueIdx Idealize.SL.Sem

namespace OutWeight1

section
open Cert.OutWeight1Ideal Cert.OutWeight1Ideal.Gen

/-! ## One grid point -/

/-- The sum for `att` starts at zero, -/
theorem start_0 : k0_pay1 (F := Ideal) = fun _ => (0 : EReal) := by
  funext i
  unfold k0_pay1
  simp only [shapeCast_self]
  exact Ideal.ofBits_zero_f32

/-- and one block's product is added to what was there. -/
theorem add_0 (x : Vec Ideal S1024x1024 .bf16) (y : Vec Ideal S1024x1024 .bf16) (z : Vec Ideal S1024x1024 .f32) :
    k0_pay2 (F := Ideal) z x y = fun i => (z i + Products.entryL x y (i 0) (i 1) : EReal) := by
  funext i
  unfold k0_pay2
  simp only [shapeCast_self]
  exact congrArg (z i + ·) (Products.mm_tn (M := 1024) (K := 1024) (N := 1024) _ x y i)

/-- The sum is handed out as it is. -/
theorem out_0 (z : Vec Ideal S1024x1024 .f32) : k0_pay3 (F := Ideal) z = z := by
  unfold k0_pay3
  rfl

section
variable (c : Dev nD) (i : grid0.Coords)
  (a1 : Memref sig .tc .vmem S1024x1024 .bf16) (h1 : a1.IsWhole)
  (a2 : Memref sig .tc .vmem S1024x1024 .bf16) (h2 : a2.IsWhole)
  (a3 : Memref sig .tc .vmem S1024x1024 .bf16) (h3 : a3.IsWhole)
  (a4 : Memref sig .tc .vmem S1024x1024 .f32) (h4 : a4.IsWhole)
  (x0 : Vec Ideal S1024x1024 .bf16) (y : Vec Ideal S1024x1024 .bf16)
  (z0 : Vec Ideal S1024x1024 .f32)

theorem ld_1024x1024 {e : EltTy} (z : Vec Ideal S1024x1024 e) (h) : View.ld z (Rect.unit ![0, 0] ![1024, 1024] h : Rect S1024x1024) = z :=
  View.ld_unit_zero (S := S1024x1024) Dense.zero2 _ _
theorem readCov_1024x1024 (z : Vec Ideal S1024x1024 .f32) (v : View sig .tc .vmem S1024x1024 .f32) (h) (L) (r : Rect S1024x1024) :
    v.readCov ((⟨Rect.unit ![0, 0] ![1024, 1024] h, z⟩ : View.Piece (Elt Ideal) S1024x1024 .f32) :: L) r.toLoadRect = View.ld z r :=
  View.readCov_fill v h z L r fun a => by match a with | ⟨0, _⟩ => rfl | ⟨1, _⟩ => rfl

/-- The first point leaves its products, added to zero. -/
theorem first_point (c0 : cond0_0 i) (c1 : ¬cond0_1 i) :
    sout0_A_0 c i a1 h1 a2 h2 a3 h3 a4 h4 c0 c1 x0 y = k0_pay2 (F := Ideal) (k0_pay1 (F := Ideal)) x0 y := by
  unfold sout0_A_0
  rw [View.read_writes_junk_eq_canon]
  unfold kernelRun0_A; dsimp only; sl_unfold_words
  simp only [View.readAt_eq_ld, Memref.IsWhole.read_unread, ld_1024x1024, readCov_1024x1024]
  exact View.canon_cons_unit_zero (S := S1024x1024) Dense.zero2 _ _ _

/-- A point in between adds its products. -/
theorem next_point (c0 : ¬cond0_0 i) (c1 : ¬cond0_1 i) :
    sout0_B_0 c i a1 h1 a2 h2 a3 h3 a4 h4 c0 c1 x0 y z0 = k0_pay2 (F := Ideal) z0 x0 y := by
  unfold sout0_B_0
  rw [View.read_writes_junk_eq_canon]
  unfold kernelRun0_B; dsimp only; sl_unfold_words
  simp only [View.readAt_eq_ld, Memref.IsWhole.read_unread, ld_1024x1024, readCov_1024x1024]
  exact View.canon_cons_unit_zero (S := S1024x1024) Dense.zero2 _ _ _

/-- The last point adds its products and hands the sums out. -/
theorem last_point (c0 : ¬cond0_0 i) (c1 : cond0_1 i) :
    out0_C_2 c i a1 h1 a2 h2 a3 h3 a4 h4 c0 c1 x0 y z0 = k0_pay3 (F := Ideal) (k0_pay2 (F := Ideal) z0 x0 y) := by
  unfold out0_C_2
  rw [View.read_writes_junk_eq_canon]
  unfold kernelRun0_C; dsimp only; sl_unfold_words
  simp only [View.readAt_eq_ld, Memref.IsWhole.read_unread, ld_1024x1024, readCov_1024x1024]
  exact View.canon_cons_unit_zero (S := S1024x1024) Dense.zero2 _ _ _

end

/-! ## The run -/

variable (m : (ℓ : Loc nD τ sig) → Buf (Elt Ideal) ℓ) (c : Dev nD)

/-- The products' arguments at launch. -/
abbrev att : S8192x1024.Idx → EReal := m ((c : Thread nD τ).loc main_arg0)
abbrev ct : S8192x1024.Idx → EReal := m ((c : Thread nD τ).loc main_arg1)

theorem at0 : ∀ t : Fin cfg0.N, win0_0.index t 0 = t.val ∧ win0_0.index t 1 = 0 :=
  (by decide +kernel : ∀ t : Fin grid0.N, win0_0.index t 0 = t.val ∧ win0_0.index t 1 = 0)
theorem at1 : ∀ t : Fin cfg0.N, win0_1.index t 0 = t.val ∧ win0_1.index t 1 = 0 :=
  (by decide +kernel : ∀ t : Fin grid0.N, win0_1.index t 0 = t.val ∧ win0_1.index t 1 = 0)

theorem inside (t : Fin cfg0.N) : t.val * 1024 + 1024 ≤ 8192 := by
  have h : t.val < 8 := Nat.lt_of_lt_of_eq t.isLt N_0
  omega

theorem block_att (t : Fin cfg0.N) (k : Fin 1024) (j : Fin 1024) :
    (iblk m c 0 t : Vec Ideal S1024x1024 .bf16) (ix2 k j) = att m c (ix2 (Products.blockRow 1024 t.val k) j) := by
  unfold iblk
  rw [View.read_apply]
  show V m c main_arg0 _ = _
  rw [V_main_arg0]
  exact Products.blocks_at (att m c) _ t.val k j (inside t) (congrArg (· * 1024 + 1 * k.val) (at0 t).1) (congrArg (· * 1024 + 1 * j.val) (at0 t).2)

theorem block_ct (t : Fin cfg0.N) (k : Fin 1024) (j : Fin 1024) :
    (iblk m c 1 t : Vec Ideal S1024x1024 .bf16) (ix2 k j) = ct m c (ix2 (Products.blockRow 1024 t.val k) j) := by
  unfold iblk
  rw [View.read_apply]
  show V m c main_arg1 _ = _
  rw [V_main_arg1]
  exact Products.blocks_at (ct m c) _ t.val k j (inside t) (congrArg (· * 1024 + 1 * k.val) (at1 t).1) (congrArg (· * 1024 + 1 * j.val) (at1 t).2)

/-- A point's product with `att` on top of those before it. -/
theorem step_0 (t : Fin cfg0.N) (z : Vec Ideal S1024x1024 .f32) (hz : z = Products.upTo 1024 (att m c) (ct m c) t.val) :
    k0_pay2 (F := Ideal) z (iblk m c 0 t) (iblk m c 1 t) = Products.upTo 1024 (att m c) (ct m c) (t.val + 1) :=
  (add_0 _ _ z).trans (Products.upTo_step 1024 t.val (att m c) (ct m c) z _ _ hz (block_att m c t) (block_ct m c t))

theorem after_A (t : Fin cfg0.N) (h0 : t.val % 8 = 0) (h1 : ¬t.val % 8 = 7) :
    (outsAt0 m c t.val t.isLt).2 = k0_pay2 (F := Ideal) (k0_pay1 (F := Ideal)) (iblk m c 0 t) (iblk m c 1 t) := by
  rw [outsAt0_A m c t h0 h1]
  dsimp only
  have h := first_point c (grid0.coords t) (ms0_0 t) (hs0_0 t) (ms0_1 t) (hs0_1 t) (ms0_2 t) (hs0_2 t) scM0_0 (Memref.isWhole_whole _)
    (iblk m c 0 t) (iblk m c 1 t) ((hcond0_0 t).mpr h0) (fun h => h1 ((hcond0_1 t).mp h))
  exact h

theorem after_B (t : Fin cfg0.N) (h0 : ¬t.val % 8 = 0) (h1 : ¬t.val % 8 = 7) :
    (outsAt0 m c t.val t.isLt).2 = k0_pay2 (F := Ideal) (outsAt0 m c (t.val - 1) (Nat.lt_of_le_of_lt (Nat.sub_le _ _) t.isLt)).2 (iblk m c 0 t) (iblk m c 1 t) := by
  rw [outsAt0_B m c t h0 h1]
  dsimp only
  have h := next_point c (grid0.coords t) (ms0_0 t) (hs0_0 t) (ms0_1 t) (hs0_1 t) (ms0_2 t) (hs0_2 t) scM0_0 (Memref.isWhole_whole _)
    (iblk m c 0 t) (iblk m c 1 t)
    (outsAt0 m c (t.val - 1) (Nat.lt_of_le_of_lt (Nat.sub_le _ _) t.isLt)).2
    (fun h => h0 ((hcond0_0 t).mp h)) (fun h => h1 ((hcond0_1 t).mp h))
  exact h

theorem after_C (t : Fin cfg0.N) (h0 : ¬t.val % 8 = 0) (h1 : t.val % 8 = 7) :
    (outsAt0 m c t.val t.isLt).1 = k0_pay3 (F := Ideal) (k0_pay2 (F := Ideal) (outsAt0 m c (t.val - 1) (Nat.lt_of_le_of_lt (Nat.sub_le _ _) t.isLt)).2 (iblk m c 0 t) (iblk m c 1 t)) := by
  rw [outsAt0_C m c t h0 h1]
  dsimp only
  have h := last_point c (grid0.coords t) (ms0_0 t) (hs0_0 t) (ms0_1 t) (hs0_1 t) (ms0_2 t) (hs0_2 t) scM0_0 (Memref.isWhole_whole _)
    (iblk m c 0 t) (iblk m c 1 t)
    (outsAt0 m c (t.val - 1) (Nat.lt_of_le_of_lt (Nat.sub_le _ _) t.isLt)).2
    (fun h => h0 ((hcond0_0 t).mp h)) ((hcond0_1 t).mpr h1)
  exact h

/-- The scratch arrays after point `n`, before the last. -/
theorem scratch_eq : ∀ (n : ℕ) (hn : n < cfg0.N), n < 7 →
    (outsAt0 m c n hn).2 = Products.upTo 1024 (att m c) (ct m c) (n + 1)
  | 0, hn, _ => by
    have hA := after_A m c ⟨0, hn⟩ rfl (by show ¬ 0 % 8 = 7; decide)
    exact (hA).trans (step_0 m c ⟨0, hn⟩ _ (start_0.trans (Products.upTo_none 1024 _ _)))
  | n + 1, hn, hl => by
    have hB := after_B m c ⟨n + 1, hn⟩ (by show ¬ (n + 1) % 8 = 0; omega) (by show ¬ (n + 1) % 8 = 7; omega)
    have hp := scratch_eq n (Nat.lt_of_succ_lt hn) (by omega)
    exact (hB).trans (step_0 m c ⟨n + 1, hn⟩ _ (hp))

/-- What the last point writes back. -/
theorem last (n : ℕ) (hn : n + 1 < cfg0.N) (hl : n = 6) :
    (outsAt0 m c (n + 1) hn).1 = Products.upTo 1024 (att m c) (ct m c) (n + 1 + 1) := by
  have hC := after_C m c ⟨n + 1, hn⟩ (by show ¬ (n + 1) % 8 = 0; omega) (by show (n + 1) % 8 = 7; omega)
  have hp := scratch_eq m c n (Nat.lt_of_succ_lt hn) (by omega)
  exact (hC).trans ((out_0 _).trans (step_0 m c ⟨n + 1, hn⟩ _ (hp)))

theorem top : 7 < cfg0.N := lt_of_lt_of_eq (by decide) N_0.symm

theorem final_0 : Value.G2 m c = Products.product (att m c) (ct m c) := by
  refine (Value.G2_last m c).trans ?_
  rw [← Value.outsAt0_sweep m c 7 top]
  have h := (last m c 6 top rfl)
  exact h.trans (Products.upTo_all 1024 8 (by decide) _ _)

end

/-! ## The claims -/

section
open Cert.OutWeight1ReferenceIdeal Cert.OutWeight1ReferenceIdeal.Facts₀

/-- The reference's product of `Y` and `X`, turned over. -/
theorem ref_1024 (X : FVec Ideal S8192x1024 .bf16) (Y : FVec Ideal S8192x1024 .bf16) :
    truncf .bf16 (transpose S1024x1024 [1, 0] (Host.dotGeneral dot_S8192x1024_S8192x1024_S1024x1024_0_0_1_1_n_n none
      (extf .f32 Y bitsLt_bf16_f32) (extf .f32 X bitsLt_bf16_f32)) transposes_S1024x1024_S1024x1024_1_0) bitsLt_bf16_f32 = Products.product X Y :=
  funext fun i => (Products.turned (M := 1024) (N := 1024) _ transposes_S1024x1024_S1024x1024_1_0 i).trans
    ((Products.dot_tn (M := 1024) (K := 8192) (N := 1024) _ (extf .f32 Y bitsLt_bf16_f32) (extf .f32 X bitsLt_bf16_f32) _).trans
      (Products.product_turned (M := 1024) (N := 1024) X Y i))

end

theorem frame_p : Cert.quiescent_OutWeight1 := fun m ρ _ => Cert.OutWeight1.Gen.frame m ρ
theorem frame_pi : Cert.quiescent_OutWeight1Ideal := fun m ρ _ => Cert.OutWeight1Ideal.Gen.frame m ρ
theorem frame_ri : Cert.quiescent_OutWeight1ReferenceIdeal := fun m ρ _ =>
  (θ_run Cert.OutWeight1ReferenceIdeal.defs _ _).mono (fun r h => ⟨fun c => (h c).2, sem_eq_zero_of_no_sems (by decide) r.2⟩)
    (Cert.OutWeight1ReferenceIdeal.Value.run (F := Ideal) m ρ)
theorem preserves : Cert.preserves_OutWeight1_OutWeight1Ideal := trivial

/-- The call's results are the reference's gradients. -/
theorem algebraic : Cert.algebraic_OutWeight1Ideal_OutWeight1ReferenceIdeal := by
  intro m g m' g' _ hagree
  refine ⟨fun c => Products.product (att m c) (ct m c), ?_, ?_⟩
  · exact (θ_run Cert.OutWeight1Ideal.defs _ _).mono (fun r h c => ⟨(h c).1.trans (final_0 m c), (h c).2⟩)
      (Cert.OutWeight1Ideal.Value.run (F := Ideal) m g)
  · refine (θ_run Cert.OutWeight1ReferenceIdeal.defs _ _).mono (fun r h c => ⟨(h c).1.trans ?_, (h c).2⟩)
      (Cert.OutWeight1ReferenceIdeal.Value.run (F := Ideal) m' g')
    rw [(hagree c).1, (hagree c).2]
    exact ref_1024 _ _

end OutWeight1

end
-- ==== Proof.QkvGrad.lean ====
/- The gradient of the attention's projections by their input: `dq w₁ + dkv w₂` with the two parts of the weights, 512 rows
   per grid point. -/
module

public import proofs.«01_k».proof.Defs
public import proofs.«01_k».proof.Proof.Products
public import proofs.«01_k».proof.Proof.Gen.QkvGrad.Frame
public import proofs.«01_k».proof.Proof.Gen.QkvGradIdeal.Value
public import proofs.«01_k».proof.Proof.Gen.QkvGradReferenceIdeal.Run
public import Idealize.ShloMosaic.Lib.Pipeline.ReadBack
public import Idealize.ShloMosaic.Lib.Quiescent
public import Idealize.ShloMosaic.Lib.Claim

@[expose] public section

set_option maxRecDepth 16384

noncomputable section

open Idealize.ShloMosaic Idealize.ShloMosaic.TcCoe Idealize.ShloMosaic.ValueIdx Idealize.SL.Sem

namespace QkvGrad

section
open Cert.QkvGradIdeal Cert.QkvGradIdeal.Gen

/-- The gradient, entry by entry. -/
def total (X : S8192x1024.Idx → EReal) (Y : S8192x256.Idx → EReal) (W : S1280x1024.Idx → EReal) : S8192x1024.Idx → EReal := fun i =>
  Products.entry X (Products.part 0 1024 (by decide) W) (i 0) (i 1) + Products.entry Y (Products.part 1024 256 (by decide) W) (i 0) (i 1)

/-- What a point leaves: the products of its blocks, added. -/
theorem out_val (x : Vec Ideal S512x1024 .bf16) (y : Vec Ideal S512x256 .bf16) (u : Vec Ideal S1024x1024 .bf16) (v : Vec Ideal S256x1024 .bf16)
    (i : S512x1024.Idx) : out0_4 (F := Ideal) x y u v i = (Products.entry x u (i 0) (i 1) + Products.entry y v (i 0) (i 1) : EReal) := by
  unfold out0_4
  rw [View.canon_unit_zero (S := S512x1024) Dense.zero2, View.ld_unit_zero (S := S1024x1024) Dense.zero2, View.ld_unit_zero (S := S512x1024) Dense.zero2,
    View.ld_unit_zero (S := S256x1024) Dense.zero2, View.ld_unit_zero (S := S512x256) Dense.zero2]
  unfold k0_pay1
  simp only [shapeCast_self]
  exact congrArg₂ (fun a b : EReal => a + b) (Products.mm_nn (M := 512) (K := 1024) (N := 1024) _ x u i)
    (Products.mm_nn (M := 512) (K := 256) (N := 1024) _ y v i)

theorem at0 : ∀ t : Fin cfg0.N, win0_0.index t 0 = t.val ∧ win0_0.index t 1 = 0 :=
  (by decide +kernel : ∀ t : Fin grid0.N, win0_0.index t 0 = t.val ∧ win0_0.index t 1 = 0)
theorem at1 : ∀ t : Fin cfg0.N, win0_1.index t 0 = t.val ∧ win0_1.index t 1 = 0 :=
  (by decide +kernel : ∀ t : Fin grid0.N, win0_1.index t 0 = t.val ∧ win0_1.index t 1 = 0)
theorem at2 : ∀ t : Fin cfg0.N, win0_2.index t 0 = 0 ∧ win0_2.index t 1 = 0 :=
  (by decide +kernel : ∀ t : Fin grid0.N, win0_2.index t 0 = 0 ∧ win0_2.index t 1 = 0)
theorem at3 : ∀ t : Fin cfg0.N, win0_3.index t 0 = 0 ∧ win0_3.index t 1 = 0 :=
  (by decide +kernel : ∀ t : Fin grid0.N, win0_3.index t 0 = 0 ∧ win0_3.index t 1 = 0)
theorem at4 : ∀ t : Fin cfg0.N, win0_4.index t 0 = t.val ∧ win0_4.index t 1 = 0 :=
  (by decide +kernel : ∀ t : Fin grid0.N, win0_4.index t 0 = t.val ∧ win0_4.index t 1 = 0)
theorem full4 : ∀ t : Fin cfg0.N, win0_4.xsize (grid0.coords t) 0 = 512 ∧ win0_4.xsize (grid0.coords t) 1 = 1024 :=
  (by decide +kernel : ∀ t : Fin grid0.N, win0_4.xsize (grid0.coords t) 0 = 512 ∧ win0_4.xsize (grid0.coords t) 1 = 1024)

theorem lt16 (t : Fin cfg0.N) : t.val < 16 := Nat.lt_of_lt_of_eq t.isLt N_0

/-- The point whose block holds row `i`. -/
def ptOf (i : S8192x1024.Idx) : Fin cfg0.N := ⟨(i 0).val / 512, by
  have h : (i 0).val < 8192 := (i 0).isLt
  rw [show cfg0.N = 16 from N_0]; omega⟩

section
variable (m : (ℓ : Loc nD τ sig) → Buf (Elt Ideal) ℓ) (c : Dev nD)

/-- The call's arguments at launch. -/
abbrev dq : S8192x1024.Idx → EReal := m ((c : Thread nD τ).loc main_arg0)
abbrev dkv : S8192x256.Idx → EReal := m ((c : Thread nD τ).loc main_arg1)
abbrev wt : S1280x1024.Idx → EReal := m ((c : Thread nD τ).loc main_arg2)

/-- The parts of the weights, as the host hands them to the call. -/
theorem host_upper : (V m c main_v0 : S1024x1024.Idx → EReal) = Products.part 0 1024 (by decide) (wt m c) := by
  entry_read
  exact Products.slice_rows 0 1024 _ _ _
theorem host_lower : (V m c main_v1 : S256x1024.Idx → EReal) = Products.part 1024 256 (by decide) (wt m c) := by
  entry_read
  exact Products.slice_rows 1024 256 _ _ _

theorem block_dq (t : Fin cfg0.N) (k : Fin 512) (j : Fin 1024) :
    (iblk m c 0 t : Vec Ideal S512x1024 .bf16) (ix2 k j) = dq m c (ix2 (Dense.row t.val k) j) := by
  unfold iblk
  rw [View.read_apply]
  show V m c main_arg0 _ = _
  rw [V_main_arg0]
  exact Products.rows_at (dq m c) _ t.val k j (lt16 t) (congrArg (· * 512 + 1 * k.val) (at0 t).1) (congrArg (· * 1024 + 1 * j.val) (at0 t).2)

theorem block_dkv (t : Fin cfg0.N) (k : Fin 512) (j : Fin 256) :
    (iblk m c 1 t : Vec Ideal S512x256 .bf16) (ix2 k j) = dkv m c (ix2 (Dense.row t.val k) j) := by
  unfold iblk
  rw [View.read_apply]
  show V m c main_arg1 _ = _
  rw [V_main_arg1]
  exact Products.rows_at (dkv m c) _ t.val k j (lt16 t) (congrArg (· * 512 + 1 * k.val) (at1 t).1) (congrArg (· * 256 + 1 * j.val) (at1 t).2)

theorem block_upper (t : Fin cfg0.N) (k : Fin 1024) (j : Fin 1024) :
    (iblk m c 2 t : Vec Ideal S1024x1024 .bf16) (ix2 k j) = Products.part 0 1024 (by decide) (wt m c) (ix2 k j) := by
  unfold iblk
  rw [View.read_apply]
  show V m c main_v0 _ = _
  rw [host_upper]
  exact Products.whole_at _ _ k j (congrArg (· * 1024 + 1 * k.val) (at2 t).1) (congrArg (· * 1024 + 1 * j.val) (at2 t).2)

theorem block_lower (t : Fin cfg0.N) (k : Fin 256) (j : Fin 1024) :
    (iblk m c 3 t : Vec Ideal S256x1024 .bf16) (ix2 k j) = Products.part 1024 256 (by decide) (wt m c) (ix2 k j) := by
  unfold iblk
  rw [View.read_apply]
  show V m c main_v1 _ = _
  rw [host_lower]
  exact Products.whole_at _ _ k j (congrArg (· * 256 + 1 * k.val) (at3 t).1) (congrArg (· * 1024 + 1 * j.val) (at3 t).2)

/-- A point's block of the result is the gradient's. -/
theorem point (t : Fin cfg0.N) (j : S512x1024.Idx) (q : S8192x1024.Idx) (h0 : (q 0).val = t.val * 512 + 1 * (j 0).val)
    (h1 : (q 1).val = 0 * 1024 + 1 * (j 1).val) :
    out0_4 (F := Ideal) (iblk m c 0 t) (iblk m c 1 t) (iblk m c 2 t) (iblk m c 3 t) j = total (dq m c) (dkv m c) (wt m c) q := by
  have h := Products.result_at q t.val (j 0) (j 1) (lt16 t) h0 h1
  refine (out_val _ _ _ _ j).trans ?_
  unfold total
  rw [h.1, h.2]
  exact congrArg₂ (fun a b : EReal => a + b)
    (Products.entry_eq _ _ _ _ _ _ _ (fun k => block_dq m c t _ k) fun k => block_upper m c t k _)
    (Products.entry_eq _ _ _ _ _ _ _ (fun k => block_dkv m c t _ k) fun k => block_lower m c t k _)

/-- The result array after the run. -/
theorem final : (dats m 0 c).arrAt 4 cfg0.N = total (dq m c) (dkv m c) (wt m c) := by
  refine (dats m 0 c).arrAt_eq_of_cover 4 (total (dq m c) (dkv m c) (wt m c)) (fun t _ => ?_) fun i => ⟨ptOf i, flush0_4 _, ?_⟩
  · rw [Value.flushed4]
    funext j
    rw [View.read_apply]
    exact point m c t j _ (congrArg (· * 512 + 1 * (j 0).val) (at4 t).1) (congrArg (· * 1024 + 1 * (j 1).val) (at4 t).2)
  · show i ∈ ((View.whole main_v2).slice (win0_4.rect (ptOf i))).set
    rw [View.set_slice_whole, Rect.mem_set_unit]
    exact Dense.in_rows i _ _ (congrArg (· * 512) (at4 _).1) (full4 _).1 (congrArg (· * 1024) (at4 _).2) (full4 _).2

end

end

/-! ## The claims -/

section
open Cert.QkvGradReferenceIdeal Cert.QkvGradReferenceIdeal.Facts₀

/-- The cotangents side by side, with zeros where the other lies. -/
def joined (X : FVec Ideal S8192x1024 .f32) (Y : FVec Ideal S8192x256 .f32) : FVec Ideal S8192x1280 .f32 :=
  addf (pad S8192x1280 ![0, 1024] ![0, 0] ![0, 0] Y (constant S_ .f32 0x00000000#32) pads_S8192x256_S8192x1280_000_102400 h_S_)
    (pad S8192x1280 ![0, 0] ![0, 256] ![0, 0] X (constant S_ .f32 0x00000000#32) pads_S8192x1024_S8192x1280_000_02560 h_S_)

theorem joined_q (X : FVec Ideal S8192x1024 .f32) (Y : FVec Ideal S8192x256 .f32) (i : Fin 8192) (c : Fin 1280) (k : Fin 1024) (hk : c.val = 0 + k.val) :
    joined X Y (ix2 i c) = X (ix2 i k) :=
  (congrArg₂ (fun a b : EReal => a + b) (Products.pad_out 1024 0 Y _ _ _ i c (by omega) (Products.zero_const _)) (Products.pad_in 0 256 X _ _ _ i c k hk)).trans
    (zero_add _)

theorem joined_kv (X : FVec Ideal S8192x1024 .f32) (Y : FVec Ideal S8192x256 .f32) (i : Fin 8192) (c : Fin 1280) (k : Fin 256) (hk : c.val = 1024 + k.val) :
    joined X Y (ix2 i c) = Y (ix2 i k) :=
  (congrArg₂ (fun a b : EReal => a + b) (Products.pad_in 1024 0 Y _ _ _ i c k hk) (Products.pad_out 0 256 X _ _ _ i c (by omega) (Products.zero_const _))).trans
    (add_zero _)

/-- The reference's product. -/
theorem ref_val (X : FVec Ideal S8192x1024 .bf16) (Y : FVec Ideal S8192x256 .bf16) (W : FVec Ideal S1280x1024 .bf16) :
    Host.dotGeneral dot_S8192x1280_S1024x1280_S8192x1024_1_1_0_0_n_n none (joined (extf .f32 X bitsLt_bf16_f32) (extf .f32 Y bitsLt_bf16_f32))
      (transpose S1024x1280 [1, 0] (extf .f32 W bitsLt_bf16_f32) transposes_S1280x1024_S1024x1280_1_0) = total X Y W := by
  funext i
  refine (Products.dot_nt (M := 8192) (K := 1280) (N := 1024) _ (joined (extf .f32 X bitsLt_bf16_f32) (extf .f32 Y bitsLt_bf16_f32))
    (transpose S1024x1280 [1, 0] (extf .f32 W bitsLt_bf16_f32) transposes_S1280x1024_S1024x1280_1_0) i).trans ?_
  refine (Fin.sum_univ_add (a := 1024) (b := 256) _).trans ?_
  refine congrArg₂ (fun a b : EReal => a + b) (Finset.sum_congr rfl fun k _ => ?_) (Finset.sum_congr rfl fun k _ => ?_)
  · exact congrArg₂ (fun a b : EReal => a * b) (joined_q _ _ _ _ k (Nat.zero_add _).symm)
      ((Products.turned (N := 1280) (M := 1024) _ _ _).trans (congrArg W (Products.at_eq _ _ _ (Nat.zero_add _).symm rfl)))
  · exact congrArg₂ (fun a b : EReal => a * b) (joined_kv _ _ _ _ k rfl)
      ((Products.turned (N := 1280) (M := 1024) _ _ _).trans (congrArg W (Products.at_eq _ _ _ rfl rfl)))

end

theorem frame_p : Cert.quiescent_QkvGrad := fun m ρ _ => Cert.QkvGrad.Gen.frame m ρ
theorem frame_pi : Cert.quiescent_QkvGradIdeal := fun m ρ _ => Cert.QkvGradIdeal.Gen.frame m ρ
theorem frame_ri : Cert.quiescent_QkvGradReferenceIdeal := fun m ρ _ =>
  (θ_run Cert.QkvGradReferenceIdeal.defs _ _).mono (fun r h => ⟨fun c => (h c).2, sem_eq_zero_of_no_sems (by decide) r.2⟩)
    (Cert.QkvGradReferenceIdeal.Value.run (F := Ideal) m ρ)
theorem preserves : Cert.preserves_QkvGrad_QkvGradIdeal := trivial

/-- The call's result is the reference's gradient. -/
theorem algebraic : Cert.algebraic_QkvGradIdeal_QkvGradReferenceIdeal := by
  intro m g m' g' _ hagree
  refine ⟨fun c => total (dq m c) (dkv m c) (wt m c), ?_, ?_⟩
  · exact (θ_run Cert.QkvGradIdeal.defs _ _).mono (fun r h c => ⟨(h c).1.trans (final m c), (h c).2⟩) (Cert.QkvGradIdeal.Value.run_blocks (F := Ideal) m g)
  · refine (θ_run Cert.QkvGradReferenceIdeal.defs _ _).mono (fun r h c => ⟨(h c).1.trans ?_, (h c).2⟩)
      (Cert.QkvGradReferenceIdeal.Value.run (F := Ideal) m' g')
    rw [(hagree c).1, (hagree c).2.1, (hagree c).2.2]
    exact ref_val _ _ _

end QkvGrad

end
-- ==== Proof.QkvWeight.lean ====
/- The gradients of the attention's projections by the two parts of their weights, `dqᵀ arg` and `dkvᵀ arg`: products of 256 rows
   per grid point, added into scratch arrays that are written back at the last point. -/
module

public import proofs.«01_k».proof.Defs
public import proofs.«01_k».proof.Proof.Products
public import proofs.«01_k».proof.Proof.Gen.QkvWeight.Frame
public import proofs.«01_k».proof.Proof.Gen.QkvWeightIdeal.Value
public import proofs.«01_k».proof.Proof.Gen.QkvWeightReferenceIdeal.Run
public import Idealize.ShloMosaic.Lib.Pipeline.ReadBack
public import Idealize.ShloMosaic.Lib.Quiescent
public import Idealize.ShloMosaic.Lib.Claim

@[expose] public section

set_option maxRecDepth 16384

noncomputable section

open Idealize.ShloMosaic Idealize.ShloMosaic.TcCoe Idealize.ShloMosaic.ValueIdx Idealize.SL.Sem

namespace QkvWeight

section
open Cert.QkvWeightIdeal Cert.QkvWeightIdeal.Gen

/-! ## One grid point -/

/-- The sum for `dq` starts at zero, -/
theorem start_0 : k0_pay1 (F := Ideal) = fun _ => (0 : EReal) := by
  funext i
  unfold k0_pay1
  simp only [shapeCast_self]
  exact Ideal.ofBits_zero_f32

/-- and one block's product is added to what was there. -/
theorem add_0 (x : Vec Ideal S256x1024 .bf16) (y : Vec Ideal S256x1024 .bf16) (z : Vec Ideal S1024x1024 .f32) :
    k0_pay3 (F := Ideal) y z x = fun i => (z i + Products.entryL x y (i 0) (i 1) : EReal) := by
  funext i
  unfold k0_pay3
  simp only [shapeCast_self]
  exact congrArg (z i + ·) (Products.mm_tn (M := 1024) (K := 256) (N := 1024) _ x y i)

/-- The sum is handed out as it is. -/
theorem out_0 (z : Vec Ideal S1024x1024 .f32) : k0_pay5 (F := Ideal) z = z := by
  unfold k0_pay5
  rfl

/-- The sum for `dkv` starts at zero, -/
theorem start_1 : k0_pay2 (F := Ideal) = fun _ => (0 : EReal) := by
  funext i
  unfold k0_pay2
  simp only [shapeCast_self]
  exact Ideal.ofBits_zero_f32

/-- and one block's product is added to what was there. -/
theorem add_1 (x : Vec Ideal S256x256 .bf16) (y : Vec Ideal S256x1024 .bf16) (z : Vec Ideal S256x1024 .f32) :
    k0_pay4 (F := Ideal) y z x = fun i => (z i + Products.entryL x y (i 0) (i 1) : EReal) := by
  funext i
  unfold k0_pay4
  simp only [shapeCast_self]
  exact congrArg (z i + ·) (Products.mm_tn (M := 256) (K := 256) (N := 1024) _ x y i)

/-- The sum is handed out as it is. -/
theorem out_1 (z : Vec Ideal S256x1024 .f32) : k0_pay6 (F := Ideal) z = z := by
  unfold k0_pay6
  rfl

section
variable (c : Dev nD) (i : grid0.Coords)
  (a1 : Memref sig .tc .vmem S256x1024 .bf16) (h1 : a1.IsWhole)
  (a2 : Memref sig .tc .vmem S256x256 .bf16) (h2 : a2.IsWhole)
  (a3 : Memref sig .tc .vmem S256x1024 .bf16) (h3 : a3.IsWhole)
  (a4 : Memref sig .tc .vmem S1024x1024 .bf16) (h4 : a4.IsWhole)
  (a5 : Memref sig .tc .vmem S256x1024 .bf16) (h5 : a5.IsWhole)
  (a6 : Memref sig .tc .vmem S1024x1024 .f32) (h6 : a6.IsWhole)
  (a7 : Memref sig .tc .vmem S256x1024 .f32) (h7 : a7.IsWhole)
  (x0 : Vec Ideal S256x1024 .bf16) (x1 : Vec Ideal S256x256 .bf16) (y : Vec Ideal S256x1024 .bf16)
  (z0 : Vec Ideal S1024x1024 .f32) (z1 : Vec Ideal S256x1024 .f32)

theorem ld_256x1024 {e : EltTy} (z : Vec Ideal S256x1024 e) (h) : View.ld z (Rect.unit ![0, 0] ![256, 1024] h : Rect S256x1024) = z :=
  View.ld_unit_zero (S := S256x1024) Dense.zero2 _ _
theorem ld_256x256 {e : EltTy} (z : Vec Ideal S256x256 e) (h) : View.ld z (Rect.unit ![0, 0] ![256, 256] h : Rect S256x256) = z :=
  View.ld_unit_zero (S := S256x256) Dense.zero2 _ _
theorem ld_1024x1024 {e : EltTy} (z : Vec Ideal S1024x1024 e) (h) : View.ld z (Rect.unit ![0, 0] ![1024, 1024] h : Rect S1024x1024) = z :=
  View.ld_unit_zero (S := S1024x1024) Dense.zero2 _ _
theorem readCov_1024x1024 (z : Vec Ideal S1024x1024 .f32) (v : View sig .tc .vmem S1024x1024 .f32) (h) (L) (r : Rect S1024x1024) :
    v.readCov ((⟨Rect.unit ![0, 0] ![1024, 1024] h, z⟩ : View.Piece (Elt Ideal) S1024x1024 .f32) :: L) r.toLoadRect = View.ld z r :=
  View.readCov_fill v h z L r fun a => by match a with | ⟨0, _⟩ => rfl | ⟨1, _⟩ => rfl
theorem readCov_256x1024 (z : Vec Ideal S256x1024 .f32) (v : View sig .tc .vmem S256x1024 .f32) (h) (L) (r : Rect S256x1024) :
    v.readCov ((⟨Rect.unit ![0, 0] ![256, 1024] h, z⟩ : View.Piece (Elt Ideal) S256x1024 .f32) :: L) r.toLoadRect = View.ld z r :=
  View.readCov_fill v h z L r fun a => by match a with | ⟨0, _⟩ => rfl | ⟨1, _⟩ => rfl

/-- The first point leaves its products, added to zero. -/
theorem first_point (c0 : cond0_0 i) (c1 : ¬cond0_1 i) :
    sout0_A_0 c i a1 h1 a2 h2 a3 h3 a4 h4 a5 h5 a6 h6 a7 h7 c0 c1 x0 x1 y = k0_pay3 (F := Ideal) y (k0_pay1 (F := Ideal)) x0 ∧
    sout0_A_1 c i a1 h1 a2 h2 a3 h3 a4 h4 a5 h5 a6 h6 a7 h7 c0 c1 x0 x1 y = k0_pay4 (F := Ideal) y (k0_pay2 (F := Ideal)) x1 := by
  unfold sout0_A_0 sout0_A_1
  refine ⟨?_, ?_⟩
  all_goals
    rw [View.read_writes_junk_eq_canon]
    unfold kernelRun0_A; dsimp only; sl_unfold_words
    simp only [View.readAt_eq_ld, Memref.IsWhole.read_unread, ld_256x1024, ld_256x256, ld_1024x1024, readCov_1024x1024, readCov_256x1024]
    first
      | exact View.canon_cons_unit_zero (S := S1024x1024) Dense.zero2 _ _ _
      | exact View.canon_cons_unit_zero (S := S256x1024) Dense.zero2 _ _ _

/-- A point in between adds its products. -/
theorem next_point (c0 : ¬cond0_0 i) (c1 : ¬cond0_1 i) :
    sout0_B_0 c i a1 h1 a2 h2 a3 h3 a4 h4 a5 h5 a6 h6 a7 h7 c0 c1 x0 x1 y z0 z1 = k0_pay3 (F := Ideal) y z0 x0 ∧
    sout0_B_1 c i a1 h1 a2 h2 a3 h3 a4 h4 a5 h5 a6 h6 a7 h7 c0 c1 x0 x1 y z0 z1 = k0_pay4 (F := Ideal) y z1 x1 := by
  unfold sout0_B_0 sout0_B_1
  refine ⟨?_, ?_⟩
  all_goals
    rw [View.read_writes_junk_eq_canon]
    unfold kernelRun0_B; dsimp only; sl_unfold_words
    simp only [View.readAt_eq_ld, Memref.IsWhole.read_unread, ld_256x1024, ld_256x256, ld_1024x1024, readCov_1024x1024, readCov_256x1024]
    first
      | exact View.canon_cons_unit_zero (S := S1024x1024) Dense.zero2 _ _ _
      | exact View.canon_cons_unit_zero (S := S256x1024) Dense.zero2 _ _ _

/-- The last point adds its products and hands the sums out. -/
theorem last_point (c0 : ¬cond0_0 i) (c1 : cond0_1 i) :
    out0_C_3 c i a1 h1 a2 h2 a3 h3 a4 h4 a5 h5 a6 h6 a7 h7 c0 c1 x0 x1 y z0 z1 = k0_pay5 (F := Ideal) (k0_pay3 (F := Ideal) y z0 x0) ∧
    out0_C_4 c i a1 h1 a2 h2 a3 h3 a4 h4 a5 h5 a6 h6 a7 h7 c0 c1 x0 x1 y z0 z1 = k0_pay6 (F := Ideal) (k0_pay4 (F := Ideal) y z1 x1) := by
  unfold out0_C_3 out0_C_4
  refine ⟨?_, ?_⟩
  all_goals
    rw [View.read_writes_junk_eq_canon]
    unfold kernelRun0_C; dsimp only; sl_unfold_words
    simp only [View.readAt_eq_ld, Memref.IsWhole.read_unread, ld_256x1024, ld_256x256, ld_1024x1024, readCov_1024x1024, readCov_256x1024]
    first
      | exact View.canon_cons_unit_zero (S := S1024x1024) Dense.zero2 _ _ _
      | exact View.canon_cons_unit_zero (S := S256x1024) Dense.zero2 _ _ _

end

/-! ## The run -/

variable (m : (ℓ : Loc nD τ sig) → Buf (Elt Ideal) ℓ) (c : Dev nD)

/-- The products' arguments at launch. -/
abbrev dq : S8192x1024.Idx → EReal := m ((c : Thread nD τ).loc main_arg0)
abbrev dkv : S8192x256.Idx → EReal := m ((c : Thread nD τ).loc main_arg1)
abbrev arg : S8192x1024.Idx → EReal := m ((c : Thread nD τ).loc main_arg2)

theorem at0 : ∀ t : Fin cfg0.N, win0_0.index t 0 = t.val ∧ win0_0.index t 1 = 0 :=
  (by decide +kernel : ∀ t : Fin grid0.N, win0_0.index t 0 = t.val ∧ win0_0.index t 1 = 0)
theorem at1 : ∀ t : Fin cfg0.N, win0_1.index t 0 = t.val ∧ win0_1.index t 1 = 0 :=
  (by decide +kernel : ∀ t : Fin grid0.N, win0_1.index t 0 = t.val ∧ win0_1.index t 1 = 0)
theorem at2 : ∀ t : Fin cfg0.N, win0_2.index t 0 = t.val ∧ win0_2.index t 1 = 0 :=
  (by decide +kernel : ∀ t : Fin grid0.N, win0_2.index t 0 = t.val ∧ win0_2.index t 1 = 0)

theorem inside (t : Fin cfg0.N) : t.val * 256 + 256 ≤ 8192 := by
  have h : t.val < 32 := Nat.lt_of_lt_of_eq t.isLt N_0
  omega

theorem block_dq (t : Fin cfg0.N) (k : Fin 256) (j : Fin 1024) :
    (iblk m c 0 t : Vec Ideal S256x1024 .bf16) (ix2 k j) = dq m c (ix2 (Products.blockRow 256 t.val k) j) := by
  unfold iblk
  rw [View.read_apply]
  show V m c main_arg0 _ = _
  rw [V_main_arg0]
  exact Products.blocks_at (dq m c) _ t.val k j (inside t) (congrArg (· * 256 + 1 * k.val) (at0 t).1) (congrArg (· * 1024 + 1 * j.val) (at0 t).2)

theorem block_dkv (t : Fin cfg0.N) (k : Fin 256) (j : Fin 256) :
    (iblk m c 1 t : Vec Ideal S256x256 .bf16) (ix2 k j) = dkv m c (ix2 (Products.blockRow 256 t.val k) j) := by
  unfold iblk
  rw [View.read_apply]
  show V m c main_arg1 _ = _
  rw [V_main_arg1]
  exact Products.blocks_at (dkv m c) _ t.val k j (inside t) (congrArg (· * 256 + 1 * k.val) (at1 t).1) (congrArg (· * 256 + 1 * j.val) (at1 t).2)

theorem block_arg (t : Fin cfg0.N) (k : Fin 256) (j : Fin 1024) :
    (iblk m c 2 t : Vec Ideal S256x1024 .bf16) (ix2 k j) = arg m c (ix2 (Products.blockRow 256 t.val k) j) := by
  unfold iblk
  rw [View.read_apply]
  show V m c main_arg2 _ = _
  rw [V_main_arg2]
  exact Products.blocks_at (arg m c) _ t.val k j (inside t) (congrArg (· * 256 + 1 * k.val) (at2 t).1) (congrArg (· * 1024 + 1 * j.val) (at2 t).2)

/-- A point's product with `dq` on top of those before it. -/
theorem step_0 (t : Fin cfg0.N) (z : Vec Ideal S1024x1024 .f32) (hz : z = Products.upTo 256 (dq m c) (arg m c) t.val) :
    k0_pay3 (F := Ideal) (iblk m c 2 t) z (iblk m c 0 t) = Products.upTo 256 (dq m c) (arg m c) (t.val + 1) :=
  (add_0 _ _ z).trans (Products.upTo_step 256 t.val (dq m c) (arg m c) z _ _ hz (block_dq m c t) (block_arg m c t))

/-- A point's product with `dkv` on top of those before it. -/
theorem step_1 (t : Fin cfg0.N) (z : Vec Ideal S256x1024 .f32) (hz : z = Products.upTo 256 (dkv m c) (arg m c) t.val) :
    k0_pay4 (F := Ideal) (iblk m c 2 t) z (iblk m c 1 t) = Products.upTo 256 (dkv m c) (arg m c) (t.val + 1) :=
  (add_1 _ _ z).trans (Products.upTo_step 256 t.val (dkv m c) (arg m c) z _ _ hz (block_dkv m c t) (block_arg m c t))

theorem after_A (t : Fin cfg0.N) (h0 : t.val % 32 = 0) (h1 : ¬t.val % 32 = 31) :
    (outsAt0 m c t.val t.isLt).2.2.1 = k0_pay3 (F := Ideal) (iblk m c 2 t) (k0_pay1 (F := Ideal)) (iblk m c 0 t) ∧
    (outsAt0 m c t.val t.isLt).2.2.2 = k0_pay4 (F := Ideal) (iblk m c 2 t) (k0_pay2 (F := Ideal)) (iblk m c 1 t) := by
  rw [outsAt0_A m c t h0 h1]
  dsimp only
  have h := first_point c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _)
    (iblk m c 0 t) (iblk m c 1 t) (iblk m c 2 t) ((hcond0_0 t).mpr h0) (fun h => h1 ((hcond0_1 t).mp h))
  exact h

theorem after_B (t : Fin cfg0.N) (h0 : ¬t.val % 32 = 0) (h1 : ¬t.val % 32 = 31) :
    (outsAt0 m c t.val t.isLt).2.2.1 = k0_pay3 (F := Ideal) (iblk m c 2 t) (outsAt0 m c (t.val - 1) (Nat.lt_of_le_of_lt (Nat.sub_le _ _) t.isLt)).2.2.1 (iblk m c 0 t) ∧
    (outsAt0 m c t.val t.isLt).2.2.2 = k0_pay4 (F := Ideal) (iblk m c 2 t) (outsAt0 m c (t.val - 1) (Nat.lt_of_le_of_lt (Nat.sub_le _ _) t.isLt)).2.2.2 (iblk m c 1 t) := by
  rw [outsAt0_B m c t h0 h1]
  dsimp only
  have h := next_point c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _)
    (iblk m c 0 t) (iblk m c 1 t) (iblk m c 2 t)
    (outsAt0 m c (t.val - 1) (Nat.lt_of_le_of_lt (Nat.sub_le _ _) t.isLt)).2.2.1 (outsAt0 m c (t.val - 1) (Nat.lt_of_le_of_lt (Nat.sub_le _ _) t.isLt)).2.2.2
    (fun h => h0 ((hcond0_0 t).mp h)) (fun h => h1 ((hcond0_1 t).mp h))
  exact h

theorem after_C (t : Fin cfg0.N) (h0 : ¬t.val % 32 = 0) (h1 : t.val % 32 = 31) :
    (outsAt0 m c t.val t.isLt).1 = k0_pay5 (F := Ideal) (k0_pay3 (F := Ideal) (iblk m c 2 t) (outsAt0 m c (t.val - 1) (Nat.lt_of_le_of_lt (Nat.sub_le _ _) t.isLt)).2.2.1 (iblk m c 0 t)) ∧
    (outsAt0 m c t.val t.isLt).2.1 = k0_pay6 (F := Ideal) (k0_pay4 (F := Ideal) (iblk m c 2 t) (outsAt0 m c (t.val - 1) (Nat.lt_of_le_of_lt (Nat.sub_le _ _) t.isLt)).2.2.2 (iblk m c 1 t)) := by
  rw [outsAt0_C m c t h0 h1]
  dsimp only
  have h := last_point c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _)
    (iblk m c 0 t) (iblk m c 1 t) (iblk m c 2 t)
    (outsAt0 m c (t.val - 1) (Nat.lt_of_le_of_lt (Nat.sub_le _ _) t.isLt)).2.2.1 (outsAt0 m c (t.val - 1) (Nat.lt_of_le_of_lt (Nat.sub_le _ _) t.isLt)).2.2.2
    (fun h => h0 ((hcond0_0 t).mp h)) ((hcond0_1 t).mpr h1)
  exact h

/-- The scratch arrays after point `n`, before the last. -/
theorem scratch_eq : ∀ (n : ℕ) (hn : n < cfg0.N), n < 31 →
    (outsAt0 m c n hn).2.2.1 = Products.upTo 256 (dq m c) (arg m c) (n + 1) ∧
    (outsAt0 m c n hn).2.2.2 = Products.upTo 256 (dkv m c) (arg m c) (n + 1)
  | 0, hn, _ => by
    have hA := after_A m c ⟨0, hn⟩ rfl (by show ¬ 0 % 32 = 31; decide)
    exact ⟨(hA.1).trans (step_0 m c ⟨0, hn⟩ _ (start_0.trans (Products.upTo_none 256 _ _))),
      (hA.2).trans (step_1 m c ⟨0, hn⟩ _ (start_1.trans (Products.upTo_none 256 _ _)))⟩
  | n + 1, hn, hl => by
    have hB := after_B m c ⟨n + 1, hn⟩ (by show ¬ (n + 1) % 32 = 0; omega) (by show ¬ (n + 1) % 32 = 31; omega)
    have hp := scratch_eq n (Nat.lt_of_succ_lt hn) (by omega)
    exact ⟨(hB.1).trans (step_0 m c ⟨n + 1, hn⟩ _ (hp.1)),
      (hB.2).trans (step_1 m c ⟨n + 1, hn⟩ _ (hp.2))⟩

/-- What the last point writes back. -/
theorem last (n : ℕ) (hn : n + 1 < cfg0.N) (hl : n = 30) :
    (outsAt0 m c (n + 1) hn).1 = Products.upTo 256 (dq m c) (arg m c) (n + 1 + 1) ∧
    (outsAt0 m c (n + 1) hn).2.1 = Products.upTo 256 (dkv m c) (arg m c) (n + 1 + 1) := by
  have hC := after_C m c ⟨n + 1, hn⟩ (by show ¬ (n + 1) % 32 = 0; omega) (by show (n + 1) % 32 = 31; omega)
  have hp := scratch_eq m c n (Nat.lt_of_succ_lt hn) (by omega)
  exact ⟨(hC.1).trans ((out_0 _).trans (step_0 m c ⟨n + 1, hn⟩ _ (hp.1))),
      (hC.2).trans ((out_1 _).trans (step_1 m c ⟨n + 1, hn⟩ _ (hp.2)))⟩

theorem top : 31 < cfg0.N := lt_of_lt_of_eq (by decide) N_0.symm

theorem final_0 : Value.G3 m c = Products.product (dq m c) (arg m c) := by
  refine (Value.G3_last m c).trans ?_
  rw [← Value.outsAt0_sweep m c 31 top]
  have h := (last m c 30 top rfl).1
  exact h.trans (Products.upTo_all 256 32 (by decide) _ _)

theorem final_1 : Value.G4 m c = Products.product (dkv m c) (arg m c) := by
  refine (Value.G4_last m c).trans ?_
  rw [← Value.outsAt0_sweep m c 31 top]
  have h := (last m c 30 top rfl).2
  exact h.trans (Products.upTo_all 256 32 (by decide) _ _)

end

/-! ## The claims -/

section
open Cert.QkvWeightReferenceIdeal Cert.QkvWeightReferenceIdeal.Facts₀

/-- The reference's product of `X` and `Y`, turned over twice. -/
theorem ref_1024 (X : FVec Ideal S8192x1024 .bf16) (Y : FVec Ideal S8192x1024 .bf16) :
    truncf .bf16 (transpose S1024x1024 [1, 0] (transpose S1024x1024 [1, 0] (Host.dotGeneral dot_S8192x1024_S8192x1024_S1024x1024_0_0_1_1_n_n none
      (extf .f32 X bitsLt_bf16_f32) (extf .f32 Y bitsLt_bf16_f32)) transposes_S1024x1024_S1024x1024_1_0) transposes_S1024x1024_S1024x1024_1_0) bitsLt_bf16_f32 =
      Products.product X Y :=
  (Products.turned_twice (M := 1024) (N := 1024) (Host.dotGeneral dot_S8192x1024_S8192x1024_S1024x1024_0_0_1_1_n_n none (extf .f32 X bitsLt_bf16_f32) (extf .f32 Y bitsLt_bf16_f32))
    transposes_S1024x1024_S1024x1024_1_0 transposes_S1024x1024_S1024x1024_1_0).trans
    (funext fun i => Products.dot_tn (M := 1024) (K := 8192) (N := 1024) _ (extf .f32 X bitsLt_bf16_f32) (extf .f32 Y bitsLt_bf16_f32) i)

/-- The reference's product of `X` and `Y`, turned over twice. -/
theorem ref_256 (X : FVec Ideal S8192x256 .bf16) (Y : FVec Ideal S8192x1024 .bf16) :
    truncf .bf16 (transpose S256x1024 [1, 0] (transpose S1024x256 [1, 0] (Host.dotGeneral dot_S8192x256_S8192x1024_S256x1024_0_0_1_1_n_n none
      (extf .f32 X bitsLt_bf16_f32) (extf .f32 Y bitsLt_bf16_f32)) transposes_S256x1024_S1024x256_1_0) transposes_S1024x256_S256x1024_1_0) bitsLt_bf16_f32 =
      Products.product X Y :=
  (Products.turned_twice (M := 256) (N := 1024) (Host.dotGeneral dot_S8192x256_S8192x1024_S256x1024_0_0_1_1_n_n none (extf .f32 X bitsLt_bf16_f32) (extf .f32 Y bitsLt_bf16_f32))
    transposes_S1024x256_S256x1024_1_0 transposes_S256x1024_S1024x256_1_0).trans
    (funext fun i => Products.dot_tn (M := 256) (K := 8192) (N := 1024) _ (extf .f32 X bitsLt_bf16_f32) (extf .f32 Y bitsLt_bf16_f32) i)

end

theorem frame_p : Cert.quiescent_QkvWeight := fun m ρ _ => Cert.QkvWeight.Gen.frame m ρ
theorem frame_pi : Cert.quiescent_QkvWeightIdeal := fun m ρ _ => Cert.QkvWeightIdeal.Gen.frame m ρ
theorem frame_ri : Cert.quiescent_QkvWeightReferenceIdeal := fun m ρ _ =>
  (θ_run Cert.QkvWeightReferenceIdeal.defs _ _).mono (fun r h => ⟨fun c => (h c).2.2, sem_eq_zero_of_no_sems (by decide) r.2⟩)
    (Cert.QkvWeightReferenceIdeal.Value.run (F := Ideal) m ρ)
theorem preserves : Cert.preserves_QkvWeight_QkvWeightIdeal := trivial

/-- The call's results are the reference's gradients. -/
theorem algebraic : Cert.algebraic_QkvWeightIdeal_QkvWeightReferenceIdeal := by
  intro m g m' g' _ hagree
  refine ⟨fun c => Products.product (dq m c) (arg m c), fun c => Products.product (dkv m c) (arg m c), ?_, ?_⟩
  · exact (θ_run Cert.QkvWeightIdeal.defs _ _).mono (fun r h c => ⟨(h c).1.trans (final_0 m c), (h c).2.1.trans (final_1 m c), (h c).2.2⟩)
      (Cert.QkvWeightIdeal.Value.run (F := Ideal) m g)
  · refine (θ_run Cert.QkvWeightReferenceIdeal.defs _ _).mono (fun r h c => ⟨(h c).1.trans ?_, (h c).2.1.trans ?_, (h c).2.2⟩)
      (Cert.QkvWeightReferenceIdeal.Value.run (F := Ideal) m' g')
    · rw [(hagree c).1, (hagree c).2.2]
      exact ref_1024 _ _
    · rw [(hagree c).2.1, (hagree c).2.2]
      exact ref_256 _ _

end QkvWeight

end
-- ==== Proof.OutGrad0.lean ====
/- The gradient of the mixer's output product by its two inputs: `ct w₁ᵀ` and `ct w₂ᵀ` with the two halves of the weights, 512
   rows per grid point. -/
module

public import proofs.«01_k».proof.Defs
public import proofs.«01_k».proof.Proof.Products
public import proofs.«01_k».proof.Proof.Gen.OutGrad0.Frame
public import proofs.«01_k».proof.Proof.Gen.OutGrad0Ideal.Value
public import proofs.«01_k».proof.Proof.Gen.OutGrad0ReferenceIdeal.Run
public import Idealize.ShloMosaic.Lib.Pipeline.ReadBack
public import Idealize.ShloMosaic.Lib.Quiescent
public import Idealize.ShloMosaic.Lib.Claim

@[expose] public section

set_option maxRecDepth 16384

noncomputable section

open Idealize.ShloMosaic Idealize.ShloMosaic.TcCoe Idealize.ShloMosaic.ValueIdx Idealize.SL.Sem

namespace OutGrad0

section
open Cert.OutGrad0Ideal Cert.OutGrad0Ideal.Gen

/-- The gradient by the half of the input whose weights start at row `lo`, entry by entry. -/
def total (lo : ℕ) (hlo : lo + 1024 ≤ 2048) (X : S8192x1024.Idx → EReal) (W : S2048x1024.Idx → EReal) : S8192x1024.Idx → EReal := fun i =>
  Products.entryT X (Products.part lo 1024 hlo W) (i 0) (i 1)

/-- What a point leaves in the first result. -/
theorem out3_val (x : Vec Ideal S512x1024 .bf16) (w v : Vec Ideal S1024x1024 .bf16) (i : S512x1024.Idx) :
    out0_3 (F := Ideal) x w v i = Products.entryT x w (i 0) (i 1) := by
  unfold out0_3
  rw [View.canon_unit_zero (S := S512x1024) Dense.zero2, View.ld_unit_zero (S := S512x1024) Dense.zero2, View.ld_unit_zero (S := S1024x1024) Dense.zero2]
  unfold k0_pay1
  simp only [shapeCast_self]
  exact Products.mm_nt (M := 512) (K := 1024) (N := 1024) _ x w i

/-- And in the second. -/
theorem out4_val (x : Vec Ideal S512x1024 .bf16) (w v : Vec Ideal S1024x1024 .bf16) (i : S512x1024.Idx) :
    out0_4 (F := Ideal) x w v i = Products.entryT x v (i 0) (i 1) := by
  unfold out0_4
  rw [View.canon_unit_zero (S := S512x1024) Dense.zero2, View.ld_unit_zero (S := S512x1024) Dense.zero2, View.ld_unit_zero (S := S1024x1024) Dense.zero2]
  unfold k0_pay2
  simp only [shapeCast_self]
  exact Products.mm_nt (M := 512) (K := 1024) (N := 1024) _ x v i

theorem at0 : ∀ t : Fin cfg0.N, win0_0.index t 0 = t.val ∧ win0_0.index t 1 = 0 :=
  (by decide +kernel : ∀ t : Fin grid0.N, win0_0.index t 0 = t.val ∧ win0_0.index t 1 = 0)
theorem at1 : ∀ t : Fin cfg0.N, win0_1.index t 0 = 0 ∧ win0_1.index t 1 = 0 :=
  (by decide +kernel : ∀ t : Fin grid0.N, win0_1.index t 0 = 0 ∧ win0_1.index t 1 = 0)
theorem at2 : ∀ t : Fin cfg0.N, win0_2.index t 0 = 0 ∧ win0_2.index t 1 = 0 :=
  (by decide +kernel : ∀ t : Fin grid0.N, win0_2.index t 0 = 0 ∧ win0_2.index t 1 = 0)
theorem at3 : ∀ t : Fin cfg0.N, win0_3.index t 0 = t.val ∧ win0_3.index t 1 = 0 :=
  (by decide +kernel : ∀ t : Fin grid0.N, win0_3.index t 0 = t.val ∧ win0_3.index t 1 = 0)
theorem at4 : ∀ t : Fin cfg0.N, win0_4.index t 0 = t.val ∧ win0_4.index t 1 = 0 :=
  (by decide +kernel : ∀ t : Fin grid0.N, win0_4.index t 0 = t.val ∧ win0_4.index t 1 = 0)
theorem full3 : ∀ t : Fin cfg0.N, win0_3.xsize (grid0.coords t) 0 = 512 ∧ win0_3.xsize (grid0.coords t) 1 = 1024 :=
  (by decide +kernel : ∀ t : Fin grid0.N, win0_3.xsize (grid0.coords t) 0 = 512 ∧ win0_3.xsize (grid0.coords t) 1 = 1024)
theorem full4 : ∀ t : Fin cfg0.N, win0_4.xsize (grid0.coords t) 0 = 512 ∧ win0_4.xsize (grid0.coords t) 1 = 1024 :=
  (by decide +kernel : ∀ t : Fin grid0.N, win0_4.xsize (grid0.coords t) 0 = 512 ∧ win0_4.xsize (grid0.coords t) 1 = 1024)

theorem lt16 (t : Fin cfg0.N) : t.val < 16 := Nat.lt_of_lt_of_eq t.isLt N_0

/-- The point whose block holds row `i`. -/
def ptOf (i : S8192x1024.Idx) : Fin cfg0.N := ⟨(i 0).val / 512, by
  have h : (i 0).val < 8192 := (i 0).isLt
  rw [show cfg0.N = 16 from N_0]; omega⟩

section
variable (m : (ℓ : Loc nD τ sig) → Buf (Elt Ideal) ℓ) (c : Dev nD)

/-- The call's arguments at launch. -/
abbrev ct : S8192x1024.Idx → EReal := m ((c : Thread nD τ).loc main_arg0)
abbrev wt : S2048x1024.Idx → EReal := m ((c : Thread nD τ).loc main_arg1)

/-- The halves of the weights, as the host hands them to the call. -/
theorem host_upper : (V m c main_v0 : S1024x1024.Idx → EReal) = Products.part 0 1024 (by decide) (wt m c) := by
  entry_read
  exact Products.slice_rows 0 1024 _ _ _
theorem host_lower : (V m c main_v1 : S1024x1024.Idx → EReal) = Products.part 1024 1024 (by decide) (wt m c) := by
  entry_read
  exact Products.slice_rows 1024 1024 _ _ _

theorem block_ct (t : Fin cfg0.N) (k : Fin 512) (j : Fin 1024) :
    (iblk m c 0 t : Vec Ideal S512x1024 .bf16) (ix2 k j) = ct m c (ix2 (Dense.row t.val k) j) := by
  unfold iblk
  rw [View.read_apply]
  show V m c main_arg0 _ = _
  rw [V_main_arg0]
  exact Products.rows_at (ct m c) _ t.val k j (lt16 t) (congrArg (· * 512 + 1 * k.val) (at0 t).1) (congrArg (· * 1024 + 1 * j.val) (at0 t).2)

theorem block_upper (t : Fin cfg0.N) (k : Fin 1024) (j : Fin 1024) :
    (iblk m c 1 t : Vec Ideal S1024x1024 .bf16) (ix2 k j) = Products.part 0 1024 (by decide) (wt m c) (ix2 k j) := by
  unfold iblk
  rw [View.read_apply]
  show V m c main_v0 _ = _
  rw [host_upper]
  exact Products.whole_at _ _ k j (congrArg (· * 1024 + 1 * k.val) (at1 t).1) (congrArg (· * 1024 + 1 * j.val) (at1 t).2)

theorem block_lower (t : Fin cfg0.N) (k : Fin 1024) (j : Fin 1024) :
    (iblk m c 2 t : Vec Ideal S1024x1024 .bf16) (ix2 k j) = Products.part 1024 1024 (by decide) (wt m c) (ix2 k j) := by
  unfold iblk
  rw [View.read_apply]
  show V m c main_v1 _ = _
  rw [host_lower]
  exact Products.whole_at _ _ k j (congrArg (· * 1024 + 1 * k.val) (at2 t).1) (congrArg (· * 1024 + 1 * j.val) (at2 t).2)

/-- A point's block of the first result is the gradient's. -/
theorem point3 (t : Fin cfg0.N) (j : S512x1024.Idx) (q : S8192x1024.Idx) (h0 : (q 0).val = t.val * 512 + 1 * (j 0).val)
    (h1 : (q 1).val = 0 * 1024 + 1 * (j 1).val) :
    out0_3 (F := Ideal) (iblk m c 0 t) (iblk m c 1 t) (iblk m c 2 t) j = total 0 (by decide) (ct m c) (wt m c) q := by
  have h := Products.result_at q t.val (j 0) (j 1) (lt16 t) h0 h1
  refine (out3_val _ _ _ j).trans ?_
  unfold total
  rw [h.1, h.2]
  exact Finset.sum_congr rfl fun k _ => congrArg₂ (fun a b : EReal => a * b) (block_ct m c t _ k) (block_upper m c t _ k)

/-- And of the second. -/
theorem point4 (t : Fin cfg0.N) (j : S512x1024.Idx) (q : S8192x1024.Idx) (h0 : (q 0).val = t.val * 512 + 1 * (j 0).val)
    (h1 : (q 1).val = 0 * 1024 + 1 * (j 1).val) :
    out0_4 (F := Ideal) (iblk m c 0 t) (iblk m c 1 t) (iblk m c 2 t) j = total 1024 (by decide) (ct m c) (wt m c) q := by
  have h := Products.result_at q t.val (j 0) (j 1) (lt16 t) h0 h1
  refine (out4_val _ _ _ j).trans ?_
  unfold total
  rw [h.1, h.2]
  exact Finset.sum_congr rfl fun k _ => congrArg₂ (fun a b : EReal => a * b) (block_ct m c t _ k) (block_lower m c t _ k)

/-- The result arrays after the run. -/
theorem final3 : (dats m 0 c).arrAt 3 cfg0.N = total 0 (by decide) (ct m c) (wt m c) := by
  refine (dats m 0 c).arrAt_eq_of_cover 3 (total 0 (by decide) (ct m c) (wt m c)) (fun t _ => ?_) fun i => ⟨ptOf i, flush0_3 _, ?_⟩
  · rw [Value.flushed3]
    funext j
    rw [View.read_apply]
    exact point3 m c t j _ (congrArg (· * 512 + 1 * (j 0).val) (at3 t).1) (congrArg (· * 1024 + 1 * (j 1).val) (at3 t).2)
  · show i ∈ ((View.whole main_v2_0).slice (win0_3.rect (ptOf i))).set
    rw [View.set_slice_whole, Rect.mem_set_unit]
    exact Dense.in_rows i _ _ (congrArg (· * 512) (at3 _).1) (full3 _).1 (congrArg (· * 1024) (at3 _).2) (full3 _).2

theorem final4 : (dats m 0 c).arrAt 4 cfg0.N = total 1024 (by decide) (ct m c) (wt m c) := by
  refine (dats m 0 c).arrAt_eq_of_cover 4 (total 1024 (by decide) (ct m c) (wt m c)) (fun t _ => ?_) fun i => ⟨ptOf i, flush0_4 _, ?_⟩
  · rw [Value.flushed4]
    funext j
    rw [View.read_apply]
    exact point4 m c t j _ (congrArg (· * 512 + 1 * (j 0).val) (at4 t).1) (congrArg (· * 1024 + 1 * (j 1).val) (at4 t).2)
  · show i ∈ ((View.whole main_v2_1).slice (win0_4.rect (ptOf i))).set
    rw [View.set_slice_whole, Rect.mem_set_unit]
    exact Dense.in_rows i _ _ (congrArg (· * 512) (at4 _).1) (full4 _).1 (congrArg (· * 1024) (at4 _).2) (full4 _).2

end

end

/-! ## The claims -/

section
open Cert.OutGrad0ReferenceIdeal Cert.OutGrad0ReferenceIdeal.Facts₀

/-- The reference's product, cut in two. -/
theorem ref_val (lo : ℕ) (hlo : lo + 1024 ≤ 2048) (h : S8192x2048.Slices ![0, lo] S8192x1024) (X : FVec Ideal S8192x1024 .bf16) (W : FVec Ideal S2048x1024 .bf16) :
    extractStridedSlice S8192x1024 ![0, lo] (Host.dotGeneral dot_S8192x1024_S2048x1024_S8192x2048_1_1_0_0_n_n none
      (extf .f32 X bitsLt_bf16_f32) (extf .f32 W bitsLt_bf16_f32)) h = total lo hlo X W := by
  funext i
  have hi : (i 1).val < 1024 := (i 1).isLt
  refine (extractStridedSlice_apply _ _ h i (ix2 (i 0) ⟨lo + (i 1).val, by omega⟩) fun a => ?_).trans
    (Products.dot_nt (M := 8192) (K := 1024) (N := 2048) _ (extf .f32 X bitsLt_bf16_f32) (extf .f32 W bitsLt_bf16_f32) _)
  match a with
  | ⟨0, _⟩ => exact (Nat.zero_add _).symm
  | ⟨1, _⟩ => rfl

end

theorem frame_p : Cert.quiescent_OutGrad0 := fun m ρ _ => Cert.OutGrad0.Gen.frame m ρ
theorem frame_pi : Cert.quiescent_OutGrad0Ideal := fun m ρ _ => Cert.OutGrad0Ideal.Gen.frame m ρ
theorem frame_ri : Cert.quiescent_OutGrad0ReferenceIdeal := fun m ρ _ =>
  (θ_run Cert.OutGrad0ReferenceIdeal.defs _ _).mono (fun r h => ⟨fun c => (h c).2.2, sem_eq_zero_of_no_sems (by decide) r.2⟩)
    (Cert.OutGrad0ReferenceIdeal.Value.run (F := Ideal) m ρ)
theorem preserves : Cert.preserves_OutGrad0_OutGrad0Ideal := trivial

/-- The call's results are the reference's gradients. -/
theorem algebraic : Cert.algebraic_OutGrad0Ideal_OutGrad0ReferenceIdeal := by
  intro m g m' g' _ hagree
  refine ⟨fun c => total 0 (by decide) (ct m c) (wt m c), fun c => total 1024 (by decide) (ct m c) (wt m c), ?_, ?_⟩
  · exact (θ_run Cert.OutGrad0Ideal.defs _ _).mono (fun r h c => ⟨(h c).1.trans (final3 m c), (h c).2.1.trans (final4 m c), (h c).2.2⟩)
      (Cert.OutGrad0Ideal.Value.run_blocks (F := Ideal) m g)
  · refine (θ_run Cert.OutGrad0ReferenceIdeal.defs _ _).mono (fun r h c => ⟨(h c).1.trans ?_, (h c).2.1.trans ?_, (h c).2.2⟩)
      (Cert.OutGrad0ReferenceIdeal.Value.run (F := Ideal) m' g')
    · rw [(hagree c).1, (hagree c).2]
      exact ref_val 0 _ _ _ _
    · rw [(hagree c).1, (hagree c).2]
      exact ref_val 1024 _ _ _ _

end OutGrad0

end
-- ==== Proof.OutWeight0.lean ====
/- The gradients of the mixer's output product by the two halves of its weights, `yaᵀ ct` and `ybᵀ ct`: products of 256 rows per
   grid point, added into scratch arrays that are written back at the last point. -/
module

public import proofs.«01_k».proof.Defs
public import proofs.«01_k».proof.Proof.Products
public import proofs.«01_k».proof.Proof.Gen.OutWeight0.Frame
public import proofs.«01_k».proof.Proof.Gen.OutWeight0Ideal.Value
public import proofs.«01_k».proof.Proof.Gen.OutWeight0ReferenceIdeal.Run
public import Idealize.ShloMosaic.Lib.Pipeline.ReadBack
public import Idealize.ShloMosaic.Lib.Quiescent
public import Idealize.ShloMosaic.Lib.Claim

@[expose] public section

set_option maxRecDepth 16384

noncomputable section

open Idealize.ShloMosaic Idealize.ShloMosaic.TcCoe Idealize.ShloMosaic.ValueIdx Idealize.SL.Sem

namespace OutWeight0

section
open Cert.OutWeight0Ideal Cert.OutWeight0Ideal.Gen

/-! ## One grid point -/

/-- The sum for `ya` starts at zero, -/
theorem start_0 : k0_pay1 (F := Ideal) = fun _ => (0 : EReal) := by
  funext i
  unfold k0_pay1
  simp only [shapeCast_self]
  exact Ideal.ofBits_zero_f32

/-- and one block's product is added to what was there. -/
theorem add_0 (x : Vec Ideal S256x1024 .bf16) (y : Vec Ideal S256x1024 .bf16) (z : Vec Ideal S1024x1024 .f32) :
    k0_pay3 (F := Ideal) y z x = fun i => (z i + Products.entryL x y (i 0) (i 1) : EReal) := by
  funext i
  unfold k0_pay3
  simp only [shapeCast_self]
  exact congrArg (z i + ·) (Products.mm_tn (M := 1024) (K := 256) (N := 1024) _ x y i)

/-- The sum is handed out as it is. -/
theorem out_0 (z : Vec Ideal S1024x1024 .f32) : k0_pay5 (F := Ideal) z = z := by
  unfold k0_pay5
  rfl

/-- The sum for `yb` starts at zero, -/
theorem start_1 : k0_pay2 (F := Ideal) = fun _ => (0 : EReal) := by
  funext i
  unfold k0_pay2
  simp only [shapeCast_self]
  exact Ideal.ofBits_zero_f32

/-- and one block's product is added to what was there. -/
theorem add_1 (x : Vec Ideal S256x1024 .bf16) (y : Vec Ideal S256x1024 .bf16) (z : Vec Ideal S1024x1024 .f32) :
    k0_pay4 (F := Ideal) y z x = fun i => (z i + Products.entryL x y (i 0) (i 1) : EReal) := by
  funext i
  unfold k0_pay4
  simp only [shapeCast_self]
  exact congrArg (z i + ·) (Products.mm_tn (M := 1024) (K := 256) (N := 1024) _ x y i)

/-- The sum is handed out as it is. -/
theorem out_1 (z : Vec Ideal S1024x1024 .f32) : k0_pay6 (F := Ideal) z = z := by
  unfold k0_pay6
  rfl

section
variable (c : Dev nD) (i : grid0.Coords)
  (a1 : Memref sig .tc .vmem S256x1024 .bf16) (h1 : a1.IsWhole)
  (a2 : Memref sig .tc .vmem S256x1024 .bf16) (h2 : a2.IsWhole)
  (a3 : Memref sig .tc .vmem S256x1024 .bf16) (h3 : a3.IsWhole)
  (a4 : Memref sig .tc .vmem S1024x1024 .bf16) (h4 : a4.IsWhole)
  (a5 : Memref sig .tc .vmem S1024x1024 .bf16) (h5 : a5.IsWhole)
  (a6 : Memref sig .tc .vmem S1024x1024 .f32) (h6 : a6.IsWhole)
  (a7 : Memref sig .tc .vmem S1024x1024 .f32) (h7 : a7.IsWhole)
  (x0 : Vec Ideal S256x1024 .bf16) (x1 : Vec Ideal S256x1024 .bf16) (y : Vec Ideal S256x1024 .bf16)
  (z0 : Vec Ideal S1024x1024 .f32) (z1 : Vec Ideal S1024x1024 .f32)

theorem ld_256x1024 {e : EltTy} (z : Vec Ideal S256x1024 e) (h) : View.ld z (Rect.unit ![0, 0] ![256, 1024] h : Rect S256x1024) = z :=
  View.ld_unit_zero (S := S256x1024) Dense.zero2 _ _
theorem ld_1024x1024 {e : EltTy} (z : Vec Ideal S1024x1024 e) (h) : View.ld z (Rect.unit ![0, 0] ![1024, 1024] h : Rect S1024x1024) = z :=
  View.ld_unit_zero (S := S1024x1024) Dense.zero2 _ _
theorem readCov_1024x1024 (z : Vec Ideal S1024x1024 .f32) (v : View sig .tc .vmem S1024x1024 .f32) (h) (L) (r : Rect S1024x1024) :
    v.readCov ((⟨Rect.unit ![0, 0] ![1024, 1024] h, z⟩ : View.Piece (Elt Ideal) S1024x1024 .f32) :: L) r.toLoadRect = View.ld z r :=
  View.readCov_fill v h z L r fun a => by match a with | ⟨0, _⟩ => rfl | ⟨1, _⟩ => rfl

/-- The first point leaves its products, added to zero. -/
theorem first_point (c0 : cond0_0 i) (c1 : ¬cond0_1 i) :
    sout0_A_0 c i a1 h1 a2 h2 a3 h3 a4 h4 a5 h5 a6 h6 a7 h7 c0 c1 x0 x1 y = k0_pay3 (F := Ideal) y (k0_pay1 (F := Ideal)) x0 ∧
    sout0_A_1 c i a1 h1 a2 h2 a3 h3 a4 h4 a5 h5 a6 h6 a7 h7 c0 c1 x0 x1 y = k0_pay4 (F := Ideal) y (k0_pay2 (F := Ideal)) x1 := by
  unfold sout0_A_0 sout0_A_1
  refine ⟨?_, ?_⟩
  all_goals
    rw [View.read_writes_junk_eq_canon]
    unfold kernelRun0_A; dsimp only; sl_unfold_words
    simp only [View.readAt_eq_ld, Memref.IsWhole.read_unread, ld_256x1024, ld_1024x1024, readCov_1024x1024]
    exact View.canon_cons_unit_zero (S := S1024x1024) Dense.zero2 _ _ _

/-- A point in between adds its products. -/
theorem next_point (c0 : ¬cond0_0 i) (c1 : ¬cond0_1 i) :
    sout0_B_0 c i a1 h1 a2 h2 a3 h3 a4 h4 a5 h5 a6 h6 a7 h7 c0 c1 x0 x1 y z0 z1 = k0_pay3 (F := Ideal) y z0 x0 ∧
    sout0_B_1 c i a1 h1 a2 h2 a3 h3 a4 h4 a5 h5 a6 h6 a7 h7 c0 c1 x0 x1 y z0 z1 = k0_pay4 (F := Ideal) y z1 x1 := by
  unfold sout0_B_0 sout0_B_1
  refine ⟨?_, ?_⟩
  all_goals
    rw [View.read_writes_junk_eq_canon]
    unfold kernelRun0_B; dsimp only; sl_unfold_words
    simp only [View.readAt_eq_ld, Memref.IsWhole.read_unread, ld_256x1024, ld_1024x1024, readCov_1024x1024]
    exact View.canon_cons_unit_zero (S := S1024x1024) Dense.zero2 _ _ _

/-- The last point adds its products and hands the sums out. -/
theorem last_point (c0 : ¬cond0_0 i) (c1 : cond0_1 i) :
    out0_C_3 c i a1 h1 a2 h2 a3 h3 a4 h4 a5 h5 a6 h6 a7 h7 c0 c1 x0 x1 y z0 z1 = k0_pay5 (F := Ideal) (k0_pay3 (F := Ideal) y z0 x0) ∧
    out0_C_4 c i a1 h1 a2 h2 a3 h3 a4 h4 a5 h5 a6 h6 a7 h7 c0 c1 x0 x1 y z0 z1 = k0_pay6 (F := Ideal) (k0_pay4 (F := Ideal) y z1 x1) := by
  unfold out0_C_3 out0_C_4
  refine ⟨?_, ?_⟩
  all_goals
    rw [View.read_writes_junk_eq_canon]
    unfold kernelRun0_C; dsimp only; sl_unfold_words
    simp only [View.readAt_eq_ld, Memref.IsWhole.read_unread, ld_256x1024, ld_1024x1024, readCov_1024x1024]
    exact View.canon_cons_unit_zero (S := S1024x1024) Dense.zero2 _ _ _

end

/-! ## The run -/

variable (m : (ℓ : Loc nD τ sig) → Buf (Elt Ideal) ℓ) (c : Dev nD)

/-- The products' arguments at launch. -/
abbrev ya : S8192x1024.Idx → EReal := m ((c : Thread nD τ).loc main_arg0)
abbrev yb : S8192x1024.Idx → EReal := m ((c : Thread nD τ).loc main_arg1)
abbrev ct : S8192x1024.Idx → EReal := m ((c : Thread nD τ).loc main_arg2)

theorem at0 : ∀ t : Fin cfg0.N, win0_0.index t 0 = t.val ∧ win0_0.index t 1 = 0 :=
  (by decide +kernel : ∀ t : Fin grid0.N, win0_0.index t 0 = t.val ∧ win0_0.index t 1 = 0)
theorem at1 : ∀ t : Fin cfg0.N, win0_1.index t 0 = t.val ∧ win0_1.index t 1 = 0 :=
  (by decide +kernel : ∀ t : Fin grid0.N, win0_1.index t 0 = t.val ∧ win0_1.index t 1 = 0)
theorem at2 : ∀ t : Fin cfg0.N, win0_2.index t 0 = t.val ∧ win0_2.index t 1 = 0 :=
  (by decide +kernel : ∀ t : Fin grid0.N, win0_2.index t 0 = t.val ∧ win0_2.index t 1 = 0)

theorem inside (t : Fin cfg0.N) : t.val * 256 + 256 ≤ 8192 := by
  have h : t.val < 32 := Nat.lt_of_lt_of_eq t.isLt N_0
  omega

theorem block_ya (t : Fin cfg0.N) (k : Fin 256) (j : Fin 1024) :
    (iblk m c 0 t : Vec Ideal S256x1024 .bf16) (ix2 k j) = ya m c (ix2 (Products.blockRow 256 t.val k) j) := by
  unfold iblk
  rw [View.read_apply]
  show V m c main_arg0 _ = _
  rw [V_main_arg0]
  exact Products.blocks_at (ya m c) _ t.val k j (inside t) (congrArg (· * 256 + 1 * k.val) (at0 t).1) (congrArg (· * 1024 + 1 * j.val) (at0 t).2)

theorem block_yb (t : Fin cfg0.N) (k : Fin 256) (j : Fin 1024) :
    (iblk m c 1 t : Vec Ideal S256x1024 .bf16) (ix2 k j) = yb m c (ix2 (Products.blockRow 256 t.val k) j) := by
  unfold iblk
  rw [View.read_apply]
  show V m c main_arg1 _ = _
  rw [V_main_arg1]
  exact Products.blocks_at (yb m c) _ t.val k j (inside t) (congrArg (· * 256 + 1 * k.val) (at1 t).1) (congrArg (· * 1024 + 1 * j.val) (at1 t).2)

theorem block_ct (t : Fin cfg0.N) (k : Fin 256) (j : Fin 1024) :
    (iblk m c 2 t : Vec Ideal S256x1024 .bf16) (ix2 k j) = ct m c (ix2 (Products.blockRow 256 t.val k) j) := by
  unfold iblk
  rw [View.read_apply]
  show V m c main_arg2 _ = _
  rw [V_main_arg2]
  exact Products.blocks_at (ct m c) _ t.val k j (inside t) (congrArg (· * 256 + 1 * k.val) (at2 t).1) (congrArg (· * 1024 + 1 * j.val) (at2 t).2)

/-- A point's product with `ya` on top of those before it. -/
theorem step_0 (t : Fin cfg0.N) (z : Vec Ideal S1024x1024 .f32) (hz : z = Products.upTo 256 (ya m c) (ct m c) t.val) :
    k0_pay3 (F := Ideal) (iblk m c 2 t) z (iblk m c 0 t) = Products.upTo 256 (ya m c) (ct m c) (t.val + 1) :=
  (add_0 _ _ z).trans (Products.upTo_step 256 t.val (ya m c) (ct m c) z _ _ hz (block_ya m c t) (block_ct m c t))

/-- A point's product with `yb` on top of those before it. -/
theorem step_1 (t : Fin cfg0.N) (z : Vec Ideal S1024x1024 .f32) (hz : z = Products.upTo 256 (yb m c) (ct m c) t.val) :
    k0_pay4 (F := Ideal) (iblk m c 2 t) z (iblk m c 1 t) = Products.upTo 256 (yb m c) (ct m c) (t.val + 1) :=
  (add_1 _ _ z).trans (Products.upTo_step 256 t.val (yb m c) (ct m c) z _ _ hz (block_yb m c t) (block_ct m c t))

theorem after_A (t : Fin cfg0.N) (h0 : t.val % 32 = 0) (h1 : ¬t.val % 32 = 31) :
    (outsAt0 m c t.val t.isLt).2.2.1 = k0_pay3 (F := Ideal) (iblk m c 2 t) (k0_pay1 (F := Ideal)) (iblk m c 0 t) ∧
    (outsAt0 m c t.val t.isLt).2.2.2 = k0_pay4 (F := Ideal) (iblk m c 2 t) (k0_pay2 (F := Ideal)) (iblk m c 1 t) := by
  rw [outsAt0_A m c t h0 h1]
  dsimp only
  have h := first_point c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _)
    (iblk m c 0 t) (iblk m c 1 t) (iblk m c 2 t) ((hcond0_0 t).mpr h0) (fun h => h1 ((hcond0_1 t).mp h))
  exact h

theorem after_B (t : Fin cfg0.N) (h0 : ¬t.val % 32 = 0) (h1 : ¬t.val % 32 = 31) :
    (outsAt0 m c t.val t.isLt).2.2.1 = k0_pay3 (F := Ideal) (iblk m c 2 t) (outsAt0 m c (t.val - 1) (Nat.lt_of_le_of_lt (Nat.sub_le _ _) t.isLt)).2.2.1 (iblk m c 0 t) ∧
    (outsAt0 m c t.val t.isLt).2.2.2 = k0_pay4 (F := Ideal) (iblk m c 2 t) (outsAt0 m c (t.val - 1) (Nat.lt_of_le_of_lt (Nat.sub_le _ _) t.isLt)).2.2.2 (iblk m c 1 t) := by
  rw [outsAt0_B m c t h0 h1]
  dsimp only
  have h := next_point c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _)
    (iblk m c 0 t) (iblk m c 1 t) (iblk m c 2 t)
    (outsAt0 m c (t.val - 1) (Nat.lt_of_le_of_lt (Nat.sub_le _ _) t.isLt)).2.2.1 (outsAt0 m c (t.val - 1) (Nat.lt_of_le_of_lt (Nat.sub_le _ _) t.isLt)).2.2.2
    (fun h => h0 ((hcond0_0 t).mp h)) (fun h => h1 ((hcond0_1 t).mp h))
  exact h

theorem after_C (t : Fin cfg0.N) (h0 : ¬t.val % 32 = 0) (h1 : t.val % 32 = 31) :
    (outsAt0 m c t.val t.isLt).1 = k0_pay5 (F := Ideal) (k0_pay3 (F := Ideal) (iblk m c 2 t) (outsAt0 m c (t.val - 1) (Nat.lt_of_le_of_lt (Nat.sub_le _ _) t.isLt)).2.2.1 (iblk m c 0 t)) ∧
    (outsAt0 m c t.val t.isLt).2.1 = k0_pay6 (F := Ideal) (k0_pay4 (F := Ideal) (iblk m c 2 t) (outsAt0 m c (t.val - 1) (Nat.lt_of_le_of_lt (Nat.sub_le _ _) t.isLt)).2.2.2 (iblk m c 1 t)) := by
  rw [outsAt0_C m c t h0 h1]
  dsimp only
  have h := last_point c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _)
    (iblk m c 0 t) (iblk m c 1 t) (iblk m c 2 t)
    (outsAt0 m c (t.val - 1) (Nat.lt_of_le_of_lt (Nat.sub_le _ _) t.isLt)).2.2.1 (outsAt0 m c (t.val - 1) (Nat.lt_of_le_of_lt (Nat.sub_le _ _) t.isLt)).2.2.2
    (fun h => h0 ((hcond0_0 t).mp h)) ((hcond0_1 t).mpr h1)
  exact h

/-- The scratch arrays after point `n`, before the last. -/
theorem scratch_eq : ∀ (n : ℕ) (hn : n < cfg0.N), n < 31 →
    (outsAt0 m c n hn).2.2.1 = Products.upTo 256 (ya m c) (ct m c) (n + 1) ∧
    (outsAt0 m c n hn).2.2.2 = Products.upTo 256 (yb m c) (ct m c) (n + 1)
  | 0, hn, _ => by
    have hA := after_A m c ⟨0, hn⟩ rfl (by show ¬ 0 % 32 = 31; decide)
    exact ⟨(hA.1).trans (step_0 m c ⟨0, hn⟩ _ (start_0.trans (Products.upTo_none 256 _ _))),
      (hA.2).trans (step_1 m c ⟨0, hn⟩ _ (start_1.trans (Products.upTo_none 256 _ _)))⟩
  | n + 1, hn, hl => by
    have hB := after_B m c ⟨n + 1, hn⟩ (by show ¬ (n + 1) % 32 = 0; omega) (by show ¬ (n + 1) % 32 = 31; omega)
    have hp := scratch_eq n (Nat.lt_of_succ_lt hn) (by omega)
    exact ⟨(hB.1).trans (step_0 m c ⟨n + 1, hn⟩ _ (hp.1)),
      (hB.2).trans (step_1 m c ⟨n + 1, hn⟩ _ (hp.2))⟩

/-- What the last point writes back. -/
theorem last (n : ℕ) (hn : n + 1 < cfg0.N) (hl : n = 30) :
    (outsAt0 m c (n + 1) hn).1 = Products.upTo 256 (ya m c) (ct m c) (n + 1 + 1) ∧
    (outsAt0 m c (n + 1) hn).2.1 = Products.upTo 256 (yb m c) (ct m c) (n + 1 + 1) := by
  have hC := after_C m c ⟨n + 1, hn⟩ (by show ¬ (n + 1) % 32 = 0; omega) (by show (n + 1) % 32 = 31; omega)
  have hp := scratch_eq m c n (Nat.lt_of_succ_lt hn) (by omega)
  exact ⟨(hC.1).trans ((out_0 _).trans (step_0 m c ⟨n + 1, hn⟩ _ (hp.1))),
      (hC.2).trans ((out_1 _).trans (step_1 m c ⟨n + 1, hn⟩ _ (hp.2)))⟩

theorem top : 31 < cfg0.N := lt_of_lt_of_eq (by decide) N_0.symm

theorem final_0 : Value.G3 m c = Products.product (ya m c) (ct m c) := by
  refine (Value.G3_last m c).trans ?_
  rw [← Value.outsAt0_sweep m c 31 top]
  have h := (last m c 30 top rfl).1
  exact h.trans (Products.upTo_all 256 32 (by decide) _ _)

theorem final_1 : Value.G4 m c = Products.product (yb m c) (ct m c) := by
  refine (Value.G4_last m c).trans ?_
  rw [← Value.outsAt0_sweep m c 31 top]
  have h := (last m c 30 top rfl).2
  exact h.trans (Products.upTo_all 256 32 (by decide) _ _)

end

/-! ## The claims -/

section
open Cert.OutWeight0ReferenceIdeal Cert.OutWeight0ReferenceIdeal.Facts₀

/-- The reference's product of `Y` and `X`, turned over. -/
theorem ref_1024 (X : FVec Ideal S8192x1024 .bf16) (Y : FVec Ideal S8192x1024 .bf16) :
    truncf .bf16 (transpose S1024x1024 [1, 0] (Host.dotGeneral dot_S8192x1024_S8192x1024_S1024x1024_0_0_1_1_n_n none
      (extf .f32 Y bitsLt_bf16_f32) (extf .f32 X bitsLt_bf16_f32)) transposes_S1024x1024_S1024x1024_1_0) bitsLt_bf16_f32 = Products.product X Y :=
  funext fun i => (Products.turned (M := 1024) (N := 1024) _ transposes_S1024x1024_S1024x1024_1_0 i).trans
    ((Products.dot_tn (M := 1024) (K := 8192) (N := 1024) _ (extf .f32 Y bitsLt_bf16_f32) (extf .f32 X bitsLt_bf16_f32) _).trans
      (Products.product_turned (M := 1024) (N := 1024) X Y i))

end

theorem frame_p : Cert.quiescent_OutWeight0 := fun m ρ _ => Cert.OutWeight0.Gen.frame m ρ
theorem frame_pi : Cert.quiescent_OutWeight0Ideal := fun m ρ _ => Cert.OutWeight0Ideal.Gen.frame m ρ
theorem frame_ri : Cert.quiescent_OutWeight0ReferenceIdeal := fun m ρ _ =>
  (θ_run Cert.OutWeight0ReferenceIdeal.defs _ _).mono (fun r h => ⟨fun c => (h c).2.2, sem_eq_zero_of_no_sems (by decide) r.2⟩)
    (Cert.OutWeight0ReferenceIdeal.Value.run (F := Ideal) m ρ)
theorem preserves : Cert.preserves_OutWeight0_OutWeight0Ideal := trivial

/-- The call's results are the reference's gradients. -/
theorem algebraic : Cert.algebraic_OutWeight0Ideal_OutWeight0ReferenceIdeal := by
  intro m g m' g' _ hagree
  refine ⟨fun c => Products.product (ya m c) (ct m c), fun c => Products.product (yb m c) (ct m c), ?_, ?_⟩
  · exact (θ_run Cert.OutWeight0Ideal.defs _ _).mono (fun r h c => ⟨(h c).1.trans (final_0 m c), (h c).2.1.trans (final_1 m c), (h c).2.2⟩)
      (Cert.OutWeight0Ideal.Value.run (F := Ideal) m g)
  · refine (θ_run Cert.OutWeight0ReferenceIdeal.defs _ _).mono (fun r h c => ⟨(h c).1.trans ?_, (h c).2.1.trans ?_, (h c).2.2⟩)
      (Cert.OutWeight0ReferenceIdeal.Value.run (F := Ideal) m' g')
    · rw [(hagree c).1, (hagree c).2.2]
      exact ref_1024 _ _
    · rw [(hagree c).2.1, (hagree c).2.2]
      exact ref_1024 _ _

end OutWeight0

end
-- ==== Proof.InGrad.lean ====
/- The gradient of the mixer's input product by its input: five products of a cotangent and its part of the weights, added, 512
   rows per grid point. The third cotangent has 16 columns that count, of 128. -/
module

public import proofs.«01_k».proof.Defs
public import proofs.«01_k».proof.Proof.Products
public import proofs.«01_k».proof.Proof.Gen.InGrad.Frame
public import proofs.«01_k».proof.Proof.Gen.InGradIdeal.Value
public import proofs.«01_k».proof.Proof.Gen.InGradReferenceIdeal.Run
public import Idealize.ShloMosaic.Lib.Pipeline.ReadBack
public import Idealize.ShloMosaic.Lib.Quiescent
public import Idealize.ShloMosaic.Lib.Claim

@[expose] public section

set_option maxRecDepth 16384

noncomputable section

open Idealize.ShloMosaic Idealize.ShloMosaic.TcCoe Idealize.ShloMosaic.ValueIdx Idealize.SL.Sem

namespace InGrad

section
open Cert.InGradIdeal Cert.InGradIdeal.Gen

/-- The columns of the third cotangent that count. -/
def first (X : S8192x128.Idx → EReal) : Products.Mat 8192 16 |>.Idx → EReal := fun i => X (ix2 (i 0) ((i 1).castLE (by decide)))

/-- The gradient, entry by entry. -/
def total (X₀ : S8192x1024.Idx → EReal) (X₁ : S8192x1536.Idx → EReal) (X₂ : S8192x128.Idx → EReal) (X₃ X₄ : S8192x1024.Idx → EReal)
    (W : S4624x1024.Idx → EReal) : S8192x1024.Idx → EReal := fun i =>
  Products.entry X₀ (Products.part 0 1024 (by decide) W) (i 0) (i 1) + Products.entry X₁ (Products.part 1024 1536 (by decide) W) (i 0) (i 1) +
      Products.entry (first X₂) (Products.part 2560 16 (by decide) W) (i 0) (i 1) +
    Products.entry X₃ (Products.part 2576 1024 (by decide) W) (i 0) (i 1) + Products.entry X₄ (Products.part 3600 1024 (by decide) W) (i 0) (i 1)

/-- What a point leaves: the products of its blocks, added. -/
theorem out_val (x₀ : Vec Ideal S512x1024 .bf16) (x₁ : Vec Ideal S512x1536 .bf16) (x₂ : Vec Ideal S512x128 .bf16) (x₃ x₄ : Vec Ideal S512x1024 .bf16)
    (w₀ : Vec Ideal S1024x1024 .bf16) (w₁ : Vec Ideal S1536x1024 .bf16) (w₂ : Vec Ideal S128x1024 .bf16) (w₃ w₄ : Vec Ideal S1024x1024 .bf16)
    (i : S512x1024.Idx) : out0_10 (F := Ideal) x₀ x₁ x₂ x₃ x₄ w₀ w₁ w₂ w₃ w₄ i =
      (Products.entry x₀ w₀ (i 0) (i 1) + Products.entry x₁ w₁ (i 0) (i 1) + Products.entry x₂ w₂ (i 0) (i 1) + Products.entry x₃ w₃ (i 0) (i 1) +
        Products.entry x₄ w₄ (i 0) (i 1) : EReal) := by
  unfold out0_10
  rw [View.canon_unit_zero (S := S512x1024) Dense.zero2]
  simp only [View.ld_unit_zero (S := S1024x1024) Dense.zero2, View.ld_unit_zero (S := S512x1024) Dense.zero2,
    View.ld_unit_zero (S := S1536x1024) Dense.zero2, View.ld_unit_zero (S := S512x1536) Dense.zero2, View.ld_unit_zero (S := S128x1024) Dense.zero2,
    View.ld_unit_zero (S := S512x128) Dense.zero2]
  unfold k0_pay1
  simp only [shapeCast_self]
  exact congrArg₂ (fun a b : EReal => a + b) (congrArg₂ (fun a b : EReal => a + b) (congrArg₂ (fun a b : EReal => a + b) (congrArg₂ (fun a b : EReal => a + b)
    (Products.mm_nn (M := 512) (K := 1024) (N := 1024) _ x₀ w₀ i) (Products.mm_nn (M := 512) (K := 1536) (N := 1024) _ x₁ w₁ i))
    (Products.mm_nn (M := 512) (K := 128) (N := 1024) _ x₂ w₂ i)) (Products.mm_nn (M := 512) (K := 1024) (N := 1024) _ x₃ w₃ i))
    (Products.mm_nn (M := 512) (K := 1024) (N := 1024) _ x₄ w₄ i)

theorem at0 : ∀ t : Fin cfg0.N, win0_0.index t 0 = t.val ∧ win0_0.index t 1 = 0 :=
  (by decide +kernel : ∀ t : Fin grid0.N, win0_0.index t 0 = t.val ∧ win0_0.index t 1 = 0)
theorem at1 : ∀ t : Fin cfg0.N, win0_1.index t 0 = t.val ∧ win0_1.index t 1 = 0 :=
  (by decide +kernel : ∀ t : Fin grid0.N, win0_1.index t 0 = t.val ∧ win0_1.index t 1 = 0)
theorem at2 : ∀ t : Fin cfg0.N, win0_2.index t 0 = t.val ∧ win0_2.index t 1 = 0 :=
  (by decide +kernel : ∀ t : Fin grid0.N, win0_2.index t 0 = t.val ∧ win0_2.index t 1 = 0)
theorem at3 : ∀ t : Fin cfg0.N, win0_3.index t 0 = t.val ∧ win0_3.index t 1 = 0 :=
  (by decide +kernel : ∀ t : Fin grid0.N, win0_3.index t 0 = t.val ∧ win0_3.index t 1 = 0)
theorem at4 : ∀ t : Fin cfg0.N, win0_4.index t 0 = t.val ∧ win0_4.index t 1 = 0 :=
  (by decide +kernel : ∀ t : Fin grid0.N, win0_4.index t 0 = t.val ∧ win0_4.index t 1 = 0)
theorem at5 : ∀ t : Fin cfg0.N, win0_5.index t 0 = 0 ∧ win0_5.index t 1 = 0 :=
  (by decide +kernel : ∀ t : Fin grid0.N, win0_5.index t 0 = 0 ∧ win0_5.index t 1 = 0)
theorem at6 : ∀ t : Fin cfg0.N, win0_6.index t 0 = 0 ∧ win0_6.index t 1 = 0 :=
  (by decide +kernel : ∀ t : Fin grid0.N, win0_6.index t 0 = 0 ∧ win0_6.index t 1 = 0)
theorem at7 : ∀ t : Fin cfg0.N, win0_7.index t 0 = 0 ∧ win0_7.index t 1 = 0 :=
  (by decide +kernel : ∀ t : Fin grid0.N, win0_7.index t 0 = 0 ∧ win0_7.index t 1 = 0)
theorem at8 : ∀ t : Fin cfg0.N, win0_8.index t 0 = 0 ∧ win0_8.index t 1 = 0 :=
  (by decide +kernel : ∀ t : Fin grid0.N, win0_8.index t 0 = 0 ∧ win0_8.index t 1 = 0)
theorem at9 : ∀ t : Fin cfg0.N, win0_9.index t 0 = 0 ∧ win0_9.index t 1 = 0 :=
  (by decide +kernel : ∀ t : Fin grid0.N, win0_9.index t 0 = 0 ∧ win0_9.index t 1 = 0)
theorem at10 : ∀ t : Fin cfg0.N, win0_10.index t 0 = t.val ∧ win0_10.index t 1 = 0 :=
  (by decide +kernel : ∀ t : Fin grid0.N, win0_10.index t 0 = t.val ∧ win0_10.index t 1 = 0)
theorem full10 : ∀ t : Fin cfg0.N, win0_10.xsize (grid0.coords t) 0 = 512 ∧ win0_10.xsize (grid0.coords t) 1 = 1024 :=
  (by decide +kernel : ∀ t : Fin grid0.N, win0_10.xsize (grid0.coords t) 0 = 512 ∧ win0_10.xsize (grid0.coords t) 1 = 1024)

theorem lt16 (t : Fin cfg0.N) : t.val < 16 := Nat.lt_of_lt_of_eq t.isLt N_0

/-- The point whose block holds row `i`. -/
def ptOf (i : S8192x1024.Idx) : Fin cfg0.N := ⟨(i 0).val / 512, by
  have h : (i 0).val < 8192 := (i 0).isLt
  rw [show cfg0.N = 16 from N_0]; omega⟩

section
variable (m : (ℓ : Loc nD τ sig) → Buf (Elt Ideal) ℓ) (c : Dev nD)

/-- The call's arguments at launch. -/
abbrev dz : S8192x1024.Idx → EReal := m ((c : Thread nD τ).loc main_arg0)
abbrev dxr : S8192x1536.Idx → EReal := m ((c : Thread nD τ).loc main_arg1)
abbrev ddt : S8192x128.Idx → EReal := m ((c : Thread nD τ).loc main_arg2)
abbrev du : S8192x1024.Idx → EReal := m ((c : Thread nD τ).loc main_arg3)
abbrev dv : S8192x1024.Idx → EReal := m ((c : Thread nD τ).loc main_arg4)
abbrev wt : S4624x1024.Idx → EReal := m ((c : Thread nD τ).loc main_arg5)

/-- The parts of the weights, as the host hands them to the call. -/
theorem host_w0 : (V m c main_v0 : S1024x1024.Idx → EReal) = Products.part 0 1024 (by decide) (wt m c) := by
  entry_read
  exact Products.slice_rows 0 1024 _ (wt m c) slices_S4624x1024_S1024x1024_0_0
theorem host_w1 : (V m c main_v1 : S1536x1024.Idx → EReal) = Products.part 1024 1536 (by decide) (wt m c) := by
  entry_read
  exact Products.slice_rows 1024 1536 _ (wt m c) slices_S4624x1024_S1536x1024_1024_0
theorem host_w3 : (V m c main_v4 : S1024x1024.Idx → EReal) = Products.part 2576 1024 (by decide) (wt m c) := by
  entry_read
  exact Products.slice_rows 2576 1024 _ (wt m c) slices_S4624x1024_S1024x1024_2576_0
theorem host_w4 : (V m c main_v5 : S1024x1024.Idx → EReal) = Products.part 3600 1024 (by decide) (wt m c) := by
  entry_read
  exact Products.slice_rows 3600 1024 _ (wt m c) slices_S4624x1024_S1024x1024_3600_0
/-- The third part ends in 112 rows of zeros. -/
def filled : S128x1024.Idx → EReal :=
  pad S128x1024 ![0, 0] ![112, 0] ![0, 0] (Products.part 2560 16 (by decide) (wt m c)) (sitofp (F := Ideal) .bf16 (constantI S_ 32 0#32)) pads_S16x1024_S128x1024_01120_000 h_S_

theorem host_w2 : (V m c main_v3 : S128x1024.Idx → EReal) = filled m c := by
  entry_read
  exact congrArg (fun x => pad S128x1024 ![0, 0] ![112, 0] ![0, 0] x (sitofp (F := Ideal) .bf16 (constantI S_ 32 0#32)) pads_S16x1024_S128x1024_01120_000 h_S_)
    (Products.slice_rows 2560 16 _ (wt m c) slices_S4624x1024_S16x1024_2560_0)

theorem fill_zero : sitofp (F := Ideal) .bf16 (constantI S_ 32 0#32) (Shape.Idx.first h_S_) = (0 : EReal) := by
  show (((0#32 : BitVec 32).toInt : ℝ) : EReal) = 0
  simp

theorem block_dz (t : Fin cfg0.N) (k : Fin 512) (j : Fin 1024) :
    (iblk m c 0 t : Vec Ideal S512x1024 .bf16) (ix2 k j) = dz m c (ix2 (Dense.row t.val k) j) := by
  unfold iblk
  rw [View.read_apply]
  show V m c main_arg0 _ = _
  rw [V_main_arg0]
  exact Products.rows_at (dz m c) _ t.val k j (lt16 t) (congrArg (· * 512 + 1 * k.val) (at0 t).1) (congrArg (· * 1024 + 1 * j.val) (at0 t).2)

theorem block_dxr (t : Fin cfg0.N) (k : Fin 512) (j : Fin 1536) :
    (iblk m c 1 t : Vec Ideal S512x1536 .bf16) (ix2 k j) = dxr m c (ix2 (Dense.row t.val k) j) := by
  unfold iblk
  rw [View.read_apply]
  show V m c main_arg1 _ = _
  rw [V_main_arg1]
  exact Products.rows_at (dxr m c) _ t.val k j (lt16 t) (congrArg (· * 512 + 1 * k.val) (at1 t).1) (congrArg (· * 1536 + 1 * j.val) (at1 t).2)

theorem block_ddt (t : Fin cfg0.N) (k : Fin 512) (j : Fin 128) :
    (iblk m c 2 t : Vec Ideal S512x128 .bf16) (ix2 k j) = ddt m c (ix2 (Dense.row t.val k) j) := by
  unfold iblk
  rw [View.read_apply]
  show V m c main_arg2 _ = _
  rw [V_main_arg2]
  exact Products.rows_at (ddt m c) _ t.val k j (lt16 t) (congrArg (· * 512 + 1 * k.val) (at2 t).1) (congrArg (· * 128 + 1 * j.val) (at2 t).2)

theorem block_du (t : Fin cfg0.N) (k : Fin 512) (j : Fin 1024) :
    (iblk m c 3 t : Vec Ideal S512x1024 .bf16) (ix2 k j) = du m c (ix2 (Dense.row t.val k) j) := by
  unfold iblk
  rw [View.read_apply]
  show V m c main_arg3 _ = _
  rw [V_main_arg3]
  exact Products.rows_at (du m c) _ t.val k j (lt16 t) (congrArg (· * 512 + 1 * k.val) (at3 t).1) (congrArg (· * 1024 + 1 * j.val) (at3 t).2)

theorem block_dv (t : Fin cfg0.N) (k : Fin 512) (j : Fin 1024) :
    (iblk m c 4 t : Vec Ideal S512x1024 .bf16) (ix2 k j) = dv m c (ix2 (Dense.row t.val k) j) := by
  unfold iblk
  rw [View.read_apply]
  show V m c main_arg4 _ = _
  rw [V_main_arg4]
  exact Products.rows_at (dv m c) _ t.val k j (lt16 t) (congrArg (· * 512 + 1 * k.val) (at4 t).1) (congrArg (· * 1024 + 1 * j.val) (at4 t).2)

theorem block_w0 (t : Fin cfg0.N) (k : Fin 1024) (j : Fin 1024) :
    (iblk m c 5 t : Vec Ideal S1024x1024 .bf16) (ix2 k j) = Products.part 0 1024 (by decide) (wt m c) (ix2 k j) := by
  unfold iblk
  rw [View.read_apply]
  show V m c main_v0 _ = _
  rw [host_w0]
  exact Products.whole_at _ _ k j (congrArg (· * 1024 + 1 * k.val) (at5 t).1) (congrArg (· * 1024 + 1 * j.val) (at5 t).2)

theorem block_w1 (t : Fin cfg0.N) (k : Fin 1536) (j : Fin 1024) :
    (iblk m c 6 t : Vec Ideal S1536x1024 .bf16) (ix2 k j) = Products.part 1024 1536 (by decide) (wt m c) (ix2 k j) := by
  unfold iblk
  rw [View.read_apply]
  show V m c main_v1 _ = _
  rw [host_w1]
  exact Products.whole_at _ _ k j (congrArg (· * 1536 + 1 * k.val) (at6 t).1) (congrArg (· * 1024 + 1 * j.val) (at6 t).2)

theorem block_w2 (t : Fin cfg0.N) (k : Fin 128) (j : Fin 1024) :
    (iblk m c 7 t : Vec Ideal S128x1024 .bf16) (ix2 k j) = filled m c (ix2 k j) := by
  unfold iblk
  rw [View.read_apply]
  show V m c main_v3 _ = _
  rw [host_w2]
  exact Products.whole_at _ _ k j (congrArg (· * 128 + 1 * k.val) (at7 t).1) (congrArg (· * 1024 + 1 * j.val) (at7 t).2)

theorem block_w3 (t : Fin cfg0.N) (k : Fin 1024) (j : Fin 1024) :
    (iblk m c 8 t : Vec Ideal S1024x1024 .bf16) (ix2 k j) = Products.part 2576 1024 (by decide) (wt m c) (ix2 k j) := by
  unfold iblk
  rw [View.read_apply]
  show V m c main_v4 _ = _
  rw [host_w3]
  exact Products.whole_at _ _ k j (congrArg (· * 1024 + 1 * k.val) (at8 t).1) (congrArg (· * 1024 + 1 * j.val) (at8 t).2)

theorem block_w4 (t : Fin cfg0.N) (k : Fin 1024) (j : Fin 1024) :
    (iblk m c 9 t : Vec Ideal S1024x1024 .bf16) (ix2 k j) = Products.part 3600 1024 (by decide) (wt m c) (ix2 k j) := by
  unfold iblk
  rw [View.read_apply]
  show V m c main_v5 _ = _
  rw [host_w4]
  exact Products.whole_at _ _ k j (congrArg (· * 1024 + 1 * k.val) (at9 t).1) (congrArg (· * 1024 + 1 * j.val) (at9 t).2)

/-- The zeros add nothing. -/
theorem entry_filled (X : S8192x128.Idx → EReal) (r : Fin 8192) (j : Fin 1024) :
    Products.entry X (filled m c) r j = Products.entry (first X) (Products.part 2560 16 (by decide) (wt m c)) r j := by
  refine (Fin.sum_univ_add (a := 16) (b := 112) _).trans ((congrArg₂ (fun a b : EReal => a + b) (Finset.sum_congr rfl fun k _ => ?_)
    (Finset.sum_eq_zero fun k _ => ?_)).trans (add_zero _))
  · exact congrArg₂ (fun a b : EReal => a * b) rfl (Products.below_in 112 _ _ _ _ _ j k rfl)
  · exact (congrArg₂ (fun a b : EReal => a * b) rfl (Products.below_out 112 _ _ _ _ _ j (Nat.le_add_right _ _) fill_zero)).trans (mul_zero _)

/-- A point's block of the result is the gradient's. -/
theorem point (t : Fin cfg0.N) (j : S512x1024.Idx) (q : S8192x1024.Idx) (h0 : (q 0).val = t.val * 512 + 1 * (j 0).val)
    (h1 : (q 1).val = 0 * 1024 + 1 * (j 1).val) :
    out0_10 (F := Ideal) (iblk m c 0 t) (iblk m c 1 t) (iblk m c 2 t) (iblk m c 3 t) (iblk m c 4 t) (iblk m c 5 t) (iblk m c 6 t) (iblk m c 7 t) (iblk m c 8 t) (iblk m c 9 t) j = total (dz m c) (dxr m c) (ddt m c) (du m c) (dv m c) (wt m c) q := by
  have h := Products.result_at q t.val (j 0) (j 1) (lt16 t) h0 h1
  refine (out_val _ _ _ _ _ _ _ _ _ _ j).trans ?_
  unfold total
  rw [h.1, h.2]
  exact congrArg₂ (fun a b : EReal => a + b) (congrArg₂ (fun a b : EReal => a + b) (congrArg₂ (fun a b : EReal => a + b) (congrArg₂ (fun a b : EReal => a + b)
    (Products.entry_eq _ _ _ _ _ _ _ (fun k => block_dz m c t _ k) fun k => block_w0 m c t k _)
    (Products.entry_eq _ _ _ _ _ _ _ (fun k => block_dxr m c t _ k) fun k => block_w1 m c t k _))
    ((Products.entry_eq _ _ _ _ _ _ _ (fun k => block_ddt m c t _ k) fun k => block_w2 m c t k _).trans (entry_filled m c (ddt m c) _ _)))
    (Products.entry_eq _ _ _ _ _ _ _ (fun k => block_du m c t _ k) fun k => block_w3 m c t k _))
    (Products.entry_eq _ _ _ _ _ _ _ (fun k => block_dv m c t _ k) fun k => block_w4 m c t k _)

/-- The result array after the run. -/
theorem final : (dats m 0 c).arrAt 10 cfg0.N = total (dz m c) (dxr m c) (ddt m c) (du m c) (dv m c) (wt m c) := by
  refine (dats m 0 c).arrAt_eq_of_cover 10 (total (dz m c) (dxr m c) (ddt m c) (du m c) (dv m c) (wt m c)) (fun t _ => ?_) fun i => ⟨ptOf i, flush0_10 _, ?_⟩
  · rw [Value.flushed10]
    funext j
    rw [View.read_apply]
    exact point m c t j _ (congrArg (· * 512 + 1 * (j 0).val) (at10 t).1) (congrArg (· * 1024 + 1 * (j 1).val) (at10 t).2)
  · show i ∈ ((View.whole main_v6).slice (win0_10.rect (ptOf i))).set
    rw [View.set_slice_whole, Rect.mem_set_unit]
    exact Dense.in_rows i _ _ (congrArg (· * 512) (at10 _).1) (full10 _).1 (congrArg (· * 1024) (at10 _).2) (full10 _).2

end

end

/-! ## The claims -/

section
open Cert.InGradReferenceIdeal Cert.InGradReferenceIdeal.Facts₀

variable (X0 : FVec Ideal S8192x1024 .f32) (X1 : FVec Ideal S8192x1536 .f32) (X2 : FVec Ideal S8192x16 .f32) (X3 X4 : FVec Ideal S8192x1024 .f32)

/-- The cotangents side by side, with zeros where the others lie. -/
def joined : FVec Ideal S8192x4624 .f32 :=
  addf (addf (addf (addf (pad S8192x4624 ![0, 3600] ![0, 0] ![0, 0] X4 (constant S_ .f32 0x00000000#32) pads_S8192x1024_S8192x4624_000_360000 h_S_) (pad S8192x4624 ![0, 2576] ![0, 1024] ![0, 0] X3 (constant S_ .f32 0x00000000#32) pads_S8192x1024_S8192x4624_000_257610240 h_S_))
    (pad S8192x4624 ![0, 2560] ![0, 2048] ![0, 0] X2 (constant S_ .f32 0x00000000#32) pads_S8192x16_S8192x4624_000_256020480 h_S_)) (pad S8192x4624 ![0, 1024] ![0, 2064] ![0, 0] X1 (constant S_ .f32 0x00000000#32) pads_S8192x1536_S8192x4624_000_102420640 h_S_))
    (pad S8192x4624 ![0, 0] ![0, 3600] ![0, 0] X0 (constant S_ .f32 0x00000000#32) pads_S8192x1024_S8192x4624_000_036000 h_S_)

theorem joined_0 (i : Fin 8192) (c : Fin 4624) (k : Fin 1024) (hk : c.val = 0 + k.val) : joined X0 X1 X2 X3 X4 (ix2 i c) = X0 (ix2 i k) :=
  (congrArg₂ (fun a b : EReal => a + b) (congrArg₂ (fun a b : EReal => a + b) (congrArg₂ (fun a b : EReal => a + b) (congrArg₂ (fun a b : EReal => a + b) (Products.pad_out 3600 0 X4 _ _ _ i c (by omega) (Products.zero_const _))
    (Products.pad_out 2576 1024 X3 _ _ _ i c (by omega) (Products.zero_const _))) (Products.pad_out 2560 2048 X2 _ _ _ i c (by omega) (Products.zero_const _)))
    (Products.pad_out 1024 2064 X1 _ _ _ i c (by omega) (Products.zero_const _))) (Products.pad_in 0 3600 X0 _ _ _ i c k hk)).trans (by simp only [zero_add, add_zero])

theorem joined_1 (i : Fin 8192) (c : Fin 4624) (k : Fin 1536) (hk : c.val = 1024 + k.val) : joined X0 X1 X2 X3 X4 (ix2 i c) = X1 (ix2 i k) :=
  (congrArg₂ (fun a b : EReal => a + b) (congrArg₂ (fun a b : EReal => a + b) (congrArg₂ (fun a b : EReal => a + b) (congrArg₂ (fun a b : EReal => a + b) (Products.pad_out 3600 0 X4 _ _ _ i c (by omega) (Products.zero_const _))
    (Products.pad_out 2576 1024 X3 _ _ _ i c (by omega) (Products.zero_const _))) (Products.pad_out 2560 2048 X2 _ _ _ i c (by omega) (Products.zero_const _)))
    (Products.pad_in 1024 2064 X1 _ _ _ i c k hk)) (Products.pad_out 0 3600 X0 _ _ _ i c (by omega) (Products.zero_const _))).trans (by simp only [zero_add, add_zero])

theorem joined_2 (i : Fin 8192) (c : Fin 4624) (k : Fin 16) (hk : c.val = 2560 + k.val) : joined X0 X1 X2 X3 X4 (ix2 i c) = X2 (ix2 i k) :=
  (congrArg₂ (fun a b : EReal => a + b) (congrArg₂ (fun a b : EReal => a + b) (congrArg₂ (fun a b : EReal => a + b) (congrArg₂ (fun a b : EReal => a + b) (Products.pad_out 3600 0 X4 _ _ _ i c (by omega) (Products.zero_const _))
    (Products.pad_out 2576 1024 X3 _ _ _ i c (by omega) (Products.zero_const _))) (Products.pad_in 2560 2048 X2 _ _ _ i c k hk))
    (Products.pad_out 1024 2064 X1 _ _ _ i c (by omega) (Products.zero_const _))) (Products.pad_out 0 3600 X0 _ _ _ i c (by omega) (Products.zero_const _))).trans (by simp only [zero_add, add_zero])

theorem joined_3 (i : Fin 8192) (c : Fin 4624) (k : Fin 1024) (hk : c.val = 2576 + k.val) : joined X0 X1 X2 X3 X4 (ix2 i c) = X3 (ix2 i k) :=
  (congrArg₂ (fun a b : EReal => a + b) (congrArg₂ (fun a b : EReal => a + b) (congrArg₂ (fun a b : EReal => a + b) (congrArg₂ (fun a b : EReal => a + b) (Products.pad_out 3600 0 X4 _ _ _ i c (by omega) (Products.zero_const _))
    (Products.pad_in 2576 1024 X3 _ _ _ i c k hk)) (Products.pad_out 2560 2048 X2 _ _ _ i c (by omega) (Products.zero_const _)))
    (Products.pad_out 1024 2064 X1 _ _ _ i c (by omega) (Products.zero_const _))) (Products.pad_out 0 3600 X0 _ _ _ i c (by omega) (Products.zero_const _))).trans (by simp only [zero_add, add_zero])

theorem joined_4 (i : Fin 8192) (c : Fin 4624) (k : Fin 1024) (hk : c.val = 3600 + k.val) : joined X0 X1 X2 X3 X4 (ix2 i c) = X4 (ix2 i k) :=
  (congrArg₂ (fun a b : EReal => a + b) (congrArg₂ (fun a b : EReal => a + b) (congrArg₂ (fun a b : EReal => a + b) (congrArg₂ (fun a b : EReal => a + b) (Products.pad_in 3600 0 X4 _ _ _ i c k hk)
    (Products.pad_out 2576 1024 X3 _ _ _ i c (by omega) (Products.zero_const _))) (Products.pad_out 2560 2048 X2 _ _ _ i c (by omega) (Products.zero_const _)))
    (Products.pad_out 1024 2064 X1 _ _ _ i c (by omega) (Products.zero_const _))) (Products.pad_out 0 3600 X0 _ _ _ i c (by omega) (Products.zero_const _))).trans (by simp only [zero_add, add_zero])

end

section
open Cert.InGradReferenceIdeal Cert.InGradReferenceIdeal.Facts₀

/-- The third cotangent's columns that count. -/
theorem first_val (X : FVec Ideal S8192x128 .bf16) : extractStridedSlice S8192x16 ![0, 0] X slices_S8192x128_S8192x16_0_0 = first X :=
  funext fun i => extractStridedSlice_apply _ X slices_S8192x128_S8192x16_0_0 i _ fun a => by
    match a with
    | ⟨0, _⟩ => exact (Nat.zero_add _).symm
    | ⟨1, _⟩ => exact (Nat.zero_add _).symm

/-- The reference's product. -/
theorem ref_val (X0 : FVec Ideal S8192x1024 .bf16) (X1 : FVec Ideal S8192x1536 .bf16) (X2 : FVec Ideal S8192x128 .bf16) (X3 X4 : FVec Ideal S8192x1024 .bf16)
    (W : FVec Ideal S4624x1024 .bf16) :
    Host.dotGeneral dot_S8192x4624_S1024x4624_S8192x1024_1_1_0_0_n_n none (joined (extf .f32 X0 bitsLt_bf16_f32) (extf .f32 X1 bitsLt_bf16_f32)
        (extf .f32 (extractStridedSlice S8192x16 ![0, 0] X2 slices_S8192x128_S8192x16_0_0) bitsLt_bf16_f32) (extf .f32 X3 bitsLt_bf16_f32) (extf .f32 X4 bitsLt_bf16_f32))
      (transpose S1024x4624 [1, 0] (extf .f32 W bitsLt_bf16_f32) transposes_S4624x1024_S1024x4624_1_0) = total X0 X1 X2 X3 X4 W := by
  rw [first_val]
  funext i
  refine (Products.dot_nt (M := 8192) (K := 4624) (N := 1024) _ (joined (extf .f32 X0 bitsLt_bf16_f32) (extf .f32 X1 bitsLt_bf16_f32)
        (extf (φ := .bf16) .f32 (first X2) bitsLt_bf16_f32) (extf .f32 X3 bitsLt_bf16_f32) (extf .f32 X4 bitsLt_bf16_f32))
      (transpose S1024x4624 [1, 0] (extf .f32 W bitsLt_bf16_f32) transposes_S4624x1024_S1024x4624_1_0) i).trans ?_
  refine (Fin.sum_univ_add (a := 3600) (b := 1024) _).trans (congrArg₂ (fun a b : EReal => a + b)
    ((Fin.sum_univ_add (a := 2576) (b := 1024) _).trans (congrArg₂ (fun a b : EReal => a + b)
      ((Fin.sum_univ_add (a := 2560) (b := 16) _).trans (congrArg₂ (fun a b : EReal => a + b)
        ((Fin.sum_univ_add (a := 1024) (b := 1536) _).trans (congrArg₂ (fun a b : EReal => a + b) (Finset.sum_congr rfl fun k _ => ?_)
          (Finset.sum_congr rfl fun k _ => ?_))) (Finset.sum_congr rfl fun k _ => ?_))) (Finset.sum_congr rfl fun k _ => ?_))) (Finset.sum_congr rfl fun k _ => ?_))
  · exact congrArg₂ (fun a b : EReal => a * b) (joined_0 _ _ _ _ _ _ _ k (Nat.zero_add _).symm)
      ((Products.turned (N := 4624) (M := 1024) _ _ _).trans (congrArg W (Products.at_eq _ _ _ (Nat.zero_add _).symm rfl)))
  · exact congrArg₂ (fun a b : EReal => a * b) (joined_1 _ _ _ _ _ _ _ k rfl)
      ((Products.turned (N := 4624) (M := 1024) _ _ _).trans (congrArg W (Products.at_eq _ _ _ rfl rfl)))
  · exact congrArg₂ (fun a b : EReal => a * b) (joined_2 _ _ _ _ _ _ _ k rfl)
      ((Products.turned (N := 4624) (M := 1024) _ _ _).trans (congrArg W (Products.at_eq _ _ _ rfl rfl)))
  · exact congrArg₂ (fun a b : EReal => a * b) (joined_3 _ _ _ _ _ _ _ k rfl)
      ((Products.turned (N := 4624) (M := 1024) _ _ _).trans (congrArg W (Products.at_eq _ _ _ rfl rfl)))
  · exact congrArg₂ (fun a b : EReal => a * b) (joined_4 _ _ _ _ _ _ _ k rfl)
      ((Products.turned (N := 4624) (M := 1024) _ _ _).trans (congrArg W (Products.at_eq _ _ _ rfl rfl)))

end

theorem frame_p : Cert.quiescent_InGrad := fun m ρ _ => Cert.InGrad.Gen.frame m ρ
theorem frame_pi : Cert.quiescent_InGradIdeal := fun m ρ _ => Cert.InGradIdeal.Gen.frame m ρ
theorem frame_ri : Cert.quiescent_InGradReferenceIdeal := fun m ρ _ =>
  (θ_run Cert.InGradReferenceIdeal.defs _ _).mono (fun r h => ⟨fun c => (h c).2, sem_eq_zero_of_no_sems (by decide) r.2⟩)
    (Cert.InGradReferenceIdeal.Value.run (F := Ideal) m ρ)
theorem preserves : Cert.preserves_InGrad_InGradIdeal := trivial

/-- The call's result is the reference's gradient. -/
theorem algebraic : Cert.algebraic_InGradIdeal_InGradReferenceIdeal := by
  intro m g m' g' _ hagree
  refine ⟨fun c => total (dz m c) (dxr m c) (ddt m c) (du m c) (dv m c) (wt m c), ?_, ?_⟩
  · exact (θ_run Cert.InGradIdeal.defs _ _).mono (fun r h c => ⟨(h c).1.trans (final m c), (h c).2⟩) (Cert.InGradIdeal.Value.run_blocks (F := Ideal) m g)
  · refine (θ_run Cert.InGradReferenceIdeal.defs _ _).mono (fun r h c => ⟨(h c).1.trans ?_, (h c).2⟩)
      (Cert.InGradReferenceIdeal.Value.run (F := Ideal) m' g')
    rw [(hagree c).1, (hagree c).2.1, (hagree c).2.2.1, (hagree c).2.2.2.1, (hagree c).2.2.2.2.1, (hagree c).2.2.2.2.2]
    exact ref_val _ _ _ _ _ _

end InGrad

end
-- ==== Proof.InWeight.lean ====
/- The gradients of the mixer's input product by the five parts of its weights: products of 256 rows per grid point, added into
   scratch arrays that are written back at the last point. -/
module

public import proofs.«01_k».proof.Defs
public import proofs.«01_k».proof.Proof.Products
public import proofs.«01_k».proof.Proof.Gen.InWeight.Frame
public import proofs.«01_k».proof.Proof.Gen.InWeightIdeal.Value
public import proofs.«01_k».proof.Proof.Gen.InWeightReferenceIdeal.Run
public import Idealize.ShloMosaic.Lib.Pipeline.ReadBack
public import Idealize.ShloMosaic.Lib.Quiescent
public import Idealize.ShloMosaic.Lib.Claim

@[expose] public section

set_option maxRecDepth 16384

noncomputable section

open Idealize.ShloMosaic Idealize.ShloMosaic.TcCoe Idealize.ShloMosaic.ValueIdx Idealize.SL.Sem

namespace InWeight

section
open Cert.InWeightIdeal Cert.InWeightIdeal.Gen

/-! ## One grid point -/

/-- The sum for `dz` starts at zero, -/
theorem start_0 : k0_pay8 (F := Ideal) = fun _ => (0 : EReal) := by
  funext i
  unfold k0_pay8
  simp only [shapeCast_self]
  exact Ideal.ofBits_zero_f32

/-- and one block's product is added to what was there. -/
theorem add_0 (x : Vec Ideal S256x1024 .bf16) (y : Vec Ideal S256x1024 .bf16) (z : Vec Ideal S1024x1024 .f32) :
    k0_pay13 (F := Ideal) y z x = fun i => (z i + Products.entryL x y (i 0) (i 1) : EReal) := by
  funext i
  unfold k0_pay13
  simp only [shapeCast_self]
  exact congrArg (z i + ·) (Products.mm_tn (M := 1024) (K := 256) (N := 1024) _ x y i)

/-- The sum is handed out as it is. -/
theorem out_0 (z : Vec Ideal S1024x1024 .f32) : k0_pay3 (F := Ideal) z = z := by
  unfold k0_pay3
  rfl

/-- The sum for `dxr` starts at zero, -/
theorem start_1 : k0_pay9 (F := Ideal) = fun _ => (0 : EReal) := by
  funext i
  unfold k0_pay9
  simp only [shapeCast_self]
  exact Ideal.ofBits_zero_f32

/-- and one block's product is added to what was there. -/
theorem add_1 (x : Vec Ideal S256x1536 .bf16) (y : Vec Ideal S256x1024 .bf16) (z : Vec Ideal S1536x1024 .f32) :
    k0_pay14 (F := Ideal) y z x = fun i => (z i + Products.entryL x y (i 0) (i 1) : EReal) := by
  funext i
  unfold k0_pay14
  simp only [shapeCast_self]
  exact congrArg (z i + ·) (Products.mm_tn (M := 1536) (K := 256) (N := 1024) _ x y i)

/-- The sum is handed out as it is. -/
theorem out_1 (z : Vec Ideal S1536x1024 .f32) : k0_pay4 (F := Ideal) z = z := by
  unfold k0_pay4
  rfl

/-- The sum for `ddt` starts at zero, -/
theorem start_2 : k0_pay10 (F := Ideal) = fun _ => (0 : EReal) := by
  funext i
  unfold k0_pay10
  simp only [shapeCast_self]
  exact Ideal.ofBits_zero_f32

/-- and one block's product is added to what was there. -/
theorem add_2 (x : Vec Ideal S256x128 .bf16) (y : Vec Ideal S256x1024 .bf16) (z : Vec Ideal S128x1024 .f32) :
    k0_pay15 (F := Ideal) y z x = fun i => (z i + Products.entryL x y (i 0) (i 1) : EReal) := by
  funext i
  unfold k0_pay15
  simp only [shapeCast_self]
  exact congrArg (z i + ·) (Products.mm_tn (M := 128) (K := 256) (N := 1024) _ x y i)

/-- The sum is handed out as it is. -/
theorem out_2 (z : Vec Ideal S128x1024 .f32) : k0_pay5 (F := Ideal) z = z := by
  unfold k0_pay5
  rfl

/-- The sum for `du` starts at zero, -/
theorem start_3 : k0_pay11 (F := Ideal) = fun _ => (0 : EReal) := by
  funext i
  unfold k0_pay11
  simp only [shapeCast_self]
  exact Ideal.ofBits_zero_f32

/-- and one block's product is added to what was there. -/
theorem add_3 (x : Vec Ideal S256x1024 .bf16) (y : Vec Ideal S256x1024 .bf16) (z : Vec Ideal S1024x1024 .f32) :
    k0_pay1 (F := Ideal) y z x = fun i => (z i + Products.entryL x y (i 0) (i 1) : EReal) := by
  funext i
  unfold k0_pay1
  simp only [shapeCast_self]
  exact congrArg (z i + ·) (Products.mm_tn (M := 1024) (K := 256) (N := 1024) _ x y i)

/-- The sum is handed out as it is. -/
theorem out_3 (z : Vec Ideal S1024x1024 .f32) : k0_pay6 (F := Ideal) z = z := by
  unfold k0_pay6
  rfl

/-- The sum for `dv` starts at zero, -/
theorem start_4 : k0_pay12 (F := Ideal) = fun _ => (0 : EReal) := by
  funext i
  unfold k0_pay12
  simp only [shapeCast_self]
  exact Ideal.ofBits_zero_f32

/-- and one block's product is added to what was there. -/
theorem add_4 (x : Vec Ideal S256x1024 .bf16) (y : Vec Ideal S256x1024 .bf16) (z : Vec Ideal S1024x1024 .f32) :
    k0_pay2 (F := Ideal) y z x = fun i => (z i + Products.entryL x y (i 0) (i 1) : EReal) := by
  funext i
  unfold k0_pay2
  simp only [shapeCast_self]
  exact congrArg (z i + ·) (Products.mm_tn (M := 1024) (K := 256) (N := 1024) _ x y i)

/-- The sum is handed out as it is. -/
theorem out_4 (z : Vec Ideal S1024x1024 .f32) : k0_pay7 (F := Ideal) z = z := by
  unfold k0_pay7
  rfl

section
variable (c : Dev nD) (i : grid0.Coords)
  (a1 : Memref sig .tc .vmem S256x1024 .bf16) (h1 : a1.IsWhole)
  (a2 : Memref sig .tc .vmem S256x1536 .bf16) (h2 : a2.IsWhole)
  (a3 : Memref sig .tc .vmem S256x128 .bf16) (h3 : a3.IsWhole)
  (a4 : Memref sig .tc .vmem S256x1024 .bf16) (h4 : a4.IsWhole)
  (a5 : Memref sig .tc .vmem S256x1024 .bf16) (h5 : a5.IsWhole)
  (a6 : Memref sig .tc .vmem S256x1024 .bf16) (h6 : a6.IsWhole)
  (a7 : Memref sig .tc .vmem S1024x1024 .bf16) (h7 : a7.IsWhole)
  (a8 : Memref sig .tc .vmem S1536x1024 .bf16) (h8 : a8.IsWhole)
  (a9 : Memref sig .tc .vmem S128x1024 .bf16) (h9 : a9.IsWhole)
  (a10 : Memref sig .tc .vmem S1024x1024 .bf16) (h10 : a10.IsWhole)
  (a11 : Memref sig .tc .vmem S1024x1024 .bf16) (h11 : a11.IsWhole)
  (a12 : Memref sig .tc .vmem S1024x1024 .f32) (h12 : a12.IsWhole)
  (a13 : Memref sig .tc .vmem S1536x1024 .f32) (h13 : a13.IsWhole)
  (a14 : Memref sig .tc .vmem S128x1024 .f32) (h14 : a14.IsWhole)
  (a15 : Memref sig .tc .vmem S1024x1024 .f32) (h15 : a15.IsWhole)
  (a16 : Memref sig .tc .vmem S1024x1024 .f32) (h16 : a16.IsWhole)
  (x0 : Vec Ideal S256x1024 .bf16) (x1 : Vec Ideal S256x1536 .bf16) (x2 : Vec Ideal S256x128 .bf16) (x3 : Vec Ideal S256x1024 .bf16) (x4 : Vec Ideal S256x1024 .bf16) (y : Vec Ideal S256x1024 .bf16)
  (z0 : Vec Ideal S1024x1024 .f32) (z1 : Vec Ideal S1536x1024 .f32) (z2 : Vec Ideal S128x1024 .f32) (z3 : Vec Ideal S1024x1024 .f32) (z4 : Vec Ideal S1024x1024 .f32)

theorem ld_256x1024 {e : EltTy} (z : Vec Ideal S256x1024 e) (h) : View.ld z (Rect.unit ![0, 0] ![256, 1024] h : Rect S256x1024) = z :=
  View.ld_unit_zero (S := S256x1024) Dense.zero2 _ _
theorem ld_256x1536 {e : EltTy} (z : Vec Ideal S256x1536 e) (h) : View.ld z (Rect.unit ![0, 0] ![256, 1536] h : Rect S256x1536) = z :=
  View.ld_unit_zero (S := S256x1536) Dense.zero2 _ _
theorem ld_256x128 {e : EltTy} (z : Vec Ideal S256x128 e) (h) : View.ld z (Rect.unit ![0, 0] ![256, 128] h : Rect S256x128) = z :=
  View.ld_unit_zero (S := S256x128) Dense.zero2 _ _
theorem ld_1024x1024 {e : EltTy} (z : Vec Ideal S1024x1024 e) (h) : View.ld z (Rect.unit ![0, 0] ![1024, 1024] h : Rect S1024x1024) = z :=
  View.ld_unit_zero (S := S1024x1024) Dense.zero2 _ _
theorem ld_1536x1024 {e : EltTy} (z : Vec Ideal S1536x1024 e) (h) : View.ld z (Rect.unit ![0, 0] ![1536, 1024] h : Rect S1536x1024) = z :=
  View.ld_unit_zero (S := S1536x1024) Dense.zero2 _ _
theorem ld_128x1024 {e : EltTy} (z : Vec Ideal S128x1024 e) (h) : View.ld z (Rect.unit ![0, 0] ![128, 1024] h : Rect S128x1024) = z :=
  View.ld_unit_zero (S := S128x1024) Dense.zero2 _ _
theorem readCov_1024x1024 (z : Vec Ideal S1024x1024 .f32) (v : View sig .tc .vmem S1024x1024 .f32) (h) (L) (r : Rect S1024x1024) :
    v.readCov ((⟨Rect.unit ![0, 0] ![1024, 1024] h, z⟩ : View.Piece (Elt Ideal) S1024x1024 .f32) :: L) r.toLoadRect = View.ld z r :=
  View.readCov_fill v h z L r fun a => by match a with | ⟨0, _⟩ => rfl | ⟨1, _⟩ => rfl
theorem readCov_1536x1024 (z : Vec Ideal S1536x1024 .f32) (v : View sig .tc .vmem S1536x1024 .f32) (h) (L) (r : Rect S1536x1024) :
    v.readCov ((⟨Rect.unit ![0, 0] ![1536, 1024] h, z⟩ : View.Piece (Elt Ideal) S1536x1024 .f32) :: L) r.toLoadRect = View.ld z r :=
  View.readCov_fill v h z L r fun a => by match a with | ⟨0, _⟩ => rfl | ⟨1, _⟩ => rfl
theorem readCov_128x1024 (z : Vec Ideal S128x1024 .f32) (v : View sig .tc .vmem S128x1024 .f32) (h) (L) (r : Rect S128x1024) :
    v.readCov ((⟨Rect.unit ![0, 0] ![128, 1024] h, z⟩ : View.Piece (Elt Ideal) S128x1024 .f32) :: L) r.toLoadRect = View.ld z r :=
  View.readCov_fill v h z L r fun a => by match a with | ⟨0, _⟩ => rfl | ⟨1, _⟩ => rfl

/-- The first point leaves its products, added to zero. -/
theorem first_point (c0 : cond0_0 i) (c1 : ¬cond0_1 i) :
    sout0_A_0 c i a1 h1 a2 h2 a3 h3 a4 h4 a5 h5 a6 h6 a7 h7 a8 h8 a9 h9 a10 h10 a11 h11 a12 h12 a13 h13 a14 h14 a15 h15 a16 h16 c0 c1 x0 x1 x2 x3 x4 y = k0_pay13 (F := Ideal) y (k0_pay8 (F := Ideal)) x0 ∧
    sout0_A_1 c i a1 h1 a2 h2 a3 h3 a4 h4 a5 h5 a6 h6 a7 h7 a8 h8 a9 h9 a10 h10 a11 h11 a12 h12 a13 h13 a14 h14 a15 h15 a16 h16 c0 c1 x0 x1 x2 x3 x4 y = k0_pay14 (F := Ideal) y (k0_pay9 (F := Ideal)) x1 ∧
    sout0_A_2 c i a1 h1 a2 h2 a3 h3 a4 h4 a5 h5 a6 h6 a7 h7 a8 h8 a9 h9 a10 h10 a11 h11 a12 h12 a13 h13 a14 h14 a15 h15 a16 h16 c0 c1 x0 x1 x2 x3 x4 y = k0_pay15 (F := Ideal) y (k0_pay10 (F := Ideal)) x2 ∧
    sout0_A_3 c i a1 h1 a2 h2 a3 h3 a4 h4 a5 h5 a6 h6 a7 h7 a8 h8 a9 h9 a10 h10 a11 h11 a12 h12 a13 h13 a14 h14 a15 h15 a16 h16 c0 c1 x0 x1 x2 x3 x4 y = k0_pay1 (F := Ideal) y (k0_pay11 (F := Ideal)) x3 ∧
    sout0_A_4 c i a1 h1 a2 h2 a3 h3 a4 h4 a5 h5 a6 h6 a7 h7 a8 h8 a9 h9 a10 h10 a11 h11 a12 h12 a13 h13 a14 h14 a15 h15 a16 h16 c0 c1 x0 x1 x2 x3 x4 y = k0_pay2 (F := Ideal) y (k0_pay12 (F := Ideal)) x4 := by
  unfold sout0_A_0 sout0_A_1 sout0_A_2 sout0_A_3 sout0_A_4
  refine ⟨?_, ?_, ?_, ?_, ?_⟩
  all_goals
    rw [View.read_writes_junk_eq_canon]
    unfold kernelRun0_A; dsimp only; sl_unfold_words
    simp only [View.readAt_eq_ld, Memref.IsWhole.read_unread, ld_256x1024, ld_256x1536, ld_256x128, ld_1024x1024, ld_1536x1024, ld_128x1024, readCov_1024x1024, readCov_1536x1024, readCov_128x1024]
    first
      | exact View.canon_cons_unit_zero (S := S1024x1024) Dense.zero2 _ _ _
      | exact View.canon_cons_unit_zero (S := S1536x1024) Dense.zero2 _ _ _
      | exact View.canon_cons_unit_zero (S := S128x1024) Dense.zero2 _ _ _

/-- A point in between adds its products. -/
theorem next_point (c0 : ¬cond0_0 i) (c1 : ¬cond0_1 i) :
    sout0_B_0 c i a1 h1 a2 h2 a3 h3 a4 h4 a5 h5 a6 h6 a7 h7 a8 h8 a9 h9 a10 h10 a11 h11 a12 h12 a13 h13 a14 h14 a15 h15 a16 h16 c0 c1 x0 x1 x2 x3 x4 y z0 z1 z2 z3 z4 = k0_pay13 (F := Ideal) y z0 x0 ∧
    sout0_B_1 c i a1 h1 a2 h2 a3 h3 a4 h4 a5 h5 a6 h6 a7 h7 a8 h8 a9 h9 a10 h10 a11 h11 a12 h12 a13 h13 a14 h14 a15 h15 a16 h16 c0 c1 x0 x1 x2 x3 x4 y z0 z1 z2 z3 z4 = k0_pay14 (F := Ideal) y z1 x1 ∧
    sout0_B_2 c i a1 h1 a2 h2 a3 h3 a4 h4 a5 h5 a6 h6 a7 h7 a8 h8 a9 h9 a10 h10 a11 h11 a12 h12 a13 h13 a14 h14 a15 h15 a16 h16 c0 c1 x0 x1 x2 x3 x4 y z0 z1 z2 z3 z4 = k0_pay15 (F := Ideal) y z2 x2 ∧
    sout0_B_3 c i a1 h1 a2 h2 a3 h3 a4 h4 a5 h5 a6 h6 a7 h7 a8 h8 a9 h9 a10 h10 a11 h11 a12 h12 a13 h13 a14 h14 a15 h15 a16 h16 c0 c1 x0 x1 x2 x3 x4 y z0 z1 z2 z3 z4 = k0_pay1 (F := Ideal) y z3 x3 ∧
    sout0_B_4 c i a1 h1 a2 h2 a3 h3 a4 h4 a5 h5 a6 h6 a7 h7 a8 h8 a9 h9 a10 h10 a11 h11 a12 h12 a13 h13 a14 h14 a15 h15 a16 h16 c0 c1 x0 x1 x2 x3 x4 y z0 z1 z2 z3 z4 = k0_pay2 (F := Ideal) y z4 x4 := by
  unfold sout0_B_0 sout0_B_1 sout0_B_2 sout0_B_3 sout0_B_4
  refine ⟨?_, ?_, ?_, ?_, ?_⟩
  all_goals
    rw [View.read_writes_junk_eq_canon]
    unfold kernelRun0_B; dsimp only; sl_unfold_words
    simp only [View.readAt_eq_ld, Memref.IsWhole.read_unread, ld_256x1024, ld_256x1536, ld_256x128, ld_1024x1024, ld_1536x1024, ld_128x1024, readCov_1024x1024, readCov_1536x1024, readCov_128x1024]
    first
      | exact View.canon_cons_unit_zero (S := S1024x1024) Dense.zero2 _ _ _
      | exact View.canon_cons_unit_zero (S := S1536x1024) Dense.zero2 _ _ _
      | exact View.canon_cons_unit_zero (S := S128x1024) Dense.zero2 _ _ _

/-- The last point adds its products and hands the sums out. -/
theorem last_point (c0 : ¬cond0_0 i) (c1 : cond0_1 i) :
    out0_C_6 c i a1 h1 a2 h2 a3 h3 a4 h4 a5 h5 a6 h6 a7 h7 a8 h8 a9 h9 a10 h10 a11 h11 a12 h12 a13 h13 a14 h14 a15 h15 a16 h16 c0 c1 x0 x1 x2 x3 x4 y z0 z1 z2 z3 z4 = k0_pay3 (F := Ideal) (k0_pay13 (F := Ideal) y z0 x0) ∧
    out0_C_7 c i a1 h1 a2 h2 a3 h3 a4 h4 a5 h5 a6 h6 a7 h7 a8 h8 a9 h9 a10 h10 a11 h11 a12 h12 a13 h13 a14 h14 a15 h15 a16 h16 c0 c1 x0 x1 x2 x3 x4 y z0 z1 z2 z3 z4 = k0_pay4 (F := Ideal) (k0_pay14 (F := Ideal) y z1 x1) ∧
    out0_C_8 c i a1 h1 a2 h2 a3 h3 a4 h4 a5 h5 a6 h6 a7 h7 a8 h8 a9 h9 a10 h10 a11 h11 a12 h12 a13 h13 a14 h14 a15 h15 a16 h16 c0 c1 x0 x1 x2 x3 x4 y z0 z1 z2 z3 z4 = k0_pay5 (F := Ideal) (k0_pay15 (F := Ideal) y z2 x2) ∧
    out0_C_9 c i a1 h1 a2 h2 a3 h3 a4 h4 a5 h5 a6 h6 a7 h7 a8 h8 a9 h9 a10 h10 a11 h11 a12 h12 a13 h13 a14 h14 a15 h15 a16 h16 c0 c1 x0 x1 x2 x3 x4 y z0 z1 z2 z3 z4 = k0_pay6 (F := Ideal) (k0_pay1 (F := Ideal) y z3 x3) ∧
    out0_C_10 c i a1 h1 a2 h2 a3 h3 a4 h4 a5 h5 a6 h6 a7 h7 a8 h8 a9 h9 a10 h10 a11 h11 a12 h12 a13 h13 a14 h14 a15 h15 a16 h16 c0 c1 x0 x1 x2 x3 x4 y z0 z1 z2 z3 z4 = k0_pay7 (F := Ideal) (k0_pay2 (F := Ideal) y z4 x4) := by
  unfold out0_C_6 out0_C_7 out0_C_8 out0_C_9 out0_C_10
  refine ⟨?_, ?_, ?_, ?_, ?_⟩
  all_goals
    rw [View.read_writes_junk_eq_canon]
    unfold kernelRun0_C; dsimp only; sl_unfold_words
    simp only [View.readAt_eq_ld, Memref.IsWhole.read_unread, ld_256x1024, ld_256x1536, ld_256x128, ld_1024x1024, ld_1536x1024, ld_128x1024, readCov_1024x1024, readCov_1536x1024, readCov_128x1024]
    first
      | exact View.canon_cons_unit_zero (S := S1024x1024) Dense.zero2 _ _ _
      | exact View.canon_cons_unit_zero (S := S1536x1024) Dense.zero2 _ _ _
      | exact View.canon_cons_unit_zero (S := S128x1024) Dense.zero2 _ _ _

end

/-! ## The run -/

variable (m : (ℓ : Loc nD τ sig) → Buf (Elt Ideal) ℓ) (c : Dev nD)

/-- The products' arguments at launch. -/
abbrev dz : S8192x1024.Idx → EReal := m ((c : Thread nD τ).loc main_arg0)
abbrev dxr : S8192x1536.Idx → EReal := m ((c : Thread nD τ).loc main_arg1)
abbrev ddt : S8192x128.Idx → EReal := m ((c : Thread nD τ).loc main_arg2)
abbrev du : S8192x1024.Idx → EReal := m ((c : Thread nD τ).loc main_arg3)
abbrev dv : S8192x1024.Idx → EReal := m ((c : Thread nD τ).loc main_arg4)
abbrev arg : S8192x1024.Idx → EReal := m ((c : Thread nD τ).loc main_arg5)

theorem at0 : ∀ t : Fin cfg0.N, win0_0.index t 0 = t.val ∧ win0_0.index t 1 = 0 :=
  (by decide +kernel : ∀ t : Fin grid0.N, win0_0.index t 0 = t.val ∧ win0_0.index t 1 = 0)
theorem at1 : ∀ t : Fin cfg0.N, win0_1.index t 0 = t.val ∧ win0_1.index t 1 = 0 :=
  (by decide +kernel : ∀ t : Fin grid0.N, win0_1.index t 0 = t.val ∧ win0_1.index t 1 = 0)
theorem at2 : ∀ t : Fin cfg0.N, win0_2.index t 0 = t.val ∧ win0_2.index t 1 = 0 :=
  (by decide +kernel : ∀ t : Fin grid0.N, win0_2.index t 0 = t.val ∧ win0_2.index t 1 = 0)
theorem at3 : ∀ t : Fin cfg0.N, win0_3.index t 0 = t.val ∧ win0_3.index t 1 = 0 :=
  (by decide +kernel : ∀ t : Fin grid0.N, win0_3.index t 0 = t.val ∧ win0_3.index t 1 = 0)
theorem at4 : ∀ t : Fin cfg0.N, win0_4.index t 0 = t.val ∧ win0_4.index t 1 = 0 :=
  (by decide +kernel : ∀ t : Fin grid0.N, win0_4.index t 0 = t.val ∧ win0_4.index t 1 = 0)
theorem at5 : ∀ t : Fin cfg0.N, win0_5.index t 0 = t.val ∧ win0_5.index t 1 = 0 :=
  (by decide +kernel : ∀ t : Fin grid0.N, win0_5.index t 0 = t.val ∧ win0_5.index t 1 = 0)

theorem inside (t : Fin cfg0.N) : t.val * 256 + 256 ≤ 8192 := by
  have h : t.val < 32 := Nat.lt_of_lt_of_eq t.isLt N_0
  omega

theorem block_dz (t : Fin cfg0.N) (k : Fin 256) (j : Fin 1024) :
    (iblk m c 0 t : Vec Ideal S256x1024 .bf16) (ix2 k j) = dz m c (ix2 (Products.blockRow 256 t.val k) j) := by
  unfold iblk
  rw [View.read_apply]
  show V m c main_arg0 _ = _
  rw [V_main_arg0]
  exact Products.blocks_at (dz m c) _ t.val k j (inside t) (congrArg (· * 256 + 1 * k.val) (at0 t).1) (congrArg (· * 1024 + 1 * j.val) (at0 t).2)

theorem block_dxr (t : Fin cfg0.N) (k : Fin 256) (j : Fin 1536) :
    (iblk m c 1 t : Vec Ideal S256x1536 .bf16) (ix2 k j) = dxr m c (ix2 (Products.blockRow 256 t.val k) j) := by
  unfold iblk
  rw [View.read_apply]
  show V m c main_arg1 _ = _
  rw [V_main_arg1]
  exact Products.blocks_at (dxr m c) _ t.val k j (inside t) (congrArg (· * 256 + 1 * k.val) (at1 t).1) (congrArg (· * 1536 + 1 * j.val) (at1 t).2)

theorem block_ddt (t : Fin cfg0.N) (k : Fin 256) (j : Fin 128) :
    (iblk m c 2 t : Vec Ideal S256x128 .bf16) (ix2 k j) = ddt m c (ix2 (Products.blockRow 256 t.val k) j) := by
  unfold iblk
  rw [View.read_apply]
  show V m c main_arg2 _ = _
  rw [V_main_arg2]
  exact Products.blocks_at (ddt m c) _ t.val k j (inside t) (congrArg (· * 256 + 1 * k.val) (at2 t).1) (congrArg (· * 128 + 1 * j.val) (at2 t).2)

theorem block_du (t : Fin cfg0.N) (k : Fin 256) (j : Fin 1024) :
    (iblk m c 3 t : Vec Ideal S256x1024 .bf16) (ix2 k j) = du m c (ix2 (Products.blockRow 256 t.val k) j) := by
  unfold iblk
  rw [View.read_apply]
  show V m c main_arg3 _ = _
  rw [V_main_arg3]
  exact Products.blocks_at (du m c) _ t.val k j (inside t) (congrArg (· * 256 + 1 * k.val) (at3 t).1) (congrArg (· * 1024 + 1 * j.val) (at3 t).2)

theorem block_dv (t : Fin cfg0.N) (k : Fin 256) (j : Fin 1024) :
    (iblk m c 4 t : Vec Ideal S256x1024 .bf16) (ix2 k j) = dv m c (ix2 (Products.blockRow 256 t.val k) j) := by
  unfold iblk
  rw [View.read_apply]
  show V m c main_arg4 _ = _
  rw [V_main_arg4]
  exact Products.blocks_at (dv m c) _ t.val k j (inside t) (congrArg (· * 256 + 1 * k.val) (at4 t).1) (congrArg (· * 1024 + 1 * j.val) (at4 t).2)

theorem block_arg (t : Fin cfg0.N) (k : Fin 256) (j : Fin 1024) :
    (iblk m c 5 t : Vec Ideal S256x1024 .bf16) (ix2 k j) = arg m c (ix2 (Products.blockRow 256 t.val k) j) := by
  unfold iblk
  rw [View.read_apply]
  show V m c main_arg5 _ = _
  rw [V_main_arg5]
  exact Products.blocks_at (arg m c) _ t.val k j (inside t) (congrArg (· * 256 + 1 * k.val) (at5 t).1) (congrArg (· * 1024 + 1 * j.val) (at5 t).2)

/-- A point's product with `dz` on top of those before it. -/
theorem step_0 (t : Fin cfg0.N) (z : Vec Ideal S1024x1024 .f32) (hz : z = Products.upTo 256 (dz m c) (arg m c) t.val) :
    k0_pay13 (F := Ideal) (iblk m c 5 t) z (iblk m c 0 t) = Products.upTo 256 (dz m c) (arg m c) (t.val + 1) :=
  (add_0 _ _ z).trans (Products.upTo_step 256 t.val (dz m c) (arg m c) z _ _ hz (block_dz m c t) (block_arg m c t))

/-- A point's product with `dxr` on top of those before it. -/
theorem step_1 (t : Fin cfg0.N) (z : Vec Ideal S1536x1024 .f32) (hz : z = Products.upTo 256 (dxr m c) (arg m c) t.val) :
    k0_pay14 (F := Ideal) (iblk m c 5 t) z (iblk m c 1 t) = Products.upTo 256 (dxr m c) (arg m c) (t.val + 1) :=
  (add_1 _ _ z).trans (Products.upTo_step 256 t.val (dxr m c) (arg m c) z _ _ hz (block_dxr m c t) (block_arg m c t))

/-- A point's product with `ddt` on top of those before it. -/
theorem step_2 (t : Fin cfg0.N) (z : Vec Ideal S128x1024 .f32) (hz : z = Products.upTo 256 (ddt m c) (arg m c) t.val) :
    k0_pay15 (F := Ideal) (iblk m c 5 t) z (iblk m c 2 t) = Products.upTo 256 (ddt m c) (arg m c) (t.val + 1) :=
  (add_2 _ _ z).trans (Products.upTo_step 256 t.val (ddt m c) (arg m c) z _ _ hz (block_ddt m c t) (block_arg m c t))

/-- A point's product with `du` on top of those before it. -/
theorem step_3 (t : Fin cfg0.N) (z : Vec Ideal S1024x1024 .f32) (hz : z = Products.upTo 256 (du m c) (arg m c) t.val) :
    k0_pay1 (F := Ideal) (iblk m c 5 t) z (iblk m c 3 t) = Products.upTo 256 (du m c) (arg m c) (t.val + 1) :=
  (add_3 _ _ z).trans (Products.upTo_step 256 t.val (du m c) (arg m c) z _ _ hz (block_du m c t) (block_arg m c t))

/-- A point's product with `dv` on top of those before it. -/
theorem step_4 (t : Fin cfg0.N) (z : Vec Ideal S1024x1024 .f32) (hz : z = Products.upTo 256 (dv m c) (arg m c) t.val) :
    k0_pay2 (F := Ideal) (iblk m c 5 t) z (iblk m c 4 t) = Products.upTo 256 (dv m c) (arg m c) (t.val + 1) :=
  (add_4 _ _ z).trans (Products.upTo_step 256 t.val (dv m c) (arg m c) z _ _ hz (block_dv m c t) (block_arg m c t))

theorem after_A (t : Fin cfg0.N) (h0 : t.val % 32 = 0) (h1 : ¬t.val % 32 = 31) :
    (outsAt0 m c t.val t.isLt).2.2.2.2.2.1 = k0_pay13 (F := Ideal) (iblk m c 5 t) (k0_pay8 (F := Ideal)) (iblk m c 0 t) ∧
    (outsAt0 m c t.val t.isLt).2.2.2.2.2.2.1 = k0_pay14 (F := Ideal) (iblk m c 5 t) (k0_pay9 (F := Ideal)) (iblk m c 1 t) ∧
    (outsAt0 m c t.val t.isLt).2.2.2.2.2.2.2.1 = k0_pay15 (F := Ideal) (iblk m c 5 t) (k0_pay10 (F := Ideal)) (iblk m c 2 t) ∧
    (outsAt0 m c t.val t.isLt).2.2.2.2.2.2.2.2.1 = k0_pay1 (F := Ideal) (iblk m c 5 t) (k0_pay11 (F := Ideal)) (iblk m c 3 t) ∧
    (outsAt0 m c t.val t.isLt).2.2.2.2.2.2.2.2.2 = k0_pay2 (F := Ideal) (iblk m c 5 t) (k0_pay12 (F := Ideal)) (iblk m c 4 t) := by
  rw [outsAt0_A m c t h0 h1]
  dsimp only
  have h := first_point c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _)
    (iblk m c 0 t) (iblk m c 1 t) (iblk m c 2 t) (iblk m c 3 t) (iblk m c 4 t) (iblk m c 5 t) ((hcond0_0 t).mpr h0) (fun h => h1 ((hcond0_1 t).mp h))
  exact h

theorem after_B (t : Fin cfg0.N) (h0 : ¬t.val % 32 = 0) (h1 : ¬t.val % 32 = 31) :
    (outsAt0 m c t.val t.isLt).2.2.2.2.2.1 = k0_pay13 (F := Ideal) (iblk m c 5 t) (outsAt0 m c (t.val - 1) (Nat.lt_of_le_of_lt (Nat.sub_le _ _) t.isLt)).2.2.2.2.2.1 (iblk m c 0 t) ∧
    (outsAt0 m c t.val t.isLt).2.2.2.2.2.2.1 = k0_pay14 (F := Ideal) (iblk m c 5 t) (outsAt0 m c (t.val - 1) (Nat.lt_of_le_of_lt (Nat.sub_le _ _) t.isLt)).2.2.2.2.2.2.1 (iblk m c 1 t) ∧
    (outsAt0 m c t.val t.isLt).2.2.2.2.2.2.2.1 = k0_pay15 (F := Ideal) (iblk m c 5 t) (outsAt0 m c (t.val - 1) (Nat.lt_of_le_of_lt (Nat.sub_le _ _) t.isLt)).2.2.2.2.2.2.2.1 (iblk m c 2 t) ∧
    (outsAt0 m c t.val t.isLt).2.2.2.2.2.2.2.2.1 = k0_pay1 (F := Ideal) (iblk m c 5 t) (outsAt0 m c (t.val - 1) (Nat.lt_of_le_of_lt (Nat.sub_le _ _) t.isLt)).2.2.2.2.2.2.2.2.1 (iblk m c 3 t) ∧
    (outsAt0 m c t.val t.isLt).2.2.2.2.2.2.2.2.2 = k0_pay2 (F := Ideal) (iblk m c 5 t) (outsAt0 m c (t.val - 1) (Nat.lt_of_le_of_lt (Nat.sub_le _ _) t.isLt)).2.2.2.2.2.2.2.2.2 (iblk m c 4 t) := by
  rw [outsAt0_B m c t h0 h1]
  dsimp only
  have h := next_point c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _)
    (iblk m c 0 t) (iblk m c 1 t) (iblk m c 2 t) (iblk m c 3 t) (iblk m c 4 t) (iblk m c 5 t)
    (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2
    (fun h => h0 ((hcond0_0 t).mp h)) (fun h => h1 ((hcond0_1 t).mp h))
  exact h

theorem after_C (t : Fin cfg0.N) (h0 : ¬t.val % 32 = 0) (h1 : t.val % 32 = 31) :
    (outsAt0 m c t.val t.isLt).1 = k0_pay3 (F := Ideal) (k0_pay13 (F := Ideal) (iblk m c 5 t) (outsAt0 m c (t.val - 1) (Nat.lt_of_le_of_lt (Nat.sub_le _ _) t.isLt)).2.2.2.2.2.1 (iblk m c 0 t)) ∧
    (outsAt0 m c t.val t.isLt).2.1 = k0_pay4 (F := Ideal) (k0_pay14 (F := Ideal) (iblk m c 5 t) (outsAt0 m c (t.val - 1) (Nat.lt_of_le_of_lt (Nat.sub_le _ _) t.isLt)).2.2.2.2.2.2.1 (iblk m c 1 t)) ∧
    (outsAt0 m c t.val t.isLt).2.2.1 = k0_pay5 (F := Ideal) (k0_pay15 (F := Ideal) (iblk m c 5 t) (outsAt0 m c (t.val - 1) (Nat.lt_of_le_of_lt (Nat.sub_le _ _) t.isLt)).2.2.2.2.2.2.2.1 (iblk m c 2 t)) ∧
    (outsAt0 m c t.val t.isLt).2.2.2.1 = k0_pay6 (F := Ideal) (k0_pay1 (F := Ideal) (iblk m c 5 t) (outsAt0 m c (t.val - 1) (Nat.lt_of_le_of_lt (Nat.sub_le _ _) t.isLt)).2.2.2.2.2.2.2.2.1 (iblk m c 3 t)) ∧
    (outsAt0 m c t.val t.isLt).2.2.2.2.1 = k0_pay7 (F := Ideal) (k0_pay2 (F := Ideal) (iblk m c 5 t) (outsAt0 m c (t.val - 1) (Nat.lt_of_le_of_lt (Nat.sub_le _ _) t.isLt)).2.2.2.2.2.2.2.2.2 (iblk m c 4 t)) := by
  rw [outsAt0_C m c t h0 h1]
  dsimp only
  have h := last_point c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _)
    (iblk m c 0 t) (iblk m c 1 t) (iblk m c 2 t) (iblk m c 3 t) (iblk m c 4 t) (iblk m c 5 t)
    (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2
    (fun h => h0 ((hcond0_0 t).mp h)) ((hcond0_1 t).mpr h1)
  exact h

/-- The scratch arrays after point `n`, before the last. -/
theorem scratch_eq : ∀ (n : ℕ) (hn : n < cfg0.N), n < 31 →
    (outsAt0 m c n hn).2.2.2.2.2.1 = Products.upTo 256 (dz m c) (arg m c) (n + 1) ∧
    (outsAt0 m c n hn).2.2.2.2.2.2.1 = Products.upTo 256 (dxr m c) (arg m c) (n + 1) ∧
    (outsAt0 m c n hn).2.2.2.2.2.2.2.1 = Products.upTo 256 (ddt m c) (arg m c) (n + 1) ∧
    (outsAt0 m c n hn).2.2.2.2.2.2.2.2.1 = Products.upTo 256 (du m c) (arg m c) (n + 1) ∧
    (outsAt0 m c n hn).2.2.2.2.2.2.2.2.2 = Products.upTo 256 (dv m c) (arg m c) (n + 1)
  | 0, hn, _ => by
    have hA := after_A m c ⟨0, hn⟩ rfl (by show ¬ 0 % 32 = 31; decide)
    exact ⟨(hA.1).trans (step_0 m c ⟨0, hn⟩ _ (start_0.trans (Products.upTo_none 256 _ _))),
      (hA.2.1).trans (step_1 m c ⟨0, hn⟩ _ (start_1.trans (Products.upTo_none 256 _ _))),
      (hA.2.2.1).trans (step_2 m c ⟨0, hn⟩ _ (start_2.trans (Products.upTo_none 256 _ _))),
      (hA.2.2.2.1).trans (step_3 m c ⟨0, hn⟩ _ (start_3.trans (Products.upTo_none 256 _ _))),
      (hA.2.2.2.2).trans (step_4 m c ⟨0, hn⟩ _ (start_4.trans (Products.upTo_none 256 _ _)))⟩
  | n + 1, hn, hl => by
    have hB := after_B m c ⟨n + 1, hn⟩ (by show ¬ (n + 1) % 32 = 0; omega) (by show ¬ (n + 1) % 32 = 31; omega)
    have hp := scratch_eq n (Nat.lt_of_succ_lt hn) (by omega)
    exact ⟨(hB.1).trans (step_0 m c ⟨n + 1, hn⟩ _ (hp.1)),
      (hB.2.1).trans (step_1 m c ⟨n + 1, hn⟩ _ (hp.2.1)),
      (hB.2.2.1).trans (step_2 m c ⟨n + 1, hn⟩ _ (hp.2.2.1)),
      (hB.2.2.2.1).trans (step_3 m c ⟨n + 1, hn⟩ _ (hp.2.2.2.1)),
      (hB.2.2.2.2).trans (step_4 m c ⟨n + 1, hn⟩ _ (hp.2.2.2.2))⟩

/-- What the last point writes back. -/
theorem last (n : ℕ) (hn : n + 1 < cfg0.N) (hl : n = 30) :
    (outsAt0 m c (n + 1) hn).1 = Products.upTo 256 (dz m c) (arg m c) (n + 1 + 1) ∧
    (outsAt0 m c (n + 1) hn).2.1 = Products.upTo 256 (dxr m c) (arg m c) (n + 1 + 1) ∧
    (outsAt0 m c (n + 1) hn).2.2.1 = Products.upTo 256 (ddt m c) (arg m c) (n + 1 + 1) ∧
    (outsAt0 m c (n + 1) hn).2.2.2.1 = Products.upTo 256 (du m c) (arg m c) (n + 1 + 1) ∧
    (outsAt0 m c (n + 1) hn).2.2.2.2.1 = Products.upTo 256 (dv m c) (arg m c) (n + 1 + 1) := by
  have hC := after_C m c ⟨n + 1, hn⟩ (by show ¬ (n + 1) % 32 = 0; omega) (by show (n + 1) % 32 = 31; omega)
  have hp := scratch_eq m c n (Nat.lt_of_succ_lt hn) (by omega)
  exact ⟨(hC.1).trans ((out_0 _).trans (step_0 m c ⟨n + 1, hn⟩ _ (hp.1))),
      (hC.2.1).trans ((out_1 _).trans (step_1 m c ⟨n + 1, hn⟩ _ (hp.2.1))),
      (hC.2.2.1).trans ((out_2 _).trans (step_2 m c ⟨n + 1, hn⟩ _ (hp.2.2.1))),
      (hC.2.2.2.1).trans ((out_3 _).trans (step_3 m c ⟨n + 1, hn⟩ _ (hp.2.2.2.1))),
      (hC.2.2.2.2).trans ((out_4 _).trans (step_4 m c ⟨n + 1, hn⟩ _ (hp.2.2.2.2)))⟩

theorem top : 31 < cfg0.N := lt_of_lt_of_eq (by decide) N_0.symm

theorem final_0 : Value.G6 m c = Products.product (dz m c) (arg m c) := by
  refine (Value.G6_last m c).trans ?_
  rw [← Value.outsAt0_sweep m c 31 top]
  have h := (last m c 30 top rfl).1
  exact h.trans (Products.upTo_all 256 32 (by decide) _ _)

theorem final_1 : Value.G7 m c = Products.product (dxr m c) (arg m c) := by
  refine (Value.G7_last m c).trans ?_
  rw [← Value.outsAt0_sweep m c 31 top]
  have h := (last m c 30 top rfl).2.1
  exact h.trans (Products.upTo_all 256 32 (by decide) _ _)

theorem final_2 : Value.G8 m c = Products.product (ddt m c) (arg m c) := by
  refine (Value.G8_last m c).trans ?_
  rw [← Value.outsAt0_sweep m c 31 top]
  have h := (last m c 30 top rfl).2.2.1
  exact h.trans (Products.upTo_all 256 32 (by decide) _ _)

theorem final_3 : Value.G9 m c = Products.product (du m c) (arg m c) := by
  refine (Value.G9_last m c).trans ?_
  rw [← Value.outsAt0_sweep m c 31 top]
  have h := (last m c 30 top rfl).2.2.2.1
  exact h.trans (Products.upTo_all 256 32 (by decide) _ _)

theorem final_4 : Value.G10 m c = Products.product (dv m c) (arg m c) := by
  refine (Value.G10_last m c).trans ?_
  rw [← Value.outsAt0_sweep m c 31 top]
  have h := (last m c 30 top rfl).2.2.2.2
  exact h.trans (Products.upTo_all 256 32 (by decide) _ _)

end

/-! ## The claims -/

section
open Cert.InWeightReferenceIdeal Cert.InWeightReferenceIdeal.Facts₀

/-- The reference's product of `X` and `Y`, turned over twice. -/
theorem ref_1024 (X : FVec Ideal S8192x1024 .bf16) (Y : FVec Ideal S8192x1024 .bf16) :
    truncf .bf16 (transpose S1024x1024 [1, 0] (transpose S1024x1024 [1, 0] (Host.dotGeneral dot_S8192x1024_S8192x1024_S1024x1024_0_0_1_1_n_n none
      (extf .f32 X bitsLt_bf16_f32) (extf .f32 Y bitsLt_bf16_f32)) transposes_S1024x1024_S1024x1024_1_0) transposes_S1024x1024_S1024x1024_1_0) bitsLt_bf16_f32 =
      Products.product X Y :=
  (Products.turned_twice (M := 1024) (N := 1024) (Host.dotGeneral dot_S8192x1024_S8192x1024_S1024x1024_0_0_1_1_n_n none (extf .f32 X bitsLt_bf16_f32) (extf .f32 Y bitsLt_bf16_f32))
    transposes_S1024x1024_S1024x1024_1_0 transposes_S1024x1024_S1024x1024_1_0).trans
    (funext fun i => Products.dot_tn (M := 1024) (K := 8192) (N := 1024) _ (extf .f32 X bitsLt_bf16_f32) (extf .f32 Y bitsLt_bf16_f32) i)

/-- The reference's product of `X` and `Y`, turned over twice. -/
theorem ref_1536 (X : FVec Ideal S8192x1536 .bf16) (Y : FVec Ideal S8192x1024 .bf16) :
    truncf .bf16 (transpose S1536x1024 [1, 0] (transpose S1024x1536 [1, 0] (Host.dotGeneral dot_S8192x1536_S8192x1024_S1536x1024_0_0_1_1_n_n none
      (extf .f32 X bitsLt_bf16_f32) (extf .f32 Y bitsLt_bf16_f32)) transposes_S1536x1024_S1024x1536_1_0) transposes_S1024x1536_S1536x1024_1_0) bitsLt_bf16_f32 =
      Products.product X Y :=
  (Products.turned_twice (M := 1536) (N := 1024) (Host.dotGeneral dot_S8192x1536_S8192x1024_S1536x1024_0_0_1_1_n_n none (extf .f32 X bitsLt_bf16_f32) (extf .f32 Y bitsLt_bf16_f32))
    transposes_S1024x1536_S1536x1024_1_0 transposes_S1536x1024_S1024x1536_1_0).trans
    (funext fun i => Products.dot_tn (M := 1536) (K := 8192) (N := 1024) _ (extf .f32 X bitsLt_bf16_f32) (extf .f32 Y bitsLt_bf16_f32) i)

/-- The reference's product of `X` and `Y`, turned over twice. -/
theorem ref_128 (X : FVec Ideal S8192x128 .bf16) (Y : FVec Ideal S8192x1024 .bf16) :
    truncf .bf16 (transpose S128x1024 [1, 0] (transpose S1024x128 [1, 0] (Host.dotGeneral dot_S8192x128_S8192x1024_S128x1024_0_0_1_1_n_n none
      (extf .f32 X bitsLt_bf16_f32) (extf .f32 Y bitsLt_bf16_f32)) transposes_S128x1024_S1024x128_1_0) transposes_S1024x128_S128x1024_1_0) bitsLt_bf16_f32 =
      Products.product X Y :=
  (Products.turned_twice (M := 128) (N := 1024) (Host.dotGeneral dot_S8192x128_S8192x1024_S128x1024_0_0_1_1_n_n none (extf .f32 X bitsLt_bf16_f32) (extf .f32 Y bitsLt_bf16_f32))
    transposes_S1024x128_S128x1024_1_0 transposes_S128x1024_S1024x128_1_0).trans
    (funext fun i => Products.dot_tn (M := 128) (K := 8192) (N := 1024) _ (extf .f32 X bitsLt_bf16_f32) (extf .f32 Y bitsLt_bf16_f32) i)

end

theorem frame_p : Cert.quiescent_InWeight := fun m ρ _ => Cert.InWeight.Gen.frame m ρ
theorem frame_pi : Cert.quiescent_InWeightIdeal := fun m ρ _ => Cert.InWeightIdeal.Gen.frame m ρ
theorem frame_ri : Cert.quiescent_InWeightReferenceIdeal := fun m ρ _ =>
  (θ_run Cert.InWeightReferenceIdeal.defs _ _).mono (fun r h => ⟨fun c => (h c).2.2.2.2.2, sem_eq_zero_of_no_sems (by decide) r.2⟩)
    (Cert.InWeightReferenceIdeal.Value.run (F := Ideal) m ρ)
theorem preserves : Cert.preserves_InWeight_InWeightIdeal := trivial

/-- The call's results are the reference's gradients. -/
theorem algebraic : Cert.algebraic_InWeightIdeal_InWeightReferenceIdeal := by
  intro m g m' g' _ hagree
  refine ⟨fun c => Products.product (dz m c) (arg m c), fun c => Products.product (dxr m c) (arg m c), fun c => Products.product (ddt m c) (arg m c), fun c => Products.product (du m c) (arg m c), fun c => Products.product (dv m c) (arg m c), ?_, ?_⟩
  · exact (θ_run Cert.InWeightIdeal.defs _ _).mono (fun r h c => ⟨(h c).1.trans (final_0 m c), (h c).2.1.trans (final_1 m c), (h c).2.2.1.trans (final_2 m c), (h c).2.2.2.1.trans (final_3 m c), (h c).2.2.2.2.1.trans (final_4 m c), (h c).2.2.2.2.2⟩)
      (Cert.InWeightIdeal.Value.run (F := Ideal) m g)
  · refine (θ_run Cert.InWeightReferenceIdeal.defs _ _).mono (fun r h c => ⟨(h c).1.trans ?_, (h c).2.1.trans ?_, (h c).2.2.1.trans ?_, (h c).2.2.2.1.trans ?_, (h c).2.2.2.2.1.trans ?_, (h c).2.2.2.2.2⟩)
      (Cert.InWeightReferenceIdeal.Value.run (F := Ideal) m' g')
    · rw [(hagree c).1, (hagree c).2.2.2.2.2]
      exact ref_1024 _ _
    · rw [(hagree c).2.1, (hagree c).2.2.2.2.2]
      exact ref_1536 _ _
    · rw [(hagree c).2.2.1, (hagree c).2.2.2.2.2]
      exact ref_128 _ _
    · rw [(hagree c).2.2.2.1, (hagree c).2.2.2.2.2]
      exact ref_1024 _ _
    · rw [(hagree c).2.2.2.2.1, (hagree c).2.2.2.2.2]
      exact ref_1024 _ _

end InWeight

end
-- ==== Proof.RowSum.lean ====
/- The host's sum along the rows of a matrix. -/
module

public import proofs.«01_k».proof.Proof.Products
import Idealize.ShloMosaic.Lib.Pointwise.Reduce

@[expose] public section

noncomputable section

open Idealize.ShloMosaic

namespace Forward

theorem row_total {M N : ℕ} (v : FVec Ideal (Products.Mat M N) .f32) (hr : (Products.Mat M N).ReducesTo [1] ⟨1, ![M]⟩) {u : Shape} (hu : 0 < u.numel)
    (i : Fin M) : Host.reduceAdd v (constant (F := Ideal) u .f32 0x00000000#32) hr hu (ValueIdx.ix1 i) = (∑ k : Fin N, v (ValueIdx.ix2 i k) : EReal) := by
  refine (Ideal.hostReduceAdd_r2_a1 hr v _ (ValueIdx.ix1 i)).trans ?_
  refine (congrArg (fun a : EReal => a + _) Ideal.ofBits_zero_f32).trans ((zero_add _).trans ?_)
  refine Finset.sum_congr rfl fun k _ => congrArg v (funext fun a => ?_)
  match a with
  | ⟨0, _⟩ => rfl
  | ⟨1, _⟩ => rfl

end Forward

end
-- ==== Proof.Forward.lean ====
/- What the forward products' calls do around their products, on matrices of any number of rows: the gated residual, the root mean
   square norm and its modulation, each as the kernels and as the references write it. -/
module

public import proofs.«01_k».proof.Proof.Products
public import proofs.«01_k».proof.Proof.RowSum

@[expose] public section

noncomputable section

open Idealize.ShloMosaic Idealize.ShloMosaic.TcCoe Idealize.ShloMosaic.ValueIdx Idealize.SL.Sem

namespace Forward

open Products

variable {M K N : ℕ}

/-! ## The functions -/

/-- `x w`. -/
def mul (X : (Mat M K).Idx → EReal) (W : (Mat K N).Idx → EReal) : (Mat M N).Idx → EReal := fun i => entry X W (i 0) (i 1)
/-- `x wᵀ`. -/
def mulT (X : (Mat M K).Idx → EReal) (W : (Mat N K).Idx → EReal) : (Mat M N).Idx → EReal := fun i => entryT X W (i 0) (i 1)
/-- The sum of two. -/
def plus (X Y : (Mat M N).Idx → EReal) : (Mat M N).Idx → EReal := fun i => X i + Y i
/-- A bias on every row. -/
def biased (X : (Mat M N).Idx → EReal) (b : (Mat 1 N).Idx → EReal) : (Mat M N).Idx → EReal := fun i => X i + b (ix2 0 (i 1))
/-- The residual: `x + g y`. -/
def resid (Y X : (Mat M N).Idx → EReal) (g : (Mat 1 N).Idx → EReal) : (Mat M N).Idx → EReal := fun i => X i + g (ix2 0 (i 1)) * Y i
/-- The factor of a row whose squares' sum is `s`. -/
def rms (s : EReal) : EReal := Ideal.rsqrt (Ideal.div s (Ideal.ofBits .f32 0x44800000#32) + Ideal.ofBits .f32 0x358637BD#32)
/-- The norm and its modulation. -/
def normed (X : (Mat M 1024).Idx → EReal) (nw sc sh : (Mat 1 1024).Idx → EReal) : (Mat M 1024).Idx → EReal := fun i =>
  X i * rms (∑ k : Fin 1024, X (ix2 (i 0) k) * X (ix2 (i 0) k)) * nw (ix2 0 (i 1)) * (Ideal.ofBits .f32 0x3F800000#32 + sc (ix2 0 (i 1))) + sh (ix2 0 (i 1))

/-- A product with some rows of the weights. -/
theorem mul_part {R n : ℕ} (lo : ℕ) (h : lo + n ≤ R) (X : (Mat M n).Idx → EReal) (W : (Mat R N).Idx → EReal) (i : (Mat M N).Idx) :
    mul X (part lo n h W) i = ∑ k : Fin n, X (ix2 (i 0) k) * W (ix2 ⟨lo + k.val, lt_of_lt_of_le (Nat.add_lt_add_left k.isLt lo) h⟩ (i 1)) := rfl
theorem mulT_part {R n : ℕ} (lo : ℕ) (h : lo + n ≤ R) (X : (Mat M K).Idx → EReal) (W : (Mat R K).Idx → EReal) (i : (Mat M n).Idx) :
    mulT X (part lo n h W) i = ∑ k : Fin K, X (ix2 (i 0) k) * W (ix2 ⟨lo + (i 1).val, lt_of_lt_of_le (Nat.add_lt_add_left (i 1).isLt lo) h⟩ k) := rfl

/-! ## Blocks of rows -/

/-- `x` is block `t` of the rows of `X`. -/
def Block (t : ℕ) (x : (Mat 512 N).Idx → EReal) (X : (Mat 8192 N).Idx → EReal) : Prop := ∀ k j, x (ix2 k j) = X (ix2 (Dense.row t k) j)

section
variable {t : ℕ}

theorem Block.mul {x : (Mat 512 K).Idx → EReal} {X : (Mat 8192 K).Idx → EReal} (h : Block t x X) (W : (Mat K N).Idx → EReal) :
    Block t (mul x W) (mul X W) := fun k j => by
  show ∑ l : Fin K, x (ix2 k l) * W (ix2 l j) = ∑ l : Fin K, X (ix2 (Dense.row t k) l) * W (ix2 l j)
  exact Finset.sum_congr rfl fun l _ => congrArg (fun a : EReal => a * W (ix2 l j)) (h k l)

theorem Block.mulT {x : (Mat 512 K).Idx → EReal} {X : (Mat 8192 K).Idx → EReal} (h : Block t x X) (W : (Mat N K).Idx → EReal) :
    Block t (mulT x W) (mulT X W) := fun k j => by
  show ∑ l : Fin K, x (ix2 k l) * W (ix2 j l) = ∑ l : Fin K, X (ix2 (Dense.row t k) l) * W (ix2 j l)
  exact Finset.sum_congr rfl fun l _ => congrArg (fun a : EReal => a * W (ix2 j l)) (h k l)

theorem Block.plus {x y : (Mat 512 N).Idx → EReal} {X Y : (Mat 8192 N).Idx → EReal} (h : Block t x X) (h' : Block t y Y) :
    Block t (plus x y) (plus X Y) := fun k j => congrArg₂ (fun a b : EReal => a + b) (h k j) (h' k j)

theorem Block.biased {x : (Mat 512 N).Idx → EReal} {X : (Mat 8192 N).Idx → EReal} (h : Block t x X) (b : (Mat 1 N).Idx → EReal) :
    Block t (biased x b) (biased X b) := fun k j => congrArg (fun a : EReal => a + b (ix2 0 j)) (h k j)

theorem Block.resid {y x : (Mat 512 N).Idx → EReal} {Y X : (Mat 8192 N).Idx → EReal} (h : Block t y Y) (h' : Block t x X) (g : (Mat 1 N).Idx → EReal) :
    Block t (resid y x g) (resid Y X g) := fun k j => congrArg₂ (fun a b : EReal => b + g (ix2 0 j) * a) (h k j) (h' k j)

theorem Block.normed {x : (Mat 512 1024).Idx → EReal} {X : (Mat 8192 1024).Idx → EReal} (h : Block t x X) (nw sc sh : (Mat 1 1024).Idx → EReal) :
    Block t (normed x nw sc sh) (normed X nw sc sh) := fun k j =>
  congrArg₂ (fun a b : EReal => a * rms b * nw (ix2 0 j) * (Ideal.ofBits .f32 0x3F800000#32 + sc (ix2 0 j)) + sh (ix2 0 j)) (h k j)
    (Finset.sum_congr rfl fun l _ => congrArg₂ (fun a b : EReal => a * b) (h k l) (h k l))

/-- A place of the block, in the array. -/
theorem Block.at {b : (Mat 512 N).Idx → EReal} {B : (Mat 8192 N).Idx → EReal} (h : Block t b B) (j : (Mat 512 N).Idx) (q : (Mat 8192 N).Idx) (ht : t < 16)
    (h0 : (q 0).val = t * 512 + 1 * (j 0).val) (h1 : (q 1).val = 0 * N + 1 * (j 1).val) : b j = B q :=
  (congrArg b (at_eq j (j 0) (j 1) rfl rfl)).trans ((h (j 0) (j 1)).trans (rows_at B q t (j 0) (j 1) ht h0 h1).symm)

end

/-! ## As the kernels write them -/

theorem col_apply (x : (Mat M 1).Idx → EReal) (h) (hM : M ≠ 1) (i : (Mat M N).Idx) : broadcastTo (Mat M N) x h i = x (ix2 (i 0) 0) :=
  broadcastTo_apply x h i _ fun a => by match a with | ⟨0, _⟩ => exact (if_neg hM).symm | ⟨1, _⟩ => rfl

theorem row_apply (x : (Mat 1 N).Idx → EReal) (h) (hN : N ≠ 1) (i : (Mat M N).Idx) : broadcastTo (Mat M N) x h i = x (ix2 0 (i 1)) :=
  broadcastTo_apply x h i _ fun a => by match a with | ⟨0, _⟩ => rfl | ⟨1, _⟩ => exact (if_neg hN).symm

/-- The sums of the rows, kept as a column. -/
theorem lane_sum (v : FVec Ideal (Mat 512 1024) .f32) (hr : (Mat 512 1024).Reduces [1] ⟨1, ![512]⟩) (hs) (j : (Mat 512 1).Idx) :
    shapeCast (Mat 512 1) (multiReduction .add [1] ⟨1, ![512]⟩ v 0x00000000#32 hr (.inl rfl) rfl) hs j = (∑ k : Fin 1024, v (ix2 (j 0) k) : EReal) := by
  refine (shapeCast_apply _ _ j (ix1 (j 0)) ?_).trans ?_
  · have h1 : (j 1 : ℕ) < 1 := (j 1).isLt
    rw [Shape.rowMajor_val_one, Shape.rowMajor_val_two]
    show (j 0 : ℕ) = (j 0 : ℕ) * 1 + (j 1 : ℕ)
    omega
  · refine (Ideal.multiReduction_add_single _ _ _ _ _ _).trans ?_
    refine Finset.sum_congr rfl fun (k : Fin 1024) _ => congrArg v (at_eq _ (j 0) k ?_ ?_)
    · rfl
    · rfl

theorem resid_kernel (y x : FVec Ideal (Mat M N) .f32) (g : FVec Ideal (Mat 1 N) .f32) (h) (hN : N ≠ 1) :
    addf x (mulf (broadcastTo (Mat M N) g h) y) = resid y x g :=
  funext fun i => congrArg (fun a : EReal => x i + a * y i) (row_apply g h hN i)

theorem biased_kernel (x : FVec Ideal (Mat M N) .f32) (b : FVec Ideal (Mat 1 N) .f32) (h) (hN : N ≠ 1) :
    addf x (broadcastTo (Mat M N) b h) = biased x b :=
  funext fun i => congrArg (fun a : EReal => x i + a) (row_apply b h hN i)

theorem normed_kernel (x : FVec Ideal (Mat 512 1024) .f32) (nw sc sh : FVec Ideal (Mat 1 1024) .f32) (hr : (Mat 512 1024).Reduces [1] ⟨1, ![512]⟩)
    (hs hc h1 h2 h3) :
    addf (mulf (mulf (mulf x (broadcastTo (Mat 512 1024) (rsqrt (addf (divf (shapeCast (Mat 512 1) (multiReduction .add [1] ⟨1, ![512]⟩ (mulf x x) 0x00000000#32 hr (.inl rfl) rfl) hs)
        (broadcast (Mat 512 1) (Scalar.ofBits .f32 0x44800000#32))) (broadcast (Mat 512 1) (Scalar.ofBits .f32 0x358637BD#32)))) hc))
      (broadcastTo (Mat 512 1024) nw h1)) (broadcastTo (Mat 512 1024) (addf (broadcast (Mat 1 1024) (Scalar.ofBits .f32 0x3F800000#32)) sc) h2))
      (broadcastTo (Mat 512 1024) sh h3) = normed x nw sc sh :=
  funext fun i => congrArg₂ (fun a b : EReal => a + b) (congrArg₂ (fun a b : EReal => a * b) (congrArg₂ (fun a b : EReal => a * b)
    (congrArg (fun a : EReal => x i * a) ((col_apply _ hc (by decide) i).trans (congrArg rms (lane_sum (mulf x x) hr hs _)))) (row_apply nw h1 (by decide) i))
    (row_apply _ h2 (by decide) i)) (row_apply sh h3 (by decide) i)

/-! ## As the references write them -/

theorem host_col (x : (Mat M 1).Idx → EReal) (h) (hM : M ≠ 1) (i : (Mat M N).Idx) : broadcastInDim (Mat M N) ![0, 1] h x i = x (ix2 (i 0) 0) :=
  broadcastInDim_apply ![0, 1] h x i _ fun a => by match a with | ⟨0, _⟩ => exact (if_neg hM).symm | ⟨1, _⟩ => rfl

theorem host_row (x : (Mat 1 N).Idx → EReal) (h) (hN : N ≠ 1) (i : (Mat M N).Idx) : broadcastInDim (Mat M N) ![0, 1] h x i = x (ix2 0 (i 1)) :=
  broadcastInDim_apply ![0, 1] h x i _ fun a => by match a with | ⟨0, _⟩ => rfl | ⟨1, _⟩ => exact (if_neg hN).symm

theorem host_sum (v : FVec Ideal (Mat M N) .f32) (hr : (Mat M N).ReducesTo [1] ⟨1, ![M]⟩) {u : Shape} (hu : 0 < u.numel) (hb) (hM : M ≠ 1) (j : (Mat M 1).Idx) :
    broadcastInDim (Mat M 1) ![0] hb (Host.reduceAdd v (constant (F := Ideal) u .f32 0x00000000#32) hr hu) j = (∑ k : Fin N, v (ix2 (j 0) k) : EReal) := by
  refine (broadcastInDim_apply ![0] hb _ j (ix1 (j 0)) fun a => by match a with | ⟨0, _⟩ => exact (if_neg hM).symm).trans ?_
  exact row_total v hr hu (j 0)

theorem resid_host (y x : FVec Ideal (Mat M N) .f32) (g : FVec Ideal (Mat 1 N) .f32) (h) (hN : N ≠ 1) :
    addf x (mulf (broadcastInDim (Mat M N) ![0, 1] h g) y) = resid y x g :=
  funext fun i => congrArg (fun a : EReal => x i + a * y i) (host_row g h hN i)

theorem biased_host (x : FVec Ideal (Mat M N) .f32) (b : FVec Ideal (Mat 1 N) .f32) (h) (hN : N ≠ 1) :
    addf x (broadcastInDim (Mat M N) ![0, 1] h b) = biased x b :=
  funext fun i => congrArg (fun a : EReal => x i + a) (host_row b h hN i)

theorem normed_host (x : FVec Ideal (Mat M 1024) .f32) (nw sc sh : FVec Ideal (Mat 1 1024) .f32) (hM : M ≠ 1) (hu : 0 < (⟨0, ![]⟩ : Shape).numel)
    (hr : (Mat M 1024).ReducesTo [1] ⟨1, ![M]⟩) (hb hc h1 h2 h3) (c1 c2 : (⟨0, ![]⟩ : Shape).BroadcastsInDim (Mat M 1) ![]) (c3 : (⟨0, ![]⟩ : Shape).BroadcastsInDim (Mat 1 1024) ![]) :
    addf (mulf (mulf (mulf x (broadcastInDim (Mat M 1024) ![0, 1] hc (Host.rsqrt (addf (Host.divf (broadcastInDim (Mat M 1) ![0] hb
          (Host.reduceAdd (mulf x x) (constant (F := Ideal) ⟨0, ![]⟩ .f32 0x00000000#32) hr hu))
        (broadcastInDim (Mat M 1) ![] c1 (constant ⟨0, ![]⟩ .f32 0x44800000#32))) (broadcastInDim (Mat M 1) ![] c2 (constant ⟨0, ![]⟩ .f32 0x358637BD#32))))))
      (broadcastInDim (Mat M 1024) ![0, 1] h1 nw)) (broadcastInDim (Mat M 1024) ![0, 1] h2 (addf (broadcastInDim (Mat 1 1024) ![] c3 (constant ⟨0, ![]⟩ .f32 0x3F800000#32)) sc)))
      (broadcastInDim (Mat M 1024) ![0, 1] h3 sh) = normed x nw sc sh :=
  funext fun i => congrArg₂ (fun a b : EReal => a + b) (congrArg₂ (fun a b : EReal => a * b) (congrArg₂ (fun a b : EReal => a * b)
    (congrArg (fun a : EReal => x i * a) ((host_col _ hc hM i).trans (congrArg rms (host_sum (mulf x x) hr hu hb hM _)))) (host_row nw h1 (by decide) i))
    (host_row _ h2 (by decide) i)) (host_row sh h3 (by decide) i)

end Forward

end
-- ==== Proof.InProj.lean ====
/- The first layer's input product, in its five branches, 512 rows per grid point. -/
module

public import proofs.«01_k».proof.Defs
public import proofs.«01_k».proof.Proof.Forward
public import proofs.«01_k».proof.Proof.Gen.InProj.Frame
public import proofs.«01_k».proof.Proof.Gen.InProjIdeal.Value
public import proofs.«01_k».proof.Proof.Gen.InProjReferenceIdeal.Run
public import Idealize.ShloMosaic.Lib.Pipeline.ReadBack
public import Idealize.ShloMosaic.Lib.Quiescent
public import Idealize.ShloMosaic.Lib.Claim

@[expose] public section

set_option maxRecDepth 16384

noncomputable section

open Idealize.ShloMosaic Idealize.ShloMosaic.TcCoe Idealize.ShloMosaic.ValueIdx Idealize.SL.Sem

namespace InProj

section
open Cert.InProjIdeal Cert.InProjIdeal.Gen

/-! ## One point's blocks -/

section
variable (h : Vec Ideal S512x1024 .bf16) (w1 : Vec Ideal S1024x1024 .bf16) (w2 : Vec Ideal S1536x1024 .bf16) (w3 : Vec Ideal S128x1024 .bf16) (w4 w5 : Vec Ideal S1024x1024 .bf16)

/-- What a point leaves in the five results. -/
theorem out6_val : out0_6 (F := Ideal) h w1 w2 w3 w4 w5 = Forward.mulT h w1 := by
  unfold out0_6
  rw [View.canon_unit_zero (S := S512x1024) Dense.zero2, View.ld_unit_zero (S := S512x1024) Dense.zero2, View.ld_unit_zero (S := S1024x1024) Dense.zero2]
  unfold k0_pay1
  simp only [shapeCast_self]
  funext i
  exact Products.mm_nt (φ₁ := .bf16) (φ₂ := .bf16) (M := 512) (K := 1024) (N := 1024) _ h w1 i
theorem out7_val : out0_7 (F := Ideal) h w1 w2 w3 w4 w5 = Forward.mulT h w2 := by
  unfold out0_7
  rw [View.canon_unit_zero (S := S512x1536) Dense.zero2, View.ld_unit_zero (S := S512x1024) Dense.zero2, View.ld_unit_zero (S := S1536x1024) Dense.zero2]
  unfold k0_pay2
  simp only [shapeCast_self]
  funext i
  exact Products.mm_nt (φ₁ := .bf16) (φ₂ := .bf16) (M := 512) (K := 1024) (N := 1536) _ h w2 i
theorem out8_val : out0_8 (F := Ideal) h w1 w2 w3 w4 w5 = Forward.mulT h w3 := by
  unfold out0_8
  rw [View.canon_unit_zero (S := S512x128) Dense.zero2, View.ld_unit_zero (S := S512x1024) Dense.zero2, View.ld_unit_zero (S := S128x1024) Dense.zero2]
  unfold k0_pay3
  simp only [shapeCast_self]
  funext i
  exact Products.mm_nt (φ₁ := .bf16) (φ₂ := .bf16) (M := 512) (K := 1024) (N := 128) _ h w3 i
theorem out9_val : out0_9 (F := Ideal) h w1 w2 w3 w4 w5 = Forward.mulT h w4 := by
  unfold out0_9
  rw [View.canon_unit_zero (S := S512x1024) Dense.zero2, View.ld_unit_zero (S := S512x1024) Dense.zero2, View.ld_unit_zero (S := S1024x1024) Dense.zero2]
  unfold k0_pay4
  simp only [shapeCast_self]
  funext i
  exact Products.mm_nt (φ₁ := .bf16) (φ₂ := .bf16) (M := 512) (K := 1024) (N := 1024) _ h w4 i
theorem out10_val : out0_10 (F := Ideal) h w1 w2 w3 w4 w5 = Forward.mulT h w5 := by
  unfold out0_10
  rw [View.canon_unit_zero (S := S512x1024) Dense.zero2, View.ld_unit_zero (S := S512x1024) Dense.zero2, View.ld_unit_zero (S := S1024x1024) Dense.zero2]
  unfold k0_pay5
  simp only [shapeCast_self]
  funext i
  exact Products.mm_nt (φ₁ := .bf16) (φ₂ := .bf16) (M := 512) (K := 1024) (N := 1024) _ h w5 i

end

/-! ## The arrays -/

theorem at0 : ∀ t : Fin cfg0.N, win0_0.index t 0 = t.val ∧ win0_0.index t 1 = 0 :=
  (by decide +kernel : ∀ t : Fin grid0.N, win0_0.index t 0 = t.val ∧ win0_0.index t 1 = 0)
theorem at1 : ∀ t : Fin cfg0.N, win0_1.index t 0 = 0 ∧ win0_1.index t 1 = 0 :=
  (by decide +kernel : ∀ t : Fin grid0.N, win0_1.index t 0 = 0 ∧ win0_1.index t 1 = 0)
theorem at2 : ∀ t : Fin cfg0.N, win0_2.index t 0 = 0 ∧ win0_2.index t 1 = 0 :=
  (by decide +kernel : ∀ t : Fin grid0.N, win0_2.index t 0 = 0 ∧ win0_2.index t 1 = 0)
theorem at3 : ∀ t : Fin cfg0.N, win0_3.index t 0 = 0 ∧ win0_3.index t 1 = 0 :=
  (by decide +kernel : ∀ t : Fin grid0.N, win0_3.index t 0 = 0 ∧ win0_3.index t 1 = 0)
theorem at4 : ∀ t : Fin cfg0.N, win0_4.index t 0 = 0 ∧ win0_4.index t 1 = 0 :=
  (by decide +kernel : ∀ t : Fin grid0.N, win0_4.index t 0 = 0 ∧ win0_4.index t 1 = 0)
theorem at5 : ∀ t : Fin cfg0.N, win0_5.index t 0 = 0 ∧ win0_5.index t 1 = 0 :=
  (by decide +kernel : ∀ t : Fin grid0.N, win0_5.index t 0 = 0 ∧ win0_5.index t 1 = 0)
theorem at6 : ∀ t : Fin cfg0.N, win0_6.index t 0 = t.val ∧ win0_6.index t 1 = 0 :=
  (by decide +kernel : ∀ t : Fin grid0.N, win0_6.index t 0 = t.val ∧ win0_6.index t 1 = 0)
theorem full6 : ∀ t : Fin cfg0.N, win0_6.xsize (grid0.coords t) 0 = 512 ∧ win0_6.xsize (grid0.coords t) 1 = 1024 :=
  (by decide +kernel : ∀ t : Fin grid0.N, win0_6.xsize (grid0.coords t) 0 = 512 ∧ win0_6.xsize (grid0.coords t) 1 = 1024)
theorem at7 : ∀ t : Fin cfg0.N, win0_7.index t 0 = t.val ∧ win0_7.index t 1 = 0 :=
  (by decide +kernel : ∀ t : Fin grid0.N, win0_7.index t 0 = t.val ∧ win0_7.index t 1 = 0)
theorem full7 : ∀ t : Fin cfg0.N, win0_7.xsize (grid0.coords t) 0 = 512 ∧ win0_7.xsize (grid0.coords t) 1 = 1536 :=
  (by decide +kernel : ∀ t : Fin grid0.N, win0_7.xsize (grid0.coords t) 0 = 512 ∧ win0_7.xsize (grid0.coords t) 1 = 1536)
theorem at8 : ∀ t : Fin cfg0.N, win0_8.index t 0 = t.val ∧ win0_8.index t 1 = 0 :=
  (by decide +kernel : ∀ t : Fin grid0.N, win0_8.index t 0 = t.val ∧ win0_8.index t 1 = 0)
theorem full8 : ∀ t : Fin cfg0.N, win0_8.xsize (grid0.coords t) 0 = 512 ∧ win0_8.xsize (grid0.coords t) 1 = 128 :=
  (by decide +kernel : ∀ t : Fin grid0.N, win0_8.xsize (grid0.coords t) 0 = 512 ∧ win0_8.xsize (grid0.coords t) 1 = 128)
theorem at9 : ∀ t : Fin cfg0.N, win0_9.index t 0 = t.val ∧ win0_9.index t 1 = 0 :=
  (by decide +kernel : ∀ t : Fin grid0.N, win0_9.index t 0 = t.val ∧ win0_9.index t 1 = 0)
theorem full9 : ∀ t : Fin cfg0.N, win0_9.xsize (grid0.coords t) 0 = 512 ∧ win0_9.xsize (grid0.coords t) 1 = 1024 :=
  (by decide +kernel : ∀ t : Fin grid0.N, win0_9.xsize (grid0.coords t) 0 = 512 ∧ win0_9.xsize (grid0.coords t) 1 = 1024)
theorem at10 : ∀ t : Fin cfg0.N, win0_10.index t 0 = t.val ∧ win0_10.index t 1 = 0 :=
  (by decide +kernel : ∀ t : Fin grid0.N, win0_10.index t 0 = t.val ∧ win0_10.index t 1 = 0)
theorem full10 : ∀ t : Fin cfg0.N, win0_10.xsize (grid0.coords t) 0 = 512 ∧ win0_10.xsize (grid0.coords t) 1 = 1024 :=
  (by decide +kernel : ∀ t : Fin grid0.N, win0_10.xsize (grid0.coords t) 0 = 512 ∧ win0_10.xsize (grid0.coords t) 1 = 1024)

theorem lt16 (t : Fin cfg0.N) : t.val < 16 := Nat.lt_of_lt_of_eq t.isLt N_0

/-- The point whose block holds row `r`. -/
def ptOf (r : Fin 8192) : Fin cfg0.N := ⟨r.val / 512, by
  have h := r.isLt
  rw [show cfg0.N = 16 from N_0]; omega⟩

section
variable (m : (ℓ : Loc nD τ sig) → Buf (Elt Ideal) ℓ) (c : Dev nD)

/-- The call's arguments at launch. -/
abbrev h : S8192x1024.Idx → EReal := m ((c : Thread nD τ).loc main_arg0)
abbrev w : S4624x1024.Idx → EReal := m ((c : Thread nD τ).loc main_arg1)

/-- The parts of the weights, as the host hands them to the call. -/
abbrev wz : S1024x1024.Idx → EReal := Products.part 0 1024 (by decide) (w m c)
abbrev wx : S1536x1024.Idx → EReal := Products.part 1024 1536 (by decide) (w m c)
abbrev wu : S1024x1024.Idx → EReal := Products.part 2576 1024 (by decide) (w m c)
abbrev wv : S1024x1024.Idx → EReal := Products.part 3600 1024 (by decide) (w m c)
theorem host_wz : (V m c main_v0 : S1024x1024.Idx → EReal) = wz m c := by
  entry_read
  exact Products.slice_rows 0 1024 _ (w m c) slices_S4624x1024_S1024x1024_0_0
theorem host_wx : (V m c main_v1 : S1536x1024.Idx → EReal) = wx m c := by
  entry_read
  exact Products.slice_rows 1024 1536 _ (w m c) slices_S4624x1024_S1536x1024_1024_0
theorem host_wu : (V m c main_v4 : S1024x1024.Idx → EReal) = wu m c := by
  entry_read
  exact Products.slice_rows 2576 1024 _ (w m c) slices_S4624x1024_S1024x1024_2576_0
theorem host_wv : (V m c main_v5 : S1024x1024.Idx → EReal) = wv m c := by
  entry_read
  exact Products.slice_rows 3600 1024 _ (w m c) slices_S4624x1024_S1024x1024_3600_0
/-- The third part ends in 112 rows of zeros. -/
def wd : S128x1024.Idx → EReal :=
  pad S128x1024 ![0, 0] ![112, 0] ![0, 0] (Products.part 2560 16 (by decide) (w m c)) (sitofp (F := Ideal) .bf16 (constantI S_ 32 0#32)) pads_S16x1024_S128x1024_01120_000 h_S_
theorem host_wd : (V m c main_v3 : S128x1024.Idx → EReal) = wd m c := by
  entry_read
  exact congrArg (fun x => pad S128x1024 ![0, 0] ![112, 0] ![0, 0] x (sitofp (F := Ideal) .bf16 (constantI S_ 32 0#32)) pads_S16x1024_S128x1024_01120_000 h_S_)
    (Products.slice_rows 2560 16 _ (w m c) slices_S4624x1024_S16x1024_2560_0)
theorem fill_zero : sitofp (F := Ideal) .bf16 (constantI S_ 32 0#32) (Shape.Idx.first h_S_) = (0 : EReal) := by
  show (((0#32 : BitVec 32).toInt : ℝ) : EReal) = 0
  simp

theorem block_h (t : Fin cfg0.N) : Forward.Block t.val (iblk m c 0 t : Vec Ideal S512x1024 .bf16) (h m c) := fun k j => by
  unfold iblk
  rw [View.read_apply]
  show V m c main_arg0 _ = _
  rw [V_main_arg0]
  exact Products.rows_at (h m c) _ t.val k j (lt16 t) (congrArg (· * 512 + 1 * k.val) (at0 t).1) (congrArg (· * 1024 + 1 * j.val) (at0 t).2)

theorem whole_wz (t : Fin cfg0.N) : (iblk m c 1 t : Vec Ideal S1024x1024 .bf16) = wz m c := funext fun i => by
  unfold iblk
  rw [View.read_apply]
  show V m c main_v0 _ = _
  rw [host_wz]
  exact (Products.whole_at (wz m c) _ (i 0) (i 1) (congrArg (· * 1024 + 1 * (i 0).val) (at1 t).1) (congrArg (· * 1024 + 1 * (i 1).val) (at1 t).2)).trans
    (congrArg (wz m c) (Products.at_eq i (i 0) (i 1) rfl rfl).symm)

theorem whole_wx (t : Fin cfg0.N) : (iblk m c 2 t : Vec Ideal S1536x1024 .bf16) = wx m c := funext fun i => by
  unfold iblk
  rw [View.read_apply]
  show V m c main_v1 _ = _
  rw [host_wx]
  exact (Products.whole_at (wx m c) _ (i 0) (i 1) (congrArg (· * 1536 + 1 * (i 0).val) (at2 t).1) (congrArg (· * 1024 + 1 * (i 1).val) (at2 t).2)).trans
    (congrArg (wx m c) (Products.at_eq i (i 0) (i 1) rfl rfl).symm)

theorem whole_wd (t : Fin cfg0.N) : (iblk m c 3 t : Vec Ideal S128x1024 .bf16) = wd m c := funext fun i => by
  unfold iblk
  rw [View.read_apply]
  show V m c main_v3 _ = _
  rw [host_wd]
  exact (Products.whole_at (wd m c) _ (i 0) (i 1) (congrArg (· * 128 + 1 * (i 0).val) (at3 t).1) (congrArg (· * 1024 + 1 * (i 1).val) (at3 t).2)).trans
    (congrArg (wd m c) (Products.at_eq i (i 0) (i 1) rfl rfl).symm)

theorem whole_wu (t : Fin cfg0.N) : (iblk m c 4 t : Vec Ideal S1024x1024 .bf16) = wu m c := funext fun i => by
  unfold iblk
  rw [View.read_apply]
  show V m c main_v4 _ = _
  rw [host_wu]
  exact (Products.whole_at (wu m c) _ (i 0) (i 1) (congrArg (· * 1024 + 1 * (i 0).val) (at4 t).1) (congrArg (· * 1024 + 1 * (i 1).val) (at4 t).2)).trans
    (congrArg (wu m c) (Products.at_eq i (i 0) (i 1) rfl rfl).symm)

theorem whole_wv (t : Fin cfg0.N) : (iblk m c 5 t : Vec Ideal S1024x1024 .bf16) = wv m c := funext fun i => by
  unfold iblk
  rw [View.read_apply]
  show V m c main_v5 _ = _
  rw [host_wv]
  exact (Products.whole_at (wv m c) _ (i 0) (i 1) (congrArg (· * 1024 + 1 * (i 0).val) (at5 t).1) (congrArg (· * 1024 + 1 * (i 1).val) (at5 t).2)).trans
    (congrArg (wv m c) (Products.at_eq i (i 0) (i 1) rfl rfl).symm)

/-- The results. -/
def total6 : (Products.Mat 8192 1024).Idx → EReal := Forward.mulT (h m c) (wz m c)
def total7 : (Products.Mat 8192 1536).Idx → EReal := Forward.mulT (h m c) (wx m c)
def total8 : (Products.Mat 8192 128).Idx → EReal := Forward.mulT (h m c) (wd m c)
def total9 : (Products.Mat 8192 1024).Idx → EReal := Forward.mulT (h m c) (wu m c)
def total10 : (Products.Mat 8192 1024).Idx → EReal := Forward.mulT (h m c) (wv m c)

theorem rows6 (t : Fin cfg0.N) : Forward.Block t.val (out0_6 (F := Ideal) (iblk m c 0 t) (iblk m c 1 t) (iblk m c 2 t) (iblk m c 3 t) (iblk m c 4 t) (iblk m c 5 t)) (total6 m c) := by
  rw [out6_val, whole_wz]
  exact (block_h m c t).mulT _

/-- The result array of window 6 after the run. -/
theorem final6 : (dats m 0 c).arrAt 6 cfg0.N = total6 m c := by
  refine (dats m 0 c).arrAt_eq_of_cover 6 (total6 m c) (fun t _ => ?_) fun i => ⟨ptOf (i 0), flush0_6 _, ?_⟩
  · rw [Value.flushed6]
    funext j
    rw [View.read_apply]
    exact (rows6 m c t).at j _ (lt16 t) (congrArg (· * 512 + 1 * (j 0).val) (at6 t).1) (congrArg (· * 1024 + 1 * (j 1).val) (at6 t).2)
  · show i ∈ ((View.whole main_v6_0).slice (win0_6.rect (ptOf (i 0)))).set
    rw [View.set_slice_whole, Rect.mem_set_unit]
    exact Dense.in_rows i _ _ (congrArg (· * 512) (at6 _).1) (full6 _).1 (congrArg (· * 1024) (at6 _).2) (full6 _).2

theorem rows7 (t : Fin cfg0.N) : Forward.Block t.val (out0_7 (F := Ideal) (iblk m c 0 t) (iblk m c 1 t) (iblk m c 2 t) (iblk m c 3 t) (iblk m c 4 t) (iblk m c 5 t)) (total7 m c) := by
  rw [out7_val, whole_wx]
  exact (block_h m c t).mulT _

/-- The result array of window 7 after the run. -/
theorem final7 : (dats m 0 c).arrAt 7 cfg0.N = total7 m c := by
  refine (dats m 0 c).arrAt_eq_of_cover 7 (total7 m c) (fun t _ => ?_) fun i => ⟨ptOf (i 0), flush0_7 _, ?_⟩
  · rw [Value.flushed7]
    funext j
    rw [View.read_apply]
    exact (rows7 m c t).at j _ (lt16 t) (congrArg (· * 512 + 1 * (j 0).val) (at7 t).1) (congrArg (· * 1536 + 1 * (j 1).val) (at7 t).2)
  · show i ∈ ((View.whole main_v6_1).slice (win0_7.rect (ptOf (i 0)))).set
    rw [View.set_slice_whole, Rect.mem_set_unit]
    exact Dense.in_rows i _ _ (congrArg (· * 512) (at7 _).1) (full7 _).1 (congrArg (· * 1536) (at7 _).2) (full7 _).2

theorem rows8 (t : Fin cfg0.N) : Forward.Block t.val (out0_8 (F := Ideal) (iblk m c 0 t) (iblk m c 1 t) (iblk m c 2 t) (iblk m c 3 t) (iblk m c 4 t) (iblk m c 5 t)) (total8 m c) := by
  rw [out8_val, whole_wd]
  exact (block_h m c t).mulT _

/-- The result array of window 8 after the run. -/
theorem final8 : (dats m 0 c).arrAt 8 cfg0.N = total8 m c := by
  refine (dats m 0 c).arrAt_eq_of_cover 8 (total8 m c) (fun t _ => ?_) fun i => ⟨ptOf (i 0), flush0_8 _, ?_⟩
  · rw [Value.flushed8]
    funext j
    rw [View.read_apply]
    exact (rows8 m c t).at j _ (lt16 t) (congrArg (· * 512 + 1 * (j 0).val) (at8 t).1) (congrArg (· * 128 + 1 * (j 1).val) (at8 t).2)
  · show i ∈ ((View.whole main_v6_2).slice (win0_8.rect (ptOf (i 0)))).set
    rw [View.set_slice_whole, Rect.mem_set_unit]
    exact Dense.in_rows i _ _ (congrArg (· * 512) (at8 _).1) (full8 _).1 (congrArg (· * 128) (at8 _).2) (full8 _).2

theorem rows9 (t : Fin cfg0.N) : Forward.Block t.val (out0_9 (F := Ideal) (iblk m c 0 t) (iblk m c 1 t) (iblk m c 2 t) (iblk m c 3 t) (iblk m c 4 t) (iblk m c 5 t)) (total9 m c) := by
  rw [out9_val, whole_wu]
  exact (block_h m c t).mulT _

/-- The result array of window 9 after the run. -/
theorem final9 : (dats m 0 c).arrAt 9 cfg0.N = total9 m c := by
  refine (dats m 0 c).arrAt_eq_of_cover 9 (total9 m c) (fun t _ => ?_) fun i => ⟨ptOf (i 0), flush0_9 _, ?_⟩
  · rw [Value.flushed9]
    funext j
    rw [View.read_apply]
    exact (rows9 m c t).at j _ (lt16 t) (congrArg (· * 512 + 1 * (j 0).val) (at9 t).1) (congrArg (· * 1024 + 1 * (j 1).val) (at9 t).2)
  · show i ∈ ((View.whole main_v6_3).slice (win0_9.rect (ptOf (i 0)))).set
    rw [View.set_slice_whole, Rect.mem_set_unit]
    exact Dense.in_rows i _ _ (congrArg (· * 512) (at9 _).1) (full9 _).1 (congrArg (· * 1024) (at9 _).2) (full9 _).2

theorem rows10 (t : Fin cfg0.N) : Forward.Block t.val (out0_10 (F := Ideal) (iblk m c 0 t) (iblk m c 1 t) (iblk m c 2 t) (iblk m c 3 t) (iblk m c 4 t) (iblk m c 5 t)) (total10 m c) := by
  rw [out10_val, whole_wv]
  exact (block_h m c t).mulT _

/-- The result array of window 10 after the run. -/
theorem final10 : (dats m 0 c).arrAt 10 cfg0.N = total10 m c := by
  refine (dats m 0 c).arrAt_eq_of_cover 10 (total10 m c) (fun t _ => ?_) fun i => ⟨ptOf (i 0), flush0_10 _, ?_⟩
  · rw [Value.flushed10]
    funext j
    rw [View.read_apply]
    exact (rows10 m c t).at j _ (lt16 t) (congrArg (· * 512 + 1 * (j 0).val) (at10 t).1) (congrArg (· * 1024 + 1 * (j 1).val) (at10 t).2)
  · show i ∈ ((View.whole main_v6_4).slice (win0_10.rect (ptOf (i 0)))).set
    rw [View.set_slice_whole, Rect.mem_set_unit]
    exact Dense.in_rows i _ _ (congrArg (· * 512) (at10 _).1) (full10 _).1 (congrArg (· * 1024) (at10 _).2) (full10 _).2

end

end

/-! ## The claims -/

section
open Cert.InProjReferenceIdeal Cert.InProjReferenceIdeal.Facts₀

/-- Columns of the reference's product. -/
theorem ref_cols (lo n : ℕ) (hl : lo + n ≤ 4624) (X : FVec Ideal S8192x1024 .bf16) (W : FVec Ideal S4624x1024 .bf16) (hs : S8192x4624.Slices ![0, lo] (Products.Mat 8192 n)) :
    extractStridedSlice (Products.Mat 8192 n) ![0, lo] (Host.dotGeneral dot_S8192x1024_S1024x4624_S8192x4624_1_0_0_1_n_n none (extf .f32 X bitsLt_bf16_f32)
      (transpose S1024x4624 [1, 0] (extf .f32 W bitsLt_bf16_f32) transposes_S4624x1024_S1024x4624_1_0)) hs = Forward.mulT X (Products.part lo n hl W) := by
  funext i
  have e := extractStridedSlice_apply (t := Products.Mat 8192 n) ![0, lo] (Host.dotGeneral dot_S8192x1024_S1024x4624_S8192x4624_1_0_0_1_n_n none (extf .f32 X bitsLt_bf16_f32)
      (transpose S1024x4624 [1, 0] (extf .f32 W bitsLt_bf16_f32) transposes_S4624x1024_S1024x4624_1_0)) hs i
    (ix2 (i 0) ⟨lo + (i 1).val, lt_of_lt_of_le (Nat.add_lt_add_left (i 1).isLt lo) hl⟩) fun a => by
      match a with
      | ⟨0, _⟩ => exact (Nat.zero_add _).symm
      | ⟨1, _⟩ => rfl
  refine e.trans ((Products.dot_nn (M := 8192) (K := 1024) (N := 4624) _ _ _ _).trans ?_)
  refine Eq.trans (Finset.sum_congr rfl fun k _ => congrArg₂ (fun a b : EReal => a * b) rfl ?_) (Forward.mulT_part lo hl X W i).symm
  exact Products.turned (M := 1024) (N := 4624) _ _ _

/-- The padded columns are the product with the padded rows. -/
theorem ref_padded (X : (Products.Mat 8192 1024).Idx → EReal) (W : (Products.Mat 16 1024).Idx → EReal)
    (hp : (Products.Mat 16 1024).Pads ![0, 0] ![112, 0] ![0, 0] (Products.Mat 128 1024)) :
    pad S8192x128 ![0, 0] ![0, 112] ![0, 0] (Forward.mulT X W : FVec Ideal S8192x16 .f32) (sitofp (F := Ideal) .f32 (constantI S_ 32 0#32)) pads_S8192x16_S8192x128_000_01120 h_S_
      = Forward.mulT X (pad (Products.Mat 128 1024) ![0, 0] ![112, 0] ![0, 0] W (sitofp (F := Ideal) .bf16 (constantI S_ 32 0#32)) hp h_S_) := by
  have z : sitofp (F := Ideal) .f32 (constantI S_ 32 0#32) (Shape.Idx.first h_S_) = (0 : EReal) := by
    show (((0#32 : BitVec 32).toInt : ℝ) : EReal) = 0
    simp
  funext i
  obtain ⟨r, c, rfl⟩ : ∃ (r : Fin 8192) (c : Fin 128), i = ix2 r c := ⟨i 0, i 1, Products.at_eq i _ _ rfl rfl⟩
  show _ = ∑ k : Fin 1024, X (ix2 r k) * pad (Products.Mat 128 1024) ![0, 0] ![112, 0] ![0, 0] W (sitofp (F := Ideal) .bf16 (constantI S_ 32 0#32)) hp h_S_ (ix2 c k)
  by_cases hc : c.val < 16
  · refine (Products.pad_in (M := 8192) (N := 16) (C := 128) 0 112 _ _ _ _ r c ⟨c.val, hc⟩ (Nat.zero_add _).symm).trans ?_
    show ∑ k : Fin 1024, X (ix2 r k) * W (ix2 ⟨c.val, hc⟩ k) = _
    exact Finset.sum_congr rfl fun k _ => congrArg (fun a : EReal => X (ix2 r k) * a)
      (Products.below_in (M := 16) (N := 1024) (R := 128) 112 W _ hp h_S_ c k ⟨c.val, hc⟩ rfl).symm
  · refine (Products.pad_out (M := 8192) (N := 16) (C := 128) 0 112 _ _ _ _ r c (Or.inr (by omega)) z).trans (Eq.symm ?_)
    exact Finset.sum_eq_zero fun k _ => (congrArg (fun a : EReal => X (ix2 r k) * a)
      (Products.below_out (M := 16) (N := 1024) (R := 128) 112 W _ hp h_S_ c k (by omega) fill_zero)).trans (mul_zero _)

theorem ref_dt (X : FVec Ideal S8192x1024 .bf16) (W : FVec Ideal S4624x1024 .bf16) (hp : (Products.Mat 16 1024).Pads ![0, 0] ![112, 0] ![0, 0] (Products.Mat 128 1024)) :
    pad S8192x128 ![0, 0] ![0, 112] ![0, 0] (extractStridedSlice S8192x16 ![0, 2560] (Host.dotGeneral dot_S8192x1024_S1024x4624_S8192x4624_1_0_0_1_n_n none
        (extf .f32 X bitsLt_bf16_f32) (transpose S1024x4624 [1, 0] (extf .f32 W bitsLt_bf16_f32) transposes_S4624x1024_S1024x4624_1_0)) slices_S8192x4624_S8192x16_0_2560)
      (sitofp (F := Ideal) .f32 (constantI S_ 32 0#32)) pads_S8192x16_S8192x128_000_01120 h_S_
      = Forward.mulT X (pad (Products.Mat 128 1024) ![0, 0] ![112, 0] ![0, 0] (Products.part 2560 16 (by decide) W) (sitofp (F := Ideal) .bf16 (constantI S_ 32 0#32)) hp h_S_) :=
  (congrArg (fun x => pad S8192x128 ![0, 0] ![0, 112] ![0, 0] x (sitofp (F := Ideal) .f32 (constantI S_ 32 0#32)) pads_S8192x16_S8192x128_000_01120 h_S_)
    (ref_cols 2560 16 (by decide) X W _)).trans (ref_padded _ _ _)

end

theorem frame_p : Cert.quiescent_InProj := fun m ρ _ => Cert.InProj.Gen.frame m ρ
theorem frame_pi : Cert.quiescent_InProjIdeal := fun m ρ _ => Cert.InProjIdeal.Gen.frame m ρ
theorem frame_ri : Cert.quiescent_InProjReferenceIdeal := fun m ρ _ =>
  (θ_run Cert.InProjReferenceIdeal.defs _ _).mono (fun r h => ⟨fun c => (h c).2.2.2.2.2, sem_eq_zero_of_no_sems (by decide) r.2⟩)
    (Cert.InProjReferenceIdeal.Value.run (F := Ideal) m ρ)
theorem preserves : Cert.preserves_InProj_InProjIdeal := trivial

/-- The call's results are the reference's. -/
theorem algebraic : Cert.algebraic_InProjIdeal_InProjReferenceIdeal := by
  intro m g m' g' _ hagree
  refine ⟨fun c => total6 m c, fun c => total7 m c, fun c => total8 m c, fun c => total9 m c, fun c => total10 m c, ?_, ?_⟩
  · exact (θ_run Cert.InProjIdeal.defs _ _).mono (fun r h c => ⟨(h c).1.trans (final6 m c), (h c).2.1.trans (final7 m c), (h c).2.2.1.trans (final8 m c), (h c).2.2.2.1.trans (final9 m c), (h c).2.2.2.2.1.trans (final10 m c), (h c).2.2.2.2.2⟩)
      (Cert.InProjIdeal.Value.run_blocks (F := Ideal) m g)
  · refine (θ_run Cert.InProjReferenceIdeal.defs _ _).mono (fun r h c => ⟨(h c).1.trans ?_, (h c).2.1.trans ?_, (h c).2.2.1.trans ?_, (h c).2.2.2.1.trans ?_, (h c).2.2.2.2.1.trans ?_, (h c).2.2.2.2.2⟩)
      (Cert.InProjReferenceIdeal.Value.run (F := Ideal) m' g')
    · rw [(hagree c).1, (hagree c).2]
      exact ref_cols 0 1024 (by decide) _ _ _
    · rw [(hagree c).1, (hagree c).2]
      exact ref_cols 1024 1536 (by decide) _ _ _
    · rw [(hagree c).1, (hagree c).2]
      exact ref_dt _ _ _
    · rw [(hagree c).1, (hagree c).2]
      exact ref_cols 2576 1024 (by decide) _ _ _
    · rw [(hagree c).1, (hagree c).2]
      exact ref_cols 3600 1024 (by decide) _ _ _

end InProj

end
-- ==== Proof.QkvProj.lean ====
/- The attention's query, key and value products with their bias, in slabs of 256 columns, 512 rows per grid point. -/
module

public import proofs.«01_k».proof.Defs
public import proofs.«01_k».proof.Proof.Forward
public import proofs.«01_k».proof.Proof.Gen.QkvProj.Frame
public import proofs.«01_k».proof.Proof.Gen.QkvProjIdeal.Value
public import proofs.«01_k».proof.Proof.Gen.QkvProjReferenceIdeal.Run
public import Idealize.ShloMosaic.Lib.Pipeline.ReadBack
public import Idealize.ShloMosaic.Lib.Quiescent
public import Idealize.ShloMosaic.Lib.Claim

@[expose] public section

set_option maxRecDepth 16384

noncomputable section

open Idealize.ShloMosaic Idealize.ShloMosaic.TcCoe Idealize.ShloMosaic.ValueIdx Idealize.SL.Sem

namespace QkvProj

section
open Cert.QkvProjIdeal Cert.QkvProjIdeal.Gen

/-! ## One point's blocks -/

/-- The slab of 256 columns from `o` on. -/
theorem cols_in (o : ℕ) (ho : o + 256 ≤ 1280) : ∀ a, (![0, o] : Fin 2 → ℕ) a + S512x256.size a ≤ S512x1280.size a := fun a => by
  match a with
  | ⟨0, _⟩ => exact Nat.le_refl 512
  | ⟨1, _⟩ => exact ho
theorem bias_in (o : ℕ) (ho : o + 256 ≤ 1280) : ∀ a, (![0, o] : Fin 2 → ℕ) a + S1x256.size a ≤ S1x1280.size a := fun a => by
  match a with
  | ⟨0, _⟩ => exact Nat.le_refl 1
  | ⟨1, _⟩ => exact ho
theorem rows_in (o : ℕ) (ho : o + 256 ≤ 1280) : ∀ a, (![o, 0] : Fin 2 → ℕ) a + S256x1024.size a ≤ S1280x1024.size a := fun a => by
  match a with
  | ⟨0, _⟩ => exact ho
  | ⟨1, _⟩ => exact Nat.le_refl 1024

/-- A slab of the product is those columns of the whole product with its bias. -/
theorem slab_val (o : ℕ) (ho : o + 256 ≤ 1280) (x : Vec Ideal S512x1024 .bf16) (w : Vec Ideal S1280x1024 .bf16) (b : Vec Ideal S1x1280 .f32) (y : S512x256.Idx) :
    addf (matmul (φ₁ := .bf16) (φ₂ := .bf16) dot_S512x1024_S256x1024_S512x256_1_1_0_0_n_n none (View.ld x r0_1)
        (View.ld w (Rect.unit (s := S1280x1024) ![o, 0] S256x1024.size (rows_in o ho))) (constant S512x256 .f32 0x00000000#32))
      (broadcastTo S512x256 (View.ld b (Rect.unit (s := S1x1280) ![0, o] S1x256.size (bias_in o ho))) broadcasts_S1x256_S512x256 : FVec Ideal S512x256 .f32) y
      = Forward.biased (Forward.mulT x w) b ((Rect.unit (s := S512x1280) ![0, o] S512x256.size (cols_in o ho)).emb y) := by
  refine congrArg₂ (fun a b : EReal => a + b) ((Products.mm_nt (φ₁ := .bf16) (φ₂ := .bf16) (M := 512) (K := 1024) (N := 256) _ _ _ y).trans ?_) ((Forward.row_apply (M := 512) (N := 256) _ _ (by decide) y).trans ?_)
  · rw [View.ld_unit_zero (S := S512x1024) Dense.zero2]
    show _ = ∑ k : Fin 1024, (x (ix2 _ k) : EReal) * (w (ix2 _ k) : EReal)
    refine Finset.sum_congr rfl fun k _ => congrArg₂ (fun a b : EReal => a * b) (congrArg x (Products.at_eq _ _ _ ?_ rfl)) (congrArg w (Products.at_eq _ _ _ ?_ ?_))
    · show (y 0).val = 0 + 1 * (y 0).val; omega
    · rfl
    · show 0 + 1 * k.val = k.val; omega
  · exact congrArg b (Products.at_eq _ _ _ rfl rfl)

/-- What a point leaves in the result. -/
theorem out3_val (x : Vec Ideal S512x1024 .bf16) (w : Vec Ideal S1280x1024 .bf16) (b : Vec Ideal S1x1280 .f32) :
    out0_3 (F := Ideal) x w b = Forward.biased (Forward.mulT x w) b := by
  funext y
  unfold out0_3
  refine View.canon_apply_of_pieces (Val := Elt Ideal) (Forward.biased (Forward.mulT x w) b : Vec Ideal S512x1280 .f32) _ (View.PiecesOf.mem ?_) y (cover0_3 (F := Ideal) _ _ _ _ _ y)
  exact ⟨slab_val 1024 (by decide) x w b, slab_val 768 (by decide) x w b, slab_val 512 (by decide) x w b, slab_val 256 (by decide) x w b, slab_val 0 (by decide) x w b, trivial⟩

/-! ## The arrays -/

theorem at0 : ∀ t : Fin cfg0.N, win0_0.index t 0 = t.val ∧ win0_0.index t 1 = 0 :=
  (by decide +kernel : ∀ t : Fin grid0.N, win0_0.index t 0 = t.val ∧ win0_0.index t 1 = 0)
theorem at1 : ∀ t : Fin cfg0.N, win0_1.index t 0 = 0 ∧ win0_1.index t 1 = 0 :=
  (by decide +kernel : ∀ t : Fin grid0.N, win0_1.index t 0 = 0 ∧ win0_1.index t 1 = 0)
theorem at2 : ∀ t : Fin cfg0.N, win0_2.index t 0 = 0 ∧ win0_2.index t 1 = 0 :=
  (by decide +kernel : ∀ t : Fin grid0.N, win0_2.index t 0 = 0 ∧ win0_2.index t 1 = 0)
theorem at3 : ∀ t : Fin cfg0.N, win0_3.index t 0 = t.val ∧ win0_3.index t 1 = 0 :=
  (by decide +kernel : ∀ t : Fin grid0.N, win0_3.index t 0 = t.val ∧ win0_3.index t 1 = 0)
theorem full3 : ∀ t : Fin cfg0.N, win0_3.xsize (grid0.coords t) 0 = 512 ∧ win0_3.xsize (grid0.coords t) 1 = 1280 :=
  (by decide +kernel : ∀ t : Fin grid0.N, win0_3.xsize (grid0.coords t) 0 = 512 ∧ win0_3.xsize (grid0.coords t) 1 = 1280)

theorem lt16 (t : Fin cfg0.N) : t.val < 16 := Nat.lt_of_lt_of_eq t.isLt N_0

/-- The point whose block holds row `r`. -/
def ptOf (r : Fin 8192) : Fin cfg0.N := ⟨r.val / 512, by
  have h := r.isLt
  rw [show cfg0.N = 16 from N_0]; omega⟩

section
variable (m : (ℓ : Loc nD τ sig) → Buf (Elt Ideal) ℓ) (c : Dev nD)

/-- The call's arguments at launch. -/
abbrev h : S8192x1024.Idx → EReal := m ((c : Thread nD τ).loc main_arg0)
abbrev w : S1280x1024.Idx → EReal := m ((c : Thread nD τ).loc main_arg1)
abbrev b : S1x1280.Idx → EReal := m ((c : Thread nD τ).loc main_arg2)

theorem block_h (t : Fin cfg0.N) : Forward.Block t.val (iblk m c 0 t : Vec Ideal S512x1024 .bf16) (h m c) := fun k j => by
  unfold iblk
  rw [View.read_apply]
  show V m c main_arg0 _ = _
  rw [V_main_arg0]
  exact Products.rows_at (h m c) _ t.val k j (lt16 t) (congrArg (· * 512 + 1 * k.val) (at0 t).1) (congrArg (· * 1024 + 1 * j.val) (at0 t).2)

theorem whole_w (t : Fin cfg0.N) : (iblk m c 1 t : Vec Ideal S1280x1024 .bf16) = w m c := funext fun i => by
  unfold iblk
  rw [View.read_apply]
  show V m c main_arg1 _ = _
  rw [V_main_arg1]
  exact (Products.whole_at (w m c) _ (i 0) (i 1) (congrArg (· * 1280 + 1 * (i 0).val) (at1 t).1) (congrArg (· * 1024 + 1 * (i 1).val) (at1 t).2)).trans
    (congrArg (w m c) (Products.at_eq i (i 0) (i 1) rfl rfl).symm)

theorem whole_b (t : Fin cfg0.N) : (iblk m c 2 t : Vec Ideal S1x1280 .f32) = b m c := funext fun i => by
  unfold iblk
  rw [View.read_apply]
  show V m c main_arg2 _ = _
  rw [V_main_arg2]
  exact (Products.whole_at (b m c) _ (i 0) (i 1) (congrArg (· * 1 + 1 * (i 0).val) (at2 t).1) (congrArg (· * 1280 + 1 * (i 1).val) (at2 t).2)).trans
    (congrArg (b m c) (Products.at_eq i (i 0) (i 1) rfl rfl).symm)

/-- The results. -/
def total3 : (Products.Mat 8192 1280).Idx → EReal := Forward.biased (Forward.mulT (h m c) (w m c)) (b m c)

theorem rows3 (t : Fin cfg0.N) : Forward.Block t.val (out0_3 (F := Ideal) (iblk m c 0 t) (iblk m c 1 t) (iblk m c 2 t)) (total3 m c) := by
  rw [out3_val, whole_w, whole_b]
  exact Forward.Block.biased ((block_h m c t).mulT _) _

/-- The result array of window 3 after the run. -/
theorem final3 : (dats m 0 c).arrAt 3 cfg0.N = total3 m c := by
  refine (dats m 0 c).arrAt_eq_of_cover 3 (total3 m c) (fun t _ => ?_) fun i => ⟨ptOf (i 0), flush0_3 _, ?_⟩
  · rw [Value.flushed3]
    funext j
    rw [View.read_apply]
    exact (rows3 m c t).at j _ (lt16 t) (congrArg (· * 512 + 1 * (j 0).val) (at3 t).1) (congrArg (· * 1280 + 1 * (j 1).val) (at3 t).2)
  · show i ∈ ((View.whole main_v0).slice (win0_3.rect (ptOf (i 0)))).set
    rw [View.set_slice_whole, Rect.mem_set_unit]
    exact Dense.in_rows i _ _ (congrArg (· * 512) (at3 _).1) (full3 _).1 (congrArg (· * 1280) (at3 _).2) (full3 _).2

end

end

/-! ## The claims -/

section
open Cert.QkvProjReferenceIdeal Cert.QkvProjReferenceIdeal.Facts₀

/-- The reference's product with its bias. -/
theorem ref_mm (X : FVec Ideal S8192x1024 .bf16) (W : FVec Ideal S1280x1024 .bf16) (b : FVec Ideal S1x1280 .f32) :
    addf (Host.dotGeneral dot_S8192x1024_S1024x1280_S8192x1280_1_0_0_1_n_n none (extf .f32 X bitsLt_bf16_f32)
        (transpose S1024x1280 [1, 0] (extf .f32 W bitsLt_bf16_f32) transposes_S1280x1024_S1024x1280_1_0))
      (broadcastInDim S8192x1280 ![0, 1] bcast_S1x1280_S8192x1280_0_1 b) = Forward.biased (Forward.mulT X W) b := by
  have e : Host.dotGeneral dot_S8192x1024_S1024x1280_S8192x1280_1_0_0_1_n_n none (extf .f32 X bitsLt_bf16_f32)
        (transpose S1024x1280 [1, 0] (extf .f32 W bitsLt_bf16_f32) transposes_S1280x1024_S1024x1280_1_0) = Forward.mulT X W := by
    funext i
    refine (Products.dot_nn (M := 8192) (K := 1024) (N := 1280) _ _ _ i).trans ?_
    show _ = ∑ k : Fin 1024, (X (ix2 (i 0) k) : EReal) * (W (ix2 (i 1) k) : EReal)
    exact Finset.sum_congr rfl fun k _ => congrArg (fun a : EReal => (X (ix2 (i 0) k) : EReal) * a) (Products.turned (M := 1024) (N := 1280) _ _ _)
  rw [e]
  exact Forward.biased_host (M := 8192) (N := 1280) _ b _ (by decide)

end

theorem frame_p : Cert.quiescent_QkvProj := fun m ρ _ => Cert.QkvProj.Gen.frame m ρ
theorem frame_pi : Cert.quiescent_QkvProjIdeal := fun m ρ _ => Cert.QkvProjIdeal.Gen.frame m ρ
theorem frame_ri : Cert.quiescent_QkvProjReferenceIdeal := fun m ρ _ =>
  (θ_run Cert.QkvProjReferenceIdeal.defs _ _).mono (fun r h => ⟨fun c => (h c).2, sem_eq_zero_of_no_sems (by decide) r.2⟩)
    (Cert.QkvProjReferenceIdeal.Value.run (F := Ideal) m ρ)
theorem preserves : Cert.preserves_QkvProj_QkvProjIdeal := trivial

/-- The call's results are the reference's. -/
theorem algebraic : Cert.algebraic_QkvProjIdeal_QkvProjReferenceIdeal := by
  intro m g m' g' _ hagree
  refine ⟨fun c => total3 m c, ?_, ?_⟩
  · exact (θ_run Cert.QkvProjIdeal.defs _ _).mono (fun r h c => ⟨(h c).1.trans (final3 m c), (h c).2⟩)
      (Cert.QkvProjIdeal.Value.run_blocks (F := Ideal) m g)
  · refine (θ_run Cert.QkvProjReferenceIdeal.defs _ _).mono (fun r h c => ⟨(h c).1.trans ?_, (h c).2⟩)
      (Cert.QkvProjReferenceIdeal.Value.run (F := Ideal) m' g')
    rw [(hagree c).1, (hagree c).2.1, (hagree c).2.2]
    exact ref_mm _ _ _

end QkvProj

end
-- ==== Proof.Down1.lean ====
/- The last layer's feed-forward product with the gated residual, in slabs of 256 columns, 512 rows per grid point. -/
module

public import proofs.«01_k».proof.Defs
public import proofs.«01_k».proof.Proof.Forward
public import proofs.«01_k».proof.Proof.Gen.Down1.Frame
public import proofs.«01_k».proof.Proof.Gen.Down1Ideal.Value
public import proofs.«01_k».proof.Proof.Gen.Down1ReferenceIdeal.Run
public import Idealize.ShloMosaic.Lib.Pipeline.ReadBack
public import Idealize.ShloMosaic.Lib.Quiescent
public import Idealize.ShloMosaic.Lib.Claim

@[expose] public section

set_option maxRecDepth 16384

noncomputable section

open Idealize.ShloMosaic Idealize.ShloMosaic.TcCoe Idealize.ShloMosaic.ValueIdx Idealize.SL.Sem

namespace Down1

section
open Cert.Down1Ideal Cert.Down1Ideal.Gen

/-! ## One point's blocks -/

/-- The slab of 256 columns from `o` on. -/
theorem cols_in (o : ℕ) (ho : o + 256 ≤ 1024) : ∀ a, (![0, o] : Fin 2 → ℕ) a + S512x256.size a ≤ S512x1024.size a := fun a => by
  match a with
  | ⟨0, _⟩ => exact Nat.le_refl 512
  | ⟨1, _⟩ => exact ho
theorem gate_in (o : ℕ) (ho : o + 256 ≤ 1024) : ∀ a, (![0, o] : Fin 2 → ℕ) a + S1x256.size a ≤ S1x1024.size a := fun a => by
  match a with
  | ⟨0, _⟩ => exact Nat.le_refl 1
  | ⟨1, _⟩ => exact ho
theorem weight_in (o : ℕ) (ho : o + 256 ≤ 1024) : ∀ a, (![0, o] : Fin 2 → ℕ) a + S2816x256.size a ≤ S2816x1024.size a := fun a => by
  match a with
  | ⟨0, _⟩ => exact Nat.le_refl 2816
  | ⟨1, _⟩ => exact ho

/-- The product of the block with a slab of the weights. -/
abbrev slab (o : ℕ) (ho : o + 256 ≤ 1024) (x : Vec Ideal S512x2816 .bf16) (w : Vec Ideal S2816x1024 .bf16) : FVec Ideal S512x256 .f32 :=
  matmul (φ₁ := .bf16) (φ₂ := .bf16) dot_S512x2816_S2816x256_S512x256_1_0_0_1_n_n none (View.ld x r0_1)
    (View.ld w (Rect.unit (s := S2816x1024) ![0, o] S2816x256.size (weight_in o ho))) (constant S512x256 .f32 0x00000000#32)

/-- It is those columns of the whole product. -/
theorem slab_val (o : ℕ) (ho : o + 256 ≤ 1024) (x : Vec Ideal S512x2816 .bf16) (w : Vec Ideal S2816x1024 .bf16) (y : S512x256.Idx) :
    slab o ho x w y = Forward.mul x w ((Rect.unit (s := S512x1024) ![0, o] S512x256.size (cols_in o ho)).emb y) := by
  refine (Products.mm_nn (φ₁ := .bf16) (φ₂ := .bf16) (M := 512) (K := 2816) (N := 256) _ _ _ y).trans ?_
  rw [View.ld_unit_zero (S := S512x2816) Dense.zero2]
  show _ = ∑ k : Fin 2816, (x (ix2 _ k) : EReal) * (w (ix2 k _) : EReal)
  refine Finset.sum_congr rfl fun k _ => congrArg₂ (fun a b : EReal => a * b) (congrArg x (Products.at_eq _ _ _ ?_ rfl)) (congrArg w (Products.at_eq _ _ _ ?_ ?_))
  · show (y 0).val = 0 + 1 * (y 0).val; omega
  · show 0 + 1 * k.val = k.val; omega
  · rfl

/-- A slab with its gated residual. -/
theorem resid_val (o : ℕ) (ho : o + 256 ≤ 1024) (x : Vec Ideal S512x2816 .bf16) (w : Vec Ideal S2816x1024 .bf16) (r : Vec Ideal S512x1024 .f32) (g : Vec Ideal S1x1024 .f32) (y : S512x256.Idx) :
    (addf (View.ld r (Rect.unit (s := S512x1024) ![0, o] S512x256.size (cols_in o ho)))
      (mulf (broadcastTo S512x256 (View.ld g (Rect.unit (s := S1x1024) ![0, o] S1x256.size (gate_in o ho))) broadcasts_S1x256_S512x256) (slab o ho x w)) : FVec Ideal S512x256 .f32) y
      = Forward.resid (Forward.mul x w) r g ((Rect.unit (s := S512x1024) ![0, o] S512x256.size (cols_in o ho)).emb y) := by
  refine congrArg₂ (fun a b : EReal => a + b) rfl (congrArg₂ (fun a b : EReal => a * b) ((Forward.row_apply (M := 512) (N := 256) _ _ (by decide) y).trans ?_) (slab_val o ho x w y))
  exact congrArg g (Products.at_eq _ _ _ rfl rfl)

section
variable (x0 : Vec Ideal S512x2816 .bf16) (x1 : Vec Ideal S2816x1024 .bf16) (x2 : Vec Ideal S512x1024 .f32) (x3 : Vec Ideal S1x1024 .f32)

/-- What a point leaves in the two results. -/
theorem out4_val : out0_4 (F := Ideal) x0 x1 x2 x3 = Forward.mul x0 x1 := by
  funext y
  unfold out0_4
  refine View.canon_apply_of_pieces (Val := Elt Ideal) (Forward.mul x0 x1 : Vec Ideal S512x1024 .f32) _ (View.PiecesOf.mem ?_) y (cover0_4 (F := Ideal) _ _ _ _ y)
  exact ⟨slab_val 768 (by decide) x0 x1, slab_val 512 (by decide) x0 x1, slab_val 256 (by decide) x0 x1, slab_val 0 (by decide) x0 x1, trivial⟩
theorem out5_val : out0_5 (F := Ideal) x0 x1 x2 x3 = Forward.resid (Forward.mul x0 x1) x2 x3 := by
  funext y
  unfold out0_5
  refine View.canon_apply_of_pieces (Val := Elt Ideal) (Forward.resid (Forward.mul x0 x1) x2 x3 : Vec Ideal S512x1024 .f32) _ (View.PiecesOf.mem ?_) y (cover0_5 (F := Ideal) _ _ _ _ y)
  exact ⟨resid_val 768 (by decide) x0 x1 x2 x3, resid_val 512 (by decide) x0 x1 x2 x3, resid_val 256 (by decide) x0 x1 x2 x3, resid_val 0 (by decide) x0 x1 x2 x3, trivial⟩

end

/-! ## The arrays -/

theorem at0 : ∀ t : Fin cfg0.N, win0_0.index t 0 = t.val ∧ win0_0.index t 1 = 0 :=
  (by decide +kernel : ∀ t : Fin grid0.N, win0_0.index t 0 = t.val ∧ win0_0.index t 1 = 0)
theorem at1 : ∀ t : Fin cfg0.N, win0_1.index t 0 = 0 ∧ win0_1.index t 1 = 0 :=
  (by decide +kernel : ∀ t : Fin grid0.N, win0_1.index t 0 = 0 ∧ win0_1.index t 1 = 0)
theorem at2 : ∀ t : Fin cfg0.N, win0_2.index t 0 = t.val ∧ win0_2.index t 1 = 0 :=
  (by decide +kernel : ∀ t : Fin grid0.N, win0_2.index t 0 = t.val ∧ win0_2.index t 1 = 0)
theorem at3 : ∀ t : Fin cfg0.N, win0_3.index t 0 = 0 ∧ win0_3.index t 1 = 0 :=
  (by decide +kernel : ∀ t : Fin grid0.N, win0_3.index t 0 = 0 ∧ win0_3.index t 1 = 0)
theorem at4 : ∀ t : Fin cfg0.N, win0_4.index t 0 = t.val ∧ win0_4.index t 1 = 0 :=
  (by decide +kernel : ∀ t : Fin grid0.N, win0_4.index t 0 = t.val ∧ win0_4.index t 1 = 0)
theorem full4 : ∀ t : Fin cfg0.N, win0_4.xsize (grid0.coords t) 0 = 512 ∧ win0_4.xsize (grid0.coords t) 1 = 1024 :=
  (by decide +kernel : ∀ t : Fin grid0.N, win0_4.xsize (grid0.coords t) 0 = 512 ∧ win0_4.xsize (grid0.coords t) 1 = 1024)
theorem at5 : ∀ t : Fin cfg0.N, win0_5.index t 0 = t.val ∧ win0_5.index t 1 = 0 :=
  (by decide +kernel : ∀ t : Fin grid0.N, win0_5.index t 0 = t.val ∧ win0_5.index t 1 = 0)
theorem full5 : ∀ t : Fin cfg0.N, win0_5.xsize (grid0.coords t) 0 = 512 ∧ win0_5.xsize (grid0.coords t) 1 = 1024 :=
  (by decide +kernel : ∀ t : Fin grid0.N, win0_5.xsize (grid0.coords t) 0 = 512 ∧ win0_5.xsize (grid0.coords t) 1 = 1024)

theorem lt16 (t : Fin cfg0.N) : t.val < 16 := Nat.lt_of_lt_of_eq t.isLt N_0

/-- The point whose block holds row `r`. -/
def ptOf (r : Fin 8192) : Fin cfg0.N := ⟨r.val / 512, by
  have h := r.isLt
  rw [show cfg0.N = 16 from N_0]; omega⟩

section
variable (m : (ℓ : Loc nD τ sig) → Buf (Elt Ideal) ℓ) (c : Dev nD)

/-- The call's arguments at launch. -/
abbrev f : S8192x2816.Idx → EReal := m ((c : Thread nD τ).loc main_arg0)
abbrev w : S2816x1024.Idx → EReal := m ((c : Thread nD τ).loc main_arg1)
abbrev x : S8192x1024.Idx → EReal := m ((c : Thread nD τ).loc main_arg2)
abbrev g : S1x1024.Idx → EReal := m ((c : Thread nD τ).loc main_arg3)

theorem block_f (t : Fin cfg0.N) : Forward.Block t.val (iblk m c 0 t : Vec Ideal S512x2816 .bf16) (f m c) := fun k j => by
  unfold iblk
  rw [View.read_apply]
  show V m c main_arg0 _ = _
  rw [V_main_arg0]
  exact Products.rows_at (f m c) _ t.val k j (lt16 t) (congrArg (· * 512 + 1 * k.val) (at0 t).1) (congrArg (· * 2816 + 1 * j.val) (at0 t).2)

theorem whole_w (t : Fin cfg0.N) : (iblk m c 1 t : Vec Ideal S2816x1024 .bf16) = w m c := funext fun i => by
  unfold iblk
  rw [View.read_apply]
  show V m c main_arg1 _ = _
  rw [V_main_arg1]
  exact (Products.whole_at (w m c) _ (i 0) (i 1) (congrArg (· * 2816 + 1 * (i 0).val) (at1 t).1) (congrArg (· * 1024 + 1 * (i 1).val) (at1 t).2)).trans
    (congrArg (w m c) (Products.at_eq i (i 0) (i 1) rfl rfl).symm)

theorem block_x (t : Fin cfg0.N) : Forward.Block t.val (iblk m c 2 t : Vec Ideal S512x1024 .f32) (x m c) := fun k j => by
  unfold iblk
  rw [View.read_apply]
  show V m c main_arg2 _ = _
  rw [V_main_arg2]
  exact Products.rows_at (x m c) _ t.val k j (lt16 t) (congrArg (· * 512 + 1 * k.val) (at2 t).1) (congrArg (· * 1024 + 1 * j.val) (at2 t).2)

theorem whole_g (t : Fin cfg0.N) : (iblk m c 3 t : Vec Ideal S1x1024 .f32) = g m c := funext fun i => by
  unfold iblk
  rw [View.read_apply]
  show V m c main_arg3 _ = _
  rw [V_main_arg3]
  exact (Products.whole_at (g m c) _ (i 0) (i 1) (congrArg (· * 1 + 1 * (i 0).val) (at3 t).1) (congrArg (· * 1024 + 1 * (i 1).val) (at3 t).2)).trans
    (congrArg (g m c) (Products.at_eq i (i 0) (i 1) rfl rfl).symm)

/-- The results. -/
def total4 : (Products.Mat 8192 1024).Idx → EReal := Forward.mul (f m c) (w m c)
def total5 : (Products.Mat 8192 1024).Idx → EReal := Forward.resid (Forward.mul (f m c) (w m c)) (x m c) (g m c)

theorem rows4 (t : Fin cfg0.N) : Forward.Block t.val (out0_4 (F := Ideal) (iblk m c 0 t) (iblk m c 1 t) (iblk m c 2 t) (iblk m c 3 t)) (total4 m c) := by
  rw [out4_val, whole_w]
  exact (block_f m c t).mul _

/-- The result array of window 4 after the run. -/
theorem final4 : (dats m 0 c).arrAt 4 cfg0.N = total4 m c := by
  refine (dats m 0 c).arrAt_eq_of_cover 4 (total4 m c) (fun t _ => ?_) fun i => ⟨ptOf (i 0), flush0_4 _, ?_⟩
  · rw [Value.flushed4]
    funext j
    rw [View.read_apply]
    exact (rows4 m c t).at j _ (lt16 t) (congrArg (· * 512 + 1 * (j 0).val) (at4 t).1) (congrArg (· * 1024 + 1 * (j 1).val) (at4 t).2)
  · show i ∈ ((View.whole main_v0_0).slice (win0_4.rect (ptOf (i 0)))).set
    rw [View.set_slice_whole, Rect.mem_set_unit]
    exact Dense.in_rows i _ _ (congrArg (· * 512) (at4 _).1) (full4 _).1 (congrArg (· * 1024) (at4 _).2) (full4 _).2

theorem rows5 (t : Fin cfg0.N) : Forward.Block t.val (out0_5 (F := Ideal) (iblk m c 0 t) (iblk m c 1 t) (iblk m c 2 t) (iblk m c 3 t)) (total5 m c) := by
  rw [out5_val, whole_w, whole_g]
  exact Forward.Block.resid ((block_f m c t).mul _) (block_x m c t) _

/-- The result array of window 5 after the run. -/
theorem final5 : (dats m 0 c).arrAt 5 cfg0.N = total5 m c := by
  refine (dats m 0 c).arrAt_eq_of_cover 5 (total5 m c) (fun t _ => ?_) fun i => ⟨ptOf (i 0), flush0_5 _, ?_⟩
  · rw [Value.flushed5]
    funext j
    rw [View.read_apply]
    exact (rows5 m c t).at j _ (lt16 t) (congrArg (· * 512 + 1 * (j 0).val) (at5 t).1) (congrArg (· * 1024 + 1 * (j 1).val) (at5 t).2)
  · show i ∈ ((View.whole main_v0_1).slice (win0_5.rect (ptOf (i 0)))).set
    rw [View.set_slice_whole, Rect.mem_set_unit]
    exact Dense.in_rows i _ _ (congrArg (· * 512) (at5 _).1) (full5 _).1 (congrArg (· * 1024) (at5 _).2) (full5 _).2

end

end

/-! ## The claims -/

section
open Cert.Down1ReferenceIdeal Cert.Down1ReferenceIdeal.Facts₀

/-- The reference's product. -/
theorem ref_mm (X : FVec Ideal S8192x2816 .bf16) (W : FVec Ideal S2816x1024 .bf16) :
    Host.dotGeneral dot_S8192x2816_S2816x1024_S8192x1024_1_0_0_1_n_n none (extf .f32 X bitsLt_bf16_f32) (extf .f32 W bitsLt_bf16_f32) = Forward.mul X W :=
  funext fun i => Products.dot_nn (M := 8192) (K := 2816) (N := 1024) _ (extf .f32 X bitsLt_bf16_f32) (extf .f32 W bitsLt_bf16_f32) i

/-- Its residual. -/
theorem ref_resid (Y X : FVec Ideal S8192x1024 .f32) (g : FVec Ideal S1x1024 .f32) :
    addf X (mulf (broadcastInDim S8192x1024 ![0, 1] bcast_S1x1024_S8192x1024_0_1 g) Y) = Forward.resid Y X g :=
  Forward.resid_host (M := 8192) (N := 1024) Y X g _ (by decide)

end

theorem frame_p : Cert.quiescent_Down1 := fun m ρ _ => Cert.Down1.Gen.frame m ρ
theorem frame_pi : Cert.quiescent_Down1Ideal := fun m ρ _ => Cert.Down1Ideal.Gen.frame m ρ
theorem frame_ri : Cert.quiescent_Down1ReferenceIdeal := fun m ρ _ =>
  (θ_run Cert.Down1ReferenceIdeal.defs _ _).mono (fun r h => ⟨fun c => (h c).2.2, sem_eq_zero_of_no_sems (by decide) r.2⟩)
    (Cert.Down1ReferenceIdeal.Value.run (F := Ideal) m ρ)
theorem preserves : Cert.preserves_Down1_Down1Ideal := trivial

/-- The call's results are the reference's. -/
theorem algebraic : Cert.algebraic_Down1Ideal_Down1ReferenceIdeal := by
  intro m g m' g' _ hagree
  refine ⟨fun c => total4 m c, fun c => total5 m c, ?_, ?_⟩
  · exact (θ_run Cert.Down1Ideal.defs _ _).mono (fun r h c => ⟨(h c).1.trans (final4 m c), (h c).2.1.trans (final5 m c), (h c).2.2⟩)
      (Cert.Down1Ideal.Value.run_blocks (F := Ideal) m g)
  · refine (θ_run Cert.Down1ReferenceIdeal.defs _ _).mono (fun r h c => ⟨(h c).1.trans ?_, (h c).2.1.trans ?_, (h c).2.2⟩)
      (Cert.Down1ReferenceIdeal.Value.run (F := Ideal) m' g')
    · rw [(hagree c).1, (hagree c).2.1]
      exact ref_mm _ _
    · rw [(hagree c).1, (hagree c).2.1, (hagree c).2.2.1, (hagree c).2.2.2]
      exact (ref_resid _ _ _).trans (by rw [ref_mm]; rfl)

end Down1

end
-- ==== Proof.Down0.lean ====
/- The feed-forward network's last product with the gated residual, and the next layer's norm and modulation, 512 rows per grid point. -/
module

public import proofs.«01_k».proof.Defs
public import proofs.«01_k».proof.Proof.Forward
public import proofs.«01_k».proof.Proof.Gen.Down0.Frame
public import proofs.«01_k».proof.Proof.Gen.Down0Ideal.Value
public import proofs.«01_k».proof.Proof.Gen.Down0ReferenceIdeal.Run
public import Idealize.ShloMosaic.Lib.Pipeline.ReadBack
public import Idealize.ShloMosaic.Lib.Quiescent
public import Idealize.ShloMosaic.Lib.Claim

@[expose] public section

set_option maxRecDepth 16384

noncomputable section

open Idealize.ShloMosaic Idealize.ShloMosaic.TcCoe Idealize.ShloMosaic.ValueIdx Idealize.SL.Sem

namespace Down0

section
open Cert.Down0Ideal Cert.Down0Ideal.Gen

/-! ## One point's blocks -/

section
variable (x0 : Vec Ideal S512x2816 .bf16) (x1 : Vec Ideal S2816x1024 .bf16) (x2 : Vec Ideal S512x1024 .f32) (x3 : Vec Ideal S1x1024 .f32) (x4 : Vec Ideal S1x1024 .f32) (x5 : Vec Ideal S1x1024 .f32) (x6 : Vec Ideal S1x1024 .f32)

theorem prod_val : k0_pay1 (F := Ideal) x1 x0 = Forward.mul x0 x1 := by
  funext i
  unfold k0_pay1
  exact Products.mm_nn (M := 512) (K := 2816) (N := 1024) _ x0 x1 i

theorem resid_val : k0_pay2 (F := Ideal) x1 x0 x2 x3 = Forward.resid (Forward.mul x0 x1) x2 x3 := by
  unfold k0_pay2
  rw [prod_val]
  exact Forward.resid_kernel (M := 512) (N := 1024) _ x2 x3 _ (by decide)

theorem norm_val : k0_pay3 (F := Ideal) x1 x0 x2 x3 x4 x5 x6 = Forward.normed (Forward.resid (Forward.mul x0 x1) x2 x3) x4 x5 x6 := by
  unfold k0_pay3
  rw [resid_val]
  exact Forward.normed_kernel _ x4 x5 x6 _ _ _ _ _ _

/-- What a point leaves in the three results. -/
theorem out7_val : out0_7 (F := Ideal) x0 x1 x2 x3 x4 x5 x6 = Forward.mul x0 x1 := by
  unfold out0_7
  simp only [View.canon_unit_zero (S := S512x1024) Dense.zero2, View.ld_unit_zero (S := S512x1024) Dense.zero2, View.ld_unit_zero (S := S512x2816) Dense.zero2, View.ld_unit_zero (S := S2816x1024) Dense.zero2, View.ld_unit_zero (S := S1x1024) Dense.zero2]
  exact prod_val x0 x1
theorem out8_val : out0_8 (F := Ideal) x0 x1 x2 x3 x4 x5 x6 = Forward.resid (Forward.mul x0 x1) x2 x3 := by
  unfold out0_8
  simp only [View.canon_unit_zero (S := S512x1024) Dense.zero2, View.ld_unit_zero (S := S512x1024) Dense.zero2, View.ld_unit_zero (S := S512x2816) Dense.zero2, View.ld_unit_zero (S := S2816x1024) Dense.zero2, View.ld_unit_zero (S := S1x1024) Dense.zero2]
  exact resid_val x0 x1 x2 x3
theorem out9_val : out0_9 (F := Ideal) x0 x1 x2 x3 x4 x5 x6 = Forward.normed (Forward.resid (Forward.mul x0 x1) x2 x3) x4 x5 x6 := by
  unfold out0_9
  simp only [View.canon_unit_zero (S := S512x1024) Dense.zero2, View.ld_unit_zero (S := S512x1024) Dense.zero2, View.ld_unit_zero (S := S512x2816) Dense.zero2, View.ld_unit_zero (S := S2816x1024) Dense.zero2, View.ld_unit_zero (S := S1x1024) Dense.zero2]
  exact norm_val x0 x1 x2 x3 x4 x5 x6

end

/-! ## The arrays -/

theorem at0 : ∀ t : Fin cfg0.N, win0_0.index t 0 = t.val ∧ win0_0.index t 1 = 0 :=
  (by decide +kernel : ∀ t : Fin grid0.N, win0_0.index t 0 = t.val ∧ win0_0.index t 1 = 0)
theorem at1 : ∀ t : Fin cfg0.N, win0_1.index t 0 = 0 ∧ win0_1.index t 1 = 0 :=
  (by decide +kernel : ∀ t : Fin grid0.N, win0_1.index t 0 = 0 ∧ win0_1.index t 1 = 0)
theorem at2 : ∀ t : Fin cfg0.N, win0_2.index t 0 = t.val ∧ win0_2.index t 1 = 0 :=
  (by decide +kernel : ∀ t : Fin grid0.N, win0_2.index t 0 = t.val ∧ win0_2.index t 1 = 0)
theorem at3 : ∀ t : Fin cfg0.N, win0_3.index t 0 = 0 ∧ win0_3.index t 1 = 0 :=
  (by decide +kernel : ∀ t : Fin grid0.N, win0_3.index t 0 = 0 ∧ win0_3.index t 1 = 0)
theorem at4 : ∀ t : Fin cfg0.N, win0_4.index t 0 = 0 ∧ win0_4.index t 1 = 0 :=
  (by decide +kernel : ∀ t : Fin grid0.N, win0_4.index t 0 = 0 ∧ win0_4.index t 1 = 0)
theorem at5 : ∀ t : Fin cfg0.N, win0_5.index t 0 = 0 ∧ win0_5.index t 1 = 0 :=
  (by decide +kernel : ∀ t : Fin grid0.N, win0_5.index t 0 = 0 ∧ win0_5.index t 1 = 0)
theorem at6 : ∀ t : Fin cfg0.N, win0_6.index t 0 = 0 ∧ win0_6.index t 1 = 0 :=
  (by decide +kernel : ∀ t : Fin grid0.N, win0_6.index t 0 = 0 ∧ win0_6.index t 1 = 0)
theorem at7 : ∀ t : Fin cfg0.N, win0_7.index t 0 = t.val ∧ win0_7.index t 1 = 0 :=
  (by decide +kernel : ∀ t : Fin grid0.N, win0_7.index t 0 = t.val ∧ win0_7.index t 1 = 0)
theorem full7 : ∀ t : Fin cfg0.N, win0_7.xsize (grid0.coords t) 0 = 512 ∧ win0_7.xsize (grid0.coords t) 1 = 1024 :=
  (by decide +kernel : ∀ t : Fin grid0.N, win0_7.xsize (grid0.coords t) 0 = 512 ∧ win0_7.xsize (grid0.coords t) 1 = 1024)
theorem at8 : ∀ t : Fin cfg0.N, win0_8.index t 0 = t.val ∧ win0_8.index t 1 = 0 :=
  (by decide +kernel : ∀ t : Fin grid0.N, win0_8.index t 0 = t.val ∧ win0_8.index t 1 = 0)
theorem full8 : ∀ t : Fin cfg0.N, win0_8.xsize (grid0.coords t) 0 = 512 ∧ win0_8.xsize (grid0.coords t) 1 = 1024 :=
  (by decide +kernel : ∀ t : Fin grid0.N, win0_8.xsize (grid0.coords t) 0 = 512 ∧ win0_8.xsize (grid0.coords t) 1 = 1024)
theorem at9 : ∀ t : Fin cfg0.N, win0_9.index t 0 = t.val ∧ win0_9.index t 1 = 0 :=
  (by decide +kernel : ∀ t : Fin grid0.N, win0_9.index t 0 = t.val ∧ win0_9.index t 1 = 0)
theorem full9 : ∀ t : Fin cfg0.N, win0_9.xsize (grid0.coords t) 0 = 512 ∧ win0_9.xsize (grid0.coords t) 1 = 1024 :=
  (by decide +kernel : ∀ t : Fin grid0.N, win0_9.xsize (grid0.coords t) 0 = 512 ∧ win0_9.xsize (grid0.coords t) 1 = 1024)

theorem lt16 (t : Fin cfg0.N) : t.val < 16 := Nat.lt_of_lt_of_eq t.isLt N_0

/-- The point whose block holds row `r`. -/
def ptOf (r : Fin 8192) : Fin cfg0.N := ⟨r.val / 512, by
  have h := r.isLt
  rw [show cfg0.N = 16 from N_0]; omega⟩

section
variable (m : (ℓ : Loc nD τ sig) → Buf (Elt Ideal) ℓ) (c : Dev nD)

/-- The call's arguments at launch. -/
abbrev f : S8192x2816.Idx → EReal := m ((c : Thread nD τ).loc main_arg0)
abbrev w : S2816x1024.Idx → EReal := m ((c : Thread nD τ).loc main_arg1)
abbrev x : S8192x1024.Idx → EReal := m ((c : Thread nD τ).loc main_arg2)
abbrev g : S1x1024.Idx → EReal := m ((c : Thread nD τ).loc main_arg3)
abbrev nw : S1x1024.Idx → EReal := m ((c : Thread nD τ).loc main_arg4)
abbrev sc : S1x1024.Idx → EReal := m ((c : Thread nD τ).loc main_arg5)
abbrev sh : S1x1024.Idx → EReal := m ((c : Thread nD τ).loc main_arg6)

theorem block_f (t : Fin cfg0.N) : Forward.Block t.val (iblk m c 0 t : Vec Ideal S512x2816 .bf16) (f m c) := fun k j => by
  unfold iblk
  rw [View.read_apply]
  show V m c main_arg0 _ = _
  rw [V_main_arg0]
  exact Products.rows_at (f m c) _ t.val k j (lt16 t) (congrArg (· * 512 + 1 * k.val) (at0 t).1) (congrArg (· * 2816 + 1 * j.val) (at0 t).2)

theorem whole_w (t : Fin cfg0.N) : (iblk m c 1 t : Vec Ideal S2816x1024 .bf16) = w m c := funext fun i => by
  unfold iblk
  rw [View.read_apply]
  show V m c main_arg1 _ = _
  rw [V_main_arg1]
  exact (Products.whole_at (w m c) _ (i 0) (i 1) (congrArg (· * 2816 + 1 * (i 0).val) (at1 t).1) (congrArg (· * 1024 + 1 * (i 1).val) (at1 t).2)).trans
    (congrArg (w m c) (Products.at_eq i (i 0) (i 1) rfl rfl).symm)

theorem block_x (t : Fin cfg0.N) : Forward.Block t.val (iblk m c 2 t : Vec Ideal S512x1024 .f32) (x m c) := fun k j => by
  unfold iblk
  rw [View.read_apply]
  show V m c main_arg2 _ = _
  rw [V_main_arg2]
  exact Products.rows_at (x m c) _ t.val k j (lt16 t) (congrArg (· * 512 + 1 * k.val) (at2 t).1) (congrArg (· * 1024 + 1 * j.val) (at2 t).2)

theorem whole_g (t : Fin cfg0.N) : (iblk m c 3 t : Vec Ideal S1x1024 .f32) = g m c := funext fun i => by
  unfold iblk
  rw [View.read_apply]
  show V m c main_arg3 _ = _
  rw [V_main_arg3]
  exact (Products.whole_at (g m c) _ (i 0) (i 1) (congrArg (· * 1 + 1 * (i 0).val) (at3 t).1) (congrArg (· * 1024 + 1 * (i 1).val) (at3 t).2)).trans
    (congrArg (g m c) (Products.at_eq i (i 0) (i 1) rfl rfl).symm)

theorem whole_nw (t : Fin cfg0.N) : (iblk m c 4 t : Vec Ideal S1x1024 .f32) = nw m c := funext fun i => by
  unfold iblk
  rw [View.read_apply]
  show V m c main_arg4 _ = _
  rw [V_main_arg4]
  exact (Products.whole_at (nw m c) _ (i 0) (i 1) (congrArg (· * 1 + 1 * (i 0).val) (at4 t).1) (congrArg (· * 1024 + 1 * (i 1).val) (at4 t).2)).trans
    (congrArg (nw m c) (Products.at_eq i (i 0) (i 1) rfl rfl).symm)

theorem whole_sc (t : Fin cfg0.N) : (iblk m c 5 t : Vec Ideal S1x1024 .f32) = sc m c := funext fun i => by
  unfold iblk
  rw [View.read_apply]
  show V m c main_arg5 _ = _
  rw [V_main_arg5]
  exact (Products.whole_at (sc m c) _ (i 0) (i 1) (congrArg (· * 1 + 1 * (i 0).val) (at5 t).1) (congrArg (· * 1024 + 1 * (i 1).val) (at5 t).2)).trans
    (congrArg (sc m c) (Products.at_eq i (i 0) (i 1) rfl rfl).symm)

theorem whole_sh (t : Fin cfg0.N) : (iblk m c 6 t : Vec Ideal S1x1024 .f32) = sh m c := funext fun i => by
  unfold iblk
  rw [View.read_apply]
  show V m c main_arg6 _ = _
  rw [V_main_arg6]
  exact (Products.whole_at (sh m c) _ (i 0) (i 1) (congrArg (· * 1 + 1 * (i 0).val) (at6 t).1) (congrArg (· * 1024 + 1 * (i 1).val) (at6 t).2)).trans
    (congrArg (sh m c) (Products.at_eq i (i 0) (i 1) rfl rfl).symm)

/-- The results. -/
def total7 : (Products.Mat 8192 1024).Idx → EReal := Forward.mul (f m c) (w m c)
def total8 : (Products.Mat 8192 1024).Idx → EReal := Forward.resid (Forward.mul (f m c) (w m c)) (x m c) (g m c)
def total9 : (Products.Mat 8192 1024).Idx → EReal := Forward.normed (Forward.resid (Forward.mul (f m c) (w m c)) (x m c) (g m c)) (nw m c) (sc m c) (sh m c)

theorem rows7 (t : Fin cfg0.N) : Forward.Block t.val (out0_7 (F := Ideal) (iblk m c 0 t) (iblk m c 1 t) (iblk m c 2 t) (iblk m c 3 t) (iblk m c 4 t) (iblk m c 5 t) (iblk m c 6 t)) (total7 m c) := by
  rw [out7_val, whole_w]
  exact (block_f m c t).mul _

/-- The result array of window 7 after the run. -/
theorem final7 : (dats m 0 c).arrAt 7 cfg0.N = total7 m c := by
  refine (dats m 0 c).arrAt_eq_of_cover 7 (total7 m c) (fun t _ => ?_) fun i => ⟨ptOf (i 0), flush0_7 _, ?_⟩
  · rw [Value.flushed7]
    funext j
    rw [View.read_apply]
    exact (rows7 m c t).at j _ (lt16 t) (congrArg (· * 512 + 1 * (j 0).val) (at7 t).1) (congrArg (· * 1024 + 1 * (j 1).val) (at7 t).2)
  · show i ∈ ((View.whole main_v0_0).slice (win0_7.rect (ptOf (i 0)))).set
    rw [View.set_slice_whole, Rect.mem_set_unit]
    exact Dense.in_rows i _ _ (congrArg (· * 512) (at7 _).1) (full7 _).1 (congrArg (· * 1024) (at7 _).2) (full7 _).2

theorem rows8 (t : Fin cfg0.N) : Forward.Block t.val (out0_8 (F := Ideal) (iblk m c 0 t) (iblk m c 1 t) (iblk m c 2 t) (iblk m c 3 t) (iblk m c 4 t) (iblk m c 5 t) (iblk m c 6 t)) (total8 m c) := by
  rw [out8_val, whole_w, whole_g]
  exact Forward.Block.resid ((block_f m c t).mul _) (block_x m c t) _

/-- The result array of window 8 after the run. -/
theorem final8 : (dats m 0 c).arrAt 8 cfg0.N = total8 m c := by
  refine (dats m 0 c).arrAt_eq_of_cover 8 (total8 m c) (fun t _ => ?_) fun i => ⟨ptOf (i 0), flush0_8 _, ?_⟩
  · rw [Value.flushed8]
    funext j
    rw [View.read_apply]
    exact (rows8 m c t).at j _ (lt16 t) (congrArg (· * 512 + 1 * (j 0).val) (at8 t).1) (congrArg (· * 1024 + 1 * (j 1).val) (at8 t).2)
  · show i ∈ ((View.whole main_v0_1).slice (win0_8.rect (ptOf (i 0)))).set
    rw [View.set_slice_whole, Rect.mem_set_unit]
    exact Dense.in_rows i _ _ (congrArg (· * 512) (at8 _).1) (full8 _).1 (congrArg (· * 1024) (at8 _).2) (full8 _).2

theorem rows9 (t : Fin cfg0.N) : Forward.Block t.val (out0_9 (F := Ideal) (iblk m c 0 t) (iblk m c 1 t) (iblk m c 2 t) (iblk m c 3 t) (iblk m c 4 t) (iblk m c 5 t) (iblk m c 6 t)) (total9 m c) := by
  rw [out9_val, whole_w, whole_g, whole_nw, whole_sc, whole_sh]
  exact Forward.Block.normed (Forward.Block.resid ((block_f m c t).mul _) (block_x m c t) _) _ _ _

/-- The result array of window 9 after the run. -/
theorem final9 : (dats m 0 c).arrAt 9 cfg0.N = total9 m c := by
  refine (dats m 0 c).arrAt_eq_of_cover 9 (total9 m c) (fun t _ => ?_) fun i => ⟨ptOf (i 0), flush0_9 _, ?_⟩
  · rw [Value.flushed9]
    funext j
    rw [View.read_apply]
    exact (rows9 m c t).at j _ (lt16 t) (congrArg (· * 512 + 1 * (j 0).val) (at9 t).1) (congrArg (· * 1024 + 1 * (j 1).val) (at9 t).2)
  · show i ∈ ((View.whole main_v0_2).slice (win0_9.rect (ptOf (i 0)))).set
    rw [View.set_slice_whole, Rect.mem_set_unit]
    exact Dense.in_rows i _ _ (congrArg (· * 512) (at9 _).1) (full9 _).1 (congrArg (· * 1024) (at9 _).2) (full9 _).2

end

end

/-! ## The claims -/

section
open Cert.Down0ReferenceIdeal Cert.Down0ReferenceIdeal.Facts₀

/-- The reference's product. -/
theorem ref_mm (X : FVec Ideal S8192x2816 .bf16) (W : FVec Ideal S2816x1024 .bf16) :
    Host.dotGeneral dot_S8192x2816_S2816x1024_S8192x1024_1_0_0_1_n_n none (extf .f32 X bitsLt_bf16_f32) (extf .f32 W bitsLt_bf16_f32) = Forward.mul X W :=
  funext fun i => Products.dot_nn (M := 8192) (K := 2816) (N := 1024) _ (extf .f32 X bitsLt_bf16_f32) (extf .f32 W bitsLt_bf16_f32) i

/-- Its residual. -/
theorem ref_resid (Y X : FVec Ideal S8192x1024 .f32) (g : FVec Ideal S1x1024 .f32) :
    addf X (mulf (broadcastInDim S8192x1024 ![0, 1] bcast_S1x1024_S8192x1024_0_1 g) Y) = Forward.resid Y X g :=
  Forward.resid_host (M := 8192) (N := 1024) Y X g _ (by decide)

/-- Its norm. -/
theorem ref_norm (X : FVec Ideal S8192x1024 .f32) (nw sc sh : FVec Ideal S1x1024 .f32) :
    truncf .bf16 (addf (mulf (mulf (mulf X (broadcastInDim S8192x1024 ![0, 1] bcast_S8192x1_S8192x1024_0_1 (Host.rsqrt (addf (Host.divf
      (broadcastInDim S8192x1 ![0] bcast_S8192_S8192x1_0 (Host.reduceAdd (mulf X X) (constant S_ .f32 0x00000000#32) reducesTo_S8192x1024_S8192_d1 h_S_))
      (broadcastInDim S8192x1 ![] bcast_S_S8192x1 (constant S_ .f32 0x44800000#32))) (broadcastInDim S8192x1 ![] bcast_S_S8192x1 (constant S_ .f32 0x358637BD#32))))))
      (broadcastInDim S8192x1024 ![0, 1] bcast_S1x1024_S8192x1024_0_1 nw)) (broadcastInDim S8192x1024 ![0, 1] bcast_S1x1024_S8192x1024_0_1
        (addf (broadcastInDim S1x1024 ![] bcast_S_S1x1024 (constant S_ .f32 0x3F800000#32)) sc)))
      (broadcastInDim S8192x1024 ![0, 1] bcast_S1x1024_S8192x1024_0_1 sh)) bitsLt_bf16_f32 = Forward.normed X nw sc sh :=
  Forward.normed_host (M := 8192) X nw sc sh (by decide) _ _ _ _ _ _ _ _ _ _

end

theorem frame_p : Cert.quiescent_Down0 := fun m ρ _ => Cert.Down0.Gen.frame m ρ
theorem frame_pi : Cert.quiescent_Down0Ideal := fun m ρ _ => Cert.Down0Ideal.Gen.frame m ρ
theorem frame_ri : Cert.quiescent_Down0ReferenceIdeal := fun m ρ _ =>
  (θ_run Cert.Down0ReferenceIdeal.defs _ _).mono (fun r h => ⟨fun c => (h c).2.2.2, sem_eq_zero_of_no_sems (by decide) r.2⟩)
    (Cert.Down0ReferenceIdeal.Value.run (F := Ideal) m ρ)
theorem preserves : Cert.preserves_Down0_Down0Ideal := trivial

/-- The call's results are the reference's. -/
theorem algebraic : Cert.algebraic_Down0Ideal_Down0ReferenceIdeal := by
  intro m g m' g' _ hagree
  refine ⟨fun c => total7 m c, fun c => total8 m c, fun c => total9 m c, ?_, ?_⟩
  · exact (θ_run Cert.Down0Ideal.defs _ _).mono (fun r h c => ⟨(h c).1.trans (final7 m c), (h c).2.1.trans (final8 m c), (h c).2.2.1.trans (final9 m c), (h c).2.2.2⟩)
      (Cert.Down0Ideal.Value.run_blocks (F := Ideal) m g)
  · refine (θ_run Cert.Down0ReferenceIdeal.defs _ _).mono (fun r h c => ⟨(h c).1.trans ?_, (h c).2.1.trans ?_, (h c).2.2.1.trans ?_, (h c).2.2.2⟩)
      (Cert.Down0ReferenceIdeal.Value.run (F := Ideal) m' g')
    · rw [(hagree c).1, (hagree c).2.1]
      exact ref_mm _ _
    · rw [(hagree c).1, (hagree c).2.1, (hagree c).2.2.1, (hagree c).2.2.2.1]
      exact (ref_resid _ _ _).trans (by rw [ref_mm]; rfl)
    · rw [(hagree c).1, (hagree c).2.1, (hagree c).2.2.1, (hagree c).2.2.2.1, (hagree c).2.2.2.2.1, (hagree c).2.2.2.2.2.1, (hagree c).2.2.2.2.2.2]
      exact (ref_norm _ _ _ _).trans (by rw [ref_resid, ref_mm]; rfl)

end Down0

end
-- ==== Proof.OutProj.lean ====
/- The first layer's output product over the two branches with the gated residual, and the next norm and modulation, 512 rows per grid point. -/
module

public import proofs.«01_k».proof.Defs
public import proofs.«01_k».proof.Proof.Forward
public import proofs.«01_k».proof.Proof.Gen.OutProj.Frame
public import proofs.«01_k».proof.Proof.Gen.OutProjIdeal.Value
public import proofs.«01_k».proof.Proof.Gen.OutProjReferenceIdeal.Run
public import Idealize.ShloMosaic.Lib.Pipeline.ReadBack
public import Idealize.ShloMosaic.Lib.Quiescent
public import Idealize.ShloMosaic.Lib.Claim

@[expose] public section

set_option maxRecDepth 16384

noncomputable section

open Idealize.ShloMosaic Idealize.ShloMosaic.TcCoe Idealize.ShloMosaic.ValueIdx Idealize.SL.Sem

namespace OutProj

section
open Cert.OutProjIdeal Cert.OutProjIdeal.Gen

/-! ## One point's blocks -/

theorem mm (x : FVec Ideal S512x1024 .bf16) (w : FVec Ideal S1024x1024 .bf16) :
    matmul dot_S512x1024_S1024x1024_S512x1024_1_0_0_1_n_n none x w (constant S512x1024 .f32 0x00000000#32) = Forward.mul x w :=
  funext fun i => Products.mm_nn (M := 512) (K := 1024) (N := 1024) _ x w i

section
variable (x0 : Vec Ideal S512x1024 .bf16) (x1 : Vec Ideal S512x1024 .bf16) (x2 : Vec Ideal S1024x1024 .bf16) (x3 : Vec Ideal S1024x1024 .bf16) (x4 : Vec Ideal S512x1024 .f32) (x5 : Vec Ideal S1x1024 .f32) (x6 : Vec Ideal S1x1024 .f32) (x7 : Vec Ideal S1x1024 .f32) (x8 : Vec Ideal S1x1024 .f32)

theorem prod_val : k0_pay2 (F := Ideal) x2 x0 x3 x1 = Forward.plus (Forward.mul x0 x2) (Forward.mul x1 x3) := by
  unfold k0_pay2
  simp only [shapeCast_self, mm]
  rfl

theorem resid_val : k0_pay3 (F := Ideal) x2 x0 x3 x1 x4 x5 = Forward.resid (Forward.plus (Forward.mul x0 x2) (Forward.mul x1 x3)) x4 x5 := by
  unfold k0_pay3
  rw [prod_val]
  exact Forward.resid_kernel (M := 512) (N := 1024) _ x4 x5 _ (by decide)

theorem norm_val : k0_pay1 (F := Ideal) (k0_pay4 (F := Ideal) x2 x0 x3 x1 x4 x5 x6 x7) (k0_pay5 (F := Ideal) x8) = Forward.normed (Forward.resid (Forward.plus (Forward.mul x0 x2) (Forward.mul x1 x3)) x4 x5) x6 x7 x8 := by
  unfold k0_pay1 k0_pay4 k0_pay5
  rw [resid_val]
  exact Forward.normed_kernel _ x6 x7 x8 _ _ _ _ _ _

/-- What a point leaves in the three results. -/
theorem out9_val : out0_9 (F := Ideal) x0 x1 x2 x3 x4 x5 x6 x7 x8 = Forward.plus (Forward.mul x0 x2) (Forward.mul x1 x3) := by
  unfold out0_9
  simp only [View.canon_unit_zero (S := S512x1024) Dense.zero2, View.ld_unit_zero (S := S512x1024) Dense.zero2, View.ld_unit_zero (S := S1024x1024) Dense.zero2, View.ld_unit_zero (S := S1x1024) Dense.zero2]
  exact prod_val x0 x1 x2 x3
theorem out10_val : out0_10 (F := Ideal) x0 x1 x2 x3 x4 x5 x6 x7 x8 = Forward.resid (Forward.plus (Forward.mul x0 x2) (Forward.mul x1 x3)) x4 x5 := by
  unfold out0_10
  simp only [View.canon_unit_zero (S := S512x1024) Dense.zero2, View.ld_unit_zero (S := S512x1024) Dense.zero2, View.ld_unit_zero (S := S1024x1024) Dense.zero2, View.ld_unit_zero (S := S1x1024) Dense.zero2]
  exact resid_val x0 x1 x2 x3 x4 x5
theorem out11_val : out0_11 (F := Ideal) x0 x1 x2 x3 x4 x5 x6 x7 x8 = Forward.normed (Forward.resid (Forward.plus (Forward.mul x0 x2) (Forward.mul x1 x3)) x4 x5) x6 x7 x8 := by
  unfold out0_11
  simp only [View.canon_unit_zero (S := S512x1024) Dense.zero2, View.ld_unit_zero (S := S512x1024) Dense.zero2, View.ld_unit_zero (S := S1024x1024) Dense.zero2, View.ld_unit_zero (S := S1x1024) Dense.zero2]
  exact norm_val x0 x1 x2 x3 x4 x5 x6 x7 x8

end

/-! ## The arrays -/

theorem at0 : ∀ t : Fin cfg0.N, win0_0.index t 0 = t.val ∧ win0_0.index t 1 = 0 :=
  (by decide +kernel : ∀ t : Fin grid0.N, win0_0.index t 0 = t.val ∧ win0_0.index t 1 = 0)
theorem at1 : ∀ t : Fin cfg0.N, win0_1.index t 0 = t.val ∧ win0_1.index t 1 = 0 :=
  (by decide +kernel : ∀ t : Fin grid0.N, win0_1.index t 0 = t.val ∧ win0_1.index t 1 = 0)
theorem at2 : ∀ t : Fin cfg0.N, win0_2.index t 0 = 0 ∧ win0_2.index t 1 = 0 :=
  (by decide +kernel : ∀ t : Fin grid0.N, win0_2.index t 0 = 0 ∧ win0_2.index t 1 = 0)
theorem at3 : ∀ t : Fin cfg0.N, win0_3.index t 0 = 0 ∧ win0_3.index t 1 = 0 :=
  (by decide +kernel : ∀ t : Fin grid0.N, win0_3.index t 0 = 0 ∧ win0_3.index t 1 = 0)
theorem at4 : ∀ t : Fin cfg0.N, win0_4.index t 0 = t.val ∧ win0_4.index t 1 = 0 :=
  (by decide +kernel : ∀ t : Fin grid0.N, win0_4.index t 0 = t.val ∧ win0_4.index t 1 = 0)
theorem at5 : ∀ t : Fin cfg0.N, win0_5.index t 0 = 0 ∧ win0_5.index t 1 = 0 :=
  (by decide +kernel : ∀ t : Fin grid0.N, win0_5.index t 0 = 0 ∧ win0_5.index t 1 = 0)
theorem at6 : ∀ t : Fin cfg0.N, win0_6.index t 0 = 0 ∧ win0_6.index t 1 = 0 :=
  (by decide +kernel : ∀ t : Fin grid0.N, win0_6.index t 0 = 0 ∧ win0_6.index t 1 = 0)
theorem at7 : ∀ t : Fin cfg0.N, win0_7.index t 0 = 0 ∧ win0_7.index t 1 = 0 :=
  (by decide +kernel : ∀ t : Fin grid0.N, win0_7.index t 0 = 0 ∧ win0_7.index t 1 = 0)
theorem at8 : ∀ t : Fin cfg0.N, win0_8.index t 0 = 0 ∧ win0_8.index t 1 = 0 :=
  (by decide +kernel : ∀ t : Fin grid0.N, win0_8.index t 0 = 0 ∧ win0_8.index t 1 = 0)
theorem at9 : ∀ t : Fin cfg0.N, win0_9.index t 0 = t.val ∧ win0_9.index t 1 = 0 :=
  (by decide +kernel : ∀ t : Fin grid0.N, win0_9.index t 0 = t.val ∧ win0_9.index t 1 = 0)
theorem full9 : ∀ t : Fin cfg0.N, win0_9.xsize (grid0.coords t) 0 = 512 ∧ win0_9.xsize (grid0.coords t) 1 = 1024 :=
  (by decide +kernel : ∀ t : Fin grid0.N, win0_9.xsize (grid0.coords t) 0 = 512 ∧ win0_9.xsize (grid0.coords t) 1 = 1024)
theorem at10 : ∀ t : Fin cfg0.N, win0_10.index t 0 = t.val ∧ win0_10.index t 1 = 0 :=
  (by decide +kernel : ∀ t : Fin grid0.N, win0_10.index t 0 = t.val ∧ win0_10.index t 1 = 0)
theorem full10 : ∀ t : Fin cfg0.N, win0_10.xsize (grid0.coords t) 0 = 512 ∧ win0_10.xsize (grid0.coords t) 1 = 1024 :=
  (by decide +kernel : ∀ t : Fin grid0.N, win0_10.xsize (grid0.coords t) 0 = 512 ∧ win0_10.xsize (grid0.coords t) 1 = 1024)
theorem at11 : ∀ t : Fin cfg0.N, win0_11.index t 0 = t.val ∧ win0_11.index t 1 = 0 :=
  (by decide +kernel : ∀ t : Fin grid0.N, win0_11.index t 0 = t.val ∧ win0_11.index t 1 = 0)
theorem full11 : ∀ t : Fin cfg0.N, win0_11.xsize (grid0.coords t) 0 = 512 ∧ win0_11.xsize (grid0.coords t) 1 = 1024 :=
  (by decide +kernel : ∀ t : Fin grid0.N, win0_11.xsize (grid0.coords t) 0 = 512 ∧ win0_11.xsize (grid0.coords t) 1 = 1024)

theorem lt16 (t : Fin cfg0.N) : t.val < 16 := Nat.lt_of_lt_of_eq t.isLt N_0

/-- The point whose block holds row `r`. -/
def ptOf (r : Fin 8192) : Fin cfg0.N := ⟨r.val / 512, by
  have h := r.isLt
  rw [show cfg0.N = 16 from N_0]; omega⟩

section
variable (m : (ℓ : Loc nD τ sig) → Buf (Elt Ideal) ℓ) (c : Dev nD)

/-- The call's arguments at launch. -/
abbrev ya : S8192x1024.Idx → EReal := m ((c : Thread nD τ).loc main_arg0)
abbrev yb : S8192x1024.Idx → EReal := m ((c : Thread nD τ).loc main_arg1)
abbrev w : S2048x1024.Idx → EReal := m ((c : Thread nD τ).loc main_arg2)
abbrev x : S8192x1024.Idx → EReal := m ((c : Thread nD τ).loc main_arg3)
abbrev g : S1x1024.Idx → EReal := m ((c : Thread nD τ).loc main_arg4)
abbrev nw : S1x1024.Idx → EReal := m ((c : Thread nD τ).loc main_arg5)
abbrev sc : S1x1024.Idx → EReal := m ((c : Thread nD τ).loc main_arg6)
abbrev sh : S1x1024.Idx → EReal := m ((c : Thread nD τ).loc main_arg7)

/-- The weights' two halves, as the host hands them to the call. -/
abbrev wa : S1024x1024.Idx → EReal := Products.part 0 1024 (by decide) (w m c)
abbrev wb : S1024x1024.Idx → EReal := Products.part 1024 1024 (by decide) (w m c)

theorem host_wa : (V m c main_v0 : S1024x1024.Idx → EReal) = wa m c := by
  entry_read
  exact Products.slice_rows 0 1024 _ (w m c) slices_S2048x1024_S1024x1024_0_0
theorem host_wb : (V m c main_v1 : S1024x1024.Idx → EReal) = wb m c := by
  entry_read
  exact Products.slice_rows 1024 1024 _ (w m c) slices_S2048x1024_S1024x1024_1024_0

theorem block_ya (t : Fin cfg0.N) : Forward.Block t.val (iblk m c 0 t : Vec Ideal S512x1024 .bf16) (ya m c) := fun k j => by
  unfold iblk
  rw [View.read_apply]
  show V m c main_arg0 _ = _
  rw [V_main_arg0]
  exact Products.rows_at (ya m c) _ t.val k j (lt16 t) (congrArg (· * 512 + 1 * k.val) (at0 t).1) (congrArg (· * 1024 + 1 * j.val) (at0 t).2)

theorem block_yb (t : Fin cfg0.N) : Forward.Block t.val (iblk m c 1 t : Vec Ideal S512x1024 .bf16) (yb m c) := fun k j => by
  unfold iblk
  rw [View.read_apply]
  show V m c main_arg1 _ = _
  rw [V_main_arg1]
  exact Products.rows_at (yb m c) _ t.val k j (lt16 t) (congrArg (· * 512 + 1 * k.val) (at1 t).1) (congrArg (· * 1024 + 1 * j.val) (at1 t).2)

theorem whole_wa (t : Fin cfg0.N) : (iblk m c 2 t : Vec Ideal S1024x1024 .bf16) = wa m c := funext fun i => by
  unfold iblk
  rw [View.read_apply]
  show V m c main_v0 _ = _
  rw [host_wa]
  exact (Products.whole_at (wa m c) _ (i 0) (i 1) (congrArg (· * 1024 + 1 * (i 0).val) (at2 t).1) (congrArg (· * 1024 + 1 * (i 1).val) (at2 t).2)).trans
    (congrArg (wa m c) (Products.at_eq i (i 0) (i 1) rfl rfl).symm)

theorem whole_wb (t : Fin cfg0.N) : (iblk m c 3 t : Vec Ideal S1024x1024 .bf16) = wb m c := funext fun i => by
  unfold iblk
  rw [View.read_apply]
  show V m c main_v1 _ = _
  rw [host_wb]
  exact (Products.whole_at (wb m c) _ (i 0) (i 1) (congrArg (· * 1024 + 1 * (i 0).val) (at3 t).1) (congrArg (· * 1024 + 1 * (i 1).val) (at3 t).2)).trans
    (congrArg (wb m c) (Products.at_eq i (i 0) (i 1) rfl rfl).symm)

theorem block_x (t : Fin cfg0.N) : Forward.Block t.val (iblk m c 4 t : Vec Ideal S512x1024 .f32) (x m c) := fun k j => by
  unfold iblk
  rw [View.read_apply]
  show V m c main_arg3 _ = _
  rw [V_main_arg3]
  exact Products.rows_at (x m c) _ t.val k j (lt16 t) (congrArg (· * 512 + 1 * k.val) (at4 t).1) (congrArg (· * 1024 + 1 * j.val) (at4 t).2)

theorem whole_g (t : Fin cfg0.N) : (iblk m c 5 t : Vec Ideal S1x1024 .f32) = g m c := funext fun i => by
  unfold iblk
  rw [View.read_apply]
  show V m c main_arg4 _ = _
  rw [V_main_arg4]
  exact (Products.whole_at (g m c) _ (i 0) (i 1) (congrArg (· * 1 + 1 * (i 0).val) (at5 t).1) (congrArg (· * 1024 + 1 * (i 1).val) (at5 t).2)).trans
    (congrArg (g m c) (Products.at_eq i (i 0) (i 1) rfl rfl).symm)

theorem whole_nw (t : Fin cfg0.N) : (iblk m c 6 t : Vec Ideal S1x1024 .f32) = nw m c := funext fun i => by
  unfold iblk
  rw [View.read_apply]
  show V m c main_arg5 _ = _
  rw [V_main_arg5]
  exact (Products.whole_at (nw m c) _ (i 0) (i 1) (congrArg (· * 1 + 1 * (i 0).val) (at6 t).1) (congrArg (· * 1024 + 1 * (i 1).val) (at6 t).2)).trans
    (congrArg (nw m c) (Products.at_eq i (i 0) (i 1) rfl rfl).symm)

theorem whole_sc (t : Fin cfg0.N) : (iblk m c 7 t : Vec Ideal S1x1024 .f32) = sc m c := funext fun i => by
  unfold iblk
  rw [View.read_apply]
  show V m c main_arg6 _ = _
  rw [V_main_arg6]
  exact (Products.whole_at (sc m c) _ (i 0) (i 1) (congrArg (· * 1 + 1 * (i 0).val) (at7 t).1) (congrArg (· * 1024 + 1 * (i 1).val) (at7 t).2)).trans
    (congrArg (sc m c) (Products.at_eq i (i 0) (i 1) rfl rfl).symm)

theorem whole_sh (t : Fin cfg0.N) : (iblk m c 8 t : Vec Ideal S1x1024 .f32) = sh m c := funext fun i => by
  unfold iblk
  rw [View.read_apply]
  show V m c main_arg7 _ = _
  rw [V_main_arg7]
  exact (Products.whole_at (sh m c) _ (i 0) (i 1) (congrArg (· * 1 + 1 * (i 0).val) (at8 t).1) (congrArg (· * 1024 + 1 * (i 1).val) (at8 t).2)).trans
    (congrArg (sh m c) (Products.at_eq i (i 0) (i 1) rfl rfl).symm)

/-- The results. -/
def total9 : (Products.Mat 8192 1024).Idx → EReal := Forward.plus (Forward.mul (ya m c) (wa m c)) (Forward.mul (yb m c) (wb m c))
def total10 : (Products.Mat 8192 1024).Idx → EReal := Forward.resid (Forward.plus (Forward.mul (ya m c) (wa m c)) (Forward.mul (yb m c) (wb m c))) (x m c) (g m c)
def total11 : (Products.Mat 8192 1024).Idx → EReal := Forward.normed (Forward.resid (Forward.plus (Forward.mul (ya m c) (wa m c)) (Forward.mul (yb m c) (wb m c))) (x m c) (g m c)) (nw m c) (sc m c) (sh m c)

theorem rows9 (t : Fin cfg0.N) : Forward.Block t.val (out0_9 (F := Ideal) (iblk m c 0 t) (iblk m c 1 t) (iblk m c 2 t) (iblk m c 3 t) (iblk m c 4 t) (iblk m c 5 t) (iblk m c 6 t) (iblk m c 7 t) (iblk m c 8 t)) (total9 m c) := by
  rw [out9_val, whole_wa, whole_wb]
  exact Forward.Block.plus ((block_ya m c t).mul _) ((block_yb m c t).mul _)

/-- The result array of window 9 after the run. -/
theorem final9 : (dats m 0 c).arrAt 9 cfg0.N = total9 m c := by
  refine (dats m 0 c).arrAt_eq_of_cover 9 (total9 m c) (fun t _ => ?_) fun i => ⟨ptOf (i 0), flush0_9 _, ?_⟩
  · rw [Value.flushed9]
    funext j
    rw [View.read_apply]
    exact (rows9 m c t).at j _ (lt16 t) (congrArg (· * 512 + 1 * (j 0).val) (at9 t).1) (congrArg (· * 1024 + 1 * (j 1).val) (at9 t).2)
  · show i ∈ ((View.whole main_v2_0).slice (win0_9.rect (ptOf (i 0)))).set
    rw [View.set_slice_whole, Rect.mem_set_unit]
    exact Dense.in_rows i _ _ (congrArg (· * 512) (at9 _).1) (full9 _).1 (congrArg (· * 1024) (at9 _).2) (full9 _).2

theorem rows10 (t : Fin cfg0.N) : Forward.Block t.val (out0_10 (F := Ideal) (iblk m c 0 t) (iblk m c 1 t) (iblk m c 2 t) (iblk m c 3 t) (iblk m c 4 t) (iblk m c 5 t) (iblk m c 6 t) (iblk m c 7 t) (iblk m c 8 t)) (total10 m c) := by
  rw [out10_val, whole_wa, whole_wb, whole_g]
  exact Forward.Block.resid (Forward.Block.plus ((block_ya m c t).mul _) ((block_yb m c t).mul _)) (block_x m c t) _

/-- The result array of window 10 after the run. -/
theorem final10 : (dats m 0 c).arrAt 10 cfg0.N = total10 m c := by
  refine (dats m 0 c).arrAt_eq_of_cover 10 (total10 m c) (fun t _ => ?_) fun i => ⟨ptOf (i 0), flush0_10 _, ?_⟩
  · rw [Value.flushed10]
    funext j
    rw [View.read_apply]
    exact (rows10 m c t).at j _ (lt16 t) (congrArg (· * 512 + 1 * (j 0).val) (at10 t).1) (congrArg (· * 1024 + 1 * (j 1).val) (at10 t).2)
  · show i ∈ ((View.whole main_v2_1).slice (win0_10.rect (ptOf (i 0)))).set
    rw [View.set_slice_whole, Rect.mem_set_unit]
    exact Dense.in_rows i _ _ (congrArg (· * 512) (at10 _).1) (full10 _).1 (congrArg (· * 1024) (at10 _).2) (full10 _).2

theorem rows11 (t : Fin cfg0.N) : Forward.Block t.val (out0_11 (F := Ideal) (iblk m c 0 t) (iblk m c 1 t) (iblk m c 2 t) (iblk m c 3 t) (iblk m c 4 t) (iblk m c 5 t) (iblk m c 6 t) (iblk m c 7 t) (iblk m c 8 t)) (total11 m c) := by
  rw [out11_val, whole_wa, whole_wb, whole_g, whole_nw, whole_sc, whole_sh]
  exact Forward.Block.normed (Forward.Block.resid (Forward.Block.plus ((block_ya m c t).mul _) ((block_yb m c t).mul _)) (block_x m c t) _) _ _ _

/-- The result array of window 11 after the run. -/
theorem final11 : (dats m 0 c).arrAt 11 cfg0.N = total11 m c := by
  refine (dats m 0 c).arrAt_eq_of_cover 11 (total11 m c) (fun t _ => ?_) fun i => ⟨ptOf (i 0), flush0_11 _, ?_⟩
  · rw [Value.flushed11]
    funext j
    rw [View.read_apply]
    exact (rows11 m c t).at j _ (lt16 t) (congrArg (· * 512 + 1 * (j 0).val) (at11 t).1) (congrArg (· * 1024 + 1 * (j 1).val) (at11 t).2)
  · show i ∈ ((View.whole main_v2_2).slice (win0_11.rect (ptOf (i 0)))).set
    rw [View.set_slice_whole, Rect.mem_set_unit]
    exact Dense.in_rows i _ _ (congrArg (· * 512) (at11 _).1) (full11 _).1 (congrArg (· * 1024) (at11 _).2) (full11 _).2

end

end

/-! ## The claims -/

section
open Cert.OutProjReferenceIdeal Cert.OutProjReferenceIdeal.Facts₀

/-- The reference's product of the two halves side by side. -/
theorem ref_mm (X Y : FVec Ideal S8192x1024 .bf16) (W : FVec Ideal S2048x1024 .bf16) :
    Host.dotGeneral dot_S8192x2048_S2048x1024_S8192x1024_1_0_0_1_n_n none
      (concatenate S8192x2048 1 [⟨S8192x1024, (extf .f32 X bitsLt_bf16_f32)⟩, ⟨S8192x1024, (extf .f32 Y bitsLt_bf16_f32)⟩] concatenates_S8192x1024_S8192x1024_S8192x2048_d1)
      (extf .f32 W bitsLt_bf16_f32)
      = Forward.plus (Forward.mul X (Products.part 0 1024 (by decide) W)) (Forward.mul Y (Products.part 1024 1024 (by decide) W)) := by
  funext i
  refine (Products.dot_nn (M := 8192) (K := 2048) (N := 1024) _ _ (extf .f32 W bitsLt_bf16_f32) i).trans ((Fin.sum_univ_add (a := 1024) (b := 1024) _).trans ?_)
  refine congrArg₂ (fun a b : EReal => a + b) ?_ ?_
  · refine Eq.trans (Finset.sum_congr rfl fun k _ => congrArg₂ (fun a b : EReal => a * b) ?_ ?_) (Forward.mul_part (M := 8192) (n := 1024) (N := 1024) 0 (by decide) X W i).symm
    · exact concatenate_pair_apply_left (t := S8192x2048) (s₁ := S8192x1024) (s₂ := S8192x1024) 1 (extf .f32 X bitsLt_bf16_f32) (extf .f32 Y bitsLt_bf16_f32) concatenates_S8192x1024_S8192x1024_S8192x2048_d1 (ix2 (i 0) _) rfl (ix2 (i 0) k) fun b => by match b with | ⟨0, _⟩ => rfl | ⟨1, _⟩ => rfl
    · exact congrArg W (Products.at_eq _ _ _ (Nat.zero_add k.val).symm rfl)
  · refine Eq.trans (Finset.sum_congr rfl fun k _ => congrArg₂ (fun a b : EReal => a * b) ?_ ?_) (Forward.mul_part (M := 8192) (n := 1024) (N := 1024) 1024 (by decide) Y W i).symm
    · exact concatenate_pair_apply_right (t := S8192x2048) (s₁ := S8192x1024) (s₂ := S8192x1024) 1 (extf .f32 X bitsLt_bf16_f32) (extf .f32 Y bitsLt_bf16_f32) concatenates_S8192x1024_S8192x1024_S8192x2048_d1 (ix2 (i 0) _) rfl rfl (ix2 (i 0) k)
        (fun b hb => by match b, hb with | ⟨0, _⟩, _ => rfl | ⟨1, _⟩, hb => exact absurd rfl hb) (Nat.add_comm k.val 1024)
    · exact congrArg W (Products.at_eq _ _ _ rfl rfl)

/-- Its residual. -/
theorem ref_resid (Y X : FVec Ideal S8192x1024 .f32) (g : FVec Ideal S1x1024 .f32) :
    addf X (mulf (broadcastInDim S8192x1024 ![0, 1] bcast_S1x1024_S8192x1024_0_1 g) Y) = Forward.resid Y X g :=
  Forward.resid_host (M := 8192) (N := 1024) Y X g _ (by decide)

/-- Its norm. -/
theorem ref_norm (X : FVec Ideal S8192x1024 .f32) (nw sc sh : FVec Ideal S1x1024 .f32) :
    truncf .bf16 (addf (mulf (mulf (mulf X (broadcastInDim S8192x1024 ![0, 1] bcast_S8192x1_S8192x1024_0_1 (Host.rsqrt (addf (Host.divf
      (broadcastInDim S8192x1 ![0] bcast_S8192_S8192x1_0 (Host.reduceAdd (mulf X X) (constant S_ .f32 0x00000000#32) reducesTo_S8192x1024_S8192_d1 h_S_))
      (broadcastInDim S8192x1 ![] bcast_S_S8192x1 (constant S_ .f32 0x44800000#32))) (broadcastInDim S8192x1 ![] bcast_S_S8192x1 (constant S_ .f32 0x358637BD#32))))))
      (broadcastInDim S8192x1024 ![0, 1] bcast_S1x1024_S8192x1024_0_1 nw)) (broadcastInDim S8192x1024 ![0, 1] bcast_S1x1024_S8192x1024_0_1
        (addf (broadcastInDim S1x1024 ![] bcast_S_S1x1024 (constant S_ .f32 0x3F800000#32)) sc)))
      (broadcastInDim S8192x1024 ![0, 1] bcast_S1x1024_S8192x1024_0_1 sh)) bitsLt_bf16_f32 = Forward.normed X nw sc sh :=
  Forward.normed_host (M := 8192) X nw sc sh (by decide) _ _ _ _ _ _ _ _ _ _

end

theorem frame_p : Cert.quiescent_OutProj := fun m ρ _ => Cert.OutProj.Gen.frame m ρ
theorem frame_pi : Cert.quiescent_OutProjIdeal := fun m ρ _ => Cert.OutProjIdeal.Gen.frame m ρ
theorem frame_ri : Cert.quiescent_OutProjReferenceIdeal := fun m ρ _ =>
  (θ_run Cert.OutProjReferenceIdeal.defs _ _).mono (fun r h => ⟨fun c => (h c).2.2.2, sem_eq_zero_of_no_sems (by decide) r.2⟩)
    (Cert.OutProjReferenceIdeal.Value.run (F := Ideal) m ρ)
theorem preserves : Cert.preserves_OutProj_OutProjIdeal := trivial

/-- The call's results are the reference's. -/
theorem algebraic : Cert.algebraic_OutProjIdeal_OutProjReferenceIdeal := by
  intro m g m' g' _ hagree
  refine ⟨fun c => total9 m c, fun c => total10 m c, fun c => total11 m c, ?_, ?_⟩
  · exact (θ_run Cert.OutProjIdeal.defs _ _).mono (fun r h c => ⟨(h c).1.trans (final9 m c), (h c).2.1.trans (final10 m c), (h c).2.2.1.trans (final11 m c), (h c).2.2.2⟩)
      (Cert.OutProjIdeal.Value.run_blocks (F := Ideal) m g)
  · refine (θ_run Cert.OutProjReferenceIdeal.defs _ _).mono (fun r h c => ⟨(h c).1.trans ?_, (h c).2.1.trans ?_, (h c).2.2.1.trans ?_, (h c).2.2.2⟩)
      (Cert.OutProjReferenceIdeal.Value.run (F := Ideal) m' g')
    · rw [(hagree c).1, (hagree c).2.1, (hagree c).2.2.1]
      exact ref_mm _ _ _
    · rw [(hagree c).1, (hagree c).2.1, (hagree c).2.2.1, (hagree c).2.2.2.1, (hagree c).2.2.2.2.1]
      exact (ref_resid _ _ _).trans (by rw [ref_mm]; rfl)
    · rw [(hagree c).1, (hagree c).2.1, (hagree c).2.2.1, (hagree c).2.2.2.1, (hagree c).2.2.2.2.1, (hagree c).2.2.2.2.2.1, (hagree c).2.2.2.2.2.2.1, (hagree c).2.2.2.2.2.2.2]
      exact (ref_norm _ _ _ _).trans (by rw [ref_resid, ref_mm]; rfl)

end OutProj

end
-- ==== Proof.OProj.lean ====
/- The attention's output product with its bias and the gated residual, and the next norm and modulation, 512 rows per grid point. -/
module

public import proofs.«01_k».proof.Defs
public import proofs.«01_k».proof.Proof.Forward
public import proofs.«01_k».proof.Proof.Gen.OProj.Frame
public import proofs.«01_k».proof.Proof.Gen.OProjIdeal.Value
public import proofs.«01_k».proof.Proof.Gen.OProjReferenceIdeal.Run
public import Idealize.ShloMosaic.Lib.Pipeline.ReadBack
public import Idealize.ShloMosaic.Lib.Quiescent
public import Idealize.ShloMosaic.Lib.Claim

@[expose] public section

set_option maxRecDepth 16384

noncomputable section

open Idealize.ShloMosaic Idealize.ShloMosaic.TcCoe Idealize.ShloMosaic.ValueIdx Idealize.SL.Sem

namespace OProj

section
open Cert.OProjIdeal Cert.OProjIdeal.Gen

/-! ## One point's blocks -/

theorem mm (x : FVec Ideal S512x1024 .bf16) (w : FVec Ideal S1024x1024 .bf16) :
    matmul dot_S512x1024_S1024x1024_S512x1024_1_0_0_1_n_n none x w (constant S512x1024 .f32 0x00000000#32) = Forward.mul x w :=
  funext fun i => Products.mm_nn (M := 512) (K := 1024) (N := 1024) _ x w i

section
variable (x0 : Vec Ideal S512x1024 .bf16) (x1 : Vec Ideal S1024x1024 .bf16) (x2 : Vec Ideal S512x1024 .f32) (x3 : Vec Ideal S1x1024 .f32) (x4 : Vec Ideal S1x1024 .f32) (x5 : Vec Ideal S1x1024 .f32) (x6 : Vec Ideal S1x1024 .f32) (x7 : Vec Ideal S1x1024 .f32)

theorem prod_val : k0_pay2 (F := Ideal) x1 x0 x4 = Forward.biased (Forward.mul x0 x1) x4 := by
  unfold k0_pay2
  simp only [shapeCast_self, mm]
  exact Forward.biased_kernel (M := 512) (N := 1024) _ x4 _ (by decide)

theorem resid_val : k0_pay3 (F := Ideal) x1 x0 x2 x3 x4 = Forward.resid (Forward.biased (Forward.mul x0 x1) x4) x2 x3 := by
  unfold k0_pay3
  rw [prod_val]
  exact Forward.resid_kernel (M := 512) (N := 1024) _ x2 x3 _ (by decide)

theorem norm_val : k0_pay1 (F := Ideal) (k0_pay4 (F := Ideal) x1 x0 x2 x3 x4 x5 x6 x7) = Forward.normed (Forward.resid (Forward.biased (Forward.mul x0 x1) x4) x2 x3) x5 x6 x7 := by
  unfold k0_pay1 k0_pay4
  rw [resid_val]
  exact Forward.normed_kernel _ x5 x6 x7 _ _ _ _ _ _

/-- What a point leaves in the three results. -/
theorem out8_val : out0_8 (F := Ideal) x0 x1 x2 x3 x4 x5 x6 x7 = Forward.biased (Forward.mul x0 x1) x4 := by
  unfold out0_8
  simp only [View.canon_unit_zero (S := S512x1024) Dense.zero2, View.ld_unit_zero (S := S512x1024) Dense.zero2, View.ld_unit_zero (S := S1024x1024) Dense.zero2, View.ld_unit_zero (S := S1x1024) Dense.zero2]
  exact prod_val x0 x1 x4
theorem out9_val : out0_9 (F := Ideal) x0 x1 x2 x3 x4 x5 x6 x7 = Forward.resid (Forward.biased (Forward.mul x0 x1) x4) x2 x3 := by
  unfold out0_9
  simp only [View.canon_unit_zero (S := S512x1024) Dense.zero2, View.ld_unit_zero (S := S512x1024) Dense.zero2, View.ld_unit_zero (S := S1024x1024) Dense.zero2, View.ld_unit_zero (S := S1x1024) Dense.zero2]
  exact resid_val x0 x1 x2 x3 x4
theorem out10_val : out0_10 (F := Ideal) x0 x1 x2 x3 x4 x5 x6 x7 = Forward.normed (Forward.resid (Forward.biased (Forward.mul x0 x1) x4) x2 x3) x5 x6 x7 := by
  unfold out0_10
  simp only [View.canon_unit_zero (S := S512x1024) Dense.zero2, View.ld_unit_zero (S := S512x1024) Dense.zero2, View.ld_unit_zero (S := S1024x1024) Dense.zero2, View.ld_unit_zero (S := S1x1024) Dense.zero2]
  exact norm_val x0 x1 x2 x3 x4 x5 x6 x7

end

/-! ## The arrays -/

theorem at0 : ∀ t : Fin cfg0.N, win0_0.index t 0 = t.val ∧ win0_0.index t 1 = 0 :=
  (by decide +kernel : ∀ t : Fin grid0.N, win0_0.index t 0 = t.val ∧ win0_0.index t 1 = 0)
theorem at1 : ∀ t : Fin cfg0.N, win0_1.index t 0 = 0 ∧ win0_1.index t 1 = 0 :=
  (by decide +kernel : ∀ t : Fin grid0.N, win0_1.index t 0 = 0 ∧ win0_1.index t 1 = 0)
theorem at2 : ∀ t : Fin cfg0.N, win0_2.index t 0 = t.val ∧ win0_2.index t 1 = 0 :=
  (by decide +kernel : ∀ t : Fin grid0.N, win0_2.index t 0 = t.val ∧ win0_2.index t 1 = 0)
theorem at3 : ∀ t : Fin cfg0.N, win0_3.index t 0 = 0 ∧ win0_3.index t 1 = 0 :=
  (by decide +kernel : ∀ t : Fin grid0.N, win0_3.index t 0 = 0 ∧ win0_3.index t 1 = 0)
theorem at4 : ∀ t : Fin cfg0.N, win0_4.index t 0 = 0 ∧ win0_4.index t 1 = 0 :=
  (by decide +kernel : ∀ t : Fin grid0.N, win0_4.index t 0 = 0 ∧ win0_4.index t 1 = 0)
theorem at5 : ∀ t : Fin cfg0.N, win0_5.index t 0 = 0 ∧ win0_5.index t 1 = 0 :=
  (by decide +kernel : ∀ t : Fin grid0.N, win0_5.index t 0 = 0 ∧ win0_5.index t 1 = 0)
theorem at6 : ∀ t : Fin cfg0.N, win0_6.index t 0 = 0 ∧ win0_6.index t 1 = 0 :=
  (by decide +kernel : ∀ t : Fin grid0.N, win0_6.index t 0 = 0 ∧ win0_6.index t 1 = 0)
theorem at7 : ∀ t : Fin cfg0.N, win0_7.index t 0 = 0 ∧ win0_7.index t 1 = 0 :=
  (by decide +kernel : ∀ t : Fin grid0.N, win0_7.index t 0 = 0 ∧ win0_7.index t 1 = 0)
theorem at8 : ∀ t : Fin cfg0.N, win0_8.index t 0 = t.val ∧ win0_8.index t 1 = 0 :=
  (by decide +kernel : ∀ t : Fin grid0.N, win0_8.index t 0 = t.val ∧ win0_8.index t 1 = 0)
theorem full8 : ∀ t : Fin cfg0.N, win0_8.xsize (grid0.coords t) 0 = 512 ∧ win0_8.xsize (grid0.coords t) 1 = 1024 :=
  (by decide +kernel : ∀ t : Fin grid0.N, win0_8.xsize (grid0.coords t) 0 = 512 ∧ win0_8.xsize (grid0.coords t) 1 = 1024)
theorem at9 : ∀ t : Fin cfg0.N, win0_9.index t 0 = t.val ∧ win0_9.index t 1 = 0 :=
  (by decide +kernel : ∀ t : Fin grid0.N, win0_9.index t 0 = t.val ∧ win0_9.index t 1 = 0)
theorem full9 : ∀ t : Fin cfg0.N, win0_9.xsize (grid0.coords t) 0 = 512 ∧ win0_9.xsize (grid0.coords t) 1 = 1024 :=
  (by decide +kernel : ∀ t : Fin grid0.N, win0_9.xsize (grid0.coords t) 0 = 512 ∧ win0_9.xsize (grid0.coords t) 1 = 1024)
theorem at10 : ∀ t : Fin cfg0.N, win0_10.index t 0 = t.val ∧ win0_10.index t 1 = 0 :=
  (by decide +kernel : ∀ t : Fin grid0.N, win0_10.index t 0 = t.val ∧ win0_10.index t 1 = 0)
theorem full10 : ∀ t : Fin cfg0.N, win0_10.xsize (grid0.coords t) 0 = 512 ∧ win0_10.xsize (grid0.coords t) 1 = 1024 :=
  (by decide +kernel : ∀ t : Fin grid0.N, win0_10.xsize (grid0.coords t) 0 = 512 ∧ win0_10.xsize (grid0.coords t) 1 = 1024)

theorem lt16 (t : Fin cfg0.N) : t.val < 16 := Nat.lt_of_lt_of_eq t.isLt N_0

/-- The point whose block holds row `r`. -/
def ptOf (r : Fin 8192) : Fin cfg0.N := ⟨r.val / 512, by
  have h := r.isLt
  rw [show cfg0.N = 16 from N_0]; omega⟩

section
variable (m : (ℓ : Loc nD τ sig) → Buf (Elt Ideal) ℓ) (c : Dev nD)

/-- The call's arguments at launch. -/
abbrev att : S8192x1024.Idx → EReal := m ((c : Thread nD τ).loc main_arg0)
abbrev w : S1024x1024.Idx → EReal := m ((c : Thread nD τ).loc main_arg1)
abbrev x : S8192x1024.Idx → EReal := m ((c : Thread nD τ).loc main_arg2)
abbrev g : S1x1024.Idx → EReal := m ((c : Thread nD τ).loc main_arg3)
abbrev b : S1x1024.Idx → EReal := m ((c : Thread nD τ).loc main_arg4)
abbrev nw : S1x1024.Idx → EReal := m ((c : Thread nD τ).loc main_arg5)
abbrev sc : S1x1024.Idx → EReal := m ((c : Thread nD τ).loc main_arg6)
abbrev sh : S1x1024.Idx → EReal := m ((c : Thread nD τ).loc main_arg7)

theorem block_att (t : Fin cfg0.N) : Forward.Block t.val (iblk m c 0 t : Vec Ideal S512x1024 .bf16) (att m c) := fun k j => by
  unfold iblk
  rw [View.read_apply]
  show V m c main_arg0 _ = _
  rw [V_main_arg0]
  exact Products.rows_at (att m c) _ t.val k j (lt16 t) (congrArg (· * 512 + 1 * k.val) (at0 t).1) (congrArg (· * 1024 + 1 * j.val) (at0 t).2)

theorem whole_w (t : Fin cfg0.N) : (iblk m c 1 t : Vec Ideal S1024x1024 .bf16) = w m c := funext fun i => by
  unfold iblk
  rw [View.read_apply]
  show V m c main_arg1 _ = _
  rw [V_main_arg1]
  exact (Products.whole_at (w m c) _ (i 0) (i 1) (congrArg (· * 1024 + 1 * (i 0).val) (at1 t).1) (congrArg (· * 1024 + 1 * (i 1).val) (at1 t).2)).trans
    (congrArg (w m c) (Products.at_eq i (i 0) (i 1) rfl rfl).symm)

theorem block_x (t : Fin cfg0.N) : Forward.Block t.val (iblk m c 2 t : Vec Ideal S512x1024 .f32) (x m c) := fun k j => by
  unfold iblk
  rw [View.read_apply]
  show V m c main_arg2 _ = _
  rw [V_main_arg2]
  exact Products.rows_at (x m c) _ t.val k j (lt16 t) (congrArg (· * 512 + 1 * k.val) (at2 t).1) (congrArg (· * 1024 + 1 * j.val) (at2 t).2)

theorem whole_g (t : Fin cfg0.N) : (iblk m c 3 t : Vec Ideal S1x1024 .f32) = g m c := funext fun i => by
  unfold iblk
  rw [View.read_apply]
  show V m c main_arg3 _ = _
  rw [V_main_arg3]
  exact (Products.whole_at (g m c) _ (i 0) (i 1) (congrArg (· * 1 + 1 * (i 0).val) (at3 t).1) (congrArg (· * 1024 + 1 * (i 1).val) (at3 t).2)).trans
    (congrArg (g m c) (Products.at_eq i (i 0) (i 1) rfl rfl).symm)

theorem whole_b (t : Fin cfg0.N) : (iblk m c 4 t : Vec Ideal S1x1024 .f32) = b m c := funext fun i => by
  unfold iblk
  rw [View.read_apply]
  show V m c main_arg4 _ = _
  rw [V_main_arg4]
  exact (Products.whole_at (b m c) _ (i 0) (i 1) (congrArg (· * 1 + 1 * (i 0).val) (at4 t).1) (congrArg (· * 1024 + 1 * (i 1).val) (at4 t).2)).trans
    (congrArg (b m c) (Products.at_eq i (i 0) (i 1) rfl rfl).symm)

theorem whole_nw (t : Fin cfg0.N) : (iblk m c 5 t : Vec Ideal S1x1024 .f32) = nw m c := funext fun i => by
  unfold iblk
  rw [View.read_apply]
  show V m c main_arg5 _ = _
  rw [V_main_arg5]
  exact (Products.whole_at (nw m c) _ (i 0) (i 1) (congrArg (· * 1 + 1 * (i 0).val) (at5 t).1) (congrArg (· * 1024 + 1 * (i 1).val) (at5 t).2)).trans
    (congrArg (nw m c) (Products.at_eq i (i 0) (i 1) rfl rfl).symm)

theorem whole_sc (t : Fin cfg0.N) : (iblk m c 6 t : Vec Ideal S1x1024 .f32) = sc m c := funext fun i => by
  unfold iblk
  rw [View.read_apply]
  show V m c main_arg6 _ = _
  rw [V_main_arg6]
  exact (Products.whole_at (sc m c) _ (i 0) (i 1) (congrArg (· * 1 + 1 * (i 0).val) (at6 t).1) (congrArg (· * 1024 + 1 * (i 1).val) (at6 t).2)).trans
    (congrArg (sc m c) (Products.at_eq i (i 0) (i 1) rfl rfl).symm)

theorem whole_sh (t : Fin cfg0.N) : (iblk m c 7 t : Vec Ideal S1x1024 .f32) = sh m c := funext fun i => by
  unfold iblk
  rw [View.read_apply]
  show V m c main_arg7 _ = _
  rw [V_main_arg7]
  exact (Products.whole_at (sh m c) _ (i 0) (i 1) (congrArg (· * 1 + 1 * (i 0).val) (at7 t).1) (congrArg (· * 1024 + 1 * (i 1).val) (at7 t).2)).trans
    (congrArg (sh m c) (Products.at_eq i (i 0) (i 1) rfl rfl).symm)

/-- The results. -/
def total8 : (Products.Mat 8192 1024).Idx → EReal := Forward.biased (Forward.mul (att m c) (w m c)) (b m c)
def total9 : (Products.Mat 8192 1024).Idx → EReal := Forward.resid (Forward.biased (Forward.mul (att m c) (w m c)) (b m c)) (x m c) (g m c)
def total10 : (Products.Mat 8192 1024).Idx → EReal := Forward.normed (Forward.resid (Forward.biased (Forward.mul (att m c) (w m c)) (b m c)) (x m c) (g m c)) (nw m c) (sc m c) (sh m c)

theorem rows8 (t : Fin cfg0.N) : Forward.Block t.val (out0_8 (F := Ideal) (iblk m c 0 t) (iblk m c 1 t) (iblk m c 2 t) (iblk m c 3 t) (iblk m c 4 t) (iblk m c 5 t) (iblk m c 6 t) (iblk m c 7 t)) (total8 m c) := by
  rw [out8_val, whole_w, whole_b]
  exact Forward.Block.biased ((block_att m c t).mul _) _

/-- The result array of window 8 after the run. -/
theorem final8 : (dats m 0 c).arrAt 8 cfg0.N = total8 m c := by
  refine (dats m 0 c).arrAt_eq_of_cover 8 (total8 m c) (fun t _ => ?_) fun i => ⟨ptOf (i 0), flush0_8 _, ?_⟩
  · rw [Value.flushed8]
    funext j
    rw [View.read_apply]
    exact (rows8 m c t).at j _ (lt16 t) (congrArg (· * 512 + 1 * (j 0).val) (at8 t).1) (congrArg (· * 1024 + 1 * (j 1).val) (at8 t).2)
  · show i ∈ ((View.whole main_v0_0).slice (win0_8.rect (ptOf (i 0)))).set
    rw [View.set_slice_whole, Rect.mem_set_unit]
    exact Dense.in_rows i _ _ (congrArg (· * 512) (at8 _).1) (full8 _).1 (congrArg (· * 1024) (at8 _).2) (full8 _).2

theorem rows9 (t : Fin cfg0.N) : Forward.Block t.val (out0_9 (F := Ideal) (iblk m c 0 t) (iblk m c 1 t) (iblk m c 2 t) (iblk m c 3 t) (iblk m c 4 t) (iblk m c 5 t) (iblk m c 6 t) (iblk m c 7 t)) (total9 m c) := by
  rw [out9_val, whole_w, whole_b, whole_g]
  exact Forward.Block.resid (Forward.Block.biased ((block_att m c t).mul _) _) (block_x m c t) _

/-- The result array of window 9 after the run. -/
theorem final9 : (dats m 0 c).arrAt 9 cfg0.N = total9 m c := by
  refine (dats m 0 c).arrAt_eq_of_cover 9 (total9 m c) (fun t _ => ?_) fun i => ⟨ptOf (i 0), flush0_9 _, ?_⟩
  · rw [Value.flushed9]
    funext j
    rw [View.read_apply]
    exact (rows9 m c t).at j _ (lt16 t) (congrArg (· * 512 + 1 * (j 0).val) (at9 t).1) (congrArg (· * 1024 + 1 * (j 1).val) (at9 t).2)
  · show i ∈ ((View.whole main_v0_1).slice (win0_9.rect (ptOf (i 0)))).set
    rw [View.set_slice_whole, Rect.mem_set_unit]
    exact Dense.in_rows i _ _ (congrArg (· * 512) (at9 _).1) (full9 _).1 (congrArg (· * 1024) (at9 _).2) (full9 _).2

theorem rows10 (t : Fin cfg0.N) : Forward.Block t.val (out0_10 (F := Ideal) (iblk m c 0 t) (iblk m c 1 t) (iblk m c 2 t) (iblk m c 3 t) (iblk m c 4 t) (iblk m c 5 t) (iblk m c 6 t) (iblk m c 7 t)) (total10 m c) := by
  rw [out10_val, whole_w, whole_b, whole_g, whole_nw, whole_sc, whole_sh]
  exact Forward.Block.normed (Forward.Block.resid (Forward.Block.biased ((block_att m c t).mul _) _) (block_x m c t) _) _ _ _

/-- The result array of window 10 after the run. -/
theorem final10 : (dats m 0 c).arrAt 10 cfg0.N = total10 m c := by
  refine (dats m 0 c).arrAt_eq_of_cover 10 (total10 m c) (fun t _ => ?_) fun i => ⟨ptOf (i 0), flush0_10 _, ?_⟩
  · rw [Value.flushed10]
    funext j
    rw [View.read_apply]
    exact (rows10 m c t).at j _ (lt16 t) (congrArg (· * 512 + 1 * (j 0).val) (at10 t).1) (congrArg (· * 1024 + 1 * (j 1).val) (at10 t).2)
  · show i ∈ ((View.whole main_v0_2).slice (win0_10.rect (ptOf (i 0)))).set
    rw [View.set_slice_whole, Rect.mem_set_unit]
    exact Dense.in_rows i _ _ (congrArg (· * 512) (at10 _).1) (full10 _).1 (congrArg (· * 1024) (at10 _).2) (full10 _).2

end

end

/-! ## The claims -/

section
open Cert.OProjReferenceIdeal Cert.OProjReferenceIdeal.Facts₀

/-- The reference's product with its bias. -/
theorem ref_mm (X : FVec Ideal S8192x1024 .bf16) (W : FVec Ideal S1024x1024 .bf16) (b : FVec Ideal S1x1024 .f32) :
    addf (Host.dotGeneral dot_S8192x1024_S1024x1024_S8192x1024_1_0_0_1_n_n none (extf .f32 X bitsLt_bf16_f32) (extf .f32 W bitsLt_bf16_f32))
      (broadcastInDim S8192x1024 ![0, 1] bcast_S1x1024_S8192x1024_0_1 b) = Forward.biased (Forward.mul X W) b := by
  have h : Host.dotGeneral dot_S8192x1024_S1024x1024_S8192x1024_1_0_0_1_n_n none (extf .f32 X bitsLt_bf16_f32) (extf .f32 W bitsLt_bf16_f32) = Forward.mul X W :=
    funext fun i => Products.dot_nn (M := 8192) (K := 1024) (N := 1024) _ (extf .f32 X bitsLt_bf16_f32) (extf .f32 W bitsLt_bf16_f32) i
  rw [h]
  exact Forward.biased_host (M := 8192) (N := 1024) _ b _ (by decide)

/-- Its residual. -/
theorem ref_resid (Y X : FVec Ideal S8192x1024 .f32) (g : FVec Ideal S1x1024 .f32) :
    addf X (mulf (broadcastInDim S8192x1024 ![0, 1] bcast_S1x1024_S8192x1024_0_1 g) Y) = Forward.resid Y X g :=
  Forward.resid_host (M := 8192) (N := 1024) Y X g _ (by decide)

/-- Its norm. -/
theorem ref_norm (X : FVec Ideal S8192x1024 .f32) (nw sc sh : FVec Ideal S1x1024 .f32) :
    truncf .bf16 (addf (mulf (mulf (mulf X (broadcastInDim S8192x1024 ![0, 1] bcast_S8192x1_S8192x1024_0_1 (Host.rsqrt (addf (Host.divf
      (broadcastInDim S8192x1 ![0] bcast_S8192_S8192x1_0 (Host.reduceAdd (mulf X X) (constant S_ .f32 0x00000000#32) reducesTo_S8192x1024_S8192_d1 h_S_))
      (broadcastInDim S8192x1 ![] bcast_S_S8192x1 (constant S_ .f32 0x44800000#32))) (broadcastInDim S8192x1 ![] bcast_S_S8192x1 (constant S_ .f32 0x358637BD#32))))))
      (broadcastInDim S8192x1024 ![0, 1] bcast_S1x1024_S8192x1024_0_1 nw)) (broadcastInDim S8192x1024 ![0, 1] bcast_S1x1024_S8192x1024_0_1
        (addf (broadcastInDim S1x1024 ![] bcast_S_S1x1024 (constant S_ .f32 0x3F800000#32)) sc)))
      (broadcastInDim S8192x1024 ![0, 1] bcast_S1x1024_S8192x1024_0_1 sh)) bitsLt_bf16_f32 = Forward.normed X nw sc sh :=
  Forward.normed_host (M := 8192) X nw sc sh (by decide) _ _ _ _ _ _ _ _ _ _

end

theorem frame_p : Cert.quiescent_OProj := fun m ρ _ => Cert.OProj.Gen.frame m ρ
theorem frame_pi : Cert.quiescent_OProjIdeal := fun m ρ _ => Cert.OProjIdeal.Gen.frame m ρ
theorem frame_ri : Cert.quiescent_OProjReferenceIdeal := fun m ρ _ =>
  (θ_run Cert.OProjReferenceIdeal.defs _ _).mono (fun r h => ⟨fun c => (h c).2.2.2, sem_eq_zero_of_no_sems (by decide) r.2⟩)
    (Cert.OProjReferenceIdeal.Value.run (F := Ideal) m ρ)
theorem preserves : Cert.preserves_OProj_OProjIdeal := trivial

/-- The call's results are the reference's. -/
theorem algebraic : Cert.algebraic_OProjIdeal_OProjReferenceIdeal := by
  intro m g m' g' _ hagree
  refine ⟨fun c => total8 m c, fun c => total9 m c, fun c => total10 m c, ?_, ?_⟩
  · exact (θ_run Cert.OProjIdeal.defs _ _).mono (fun r h c => ⟨(h c).1.trans (final8 m c), (h c).2.1.trans (final9 m c), (h c).2.2.1.trans (final10 m c), (h c).2.2.2⟩)
      (Cert.OProjIdeal.Value.run_blocks (F := Ideal) m g)
  · refine (θ_run Cert.OProjReferenceIdeal.defs _ _).mono (fun r h c => ⟨(h c).1.trans ?_, (h c).2.1.trans ?_, (h c).2.2.1.trans ?_, (h c).2.2.2⟩)
      (Cert.OProjReferenceIdeal.Value.run (F := Ideal) m' g')
    · rw [(hagree c).1, (hagree c).2.1, (hagree c).2.2.2.2.1]
      exact ref_mm _ _ _
    · rw [(hagree c).1, (hagree c).2.1, (hagree c).2.2.1, (hagree c).2.2.2.1, (hagree c).2.2.2.2.1]
      exact (ref_resid _ _ _).trans (by rw [ref_mm]; rfl)
    · rw [(hagree c).1, (hagree c).2.1, (hagree c).2.2.1, (hagree c).2.2.2.1, (hagree c).2.2.2.2.1, (hagree c).2.2.2.2.2.1, (hagree c).2.2.2.2.2.2.1, (hagree c).2.2.2.2.2.2.2]
      exact (ref_norm _ _ _ _).trans (by rw [ref_resid, ref_mm]; rfl)

end OProj

end
-- ==== Proof.ColSum.lean ====
/- The host's sum down the columns of a matrix. -/
module

public import proofs.«01_k».proof.Proof.Products
import Idealize.ShloMosaic.Lib.Pointwise.Reduce

@[expose] public section

noncomputable section

open Idealize.ShloMosaic

namespace RootNorm

theorem col_total {M N : ℕ} (v : FVec Ideal (Products.Mat M N) .f32) (hr : (Products.Mat M N).ReducesTo [0] ⟨1, ![N]⟩) {u : Shape} (hu : 0 < u.numel)
    (j : Fin N) : Host.reduceAdd v (constant (F := Ideal) u .f32 0x00000000#32) hr hu (ValueIdx.ix1 j) = (∑ k : Fin M, v (ValueIdx.ix2 k j) : EReal) := by
  refine (Ideal.hostReduceAdd_r2_a0 hr v _ (ValueIdx.ix1 j)).trans ?_
  refine (congrArg (fun a : EReal => a + _) Ideal.ofBits_zero_f32).trans ((zero_add _).trans ?_)
  refine Finset.sum_congr rfl fun k _ => congrArg v (funext fun a => ?_)
  match a with
  | ⟨0, _⟩ => rfl
  | ⟨1, _⟩ => rfl

end RootNorm

end
-- ==== Proof.RootNorm.lean ====
/- The gradient of the root mean square norm and its modulation, on matrices of any number of rows: as the kernel writes it, and why
   it is the chain rule's. -/
module

public import proofs.«01_k».proof.Proof.Forward
public import proofs.«01_k».proof.Proof.ColSum
public import proofs.«01_k».proof.Proof.Consts
public import Idealize.ShloMosaic.Lib.IdealHost

@[expose] public section

noncomputable section

open Idealize.ShloMosaic Idealize.ShloMosaic.TcCoe Idealize.ShloMosaic.ValueIdx Idealize.SL.Sem

namespace RootNorm

open Products Forward

variable {M N : ℕ}

/-! ## The functions -/

/-- The sum of a row's squares. -/
def sq (X : (Mat M 1024).Idx → EReal) (r : Fin M) : EReal := ∑ k : Fin 1024, X (ix2 r k) * X (ix2 r k)
/-- The normed rows. -/
def hat (X : (Mat M 1024).Idx → EReal) : (Mat M 1024).Idx → EReal := fun i => X i * rms (sq X (i 0))
/-- The gradient before the scale. -/
def dn (D : (Mat M 1024).Idx → EReal) (sc : (Mat 1 1024).Idx → EReal) : (Mat M 1024).Idx → EReal := fun i =>
  D i * (Ideal.ofBits .f32 0x3F800000#32 + sc (ix2 0 (i 1)))
/-- The gradient before the weight. -/
def dw (D : (Mat M 1024).Idx → EReal) (nw sc : (Mat 1 1024).Idx → EReal) : (Mat M 1024).Idx → EReal := fun i => dn D sc i * nw (ix2 0 (i 1))
/-- A row's mean of gradient times normed entry. -/
def mean (X D : (Mat M 1024).Idx → EReal) (nw sc : (Mat 1 1024).Idx → EReal) (r : Fin M) : EReal :=
  Ideal.div (∑ k : Fin 1024, dw D nw sc (ix2 r k) * hat X (ix2 r k)) (Ideal.ofBits .f32 0x44800000#32)
/-- The gradient of the rows, with what the residual brings. -/
def dx (X D Z : (Mat M 1024).Idx → EReal) (nw sc : (Mat 1 1024).Idx → EReal) : (Mat M 1024).Idx → EReal := fun i =>
  Z i + rms (sq X (i 0)) * (dw D nw sc i - hat X i * mean X D nw sc (i 0))
/-- What every entry adds to the scale's gradient, -/
def byScale (X D : (Mat M 1024).Idx → EReal) (nw : (Mat 1 1024).Idx → EReal) : (Mat M 1024).Idx → EReal := fun i => D i * (hat X i * nw (ix2 0 (i 1)))
/-- and to the weight's. -/
def byWeight (X D : (Mat M 1024).Idx → EReal) (sc : (Mat 1 1024).Idx → EReal) : (Mat M 1024).Idx → EReal := fun i => dn D sc i * hat X i
/-- The sum of the rows. -/
def col (F : (Mat M N).Idx → EReal) : (Mat 1 N).Idx → EReal := fun i => ∑ k : Fin M, F (ix2 k (i 1))
/-- The sum of the first `n` blocks' rows. -/
def colUpTo (B : ℕ) (F : (Mat 8192 N).Idx → EReal) (n : ℕ) : (Mat 1 N).Idx → EReal := fun i =>
  ∑ T ∈ Finset.range n, ∑ k : Fin B, F (ix2 (blockRow B T k) (i 1))

theorem colUpTo_none (B : ℕ) (F : (Mat 8192 N).Idx → EReal) : (fun _ => 0) = colUpTo B F 0 := funext fun _ => (Finset.sum_range_zero _).symm

theorem colUpTo_all (B n : ℕ) (h : n * B = 8192) (F : (Mat 8192 N).Idx → EReal) : colUpTo B F n = col F := funext fun i => row_sum B n h fun r => F (ix2 r (i 1))

/-! ## Blocks of rows -/

/-- A block of `B` rows of an array. -/
def Rows {B : ℕ} (t : ℕ) (x : (Mat B N).Idx → EReal) (X : (Mat 8192 N).Idx → EReal) : Prop := ∀ k j, x (ix2 k j) = X (ix2 (blockRow B t k) j)

theorem Rows.at {B t : ℕ} {x : (Mat B N).Idx → EReal} {X : (Mat 8192 N).Idx → EReal} (h : Rows t x X) (j : (Mat B N).Idx) (q : (Mat 8192 N).Idx)
    (ht : t * B + B ≤ 8192) (h0 : (q 0).val = t * B + 1 * (j 0).val) (h1 : (q 1).val = 0 * N + 1 * (j 1).val) : x j = X q :=
  (congrArg x (at_eq j (j 0) (j 1) rfl rfl)).trans ((h (j 0) (j 1)).trans (blocks_at X q t (j 0) (j 1) ht h0 h1).symm)

/-- One block more. -/
theorem colUpTo_step {B : ℕ} (n : ℕ) (F : (Mat 8192 N).Idx → EReal) (z : (Mat 1 N).Idx → EReal) (f : (Mat B N).Idx → EReal)
    (hz : z = colUpTo B F n) (hf : Rows n f F) : (fun i => z i + col f i) = colUpTo B F (n + 1) := by
  funext i
  rw [hz]
  refine Eq.trans ?_ (Finset.sum_range_succ _ _).symm
  exact congrArg (colUpTo B F n i + ·) (Finset.sum_congr rfl fun k _ => hf k _)

section
variable {B t : ℕ} {x d z : (Mat B 1024).Idx → EReal} {X D Z : (Mat 8192 1024).Idx → EReal}

theorem sq_block (h : Rows t x X) (k : Fin B) : sq x k = sq X (blockRow B t k) :=
  Finset.sum_congr rfl fun l _ => congrArg₂ (fun a b : EReal => a * b) (h k l) (h k l)

theorem hat_block (h : Rows t x X) : Rows t (hat x) (hat X) := fun k j =>
  congrArg₂ (fun a b : EReal => a * rms b) (h k j) (sq_block h k)

theorem dn_block (h : Rows t d D) (sc : (Mat 1 1024).Idx → EReal) : Rows t (dn d sc) (dn D sc) := fun k j =>
  congrArg (fun a : EReal => a * (Ideal.ofBits .f32 0x3F800000#32 + sc (ix2 0 j))) (h k j)

theorem dw_block (h : Rows t d D) (nw sc : (Mat 1 1024).Idx → EReal) : Rows t (dw d nw sc) (dw D nw sc) := fun k j =>
  congrArg (fun a : EReal => a * nw (ix2 0 j)) (dn_block h sc k j)

theorem mean_block (h : Rows t x X) (h' : Rows t d D) (nw sc : (Mat 1 1024).Idx → EReal) (k : Fin B) : mean x d nw sc k = mean X D nw sc (blockRow B t k) :=
  congrArg (fun a : EReal => Ideal.div a (Ideal.ofBits .f32 0x44800000#32))
    (Finset.sum_congr rfl fun l _ => congrArg₂ (fun a b : EReal => a * b) (dw_block h' nw sc k l) (hat_block h k l))

theorem dx_block (h : Rows t x X) (h' : Rows t d D) (h'' : Rows t z Z) (nw sc : (Mat 1 1024).Idx → EReal) : Rows t (dx x d z nw sc) (dx X D Z nw sc) := fun k j => by
  show z (ix2 k j) + rms (sq x k) * (dw d nw sc (ix2 k j) - hat x (ix2 k j) * mean x d nw sc k) = _
  rw [h'' k j, sq_block h k, dw_block h' nw sc k j, hat_block h k j, mean_block h h' nw sc k]
  rfl

theorem byScale_block (h : Rows t x X) (h' : Rows t d D) (nw : (Mat 1 1024).Idx → EReal) : Rows t (byScale x d nw) (byScale X D nw) := fun k j =>
  congrArg₂ (fun a b : EReal => a * (b * nw (ix2 0 j))) (h' k j) (hat_block h k j)

theorem byWeight_block (h : Rows t x X) (h' : Rows t d D) (sc : (Mat 1 1024).Idx → EReal) : Rows t (byWeight x d sc) (byWeight X D sc) := fun k j =>
  congrArg₂ (fun a b : EReal => a * b) (dn_block h' sc k j) (hat_block h k j)

end

/-! ## As the kernel and the host write them -/

theorem lanes_kernel {B : ℕ} (v : FVec Ideal (Mat B 1024) .f32) (hr : (Mat B 1024).Reduces [1] ⟨1, ![B]⟩) (hs) (j : (Mat B 1).Idx) :
    shapeCast (Mat B 1) (multiReduction .add [1] ⟨1, ![B]⟩ v 0x00000000#32 hr (.inl rfl) rfl) hs j = (∑ k : Fin 1024, v (ix2 (j 0) k) : EReal) := by
  refine (shapeCast_apply _ _ j (ix1 (j 0)) ?_).trans ?_
  · have h1 : (j 1 : ℕ) < 1 := (j 1).isLt
    rw [Shape.rowMajor_val_one, Shape.rowMajor_val_two]
    show (j 0 : ℕ) = (j 0 : ℕ) * 1 + (j 1 : ℕ)
    omega
  · refine (Ideal.multiReduction_add_single _ _ _ _ _ _).trans ?_
    refine Finset.sum_congr rfl fun (k : Fin 1024) _ => congrArg v (at_eq _ (j 0) k ?_ ?_)
    · rfl
    · rfl

theorem col_kernel {B : ℕ} (v : FVec Ideal (Mat B 1024) .f32) (hr : (Mat B 1024).Reduces [0] ⟨1, ![1024]⟩) (hs) :
    shapeCast (Mat 1 1024) (multiReduction .add [0] ⟨1, ![1024]⟩ v 0x00000000#32 hr (.inl rfl) rfl) hs = col v := by
  funext j
  refine (shapeCast_apply _ _ j (ix1 (j 1)) ?_).trans ?_
  · have h0 : (j 0 : ℕ) < 1 := (j 0).isLt
    rw [Shape.rowMajor_val_one, Shape.rowMajor_val_two]
    show (j 1 : ℕ) = (j 0 : ℕ) * 1024 + (j 1 : ℕ)
    omega
  · refine (Ideal.multiReduction_add_single _ _ _ _ _ _).trans ?_
    refine Finset.sum_congr rfl fun (k : Fin B) _ => congrArg v (at_eq _ k (j 1) ?_ ?_)
    · rfl
    · rfl

theorem col_host (v : FVec Ideal (Mat 8192 1024) .f32) (hr : (Mat 8192 1024).ReducesTo [0] ⟨1, ![1024]⟩) {u : Shape} (hu : 0 < u.numel) (hs) :
    shapeCast (Mat 1 1024) (Host.reduceAdd v (constant (F := Ideal) u .f32 0x00000000#32) hr hu) hs = col v := by
  funext j
  refine (shapeCast_apply _ _ j (ix1 (j 1)) ?_).trans (col_total v hr hu (j 1))
  have h0 : (j 0 : ℕ) < 1 := (j 0).isLt
  rw [Shape.rowMajor_val_one, Shape.rowMajor_val_two]
  show (j 1 : ℕ) = (j 0 : ℕ) * 1024 + (j 1 : ℕ)
  omega

/-! ## The chain rule -/

/-- The chain rule's factor of `x`, twice of which is added: the root's derivative by the mean square, times the row's sum. -/
def tail (s v : EReal) : EReal :=
  Ideal.div (s * (Ideal.ofBits .f32 0xBF000000#32 * Ideal.div (rms v) (Ideal.div v (Ideal.ofBits .f32 0x44800000#32) + Ideal.ofBits .f32 0x358637BD#32)))
    (Ideal.ofBits .f32 0x44800000#32)

theorem square_nonneg (a : EReal) : 0 ≤ a * a := by
  induction a with
  | bot => rw [EReal.bot_mul_bot]; exact le_top
  | top => rw [EReal.top_mul_top]; exact le_top
  | coe r => rw [← EReal.coe_mul]; exact EReal.coe_nonneg.mpr (mul_self_nonneg r)

/-- A row with an infinite entry has an infinite sum of squares, -/
theorem squares_top (x : Fin 1024 → EReal) (k : Fin 1024) (h : x k = ⊤ ∨ x k = ⊥) : ∑ l, x l * x l = ⊤ := by
  have hk : x k * x k = ⊤ := by
    rcases h with h | h <;> rw [h]
    · exact EReal.top_mul_top
    · exact EReal.bot_mul_bot
  refine top_le_iff.mp (hk ▸ Finset.single_le_sum (f := fun l => x l * x l) (fun l _ => square_nonneg (x l)) (Finset.mem_univ k))

/-- so its factor is zero. -/
theorem rms_top : rms ⊤ = 0 := by
  unfold rms
  rw [Gating.lanes_lit, Gating.eps_lit, Ideal.div_coe (by norm_num), EReal.top_mul_coe_of_pos (by norm_num), EReal.top_add_coe]
  rfl

theorem tail_top (s : EReal) : tail s ⊤ = 0 := by
  unfold tail
  rw [rms_top, Gating.lanes_lit, Gating.eps_lit, Ideal.div_coe (by norm_num) ⊤, EReal.top_mul_coe_of_pos (by norm_num), EReal.top_add_coe,
    Ideal.zero_div (by simp), mul_zero, mul_zero, Ideal.zero_div (by simp)]

theorem sum_real_mul {n : ℕ} (r : ℝ) (hr : 0 ≤ r) (f : Fin n → EReal) (s : Finset (Fin n)) : ∑ k ∈ s, f k * (r : EReal) = (∑ k ∈ s, f k) * (r : EReal) := by
  induction s using Finset.induction_on with
  | empty => simp
  | insert a s ha ih =>
    rw [Finset.sum_insert ha, Finset.sum_insert ha, ih, EReal.right_distrib_of_nonneg_of_ne_top (EReal.coe_nonneg.mpr hr) (EReal.coe_ne_top r)]

theorem twice (y : EReal) : y + y = y * ((2 : ℝ) : EReal) := by
  have h : ((2 : ℝ) : EReal) = 1 + 1 := by rw [← EReal.coe_one, ← EReal.coe_add]; norm_num
  rw [h, EReal.left_distrib_of_nonneg zero_le_one zero_le_one, mul_one]

/-- One entry: what the kernel adds and what the chain rule adds are equal, whatever the numbers. -/
theorem entry_eq (x g : Fin 1024 → EReal) (z : EReal) (j : Fin 1024) :
    z + rms (∑ k, x k * x k) * (g j - x j * rms (∑ k, x k * x k) * Ideal.div (∑ k, g k * (x k * rms (∑ k, x k * x k))) (Ideal.ofBits .f32 0x44800000#32)) =
      z + g j * rms (∑ k, x k * x k) + x j * tail (∑ k, x k * g k) (∑ k, x k * x k) + tail (∑ k, x k * g k) (∑ k, x k * x k) * x j := by
  by_cases hx : ∃ k, x k = ⊤ ∨ x k = ⊥
  · obtain ⟨k, hk⟩ := hx
    rw [squares_top x k hk, rms_top, tail_top]
    simp
  · have hf : ∀ k, x k = ((x k).toReal : EReal) := fun k =>
      (EReal.coe_toReal (fun h => hx ⟨k, .inl h⟩) (fun h => hx ⟨k, .inr h⟩)).symm
    generalize hy : (fun k => (x k).toReal) = y
    have hxy : x = fun k => (y k : EReal) := funext fun k => (hf k).trans (congrArg (fun r : ℝ => (r : EReal)) (congrFun hy k))
    subst hxy
    have hs : (∑ k, (y k : EReal) * (y k : EReal)) = ((∑ k, y k * y k : ℝ) : EReal) := by
      rw [← Gating.sum_fin]; exact Finset.sum_congr rfl fun k _ => (EReal.coe_mul _ _).symm
    have hp : 0 < (∑ k, y k * y k) / 1024 + Gating.eps :=
      add_pos_of_nonneg_of_pos (div_nonneg (Finset.sum_nonneg fun k _ => mul_self_nonneg _) (by norm_num)) Gating.eps_pos
    rw [hs]
    generalize (∑ k, y k * y k) = v at hp ⊢
    have hv : Ideal.div (v : EReal) (Ideal.ofBits .f32 0x44800000#32) + Ideal.ofBits .f32 0x358637BD#32 = ((v / 1024 + Gating.eps : ℝ) : EReal) := by
      rw [Gating.lanes_lit, Gating.eps_lit, Gating.div_fin _ (by norm_num)]; exact (EReal.coe_add _ _).symm
    have hr : rms (v : EReal) = (((Real.sqrt (v / 1024 + Gating.eps))⁻¹ : ℝ) : EReal) := by
      unfold rms; rw [hv, Gating.rsqrt_fin hp]
    unfold tail
    rw [hv, hr]
    have h0 : 0 ≤ (Real.sqrt (v / 1024 + Gating.eps))⁻¹ := inv_nonneg.mpr (Real.sqrt_nonneg _)
    have hq : (Real.sqrt (v / 1024 + Gating.eps))⁻¹ * (Real.sqrt (v / 1024 + Gating.eps))⁻¹ = (v / 1024 + Gating.eps)⁻¹ := by
      rw [← mul_inv, Real.mul_self_sqrt hp.le]
    generalize (Real.sqrt (v / 1024 + Gating.eps))⁻¹ = r at h0 hq ⊢
    have h1 : (∑ k, g k * ((y k : EReal) * (r : EReal))) = (∑ k, (y k : EReal) * g k) * (r : EReal) := by
      rw [← sum_real_mul r h0]
      exact Finset.sum_congr rfl fun k _ => by rw [← mul_assoc, mul_comm (g k)]
    rw [h1]
    generalize (∑ k, (y k : EReal) * g k) = S
    generalize g j = G
    dsimp only
    generalize y j = a
    rw [Gating.lanes_lit, Gating.negHalf_lit, Gating.div_fin r hp.ne', ← EReal.coe_mul (-(1 / 2)), Ideal.div_coe (by norm_num), Ideal.div_coe (by norm_num),
      div_eq_mul_inv r, ← hq, mul_comm _ (a : EReal), add_assoc, twice, add_assoc]
    refine congrArg (fun b : EReal => z + b) ?_
    have e1 : (a : EReal) * (r : EReal) * (S * (r : EReal) * ((1 / 1024 : ℝ) : EReal)) = S * ((a * r * (r * (1 / 1024)) : ℝ) : EReal) := by
      rw [EReal.coe_mul, EReal.coe_mul a, EReal.coe_mul r, mul_assoc S, mul_left_comm]
    have e2 : (a : EReal) * (S * ((-(1 / 2) * (r * (r * r)) : ℝ) : EReal) * ((1 / 1024 : ℝ) : EReal)) * ((2 : ℝ) : EReal) =
        S * ((-(r * (a * r * (r * (1 / 1024)))) : ℝ) : EReal) := by
      rw [mul_assoc S, mul_left_comm, mul_assoc S, ← EReal.coe_mul, ← EReal.coe_mul, ← EReal.coe_mul]
      exact congrArg (fun b : ℝ => S * (b : EReal)) (by ring)
    rw [e1, e2, sub_eq_add_neg, EReal.left_distrib_of_nonneg_of_ne_top (EReal.coe_nonneg.mpr h0) (EReal.coe_ne_top r), mul_comm (r : EReal) G,
      ← mul_neg, mul_left_comm, ← EReal.coe_neg, ← EReal.coe_mul]
    exact congrArg (fun b : ℝ => G * (r : EReal) + S * (b : EReal)) (by ring)

/-- The rows' gradient as the chain rule writes it. -/
theorem dx_chain (X D Z : (Mat M 1024).Idx → EReal) (nw sc : (Mat 1 1024).Idx → EReal) (r : Fin M) (j : Fin 1024) :
    dx X D Z nw sc (ix2 r j) = Z (ix2 r j) + dw D nw sc (ix2 r j) * rms (sq X r) + X (ix2 r j) * tail (∑ k : Fin 1024, X (ix2 r k) * dw D nw sc (ix2 r k)) (sq X r) +
      tail (∑ k : Fin 1024, X (ix2 r k) * dw D nw sc (ix2 r k)) (sq X r) * X (ix2 r j) :=
  entry_eq (fun k => X (ix2 r k)) (fun k => dw D nw sc (ix2 r k)) (Z (ix2 r j)) j

end RootNorm

end
-- ==== Proof.NormGrad.lean ====
/- The gradient of the first norm and its modulation: the rows' gradient block by block, the gradients of shift, scale and weight as sums
   over the rows, added up from block to block. -/
module

public import proofs.«01_k».proof.Defs
public import proofs.«01_k».proof.Proof.RootNorm
public import proofs.«01_k».proof.Proof.Gen.NormGrad.Frame
public import proofs.«01_k».proof.Proof.Gen.NormGradIdeal.Value
public import proofs.«01_k».proof.Proof.Gen.NormGradReferenceIdeal.Run
public import Idealize.ShloMosaic.Lib.Pipeline.ReadBack
public import Idealize.ShloMosaic.Lib.Quiescent
public import Idealize.ShloMosaic.Lib.Claim

@[expose] public section

set_option maxRecDepth 16384

noncomputable section

open Idealize.ShloMosaic Idealize.ShloMosaic.TcCoe Idealize.ShloMosaic.ValueIdx Idealize.SL.Sem

namespace NormGrad

section
open Cert.NormGradIdeal Cert.NormGradIdeal.Gen

/-! ## One point's payloads -/

section
variable (x d z : Vec Ideal S512x1024 .f32) (nw sc acc : Vec Ideal S1x1024 .f32)

theorem root_val (j : S512x1.Idx) : k0_pay7 (F := Ideal) x j = Forward.rms (RootNorm.sq x (j 0)) := by
  unfold k0_pay7
  exact congrArg Forward.rms (Forward.lane_sum (mulf (F := Ideal) (φ := .f32) x x) _ _ j)

theorem hat_val : k0_pay8 (F := Ideal) x = RootNorm.hat x := by
  funext i
  unfold k0_pay8
  exact congrArg (fun a : EReal => x i * a) ((Forward.col_apply (M := 512) (N := 1024) (k0_pay7 (F := Ideal) x) _ (by decide) i).trans (root_val x _))

theorem dn_val : k0_pay9 (F := Ideal) d sc = RootNorm.dn d sc := by
  funext i
  unfold k0_pay9
  exact congrArg (fun a : EReal => d i * a) (Forward.row_apply (M := 512) (N := 1024) _ _ (by decide) i)

theorem dx_val : k0_pay10 (F := Ideal) x d z nw sc = RootNorm.dx x d z nw sc := by
  funext i
  unfold k0_pay10
  rw [hat_val, dn_val]
  have hw : mulf (F := Ideal) (φ := .f32) (RootNorm.dn d sc) (broadcastTo S512x1024 nw broadcasts_S1x1024_S512x1024) = RootNorm.dw d nw sc :=
    funext fun j => congrArg (fun a : EReal => RootNorm.dn d sc j * a) (Forward.row_apply (M := 512) (N := 1024) nw _ (by decide) j)
  dsimp only
  rw [hw]
  refine congrArg₂ (fun a b : EReal => z i + a * (RootNorm.dw d nw sc i - RootNorm.hat x i * b))
    ((Forward.col_apply (M := 512) (N := 1024) (k0_pay7 (F := Ideal) x) _ (by decide) i).trans (root_val x _)) ?_
  refine (Forward.col_apply (M := 512) (N := 1024) _ _ (by decide) i).trans ?_
  exact congrArg (fun a : EReal => Ideal.div a (Ideal.ofBits .f32 0x44800000#32))
    (Forward.lane_sum (mulf (F := Ideal) (φ := .f32) (RootNorm.dw d nw sc) (RootNorm.hat x)) _ _ _)

theorem shift_val : k0_pay4 (F := Ideal) (k0_pay11 (F := Ideal) d) acc = fun i => (acc i + RootNorm.col d i : EReal) := by
  unfold k0_pay4 k0_pay11
  simp only [shapeCast_self]
  exact funext fun i => congrArg (fun a : EReal => acc i + a) (congrFun (RootNorm.col_kernel d _ _) i)

theorem scale_val : k0_pay5 (F := Ideal) (k0_pay12 (F := Ideal) x d nw) acc = fun i => (acc i + RootNorm.col (RootNorm.byScale x d nw) i : EReal) := by
  have hw : mulf (F := Ideal) (φ := .f32) d (mulf (F := Ideal) (φ := .f32) (RootNorm.hat x) (broadcastTo S512x1024 nw broadcasts_S1x1024_S512x1024)) =
      RootNorm.byScale x d nw :=
    funext fun j => congrArg (fun a : EReal => d j * (RootNorm.hat x j * a)) (Forward.row_apply (M := 512) (N := 1024) nw _ (by decide) j)
  unfold k0_pay5 k0_pay12
  rw [hat_val]
  dsimp only
  rw [hw]
  simp only [shapeCast_self]
  exact funext fun i => congrArg (fun a : EReal => acc i + a) (congrFun (RootNorm.col_kernel (RootNorm.byScale x d nw) _ _) i)

theorem weight_val : k0_pay6 (F := Ideal) (k0_pay13 (F := Ideal) x d sc) acc = fun i => (acc i + RootNorm.col (RootNorm.byWeight x d sc) i : EReal) := by
  unfold k0_pay6 k0_pay13
  rw [hat_val, dn_val]
  simp only [shapeCast_self]
  exact funext fun i => congrArg (fun a : EReal => acc i + a) (congrFun (RootNorm.col_kernel (RootNorm.byWeight x d sc) _ _) i)

end

theorem zero1 : k0_pay1 (F := Ideal) = fun _ => (0 : EReal) := funext fun _ => Ideal.ofBits_zero_f32
theorem zero2 : k0_pay2 (F := Ideal) = fun _ => (0 : EReal) := funext fun _ => Ideal.ofBits_zero_f32
theorem zero3 : k0_pay3 (F := Ideal) = fun _ => (0 : EReal) := funext fun _ => Ideal.ofBits_zero_f32

/-! ## What a point leaves -/

section
variable (c : Dev nD) (i : grid0.Coords)
  (a1 : Memref sig .tc .vmem S512x1024 .f32) (h1 : a1.IsWhole) (a2 : Memref sig .tc .vmem S512x1024 .f32) (h2 : a2.IsWhole)
  (a3 : Memref sig .tc .vmem S512x1024 .f32) (h3 : a3.IsWhole) (a4 : Memref sig .tc .vmem S1x1024 .f32) (h4 : a4.IsWhole)
  (a5 : Memref sig .tc .vmem S1x1024 .f32) (h5 : a5.IsWhole) (a6 : Memref sig .tc .vmem S512x1024 .f32) (h6 : a6.IsWhole)
  (a7 : Memref sig .tc .vmem S1x1024 .f32) (h7 : a7.IsWhole) (a8 : Memref sig .tc .vmem S1x1024 .f32) (h8 : a8.IsWhole)
  (a9 : Memref sig .tc .vmem S1x1024 .f32) (h9 : a9.IsWhole)
  (x d z : Vec Ideal S512x1024 .f32) (nw sc p q r : Vec Ideal S1x1024 .f32)

theorem ld_rows {e : EltTy} (y : Vec Ideal S512x1024 e) (h) : View.ld y (Rect.unit ![0, 0] ![512, 1024] h : Rect S512x1024) = y :=
  View.ld_unit_zero (S := S512x1024) Dense.zero2 _ _
theorem ld_row {e : EltTy} (y : Vec Ideal S1x1024 e) (h) : View.ld y (Rect.unit ![0, 0] ![1, 1024] h : Rect S1x1024) = y :=
  View.ld_unit_zero (S := S1x1024) Dense.zero2 _ _
theorem readCov_row (y : Vec Ideal S1x1024 .f32) (v : View sig .tc .vmem S1x1024 .f32) (h) (L) (r : Rect S1x1024) :
    v.readCov ((⟨Rect.unit ![0, 0] ![1, 1024] h, y⟩ : View.Piece (Elt Ideal) S1x1024 .f32) :: L) r.toLoadRect = View.ld y r :=
  View.readCov_fill v h y L r fun a => by match a with | ⟨0, _⟩ => rfl | ⟨1, _⟩ => rfl

theorem point_A5 (c0 : cond0_0 i) : out0_A_5 c i a1 h1 a2 h2 a3 h3 a4 h4 a5 h5 a6 h6 a7 h7 a8 h8 a9 h9 c0 x d z nw sc = k0_pay10 (F := Ideal) x d z nw sc := by
  unfold out0_A_5
  rw [View.read_writes_junk_eq_canon]
  unfold kernelRun0_A; dsimp only; sl_unfold_words
  simp only [View.readAt_eq_ld, Memref.IsWhole.read_unread, ld_rows, ld_row, readCov_row]
  exact View.canon_cons_unit_zero (S := S512x1024) Dense.zero2 _ _ _

theorem point_B5 (c0 : ¬cond0_0 i) : out0_B_5 c i a1 h1 a2 h2 a3 h3 a4 h4 a5 h5 a6 h6 a7 h7 a8 h8 a9 h9 c0 x d z nw sc p q r = k0_pay10 (F := Ideal) x d z nw sc := by
  unfold out0_B_5
  rw [View.read_writes_junk_eq_canon]
  unfold kernelRun0_B; dsimp only; sl_unfold_words
  simp only [View.readAt_eq_ld, Memref.IsWhole.read_unread, ld_rows, ld_row, readCov_row]
  exact View.canon_cons_unit_zero (S := S512x1024) Dense.zero2 _ _ _

theorem point_A6 (c0 : cond0_0 i) : out0_A_6 c i a1 h1 a2 h2 a3 h3 a4 h4 a5 h5 a6 h6 a7 h7 a8 h8 a9 h9 c0 x d z nw sc = k0_pay4 (F := Ideal) (k0_pay11 (F := Ideal) d) (k0_pay1 (F := Ideal)) := by
  unfold out0_A_6
  rw [View.read_writes_junk_eq_canon]
  unfold kernelRun0_A; dsimp only; sl_unfold_words
  simp only [View.readAt_eq_ld, Memref.IsWhole.read_unread, ld_rows, ld_row, readCov_row]
  exact View.canon_cons_unit_zero (S := S1x1024) Dense.zero2 _ _ _

theorem point_B6 (c0 : ¬cond0_0 i) : out0_B_6 c i a1 h1 a2 h2 a3 h3 a4 h4 a5 h5 a6 h6 a7 h7 a8 h8 a9 h9 c0 x d z nw sc p q r = k0_pay4 (F := Ideal) (k0_pay11 (F := Ideal) d) p := by
  unfold out0_B_6
  rw [View.read_writes_junk_eq_canon]
  unfold kernelRun0_B; dsimp only; sl_unfold_words
  simp only [View.readAt_eq_ld, Memref.IsWhole.read_unread, ld_rows, ld_row, readCov_row]
  exact View.canon_cons_unit_zero (S := S1x1024) Dense.zero2 _ _ _

theorem point_A7 (c0 : cond0_0 i) : out0_A_7 c i a1 h1 a2 h2 a3 h3 a4 h4 a5 h5 a6 h6 a7 h7 a8 h8 a9 h9 c0 x d z nw sc = k0_pay5 (F := Ideal) (k0_pay12 (F := Ideal) x d nw) (k0_pay2 (F := Ideal)) := by
  unfold out0_A_7
  rw [View.read_writes_junk_eq_canon]
  unfold kernelRun0_A; dsimp only; sl_unfold_words
  simp only [View.readAt_eq_ld, Memref.IsWhole.read_unread, ld_rows, ld_row, readCov_row]
  exact View.canon_cons_unit_zero (S := S1x1024) Dense.zero2 _ _ _

theorem point_B7 (c0 : ¬cond0_0 i) : out0_B_7 c i a1 h1 a2 h2 a3 h3 a4 h4 a5 h5 a6 h6 a7 h7 a8 h8 a9 h9 c0 x d z nw sc p q r = k0_pay5 (F := Ideal) (k0_pay12 (F := Ideal) x d nw) q := by
  unfold out0_B_7
  rw [View.read_writes_junk_eq_canon]
  unfold kernelRun0_B; dsimp only; sl_unfold_words
  simp only [View.readAt_eq_ld, Memref.IsWhole.read_unread, ld_rows, ld_row, readCov_row]
  exact View.canon_cons_unit_zero (S := S1x1024) Dense.zero2 _ _ _

theorem point_A8 (c0 : cond0_0 i) : out0_A_8 c i a1 h1 a2 h2 a3 h3 a4 h4 a5 h5 a6 h6 a7 h7 a8 h8 a9 h9 c0 x d z nw sc = k0_pay6 (F := Ideal) (k0_pay13 (F := Ideal) x d sc) (k0_pay3 (F := Ideal)) := by
  unfold out0_A_8
  rw [View.read_writes_junk_eq_canon]
  unfold kernelRun0_A; dsimp only; sl_unfold_words
  simp only [View.readAt_eq_ld, Memref.IsWhole.read_unread, ld_rows, ld_row, readCov_row]
  exact View.canon_cons_unit_zero (S := S1x1024) Dense.zero2 _ _ _

theorem point_B8 (c0 : ¬cond0_0 i) : out0_B_8 c i a1 h1 a2 h2 a3 h3 a4 h4 a5 h5 a6 h6 a7 h7 a8 h8 a9 h9 c0 x d z nw sc p q r = k0_pay6 (F := Ideal) (k0_pay13 (F := Ideal) x d sc) r := by
  unfold out0_B_8
  rw [View.read_writes_junk_eq_canon]
  unfold kernelRun0_B; dsimp only; sl_unfold_words
  simp only [View.readAt_eq_ld, Memref.IsWhole.read_unread, ld_rows, ld_row, readCov_row]
  exact View.canon_cons_unit_zero (S := S1x1024) Dense.zero2 _ _ _

end

/-! ## The arrays -/

theorem at0 : ∀ t : Fin cfg0.N, win0_0.index t 0 = t.val ∧ win0_0.index t 1 = 0 :=
  (by decide +kernel : ∀ t : Fin grid0.N, win0_0.index t 0 = t.val ∧ win0_0.index t 1 = 0)
theorem at1 : ∀ t : Fin cfg0.N, win0_1.index t 0 = t.val ∧ win0_1.index t 1 = 0 :=
  (by decide +kernel : ∀ t : Fin grid0.N, win0_1.index t 0 = t.val ∧ win0_1.index t 1 = 0)
theorem at2 : ∀ t : Fin cfg0.N, win0_2.index t 0 = t.val ∧ win0_2.index t 1 = 0 :=
  (by decide +kernel : ∀ t : Fin grid0.N, win0_2.index t 0 = t.val ∧ win0_2.index t 1 = 0)
theorem at3 : ∀ t : Fin cfg0.N, win0_3.index t 0 = 0 ∧ win0_3.index t 1 = 0 :=
  (by decide +kernel : ∀ t : Fin grid0.N, win0_3.index t 0 = 0 ∧ win0_3.index t 1 = 0)
theorem at4 : ∀ t : Fin cfg0.N, win0_4.index t 0 = 0 ∧ win0_4.index t 1 = 0 :=
  (by decide +kernel : ∀ t : Fin grid0.N, win0_4.index t 0 = 0 ∧ win0_4.index t 1 = 0)
theorem at5 : ∀ t : Fin cfg0.N, win0_5.index t 0 = t.val ∧ win0_5.index t 1 = 0 :=
  (by decide +kernel : ∀ t : Fin grid0.N, win0_5.index t 0 = t.val ∧ win0_5.index t 1 = 0)
theorem at6 : ∀ t : Fin cfg0.N, win0_6.index t 0 = 0 ∧ win0_6.index t 1 = 0 :=
  (by decide +kernel : ∀ t : Fin grid0.N, win0_6.index t 0 = 0 ∧ win0_6.index t 1 = 0)
theorem at7 : ∀ t : Fin cfg0.N, win0_7.index t 0 = 0 ∧ win0_7.index t 1 = 0 :=
  (by decide +kernel : ∀ t : Fin grid0.N, win0_7.index t 0 = 0 ∧ win0_7.index t 1 = 0)
theorem at8 : ∀ t : Fin cfg0.N, win0_8.index t 0 = 0 ∧ win0_8.index t 1 = 0 :=
  (by decide +kernel : ∀ t : Fin grid0.N, win0_8.index t 0 = 0 ∧ win0_8.index t 1 = 0)
theorem full5 : ∀ t : Fin cfg0.N, win0_5.xsize (grid0.coords t) 0 = 512 ∧ win0_5.xsize (grid0.coords t) 1 = 1024 :=
  (by decide +kernel : ∀ t : Fin grid0.N, win0_5.xsize (grid0.coords t) 0 = 512 ∧ win0_5.xsize (grid0.coords t) 1 = 1024)

theorem lt16 (t : Fin cfg0.N) : t.val < 16 := Nat.lt_of_lt_of_eq t.isLt N_0

/-- The point whose block holds row `r`, and the last point. -/
def ptOf (r : Fin 8192) : Fin cfg0.N := ⟨r.val / 512, by
  have h := r.isLt
  rw [show cfg0.N = 16 from N_0]; omega⟩
def tEnd : Fin cfg0.N := ⟨15, by rw [show cfg0.N = 16 from N_0]; decide⟩

section
variable (m : (ℓ : Loc nD τ sig) → Buf (Elt Ideal) ℓ) (c : Dev nD)

/-- The call's arguments at launch. -/
abbrev xs : S8192x1024.Idx → EReal := m ((c : Thread nD τ).loc main_arg0)
abbrev dh : S8192x1024.Idx → EReal := m ((c : Thread nD τ).loc main_arg1)
abbrev dres : S8192x1024.Idx → EReal := m ((c : Thread nD τ).loc main_arg2)
abbrev nw : S1x1024.Idx → EReal := m ((c : Thread nD τ).loc main_arg3)
abbrev sc : S1x1024.Idx → EReal := m ((c : Thread nD τ).loc main_arg4)

theorem block_xs (t : Fin cfg0.N) : Forward.Block t.val (iblk m c 0 t : Vec Ideal S512x1024 .f32) (xs m c) := fun k j => by
  unfold iblk
  rw [View.read_apply]
  show V m c main_arg0 _ = _
  rw [V_main_arg0]
  exact Products.rows_at (xs m c) _ t.val k j (lt16 t) (congrArg (· * 512 + 1 * k.val) (at0 t).1) (congrArg (· * 1024 + 1 * j.val) (at0 t).2)

theorem block_dh (t : Fin cfg0.N) : Forward.Block t.val (iblk m c 1 t : Vec Ideal S512x1024 .f32) (dh m c) := fun k j => by
  unfold iblk
  rw [View.read_apply]
  show V m c main_arg1 _ = _
  rw [V_main_arg1]
  exact Products.rows_at (dh m c) _ t.val k j (lt16 t) (congrArg (· * 512 + 1 * k.val) (at1 t).1) (congrArg (· * 1024 + 1 * j.val) (at1 t).2)

theorem block_dres (t : Fin cfg0.N) : Forward.Block t.val (iblk m c 2 t : Vec Ideal S512x1024 .f32) (dres m c) := fun k j => by
  unfold iblk
  rw [View.read_apply]
  show V m c main_arg2 _ = _
  rw [V_main_arg2]
  exact Products.rows_at (dres m c) _ t.val k j (lt16 t) (congrArg (· * 512 + 1 * k.val) (at2 t).1) (congrArg (· * 1024 + 1 * j.val) (at2 t).2)

theorem whole_nw (t : Fin cfg0.N) : (iblk m c 3 t : Vec Ideal S1x1024 .f32) = nw m c := funext fun i => by
  unfold iblk
  rw [View.read_apply]
  show V m c main_arg3 _ = _
  rw [V_main_arg3]
  exact (Products.whole_at (nw m c) _ (i 0) (i 1) (congrArg (· * 1 + 1 * (i 0).val) (at3 t).1) (congrArg (· * 1024 + 1 * (i 1).val) (at3 t).2)).trans
    (congrArg (nw m c) (Products.at_eq i (i 0) (i 1) rfl rfl).symm)

theorem whole_sc (t : Fin cfg0.N) : (iblk m c 4 t : Vec Ideal S1x1024 .f32) = sc m c := funext fun i => by
  unfold iblk
  rw [View.read_apply]
  show V m c main_arg4 _ = _
  rw [V_main_arg4]
  exact (Products.whole_at (sc m c) _ (i 0) (i 1) (congrArg (· * 1 + 1 * (i 0).val) (at4 t).1) (congrArg (· * 1024 + 1 * (i 1).val) (at4 t).2)).trans
    (congrArg (sc m c) (Products.at_eq i (i 0) (i 1) rfl rfl).symm)

/-- The results. -/
def total5 : (Products.Mat 8192 1024).Idx → EReal := RootNorm.dx (xs m c) (dh m c) (dres m c) (nw m c) (sc m c)
def total7 : (Products.Mat 8192 1024).Idx → EReal := RootNorm.byScale (xs m c) (dh m c) (nw m c)
def total8 : (Products.Mat 8192 1024).Idx → EReal := RootNorm.byWeight (xs m c) (dh m c) (sc m c)

/-- Every point leaves its block of the rows' gradient. -/
theorem rows5 (t : Fin cfg0.N) : Forward.Block t.val ((outsAt0 m c t.val t.isLt).1 : Vec Ideal S512x1024 .f32) (total5 m c) := by
  have e : (outsAt0 m c t.val t.isLt).1 = k0_pay10 (F := Ideal) (iblk m c 0 t) (iblk m c 1 t) (iblk m c 2 t) (iblk m c 3 t) (iblk m c 4 t) := by
    by_cases h0 : t.val % 16 = 0
    · rw [outsAt0_A m c t h0]
      dsimp only
      have h := point_A5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) ((hcond0_0 t).mpr h0)
      exact h
    · rw [outsAt0_B m c t h0]
      dsimp only
      have h := point_B5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h))
      exact h
  rw [e, dx_val, whole_nw, whole_sc]
  exact RootNorm.dx_block (block_xs m c t) (block_dh m c t) (block_dres m c t) (nw m c) (sc m c)

theorem step6 (t : Fin cfg0.N) (acc : Vec Ideal S1x1024 .f32) (h : acc = RootNorm.colUpTo 512 (dh m c) t.val) :
    k0_pay4 (F := Ideal) (k0_pay11 (F := Ideal) (iblk m c 1 t)) acc = RootNorm.colUpTo 512 (dh m c) (t.val + 1) :=
  (shift_val _ acc).trans (RootNorm.colUpTo_step t.val (dh m c) acc _ h (block_dh m c t))

theorem first6 (t : Fin cfg0.N) (h0 : t.val % 16 = 0) : (outsAt0 m c t.val t.isLt).2.1 = k0_pay4 (F := Ideal) (k0_pay11 (F := Ideal) (iblk m c 1 t)) (k0_pay1 (F := Ideal)) := by
  rw [outsAt0_A m c t h0]
  dsimp only
  have h := point_A6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) ((hcond0_0 t).mpr h0)
  exact h

theorem next6 (t : Fin cfg0.N) (h0 : ¬t.val % 16 = 0) : (outsAt0 m c t.val t.isLt).2.1 = k0_pay4 (F := Ideal) (k0_pay11 (F := Ideal) (iblk m c 1 t)) (outsAt0 m c (t.val - 1) (Nat.lt_of_le_of_lt (Nat.sub_le _ _) t.isLt)).2.1 := by
  rw [outsAt0_B m c t h0]
  dsimp only
  have h := point_B6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h))
  exact h

/-- The sum after point `n`. -/
theorem sum6 : ∀ (n : ℕ) (hn : n < cfg0.N), (outsAt0 m c n hn).2.1 = RootNorm.colUpTo 512 (dh m c) (n + 1)
  | 0, hn => by
    have hA := first6 m c ⟨0, hn⟩ rfl
    exact hA.trans (step6 m c ⟨0, hn⟩ _ (zero1.trans (RootNorm.colUpTo_none 512 _)))
  | n + 1, hn => by
    have h16 : n + 1 < 16 := Nat.lt_of_lt_of_eq hn N_0
    have hB := next6 m c ⟨n + 1, hn⟩ (by show ¬ (n + 1) % 16 = 0; omega)
    have hp := sum6 n (Nat.lt_of_succ_lt hn)
    exact hB.trans (step6 m c ⟨n + 1, hn⟩ _ hp)

theorem step7 (t : Fin cfg0.N) (acc : Vec Ideal S1x1024 .f32) (h : acc = RootNorm.colUpTo 512 (total7 m c) t.val) :
    k0_pay5 (F := Ideal) (k0_pay12 (F := Ideal) (iblk m c 0 t) (iblk m c 1 t) (iblk m c 3 t)) acc = RootNorm.colUpTo 512 (total7 m c) (t.val + 1) :=
  (scale_val _ _ _ acc).trans (RootNorm.colUpTo_step t.val (total7 m c) acc _ h (by rw [whole_nw]; exact RootNorm.byScale_block (block_xs m c t) (block_dh m c t) (nw m c)))

theorem first7 (t : Fin cfg0.N) (h0 : t.val % 16 = 0) : (outsAt0 m c t.val t.isLt).2.2.1 = k0_pay5 (F := Ideal) (k0_pay12 (F := Ideal) (iblk m c 0 t) (iblk m c 1 t) (iblk m c 3 t)) (k0_pay2 (F := Ideal)) := by
  rw [outsAt0_A m c t h0]
  dsimp only
  have h := point_A7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) ((hcond0_0 t).mpr h0)
  exact h

theorem next7 (t : Fin cfg0.N) (h0 : ¬t.val % 16 = 0) : (outsAt0 m c t.val t.isLt).2.2.1 = k0_pay5 (F := Ideal) (k0_pay12 (F := Ideal) (iblk m c 0 t) (iblk m c 1 t) (iblk m c 3 t)) (outsAt0 m c (t.val - 1) (Nat.lt_of_le_of_lt (Nat.sub_le _ _) t.isLt)).2.2.1 := by
  rw [outsAt0_B m c t h0]
  dsimp only
  have h := point_B7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h))
  exact h

/-- The sum after point `n`. -/
theorem sum7 : ∀ (n : ℕ) (hn : n < cfg0.N), (outsAt0 m c n hn).2.2.1 = RootNorm.colUpTo 512 (total7 m c) (n + 1)
  | 0, hn => by
    have hA := first7 m c ⟨0, hn⟩ rfl
    exact hA.trans (step7 m c ⟨0, hn⟩ _ (zero2.trans (RootNorm.colUpTo_none 512 _)))
  | n + 1, hn => by
    have h16 : n + 1 < 16 := Nat.lt_of_lt_of_eq hn N_0
    have hB := next7 m c ⟨n + 1, hn⟩ (by show ¬ (n + 1) % 16 = 0; omega)
    have hp := sum7 n (Nat.lt_of_succ_lt hn)
    exact hB.trans (step7 m c ⟨n + 1, hn⟩ _ hp)

theorem step8 (t : Fin cfg0.N) (acc : Vec Ideal S1x1024 .f32) (h : acc = RootNorm.colUpTo 512 (total8 m c) t.val) :
    k0_pay6 (F := Ideal) (k0_pay13 (F := Ideal) (iblk m c 0 t) (iblk m c 1 t) (iblk m c 4 t)) acc = RootNorm.colUpTo 512 (total8 m c) (t.val + 1) :=
  (weight_val _ _ _ acc).trans (RootNorm.colUpTo_step t.val (total8 m c) acc _ h (by rw [whole_sc]; exact RootNorm.byWeight_block (block_xs m c t) (block_dh m c t) (sc m c)))

theorem first8 (t : Fin cfg0.N) (h0 : t.val % 16 = 0) : (outsAt0 m c t.val t.isLt).2.2.2 = k0_pay6 (F := Ideal) (k0_pay13 (F := Ideal) (iblk m c 0 t) (iblk m c 1 t) (iblk m c 4 t)) (k0_pay3 (F := Ideal)) := by
  rw [outsAt0_A m c t h0]
  dsimp only
  have h := point_A8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) ((hcond0_0 t).mpr h0)
  exact h

theorem next8 (t : Fin cfg0.N) (h0 : ¬t.val % 16 = 0) : (outsAt0 m c t.val t.isLt).2.2.2 = k0_pay6 (F := Ideal) (k0_pay13 (F := Ideal) (iblk m c 0 t) (iblk m c 1 t) (iblk m c 4 t)) (outsAt0 m c (t.val - 1) (Nat.lt_of_le_of_lt (Nat.sub_le _ _) t.isLt)).2.2.2 := by
  rw [outsAt0_B m c t h0]
  dsimp only
  have h := point_B8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h))
  exact h

/-- The sum after point `n`. -/
theorem sum8 : ∀ (n : ℕ) (hn : n < cfg0.N), (outsAt0 m c n hn).2.2.2 = RootNorm.colUpTo 512 (total8 m c) (n + 1)
  | 0, hn => by
    have hA := first8 m c ⟨0, hn⟩ rfl
    exact hA.trans (step8 m c ⟨0, hn⟩ _ (zero3.trans (RootNorm.colUpTo_none 512 _)))
  | n + 1, hn => by
    have h16 : n + 1 < 16 := Nat.lt_of_lt_of_eq hn N_0
    have hB := next8 m c ⟨n + 1, hn⟩ (by show ¬ (n + 1) % 16 = 0; omega)
    have hp := sum8 n (Nat.lt_of_succ_lt hn)
    exact hB.trans (step8 m c ⟨n + 1, hn⟩ _ hp)

/-- The rows' gradient after the run. -/
theorem final5 : (dats m 0 c).arrAt 5 cfg0.N = total5 m c := by
  refine (dats m 0 c).arrAt_eq_of_cover 5 (total5 m c) (fun t _ => ?_) fun i => ⟨ptOf (i 0), flush0_5 _, ?_⟩
  · rw [Value.flushed5]
    funext j
    rw [View.read_apply]
    exact (rows5 m c t).at j _ (lt16 t) (congrArg (· * 512 + 1 * (j 0).val) (at5 t).1) (congrArg (· * 1024 + 1 * (j 1).val) (at5 t).2)
  · show i ∈ ((View.whole main_v0_0).slice (win0_5.rect (ptOf (i 0)))).set
    rw [View.set_slice_whole, Rect.mem_set_unit]
    exact Dense.in_rows i _ _ (congrArg (· * 512) (at5 _).1) (full5 _).1 (congrArg (· * 1024) (at5 _).2) (full5 _).2

theorem zeros6 (t : Fin cfg0.N) : (fun a => win0_6.index t a * main_v0_1.ty.shape.size a) = fun _ => 0 := funext fun a => by
  match a with
  | ⟨0, _⟩ => rfl
  | ⟨1, _⟩ => rfl

/-- The shift's gradient after the run. -/
theorem final6 : (dats m 0 c).arrAt 6 cfg0.N = RootNorm.col (dh m c) := by
  refine (dats m 0 c).arrAt_eq_of_cover 6 (RootNorm.col (dh m c)) (fun t hf => ?_) fun i => ⟨tEnd, (flush0_6 _).mpr rfl, ?_⟩
  · have h15 := (flush0_6 t).mp hf
    have hlt := lt16 t
    have hs : (outsAt0 m c t.val t.isLt).2.1 = RootNorm.col (dh m c) :=
      (sum6 m c t.val t.isLt).trans ((congrArg (RootNorm.colUpTo 512 (dh m c)) (by omega)).trans (RootNorm.colUpTo_all 512 16 (by decide) _))
    rw [Value.flushed6, hs]
    exact (Memref.read_access_unit_zero (Elt Ideal) main_v0_1 (zeros6 t) (fun a => by rw [congrFun (zeros6 t) a]; simp) (RootNorm.col (dh m c))).symm
  · show i ∈ ((View.whole main_v0_1).slice (win0_6.rect tEnd)).set
    rw [View.set_slice_whole, Rect.mem_set_unit]
    intro a
    have h0 : (i 0 : ℕ) < 1 := (i 0).isLt
    have h1 : (i 1 : ℕ) < 1024 := (i 1).isLt
    match a with
    | ⟨0, _⟩ => exact ⟨Nat.zero_le _, (Nat.zero_add 1).symm ▸ h0⟩
    | ⟨1, _⟩ => exact ⟨Nat.zero_le _, (Nat.zero_add 1024).symm ▸ h1⟩

theorem zeros7 (t : Fin cfg0.N) : (fun a => win0_7.index t a * main_v0_2.ty.shape.size a) = fun _ => 0 := funext fun a => by
  match a with
  | ⟨0, _⟩ => rfl
  | ⟨1, _⟩ => rfl

/-- The scale's gradient after the run. -/
theorem final7 : (dats m 0 c).arrAt 7 cfg0.N = RootNorm.col (total7 m c) := by
  refine (dats m 0 c).arrAt_eq_of_cover 7 (RootNorm.col (total7 m c)) (fun t hf => ?_) fun i => ⟨tEnd, (flush0_7 _).mpr rfl, ?_⟩
  · have h15 := (flush0_7 t).mp hf
    have hlt := lt16 t
    have hs : (outsAt0 m c t.val t.isLt).2.2.1 = RootNorm.col (total7 m c) :=
      (sum7 m c t.val t.isLt).trans ((congrArg (RootNorm.colUpTo 512 (total7 m c)) (by omega)).trans (RootNorm.colUpTo_all 512 16 (by decide) _))
    rw [Value.flushed7, hs]
    exact (Memref.read_access_unit_zero (Elt Ideal) main_v0_2 (zeros7 t) (fun a => by rw [congrFun (zeros7 t) a]; simp) (RootNorm.col (total7 m c))).symm
  · show i ∈ ((View.whole main_v0_2).slice (win0_7.rect tEnd)).set
    rw [View.set_slice_whole, Rect.mem_set_unit]
    intro a
    have h0 : (i 0 : ℕ) < 1 := (i 0).isLt
    have h1 : (i 1 : ℕ) < 1024 := (i 1).isLt
    match a with
    | ⟨0, _⟩ => exact ⟨Nat.zero_le _, (Nat.zero_add 1).symm ▸ h0⟩
    | ⟨1, _⟩ => exact ⟨Nat.zero_le _, (Nat.zero_add 1024).symm ▸ h1⟩

theorem zeros8 (t : Fin cfg0.N) : (fun a => win0_8.index t a * main_v0_3.ty.shape.size a) = fun _ => 0 := funext fun a => by
  match a with
  | ⟨0, _⟩ => rfl
  | ⟨1, _⟩ => rfl

/-- The weight's gradient after the run. -/
theorem final8 : (dats m 0 c).arrAt 8 cfg0.N = RootNorm.col (total8 m c) := by
  refine (dats m 0 c).arrAt_eq_of_cover 8 (RootNorm.col (total8 m c)) (fun t hf => ?_) fun i => ⟨tEnd, (flush0_8 _).mpr rfl, ?_⟩
  · have h15 := (flush0_8 t).mp hf
    have hlt := lt16 t
    have hs : (outsAt0 m c t.val t.isLt).2.2.2 = RootNorm.col (total8 m c) :=
      (sum8 m c t.val t.isLt).trans ((congrArg (RootNorm.colUpTo 512 (total8 m c)) (by omega)).trans (RootNorm.colUpTo_all 512 16 (by decide) _))
    rw [Value.flushed8, hs]
    exact (Memref.read_access_unit_zero (Elt Ideal) main_v0_3 (zeros8 t) (fun a => by rw [congrFun (zeros8 t) a]; simp) (RootNorm.col (total8 m c))).symm
  · show i ∈ ((View.whole main_v0_3).slice (win0_8.rect tEnd)).set
    rw [View.set_slice_whole, Rect.mem_set_unit]
    intro a
    have h0 : (i 0 : ℕ) < 1 := (i 0).isLt
    have h1 : (i 1 : ℕ) < 1024 := (i 1).isLt
    match a with
    | ⟨0, _⟩ => exact ⟨Nat.zero_le _, (Nat.zero_add 1).symm ▸ h0⟩
    | ⟨1, _⟩ => exact ⟨Nat.zero_le _, (Nat.zero_add 1024).symm ▸ h1⟩

end

end

/-! ## The claims -/

section
open Cert.NormGradReferenceIdeal Cert.NormGradReferenceIdeal.Facts₀

variable (X D Z : FVec Ideal S8192x1024 .f32) (nw sc : FVec Ideal S1x1024 .f32)

/-- The mean of the squares, with the small constant. -/
abbrev refMean : FVec Ideal S8192x1 .f32 :=
  addf (Host.divf (broadcastInDim S8192x1 ![0] bcast_S8192_S8192x1_0 (Host.reduceAdd (mulf X X) (constant S_ .f32 0x00000000#32) reducesTo_S8192x1024_S8192_d1 h_S_))
    (broadcastInDim S8192x1 ![] bcast_S_S8192x1 (constant S_ .f32 0x44800000#32))) (broadcastInDim S8192x1 ![] bcast_S_S8192x1 (constant S_ .f32 0x358637BD#32))

theorem ref_mean (j : S8192x1.Idx) : refMean X j = Ideal.div (RootNorm.sq X (j 0)) (Ideal.ofBits .f32 0x44800000#32) + Ideal.ofBits .f32 0x358637BD#32 :=
  congrArg (fun a : EReal => Ideal.div a (Ideal.ofBits .f32 0x44800000#32) + Ideal.ofBits .f32 0x358637BD#32)
    (Forward.host_sum (M := 8192) (N := 1024) (mulf X X) _ h_S_ _ (by decide) j)

theorem ref_root (j : S8192x1.Idx) : Host.rsqrt (refMean X) j = Forward.rms (RootNorm.sq X (j 0)) := congrArg Ideal.rsqrt (ref_mean X j)

theorem ref_hat : mulf X (broadcastInDim S8192x1024 ![0, 1] bcast_S8192x1_S8192x1024_0_1 (Host.rsqrt (refMean X))) = RootNorm.hat X :=
  funext fun i => congrArg (fun a : EReal => X i * a) ((Forward.host_col (M := 8192) (N := 1024) (Host.rsqrt (refMean X)) _ (by decide) i).trans (ref_root X _))

theorem ref_dn : mulf (shapeCast S8192x1024 D shapeCasts_S8192x1024_S8192x1024) (broadcastInDim S8192x1024 ![0, 1] bcast_S1x1024_S8192x1024_0_1
    (addf (broadcastInDim S1x1024 ![] bcast_S_S1x1024 (constant S_ .f32 0x3F800000#32)) sc)) = RootNorm.dn D sc := by
  rw [shapeCast_self]
  exact funext fun i => congrArg (fun a : EReal => D i * a) (Forward.host_row (M := 8192) (N := 1024) _ _ (by decide) i)

/-- The gradient before the weight. -/
abbrev refDw : FVec Ideal S8192x1024 .f32 :=
  mulf (mulf (shapeCast S8192x1024 D shapeCasts_S8192x1024_S8192x1024) (broadcastInDim S8192x1024 ![0, 1] bcast_S1x1024_S8192x1024_0_1
    (addf (broadcastInDim S1x1024 ![] bcast_S_S1x1024 (constant S_ .f32 0x3F800000#32)) sc))) (broadcastInDim S8192x1024 ![0, 1] bcast_S1x1024_S8192x1024_0_1 nw)

theorem ref_dw : refDw D nw sc = RootNorm.dw D nw sc := by
  unfold refDw
  rw [ref_dn]
  exact funext fun i => congrArg (fun a : EReal => RootNorm.dn D sc i * a) (Forward.host_row (M := 8192) (N := 1024) nw _ (by decide) i)

/-- The shift's gradient, -/
theorem ref_shift : shapeCast S1x1024 (Host.reduceAdd D (constant S_ .f32 0x00000000#32) reducesTo_S8192x1024_S1024_d0 h_S_) shapeCasts_S1024_S1x1024 = RootNorm.col D :=
  RootNorm.col_host D _ h_S_ _

/-- the scale's -/
theorem ref_scale : shapeCast S1x1024 (Host.reduceAdd (mulf (mulf (mulf X (broadcastInDim S8192x1024 ![0, 1] bcast_S8192x1_S8192x1024_0_1 (Host.rsqrt (refMean X))))
      (broadcastInDim S8192x1024 ![0, 1] bcast_S1x1024_S8192x1024_0_1 nw)) (shapeCast S8192x1024 D shapeCasts_S8192x1024_S8192x1024)) (constant S_ .f32 0x00000000#32)
      reducesTo_S8192x1024_S1024_d0 h_S_) shapeCasts_S1024_S1x1024 = RootNorm.col (RootNorm.byScale X D nw) := by
  rw [ref_hat, shapeCast_self D]
  refine (RootNorm.col_host _ _ h_S_ _).trans (congrArg RootNorm.col (funext fun i => ?_))
  refine (congrArg (fun a : EReal => RootNorm.hat X i * a * D i) (Forward.host_row (M := 8192) (N := 1024) nw _ (by decide) i)).trans ?_
  exact mul_comm (G := EReal) _ _

/-- and the weight's. -/
theorem ref_weight : shapeCast S1x1024 (Host.reduceAdd (mulf (mulf X (broadcastInDim S8192x1024 ![0, 1] bcast_S8192x1_S8192x1024_0_1 (Host.rsqrt (refMean X))))
      (mulf (shapeCast S8192x1024 D shapeCasts_S8192x1024_S8192x1024) (broadcastInDim S8192x1024 ![0, 1] bcast_S1x1024_S8192x1024_0_1
        (addf (broadcastInDim S1x1024 ![] bcast_S_S1x1024 (constant S_ .f32 0x3F800000#32)) sc)))) (constant S_ .f32 0x00000000#32)
      reducesTo_S8192x1024_S1024_d0 h_S_) shapeCasts_S1024_S1x1024 = RootNorm.col (RootNorm.byWeight X D sc) := by
  rw [ref_hat, ref_dn]
  refine (RootNorm.col_host _ _ h_S_ _).trans (congrArg RootNorm.col (funext fun i => ?_))
  exact mul_comm (G := EReal) _ _

/-- What the root's derivative brings to every entry of a row. -/
abbrev refTail (W : FVec Ideal S8192x1024 .f32) : FVec Ideal S8192x1024 .f32 :=
  broadcastInDim S8192x1024 ![0] bcast_S8192_S8192x1024_0 (Host.reduceAdd (Host.divf (mulf (shapeCast S8192x1 (Host.reduceAdd (mulf X W) (constant S_ .f32 0x00000000#32)
      reducesTo_S8192x1024_S8192_d1 h_S_) shapeCasts_S8192_S8192x1) (mulf (broadcastInDim S8192x1 ![] bcast_S_S8192x1 (constant S_ .f32 0xBF000000#32))
      (Host.divf (Host.rsqrt (refMean X)) (refMean X)))) (broadcastInDim S8192x1 ![] bcast_S_S8192x1 (constant S_ .f32 0x44800000#32))) (constant S_ .f32 0x00000000#32)
      reducesTo_S8192x1_S8192_d1 h_S_)

theorem ref_tail (W : FVec Ideal S8192x1024 .f32) (i : S8192x1024.Idx) :
    refTail X W i = RootNorm.tail (∑ k : Fin 1024, X (ix2 (i 0) k) * W (ix2 (i 0) k)) (RootNorm.sq X (i 0)) := by
  refine (broadcastInDim_apply ![0] bcast_S8192_S8192x1024_0 _ i (ix1 (i 0)) fun a => by match a with | ⟨0, _⟩ => rfl).trans ?_
  refine (Forward.row_total (M := 8192) (N := 1) _ _ h_S_ (i 0)).trans ?_
  refine (Fin.sum_univ_one _).trans ?_
  have hs : shapeCast S8192x1 (Host.reduceAdd (mulf X W) (constant S_ .f32 0x00000000#32) reducesTo_S8192x1024_S8192_d1 h_S_) shapeCasts_S8192_S8192x1 (ix2 (i 0) 0) =
      (∑ k : Fin 1024, X (ix2 (i 0) k) * W (ix2 (i 0) k) : EReal) := by
    refine (shapeCast_apply _ _ _ (ix1 (i 0)) ?_).trans (Forward.row_total (M := 8192) (N := 1024) (mulf X W) _ h_S_ (i 0))
    rw [Shape.rowMajor_val_one, Shape.rowMajor_val_two]
    show (i 0 : ℕ) = (i 0 : ℕ) * 1 + 0
    omega
  have hm := ref_mean X (ix2 (i 0) 0)
  have hr := ref_root X (ix2 (i 0) 0)
  unfold RootNorm.tail
  refine congrArg (fun a : EReal => Ideal.div a (Ideal.ofBits .f32 0x44800000#32)) ?_
  exact congrArg₂ (fun a b : EReal => a * (Ideal.ofBits .f32 0xBF000000#32 * b)) hs (congrArg₂ (fun a b : EReal => Ideal.div a b) hr hm)

/-- The rows' gradient. -/
theorem ref_dx :
    addf (addf (addf Z (mulf (refDw D nw sc) (broadcastInDim S8192x1024 ![0, 1] bcast_S8192x1_S8192x1024_0_1 (Host.rsqrt (refMean X)))))
      (mulf X (refTail X (refDw D nw sc)))) (mulf (refTail X (refDw D nw sc)) X) = RootNorm.dx X D Z nw sc := by
  rw [ref_dw]
  funext i
  have hr := (Forward.host_col (M := 8192) (N := 1024) (Host.rsqrt (refMean X)) bcast_S8192x1_S8192x1024_0_1 (by decide) i).trans (ref_root X _)
  have ht := ref_tail X (RootNorm.dw D nw sc) i
  refine (congrArg₂ (fun a b : EReal => Z i + RootNorm.dw D nw sc i * a + X i * b + b * X i) hr ht).trans ?_
  have e : i = ix2 (i 0) (i 1) := Products.at_eq i (i 0) (i 1) rfl rfl
  rw [e]
  exact (RootNorm.dx_chain X D Z nw sc (i 0) (i 1)).symm

end

theorem frame_p : Cert.quiescent_NormGrad := fun m ρ _ => Cert.NormGrad.Gen.frame m ρ
theorem frame_pi : Cert.quiescent_NormGradIdeal := fun m ρ _ => Cert.NormGradIdeal.Gen.frame m ρ
theorem frame_ri : Cert.quiescent_NormGradReferenceIdeal := fun m ρ _ =>
  (θ_run Cert.NormGradReferenceIdeal.defs _ _).mono (fun r h => ⟨fun c => (h c).2.2.2.2, sem_eq_zero_of_no_sems (by decide) r.2⟩)
    (Cert.NormGradReferenceIdeal.Value.run (F := Ideal) m ρ)
theorem preserves : Cert.preserves_NormGrad_NormGradIdeal := trivial

/-- The call's four results are the reference's gradients. -/
theorem algebraic : Cert.algebraic_NormGradIdeal_NormGradReferenceIdeal := by
  intro m g m' g' _ hagree
  refine ⟨fun c => total5 m c, fun c => RootNorm.col (dh m c), fun c => RootNorm.col (total7 m c), fun c => RootNorm.col (total8 m c), ?_, ?_⟩
  · exact (θ_run Cert.NormGradIdeal.defs _ _).mono (fun r h c => ⟨(h c).1.trans (final5 m c), (h c).2.1.trans (final6 m c), (h c).2.2.1.trans (final7 m c),
      (h c).2.2.2.1.trans (final8 m c), (h c).2.2.2.2⟩) (Cert.NormGradIdeal.Value.run_blocks (F := Ideal) m g)
  · refine (θ_run Cert.NormGradReferenceIdeal.defs _ _).mono (fun r h c => ⟨(h c).1.trans ?_, (h c).2.1.trans ?_, (h c).2.2.1.trans ?_, (h c).2.2.2.1.trans ?_, (h c).2.2.2.2⟩)
      (Cert.NormGradReferenceIdeal.Value.run (F := Ideal) m' g')
    · unfold Cert.NormGradReferenceIdeal.Value.res_main_v48
      rw [(hagree c).1, (hagree c).2.1, (hagree c).2.2.1, (hagree c).2.2.2.1, (hagree c).2.2.2.2.1]
      exact ref_dx (xs m c) (dh m c) (dres m c) (nw m c) (sc m c)
    · rw [(hagree c).2.1]
      exact ref_shift (dh m c)
    · rw [(hagree c).1, (hagree c).2.1, (hagree c).2.2.2.1]
      exact ref_scale (xs m c) (dh m c) (nw m c)
    · rw [(hagree c).1, (hagree c).2.1, (hagree c).2.2.2.2.1]
      exact ref_weight (xs m c) (dh m c) (sc m c)

end NormGrad

end
-- ==== Proof.NormGate.lean ====
/- The gradient of a gated residual with the norm and modulation after it: the gradients of the rows and of the gated branch block by
   block, the gradients of shift, scale, weight, gate and bias as sums over the rows, added up from block to block. -/
module

public import proofs.«01_k».proof.Defs
public import proofs.«01_k».proof.Proof.NormGrad
public import proofs.«01_k».proof.Proof.Gen.NormGate.Frame
public import proofs.«01_k».proof.Proof.Gen.NormGateIdeal.Value
public import proofs.«01_k».proof.Proof.Gen.NormGateReferenceIdeal.Run

@[expose] public section

set_option maxRecDepth 16384

noncomputable section

open Idealize.ShloMosaic Idealize.ShloMosaic.TcCoe Idealize.ShloMosaic.ValueIdx Idealize.SL.Sem

namespace NormGate

/-- Rows scaled, column by column. -/
def scaled {M : ℕ} (F : (Products.Mat M 1024).Idx → EReal) (g : (Products.Mat 1 1024).Idx → EReal) : (Products.Mat M 1024).Idx → EReal := fun i => F i * g (ix2 0 (i 1))
/-- Rows multiplied, entry by entry. -/
def times {M : ℕ} (F Y : (Products.Mat M 1024).Idx → EReal) : (Products.Mat M 1024).Idx → EReal := fun i => F i * Y i

theorem scaled_rows {B t : ℕ} {f : (Products.Mat B 1024).Idx → EReal} {F : (Products.Mat 8192 1024).Idx → EReal} (h : RootNorm.Rows t f F)
    (g : (Products.Mat 1 1024).Idx → EReal) : RootNorm.Rows t (scaled f g) (scaled F g) := fun k j => congrArg (fun a : EReal => a * g (ix2 0 j)) (h k j)

theorem times_rows {B t : ℕ} {f y : (Products.Mat B 1024).Idx → EReal} {F Y : (Products.Mat 8192 1024).Idx → EReal} (h : RootNorm.Rows t f F)
    (h' : RootNorm.Rows t y Y) : RootNorm.Rows t (times f y) (times F Y) := fun k j => congrArg₂ (fun a b : EReal => a * b) (h k j) (h' k j)

/-- Every place of an array of 8192 rows lies in the block of 1024 rows that its row names, -/
theorem in_block (i : Shape.Idx ⟨2, ![8192, 1024]⟩) (off size : Fin 2 → ℕ) (h0 : off 0 = (i 0).val / 1024 * 1024) (s0 : size 0 = 1024)
    (h1 : off 1 = 0) (s1 : size 1 = 1024) (a : Fin 2) : off a ≤ (i a).val ∧ (i a).val < off a + size a := by
  match a with
  | ⟨0, _⟩ => show off 0 ≤ (i 0).val ∧ (i 0).val < off 0 + size 0; rw [h0, s0]; omega
  | ⟨1, _⟩ =>
    have h : (i 1).val < 1024 := (i 1).isLt
    show off 1 ≤ (i 1).val ∧ (i 1).val < off 1 + size 1; rw [h1, s1]; omega

/-- and every place of a row lies in the row. -/
theorem in_row (i : Shape.Idx ⟨2, ![1, 1024]⟩) (off size : Fin 2 → ℕ) (h0 : off 0 = 0) (s0 : size 0 = 1) (h1 : off 1 = 0) (s1 : size 1 = 1024) (a : Fin 2) :
    off a ≤ (i a).val ∧ (i a).val < off a + size a := by
  match a with
  | ⟨0, _⟩ =>
    have h : (i 0).val < 1 := (i 0).isLt
    show off 0 ≤ (i 0).val ∧ (i 0).val < off 0 + size 0; rw [h0, s0]; omega
  | ⟨1, _⟩ =>
    have h : (i 1).val < 1024 := (i 1).isLt
    show off 1 ≤ (i 1).val ∧ (i 1).val < off 1 + size 1; rw [h1, s1]; omega

section
open Cert.NormGateIdeal Cert.NormGateIdeal.Gen

/-! ## One point's payloads -/

section
variable (x d z y : Vec Ideal S1024x1024 .f32) (nw sc g acc : Vec Ideal S1x1024 .f32)

theorem root_val (j : S1024x1.Idx) : k0_pay5 (F := Ideal) x j = Forward.rms (RootNorm.sq x (j 0)) := by
  unfold k0_pay5 k0_pay3
  simp only [shapeCast_self]
  exact congrArg Forward.rms (RootNorm.lanes_kernel (B := 1024) (mulf (F := Ideal) (φ := .f32) x x) _ _ j)

theorem hat_val : k0_pay6 (F := Ideal) x = RootNorm.hat x := by
  funext i
  unfold k0_pay6 k0_pay3
  simp only [shapeCast_self]
  exact congrArg (fun a : EReal => x i * a) ((Forward.col_apply (M := 1024) (N := 1024) (k0_pay5 (F := Ideal) x) _ (by decide) i).trans (root_val x _))

theorem dn_val : k0_pay7 (F := Ideal) d sc = RootNorm.dn d sc := by
  funext i
  unfold k0_pay7
  exact congrArg (fun a : EReal => d i * a) (Forward.row_apply (M := 1024) (N := 1024) _ _ (by decide) i)

theorem dx_val : k0_pay8 (F := Ideal) x d z nw sc = RootNorm.dx x d z nw sc := by
  funext i
  unfold k0_pay8
  rw [hat_val, dn_val]
  have hw : mulf (F := Ideal) (φ := .f32) (RootNorm.dn d sc) (broadcastTo S1024x1024 nw broadcasts_S1x1024_S1024x1024) = RootNorm.dw d nw sc :=
    funext fun j => congrArg (fun a : EReal => RootNorm.dn d sc j * a) (Forward.row_apply (M := 1024) (N := 1024) nw _ (by decide) j)
  dsimp only
  rw [hw]
  refine congrArg₂ (fun a b : EReal => z i + a * (RootNorm.dw d nw sc i - RootNorm.hat x i * b))
    ((Forward.col_apply (M := 1024) (N := 1024) (k0_pay5 (F := Ideal) x) _ (by decide) i).trans (root_val x _)) ?_
  refine (Forward.col_apply (M := 1024) (N := 1024) _ _ (by decide) i).trans ?_
  exact congrArg (fun a : EReal => Ideal.div a (Ideal.ofBits .f32 0x44800000#32))
    (RootNorm.lanes_kernel (B := 1024) (mulf (F := Ideal) (φ := .f32) (RootNorm.dw d nw sc) (RootNorm.hat x)) _ _ _)

/-- The gated branch's gradient, -/
theorem gated_val : k0_pay10 (F := Ideal) g x = scaled x g := by
  funext i
  unfold k0_pay10
  exact congrArg (fun a : EReal => x i * a) (Forward.row_apply (M := 1024) (N := 1024) g _ (by decide) i)

/-- which is stored as it is. -/
theorem dy_val : k0_pay13 (F := Ideal) g x = scaled x g := gated_val x g

/-- What every sum does at a point: it adds its block's rows. -/
theorem add_val (f : FVec Ideal S1024x1024 .f32) :
    addf (F := Ideal) (φ := .f32) acc (shapeCast S1x1024 (multiReduction .add [0] S1024 f 0x00000000#32 reduces_S1024x1024_S1024_2 (.inl rfl) rfl) shapeCasts_S1024_S1x1024) =
      fun i => (acc i + RootNorm.col (M := 1024) f i : EReal) :=
  funext fun i => congrArg (fun a : EReal => acc i + a) (congrFun (RootNorm.col_kernel (B := 1024) f _ _) i)

theorem shift_val : k0_pay19 (F := Ideal) (k0_pay9 (F := Ideal) d) acc = fun i => (acc i + RootNorm.col d i : EReal) := by
  unfold k0_pay19 k0_pay9
  rw [shapeCast_self acc]
  exact add_val acc d

theorem scale_val : k0_pay20 (F := Ideal) d nw (k0_pay6 (F := Ideal) x) acc = fun i => (acc i + RootNorm.col (RootNorm.byScale x d nw) i : EReal) := by
  have hw : mulf (F := Ideal) (φ := .f32) d (mulf (F := Ideal) (φ := .f32) (RootNorm.hat x) (broadcastTo S1024x1024 nw broadcasts_S1x1024_S1024x1024)) =
      RootNorm.byScale x d nw :=
    funext fun j => congrArg (fun a : EReal => d j * (RootNorm.hat x j * a)) (Forward.row_apply (M := 1024) (N := 1024) nw _ (by decide) j)
  unfold k0_pay20
  rw [hat_val]
  dsimp only
  rw [hw, shapeCast_self acc]
  exact add_val acc _

theorem weight_val : k0_pay21 (F := Ideal) (k0_pay6 (F := Ideal) x) (k0_pay7 (F := Ideal) d sc) acc = fun i => (acc i + RootNorm.col (RootNorm.byWeight x d sc) i : EReal) := by
  unfold k0_pay21
  rw [hat_val, dn_val, shapeCast_self acc]
  exact add_val acc (RootNorm.byWeight x d sc)

theorem gate_val : k0_pay1 (F := Ideal) (k0_pay11 (F := Ideal) (k0_pay4 (F := Ideal) y) x) acc = fun i => (acc i + RootNorm.col (times x y) i : EReal) := by
  unfold k0_pay1 k0_pay11 k0_pay4
  rw [shapeCast_self acc, shapeCast_self y]
  exact add_val acc (times x y)

theorem bias_val : k0_pay2 (F := Ideal) (k0_pay12 (F := Ideal) g x) acc = fun i => (acc i + RootNorm.col (scaled x g) i : EReal) := by
  unfold k0_pay2 k0_pay12
  rw [gated_val, shapeCast_self acc]
  exact add_val acc (scaled x g)

end

/-- Every sum starts at zero. -/
theorem zero_val : k0_pay14 (F := Ideal) = fun _ => (0 : EReal) := funext fun _ => Ideal.ofBits_zero_f32

/-! ## What a point leaves -/

section
variable (c : Dev nD) (i : grid0.Coords)
  (a1 : Memref sig .tc .vmem S1024x1024 .f32) (h1 : a1.IsWhole) (a2 : Memref sig .tc .vmem S1024x1024 .f32) (h2 : a2.IsWhole)
  (a3 : Memref sig .tc .vmem S1024x1024 .f32) (h3 : a3.IsWhole) (a4 : Memref sig .tc .vmem S1024x1024 .f32) (h4 : a4.IsWhole)
  (a5 : Memref sig .tc .vmem S1x1024 .f32) (h5 : a5.IsWhole) (a6 : Memref sig .tc .vmem S1x1024 .f32) (h6 : a6.IsWhole)
  (a7 : Memref sig .tc .vmem S1x1024 .f32) (h7 : a7.IsWhole) (a8 : Memref sig .tc .vmem S1024x1024 .f32) (h8 : a8.IsWhole)
  (a9 : Memref sig .tc .vmem S1024x1024 .bf16) (h9 : a9.IsWhole) (a10 : Memref sig .tc .vmem S1x1024 .f32) (h10 : a10.IsWhole)
  (a11 : Memref sig .tc .vmem S1x1024 .f32) (h11 : a11.IsWhole) (a12 : Memref sig .tc .vmem S1x1024 .f32) (h12 : a12.IsWhole)
  (a13 : Memref sig .tc .vmem S1x1024 .f32) (h13 : a13.IsWhole) (a14 : Memref sig .tc .vmem S1x1024 .f32) (h14 : a14.IsWhole)
  (x d z y : Vec Ideal S1024x1024 .f32) (nw sc g p q r s u : Vec Ideal S1x1024 .f32)

theorem ld_rows {e : EltTy} (y : Vec Ideal S1024x1024 e) (h) : View.ld y (Rect.unit ![0, 0] ![1024, 1024] h : Rect S1024x1024) = y :=
  View.ld_unit_zero (S := S1024x1024) Dense.zero2 _ _
theorem ld_row {e : EltTy} (y : Vec Ideal S1x1024 e) (h) : View.ld y (Rect.unit ![0, 0] ![1, 1024] h : Rect S1x1024) = y :=
  View.ld_unit_zero (S := S1x1024) Dense.zero2 _ _
theorem readCov_row (y : Vec Ideal S1x1024 .f32) (v : View sig .tc .vmem S1x1024 .f32) (h) (L) (r : Rect S1x1024) :
    v.readCov ((⟨Rect.unit ![0, 0] ![1, 1024] h, y⟩ : View.Piece (Elt Ideal) S1x1024 .f32) :: L) r.toLoadRect = View.ld y r :=
  View.readCov_fill v h y L r fun a => by match a with | ⟨0, _⟩ => rfl | ⟨1, _⟩ => rfl

/-- The first point starts the sums, -/
theorem point_A (c0 : cond0_0 i) :
    out0_A_7 c i a1 h1 a2 h2 a3 h3 a4 h4 a5 h5 a6 h6 a7 h7 a8 h8 a9 h9 a10 h10 a11 h11 a12 h12 a13 h13 a14 h14 c0 x d z y nw sc g = k0_pay8 (F := Ideal) x d z nw sc ∧
    out0_A_8 c i a1 h1 a2 h2 a3 h3 a4 h4 a5 h5 a6 h6 a7 h7 a8 h8 a9 h9 a10 h10 a11 h11 a12 h12 a13 h13 a14 h14 c0 x d z y nw sc g = k0_pay13 (F := Ideal) g (k0_pay8 (F := Ideal) x d z nw sc) ∧
    out0_A_9 c i a1 h1 a2 h2 a3 h3 a4 h4 a5 h5 a6 h6 a7 h7 a8 h8 a9 h9 a10 h10 a11 h11 a12 h12 a13 h13 a14 h14 c0 x d z y nw sc g = k0_pay19 (F := Ideal) (k0_pay9 (F := Ideal) d) (k0_pay14 (F := Ideal)) ∧
    out0_A_10 c i a1 h1 a2 h2 a3 h3 a4 h4 a5 h5 a6 h6 a7 h7 a8 h8 a9 h9 a10 h10 a11 h11 a12 h12 a13 h13 a14 h14 c0 x d z y nw sc g = k0_pay20 (F := Ideal) d nw (k0_pay6 (F := Ideal) x) (k0_pay15 (F := Ideal)) ∧
    out0_A_11 c i a1 h1 a2 h2 a3 h3 a4 h4 a5 h5 a6 h6 a7 h7 a8 h8 a9 h9 a10 h10 a11 h11 a12 h12 a13 h13 a14 h14 c0 x d z y nw sc g = k0_pay21 (F := Ideal) (k0_pay6 (F := Ideal) x) (k0_pay7 (F := Ideal) d sc) (k0_pay16 (F := Ideal)) ∧
    out0_A_12 c i a1 h1 a2 h2 a3 h3 a4 h4 a5 h5 a6 h6 a7 h7 a8 h8 a9 h9 a10 h10 a11 h11 a12 h12 a13 h13 a14 h14 c0 x d z y nw sc g = k0_pay1 (F := Ideal) (k0_pay11 (F := Ideal) (k0_pay4 (F := Ideal) y) (k0_pay8 (F := Ideal) x d z nw sc)) (k0_pay17 (F := Ideal)) ∧
    out0_A_13 c i a1 h1 a2 h2 a3 h3 a4 h4 a5 h5 a6 h6 a7 h7 a8 h8 a9 h9 a10 h10 a11 h11 a12 h12 a13 h13 a14 h14 c0 x d z y nw sc g = k0_pay2 (F := Ideal) (k0_pay12 (F := Ideal) g (k0_pay8 (F := Ideal) x d z nw sc)) (k0_pay18 (F := Ideal)) := by
  refine ⟨?_, ?_, ?_, ?_, ?_, ?_, ?_⟩ <;>
  · first | unfold out0_A_7 | unfold out0_A_8 | unfold out0_A_9 | unfold out0_A_10 | unfold out0_A_11 | unfold out0_A_12 | unfold out0_A_13
    rw [View.read_writes_junk_eq_canon]
    unfold kernelRun0_A; dsimp only; sl_unfold_words
    simp only [View.readAt_eq_ld, Memref.IsWhole.read_unread, ld_rows, ld_row, readCov_row]
    first | exact View.canon_cons_unit_zero (S := S1024x1024) Dense.zero2 _ _ _ | exact View.canon_cons_unit_zero (S := S1x1024) Dense.zero2 _ _ _

/-- and every other point adds to what the point before it left. -/
theorem point_B (c0 : ¬cond0_0 i) :
    out0_B_7 c i a1 h1 a2 h2 a3 h3 a4 h4 a5 h5 a6 h6 a7 h7 a8 h8 a9 h9 a10 h10 a11 h11 a12 h12 a13 h13 a14 h14 c0 x d z y nw sc g p q r s u = k0_pay8 (F := Ideal) x d z nw sc ∧
    out0_B_8 c i a1 h1 a2 h2 a3 h3 a4 h4 a5 h5 a6 h6 a7 h7 a8 h8 a9 h9 a10 h10 a11 h11 a12 h12 a13 h13 a14 h14 c0 x d z y nw sc g p q r s u = k0_pay13 (F := Ideal) g (k0_pay8 (F := Ideal) x d z nw sc) ∧
    out0_B_9 c i a1 h1 a2 h2 a3 h3 a4 h4 a5 h5 a6 h6 a7 h7 a8 h8 a9 h9 a10 h10 a11 h11 a12 h12 a13 h13 a14 h14 c0 x d z y nw sc g p q r s u = k0_pay19 (F := Ideal) (k0_pay9 (F := Ideal) d) p ∧
    out0_B_10 c i a1 h1 a2 h2 a3 h3 a4 h4 a5 h5 a6 h6 a7 h7 a8 h8 a9 h9 a10 h10 a11 h11 a12 h12 a13 h13 a14 h14 c0 x d z y nw sc g p q r s u = k0_pay20 (F := Ideal) d nw (k0_pay6 (F := Ideal) x) q ∧
    out0_B_11 c i a1 h1 a2 h2 a3 h3 a4 h4 a5 h5 a6 h6 a7 h7 a8 h8 a9 h9 a10 h10 a11 h11 a12 h12 a13 h13 a14 h14 c0 x d z y nw sc g p q r s u = k0_pay21 (F := Ideal) (k0_pay6 (F := Ideal) x) (k0_pay7 (F := Ideal) d sc) r ∧
    out0_B_12 c i a1 h1 a2 h2 a3 h3 a4 h4 a5 h5 a6 h6 a7 h7 a8 h8 a9 h9 a10 h10 a11 h11 a12 h12 a13 h13 a14 h14 c0 x d z y nw sc g p q r s u = k0_pay1 (F := Ideal) (k0_pay11 (F := Ideal) (k0_pay4 (F := Ideal) y) (k0_pay8 (F := Ideal) x d z nw sc)) s ∧
    out0_B_13 c i a1 h1 a2 h2 a3 h3 a4 h4 a5 h5 a6 h6 a7 h7 a8 h8 a9 h9 a10 h10 a11 h11 a12 h12 a13 h13 a14 h14 c0 x d z y nw sc g p q r s u = k0_pay2 (F := Ideal) (k0_pay12 (F := Ideal) g (k0_pay8 (F := Ideal) x d z nw sc)) u := by
  refine ⟨?_, ?_, ?_, ?_, ?_, ?_, ?_⟩ <;>
  · first | unfold out0_B_7 | unfold out0_B_8 | unfold out0_B_9 | unfold out0_B_10 | unfold out0_B_11 | unfold out0_B_12 | unfold out0_B_13
    rw [View.read_writes_junk_eq_canon]
    unfold kernelRun0_B; dsimp only; sl_unfold_words
    simp only [View.readAt_eq_ld, Memref.IsWhole.read_unread, ld_rows, ld_row, readCov_row]
    first | exact View.canon_cons_unit_zero (S := S1024x1024) Dense.zero2 _ _ _ | exact View.canon_cons_unit_zero (S := S1x1024) Dense.zero2 _ _ _

end

/-! ## The arrays -/

theorem at0 : ∀ t : Fin cfg0.N, win0_0.index t 0 = t.val ∧ win0_0.index t 1 = 0 :=
  (by decide +kernel : ∀ t : Fin grid0.N, win0_0.index t 0 = t.val ∧ win0_0.index t 1 = 0)
theorem at1 : ∀ t : Fin cfg0.N, win0_1.index t 0 = t.val ∧ win0_1.index t 1 = 0 :=
  (by decide +kernel : ∀ t : Fin grid0.N, win0_1.index t 0 = t.val ∧ win0_1.index t 1 = 0)
theorem at2 : ∀ t : Fin cfg0.N, win0_2.index t 0 = t.val ∧ win0_2.index t 1 = 0 :=
  (by decide +kernel : ∀ t : Fin grid0.N, win0_2.index t 0 = t.val ∧ win0_2.index t 1 = 0)
theorem at3 : ∀ t : Fin cfg0.N, win0_3.index t 0 = t.val ∧ win0_3.index t 1 = 0 :=
  (by decide +kernel : ∀ t : Fin grid0.N, win0_3.index t 0 = t.val ∧ win0_3.index t 1 = 0)
theorem at4 : ∀ t : Fin cfg0.N, win0_4.index t 0 = 0 ∧ win0_4.index t 1 = 0 :=
  (by decide +kernel : ∀ t : Fin grid0.N, win0_4.index t 0 = 0 ∧ win0_4.index t 1 = 0)
theorem at5 : ∀ t : Fin cfg0.N, win0_5.index t 0 = 0 ∧ win0_5.index t 1 = 0 :=
  (by decide +kernel : ∀ t : Fin grid0.N, win0_5.index t 0 = 0 ∧ win0_5.index t 1 = 0)
theorem at6 : ∀ t : Fin cfg0.N, win0_6.index t 0 = 0 ∧ win0_6.index t 1 = 0 :=
  (by decide +kernel : ∀ t : Fin grid0.N, win0_6.index t 0 = 0 ∧ win0_6.index t 1 = 0)
theorem at7 : ∀ t : Fin cfg0.N, win0_7.index t 0 = t.val ∧ win0_7.index t 1 = 0 :=
  (by decide +kernel : ∀ t : Fin grid0.N, win0_7.index t 0 = t.val ∧ win0_7.index t 1 = 0)
theorem at8 : ∀ t : Fin cfg0.N, win0_8.index t 0 = t.val ∧ win0_8.index t 1 = 0 :=
  (by decide +kernel : ∀ t : Fin grid0.N, win0_8.index t 0 = t.val ∧ win0_8.index t 1 = 0)
theorem full7 : ∀ t : Fin cfg0.N, win0_7.xsize (grid0.coords t) 0 = 1024 ∧ win0_7.xsize (grid0.coords t) 1 = 1024 :=
  (by decide +kernel : ∀ t : Fin grid0.N, win0_7.xsize (grid0.coords t) 0 = 1024 ∧ win0_7.xsize (grid0.coords t) 1 = 1024)
theorem full8 : ∀ t : Fin cfg0.N, win0_8.xsize (grid0.coords t) 0 = 1024 ∧ win0_8.xsize (grid0.coords t) 1 = 1024 :=
  (by decide +kernel : ∀ t : Fin grid0.N, win0_8.xsize (grid0.coords t) 0 = 1024 ∧ win0_8.xsize (grid0.coords t) 1 = 1024)

theorem lt8 (t : Fin cfg0.N) : t.val < 8 := Nat.lt_of_lt_of_eq t.isLt N_0
theorem fits (t : Fin cfg0.N) : t.val * 1024 + 1024 ≤ 8192 := by have h := lt8 t; omega

/-- The point whose block holds row `r`, and the last point. -/
def ptOf (r : Fin 8192) : Fin cfg0.N := ⟨r.val / 1024, by
  have h := r.isLt
  rw [show cfg0.N = 8 from N_0]; omega⟩
def tEnd : Fin cfg0.N := ⟨7, by rw [show cfg0.N = 8 from N_0]; decide⟩

theorem last (t : Fin cfg0.N) (h : t.val % 8 = 7) : t.val + 1 = 8 := by have h8 := lt8 t; omega

section
variable (m : (ℓ : Loc nD τ sig) → Buf (Elt Ideal) ℓ) (c : Dev nD)

/-- The arrays the call reads: the residual's rows and the branch with its bias, -/
abbrev ys : FVec Ideal S8192x1024 .f32 := addf (m ((c : Thread nD τ).loc main_arg1)) (broadcastInDim S8192x1024 ![0, 1] bcast_S1x1024_S8192x1024_0_1 (m ((c : Thread nD τ).loc main_arg3)))
abbrev xs : FVec Ideal S8192x1024 .f32 :=
  addf (m ((c : Thread nD τ).loc main_arg0)) (mulf (broadcastInDim S8192x1024 ![0, 1] bcast_S1x1024_S8192x1024_0_1 (m ((c : Thread nD τ).loc main_arg2))) (ys m c))
/-- and those it finds at launch. -/
abbrev dh : S8192x1024.Idx → EReal := m ((c : Thread nD τ).loc main_arg4)
abbrev dres : S8192x1024.Idx → EReal := m ((c : Thread nD τ).loc main_arg5)
abbrev nw : S1x1024.Idx → EReal := m ((c : Thread nD τ).loc main_arg6)
abbrev sc : S1x1024.Idx → EReal := m ((c : Thread nD τ).loc main_arg7)
abbrev gt : S1x1024.Idx → EReal := m ((c : Thread nD τ).loc main_arg2)

theorem entry_ys : (V m c main_v1 : FVec Ideal S8192x1024 .f32) = ys m c := by
  entry_read
  rfl

theorem entry_xs : (V m c main_v4 : FVec Ideal S8192x1024 .f32) = xs m c := by
  entry_read
  rfl

/-- The results' rows. -/
def dxRows : (Products.Mat 8192 1024).Idx → EReal := RootNorm.dx (xs m c) (dh m c) (dres m c) (nw m c) (sc m c)
def dyRows : (Products.Mat 8192 1024).Idx → EReal := scaled (dxRows m c) (gt m c)
def scaleRows : (Products.Mat 8192 1024).Idx → EReal := RootNorm.byScale (xs m c) (dh m c) (nw m c)
def weightRows : (Products.Mat 8192 1024).Idx → EReal := RootNorm.byWeight (xs m c) (dh m c) (sc m c)
def gateRows : (Products.Mat 8192 1024).Idx → EReal := times (dxRows m c) (ys m c)

theorem block_xs (t : Fin cfg0.N) : RootNorm.Rows t.val (iblk m c 0 t : Vec Ideal S1024x1024 .f32) (xs m c) := fun k j => by
  unfold iblk
  rw [View.read_apply]
  show V m c main_v4 _ = _
  rw [entry_xs]
  exact Products.blocks_at (xs m c) _ t.val k j (fits t) (congrArg (· * 1024 + 1 * k.val) (at0 t).1) (congrArg (· * 1024 + 1 * j.val) (at0 t).2)

theorem block_dh (t : Fin cfg0.N) : RootNorm.Rows t.val (iblk m c 1 t : Vec Ideal S1024x1024 .f32) (dh m c) := fun k j => by
  unfold iblk
  rw [View.read_apply]
  show V m c main_arg4 _ = _
  rw [V_main_arg4]
  exact Products.blocks_at (dh m c) _ t.val k j (fits t) (congrArg (· * 1024 + 1 * k.val) (at1 t).1) (congrArg (· * 1024 + 1 * j.val) (at1 t).2)

theorem block_dres (t : Fin cfg0.N) : RootNorm.Rows t.val (iblk m c 2 t : Vec Ideal S1024x1024 .f32) (dres m c) := fun k j => by
  unfold iblk
  rw [View.read_apply]
  show V m c main_arg5 _ = _
  rw [V_main_arg5]
  exact Products.blocks_at (dres m c) _ t.val k j (fits t) (congrArg (· * 1024 + 1 * k.val) (at2 t).1) (congrArg (· * 1024 + 1 * j.val) (at2 t).2)

theorem block_ys (t : Fin cfg0.N) : RootNorm.Rows t.val (iblk m c 3 t : Vec Ideal S1024x1024 .f32) (ys m c) := fun k j => by
  unfold iblk
  rw [View.read_apply]
  show V m c main_v1 _ = _
  rw [entry_ys]
  exact Products.blocks_at (ys m c) _ t.val k j (fits t) (congrArg (· * 1024 + 1 * k.val) (at3 t).1) (congrArg (· * 1024 + 1 * j.val) (at3 t).2)

theorem whole_nw (t : Fin cfg0.N) : (iblk m c 4 t : Vec Ideal S1x1024 .f32) = nw m c := funext fun i => by
  unfold iblk
  rw [View.read_apply]
  show V m c main_arg6 _ = _
  rw [V_main_arg6]
  exact (Products.whole_at (nw m c) _ (i 0) (i 1) (congrArg (· * 1 + 1 * (i 0).val) (at4 t).1) (congrArg (· * 1024 + 1 * (i 1).val) (at4 t).2)).trans
    (congrArg (nw m c) (Products.at_eq i (i 0) (i 1) rfl rfl).symm)

theorem whole_sc (t : Fin cfg0.N) : (iblk m c 5 t : Vec Ideal S1x1024 .f32) = sc m c := funext fun i => by
  unfold iblk
  rw [View.read_apply]
  show V m c main_arg7 _ = _
  rw [V_main_arg7]
  exact (Products.whole_at (sc m c) _ (i 0) (i 1) (congrArg (· * 1 + 1 * (i 0).val) (at5 t).1) (congrArg (· * 1024 + 1 * (i 1).val) (at5 t).2)).trans
    (congrArg (sc m c) (Products.at_eq i (i 0) (i 1) rfl rfl).symm)

theorem whole_gt (t : Fin cfg0.N) : (iblk m c 6 t : Vec Ideal S1x1024 .f32) = gt m c := funext fun i => by
  unfold iblk
  rw [View.read_apply]
  show V m c main_arg2 _ = _
  rw [V_main_arg2]
  exact (Products.whole_at (gt m c) _ (i 0) (i 1) (congrArg (· * 1 + 1 * (i 0).val) (at6 t).1) (congrArg (· * 1024 + 1 * (i 1).val) (at6 t).2)).trans
    (congrArg (gt m c) (Products.at_eq i (i 0) (i 1) rfl rfl).symm)

/-- What the first point leaves. -/
theorem first (t : Fin cfg0.N) (h0 : t.val % 8 = 0) :
    (outsAt0 m c t.val t.isLt).1 = k0_pay8 (F := Ideal) (iblk m c 0 t) (iblk m c 1 t) (iblk m c 2 t) (iblk m c 4 t) (iblk m c 5 t) ∧
    (outsAt0 m c t.val t.isLt).2.1 = k0_pay13 (F := Ideal) (iblk m c 6 t) (k0_pay8 (F := Ideal) (iblk m c 0 t) (iblk m c 1 t) (iblk m c 2 t) (iblk m c 4 t) (iblk m c 5 t)) ∧
    (outsAt0 m c t.val t.isLt).2.2.1 = k0_pay19 (F := Ideal) (k0_pay9 (F := Ideal) (iblk m c 1 t)) (k0_pay14 (F := Ideal)) ∧
    (outsAt0 m c t.val t.isLt).2.2.2.1 = k0_pay20 (F := Ideal) (iblk m c 1 t) (iblk m c 4 t) (k0_pay6 (F := Ideal) (iblk m c 0 t)) (k0_pay15 (F := Ideal)) ∧
    (outsAt0 m c t.val t.isLt).2.2.2.2.1 = k0_pay21 (F := Ideal) (k0_pay6 (F := Ideal) (iblk m c 0 t)) (k0_pay7 (F := Ideal) (iblk m c 1 t) (iblk m c 5 t)) (k0_pay16 (F := Ideal)) ∧
    (outsAt0 m c t.val t.isLt).2.2.2.2.2.1 = k0_pay1 (F := Ideal) (k0_pay11 (F := Ideal) (k0_pay4 (F := Ideal) (iblk m c 3 t)) (k0_pay8 (F := Ideal) (iblk m c 0 t) (iblk m c 1 t) (iblk m c 2 t) (iblk m c 4 t) (iblk m c 5 t))) (k0_pay17 (F := Ideal)) ∧
    (outsAt0 m c t.val t.isLt).2.2.2.2.2.2 = k0_pay2 (F := Ideal) (k0_pay12 (F := Ideal) (iblk m c 6 t) (k0_pay8 (F := Ideal) (iblk m c 0 t) (iblk m c 1 t) (iblk m c 2 t) (iblk m c 4 t) (iblk m c 5 t))) (k0_pay18 (F := Ideal)) := by
  have h := point_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) ((hcond0_0 t).mpr h0)
  rw [outsAt0_A m c t h0]
  dsimp only
  exact h

/-- What every other point leaves. -/
theorem next (t : Fin cfg0.N) (h0 : ¬t.val % 8 = 0) :
    (outsAt0 m c t.val t.isLt).1 = k0_pay8 (F := Ideal) (iblk m c 0 t) (iblk m c 1 t) (iblk m c 2 t) (iblk m c 4 t) (iblk m c 5 t) ∧
    (outsAt0 m c t.val t.isLt).2.1 = k0_pay13 (F := Ideal) (iblk m c 6 t) (k0_pay8 (F := Ideal) (iblk m c 0 t) (iblk m c 1 t) (iblk m c 2 t) (iblk m c 4 t) (iblk m c 5 t)) ∧
    (outsAt0 m c t.val t.isLt).2.2.1 = k0_pay19 (F := Ideal) (k0_pay9 (F := Ideal) (iblk m c 1 t)) (outsAt0 m c (t.val - 1) (Nat.lt_of_le_of_lt (Nat.sub_le _ _) t.isLt)).2.2.1 ∧
    (outsAt0 m c t.val t.isLt).2.2.2.1 = k0_pay20 (F := Ideal) (iblk m c 1 t) (iblk m c 4 t) (k0_pay6 (F := Ideal) (iblk m c 0 t)) (outsAt0 m c (t.val - 1) (Nat.lt_of_le_of_lt (Nat.sub_le _ _) t.isLt)).2.2.2.1 ∧
    (outsAt0 m c t.val t.isLt).2.2.2.2.1 = k0_pay21 (F := Ideal) (k0_pay6 (F := Ideal) (iblk m c 0 t)) (k0_pay7 (F := Ideal) (iblk m c 1 t) (iblk m c 5 t)) (outsAt0 m c (t.val - 1) (Nat.lt_of_le_of_lt (Nat.sub_le _ _) t.isLt)).2.2.2.2.1 ∧
    (outsAt0 m c t.val t.isLt).2.2.2.2.2.1 = k0_pay1 (F := Ideal) (k0_pay11 (F := Ideal) (k0_pay4 (F := Ideal) (iblk m c 3 t)) (k0_pay8 (F := Ideal) (iblk m c 0 t) (iblk m c 1 t) (iblk m c 2 t) (iblk m c 4 t) (iblk m c 5 t))) (outsAt0 m c (t.val - 1) (Nat.lt_of_le_of_lt (Nat.sub_le _ _) t.isLt)).2.2.2.2.2.1 ∧
    (outsAt0 m c t.val t.isLt).2.2.2.2.2.2 = k0_pay2 (F := Ideal) (k0_pay12 (F := Ideal) (iblk m c 6 t) (k0_pay8 (F := Ideal) (iblk m c 0 t) (iblk m c 1 t) (iblk m c 2 t) (iblk m c 4 t) (iblk m c 5 t))) (outsAt0 m c (t.val - 1) (Nat.lt_of_le_of_lt (Nat.sub_le _ _) t.isLt)).2.2.2.2.2.2 := by
  have h := point_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (fun h => h0 ((hcond0_0 t).mp h))
  rw [outsAt0_B m c t h0]
  dsimp only
  exact h

theorem dx_rows (t : Fin cfg0.N) : RootNorm.Rows t.val (RootNorm.dx (iblk m c 0 t : Vec Ideal S1024x1024 .f32) (iblk m c 1 t) (iblk m c 2 t) (nw m c) (sc m c)) (dxRows m c) :=
  RootNorm.dx_block (block_xs m c t) (block_dh m c t) (block_dres m c t) (nw m c) (sc m c)

/-- Every point leaves its block of the rows' gradient and of the branch's. -/
theorem rows (t : Fin cfg0.N) : RootNorm.Rows t.val ((outsAt0 m c t.val t.isLt).1 : Vec Ideal S1024x1024 .f32) (dxRows m c) ∧
    RootNorm.Rows t.val ((outsAt0 m c t.val t.isLt).2.1 : Vec Ideal S1024x1024 .bf16) (dyRows m c) := by
  have e : (outsAt0 m c t.val t.isLt).1 = k0_pay8 (F := Ideal) (iblk m c 0 t) (iblk m c 1 t) (iblk m c 2 t) (iblk m c 4 t) (iblk m c 5 t) ∧
      (outsAt0 m c t.val t.isLt).2.1 = k0_pay13 (F := Ideal) (iblk m c 6 t) (k0_pay8 (F := Ideal) (iblk m c 0 t) (iblk m c 1 t) (iblk m c 2 t) (iblk m c 4 t) (iblk m c 5 t)) := by
    by_cases h0 : t.val % 8 = 0
    · exact ⟨(first m c t h0).1, (first m c t h0).2.1⟩
    · exact ⟨(next m c t h0).1, (next m c t h0).2.1⟩
  rw [e.1, e.2, dy_val, dx_val, whole_nw, whole_sc, whole_gt]
  exact ⟨dx_rows m c t, scaled_rows (dx_rows m c t) (gt m c)⟩

section
variable (t : Fin cfg0.N) (acc : Vec Ideal S1x1024 .f32)

theorem step9 (h : acc = RootNorm.colUpTo 1024 (dh m c) t.val) :
    k0_pay19 (F := Ideal) (k0_pay9 (F := Ideal) (iblk m c 1 t)) acc = RootNorm.colUpTo 1024 (dh m c) (t.val + 1) :=
  (shift_val _ acc).trans (RootNorm.colUpTo_step t.val (dh m c) acc _ h (block_dh m c t))

theorem step10 (h : acc = RootNorm.colUpTo 1024 (scaleRows m c) t.val) :
    k0_pay20 (F := Ideal) (iblk m c 1 t) (iblk m c 4 t) (k0_pay6 (F := Ideal) (iblk m c 0 t)) acc = RootNorm.colUpTo 1024 (scaleRows m c) (t.val + 1) :=
  (scale_val _ _ _ acc).trans (RootNorm.colUpTo_step t.val (scaleRows m c) acc _ h (by rw [whole_nw]; exact RootNorm.byScale_block (block_xs m c t) (block_dh m c t) (nw m c)))

theorem step11 (h : acc = RootNorm.colUpTo 1024 (weightRows m c) t.val) :
    k0_pay21 (F := Ideal) (k0_pay6 (F := Ideal) (iblk m c 0 t)) (k0_pay7 (F := Ideal) (iblk m c 1 t) (iblk m c 5 t)) acc = RootNorm.colUpTo 1024 (weightRows m c) (t.val + 1) :=
  (weight_val _ _ _ acc).trans (RootNorm.colUpTo_step t.val (weightRows m c) acc _ h (by rw [whole_sc]; exact RootNorm.byWeight_block (block_xs m c t) (block_dh m c t) (sc m c)))

theorem step12 (h : acc = RootNorm.colUpTo 1024 (gateRows m c) t.val) :
    k0_pay1 (F := Ideal) (k0_pay11 (F := Ideal) (k0_pay4 (F := Ideal) (iblk m c 3 t))
      (k0_pay8 (F := Ideal) (iblk m c 0 t) (iblk m c 1 t) (iblk m c 2 t) (iblk m c 4 t) (iblk m c 5 t))) acc = RootNorm.colUpTo 1024 (gateRows m c) (t.val + 1) :=
  (gate_val _ _ acc).trans (RootNorm.colUpTo_step t.val (gateRows m c) acc _ h (by
    rw [dx_val, whole_nw, whole_sc]; exact times_rows (dx_rows m c t) (block_ys m c t)))

theorem step13 (h : acc = RootNorm.colUpTo 1024 (dyRows m c) t.val) :
    k0_pay2 (F := Ideal) (k0_pay12 (F := Ideal) (iblk m c 6 t)
      (k0_pay8 (F := Ideal) (iblk m c 0 t) (iblk m c 1 t) (iblk m c 2 t) (iblk m c 4 t) (iblk m c 5 t))) acc = RootNorm.colUpTo 1024 (dyRows m c) (t.val + 1) :=
  (bias_val _ _ acc).trans (RootNorm.colUpTo_step t.val (dyRows m c) acc _ h (by
    rw [dx_val, whole_nw, whole_sc, whole_gt]; exact scaled_rows (dx_rows m c t) (gt m c)))

end

/-- The sums after point `n`. -/
theorem sums : ∀ (n : ℕ) (hn : n < cfg0.N), (outsAt0 m c n hn).2.2.1 = RootNorm.colUpTo 1024 (dh m c) (n + 1) ∧
    (outsAt0 m c n hn).2.2.2.1 = RootNorm.colUpTo 1024 (scaleRows m c) (n + 1) ∧ (outsAt0 m c n hn).2.2.2.2.1 = RootNorm.colUpTo 1024 (weightRows m c) (n + 1) ∧
    (outsAt0 m c n hn).2.2.2.2.2.1 = RootNorm.colUpTo 1024 (gateRows m c) (n + 1) ∧ (outsAt0 m c n hn).2.2.2.2.2.2 = RootNorm.colUpTo 1024 (dyRows m c) (n + 1)
  | 0, hn => by
    obtain ⟨-, -, h9, h10, h11, h12, h13⟩ := first m c ⟨0, hn⟩ rfl
    have z (F : (Products.Mat 8192 1024).Idx → EReal) : k0_pay14 (F := Ideal) = RootNorm.colUpTo 1024 F 0 := zero_val.trans (RootNorm.colUpTo_none 1024 F)
    exact ⟨h9.trans (step9 m c ⟨0, hn⟩ _ (z _)), h10.trans (step10 m c ⟨0, hn⟩ _ (z _)), h11.trans (step11 m c ⟨0, hn⟩ _ (z _)),
      h12.trans (step12 m c ⟨0, hn⟩ _ (z _)), h13.trans (step13 m c ⟨0, hn⟩ _ (z _))⟩
  | n + 1, hn => by
    have h8 : n + 1 < 8 := Nat.lt_of_lt_of_eq hn N_0
    obtain ⟨-, -, h9, h10, h11, h12, h13⟩ := next m c ⟨n + 1, hn⟩ (by show ¬ (n + 1) % 8 = 0; omega)
    obtain ⟨i9, i10, i11, i12, i13⟩ := sums n (Nat.lt_of_succ_lt hn)
    exact ⟨h9.trans (step9 m c ⟨n + 1, hn⟩ _ i9), h10.trans (step10 m c ⟨n + 1, hn⟩ _ i10), h11.trans (step11 m c ⟨n + 1, hn⟩ _ i11),
      h12.trans (step12 m c ⟨n + 1, hn⟩ _ i12), h13.trans (step13 m c ⟨n + 1, hn⟩ _ i13)⟩

/-- The rows' gradient after the run. -/
theorem final7 : (dats m 0 c).arrAt 7 cfg0.N = dxRows m c := by
  refine (dats m 0 c).arrAt_eq_of_cover 7 (dxRows m c) (fun t _ => ?_) fun i => ⟨ptOf (i 0), flush0_7 _, ?_⟩
  · rw [Value.flushed7]
    funext j
    rw [View.read_apply]
    exact RootNorm.Rows.at (rows m c t).1 j _ (fits t) (congrArg (· * 1024 + 1 * (j 0).val) (at7 t).1) (congrArg (· * 1024 + 1 * (j 1).val) (at7 t).2)
  · show i ∈ ((View.whole main_v5_0).slice (win0_7.rect (ptOf (i 0)))).set
    rw [View.set_slice_whole, Rect.mem_set_unit]
    exact in_block i _ _ (congrArg (· * 1024) (at7 _).1) (full7 _).1 (congrArg (· * 1024) (at7 _).2) (full7 _).2

/-- The branch' gradient after the run. -/
theorem final8 : (dats m 0 c).arrAt 8 cfg0.N = dyRows m c := by
  refine (dats m 0 c).arrAt_eq_of_cover 8 (dyRows m c) (fun t _ => ?_) fun i => ⟨ptOf (i 0), flush0_8 _, ?_⟩
  · rw [Value.flushed8]
    funext j
    rw [View.read_apply]
    exact RootNorm.Rows.at (rows m c t).2 j _ (fits t) (congrArg (· * 1024 + 1 * (j 0).val) (at8 t).1) (congrArg (· * 1024 + 1 * (j 1).val) (at8 t).2)
  · show i ∈ ((View.whole main_v5_1).slice (win0_8.rect (ptOf (i 0)))).set
    rw [View.set_slice_whole, Rect.mem_set_unit]
    exact in_block i _ _ (congrArg (· * 1024) (at8 _).1) (full8 _).1 (congrArg (· * 1024) (at8 _).2) (full8 _).2

theorem zeros9 (t : Fin cfg0.N) : (fun a => win0_9.index t a * main_v5_2.ty.shape.size a) = fun _ => 0 := funext fun a => by
  match a with
  | ⟨0, _⟩ => rfl
  | ⟨1, _⟩ => rfl

/-- The shift's gradient after the run. -/
theorem final9 : (dats m 0 c).arrAt 9 cfg0.N = RootNorm.col (dh m c) := by
  refine (dats m 0 c).arrAt_eq_of_cover 9 (RootNorm.col (dh m c)) (fun t hf => ?_) fun i => ⟨tEnd, (flush0_9 _).mpr rfl, ?_⟩
  · rw [Value.flushed9, (sums m c t.val t.isLt).1, last t ((flush0_9 t).mp hf), RootNorm.colUpTo_all 1024 8 (by decide)]
    exact (Memref.read_access_unit_zero (Elt Ideal) main_v5_2 (zeros9 t) (fun a => by rw [congrFun (zeros9 t) a]; simp) (RootNorm.col (dh m c))).symm
  · show i ∈ ((View.whole main_v5_2).slice (win0_9.rect tEnd)).set
    rw [View.set_slice_whole, Rect.mem_set_unit]
    exact in_row i _ _ rfl rfl rfl rfl

theorem zeros10 (t : Fin cfg0.N) : (fun a => win0_10.index t a * main_v5_3.ty.shape.size a) = fun _ => 0 := funext fun a => by
  match a with
  | ⟨0, _⟩ => rfl
  | ⟨1, _⟩ => rfl

/-- The scale's gradient after the run. -/
theorem final10 : (dats m 0 c).arrAt 10 cfg0.N = RootNorm.col (scaleRows m c) := by
  refine (dats m 0 c).arrAt_eq_of_cover 10 (RootNorm.col (scaleRows m c)) (fun t hf => ?_) fun i => ⟨tEnd, (flush0_10 _).mpr rfl, ?_⟩
  · rw [Value.flushed10, (sums m c t.val t.isLt).2.1, last t ((flush0_10 t).mp hf), RootNorm.colUpTo_all 1024 8 (by decide)]
    exact (Memref.read_access_unit_zero (Elt Ideal) main_v5_3 (zeros10 t) (fun a => by rw [congrFun (zeros10 t) a]; simp) (RootNorm.col (scaleRows m c))).symm
  · show i ∈ ((View.whole main_v5_3).slice (win0_10.rect tEnd)).set
    rw [View.set_slice_whole, Rect.mem_set_unit]
    exact in_row i _ _ rfl rfl rfl rfl

theorem zeros11 (t : Fin cfg0.N) : (fun a => win0_11.index t a * main_v5_4.ty.shape.size a) = fun _ => 0 := funext fun a => by
  match a with
  | ⟨0, _⟩ => rfl
  | ⟨1, _⟩ => rfl

/-- The weight's gradient after the run. -/
theorem final11 : (dats m 0 c).arrAt 11 cfg0.N = RootNorm.col (weightRows m c) := by
  refine (dats m 0 c).arrAt_eq_of_cover 11 (RootNorm.col (weightRows m c)) (fun t hf => ?_) fun i => ⟨tEnd, (flush0_11 _).mpr rfl, ?_⟩
  · rw [Value.flushed11, (sums m c t.val t.isLt).2.2.1, last t ((flush0_11 t).mp hf), RootNorm.colUpTo_all 1024 8 (by decide)]
    exact (Memref.read_access_unit_zero (Elt Ideal) main_v5_4 (zeros11 t) (fun a => by rw [congrFun (zeros11 t) a]; simp) (RootNorm.col (weightRows m c))).symm
  · show i ∈ ((View.whole main_v5_4).slice (win0_11.rect tEnd)).set
    rw [View.set_slice_whole, Rect.mem_set_unit]
    exact in_row i _ _ rfl rfl rfl rfl

theorem zeros12 (t : Fin cfg0.N) : (fun a => win0_12.index t a * main_v5_5.ty.shape.size a) = fun _ => 0 := funext fun a => by
  match a with
  | ⟨0, _⟩ => rfl
  | ⟨1, _⟩ => rfl

/-- The gate's gradient after the run. -/
theorem final12 : (dats m 0 c).arrAt 12 cfg0.N = RootNorm.col (gateRows m c) := by
  refine (dats m 0 c).arrAt_eq_of_cover 12 (RootNorm.col (gateRows m c)) (fun t hf => ?_) fun i => ⟨tEnd, (flush0_12 _).mpr rfl, ?_⟩
  · rw [Value.flushed12, (sums m c t.val t.isLt).2.2.2.1, last t ((flush0_12 t).mp hf), RootNorm.colUpTo_all 1024 8 (by decide)]
    exact (Memref.read_access_unit_zero (Elt Ideal) main_v5_5 (zeros12 t) (fun a => by rw [congrFun (zeros12 t) a]; simp) (RootNorm.col (gateRows m c))).symm
  · show i ∈ ((View.whole main_v5_5).slice (win0_12.rect tEnd)).set
    rw [View.set_slice_whole, Rect.mem_set_unit]
    exact in_row i _ _ rfl rfl rfl rfl

theorem zeros13 (t : Fin cfg0.N) : (fun a => win0_13.index t a * main_v5_6.ty.shape.size a) = fun _ => 0 := funext fun a => by
  match a with
  | ⟨0, _⟩ => rfl
  | ⟨1, _⟩ => rfl

/-- The bias's gradient after the run. -/
theorem final13 : (dats m 0 c).arrAt 13 cfg0.N = RootNorm.col (dyRows m c) := by
  refine (dats m 0 c).arrAt_eq_of_cover 13 (RootNorm.col (dyRows m c)) (fun t hf => ?_) fun i => ⟨tEnd, (flush0_13 _).mpr rfl, ?_⟩
  · rw [Value.flushed13, (sums m c t.val t.isLt).2.2.2.2, last t ((flush0_13 t).mp hf), RootNorm.colUpTo_all 1024 8 (by decide)]
    exact (Memref.read_access_unit_zero (Elt Ideal) main_v5_6 (zeros13 t) (fun a => by rw [congrFun (zeros13 t) a]; simp) (RootNorm.col (dyRows m c))).symm
  · show i ∈ ((View.whole main_v5_6).slice (win0_13.rect tEnd)).set
    rw [View.set_slice_whole, Rect.mem_set_unit]
    exact in_row i _ _ rfl rfl rfl rfl

end

end

/-! ## The claims -/

section
open Cert.NormGateReferenceIdeal Cert.NormGateReferenceIdeal.Facts₀

variable (W Y : FVec Ideal S8192x1024 .f32) (g : FVec Ideal S1x1024 .f32)

/-- The reference's gradient of the gated branch, -/
theorem ref_dy : mulf (broadcastInDim S8192x1024 ![0, 1] bcast_S1x1024_S8192x1024_0_1 g) (shapeCast S8192x1024 W shapeCasts_S8192x1024_S8192x1024) = scaled W g := by
  rw [shapeCast_self W]
  funext i
  refine (congrArg (fun a : EReal => a * W i) (Forward.host_row (M := 8192) (N := 1024) g _ (by decide) i)).trans ?_
  exact mul_comm (G := EReal) _ _

/-- of the gate -/
theorem ref_gate : shapeCast S1x1024 (Host.reduceAdd (mulf (shapeCast S8192x1024 W shapeCasts_S8192x1024_S8192x1024) Y) (constant S_ .f32 0x00000000#32)
    reducesTo_S8192x1024_S1024_d0 h_S_) shapeCasts_S1024_S1x1024 = RootNorm.col (times W Y) := by
  rw [shapeCast_self W]
  exact RootNorm.col_host (mulf W Y) _ h_S_ _

/-- and of the bias. -/
theorem ref_bias : shapeCast S1x1024 (Host.reduceAdd (mulf (broadcastInDim S8192x1024 ![0, 1] bcast_S1x1024_S8192x1024_0_1 g)
    (shapeCast S8192x1024 W shapeCasts_S8192x1024_S8192x1024)) (constant S_ .f32 0x00000000#32) reducesTo_S8192x1024_S1024_d0 h_S_) shapeCasts_S1024_S1x1024 =
      RootNorm.col (scaled W g) := by
  rw [ref_dy]
  exact RootNorm.col_host (scaled W g) _ h_S_ _

end

section
open Cert.NormGateReferenceIdeal Cert.NormGateReferenceIdeal.Facts₀ Cert.NormGateReferenceIdeal.Value

variable (m' : (ℓ : Loc Cert.NormGateReferenceIdeal.nD Cert.NormGateReferenceIdeal.τ Cert.NormGateReferenceIdeal.sig) → Buf (Elt Ideal) ℓ)
  (c : Dev Cert.NormGateReferenceIdeal.nD)

/-- The reference's branch with its bias, its rows, and its rows' gradient. -/
abbrev refYs : FVec Ideal S8192x1024 .f32 := addf (m' ((c.tc : Thread nD τ).loc main_arg1)) (broadcastInDim S8192x1024 ![0, 1] bcast_S1x1024_S8192x1024_0_1 (m' ((c.tc : Thread nD τ).loc main_arg3)))
abbrev refXs : FVec Ideal S8192x1024 .f32 :=
  addf (m' ((c.tc : Thread nD τ).loc main_arg0)) (mulf (broadcastInDim S8192x1024 ![0, 1] bcast_S1x1024_S8192x1024_0_1 (m' ((c.tc : Thread nD τ).loc main_arg2))) (refYs m' c))

theorem out_dx : res_main_v53 m' c = RootNorm.dx (refXs m' c) (m' ((c.tc : Thread nD τ).loc main_arg4)) (m' ((c.tc : Thread nD τ).loc main_arg5))
    (m' ((c.tc : Thread nD τ).loc main_arg6)) (m' ((c.tc : Thread nD τ).loc main_arg7)) :=
  NormGrad.ref_dx (refXs m' c) (m' ((c.tc : Thread nD τ).loc main_arg4)) (m' ((c.tc : Thread nD τ).loc main_arg5)) (m' ((c.tc : Thread nD τ).loc main_arg6))
    (m' ((c.tc : Thread nD τ).loc main_arg7))

theorem out_dy : res_main_v62 m' c = scaled (res_main_v53 m' c) (m' ((c.tc : Thread nD τ).loc main_arg2)) :=
  ref_dy (res_main_v53 m' c) (m' ((c.tc : Thread nD τ).loc main_arg2))

theorem out_gate : res_main_v59 m' c = RootNorm.col (times (res_main_v53 m' c) (refYs m' c)) := ref_gate (res_main_v53 m' c) (refYs m' c)

theorem out_bias : res_main_v61 m' c = RootNorm.col (scaled (res_main_v53 m' c) (m' ((c.tc : Thread nD τ).loc main_arg2))) :=
  ref_bias (res_main_v53 m' c) (m' ((c.tc : Thread nD τ).loc main_arg2))

end

theorem frame_p : Cert.quiescent_NormGate := fun m ρ _ => Cert.NormGate.Gen.frame m ρ
theorem frame_pi : Cert.quiescent_NormGateIdeal := fun m ρ _ => Cert.NormGateIdeal.Gen.frame m ρ
theorem frame_ri : Cert.quiescent_NormGateReferenceIdeal := fun m ρ _ =>
  (θ_run Cert.NormGateReferenceIdeal.defs _ _).mono (fun r h => ⟨fun c => (h c).2.2.2.2.2.2.2, sem_eq_zero_of_no_sems (by decide) r.2⟩)
    (Cert.NormGateReferenceIdeal.Value.run (F := Ideal) m ρ)
theorem preserves : Cert.preserves_NormGate_NormGateIdeal := trivial

/-- The call's seven results are the reference's gradients. -/
theorem algebraic : Cert.algebraic_NormGateIdeal_NormGateReferenceIdeal := by
  intro m g m' g' _ hagree
  refine ⟨fun c => dxRows m c, fun c => dyRows m c, fun c => RootNorm.col (dh m c), fun c => RootNorm.col (scaleRows m c), fun c => RootNorm.col (weightRows m c),
    fun c => RootNorm.col (gateRows m c), fun c => RootNorm.col (dyRows m c), ?_, ?_⟩
  · exact (θ_run Cert.NormGateIdeal.defs _ _).mono (fun r h c => ⟨(h c).1.trans (final7 m c), (h c).2.1.trans (final8 m c), (h c).2.2.1.trans (final9 m c),
      (h c).2.2.2.1.trans (final10 m c), (h c).2.2.2.2.1.trans (final11 m c), (h c).2.2.2.2.2.1.trans (final12 m c), (h c).2.2.2.2.2.2.1.trans (final13 m c),
      (h c).2.2.2.2.2.2.2⟩) (Cert.NormGateIdeal.Value.run_blocks (F := Ideal) m g)
  · have hx (c) : Cert.NormGateReferenceIdeal.Value.res_main_v53 m' c = dxRows m c := by
      rw [out_dx]
      unfold refXs refYs
      rw [(hagree c).1, (hagree c).2.1, (hagree c).2.2.1, (hagree c).2.2.2.1, (hagree c).2.2.2.2.1, (hagree c).2.2.2.2.2.1, (hagree c).2.2.2.2.2.2.1,
        (hagree c).2.2.2.2.2.2.2.1]
      rfl
    refine (θ_run Cert.NormGateReferenceIdeal.defs _ _).mono (fun r h c => ⟨(h c).1.trans (hx c), (h c).2.1.trans ?_, (h c).2.2.1.trans ?_, (h c).2.2.2.1.trans ?_,
      (h c).2.2.2.2.1.trans ?_, (h c).2.2.2.2.2.1.trans ?_, (h c).2.2.2.2.2.2.1.trans ?_, (h c).2.2.2.2.2.2.2⟩)
      (Cert.NormGateReferenceIdeal.Value.run (F := Ideal) m' g')
    · rw [out_dy, hx, (hagree c).2.2.1]
      rfl
    · rw [(hagree c).2.2.2.2.1]
      exact NormGrad.ref_shift (dh m c)
    · rw [(hagree c).1, (hagree c).2.1, (hagree c).2.2.1, (hagree c).2.2.2.1, (hagree c).2.2.2.2.1, (hagree c).2.2.2.2.2.2.1]
      exact NormGrad.ref_scale (xs m c) (dh m c) (nw m c)
    · rw [(hagree c).1, (hagree c).2.1, (hagree c).2.2.1, (hagree c).2.2.2.1, (hagree c).2.2.2.2.1, (hagree c).2.2.2.2.2.2.2.1]
      exact NormGrad.ref_weight (xs m c) (dh m c) (sc m c)
    · rw [out_gate, hx]
      unfold refYs
      rw [(hagree c).2.1, (hagree c).2.2.2.1]
      rfl
    · rw [out_bias, hx, (hagree c).2.2.1]
      rfl

end NormGate

end
-- ==== Proof.lean ====
/- The proof of the certificate's claim, assembled from the claims of the programs behind the witnesses of their stated facts. -/
module

public import proofs.«01_k».proof.Defs
public import proofs.«01_k».proof.Proof.Claims
public import proofs.«01_k».proof.Proof.WeightGrad
public import proofs.«01_k».proof.Proof.InputGrad
public import proofs.«01_k».proof.Proof.ActGrad
public import proofs.«01_k».proof.Proof.Up
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init
public import proofs.«01_k».proof.Proof.OutGrad1
public import proofs.«01_k».proof.Proof.OutWeight1
public import proofs.«01_k».proof.Proof.QkvGrad
public import proofs.«01_k».proof.Proof.QkvWeight
public import proofs.«01_k».proof.Proof.OutGrad0
public import proofs.«01_k».proof.Proof.OutWeight0
public import proofs.«01_k».proof.Proof.InGrad
public import proofs.«01_k».proof.Proof.InWeight
public import proofs.«01_k».proof.Proof.InProj
public import proofs.«01_k».proof.Proof.QkvProj
public import proofs.«01_k».proof.Proof.Down1
public import proofs.«01_k».proof.Proof.Down0
public import proofs.«01_k».proof.Proof.OutProj
public import proofs.«01_k».proof.Proof.OProj
public import proofs.«01_k».proof.Proof.NormGrad
public import proofs.«01_k».proof.Proof.NormGate

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.WeightGrad.Gen.facts, Cert.WeightGradIdeal.Gen.facts, Cert.WeightGradReferenceIdeal.Gen.facts,
    Cert.InputGrad.Gen.facts, Cert.InputGradIdeal.Gen.facts, Cert.InputGradReferenceIdeal.Gen.facts,
    Cert.ActGrad.Gen.facts, Cert.ActGradIdeal.Gen.facts, Cert.ActGradReferenceIdeal.Gen.facts,
    Cert.Up.Gen.facts, Cert.UpIdeal.Gen.facts, Cert.UpReferenceIdeal.Gen.facts,
    Cert.OutGrad1.Gen.facts, Cert.OutGrad1Ideal.Gen.facts, Cert.OutGrad1ReferenceIdeal.Gen.facts,
    Cert.OutWeight1.Gen.facts, Cert.OutWeight1Ideal.Gen.facts, Cert.OutWeight1ReferenceIdeal.Gen.facts,
    Cert.QkvGrad.Gen.facts, Cert.QkvGradIdeal.Gen.facts, Cert.QkvGradReferenceIdeal.Gen.facts,
    Cert.QkvWeight.Gen.facts, Cert.QkvWeightIdeal.Gen.facts, Cert.QkvWeightReferenceIdeal.Gen.facts,
    Cert.OutGrad0.Gen.facts, Cert.OutGrad0Ideal.Gen.facts, Cert.OutGrad0ReferenceIdeal.Gen.facts,
    Cert.OutWeight0.Gen.facts, Cert.OutWeight0Ideal.Gen.facts, Cert.OutWeight0ReferenceIdeal.Gen.facts,
    Cert.InGrad.Gen.facts, Cert.InGradIdeal.Gen.facts, Cert.InGradReferenceIdeal.Gen.facts,
    Cert.InWeight.Gen.facts, Cert.InWeightIdeal.Gen.facts, Cert.InWeightReferenceIdeal.Gen.facts,
    Cert.InProj.Gen.facts, Cert.InProjIdeal.Gen.facts, Cert.InProjReferenceIdeal.Gen.facts,
    Cert.QkvProj.Gen.facts, Cert.QkvProjIdeal.Gen.facts, Cert.QkvProjReferenceIdeal.Gen.facts,
    Cert.Down1.Gen.facts, Cert.Down1Ideal.Gen.facts, Cert.Down1ReferenceIdeal.Gen.facts,
    Cert.Down0.Gen.facts, Cert.Down0Ideal.Gen.facts, Cert.Down0ReferenceIdeal.Gen.facts,
    Cert.OutProj.Gen.facts, Cert.OutProjIdeal.Gen.facts, Cert.OutProjReferenceIdeal.Gen.facts,
    Cert.OProj.Gen.facts, Cert.OProjIdeal.Gen.facts, Cert.OProjReferenceIdeal.Gen.facts,
    Cert.NormGrad.Gen.facts, Cert.NormGradIdeal.Gen.facts, Cert.NormGradReferenceIdeal.Gen.facts,
    Cert.NormGate.Gen.facts, Cert.NormGateIdeal.Gen.facts, Cert.NormGateReferenceIdeal.Gen.facts,
    Gating.Claims.preFacts, ActGrad.preFacts,
    Gating.Claims.frame_p, Gating.Claims.frame_pi, Gating.Claims.frame_pi_pre, Gating.Claims.frame_ri, Gating.Claims.frame_ri_pre,
    WeightGrad.frame_p, WeightGrad.frame_pi, WeightGrad.frame_ri,
    InputGrad.frame_p, InputGrad.frame_pi, InputGrad.frame_ri,
    ActGrad.frame_p, ActGrad.frame_pi, ActGrad.frame_pi_pre, ActGrad.frame_ri, ActGrad.frame_ri_pre,
    Up.frame_p, Up.frame_pi, Up.frame_ri,
    OutGrad1.frame_p, OutGrad1.frame_pi, OutGrad1.frame_ri,
    OutWeight1.frame_p, OutWeight1.frame_pi, OutWeight1.frame_ri,
    QkvGrad.frame_p, QkvGrad.frame_pi, QkvGrad.frame_ri,
    QkvWeight.frame_p, QkvWeight.frame_pi, QkvWeight.frame_ri,
    OutGrad0.frame_p, OutGrad0.frame_pi, OutGrad0.frame_ri,
    OutWeight0.frame_p, OutWeight0.frame_pi, OutWeight0.frame_ri,
    InGrad.frame_p, InGrad.frame_pi, InGrad.frame_ri,
    InWeight.frame_p, InWeight.frame_pi, InWeight.frame_ri,
    InProj.frame_p, InProj.frame_pi, InProj.frame_ri,
    QkvProj.frame_p, QkvProj.frame_pi, QkvProj.frame_ri,
    Down1.frame_p, Down1.frame_pi, Down1.frame_ri,
    Down0.frame_p, Down0.frame_pi, Down0.frame_ri,
    OutProj.frame_p, OutProj.frame_pi, OutProj.frame_ri,
    OProj.frame_p, OProj.frame_pi, OProj.frame_ri,
    NormGrad.frame_p, NormGrad.frame_pi, NormGrad.frame_ri,
    NormGate.frame_p, NormGate.frame_pi, NormGate.frame_ri,
    Gating.Claims.preserves, Gating.Claims.algebraic,
    WeightGrad.preserves, WeightGrad.algebraic,
    InputGrad.preserves, InputGrad.algebraic,
    ActGrad.preserves, ActGrad.algebraic,
    Up.preserves, Up.algebraic,
    OutGrad1.preserves, OutGrad1.algebraic,
    OutWeight1.preserves, OutWeight1.algebraic,
    QkvGrad.preserves, QkvGrad.algebraic,
    QkvWeight.preserves, QkvWeight.algebraic,
    OutGrad0.preserves, OutGrad0.algebraic,
    OutWeight0.preserves, OutWeight0.algebraic,
    InGrad.preserves, InGrad.algebraic,
    InWeight.preserves, InWeight.algebraic,
    InProj.preserves, InProj.algebraic,
    QkvProj.preserves, QkvProj.algebraic,
    Down1.preserves, Down1.algebraic,
    Down0.preserves, Down0.algebraic,
    OutProj.preserves, OutProj.algebraic,
    OProj.preserves, OProj.algebraic,
    NormGrad.preserves, NormGrad.algebraic,
    NormGate.preserves, NormGate.algebraic⟩

end Cert.Proof

end
